-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S4x64x256 : Shape := ⟨3, ![4, 64, 256]⟩
abbrev S4x9x3x64x256 : Shape := ⟨5, ![4, 9, 3, 64, 256]⟩
abbrev S4x9x3 : Shape := ⟨3, ![4, 9, 3]⟩
abbrev S_ : Shape := ⟨0, ![]⟩
abbrev S64x256 : Shape := ⟨2, ![64, 256]⟩
abbrev S64x512 : Shape := ⟨2, ![64, 512]⟩
abbrev S1x64x256 : Shape := ⟨3, ![1, 64, 256]⟩
abbrev S1x1x1 : Shape := ⟨3, ![1, 1, 1]⟩
abbrev S1x1x1x64x256 : Shape := ⟨5, ![1, 1, 1, 64, 256]⟩

abbrev nBuf : Space → Nat
  | .hbm => 8
  | .vmem => 10
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .f32⟩
  | .local _ .vmem, ⟨8, _⟩ => ⟨S4x64x256, .bf16⟩
  | .local _ .vmem, ⟨9, _⟩ => ⟨S4x9x3x64x256, .bf16⟩
  | _, _ => ⟨S256x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 224 → Bool
  | ⟨i, _⟩ => dmaSemScopedAt i

abbrev sig : RefSig :=
  (ofTc nBuf bufTy 1 224 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_39 : BitVec 32 := 0#32
  let c8_i32_36 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_0 : BitVec 32 := 0#32
  let v7 : BitVec 1 := Scalar.cmpi .slt v2 c0_i32_0
  let v8 : BitVec 32 := Scalar.extui v7
  let v9 : BitVec 32 := Scalar.subi v6 v8
  let c8_i32 : BitVec 32 := 8#32
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v2 c8_i32
  let c0_i32_3 : BitVec 32 := 0#32
  let v17 : BitVec 1 := Scalar.cmpi .ne v16 c0_i32_3
  let v18 : BitVec 1 := Scalar.andi v15 v17
  let v4 : BitVec 32 := Scalar.divsi v2 c8_i32
  let c1_i32_4 : BitVec 32 := 1#32
  let v19 : BitVec 32 := Scalar.subi v4 c1_i32_4
  let v20 : BitVec 32 := Scalar.select v18 v19 v4
  let v78 : BitVec 32 := Scalar.muli c8_i32_36 v20
  let c2_i32_27 : BitVec 32 := 2#32
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v2 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c2_i32 : BitVec 32 := 2#32
  let c0_i32_13 : BitVec 32 := 0#32
  let v37 : BitVec 1 := Scalar.cmpi .sgt c2_i32 c0_i32_13
  let v38 : BitVec 32 := Scalar.extui v37
  let c0_i32_14 : BitVec 32 := 0#32
  let v39 : BitVec 1 := Scalar.cmpi .slt c2_i32 c0_i32_14
  let v40 : BitVec 32 := Scalar.extui v39
  let v41 : BitVec 32 := Scalar.subi v38 v40
  let v42 : BitVec 1 := Scalar.cmpi .ne v36 v41
  let v43 : BitVec 32 := Scalar.remsi v30 c2_i32
  let c0_i32_15 : BitVec 32 := 0#32
  let v44 : BitVec 1 := Scalar.cmpi .ne v43 c0_i32_15
  let v45 : BitVec 1 := Scalar.andi v42 v44
  let v31 : BitVec 32 := Scalar.divsi v30 c2_i32
  let c1_i32_16 : BitVec 32 := 1#32
  let v46 : BitVec 32 := Scalar.subi v31 c1_i32_16
  let v47 : BitVec 32 := Scalar.select v45 v46 v31
  let v63 : BitVec 32 := Scalar.muli c2_i32_27 v47
  let c2_i32_28 : BitVec 32 := 2#32
  let c0_i32_29 : BitVec 32 := 0#32
  let v64 : BitVec 1 := Scalar.cmpi .eq c2_i32_28 c0_i32_29
  let c1_i32_30 : BitVec 32 := 1#32
  let v65 : BitVec 32 := Scalar.select v64 c1_i32_30 c2_i32_28
  let v66 : BitVec 32 := Scalar.remsi v47 v65
  let c0_i32_32 : BitVec 32 := 0#32
  let v68 : BitVec 1 := Scalar.cmpi .slt v66 c0_i32_32
  let c0_i32_33 : BitVec 32 := 0#32
  let v69 : BitVec 1 := Scalar.cmpi .slt v65 c0_i32_33
  let v70 : BitVec 1 := Scalar.xori v68 v69
  let c0_i32_31 : BitVec 32 := 0#32
  let v67 : BitVec 1 := Scalar.cmpi .ne v66 c0_i32_31
  let v71 : BitVec 1 := Scalar.andi v70 v67
  let v72 : BitVec 32 := Scalar.addi v66 v65
  let v73 : BitVec 32 := Scalar.select v71 v72 v66
  let c0_i32_34 : BitVec 32 := 0#32
  let v74 : BitVec 1 := Scalar.cmpi .eq v73 c0_i32_34
  let c1_i32_26 : BitVec 32 := 1#32
  let c4_i32 : BitVec 32 := 4#32
  let c0_i32_17 : BitVec 32 := 0#32
  let v48 : BitVec 1 := Scalar.cmpi .eq c4_i32 c0_i32_17
  let c1_i32_18 : BitVec 32 := 1#32
  let v49 : BitVec 32 := Scalar.select v48 c1_i32_18 c4_i32
  let v50 : BitVec 32 := Scalar.remsi v30 v49
  let c0_i32_20 : BitVec 32 := 0#32
  let v52 : BitVec 1 := Scalar.cmpi .slt v50 c0_i32_20
  let c0_i32_21 : BitVec 32 := 0#32
  let v53 : BitVec 1 := Scalar.cmpi .slt v49 c0_i32_21
  let v54 : BitVec 1 := Scalar.xori v52 v53
  let c0_i32_19 : BitVec 32 := 0#32
  let v51 : BitVec 1 := Scalar.cmpi .ne v50 c0_i32_19
  let v55 : BitVec 1 := Scalar.andi v54 v51
  let v56 : BitVec 32 := Scalar.addi v50 v49
  let v57 : BitVec 32 := Scalar.select v55 v56 v50
  let c1_i32_22 : BitVec 32 := 1#32
  let v58 : BitVec 1 := Scalar.cmpi .eq v57 c1_i32_22
  let c2_i32_23 : BitVec 32 := 2#32
  let v59 : BitVec 1 := Scalar.cmpi .eq v57 c2_i32_23
  let v60 : BitVec 1 := Scalar.ori v58 v59
  let c1_i32_24 : BitVec 32 := 1#32
  let c0_i32_25 : BitVec 32 := 0#32
  let v61 : BitVec 32 := Scalar.select v60 c1_i32_24 c0_i32_25
  let v62 : BitVec 32 := Scalar.subi c1_i32_26 v61
  let c1_i32_35 : BitVec 32 := 1#32
  let v75 : BitVec 32 := Scalar.subi c1_i32_35 v62
  let v76 : BitVec 32 := Scalar.select v74 v62 v75
  let v77 : BitVec 32 := Scalar.addi v63 v76
  let v79 : BitVec 32 := Scalar.addi v78 v77
  let c1_i32_38 : BitVec 32 := 1#32
  let v80 : BitVec 32 := Scalar.muli v79 c1_i32_38
  let v81 : BitVec 32 := Scalar.addi c0_i32_39 v80
  v81.toNat
def k0_dev2 (d0 : Dev nD) : Nat :=
  let c0_i32_122 : BitVec 32 := 0#32
  let c8_i32_86 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_41 : BitVec 32 := 0#32
  let v83 : BitVec 1 := Scalar.cmpi .sgt v2 c0_i32_41
  let v84 : BitVec 32 := Scalar.extui v83
  let c0_i32_42 : BitVec 32 := 0#32
  let v85 : BitVec 1 := Scalar.cmpi .slt v2 c0_i32_42
  let v86 : BitVec 32 := Scalar.extui v85
  let v87 : BitVec 32 := Scalar.subi v84 v86
  let c8_i32_40 : BitVec 32 := 8#32
  let c0_i32_43 : BitVec 32 := 0#32
  let v88 : BitVec 1 := Scalar.cmpi .sgt c8_i32_40 c0_i32_43
  let v89 : BitVec 32 := Scalar.extui v88
  let c0_i32_44 : BitVec 32 := 0#32
  let v90 : BitVec 1 := Scalar.cmpi .slt c8_i32_40 c0_i32_44
  let v91 : BitVec 32 := Scalar.extui v90
  let v92 : BitVec 32 := Scalar.subi v89 v91
  let v93 : BitVec 1 := Scalar.cmpi .ne v87 v92
  let v94 : BitVec 32 := Scalar.remsi v2 c8_i32_40
  let c0_i32_45 : BitVec 32 := 0#32
  let v95 : BitVec 1 := Scalar.cmpi .ne v94 c0_i32_45
  let v96 : BitVec 1 := Scalar.andi v93 v95
  let v82 : BitVec 32 := Scalar.divsi v2 c8_i32_40
  let c1_i32_46 : BitVec 32 := 1#32
  let v97 : BitVec 32 := Scalar.subi v82 c1_i32_46
  let v98 : BitVec 32 := Scalar.select v96 v97 v82
  let v166 : BitVec 32 := Scalar.muli c8_i32_86 v98
  let c2_i32_77 : BitVec 32 := 2#32
  let c8_i32_47 : BitVec 32 := 8#32
  let c0_i32_48 : BitVec 32 := 0#32
  let v99 : BitVec 1 := Scalar.cmpi .eq c8_i32_47 c0_i32_48
  let c1_i32_49 : BitVec 32 := 1#32
  let v100 : BitVec 32 := Scalar.select v99 c1_i32_49 c8_i32_47
  let v101 : BitVec 32 := Scalar.remsi v2 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c0_i32_54 : BitVec 32 := 0#32
  let v110 : BitVec 1 := Scalar.cmpi .sgt v108 c0_i32_54
  let v111 : BitVec 32 := Scalar.extui v110
  let c0_i32_55 : BitVec 32 := 0#32
  let v112 : BitVec 1 := Scalar.cmpi .slt v108 c0_i32_55
  let v113 : BitVec 32 := Scalar.extui v112
  let v114 : BitVec 32 := Scalar.subi v111 v113
  let c2_i32_53 : BitVec 32 := 2#32
  let c0_i32_56 : BitVec 32 := 0#32
  let v115 : BitVec 1 := Scalar.cmpi .sgt c2_i32_53 c0_i32_56
  let v116 : BitVec 32 := Scalar.extui v115
  let c0_i32_57 : BitVec 32 := 0#32
  let v117 : BitVec 1 := Scalar.cmpi .slt c2_i32_53 c0_i32_57
  let v118 : BitVec 32 := Scalar.extui v117
  let v119 : BitVec 32 := Scalar.subi v116 v118
  let v120 : BitVec 1 := Scalar.cmpi .ne v114 v119
  let v121 : BitVec 32 := Scalar.remsi v108 c2_i32_53
  let c0_i32_58 : BitVec 32 := 0#32
  let v122 : BitVec 1 := Scalar.cmpi .ne v121 c0_i32_58
  let v123 : BitVec 1 := Scalar.andi v120 v122
  let v109 : BitVec 32 := Scalar.divsi v108 c2_i32_53
  let c1_i32_59 : BitVec 32 := 1#32
  let v124 : BitVec 32 := Scalar.subi v109 c1_i32_59
  let v125 : BitVec 32 := Scalar.select v123 v124 v109
  let c1_i32_70 : BitVec 32 := 1#32
  let v140 : BitVec 32 := Scalar.addi v125 c1_i32_70
  let c4_i32_71 : BitVec 32 := 4#32
  let c0_i32_72 : BitVec 32 := 0#32
  let v141 : BitVec 1 := Scalar.cmpi .eq c4_i32_71 c0_i32_72
  let c1_i32_73 : BitVec 32 := 1#32
  let v142 : BitVec 32 := Scalar.select v141 c1_i32_73 c4_i32_71
  let v143 : BitVec 32 := Scalar.remsi v140 v142
  let c0_i32_75 : BitVec 32 := 0#32
  let v145 : BitVec 1 := Scalar.cmpi .slt v143 c0_i32_75
  let c0_i32_76 : BitVec 32 := 0#32
  let v146 : BitVec 1 := Scalar.cmpi .slt v142 c0_i32_76
  let v147 : BitVec 1 := Scalar.xori v145 v146
  let c0_i32_74 : BitVec 32 := 0#32
  let v144 : BitVec 1 := Scalar.cmpi .ne v143 c0_i32_74
  let v148 : BitVec 1 := Scalar.andi v147 v144
  let v149 : BitVec 32 := Scalar.addi v143 v142
  let v150 : BitVec 32 := Scalar.select v148 v149 v143
  let v151 : BitVec 32 := Scalar.muli c2_i32_77 v150
  let c2_i32_78 : BitVec 32 := 2#32
  let c0_i32_79 : BitVec 32 := 0#32
  let v152 : BitVec 1 := Scalar.cmpi .eq c2_i32_78 c0_i32_79
  let c1_i32_80 : BitVec 32 := 1#32
  let v153 : BitVec 32 := Scalar.select v152 c1_i32_80 c2_i32_78
  let v154 : BitVec 32 := Scalar.remsi v150 v153
  let c0_i32_82 : BitVec 32 := 0#32
  let v156 : BitVec 1 := Scalar.cmpi .slt v154 c0_i32_82
  let c0_i32_83 : BitVec 32 := 0#32
  let v157 : BitVec 1 := Scalar.cmpi .slt v153 c0_i32_83
  let v158 : BitVec 1 := Scalar.xori v156 v157
  let c0_i32_81 : BitVec 32 := 0#32
  let v155 : BitVec 1 := Scalar.cmpi .ne v154 c0_i32_81
  let v159 : BitVec 1 := Scalar.andi v158 v155
  let v160 : BitVec 32 := Scalar.addi v154 v153
  let v161 : BitVec 32 := Scalar.select v159 v160 v154
  let c0_i32_84 : BitVec 32 := 0#32
  let v162 : BitVec 1 := Scalar.cmpi .eq v161 c0_i32_84
  let c4_i32_60 : BitVec 32 := 4#32
  let c0_i32_61 : BitVec 32 := 0#32
  let v126 : BitVec 1 := Scalar.cmpi .eq c4_i32_60 c0_i32_61
  let c1_i32_62 : BitVec 32 := 1#32
  let v127 : BitVec 32 := Scalar.select v126 c1_i32_62 c4_i32_60
  let v128 : BitVec 32 := Scalar.remsi v108 v127
  let c0_i32_64 : BitVec 32 := 0#32
  let v130 : BitVec 1 := Scalar.cmpi .slt v128 c0_i32_64
  let c0_i32_65 : BitVec 32 := 0#32
  let v131 : BitVec 1 := Scalar.cmpi .slt v127 c0_i32_65
  let v132 : BitVec 1 := Scalar.xori v130 v131
  let c0_i32_63 : BitVec 32 := 0#32
  let v129 : BitVec 1 := Scalar.cmpi .ne v128 c0_i32_63
  let v133 : BitVec 1 := Scalar.andi v132 v129
  let v134 : BitVec 32 := Scalar.addi v128 v127
  let v135 : BitVec 32 := Scalar.select v133 v134 v128
  let c1_i32_66 : BitVec 32 := 1#32
  let v136 : BitVec 1 := Scalar.cmpi .eq v135 c1_i32_66
  let c2_i32_67 : BitVec 32 := 2#32
  let v137 : BitVec 1 := Scalar.cmpi .eq v135 c2_i32_67
  let v138 : BitVec 1 := Scalar.ori v136 v137
  let c1_i32_68 : BitVec 32 := 1#32
  let c0_i32_69 : BitVec 32 := 0#32
  let v139 : BitVec 32 := Scalar.select v138 c1_i32_68 c0_i32_69
  let c1_i32_85 : BitVec 32 := 1#32
  let v163 : BitVec 32 := Scalar.subi c1_i32_85 v139
  let v164 : BitVec 32 := Scalar.select v162 v139 v163
  let v165 : BitVec 32 := Scalar.addi v151 v164
  let v167 : BitVec 32 := Scalar.addi v166 v165
  let c1_i32_121 : BitVec 32 := 1#32
  let v224 : BitVec 32 := Scalar.muli v167 c1_i32_121
  let v225 : BitVec 32 := Scalar.addi c0_i32_122 v224
  v225.toNat
def k0_dev3 (d0 : Dev nD) : Nat :=
  let c0_i32_125 : BitVec 32 := 0#32
  let c8_i32_103 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_41 : BitVec 32 := 0#32
  let v83 : BitVec 1 := Scalar.cmpi .sgt v2 c0_i32_41
  let v84 : BitVec 32 := Scalar.extui v83
  let c0_i32_42 : BitVec 32 := 0#32
  let v85 : BitVec 1 := Scalar.cmpi .slt v2 c0_i32_42
  let v86 : BitVec 32 := Scalar.extui v85
  let v87 : BitVec 32 := Scalar.subi v84 v86
  let c8_i32_40 : BitVec 32 := 8#32
  let c0_i32_43 : BitVec 32 := 0#32
  let v88 : BitVec 1 := Scalar.cmpi .sgt c8_i32_40 c0_i32_43
  let v89 : BitVec 32 := Scalar.extui v88
  let c0_i32_44 : BitVec 32 := 0#32
  let v90 : BitVec 1 := Scalar.cmpi .slt c8_i32_40 c0_i32_44
  let v91 : BitVec 32 := Scalar.extui v90
  let v92 : BitVec 32 := Scalar.subi v89 v91
  let v93 : BitVec 1 := Scalar.cmpi .ne v87 v92
  let v94 : BitVec 32 := Scalar.remsi v2 c8_i32_40
  let c0_i32_45 : BitVec 32 := 0#32
  let v95 : BitVec 1 := Scalar.cmpi .ne v94 c0_i32_45
  let v96 : BitVec 1 := Scalar.andi v93 v95
  let v82 : BitVec 32 := Scalar.divsi v2 c8_i32_40
  let c1_i32_46 : BitVec 32 := 1#32
  let v97 : BitVec 32 := Scalar.subi v82 c1_i32_46
  let v98 : BitVec 32 := Scalar.select v96 v97 v82
  let v194 : BitVec 32 := Scalar.muli c8_i32_103 v98
  let c2_i32_94 : BitVec 32 := 2#32
  let c8_i32_47 : BitVec 32 := 8#32
  let c0_i32_48 : BitVec 32 := 0#32
  let v99 : BitVec 1 := Scalar.cmpi .eq c8_i32_47 c0_i32_48
  let c1_i32_49 : BitVec 32 := 1#32
  let v100 : BitVec 32 := Scalar.select v99 c1_i32_49 c8_i32_47
  let v101 : BitVec 32 := Scalar.remsi v2 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c0_i32_54 : BitVec 32 := 0#32
  let v110 : BitVec 1 := Scalar.cmpi .sgt v108 c0_i32_54
  let v111 : BitVec 32 := Scalar.extui v110
  let c0_i32_55 : BitVec 32 := 0#32
  let v112 : BitVec 1 := Scalar.cmpi .slt v108 c0_i32_55
  let v113 : BitVec 32 := Scalar.extui v112
  let v114 : BitVec 32 := Scalar.subi v111 v113
  let c2_i32_53 : BitVec 32 := 2#32
  let c0_i32_56 : BitVec 32 := 0#32
  let v115 : BitVec 1 := Scalar.cmpi .sgt c2_i32_53 c0_i32_56
  let v116 : BitVec 32 := Scalar.extui v115
  let c0_i32_57 : BitVec 32 := 0#32
  let v117 : BitVec 1 := Scalar.cmpi .slt c2_i32_53 c0_i32_57
  let v118 : BitVec 32 := Scalar.extui v117
  let v119 : BitVec 32 := Scalar.subi v116 v118
  let v120 : BitVec 1 := Scalar.cmpi .ne v114 v119
  let v121 : BitVec 32 := Scalar.remsi v108 c2_i32_53
  let c0_i32_58 : BitVec 32 := 0#32
  let v122 : BitVec 1 := Scalar.cmpi .ne v121 c0_i32_58
  let v123 : BitVec 1 := Scalar.andi v120 v122
  let v109 : BitVec 32 := Scalar.divsi v108 c2_i32_53
  let c1_i32_59 : BitVec 32 := 1#32
  let v124 : BitVec 32 := Scalar.subi v109 c1_i32_59
  let v125 : BitVec 32 := Scalar.select v123 v124 v109
  let c2_i32_87 : BitVec 32 := 2#32
  let v168 : BitVec 32 := Scalar.addi v125 c2_i32_87
  let c4_i32_88 : BitVec 32 := 4#32
  let c0_i32_89 : BitVec 32 := 0#32
  let v169 : BitVec 1 := Scalar.cmpi .eq c4_i32_88 c0_i32_89
  let c1_i32_90 : BitVec 32 := 1#32
  let v170 : BitVec 32 := Scalar.select v169 c1_i32_90 c4_i32_88
  let v171 : BitVec 32 := Scalar.remsi v168 v170
  let c0_i32_92 : BitVec 32 := 0#32
  let v173 : BitVec 1 := Scalar.cmpi .slt v171 c0_i32_92
  let c0_i32_93 : BitVec 32 := 0#32
  let v174 : BitVec 1 := Scalar.cmpi .slt v170 c0_i32_93
  let v175 : BitVec 1 := Scalar.xori v173 v174
  let c0_i32_91 : BitVec 32 := 0#32
  let v172 : BitVec 1 := Scalar.cmpi .ne v171 c0_i32_91
  let v176 : BitVec 1 := Scalar.andi v175 v172
  let v177 : BitVec 32 := Scalar.addi v171 v170
  let v178 : BitVec 32 := Scalar.select v176 v177 v171
  let v179 : BitVec 32 := Scalar.muli c2_i32_94 v178
  let c2_i32_95 : BitVec 32 := 2#32
  let c0_i32_96 : BitVec 32 := 0#32
  let v180 : BitVec 1 := Scalar.cmpi .eq c2_i32_95 c0_i32_96
  let c1_i32_97 : BitVec 32 := 1#32
  let v181 : BitVec 32 := Scalar.select v180 c1_i32_97 c2_i32_95
  let v182 : BitVec 32 := Scalar.remsi v178 v181
  let c0_i32_99 : BitVec 32 := 0#32
  let v184 : BitVec 1 := Scalar.cmpi .slt v182 c0_i32_99
  let c0_i32_100 : BitVec 32 := 0#32
  let v185 : BitVec 1 := Scalar.cmpi .slt v181 c0_i32_100
  let v186 : BitVec 1 := Scalar.xori v184 v185
  let c0_i32_98 : BitVec 32 := 0#32
  let v183 : BitVec 1 := Scalar.cmpi .ne v182 c0_i32_98
  let v187 : BitVec 1 := Scalar.andi v186 v183
  let v188 : BitVec 32 := Scalar.addi v182 v181
  let v189 : BitVec 32 := Scalar.select v187 v188 v182
  let c0_i32_101 : BitVec 32 := 0#32
  let v190 : BitVec 1 := Scalar.cmpi .eq v189 c0_i32_101
  let c4_i32_60 : BitVec 32 := 4#32
  let c0_i32_61 : BitVec 32 := 0#32
  let v126 : BitVec 1 := Scalar.cmpi .eq c4_i32_60 c0_i32_61
  let c1_i32_62 : BitVec 32 := 1#32
  let v127 : BitVec 32 := Scalar.select v126 c1_i32_62 c4_i32_60
  let v128 : BitVec 32 := Scalar.remsi v108 v127
  let c0_i32_64 : BitVec 32 := 0#32
  let v130 : BitVec 1 := Scalar.cmpi .slt v128 c0_i32_64
  let c0_i32_65 : BitVec 32 := 0#32
  let v131 : BitVec 1 := Scalar.cmpi .slt v127 c0_i32_65
  let v132 : BitVec 1 := Scalar.xori v130 v131
  let c0_i32_63 : BitVec 32 := 0#32
  let v129 : BitVec 1 := Scalar.cmpi .ne v128 c0_i32_63
  let v133 : BitVec 1 := Scalar.andi v132 v129
  let v134 : BitVec 32 := Scalar.addi v128 v127
  let v135 : BitVec 32 := Scalar.select v133 v134 v128
  let c1_i32_66 : BitVec 32 := 1#32
  let v136 : BitVec 1 := Scalar.cmpi .eq v135 c1_i32_66
  let c2_i32_67 : BitVec 32 := 2#32
  let v137 : BitVec 1 := Scalar.cmpi .eq v135 c2_i32_67
  let v138 : BitVec 1 := Scalar.ori v136 v137
  let c1_i32_68 : BitVec 32 := 1#32
  let c0_i32_69 : BitVec 32 := 0#32
  let v139 : BitVec 32 := Scalar.select v138 c1_i32_68 c0_i32_69
  let c1_i32_102 : BitVec 32 := 1#32
  let v191 : BitVec 32 := Scalar.subi c1_i32_102 v139
  let v192 : BitVec 32 := Scalar.select v190 v139 v191
  let v193 : BitVec 32 := Scalar.addi v179 v192
  let v195 : BitVec 32 := Scalar.addi v194 v193
  let c1_i32_124 : BitVec 32 := 1#32
  let v226 : BitVec 32 := Scalar.muli v195 c1_i32_124
  let v227 : BitVec 32 := Scalar.addi c0_i32_125 v226
  v227.toNat
def k0_dev4 (d0 : Dev nD) : Nat :=
  let c0_i32_128 : BitVec 32 := 0#32
  let c8_i32_119 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_41 : BitVec 32 := 0#32
  let v83 : BitVec 1 := Scalar.cmpi .sgt v2 c0_i32_41
  let v84 : BitVec 32 := Scalar.extui v83
  let c0_i32_42 : BitVec 32 := 0#32
  let v85 : BitVec 1 := Scalar.cmpi .slt v2 c0_i32_42
  let v86 : BitVec 32 := Scalar.extui v85
  let v87 : BitVec 32 := Scalar.subi v84 v86
  let c8_i32_40 : BitVec 32 := 8#32
  let c0_i32_43 : BitVec 32 := 0#32
  let v88 : BitVec 1 := Scalar.cmpi .sgt c8_i32_40 c0_i32_43
  let v89 : BitVec 32 := Scalar.extui v88
  let c0_i32_44 : BitVec 32 := 0#32
  let v90 : BitVec 1 := Scalar.cmpi .slt c8_i32_40 c0_i32_44
  let v91 : BitVec 32 := Scalar.extui v90
  let v92 : BitVec 32 := Scalar.subi v89 v91
  let v93 : BitVec 1 := Scalar.cmpi .ne v87 v92
  let v94 : BitVec 32 := Scalar.remsi v2 c8_i32_40
  let c0_i32_45 : BitVec 32 := 0#32
  let v95 : BitVec 1 := Scalar.cmpi .ne v94 c0_i32_45
  let v96 : BitVec 1 := Scalar.andi v93 v95
  let v82 : BitVec 32 := Scalar.divsi v2 c8_i32_40
  let c1_i32_46 : BitVec 32 := 1#32
  let v97 : BitVec 32 := Scalar.subi v82 c1_i32_46
  let v98 : BitVec 32 := Scalar.select v96 v97 v82
  let v222 : BitVec 32 := Scalar.muli c8_i32_119 v98
  let c2_i32_110 : BitVec 32 := 2#32
  let c8_i32_47 : BitVec 32 := 8#32
  let c0_i32_48 : BitVec 32 := 0#32
  let v99 : BitVec 1 := Scalar.cmpi .eq c8_i32_47 c0_i32_48
  let c1_i32_49 : BitVec 32 := 1#32
  let v100 : BitVec 32 := Scalar.select v99 c1_i32_49 c8_i32_47
  let v101 : BitVec 32 := Scalar.remsi v2 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c0_i32_54 : BitVec 32 := 0#32
  let v110 : BitVec 1 := Scalar.cmpi .sgt v108 c0_i32_54
  let v111 : BitVec 32 := Scalar.extui v110
  let c0_i32_55 : BitVec 32 := 0#32
  let v112 : BitVec 1 := Scalar.cmpi .slt v108 c0_i32_55
  let v113 : BitVec 32 := Scalar.extui v112
  let v114 : BitVec 32 := Scalar.subi v111 v113
  let c2_i32_53 : BitVec 32 := 2#32
  let c0_i32_56 : BitVec 32 := 0#32
  let v115 : BitVec 1 := Scalar.cmpi .sgt c2_i32_53 c0_i32_56
  let v116 : BitVec 32 := Scalar.extui v115
  let c0_i32_57 : BitVec 32 := 0#32
  let v117 : BitVec 1 := Scalar.cmpi .slt c2_i32_53 c0_i32_57
  let v118 : BitVec 32 := Scalar.extui v117
  let v119 : BitVec 32 := Scalar.subi v116 v118
  let v120 : BitVec 1 := Scalar.cmpi .ne v114 v119
  let v121 : BitVec 32 := Scalar.remsi v108 c2_i32_53
  let c0_i32_58 : BitVec 32 := 0#32
  let v122 : BitVec 1 := Scalar.cmpi .ne v121 c0_i32_58
  let v123 : BitVec 1 := Scalar.andi v120 v122
  let v109 : BitVec 32 := Scalar.divsi v108 c2_i32_53
  let c1_i32_59 : BitVec 32 := 1#32
  let v124 : BitVec 32 := Scalar.subi v109 c1_i32_59
  let v125 : BitVec 32 := Scalar.select v123 v124 v109
  let c3_i32 : BitVec 32 := 3#32
  let v196 : BitVec 32 := Scalar.addi v125 c3_i32
  let c4_i32_104 : BitVec 32 := 4#32
  let c0_i32_105 : BitVec 32 := 0#32
  let v197 : BitVec 1 := Scalar.cmpi .eq c4_i32_104 c0_i32_105
  let c1_i32_106 : BitVec 32 := 1#32
  let v198 : BitVec 32 := Scalar.select v197 c1_i32_106 c4_i32_104
  let v199 : BitVec 32 := Scalar.remsi v196 v198
  let c0_i32_108 : BitVec 32 := 0#32
  let v201 : BitVec 1 := Scalar.cmpi .slt v199 c0_i32_108
  let c0_i32_109 : BitVec 32 := 0#32
  let v202 : BitVec 1 := Scalar.cmpi .slt v198 c0_i32_109
  let v203 : BitVec 1 := Scalar.xori v201 v202
  let c0_i32_107 : BitVec 32 := 0#32
  let v200 : BitVec 1 := Scalar.cmpi .ne v199 c0_i32_107
  let v204 : BitVec 1 := Scalar.andi v203 v200
  let v205 : BitVec 32 := Scalar.addi v199 v198
  let v206 : BitVec 32 := Scalar.select v204 v205 v199
  let v207 : BitVec 32 := Scalar.muli c2_i32_110 v206
  let c2_i32_111 : BitVec 32 := 2#32
  let c0_i32_112 : BitVec 32 := 0#32
  let v208 : BitVec 1 := Scalar.cmpi .eq c2_i32_111 c0_i32_112
  let c1_i32_113 : BitVec 32 := 1#32
  let v209 : BitVec 32 := Scalar.select v208 c1_i32_113 c2_i32_111
  let v210 : BitVec 32 := Scalar.remsi v206 v209
  let c0_i32_115 : BitVec 32 := 0#32
  let v212 : BitVec 1 := Scalar.cmpi .slt v210 c0_i32_115
  let c0_i32_116 : BitVec 32 := 0#32
  let v213 : BitVec 1 := Scalar.cmpi .slt v209 c0_i32_116
  let v214 : BitVec 1 := Scalar.xori v212 v213
  let c0_i32_114 : BitVec 32 := 0#32
  let v211 : BitVec 1 := Scalar.cmpi .ne v210 c0_i32_114
  let v215 : BitVec 1 := Scalar.andi v214 v211
  let v216 : BitVec 32 := Scalar.addi v210 v209
  let v217 : BitVec 32 := Scalar.select v215 v216 v210
  let c0_i32_117 : BitVec 32 := 0#32
  let v218 : BitVec 1 := Scalar.cmpi .eq v217 c0_i32_117
  let c4_i32_60 : BitVec 32 := 4#32
  let c0_i32_61 : BitVec 32 := 0#32
  let v126 : BitVec 1 := Scalar.cmpi .eq c4_i32_60 c0_i32_61
  let c1_i32_62 : BitVec 32 := 1#32
  let v127 : BitVec 32 := Scalar.select v126 c1_i32_62 c4_i32_60
  let v128 : BitVec 32 := Scalar.remsi v108 v127
  let c0_i32_64 : BitVec 32 := 0#32
  let v130 : BitVec 1 := Scalar.cmpi .slt v128 c0_i32_64
  let c0_i32_65 : BitVec 32 := 0#32
  let v131 : BitVec 1 := Scalar.cmpi .slt v127 c0_i32_65
  let v132 : BitVec 1 := Scalar.xori v130 v131
  let c0_i32_63 : BitVec 32 := 0#32
  let v129 : BitVec 1 := Scalar.cmpi .ne v128 c0_i32_63
  let v133 : BitVec 1 := Scalar.andi v132 v129
  let v134 : BitVec 32 := Scalar.addi v128 v127
  let v135 : BitVec 32 := Scalar.select v133 v134 v128
  let c1_i32_66 : BitVec 32 := 1#32
  let v136 : BitVec 1 := Scalar.cmpi .eq v135 c1_i32_66
  let c2_i32_67 : BitVec 32 := 2#32
  let v137 : BitVec 1 := Scalar.cmpi .eq v135 c2_i32_67
  let v138 : BitVec 1 := Scalar.ori v136 v137
  let c1_i32_68 : BitVec 32 := 1#32
  let c0_i32_69 : BitVec 32 := 0#32
  let v139 : BitVec 32 := Scalar.select v138 c1_i32_68 c0_i32_69
  let c1_i32_118 : BitVec 32 := 1#32
  let v219 : BitVec 32 := Scalar.subi c1_i32_118 v139
  let v220 : BitVec 32 := Scalar.select v218 v139 v219
  let v221 : BitVec 32 := Scalar.addi v207 v220
  let v223 : BitVec 32 := Scalar.addi v222 v221
  let c1_i32_127 : BitVec 32 := 1#32
  let v228 : BitVec 32 := Scalar.muli v223 c1_i32_127
  let v229 : BitVec 32 := Scalar.addi c0_i32_128 v228
  v229.toNat
def k0_dev5 (d0 : Dev nD) : Nat :=
  let c0_i32_212 : BitVec 32 := 0#32
  let c8_i32_175 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_130 : BitVec 32 := 0#32
  let v231 : BitVec 1 := Scalar.cmpi .sgt v2 c0_i32_130
  let v232 : BitVec 32 := Scalar.extui v231
  let c0_i32_131 : BitVec 32 := 0#32
  let v233 : BitVec 1 := Scalar.cmpi .slt v2 c0_i32_131
  let v234 : BitVec 32 := Scalar.extui v233
  let v235 : BitVec 32 := Scalar.subi v232 v234
  let c8_i32_129 : BitVec 32 := 8#32
  let c0_i32_132 : BitVec 32 := 0#32
  let v236 : BitVec 1 := Scalar.cmpi .sgt c8_i32_129 c0_i32_132
  let v237 : BitVec 32 := Scalar.extui v236
  let c0_i32_133 : BitVec 32 := 0#32
  let v238 : BitVec 1 := Scalar.cmpi .slt c8_i32_129 c0_i32_133
  let v239 : BitVec 32 := Scalar.extui v238
  let v240 : BitVec 32 := Scalar.subi v237 v239
  let v241 : BitVec 1 := Scalar.cmpi .ne v235 v240
  let v242 : BitVec 32 := Scalar.remsi v2 c8_i32_129
  let c0_i32_134 : BitVec 32 := 0#32
  let v243 : BitVec 1 := Scalar.cmpi .ne v242 c0_i32_134
  let v244 : BitVec 1 := Scalar.andi v241 v243
  let v230 : BitVec 32 := Scalar.divsi v2 c8_i32_129
  let c1_i32_135 : BitVec 32 := 1#32
  let v245 : BitVec 32 := Scalar.subi v230 c1_i32_135
  let v246 : BitVec 32 := Scalar.select v244 v245 v230
  let c1_i32_159 : BitVec 32 := 1#32
  let v288 : BitVec 32 := Scalar.addi v246 c1_i32_159
  let c4_i32_160 : BitVec 32 := 4#32
  let c0_i32_161 : BitVec 32 := 0#32
  let v289 : BitVec 1 := Scalar.cmpi .eq c4_i32_160 c0_i32_161
  let c1_i32_162 : BitVec 32 := 1#32
  let v290 : BitVec 32 := Scalar.select v289 c1_i32_162 c4_i32_160
  let v291 : BitVec 32 := Scalar.remsi v288 v290
  let c0_i32_164 : BitVec 32 := 0#32
  let v293 : BitVec 1 := Scalar.cmpi .slt v291 c0_i32_164
  let c0_i32_165 : BitVec 32 := 0#32
  let v294 : BitVec 1 := Scalar.cmpi .slt v290 c0_i32_165
  let v295 : BitVec 1 := Scalar.xori v293 v294
  let c0_i32_163 : BitVec 32 := 0#32
  let v292 : BitVec 1 := Scalar.cmpi .ne v291 c0_i32_163
  let v296 : BitVec 1 := Scalar.andi v295 v292
  let v297 : BitVec 32 := Scalar.addi v291 v290
  let v298 : BitVec 32 := Scalar.select v296 v297 v291
  let v314 : BitVec 32 := Scalar.muli c8_i32_175 v298
  let c2_i32_166 : BitVec 32 := 2#32
  let c8_i32_136 : BitVec 32 := 8#32
  let c0_i32_137 : BitVec 32 := 0#32
  let v247 : BitVec 1 := Scalar.cmpi .eq c8_i32_136 c0_i32_137
  let c1_i32_138 : BitVec 32 := 1#32
  let v248 : BitVec 32 := Scalar.select v247 c1_i32_138 c8_i32_136
  let v249 : BitVec 32 := Scalar.remsi v2 v248
  let c0_i32_140 : BitVec 32 := 0#32
  let v251 : BitVec 1 := Scalar.cmpi .slt v249 c0_i32_140
  let c0_i32_141 : BitVec 32 := 0#32
  let v252 : BitVec 1 := Scalar.cmpi .slt v248 c0_i32_141
  let v253 : BitVec 1 := Scalar.xori v251 v252
  let c0_i32_139 : BitVec 32 := 0#32
  let v250 : BitVec 1 := Scalar.cmpi .ne v249 c0_i32_139
  let v254 : BitVec 1 := Scalar.andi v253 v250
  let v255 : BitVec 32 := Scalar.addi v249 v248
  let v256 : BitVec 32 := Scalar.select v254 v255 v249
  let c0_i32_143 : BitVec 32 := 0#32
  let v258 : BitVec 1 := Scalar.cmpi .sgt v256 c0_i32_143
  let v259 : BitVec 32 := Scalar.extui v258
  let c0_i32_144 : BitVec 32 := 0#32
  let v260 : BitVec 1 := Scalar.cmpi .slt v256 c0_i32_144
  let v261 : BitVec 32 := Scalar.extui v260
  let v262 : BitVec 32 := Scalar.subi v259 v261
  let c2_i32_142 : BitVec 32 := 2#32
  let c0_i32_145 : BitVec 32 := 0#32
  let v263 : BitVec 1 := Scalar.cmpi .sgt c2_i32_142 c0_i32_145
  let v264 : BitVec 32 := Scalar.extui v263
  let c0_i32_146 : BitVec 32 := 0#32
  let v265 : BitVec 1 := Scalar.cmpi .slt c2_i32_142 c0_i32_146
  let v266 : BitVec 32 := Scalar.extui v265
  let v267 : BitVec 32 := Scalar.subi v264 v266
  let v268 : BitVec 1 := Scalar.cmpi .ne v262 v267
  let v269 : BitVec 32 := Scalar.remsi v256 c2_i32_142
  let c0_i32_147 : BitVec 32 := 0#32
  let v270 : BitVec 1 := Scalar.cmpi .ne v269 c0_i32_147
  let v271 : BitVec 1 := Scalar.andi v268 v270
  let v257 : BitVec 32 := Scalar.divsi v256 c2_i32_142
  let c1_i32_148 : BitVec 32 := 1#32
  let v272 : BitVec 32 := Scalar.subi v257 c1_i32_148
  let v273 : BitVec 32 := Scalar.select v271 v272 v257
  let v299 : BitVec 32 := Scalar.muli c2_i32_166 v273
  let c2_i32_167 : BitVec 32 := 2#32
  let c0_i32_168 : BitVec 32 := 0#32
  let v300 : BitVec 1 := Scalar.cmpi .eq c2_i32_167 c0_i32_168
  let c1_i32_169 : BitVec 32 := 1#32
  let v301 : BitVec 32 := Scalar.select v300 c1_i32_169 c2_i32_167
  let v302 : BitVec 32 := Scalar.remsi v273 v301
  let c0_i32_171 : BitVec 32 := 0#32
  let v304 : BitVec 1 := Scalar.cmpi .slt v302 c0_i32_171
  let c0_i32_172 : BitVec 32 := 0#32
  let v305 : BitVec 1 := Scalar.cmpi .slt v301 c0_i32_172
  let v306 : BitVec 1 := Scalar.xori v304 v305
  let c0_i32_170 : BitVec 32 := 0#32
  let v303 : BitVec 1 := Scalar.cmpi .ne v302 c0_i32_170
  let v307 : BitVec 1 := Scalar.andi v306 v303
  let v308 : BitVec 32 := Scalar.addi v302 v301
  let v309 : BitVec 32 := Scalar.select v307 v308 v302
  let c0_i32_173 : BitVec 32 := 0#32
  let v310 : BitVec 1 := Scalar.cmpi .eq v309 c0_i32_173
  let c4_i32_149 : BitVec 32 := 4#32
  let c0_i32_150 : BitVec 32 := 0#32
  let v274 : BitVec 1 := Scalar.cmpi .eq c4_i32_149 c0_i32_150
  let c1_i32_151 : BitVec 32 := 1#32
  let v275 : BitVec 32 := Scalar.select v274 c1_i32_151 c4_i32_149
  let v276 : BitVec 32 := Scalar.remsi v256 v275
  let c0_i32_153 : BitVec 32 := 0#32
  let v278 : BitVec 1 := Scalar.cmpi .slt v276 c0_i32_153
  let c0_i32_154 : BitVec 32 := 0#32
  let v279 : BitVec 1 := Scalar.cmpi .slt v275 c0_i32_154
  let v280 : BitVec 1 := Scalar.xori v278 v279
  let c0_i32_152 : BitVec 32 := 0#32
  let v277 : BitVec 1 := Scalar.cmpi .ne v276 c0_i32_152
  let v281 : BitVec 1 := Scalar.andi v280 v277
  let v282 : BitVec 32 := Scalar.addi v276 v275
  let v283 : BitVec 32 := Scalar.select v281 v282 v276
  let c1_i32_155 : BitVec 32 := 1#32
  let v284 : BitVec 1 := Scalar.cmpi .eq v283 c1_i32_155
  let c2_i32_156 : BitVec 32 := 2#32
  let v285 : BitVec 1 := Scalar.cmpi .eq v283 c2_i32_156
  let v286 : BitVec 1 := Scalar.ori v284 v285
  let c1_i32_157 : BitVec 32 := 1#32
  let c0_i32_158 : BitVec 32 := 0#32
  let v287 : BitVec 32 := Scalar.select v286 c1_i32_157 c0_i32_158
  let c1_i32_174 : BitVec 32 := 1#32
  let v311 : BitVec 32 := Scalar.subi c1_i32_174 v287
  let v312 : BitVec 32 := Scalar.select v310 v287 v311
  let v313 : BitVec 32 := Scalar.addi v299 v312
  let v315 : BitVec 32 := Scalar.addi v314 v313
  let c1_i32_211 : BitVec 32 := 1#32
  let v372 : BitVec 32 := Scalar.muli v315 c1_i32_211
  let v373 : BitVec 32 := Scalar.addi c0_i32_212 v372
  v373.toNat
def k0_dev6 (d0 : Dev nD) : Nat :=
  let c0_i32_215 : BitVec 32 := 0#32
  let c8_i32_192 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_130 : BitVec 32 := 0#32
  let v231 : BitVec 1 := Scalar.cmpi .sgt v2 c0_i32_130
  let v232 : BitVec 32 := Scalar.extui v231
  let c0_i32_131 : BitVec 32 := 0#32
  let v233 : BitVec 1 := Scalar.cmpi .slt v2 c0_i32_131
  let v234 : BitVec 32 := Scalar.extui v233
  let v235 : BitVec 32 := Scalar.subi v232 v234
  let c8_i32_129 : BitVec 32 := 8#32
  let c0_i32_132 : BitVec 32 := 0#32
  let v236 : BitVec 1 := Scalar.cmpi .sgt c8_i32_129 c0_i32_132
  let v237 : BitVec 32 := Scalar.extui v236
  let c0_i32_133 : BitVec 32 := 0#32
  let v238 : BitVec 1 := Scalar.cmpi .slt c8_i32_129 c0_i32_133
  let v239 : BitVec 32 := Scalar.extui v238
  let v240 : BitVec 32 := Scalar.subi v237 v239
  let v241 : BitVec 1 := Scalar.cmpi .ne v235 v240
  let v242 : BitVec 32 := Scalar.remsi v2 c8_i32_129
  let c0_i32_134 : BitVec 32 := 0#32
  let v243 : BitVec 1 := Scalar.cmpi .ne v242 c0_i32_134
  let v244 : BitVec 1 := Scalar.andi v241 v243
  let v230 : BitVec 32 := Scalar.divsi v2 c8_i32_129
  let c1_i32_135 : BitVec 32 := 1#32
  let v245 : BitVec 32 := Scalar.subi v230 c1_i32_135
  let v246 : BitVec 32 := Scalar.select v244 v245 v230
  let c2_i32_176 : BitVec 32 := 2#32
  let v316 : BitVec 32 := Scalar.addi v246 c2_i32_176
  let c4_i32_177 : BitVec 32 := 4#32
  let c0_i32_178 : BitVec 32 := 0#32
  let v317 : BitVec 1 := Scalar.cmpi .eq c4_i32_177 c0_i32_178
  let c1_i32_179 : BitVec 32 := 1#32
  let v318 : BitVec 32 := Scalar.select v317 c1_i32_179 c4_i32_177
  let v319 : BitVec 32 := Scalar.remsi v316 v318
  let c0_i32_181 : BitVec 32 := 0#32
  let v321 : BitVec 1 := Scalar.cmpi .slt v319 c0_i32_181
  let c0_i32_182 : BitVec 32 := 0#32
  let v322 : BitVec 1 := Scalar.cmpi .slt v318 c0_i32_182
  let v323 : BitVec 1 := Scalar.xori v321 v322
  let c0_i32_180 : BitVec 32 := 0#32
  let v320 : BitVec 1 := Scalar.cmpi .ne v319 c0_i32_180
  let v324 : BitVec 1 := Scalar.andi v323 v320
  let v325 : BitVec 32 := Scalar.addi v319 v318
  let v326 : BitVec 32 := Scalar.select v324 v325 v319
  let v342 : BitVec 32 := Scalar.muli c8_i32_192 v326
  let c2_i32_183 : BitVec 32 := 2#32
  let c8_i32_136 : BitVec 32 := 8#32
  let c0_i32_137 : BitVec 32 := 0#32
  let v247 : BitVec 1 := Scalar.cmpi .eq c8_i32_136 c0_i32_137
  let c1_i32_138 : BitVec 32 := 1#32
  let v248 : BitVec 32 := Scalar.select v247 c1_i32_138 c8_i32_136
  let v249 : BitVec 32 := Scalar.remsi v2 v248
  let c0_i32_140 : BitVec 32 := 0#32
  let v251 : BitVec 1 := Scalar.cmpi .slt v249 c0_i32_140
  let c0_i32_141 : BitVec 32 := 0#32
  let v252 : BitVec 1 := Scalar.cmpi .slt v248 c0_i32_141
  let v253 : BitVec 1 := Scalar.xori v251 v252
  let c0_i32_139 : BitVec 32 := 0#32
  let v250 : BitVec 1 := Scalar.cmpi .ne v249 c0_i32_139
  let v254 : BitVec 1 := Scalar.andi v253 v250
  let v255 : BitVec 32 := Scalar.addi v249 v248
  let v256 : BitVec 32 := Scalar.select v254 v255 v249
  let c0_i32_143 : BitVec 32 := 0#32
  let v258 : BitVec 1 := Scalar.cmpi .sgt v256 c0_i32_143
  let v259 : BitVec 32 := Scalar.extui v258
  let c0_i32_144 : BitVec 32 := 0#32
  let v260 : BitVec 1 := Scalar.cmpi .slt v256 c0_i32_144
  let v261 : BitVec 32 := Scalar.extui v260
  let v262 : BitVec 32 := Scalar.subi v259 v261
  let c2_i32_142 : BitVec 32 := 2#32
  let c0_i32_145 : BitVec 32 := 0#32
  let v263 : BitVec 1 := Scalar.cmpi .sgt c2_i32_142 c0_i32_145
  let v264 : BitVec 32 := Scalar.extui v263
  let c0_i32_146 : BitVec 32 := 0#32
  let v265 : BitVec 1 := Scalar.cmpi .slt c2_i32_142 c0_i32_146
  let v266 : BitVec 32 := Scalar.extui v265
  let v267 : BitVec 32 := Scalar.subi v264 v266
  let v268 : BitVec 1 := Scalar.cmpi .ne v262 v267
  let v269 : BitVec 32 := Scalar.remsi v256 c2_i32_142
  let c0_i32_147 : BitVec 32 := 0#32
  let v270 : BitVec 1 := Scalar.cmpi .ne v269 c0_i32_147
  let v271 : BitVec 1 := Scalar.andi v268 v270
  let v257 : BitVec 32 := Scalar.divsi v256 c2_i32_142
  let c1_i32_148 : BitVec 32 := 1#32
  let v272 : BitVec 32 := Scalar.subi v257 c1_i32_148
  let v273 : BitVec 32 := Scalar.select v271 v272 v257
  let v327 : BitVec 32 := Scalar.muli c2_i32_183 v273
  let c2_i32_184 : BitVec 32 := 2#32
  let c0_i32_185 : BitVec 32 := 0#32
  let v328 : BitVec 1 := Scalar.cmpi .eq c2_i32_184 c0_i32_185
  let c1_i32_186 : BitVec 32 := 1#32
  let v329 : BitVec 32 := Scalar.select v328 c1_i32_186 c2_i32_184
  let v330 : BitVec 32 := Scalar.remsi v273 v329
  let c0_i32_188 : BitVec 32 := 0#32
  let v332 : BitVec 1 := Scalar.cmpi .slt v330 c0_i32_188
  let c0_i32_189 : BitVec 32 := 0#32
  let v333 : BitVec 1 := Scalar.cmpi .slt v329 c0_i32_189
  let v334 : BitVec 1 := Scalar.xori v332 v333
  let c0_i32_187 : BitVec 32 := 0#32
  let v331 : BitVec 1 := Scalar.cmpi .ne v330 c0_i32_187
  let v335 : BitVec 1 := Scalar.andi v334 v331
  let v336 : BitVec 32 := Scalar.addi v330 v329
  let v337 : BitVec 32 := Scalar.select v335 v336 v330
  let c0_i32_190 : BitVec 32 := 0#32
  let v338 : BitVec 1 := Scalar.cmpi .eq v337 c0_i32_190
  let c4_i32_149 : BitVec 32 := 4#32
  let c0_i32_150 : BitVec 32 := 0#32
  let v274 : BitVec 1 := Scalar.cmpi .eq c4_i32_149 c0_i32_150
  let c1_i32_151 : BitVec 32 := 1#32
  let v275 : BitVec 32 := Scalar.select v274 c1_i32_151 c4_i32_149
  let v276 : BitVec 32 := Scalar.remsi v256 v275
  let c0_i32_153 : BitVec 32 := 0#32
  let v278 : BitVec 1 := Scalar.cmpi .slt v276 c0_i32_153
  let c0_i32_154 : BitVec 32 := 0#32
  let v279 : BitVec 1 := Scalar.cmpi .slt v275 c0_i32_154
  let v280 : BitVec 1 := Scalar.xori v278 v279
  let c0_i32_152 : BitVec 32 := 0#32
  let v277 : BitVec 1 := Scalar.cmpi .ne v276 c0_i32_152
  let v281 : BitVec 1 := Scalar.andi v280 v277
  let v282 : BitVec 32 := Scalar.addi v276 v275
  let v283 : BitVec 32 := Scalar.select v281 v282 v276
  let c1_i32_155 : BitVec 32 := 1#32
  let v284 : BitVec 1 := Scalar.cmpi .eq v283 c1_i32_155
  let c2_i32_156 : BitVec 32 := 2#32
  let v285 : BitVec 1 := Scalar.cmpi .eq v283 c2_i32_156
  let v286 : BitVec 1 := Scalar.ori v284 v285
  let c1_i32_157 : BitVec 32 := 1#32
  let c0_i32_158 : BitVec 32 := 0#32
  let v287 : BitVec 32 := Scalar.select v286 c1_i32_157 c0_i32_158
  let c1_i32_191 : BitVec 32 := 1#32
  let v339 : BitVec 32 := Scalar.subi c1_i32_191 v287
  let v340 : BitVec 32 := Scalar.select v338 v287 v339
  let v341 : BitVec 32 := Scalar.addi v327 v340
  let v343 : BitVec 32 := Scalar.addi v342 v341
  let c1_i32_214 : BitVec 32 := 1#32
  let v374 : BitVec 32 := Scalar.muli v343 c1_i32_214
  let v375 : BitVec 32 := Scalar.addi c0_i32_215 v374
  v375.toNat
def k0_dev7 (d0 : Dev nD) : Nat :=
  let c0_i32_218 : BitVec 32 := 0#32
  let c8_i32_209 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_130 : BitVec 32 := 0#32
  let v231 : BitVec 1 := Scalar.cmpi .sgt v2 c0_i32_130
  let v232 : BitVec 32 := Scalar.extui v231
  let c0_i32_131 : BitVec 32 := 0#32
  let v233 : BitVec 1 := Scalar.cmpi .slt v2 c0_i32_131
  let v234 : BitVec 32 := Scalar.extui v233
  let v235 : BitVec 32 := Scalar.subi v232 v234
  let c8_i32_129 : BitVec 32 := 8#32
  let c0_i32_132 : BitVec 32 := 0#32
  let v236 : BitVec 1 := Scalar.cmpi .sgt c8_i32_129 c0_i32_132
  let v237 : BitVec 32 := Scalar.extui v236
  let c0_i32_133 : BitVec 32 := 0#32
  let v238 : BitVec 1 := Scalar.cmpi .slt c8_i32_129 c0_i32_133
  let v239 : BitVec 32 := Scalar.extui v238
  let v240 : BitVec 32 := Scalar.subi v237 v239
  let v241 : BitVec 1 := Scalar.cmpi .ne v235 v240
  let v242 : BitVec 32 := Scalar.remsi v2 c8_i32_129
  let c0_i32_134 : BitVec 32 := 0#32
  let v243 : BitVec 1 := Scalar.cmpi .ne v242 c0_i32_134
  let v244 : BitVec 1 := Scalar.andi v241 v243
  let v230 : BitVec 32 := Scalar.divsi v2 c8_i32_129
  let c1_i32_135 : BitVec 32 := 1#32
  let v245 : BitVec 32 := Scalar.subi v230 c1_i32_135
  let v246 : BitVec 32 := Scalar.select v244 v245 v230
  let c3_i32_193 : BitVec 32 := 3#32
  let v344 : BitVec 32 := Scalar.addi v246 c3_i32_193
  let c4_i32_194 : BitVec 32 := 4#32
  let c0_i32_195 : BitVec 32 := 0#32
  let v345 : BitVec 1 := Scalar.cmpi .eq c4_i32_194 c0_i32_195
  let c1_i32_196 : BitVec 32 := 1#32
  let v346 : BitVec 32 := Scalar.select v345 c1_i32_196 c4_i32_194
  let v347 : BitVec 32 := Scalar.remsi v344 v346
  let c0_i32_198 : BitVec 32 := 0#32
  let v349 : BitVec 1 := Scalar.cmpi .slt v347 c0_i32_198
  let c0_i32_199 : BitVec 32 := 0#32
  let v350 : BitVec 1 := Scalar.cmpi .slt v346 c0_i32_199
  let v351 : BitVec 1 := Scalar.xori v349 v350
  let c0_i32_197 : BitVec 32 := 0#32
  let v348 : BitVec 1 := Scalar.cmpi .ne v347 c0_i32_197
  let v352 : BitVec 1 := Scalar.andi v351 v348
  let v353 : BitVec 32 := Scalar.addi v347 v346
  let v354 : BitVec 32 := Scalar.select v352 v353 v347
  let v370 : BitVec 32 := Scalar.muli c8_i32_209 v354
  let c2_i32_200 : BitVec 32 := 2#32
  let c8_i32_136 : BitVec 32 := 8#32
  let c0_i32_137 : BitVec 32 := 0#32
  let v247 : BitVec 1 := Scalar.cmpi .eq c8_i32_136 c0_i32_137
  let c1_i32_138 : BitVec 32 := 1#32
  let v248 : BitVec 32 := Scalar.select v247 c1_i32_138 c8_i32_136
  let v249 : BitVec 32 := Scalar.remsi v2 v248
  let c0_i32_140 : BitVec 32 := 0#32
  let v251 : BitVec 1 := Scalar.cmpi .slt v249 c0_i32_140
  let c0_i32_141 : BitVec 32 := 0#32
  let v252 : BitVec 1 := Scalar.cmpi .slt v248 c0_i32_141
  let v253 : BitVec 1 := Scalar.xori v251 v252
  let c0_i32_139 : BitVec 32 := 0#32
  let v250 : BitVec 1 := Scalar.cmpi .ne v249 c0_i32_139
  let v254 : BitVec 1 := Scalar.andi v253 v250
  let v255 : BitVec 32 := Scalar.addi v249 v248
  let v256 : BitVec 32 := Scalar.select v254 v255 v249
  let c0_i32_143 : BitVec 32 := 0#32
  let v258 : BitVec 1 := Scalar.cmpi .sgt v256 c0_i32_143
  let v259 : BitVec 32 := Scalar.extui v258
  let c0_i32_144 : BitVec 32 := 0#32
  let v260 : BitVec 1 := Scalar.cmpi .slt v256 c0_i32_144
  let v261 : BitVec 32 := Scalar.extui v260
  let v262 : BitVec 32 := Scalar.subi v259 v261
  let c2_i32_142 : BitVec 32 := 2#32
  let c0_i32_145 : BitVec 32 := 0#32
  let v263 : BitVec 1 := Scalar.cmpi .sgt c2_i32_142 c0_i32_145
  let v264 : BitVec 32 := Scalar.extui v263
  let c0_i32_146 : BitVec 32 := 0#32
  let v265 : BitVec 1 := Scalar.cmpi .slt c2_i32_142 c0_i32_146
  let v266 : BitVec 32 := Scalar.extui v265
  let v267 : BitVec 32 := Scalar.subi v264 v266
  let v268 : BitVec 1 := Scalar.cmpi .ne v262 v267
  let v269 : BitVec 32 := Scalar.remsi v256 c2_i32_142
  let c0_i32_147 : BitVec 32 := 0#32
  let v270 : BitVec 1 := Scalar.cmpi .ne v269 c0_i32_147
  let v271 : BitVec 1 := Scalar.andi v268 v270
  let v257 : BitVec 32 := Scalar.divsi v256 c2_i32_142
  let c1_i32_148 : BitVec 32 := 1#32
  let v272 : BitVec 32 := Scalar.subi v257 c1_i32_148
  let v273 : BitVec 32 := Scalar.select v271 v272 v257
  let v355 : BitVec 32 := Scalar.muli c2_i32_200 v273
  let c2_i32_201 : BitVec 32 := 2#32
  let c0_i32_202 : BitVec 32 := 0#32
  let v356 : BitVec 1 := Scalar.cmpi .eq c2_i32_201 c0_i32_202
  let c1_i32_203 : BitVec 32 := 1#32
  let v357 : BitVec 32 := Scalar.select v356 c1_i32_203 c2_i32_201
  let v358 : BitVec 32 := Scalar.remsi v273 v357
  let c0_i32_205 : BitVec 32 := 0#32
  let v360 : BitVec 1 := Scalar.cmpi .slt v358 c0_i32_205
  let c0_i32_206 : BitVec 32 := 0#32
  let v361 : BitVec 1 := Scalar.cmpi .slt v357 c0_i32_206
  let v362 : BitVec 1 := Scalar.xori v360 v361
  let c0_i32_204 : BitVec 32 := 0#32
  let v359 : BitVec 1 := Scalar.cmpi .ne v358 c0_i32_204
  let v363 : BitVec 1 := Scalar.andi v362 v359
  let v364 : BitVec 32 := Scalar.addi v358 v357
  let v365 : BitVec 32 := Scalar.select v363 v364 v358
  let c0_i32_207 : BitVec 32 := 0#32
  let v366 : BitVec 1 := Scalar.cmpi .eq v365 c0_i32_207
  let c4_i32_149 : BitVec 32 := 4#32
  let c0_i32_150 : BitVec 32 := 0#32
  let v274 : BitVec 1 := Scalar.cmpi .eq c4_i32_149 c0_i32_150
  let c1_i32_151 : BitVec 32 := 1#32
  let v275 : BitVec 32 := Scalar.select v274 c1_i32_151 c4_i32_149
  let v276 : BitVec 32 := Scalar.remsi v256 v275
  let c0_i32_153 : BitVec 32 := 0#32
  let v278 : BitVec 1 := Scalar.cmpi .slt v276 c0_i32_153
  let c0_i32_154 : BitVec 32 := 0#32
  let v279 : BitVec 1 := Scalar.cmpi .slt v275 c0_i32_154
  let v280 : BitVec 1 := Scalar.xori v278 v279
  let c0_i32_152 : BitVec 32 := 0#32
  let v277 : BitVec 1 := Scalar.cmpi .ne v276 c0_i32_152
  let v281 : BitVec 1 := Scalar.andi v280 v277
  let v282 : BitVec 32 := Scalar.addi v276 v275
  let v283 : BitVec 32 := Scalar.select v281 v282 v276
  let c1_i32_155 : BitVec 32 := 1#32
  let v284 : BitVec 1 := Scalar.cmpi .eq v283 c1_i32_155
  let c2_i32_156 : BitVec 32 := 2#32
  let v285 : BitVec 1 := Scalar.cmpi .eq v283 c2_i32_156
  let v286 : BitVec 1 := Scalar.ori v284 v285
  let c1_i32_157 : BitVec 32 := 1#32
  let c0_i32_158 : BitVec 32 := 0#32
  let v287 : BitVec 32 := Scalar.select v286 c1_i32_157 c0_i32_158
  let c1_i32_208 : BitVec 32 := 1#32
  let v367 : BitVec 32 := Scalar.subi c1_i32_208 v287
  let v368 : BitVec 32 := Scalar.select v366 v287 v367
  let v369 : BitVec 32 := Scalar.addi v355 v368
  let v371 : BitVec 32 := Scalar.addi v370 v369
  let c1_i32_217 : BitVec 32 := 1#32
  let v376 : BitVec 32 := Scalar.muli v371 c1_i32_217
  let v377 : BitVec 32 := Scalar.addi c0_i32_218 v376
  v377.toNat
def k0_dev8 (d0 : Dev nD) : Nat :=
  let c0_i32_289 : BitVec 32 := 0#32
  let c8_i32_277 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_238 : BitVec 32 := 0#32
  let v402 : BitVec 1 := Scalar.cmpi .sgt v2 c0_i32_238
  let v403 : BitVec 32 := Scalar.extui v402
  let c0_i32_239 : BitVec 32 := 0#32
  let v404 : BitVec 1 := Scalar.cmpi .slt v2 c0_i32_239
  let v405 : BitVec 32 := Scalar.extui v404
  let v406 : BitVec 32 := Scalar.subi v403 v405
  let c8_i32_237 : BitVec 32 := 8#32
  let c0_i32_240 : BitVec 32 := 0#32
  let v407 : BitVec 1 := Scalar.cmpi .sgt c8_i32_237 c0_i32_240
  let v408 : BitVec 32 := Scalar.extui v407
  let c0_i32_241 : BitVec 32 := 0#32
  let v409 : BitVec 1 := Scalar.cmpi .slt c8_i32_237 c0_i32_241
  let v410 : BitVec 32 := Scalar.extui v409
  let v411 : BitVec 32 := Scalar.subi v408 v410
  let v412 : BitVec 1 := Scalar.cmpi .ne v406 v411
  let v413 : BitVec 32 := Scalar.remsi v2 c8_i32_237
  let c0_i32_242 : BitVec 32 := 0#32
  let v414 : BitVec 1 := Scalar.cmpi .ne v413 c0_i32_242
  let v415 : BitVec 1 := Scalar.andi v412 v414
  let v401 : BitVec 32 := Scalar.divsi v2 c8_i32_237
  let c1_i32_243 : BitVec 32 := 1#32
  let v416 : BitVec 32 := Scalar.subi v401 c1_i32_243
  let v417 : BitVec 32 := Scalar.select v415 v416 v401
  let v475 : BitVec 32 := Scalar.muli c8_i32_277 v417
  let c2_i32_268 : BitVec 32 := 2#32
  let c8_i32_244 : BitVec 32 := 8#32
  let c0_i32_245 : BitVec 32 := 0#32
  let v418 : BitVec 1 := Scalar.cmpi .eq c8_i32_244 c0_i32_245
  let c1_i32_246 : BitVec 32 := 1#32
  let v419 : BitVec 32 := Scalar.select v418 c1_i32_246 c8_i32_244
  let v420 : BitVec 32 := Scalar.remsi v2 v419
  let c0_i32_248 : BitVec 32 := 0#32
  let v422 : BitVec 1 := Scalar.cmpi .slt v420 c0_i32_248
  let c0_i32_249 : BitVec 32 := 0#32
  let v423 : BitVec 1 := Scalar.cmpi .slt v419 c0_i32_249
  let v424 : BitVec 1 := Scalar.xori v422 v423
  let c0_i32_247 : BitVec 32 := 0#32
  let v421 : BitVec 1 := Scalar.cmpi .ne v420 c0_i32_247
  let v425 : BitVec 1 := Scalar.andi v424 v421
  let v426 : BitVec 32 := Scalar.addi v420 v419
  let v427 : BitVec 32 := Scalar.select v425 v426 v420
  let c0_i32_251 : BitVec 32 := 0#32
  let v429 : BitVec 1 := Scalar.cmpi .sgt v427 c0_i32_251
  let v430 : BitVec 32 := Scalar.extui v429
  let c0_i32_252 : BitVec 32 := 0#32
  let v431 : BitVec 1 := Scalar.cmpi .slt v427 c0_i32_252
  let v432 : BitVec 32 := Scalar.extui v431
  let v433 : BitVec 32 := Scalar.subi v430 v432
  let c2_i32_250 : BitVec 32 := 2#32
  let c0_i32_253 : BitVec 32 := 0#32
  let v434 : BitVec 1 := Scalar.cmpi .sgt c2_i32_250 c0_i32_253
  let v435 : BitVec 32 := Scalar.extui v434
  let c0_i32_254 : BitVec 32 := 0#32
  let v436 : BitVec 1 := Scalar.cmpi .slt c2_i32_250 c0_i32_254
  let v437 : BitVec 32 := Scalar.extui v436
  let v438 : BitVec 32 := Scalar.subi v435 v437
  let v439 : BitVec 1 := Scalar.cmpi .ne v433 v438
  let v440 : BitVec 32 := Scalar.remsi v427 c2_i32_250
  let c0_i32_255 : BitVec 32 := 0#32
  let v441 : BitVec 1 := Scalar.cmpi .ne v440 c0_i32_255
  let v442 : BitVec 1 := Scalar.andi v439 v441
  let v428 : BitVec 32 := Scalar.divsi v427 c2_i32_250
  let c1_i32_256 : BitVec 32 := 1#32
  let v443 : BitVec 32 := Scalar.subi v428 c1_i32_256
  let v444 : BitVec 32 := Scalar.select v442 v443 v428
  let v460 : BitVec 32 := Scalar.muli c2_i32_268 v444
  let c2_i32_269 : BitVec 32 := 2#32
  let c0_i32_270 : BitVec 32 := 0#32
  let v461 : BitVec 1 := Scalar.cmpi .eq c2_i32_269 c0_i32_270
  let c1_i32_271 : BitVec 32 := 1#32
  let v462 : BitVec 32 := Scalar.select v461 c1_i32_271 c2_i32_269
  let v463 : BitVec 32 := Scalar.remsi v444 v462
  let c0_i32_273 : BitVec 32 := 0#32
  let v465 : BitVec 1 := Scalar.cmpi .slt v463 c0_i32_273
  let c0_i32_274 : BitVec 32 := 0#32
  let v466 : BitVec 1 := Scalar.cmpi .slt v462 c0_i32_274
  let v467 : BitVec 1 := Scalar.xori v465 v466
  let c0_i32_272 : BitVec 32 := 0#32
  let v464 : BitVec 1 := Scalar.cmpi .ne v463 c0_i32_272
  let v468 : BitVec 1 := Scalar.andi v467 v464
  let v469 : BitVec 32 := Scalar.addi v463 v462
  let v470 : BitVec 32 := Scalar.select v468 v469 v463
  let c0_i32_275 : BitVec 32 := 0#32
  let v471 : BitVec 1 := Scalar.cmpi .eq v470 c0_i32_275
  let c1_i32_267 : BitVec 32 := 1#32
  let c4_i32_257 : BitVec 32 := 4#32
  let c0_i32_258 : BitVec 32 := 0#32
  let v445 : BitVec 1 := Scalar.cmpi .eq c4_i32_257 c0_i32_258
  let c1_i32_259 : BitVec 32 := 1#32
  let v446 : BitVec 32 := Scalar.select v445 c1_i32_259 c4_i32_257
  let v447 : BitVec 32 := Scalar.remsi v427 v446
  let c0_i32_261 : BitVec 32 := 0#32
  let v449 : BitVec 1 := Scalar.cmpi .slt v447 c0_i32_261
  let c0_i32_262 : BitVec 32 := 0#32
  let v450 : BitVec 1 := Scalar.cmpi .slt v446 c0_i32_262
  let v451 : BitVec 1 := Scalar.xori v449 v450
  let c0_i32_260 : BitVec 32 := 0#32
  let v448 : BitVec 1 := Scalar.cmpi .ne v447 c0_i32_260
  let v452 : BitVec 1 := Scalar.andi v451 v448
  let v453 : BitVec 32 := Scalar.addi v447 v446
  let v454 : BitVec 32 := Scalar.select v452 v453 v447
  let c1_i32_263 : BitVec 32 := 1#32
  let v455 : BitVec 1 := Scalar.cmpi .eq v454 c1_i32_263
  let c2_i32_264 : BitVec 32 := 2#32
  let v456 : BitVec 1 := Scalar.cmpi .eq v454 c2_i32_264
  let v457 : BitVec 1 := Scalar.ori v455 v456
  let c1_i32_265 : BitVec 32 := 1#32
  let c0_i32_266 : BitVec 32 := 0#32
  let v458 : BitVec 32 := Scalar.select v457 c1_i32_265 c0_i32_266
  let v459 : BitVec 32 := Scalar.subi c1_i32_267 v458
  let c1_i32_276 : BitVec 32 := 1#32
  let v472 : BitVec 32 := Scalar.subi c1_i32_276 v459
  let v473 : BitVec 32 := Scalar.select v471 v459 v472
  let v474 : BitVec 32 := Scalar.addi v460 v473
  let v476 : BitVec 32 := Scalar.addi v475 v474
  let c1_i32_288 : BitVec 32 := 1#32
  let v477 : BitVec 32 := Scalar.muli v476 c1_i32_288
  let v478 : BitVec 32 := Scalar.addi c0_i32_289 v477
  v478.toNat
def k0_dev9 (d0 : Dev nD) : Nat :=
  let c0_i32_392 : BitVec 32 := 0#32
  let c8_i32_346 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_301 : BitVec 32 := 0#32
  let v499 : BitVec 1 := Scalar.cmpi .sgt v2 c0_i32_301
  let v500 : BitVec 32 := Scalar.extui v499
  let c0_i32_302 : BitVec 32 := 0#32
  let v501 : BitVec 1 := Scalar.cmpi .slt v2 c0_i32_302
  let v502 : BitVec 32 := Scalar.extui v501
  let v503 : BitVec 32 := Scalar.subi v500 v502
  let c8_i32_300 : BitVec 32 := 8#32
  let c0_i32_303 : BitVec 32 := 0#32
  let v504 : BitVec 1 := Scalar.cmpi .sgt c8_i32_300 c0_i32_303
  let v505 : BitVec 32 := Scalar.extui v504
  let c0_i32_304 : BitVec 32 := 0#32
  let v506 : BitVec 1 := Scalar.cmpi .slt c8_i32_300 c0_i32_304
  let v507 : BitVec 32 := Scalar.extui v506
  let v508 : BitVec 32 := Scalar.subi v505 v507
  let v509 : BitVec 1 := Scalar.cmpi .ne v503 v508
  let v510 : BitVec 32 := Scalar.remsi v2 c8_i32_300
  let c0_i32_305 : BitVec 32 := 0#32
  let v511 : BitVec 1 := Scalar.cmpi .ne v510 c0_i32_305
  let v512 : BitVec 1 := Scalar.andi v509 v511
  let v498 : BitVec 32 := Scalar.divsi v2 c8_i32_300
  let c1_i32_306 : BitVec 32 := 1#32
  let v513 : BitVec 32 := Scalar.subi v498 c1_i32_306
  let v514 : BitVec 32 := Scalar.select v512 v513 v498
  let v582 : BitVec 32 := Scalar.muli c8_i32_346 v514
  let c2_i32_337 : BitVec 32 := 2#32
  let c8_i32_307 : BitVec 32 := 8#32
  let c0_i32_308 : BitVec 32 := 0#32
  let v515 : BitVec 1 := Scalar.cmpi .eq c8_i32_307 c0_i32_308
  let c1_i32_309 : BitVec 32 := 1#32
  let v516 : BitVec 32 := Scalar.select v515 c1_i32_309 c8_i32_307
  let v517 : BitVec 32 := Scalar.remsi v2 v516
  let c0_i32_311 : BitVec 32 := 0#32
  let v519 : BitVec 1 := Scalar.cmpi .slt v517 c0_i32_311
  let c0_i32_312 : BitVec 32 := 0#32
  let v520 : BitVec 1 := Scalar.cmpi .slt v516 c0_i32_312
  let v521 : BitVec 1 := Scalar.xori v519 v520
  let c0_i32_310 : BitVec 32 := 0#32
  let v518 : BitVec 1 := Scalar.cmpi .ne v517 c0_i32_310
  let v522 : BitVec 1 := Scalar.andi v521 v518
  let v523 : BitVec 32 := Scalar.addi v517 v516
  let v524 : BitVec 32 := Scalar.select v522 v523 v517
  let c0_i32_314 : BitVec 32 := 0#32
  let v526 : BitVec 1 := Scalar.cmpi .sgt v524 c0_i32_314
  let v527 : BitVec 32 := Scalar.extui v526
  let c0_i32_315 : BitVec 32 := 0#32
  let v528 : BitVec 1 := Scalar.cmpi .slt v524 c0_i32_315
  let v529 : BitVec 32 := Scalar.extui v528
  let v530 : BitVec 32 := Scalar.subi v527 v529
  let c2_i32_313 : BitVec 32 := 2#32
  let c0_i32_316 : BitVec 32 := 0#32
  let v531 : BitVec 1 := Scalar.cmpi .sgt c2_i32_313 c0_i32_316
  let v532 : BitVec 32 := Scalar.extui v531
  let c0_i32_317 : BitVec 32 := 0#32
  let v533 : BitVec 1 := Scalar.cmpi .slt c2_i32_313 c0_i32_317
  let v534 : BitVec 32 := Scalar.extui v533
  let v535 : BitVec 32 := Scalar.subi v532 v534
  let v536 : BitVec 1 := Scalar.cmpi .ne v530 v535
  let v537 : BitVec 32 := Scalar.remsi v524 c2_i32_313
  let c0_i32_318 : BitVec 32 := 0#32
  let v538 : BitVec 1 := Scalar.cmpi .ne v537 c0_i32_318
  let v539 : BitVec 1 := Scalar.andi v536 v538
  let v525 : BitVec 32 := Scalar.divsi v524 c2_i32_313
  let c1_i32_319 : BitVec 32 := 1#32
  let v540 : BitVec 32 := Scalar.subi v525 c1_i32_319
  let v541 : BitVec 32 := Scalar.select v539 v540 v525
  let c1_i32_330 : BitVec 32 := 1#32
  let v556 : BitVec 32 := Scalar.addi v541 c1_i32_330
  let c4_i32_331 : BitVec 32 := 4#32
  let c0_i32_332 : BitVec 32 := 0#32
  let v557 : BitVec 1 := Scalar.cmpi .eq c4_i32_331 c0_i32_332
  let c1_i32_333 : BitVec 32 := 1#32
  let v558 : BitVec 32 := Scalar.select v557 c1_i32_333 c4_i32_331
  let v559 : BitVec 32 := Scalar.remsi v556 v558
  let c0_i32_335 : BitVec 32 := 0#32
  let v561 : BitVec 1 := Scalar.cmpi .slt v559 c0_i32_335
  let c0_i32_336 : BitVec 32 := 0#32
  let v562 : BitVec 1 := Scalar.cmpi .slt v558 c0_i32_336
  let v563 : BitVec 1 := Scalar.xori v561 v562
  let c0_i32_334 : BitVec 32 := 0#32
  let v560 : BitVec 1 := Scalar.cmpi .ne v559 c0_i32_334
  let v564 : BitVec 1 := Scalar.andi v563 v560
  let v565 : BitVec 32 := Scalar.addi v559 v558
  let v566 : BitVec 32 := Scalar.select v564 v565 v559
  let v567 : BitVec 32 := Scalar.muli c2_i32_337 v566
  let c2_i32_338 : BitVec 32 := 2#32
  let c0_i32_339 : BitVec 32 := 0#32
  let v568 : BitVec 1 := Scalar.cmpi .eq c2_i32_338 c0_i32_339
  let c1_i32_340 : BitVec 32 := 1#32
  let v569 : BitVec 32 := Scalar.select v568 c1_i32_340 c2_i32_338
  let v570 : BitVec 32 := Scalar.remsi v566 v569
  let c0_i32_342 : BitVec 32 := 0#32
  let v572 : BitVec 1 := Scalar.cmpi .slt v570 c0_i32_342
  let c0_i32_343 : BitVec 32 := 0#32
  let v573 : BitVec 1 := Scalar.cmpi .slt v569 c0_i32_343
  let v574 : BitVec 1 := Scalar.xori v572 v573
  let c0_i32_341 : BitVec 32 := 0#32
  let v571 : BitVec 1 := Scalar.cmpi .ne v570 c0_i32_341
  let v575 : BitVec 1 := Scalar.andi v574 v571
  let v576 : BitVec 32 := Scalar.addi v570 v569
  let v577 : BitVec 32 := Scalar.select v575 v576 v570
  let c0_i32_344 : BitVec 32 := 0#32
  let v578 : BitVec 1 := Scalar.cmpi .eq v577 c0_i32_344
  let c4_i32_320 : BitVec 32 := 4#32
  let c0_i32_321 : BitVec 32 := 0#32
  let v542 : BitVec 1 := Scalar.cmpi .eq c4_i32_320 c0_i32_321
  let c1_i32_322 : BitVec 32 := 1#32
  let v543 : BitVec 32 := Scalar.select v542 c1_i32_322 c4_i32_320
  let v544 : BitVec 32 := Scalar.remsi v524 v543
  let c0_i32_324 : BitVec 32 := 0#32
  let v546 : BitVec 1 := Scalar.cmpi .slt v544 c0_i32_324
  let c0_i32_325 : BitVec 32 := 0#32
  let v547 : BitVec 1 := Scalar.cmpi .slt v543 c0_i32_325
  let v548 : BitVec 1 := Scalar.xori v546 v547
  let c0_i32_323 : BitVec 32 := 0#32
  let v545 : BitVec 1 := Scalar.cmpi .ne v544 c0_i32_323
  let v549 : BitVec 1 := Scalar.andi v548 v545
  let v550 : BitVec 32 := Scalar.addi v544 v543
  let v551 : BitVec 32 := Scalar.select v549 v550 v544
  let c1_i32_326 : BitVec 32 := 1#32
  let v552 : BitVec 1 := Scalar.cmpi .eq v551 c1_i32_326
  let c2_i32_327 : BitVec 32 := 2#32
  let v553 : BitVec 1 := Scalar.cmpi .eq v551 c2_i32_327
  let v554 : BitVec 1 := Scalar.ori v552 v553
  let c1_i32_328 : BitVec 32 := 1#32
  let c0_i32_329 : BitVec 32 := 0#32
  let v555 : BitVec 32 := Scalar.select v554 c1_i32_328 c0_i32_329
  let c1_i32_345 : BitVec 32 := 1#32
  let v579 : BitVec 32 := Scalar.subi c1_i32_345 v555
  let v580 : BitVec 32 := Scalar.select v578 v555 v579
  let v581 : BitVec 32 := Scalar.addi v567 v580
  let v583 : BitVec 32 := Scalar.addi v582 v581
  let c1_i32_391 : BitVec 32 := 1#32
  let v640 : BitVec 32 := Scalar.muli v583 c1_i32_391
  let v641 : BitVec 32 := Scalar.addi c0_i32_392 v640
  v641.toNat
def k0_dev10 (d0 : Dev nD) : Nat :=
  let c0_i32_408 : BitVec 32 := 0#32
  let c8_i32_363 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_301 : BitVec 32 := 0#32
  let v499 : BitVec 1 := Scalar.cmpi .sgt v2 c0_i32_301
  let v500 : BitVec 32 := Scalar.extui v499
  let c0_i32_302 : BitVec 32 := 0#32
  let v501 : BitVec 1 := Scalar.cmpi .slt v2 c0_i32_302
  let v502 : BitVec 32 := Scalar.extui v501
  let v503 : BitVec 32 := Scalar.subi v500 v502
  let c8_i32_300 : BitVec 32 := 8#32
  let c0_i32_303 : BitVec 32 := 0#32
  let v504 : BitVec 1 := Scalar.cmpi .sgt c8_i32_300 c0_i32_303
  let v505 : BitVec 32 := Scalar.extui v504
  let c0_i32_304 : BitVec 32 := 0#32
  let v506 : BitVec 1 := Scalar.cmpi .slt c8_i32_300 c0_i32_304
  let v507 : BitVec 32 := Scalar.extui v506
  let v508 : BitVec 32 := Scalar.subi v505 v507
  let v509 : BitVec 1 := Scalar.cmpi .ne v503 v508
  let v510 : BitVec 32 := Scalar.remsi v2 c8_i32_300
  let c0_i32_305 : BitVec 32 := 0#32
  let v511 : BitVec 1 := Scalar.cmpi .ne v510 c0_i32_305
  let v512 : BitVec 1 := Scalar.andi v509 v511
  let v498 : BitVec 32 := Scalar.divsi v2 c8_i32_300
  let c1_i32_306 : BitVec 32 := 1#32
  let v513 : BitVec 32 := Scalar.subi v498 c1_i32_306
  let v514 : BitVec 32 := Scalar.select v512 v513 v498
  let v610 : BitVec 32 := Scalar.muli c8_i32_363 v514
  let c2_i32_354 : BitVec 32 := 2#32
  let c8_i32_307 : BitVec 32 := 8#32
  let c0_i32_308 : BitVec 32 := 0#32
  let v515 : BitVec 1 := Scalar.cmpi .eq c8_i32_307 c0_i32_308
  let c1_i32_309 : BitVec 32 := 1#32
  let v516 : BitVec 32 := Scalar.select v515 c1_i32_309 c8_i32_307
  let v517 : BitVec 32 := Scalar.remsi v2 v516
  let c0_i32_311 : BitVec 32 := 0#32
  let v519 : BitVec 1 := Scalar.cmpi .slt v517 c0_i32_311
  let c0_i32_312 : BitVec 32 := 0#32
  let v520 : BitVec 1 := Scalar.cmpi .slt v516 c0_i32_312
  let v521 : BitVec 1 := Scalar.xori v519 v520
  let c0_i32_310 : BitVec 32 := 0#32
  let v518 : BitVec 1 := Scalar.cmpi .ne v517 c0_i32_310
  let v522 : BitVec 1 := Scalar.andi v521 v518
  let v523 : BitVec 32 := Scalar.addi v517 v516
  let v524 : BitVec 32 := Scalar.select v522 v523 v517
  let c0_i32_314 : BitVec 32 := 0#32
  let v526 : BitVec 1 := Scalar.cmpi .sgt v524 c0_i32_314
  let v527 : BitVec 32 := Scalar.extui v526
  let c0_i32_315 : BitVec 32 := 0#32
  let v528 : BitVec 1 := Scalar.cmpi .slt v524 c0_i32_315
  let v529 : BitVec 32 := Scalar.extui v528
  let v530 : BitVec 32 := Scalar.subi v527 v529
  let c2_i32_313 : BitVec 32 := 2#32
  let c0_i32_316 : BitVec 32 := 0#32
  let v531 : BitVec 1 := Scalar.cmpi .sgt c2_i32_313 c0_i32_316
  let v532 : BitVec 32 := Scalar.extui v531
  let c0_i32_317 : BitVec 32 := 0#32
  let v533 : BitVec 1 := Scalar.cmpi .slt c2_i32_313 c0_i32_317
  let v534 : BitVec 32 := Scalar.extui v533
  let v535 : BitVec 32 := Scalar.subi v532 v534
  let v536 : BitVec 1 := Scalar.cmpi .ne v530 v535
  let v537 : BitVec 32 := Scalar.remsi v524 c2_i32_313
  let c0_i32_318 : BitVec 32 := 0#32
  let v538 : BitVec 1 := Scalar.cmpi .ne v537 c0_i32_318
  let v539 : BitVec 1 := Scalar.andi v536 v538
  let v525 : BitVec 32 := Scalar.divsi v524 c2_i32_313
  let c1_i32_319 : BitVec 32 := 1#32
  let v540 : BitVec 32 := Scalar.subi v525 c1_i32_319
  let v541 : BitVec 32 := Scalar.select v539 v540 v525
  let c2_i32_347 : BitVec 32 := 2#32
  let v584 : BitVec 32 := Scalar.addi v541 c2_i32_347
  let c4_i32_348 : BitVec 32 := 4#32
  let c0_i32_349 : BitVec 32 := 0#32
  let v585 : BitVec 1 := Scalar.cmpi .eq c4_i32_348 c0_i32_349
  let c1_i32_350 : BitVec 32 := 1#32
  let v586 : BitVec 32 := Scalar.select v585 c1_i32_350 c4_i32_348
  let v587 : BitVec 32 := Scalar.remsi v584 v586
  let c0_i32_352 : BitVec 32 := 0#32
  let v589 : BitVec 1 := Scalar.cmpi .slt v587 c0_i32_352
  let c0_i32_353 : BitVec 32 := 0#32
  let v590 : BitVec 1 := Scalar.cmpi .slt v586 c0_i32_353
  let v591 : BitVec 1 := Scalar.xori v589 v590
  let c0_i32_351 : BitVec 32 := 0#32
  let v588 : BitVec 1 := Scalar.cmpi .ne v587 c0_i32_351
  let v592 : BitVec 1 := Scalar.andi v591 v588
  let v593 : BitVec 32 := Scalar.addi v587 v586
  let v594 : BitVec 32 := Scalar.select v592 v593 v587
  let v595 : BitVec 32 := Scalar.muli c2_i32_354 v594
  let c2_i32_355 : BitVec 32 := 2#32
  let c0_i32_356 : BitVec 32 := 0#32
  let v596 : BitVec 1 := Scalar.cmpi .eq c2_i32_355 c0_i32_356
  let c1_i32_357 : BitVec 32 := 1#32
  let v597 : BitVec 32 := Scalar.select v596 c1_i32_357 c2_i32_355
  let v598 : BitVec 32 := Scalar.remsi v594 v597
  let c0_i32_359 : BitVec 32 := 0#32
  let v600 : BitVec 1 := Scalar.cmpi .slt v598 c0_i32_359
  let c0_i32_360 : BitVec 32 := 0#32
  let v601 : BitVec 1 := Scalar.cmpi .slt v597 c0_i32_360
  let v602 : BitVec 1 := Scalar.xori v600 v601
  let c0_i32_358 : BitVec 32 := 0#32
  let v599 : BitVec 1 := Scalar.cmpi .ne v598 c0_i32_358
  let v603 : BitVec 1 := Scalar.andi v602 v599
  let v604 : BitVec 32 := Scalar.addi v598 v597
  let v605 : BitVec 32 := Scalar.select v603 v604 v598
  let c0_i32_361 : BitVec 32 := 0#32
  let v606 : BitVec 1 := Scalar.cmpi .eq v605 c0_i32_361
  let c4_i32_320 : BitVec 32 := 4#32
  let c0_i32_321 : BitVec 32 := 0#32
  let v542 : BitVec 1 := Scalar.cmpi .eq c4_i32_320 c0_i32_321
  let c1_i32_322 : BitVec 32 := 1#32
  let v543 : BitVec 32 := Scalar.select v542 c1_i32_322 c4_i32_320
  let v544 : BitVec 32 := Scalar.remsi v524 v543
  let c0_i32_324 : BitVec 32 := 0#32
  let v546 : BitVec 1 := Scalar.cmpi .slt v544 c0_i32_324
  let c0_i32_325 : BitVec 32 := 0#32
  let v547 : BitVec 1 := Scalar.cmpi .slt v543 c0_i32_325
  let v548 : BitVec 1 := Scalar.xori v546 v547
  let c0_i32_323 : BitVec 32 := 0#32
  let v545 : BitVec 1 := Scalar.cmpi .ne v544 c0_i32_323
  let v549 : BitVec 1 := Scalar.andi v548 v545
  let v550 : BitVec 32 := Scalar.addi v544 v543
  let v551 : BitVec 32 := Scalar.select v549 v550 v544
  let c1_i32_326 : BitVec 32 := 1#32
  let v552 : BitVec 1 := Scalar.cmpi .eq v551 c1_i32_326
  let c2_i32_327 : BitVec 32 := 2#32
  let v553 : BitVec 1 := Scalar.cmpi .eq v551 c2_i32_327
  let v554 : BitVec 1 := Scalar.ori v552 v553
  let c1_i32_328 : BitVec 32 := 1#32
  let c0_i32_329 : BitVec 32 := 0#32
  let v555 : BitVec 32 := Scalar.select v554 c1_i32_328 c0_i32_329
  let c1_i32_362 : BitVec 32 := 1#32
  let v607 : BitVec 32 := Scalar.subi c1_i32_362 v555
  let v608 : BitVec 32 := Scalar.select v606 v555 v607
  let v609 : BitVec 32 := Scalar.addi v595 v608
  let v611 : BitVec 32 := Scalar.addi v610 v609
  let c1_i32_407 : BitVec 32 := 1#32
  let v650 : BitVec 32 := Scalar.muli v611 c1_i32_407
  let v651 : BitVec 32 := Scalar.addi c0_i32_408 v650
  v651.toNat
def k0_dev11 (d0 : Dev nD) : Nat :=
  let c0_i32_424 : BitVec 32 := 0#32
  let c8_i32_380 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_301 : BitVec 32 := 0#32
  let v499 : BitVec 1 := Scalar.cmpi .sgt v2 c0_i32_301
  let v500 : BitVec 32 := Scalar.extui v499
  let c0_i32_302 : BitVec 32 := 0#32
  let v501 : BitVec 1 := Scalar.cmpi .slt v2 c0_i32_302
  let v502 : BitVec 32 := Scalar.extui v501
  let v503 : BitVec 32 := Scalar.subi v500 v502
  let c8_i32_300 : BitVec 32 := 8#32
  let c0_i32_303 : BitVec 32 := 0#32
  let v504 : BitVec 1 := Scalar.cmpi .sgt c8_i32_300 c0_i32_303
  let v505 : BitVec 32 := Scalar.extui v504
  let c0_i32_304 : BitVec 32 := 0#32
  let v506 : BitVec 1 := Scalar.cmpi .slt c8_i32_300 c0_i32_304
  let v507 : BitVec 32 := Scalar.extui v506
  let v508 : BitVec 32 := Scalar.subi v505 v507
  let v509 : BitVec 1 := Scalar.cmpi .ne v503 v508
  let v510 : BitVec 32 := Scalar.remsi v2 c8_i32_300
  let c0_i32_305 : BitVec 32 := 0#32
  let v511 : BitVec 1 := Scalar.cmpi .ne v510 c0_i32_305
  let v512 : BitVec 1 := Scalar.andi v509 v511
  let v498 : BitVec 32 := Scalar.divsi v2 c8_i32_300
  let c1_i32_306 : BitVec 32 := 1#32
  let v513 : BitVec 32 := Scalar.subi v498 c1_i32_306
  let v514 : BitVec 32 := Scalar.select v512 v513 v498
  let v638 : BitVec 32 := Scalar.muli c8_i32_380 v514
  let c2_i32_371 : BitVec 32 := 2#32
  let c8_i32_307 : BitVec 32 := 8#32
  let c0_i32_308 : BitVec 32 := 0#32
  let v515 : BitVec 1 := Scalar.cmpi .eq c8_i32_307 c0_i32_308
  let c1_i32_309 : BitVec 32 := 1#32
  let v516 : BitVec 32 := Scalar.select v515 c1_i32_309 c8_i32_307
  let v517 : BitVec 32 := Scalar.remsi v2 v516
  let c0_i32_311 : BitVec 32 := 0#32
  let v519 : BitVec 1 := Scalar.cmpi .slt v517 c0_i32_311
  let c0_i32_312 : BitVec 32 := 0#32
  let v520 : BitVec 1 := Scalar.cmpi .slt v516 c0_i32_312
  let v521 : BitVec 1 := Scalar.xori v519 v520
  let c0_i32_310 : BitVec 32 := 0#32
  let v518 : BitVec 1 := Scalar.cmpi .ne v517 c0_i32_310
  let v522 : BitVec 1 := Scalar.andi v521 v518
  let v523 : BitVec 32 := Scalar.addi v517 v516
  let v524 : BitVec 32 := Scalar.select v522 v523 v517
  let c0_i32_314 : BitVec 32 := 0#32
  let v526 : BitVec 1 := Scalar.cmpi .sgt v524 c0_i32_314
  let v527 : BitVec 32 := Scalar.extui v526
  let c0_i32_315 : BitVec 32 := 0#32
  let v528 : BitVec 1 := Scalar.cmpi .slt v524 c0_i32_315
  let v529 : BitVec 32 := Scalar.extui v528
  let v530 : BitVec 32 := Scalar.subi v527 v529
  let c2_i32_313 : BitVec 32 := 2#32
  let c0_i32_316 : BitVec 32 := 0#32
  let v531 : BitVec 1 := Scalar.cmpi .sgt c2_i32_313 c0_i32_316
  let v532 : BitVec 32 := Scalar.extui v531
  let c0_i32_317 : BitVec 32 := 0#32
  let v533 : BitVec 1 := Scalar.cmpi .slt c2_i32_313 c0_i32_317
  let v534 : BitVec 32 := Scalar.extui v533
  let v535 : BitVec 32 := Scalar.subi v532 v534
  let v536 : BitVec 1 := Scalar.cmpi .ne v530 v535
  let v537 : BitVec 32 := Scalar.remsi v524 c2_i32_313
  let c0_i32_318 : BitVec 32 := 0#32
  let v538 : BitVec 1 := Scalar.cmpi .ne v537 c0_i32_318
  let v539 : BitVec 1 := Scalar.andi v536 v538
  let v525 : BitVec 32 := Scalar.divsi v524 c2_i32_313
  let c1_i32_319 : BitVec 32 := 1#32
  let v540 : BitVec 32 := Scalar.subi v525 c1_i32_319
  let v541 : BitVec 32 := Scalar.select v539 v540 v525
  let c3_i32_364 : BitVec 32 := 3#32
  let v612 : BitVec 32 := Scalar.addi v541 c3_i32_364
  let c4_i32_365 : BitVec 32 := 4#32
  let c0_i32_366 : BitVec 32 := 0#32
  let v613 : BitVec 1 := Scalar.cmpi .eq c4_i32_365 c0_i32_366
  let c1_i32_367 : BitVec 32 := 1#32
  let v614 : BitVec 32 := Scalar.select v613 c1_i32_367 c4_i32_365
  let v615 : BitVec 32 := Scalar.remsi v612 v614
  let c0_i32_369 : BitVec 32 := 0#32
  let v617 : BitVec 1 := Scalar.cmpi .slt v615 c0_i32_369
  let c0_i32_370 : BitVec 32 := 0#32
  let v618 : BitVec 1 := Scalar.cmpi .slt v614 c0_i32_370
  let v619 : BitVec 1 := Scalar.xori v617 v618
  let c0_i32_368 : BitVec 32 := 0#32
  let v616 : BitVec 1 := Scalar.cmpi .ne v615 c0_i32_368
  let v620 : BitVec 1 := Scalar.andi v619 v616
  let v621 : BitVec 32 := Scalar.addi v615 v614
  let v622 : BitVec 32 := Scalar.select v620 v621 v615
  let v623 : BitVec 32 := Scalar.muli c2_i32_371 v622
  let c2_i32_372 : BitVec 32 := 2#32
  let c0_i32_373 : BitVec 32 := 0#32
  let v624 : BitVec 1 := Scalar.cmpi .eq c2_i32_372 c0_i32_373
  let c1_i32_374 : BitVec 32 := 1#32
  let v625 : BitVec 32 := Scalar.select v624 c1_i32_374 c2_i32_372
  let v626 : BitVec 32 := Scalar.remsi v622 v625
  let c0_i32_376 : BitVec 32 := 0#32
  let v628 : BitVec 1 := Scalar.cmpi .slt v626 c0_i32_376
  let c0_i32_377 : BitVec 32 := 0#32
  let v629 : BitVec 1 := Scalar.cmpi .slt v625 c0_i32_377
  let v630 : BitVec 1 := Scalar.xori v628 v629
  let c0_i32_375 : BitVec 32 := 0#32
  let v627 : BitVec 1 := Scalar.cmpi .ne v626 c0_i32_375
  let v631 : BitVec 1 := Scalar.andi v630 v627
  let v632 : BitVec 32 := Scalar.addi v626 v625
  let v633 : BitVec 32 := Scalar.select v631 v632 v626
  let c0_i32_378 : BitVec 32 := 0#32
  let v634 : BitVec 1 := Scalar.cmpi .eq v633 c0_i32_378
  let c4_i32_320 : BitVec 32 := 4#32
  let c0_i32_321 : BitVec 32 := 0#32
  let v542 : BitVec 1 := Scalar.cmpi .eq c4_i32_320 c0_i32_321
  let c1_i32_322 : BitVec 32 := 1#32
  let v543 : BitVec 32 := Scalar.select v542 c1_i32_322 c4_i32_320
  let v544 : BitVec 32 := Scalar.remsi v524 v543
  let c0_i32_324 : BitVec 32 := 0#32
  let v546 : BitVec 1 := Scalar.cmpi .slt v544 c0_i32_324
  let c0_i32_325 : BitVec 32 := 0#32
  let v547 : BitVec 1 := Scalar.cmpi .slt v543 c0_i32_325
  let v548 : BitVec 1 := Scalar.xori v546 v547
  let c0_i32_323 : BitVec 32 := 0#32
  let v545 : BitVec 1 := Scalar.cmpi .ne v544 c0_i32_323
  let v549 : BitVec 1 := Scalar.andi v548 v545
  let v550 : BitVec 32 := Scalar.addi v544 v543
  let v551 : BitVec 32 := Scalar.select v549 v550 v544
  let c1_i32_326 : BitVec 32 := 1#32
  let v552 : BitVec 1 := Scalar.cmpi .eq v551 c1_i32_326
  let c2_i32_327 : BitVec 32 := 2#32
  let v553 : BitVec 1 := Scalar.cmpi .eq v551 c2_i32_327
  let v554 : BitVec 1 := Scalar.ori v552 v553
  let c1_i32_328 : BitVec 32 := 1#32
  let c0_i32_329 : BitVec 32 := 0#32
  let v555 : BitVec 32 := Scalar.select v554 c1_i32_328 c0_i32_329
  let c1_i32_379 : BitVec 32 := 1#32
  let v635 : BitVec 32 := Scalar.subi c1_i32_379 v555
  let v636 : BitVec 32 := Scalar.select v634 v555 v635
  let v637 : BitVec 32 := Scalar.addi v623 v636
  let v639 : BitVec 32 := Scalar.addi v638 v637
  let c1_i32_423 : BitVec 32 := 1#32
  let v660 : BitVec 32 := Scalar.muli v639 c1_i32_423
  let v661 : BitVec 32 := Scalar.addi c0_i32_424 v660
  v661.toNat
def k0_dev12 (d0 : Dev nD) : Nat :=
  let c0_i32_527 : BitVec 32 := 0#32
  let c8_i32_481 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_436 : BitVec 32 := 0#32
  let v682 : BitVec 1 := Scalar.cmpi .sgt v2 c0_i32_436
  let v683 : BitVec 32 := Scalar.extui v682
  let c0_i32_437 : BitVec 32 := 0#32
  let v684 : BitVec 1 := Scalar.cmpi .slt v2 c0_i32_437
  let v685 : BitVec 32 := Scalar.extui v684
  let v686 : BitVec 32 := Scalar.subi v683 v685
  let c8_i32_435 : BitVec 32 := 8#32
  let c0_i32_438 : BitVec 32 := 0#32
  let v687 : BitVec 1 := Scalar.cmpi .sgt c8_i32_435 c0_i32_438
  let v688 : BitVec 32 := Scalar.extui v687
  let c0_i32_439 : BitVec 32 := 0#32
  let v689 : BitVec 1 := Scalar.cmpi .slt c8_i32_435 c0_i32_439
  let v690 : BitVec 32 := Scalar.extui v689
  let v691 : BitVec 32 := Scalar.subi v688 v690
  let v692 : BitVec 1 := Scalar.cmpi .ne v686 v691
  let v693 : BitVec 32 := Scalar.remsi v2 c8_i32_435
  let c0_i32_440 : BitVec 32 := 0#32
  let v694 : BitVec 1 := Scalar.cmpi .ne v693 c0_i32_440
  let v695 : BitVec 1 := Scalar.andi v692 v694
  let v681 : BitVec 32 := Scalar.divsi v2 c8_i32_435
  let c1_i32_441 : BitVec 32 := 1#32
  let v696 : BitVec 32 := Scalar.subi v681 c1_i32_441
  let v697 : BitVec 32 := Scalar.select v695 v696 v681
  let c1_i32_465 : BitVec 32 := 1#32
  let v739 : BitVec 32 := Scalar.addi v697 c1_i32_465
  let c4_i32_466 : BitVec 32 := 4#32
  let c0_i32_467 : BitVec 32 := 0#32
  let v740 : BitVec 1 := Scalar.cmpi .eq c4_i32_466 c0_i32_467
  let c1_i32_468 : BitVec 32 := 1#32
  let v741 : BitVec 32 := Scalar.select v740 c1_i32_468 c4_i32_466
  let v742 : BitVec 32 := Scalar.remsi v739 v741
  let c0_i32_470 : BitVec 32 := 0#32
  let v744 : BitVec 1 := Scalar.cmpi .slt v742 c0_i32_470
  let c0_i32_471 : BitVec 32 := 0#32
  let v745 : BitVec 1 := Scalar.cmpi .slt v741 c0_i32_471
  let v746 : BitVec 1 := Scalar.xori v744 v745
  let c0_i32_469 : BitVec 32 := 0#32
  let v743 : BitVec 1 := Scalar.cmpi .ne v742 c0_i32_469
  let v747 : BitVec 1 := Scalar.andi v746 v743
  let v748 : BitVec 32 := Scalar.addi v742 v741
  let v749 : BitVec 32 := Scalar.select v747 v748 v742
  let v765 : BitVec 32 := Scalar.muli c8_i32_481 v749
  let c2_i32_472 : BitVec 32 := 2#32
  let c8_i32_442 : BitVec 32 := 8#32
  let c0_i32_443 : BitVec 32 := 0#32
  let v698 : BitVec 1 := Scalar.cmpi .eq c8_i32_442 c0_i32_443
  let c1_i32_444 : BitVec 32 := 1#32
  let v699 : BitVec 32 := Scalar.select v698 c1_i32_444 c8_i32_442
  let v700 : BitVec 32 := Scalar.remsi v2 v699
  let c0_i32_446 : BitVec 32 := 0#32
  let v702 : BitVec 1 := Scalar.cmpi .slt v700 c0_i32_446
  let c0_i32_447 : BitVec 32 := 0#32
  let v703 : BitVec 1 := Scalar.cmpi .slt v699 c0_i32_447
  let v704 : BitVec 1 := Scalar.xori v702 v703
  let c0_i32_445 : BitVec 32 := 0#32
  let v701 : BitVec 1 := Scalar.cmpi .ne v700 c0_i32_445
  let v705 : BitVec 1 := Scalar.andi v704 v701
  let v706 : BitVec 32 := Scalar.addi v700 v699
  let v707 : BitVec 32 := Scalar.select v705 v706 v700
  let c0_i32_449 : BitVec 32 := 0#32
  let v709 : BitVec 1 := Scalar.cmpi .sgt v707 c0_i32_449
  let v710 : BitVec 32 := Scalar.extui v709
  let c0_i32_450 : BitVec 32 := 0#32
  let v711 : BitVec 1 := Scalar.cmpi .slt v707 c0_i32_450
  let v712 : BitVec 32 := Scalar.extui v711
  let v713 : BitVec 32 := Scalar.subi v710 v712
  let c2_i32_448 : BitVec 32 := 2#32
  let c0_i32_451 : BitVec 32 := 0#32
  let v714 : BitVec 1 := Scalar.cmpi .sgt c2_i32_448 c0_i32_451
  let v715 : BitVec 32 := Scalar.extui v714
  let c0_i32_452 : BitVec 32 := 0#32
  let v716 : BitVec 1 := Scalar.cmpi .slt c2_i32_448 c0_i32_452
  let v717 : BitVec 32 := Scalar.extui v716
  let v718 : BitVec 32 := Scalar.subi v715 v717
  let v719 : BitVec 1 := Scalar.cmpi .ne v713 v718
  let v720 : BitVec 32 := Scalar.remsi v707 c2_i32_448
  let c0_i32_453 : BitVec 32 := 0#32
  let v721 : BitVec 1 := Scalar.cmpi .ne v720 c0_i32_453
  let v722 : BitVec 1 := Scalar.andi v719 v721
  let v708 : BitVec 32 := Scalar.divsi v707 c2_i32_448
  let c1_i32_454 : BitVec 32 := 1#32
  let v723 : BitVec 32 := Scalar.subi v708 c1_i32_454
  let v724 : BitVec 32 := Scalar.select v722 v723 v708
  let v750 : BitVec 32 := Scalar.muli c2_i32_472 v724
  let c2_i32_473 : BitVec 32 := 2#32
  let c0_i32_474 : BitVec 32 := 0#32
  let v751 : BitVec 1 := Scalar.cmpi .eq c2_i32_473 c0_i32_474
  let c1_i32_475 : BitVec 32 := 1#32
  let v752 : BitVec 32 := Scalar.select v751 c1_i32_475 c2_i32_473
  let v753 : BitVec 32 := Scalar.remsi v724 v752
  let c0_i32_477 : BitVec 32 := 0#32
  let v755 : BitVec 1 := Scalar.cmpi .slt v753 c0_i32_477
  let c0_i32_478 : BitVec 32 := 0#32
  let v756 : BitVec 1 := Scalar.cmpi .slt v752 c0_i32_478
  let v757 : BitVec 1 := Scalar.xori v755 v756
  let c0_i32_476 : BitVec 32 := 0#32
  let v754 : BitVec 1 := Scalar.cmpi .ne v753 c0_i32_476
  let v758 : BitVec 1 := Scalar.andi v757 v754
  let v759 : BitVec 32 := Scalar.addi v753 v752
  let v760 : BitVec 32 := Scalar.select v758 v759 v753
  let c0_i32_479 : BitVec 32 := 0#32
  let v761 : BitVec 1 := Scalar.cmpi .eq v760 c0_i32_479
  let c4_i32_455 : BitVec 32 := 4#32
  let c0_i32_456 : BitVec 32 := 0#32
  let v725 : BitVec 1 := Scalar.cmpi .eq c4_i32_455 c0_i32_456
  let c1_i32_457 : BitVec 32 := 1#32
  let v726 : BitVec 32 := Scalar.select v725 c1_i32_457 c4_i32_455
  let v727 : BitVec 32 := Scalar.remsi v707 v726
  let c0_i32_459 : BitVec 32 := 0#32
  let v729 : BitVec 1 := Scalar.cmpi .slt v727 c0_i32_459
  let c0_i32_460 : BitVec 32 := 0#32
  let v730 : BitVec 1 := Scalar.cmpi .slt v726 c0_i32_460
  let v731 : BitVec 1 := Scalar.xori v729 v730
  let c0_i32_458 : BitVec 32 := 0#32
  let v728 : BitVec 1 := Scalar.cmpi .ne v727 c0_i32_458
  let v732 : BitVec 1 := Scalar.andi v731 v728
  let v733 : BitVec 32 := Scalar.addi v727 v726
  let v734 : BitVec 32 := Scalar.select v732 v733 v727
  let c1_i32_461 : BitVec 32 := 1#32
  let v735 : BitVec 1 := Scalar.cmpi .eq v734 c1_i32_461
  let c2_i32_462 : BitVec 32 := 2#32
  let v736 : BitVec 1 := Scalar.cmpi .eq v734 c2_i32_462
  let v737 : BitVec 1 := Scalar.ori v735 v736
  let c1_i32_463 : BitVec 32 := 1#32
  let c0_i32_464 : BitVec 32 := 0#32
  let v738 : BitVec 32 := Scalar.select v737 c1_i32_463 c0_i32_464
  let c1_i32_480 : BitVec 32 := 1#32
  let v762 : BitVec 32 := Scalar.subi c1_i32_480 v738
  let v763 : BitVec 32 := Scalar.select v761 v738 v762
  let v764 : BitVec 32 := Scalar.addi v750 v763
  let v766 : BitVec 32 := Scalar.addi v765 v764
  let c1_i32_526 : BitVec 32 := 1#32
  let v823 : BitVec 32 := Scalar.muli v766 c1_i32_526
  let v824 : BitVec 32 := Scalar.addi c0_i32_527 v823
  v824.toNat
def k0_dev13 (d0 : Dev nD) : Nat :=
  let c0_i32_543 : BitVec 32 := 0#32
  let c8_i32_498 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_436 : BitVec 32 := 0#32
  let v682 : BitVec 1 := Scalar.cmpi .sgt v2 c0_i32_436
  let v683 : BitVec 32 := Scalar.extui v682
  let c0_i32_437 : BitVec 32 := 0#32
  let v684 : BitVec 1 := Scalar.cmpi .slt v2 c0_i32_437
  let v685 : BitVec 32 := Scalar.extui v684
  let v686 : BitVec 32 := Scalar.subi v683 v685
  let c8_i32_435 : BitVec 32 := 8#32
  let c0_i32_438 : BitVec 32 := 0#32
  let v687 : BitVec 1 := Scalar.cmpi .sgt c8_i32_435 c0_i32_438
  let v688 : BitVec 32 := Scalar.extui v687
  let c0_i32_439 : BitVec 32 := 0#32
  let v689 : BitVec 1 := Scalar.cmpi .slt c8_i32_435 c0_i32_439
  let v690 : BitVec 32 := Scalar.extui v689
  let v691 : BitVec 32 := Scalar.subi v688 v690
  let v692 : BitVec 1 := Scalar.cmpi .ne v686 v691
  let v693 : BitVec 32 := Scalar.remsi v2 c8_i32_435
  let c0_i32_440 : BitVec 32 := 0#32
  let v694 : BitVec 1 := Scalar.cmpi .ne v693 c0_i32_440
  let v695 : BitVec 1 := Scalar.andi v692 v694
  let v681 : BitVec 32 := Scalar.divsi v2 c8_i32_435
  let c1_i32_441 : BitVec 32 := 1#32
  let v696 : BitVec 32 := Scalar.subi v681 c1_i32_441
  let v697 : BitVec 32 := Scalar.select v695 v696 v681
  let c2_i32_482 : BitVec 32 := 2#32
  let v767 : BitVec 32 := Scalar.addi v697 c2_i32_482
  let c4_i32_483 : BitVec 32 := 4#32
  let c0_i32_484 : BitVec 32 := 0#32
  let v768 : BitVec 1 := Scalar.cmpi .eq c4_i32_483 c0_i32_484
  let c1_i32_485 : BitVec 32 := 1#32
  let v769 : BitVec 32 := Scalar.select v768 c1_i32_485 c4_i32_483
  let v770 : BitVec 32 := Scalar.remsi v767 v769
  let c0_i32_487 : BitVec 32 := 0#32
  let v772 : BitVec 1 := Scalar.cmpi .slt v770 c0_i32_487
  let c0_i32_488 : BitVec 32 := 0#32
  let v773 : BitVec 1 := Scalar.cmpi .slt v769 c0_i32_488
  let v774 : BitVec 1 := Scalar.xori v772 v773
  let c0_i32_486 : BitVec 32 := 0#32
  let v771 : BitVec 1 := Scalar.cmpi .ne v770 c0_i32_486
  let v775 : BitVec 1 := Scalar.andi v774 v771
  let v776 : BitVec 32 := Scalar.addi v770 v769
  let v777 : BitVec 32 := Scalar.select v775 v776 v770
  let v793 : BitVec 32 := Scalar.muli c8_i32_498 v777
  let c2_i32_489 : BitVec 32 := 2#32
  let c8_i32_442 : BitVec 32 := 8#32
  let c0_i32_443 : BitVec 32 := 0#32
  let v698 : BitVec 1 := Scalar.cmpi .eq c8_i32_442 c0_i32_443
  let c1_i32_444 : BitVec 32 := 1#32
  let v699 : BitVec 32 := Scalar.select v698 c1_i32_444 c8_i32_442
  let v700 : BitVec 32 := Scalar.remsi v2 v699
  let c0_i32_446 : BitVec 32 := 0#32
  let v702 : BitVec 1 := Scalar.cmpi .slt v700 c0_i32_446
  let c0_i32_447 : BitVec 32 := 0#32
  let v703 : BitVec 1 := Scalar.cmpi .slt v699 c0_i32_447
  let v704 : BitVec 1 := Scalar.xori v702 v703
  let c0_i32_445 : BitVec 32 := 0#32
  let v701 : BitVec 1 := Scalar.cmpi .ne v700 c0_i32_445
  let v705 : BitVec 1 := Scalar.andi v704 v701
  let v706 : BitVec 32 := Scalar.addi v700 v699
  let v707 : BitVec 32 := Scalar.select v705 v706 v700
  let c0_i32_449 : BitVec 32 := 0#32
  let v709 : BitVec 1 := Scalar.cmpi .sgt v707 c0_i32_449
  let v710 : BitVec 32 := Scalar.extui v709
  let c0_i32_450 : BitVec 32 := 0#32
  let v711 : BitVec 1 := Scalar.cmpi .slt v707 c0_i32_450
  let v712 : BitVec 32 := Scalar.extui v711
  let v713 : BitVec 32 := Scalar.subi v710 v712
  let c2_i32_448 : BitVec 32 := 2#32
  let c0_i32_451 : BitVec 32 := 0#32
  let v714 : BitVec 1 := Scalar.cmpi .sgt c2_i32_448 c0_i32_451
  let v715 : BitVec 32 := Scalar.extui v714
  let c0_i32_452 : BitVec 32 := 0#32
  let v716 : BitVec 1 := Scalar.cmpi .slt c2_i32_448 c0_i32_452
  let v717 : BitVec 32 := Scalar.extui v716
  let v718 : BitVec 32 := Scalar.subi v715 v717
  let v719 : BitVec 1 := Scalar.cmpi .ne v713 v718
  let v720 : BitVec 32 := Scalar.remsi v707 c2_i32_448
  let c0_i32_453 : BitVec 32 := 0#32
  let v721 : BitVec 1 := Scalar.cmpi .ne v720 c0_i32_453
  let v722 : BitVec 1 := Scalar.andi v719 v721
  let v708 : BitVec 32 := Scalar.divsi v707 c2_i32_448
  let c1_i32_454 : BitVec 32 := 1#32
  let v723 : BitVec 32 := Scalar.subi v708 c1_i32_454
  let v724 : BitVec 32 := Scalar.select v722 v723 v708
  let v778 : BitVec 32 := Scalar.muli c2_i32_489 v724
  let c2_i32_490 : BitVec 32 := 2#32
  let c0_i32_491 : BitVec 32 := 0#32
  let v779 : BitVec 1 := Scalar.cmpi .eq c2_i32_490 c0_i32_491
  let c1_i32_492 : BitVec 32 := 1#32
  let v780 : BitVec 32 := Scalar.select v779 c1_i32_492 c2_i32_490
  let v781 : BitVec 32 := Scalar.remsi v724 v780
  let c0_i32_494 : BitVec 32 := 0#32
  let v783 : BitVec 1 := Scalar.cmpi .slt v781 c0_i32_494
  let c0_i32_495 : BitVec 32 := 0#32
  let v784 : BitVec 1 := Scalar.cmpi .slt v780 c0_i32_495
  let v785 : BitVec 1 := Scalar.xori v783 v784
  let c0_i32_493 : BitVec 32 := 0#32
  let v782 : BitVec 1 := Scalar.cmpi .ne v781 c0_i32_493
  let v786 : BitVec 1 := Scalar.andi v785 v782
  let v787 : BitVec 32 := Scalar.addi v781 v780
  let v788 : BitVec 32 := Scalar.select v786 v787 v781
  let c0_i32_496 : BitVec 32 := 0#32
  let v789 : BitVec 1 := Scalar.cmpi .eq v788 c0_i32_496
  let c4_i32_455 : BitVec 32 := 4#32
  let c0_i32_456 : BitVec 32 := 0#32
  let v725 : BitVec 1 := Scalar.cmpi .eq c4_i32_455 c0_i32_456
  let c1_i32_457 : BitVec 32 := 1#32
  let v726 : BitVec 32 := Scalar.select v725 c1_i32_457 c4_i32_455
  let v727 : BitVec 32 := Scalar.remsi v707 v726
  let c0_i32_459 : BitVec 32 := 0#32
  let v729 : BitVec 1 := Scalar.cmpi .slt v727 c0_i32_459
  let c0_i32_460 : BitVec 32 := 0#32
  let v730 : BitVec 1 := Scalar.cmpi .slt v726 c0_i32_460
  let v731 : BitVec 1 := Scalar.xori v729 v730
  let c0_i32_458 : BitVec 32 := 0#32
  let v728 : BitVec 1 := Scalar.cmpi .ne v727 c0_i32_458
  let v732 : BitVec 1 := Scalar.andi v731 v728
  let v733 : BitVec 32 := Scalar.addi v727 v726
  let v734 : BitVec 32 := Scalar.select v732 v733 v727
  let c1_i32_461 : BitVec 32 := 1#32
  let v735 : BitVec 1 := Scalar.cmpi .eq v734 c1_i32_461
  let c2_i32_462 : BitVec 32 := 2#32
  let v736 : BitVec 1 := Scalar.cmpi .eq v734 c2_i32_462
  let v737 : BitVec 1 := Scalar.ori v735 v736
  let c1_i32_463 : BitVec 32 := 1#32
  let c0_i32_464 : BitVec 32 := 0#32
  let v738 : BitVec 32 := Scalar.select v737 c1_i32_463 c0_i32_464
  let c1_i32_497 : BitVec 32 := 1#32
  let v790 : BitVec 32 := Scalar.subi c1_i32_497 v738
  let v791 : BitVec 32 := Scalar.select v789 v738 v790
  let v792 : BitVec 32 := Scalar.addi v778 v791
  let v794 : BitVec 32 := Scalar.addi v793 v792
  let c1_i32_542 : BitVec 32 := 1#32
  let v833 : BitVec 32 := Scalar.muli v794 c1_i32_542
  let v834 : BitVec 32 := Scalar.addi c0_i32_543 v833
  v834.toNat
def k0_dev14 (d0 : Dev nD) : Nat :=
  let c0_i32_559 : BitVec 32 := 0#32
  let c8_i32_515 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_436 : BitVec 32 := 0#32
  let v682 : BitVec 1 := Scalar.cmpi .sgt v2 c0_i32_436
  let v683 : BitVec 32 := Scalar.extui v682
  let c0_i32_437 : BitVec 32 := 0#32
  let v684 : BitVec 1 := Scalar.cmpi .slt v2 c0_i32_437
  let v685 : BitVec 32 := Scalar.extui v684
  let v686 : BitVec 32 := Scalar.subi v683 v685
  let c8_i32_435 : BitVec 32 := 8#32
  let c0_i32_438 : BitVec 32 := 0#32
  let v687 : BitVec 1 := Scalar.cmpi .sgt c8_i32_435 c0_i32_438
  let v688 : BitVec 32 := Scalar.extui v687
  let c0_i32_439 : BitVec 32 := 0#32
  let v689 : BitVec 1 := Scalar.cmpi .slt c8_i32_435 c0_i32_439
  let v690 : BitVec 32 := Scalar.extui v689
  let v691 : BitVec 32 := Scalar.subi v688 v690
  let v692 : BitVec 1 := Scalar.cmpi .ne v686 v691
  let v693 : BitVec 32 := Scalar.remsi v2 c8_i32_435
  let c0_i32_440 : BitVec 32 := 0#32
  let v694 : BitVec 1 := Scalar.cmpi .ne v693 c0_i32_440
  let v695 : BitVec 1 := Scalar.andi v692 v694
  let v681 : BitVec 32 := Scalar.divsi v2 c8_i32_435
  let c1_i32_441 : BitVec 32 := 1#32
  let v696 : BitVec 32 := Scalar.subi v681 c1_i32_441
  let v697 : BitVec 32 := Scalar.select v695 v696 v681
  let c3_i32_499 : BitVec 32 := 3#32
  let v795 : BitVec 32 := Scalar.addi v697 c3_i32_499
  let c4_i32_500 : BitVec 32 := 4#32
  let c0_i32_501 : BitVec 32 := 0#32
  let v796 : BitVec 1 := Scalar.cmpi .eq c4_i32_500 c0_i32_501
  let c1_i32_502 : BitVec 32 := 1#32
  let v797 : BitVec 32 := Scalar.select v796 c1_i32_502 c4_i32_500
  let v798 : BitVec 32 := Scalar.remsi v795 v797
  let c0_i32_504 : BitVec 32 := 0#32
  let v800 : BitVec 1 := Scalar.cmpi .slt v798 c0_i32_504
  let c0_i32_505 : BitVec 32 := 0#32
  let v801 : BitVec 1 := Scalar.cmpi .slt v797 c0_i32_505
  let v802 : BitVec 1 := Scalar.xori v800 v801
  let c0_i32_503 : BitVec 32 := 0#32
  let v799 : BitVec 1 := Scalar.cmpi .ne v798 c0_i32_503
  let v803 : BitVec 1 := Scalar.andi v802 v799
  let v804 : BitVec 32 := Scalar.addi v798 v797
  let v805 : BitVec 32 := Scalar.select v803 v804 v798
  let v821 : BitVec 32 := Scalar.muli c8_i32_515 v805
  let c2_i32_506 : BitVec 32 := 2#32
  let c8_i32_442 : BitVec 32 := 8#32
  let c0_i32_443 : BitVec 32 := 0#32
  let v698 : BitVec 1 := Scalar.cmpi .eq c8_i32_442 c0_i32_443
  let c1_i32_444 : BitVec 32 := 1#32
  let v699 : BitVec 32 := Scalar.select v698 c1_i32_444 c8_i32_442
  let v700 : BitVec 32 := Scalar.remsi v2 v699
  let c0_i32_446 : BitVec 32 := 0#32
  let v702 : BitVec 1 := Scalar.cmpi .slt v700 c0_i32_446
  let c0_i32_447 : BitVec 32 := 0#32
  let v703 : BitVec 1 := Scalar.cmpi .slt v699 c0_i32_447
  let v704 : BitVec 1 := Scalar.xori v702 v703
  let c0_i32_445 : BitVec 32 := 0#32
  let v701 : BitVec 1 := Scalar.cmpi .ne v700 c0_i32_445
  let v705 : BitVec 1 := Scalar.andi v704 v701
  let v706 : BitVec 32 := Scalar.addi v700 v699
  let v707 : BitVec 32 := Scalar.select v705 v706 v700
  let c0_i32_449 : BitVec 32 := 0#32
  let v709 : BitVec 1 := Scalar.cmpi .sgt v707 c0_i32_449
  let v710 : BitVec 32 := Scalar.extui v709
  let c0_i32_450 : BitVec 32 := 0#32
  let v711 : BitVec 1 := Scalar.cmpi .slt v707 c0_i32_450
  let v712 : BitVec 32 := Scalar.extui v711
  let v713 : BitVec 32 := Scalar.subi v710 v712
  let c2_i32_448 : BitVec 32 := 2#32
  let c0_i32_451 : BitVec 32 := 0#32
  let v714 : BitVec 1 := Scalar.cmpi .sgt c2_i32_448 c0_i32_451
  let v715 : BitVec 32 := Scalar.extui v714
  let c0_i32_452 : BitVec 32 := 0#32
  let v716 : BitVec 1 := Scalar.cmpi .slt c2_i32_448 c0_i32_452
  let v717 : BitVec 32 := Scalar.extui v716
  let v718 : BitVec 32 := Scalar.subi v715 v717
  let v719 : BitVec 1 := Scalar.cmpi .ne v713 v718
  let v720 : BitVec 32 := Scalar.remsi v707 c2_i32_448
  let c0_i32_453 : BitVec 32 := 0#32
  let v721 : BitVec 1 := Scalar.cmpi .ne v720 c0_i32_453
  let v722 : BitVec 1 := Scalar.andi v719 v721
  let v708 : BitVec 32 := Scalar.divsi v707 c2_i32_448
  let c1_i32_454 : BitVec 32 := 1#32
  let v723 : BitVec 32 := Scalar.subi v708 c1_i32_454
  let v724 : BitVec 32 := Scalar.select v722 v723 v708
  let v806 : BitVec 32 := Scalar.muli c2_i32_506 v724
  let c2_i32_507 : BitVec 32 := 2#32
  let c0_i32_508 : BitVec 32 := 0#32
  let v807 : BitVec 1 := Scalar.cmpi .eq c2_i32_507 c0_i32_508
  let c1_i32_509 : BitVec 32 := 1#32
  let v808 : BitVec 32 := Scalar.select v807 c1_i32_509 c2_i32_507
  let v809 : BitVec 32 := Scalar.remsi v724 v808
  let c0_i32_511 : BitVec 32 := 0#32
  let v811 : BitVec 1 := Scalar.cmpi .slt v809 c0_i32_511
  let c0_i32_512 : BitVec 32 := 0#32
  let v812 : BitVec 1 := Scalar.cmpi .slt v808 c0_i32_512
  let v813 : BitVec 1 := Scalar.xori v811 v812
  let c0_i32_510 : BitVec 32 := 0#32
  let v810 : BitVec 1 := Scalar.cmpi .ne v809 c0_i32_510
  let v814 : BitVec 1 := Scalar.andi v813 v810
  let v815 : BitVec 32 := Scalar.addi v809 v808
  let v816 : BitVec 32 := Scalar.select v814 v815 v809
  let c0_i32_513 : BitVec 32 := 0#32
  let v817 : BitVec 1 := Scalar.cmpi .eq v816 c0_i32_513
  let c4_i32_455 : BitVec 32 := 4#32
  let c0_i32_456 : BitVec 32 := 0#32
  let v725 : BitVec 1 := Scalar.cmpi .eq c4_i32_455 c0_i32_456
  let c1_i32_457 : BitVec 32 := 1#32
  let v726 : BitVec 32 := Scalar.select v725 c1_i32_457 c4_i32_455
  let v727 : BitVec 32 := Scalar.remsi v707 v726
  let c0_i32_459 : BitVec 32 := 0#32
  let v729 : BitVec 1 := Scalar.cmpi .slt v727 c0_i32_459
  let c0_i32_460 : BitVec 32 := 0#32
  let v730 : BitVec 1 := Scalar.cmpi .slt v726 c0_i32_460
  let v731 : BitVec 1 := Scalar.xori v729 v730
  let c0_i32_458 : BitVec 32 := 0#32
  let v728 : BitVec 1 := Scalar.cmpi .ne v727 c0_i32_458
  let v732 : BitVec 1 := Scalar.andi v731 v728
  let v733 : BitVec 32 := Scalar.addi v727 v726
  let v734 : BitVec 32 := Scalar.select v732 v733 v727
  let c1_i32_461 : BitVec 32 := 1#32
  let v735 : BitVec 1 := Scalar.cmpi .eq v734 c1_i32_461
  let c2_i32_462 : BitVec 32 := 2#32
  let v736 : BitVec 1 := Scalar.cmpi .eq v734 c2_i32_462
  let v737 : BitVec 1 := Scalar.ori v735 v736
  let c1_i32_463 : BitVec 32 := 1#32
  let c0_i32_464 : BitVec 32 := 0#32
  let v738 : BitVec 32 := Scalar.select v737 c1_i32_463 c0_i32_464
  let c1_i32_514 : BitVec 32 := 1#32
  let v818 : BitVec 32 := Scalar.subi c1_i32_514 v738
  let v819 : BitVec 32 := Scalar.select v817 v738 v818
  let v820 : BitVec 32 := Scalar.addi v806 v819
  let v822 : BitVec 32 := Scalar.addi v821 v820
  let c1_i32_558 : BitVec 32 := 1#32
  let v843 : BitVec 32 := Scalar.muli v822 c1_i32_558
  let v844 : BitVec 32 := Scalar.addi c0_i32_559 v843
  v844.toNat
def k0_dev15 (d0 : Dev nD) : Nat :=
  let c0_i32_622 : BitVec 32 := 0#32
  let c8_i32_610 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_571 : BitVec 32 := 0#32
  let v865 : BitVec 1 := Scalar.cmpi .sgt v2 c0_i32_571
  let v866 : BitVec 32 := Scalar.extui v865
  let c0_i32_572 : BitVec 32 := 0#32
  let v867 : BitVec 1 := Scalar.cmpi .slt v2 c0_i32_572
  let v868 : BitVec 32 := Scalar.extui v867
  let v869 : BitVec 32 := Scalar.subi v866 v868
  let c8_i32_570 : BitVec 32 := 8#32
  let c0_i32_573 : BitVec 32 := 0#32
  let v870 : BitVec 1 := Scalar.cmpi .sgt c8_i32_570 c0_i32_573
  let v871 : BitVec 32 := Scalar.extui v870
  let c0_i32_574 : BitVec 32 := 0#32
  let v872 : BitVec 1 := Scalar.cmpi .slt c8_i32_570 c0_i32_574
  let v873 : BitVec 32 := Scalar.extui v872
  let v874 : BitVec 32 := Scalar.subi v871 v873
  let v875 : BitVec 1 := Scalar.cmpi .ne v869 v874
  let v876 : BitVec 32 := Scalar.remsi v2 c8_i32_570
  let c0_i32_575 : BitVec 32 := 0#32
  let v877 : BitVec 1 := Scalar.cmpi .ne v876 c0_i32_575
  let v878 : BitVec 1 := Scalar.andi v875 v877
  let v864 : BitVec 32 := Scalar.divsi v2 c8_i32_570
  let c1_i32_576 : BitVec 32 := 1#32
  let v879 : BitVec 32 := Scalar.subi v864 c1_i32_576
  let v880 : BitVec 32 := Scalar.select v878 v879 v864
  let v938 : BitVec 32 := Scalar.muli c8_i32_610 v880
  let c2_i32_601 : BitVec 32 := 2#32
  let c8_i32_577 : BitVec 32 := 8#32
  let c0_i32_578 : BitVec 32 := 0#32
  let v881 : BitVec 1 := Scalar.cmpi .eq c8_i32_577 c0_i32_578
  let c1_i32_579 : BitVec 32 := 1#32
  let v882 : BitVec 32 := Scalar.select v881 c1_i32_579 c8_i32_577
  let v883 : BitVec 32 := Scalar.remsi v2 v882
  let c0_i32_581 : BitVec 32 := 0#32
  let v885 : BitVec 1 := Scalar.cmpi .slt v883 c0_i32_581
  let c0_i32_582 : BitVec 32 := 0#32
  let v886 : BitVec 1 := Scalar.cmpi .slt v882 c0_i32_582
  let v887 : BitVec 1 := Scalar.xori v885 v886
  let c0_i32_580 : BitVec 32 := 0#32
  let v884 : BitVec 1 := Scalar.cmpi .ne v883 c0_i32_580
  let v888 : BitVec 1 := Scalar.andi v887 v884
  let v889 : BitVec 32 := Scalar.addi v883 v882
  let v890 : BitVec 32 := Scalar.select v888 v889 v883
  let c0_i32_584 : BitVec 32 := 0#32
  let v892 : BitVec 1 := Scalar.cmpi .sgt v890 c0_i32_584
  let v893 : BitVec 32 := Scalar.extui v892
  let c0_i32_585 : BitVec 32 := 0#32
  let v894 : BitVec 1 := Scalar.cmpi .slt v890 c0_i32_585
  let v895 : BitVec 32 := Scalar.extui v894
  let v896 : BitVec 32 := Scalar.subi v893 v895
  let c2_i32_583 : BitVec 32 := 2#32
  let c0_i32_586 : BitVec 32 := 0#32
  let v897 : BitVec 1 := Scalar.cmpi .sgt c2_i32_583 c0_i32_586
  let v898 : BitVec 32 := Scalar.extui v897
  let c0_i32_587 : BitVec 32 := 0#32
  let v899 : BitVec 1 := Scalar.cmpi .slt c2_i32_583 c0_i32_587
  let v900 : BitVec 32 := Scalar.extui v899
  let v901 : BitVec 32 := Scalar.subi v898 v900
  let v902 : BitVec 1 := Scalar.cmpi .ne v896 v901
  let v903 : BitVec 32 := Scalar.remsi v890 c2_i32_583
  let c0_i32_588 : BitVec 32 := 0#32
  let v904 : BitVec 1 := Scalar.cmpi .ne v903 c0_i32_588
  let v905 : BitVec 1 := Scalar.andi v902 v904
  let v891 : BitVec 32 := Scalar.divsi v890 c2_i32_583
  let c1_i32_589 : BitVec 32 := 1#32
  let v906 : BitVec 32 := Scalar.subi v891 c1_i32_589
  let v907 : BitVec 32 := Scalar.select v905 v906 v891
  let v923 : BitVec 32 := Scalar.muli c2_i32_601 v907
  let c2_i32_602 : BitVec 32 := 2#32
  let c0_i32_603 : BitVec 32 := 0#32
  let v924 : BitVec 1 := Scalar.cmpi .eq c2_i32_602 c0_i32_603
  let c1_i32_604 : BitVec 32 := 1#32
  let v925 : BitVec 32 := Scalar.select v924 c1_i32_604 c2_i32_602
  let v926 : BitVec 32 := Scalar.remsi v907 v925
  let c0_i32_606 : BitVec 32 := 0#32
  let v928 : BitVec 1 := Scalar.cmpi .slt v926 c0_i32_606
  let c0_i32_607 : BitVec 32 := 0#32
  let v929 : BitVec 1 := Scalar.cmpi .slt v925 c0_i32_607
  let v930 : BitVec 1 := Scalar.xori v928 v929
  let c0_i32_605 : BitVec 32 := 0#32
  let v927 : BitVec 1 := Scalar.cmpi .ne v926 c0_i32_605
  let v931 : BitVec 1 := Scalar.andi v930 v927
  let v932 : BitVec 32 := Scalar.addi v926 v925
  let v933 : BitVec 32 := Scalar.select v931 v932 v926
  let c0_i32_608 : BitVec 32 := 0#32
  let v934 : BitVec 1 := Scalar.cmpi .eq v933 c0_i32_608
  let c1_i32_600 : BitVec 32 := 1#32
  let c4_i32_590 : BitVec 32 := 4#32
  let c0_i32_591 : BitVec 32 := 0#32
  let v908 : BitVec 1 := Scalar.cmpi .eq c4_i32_590 c0_i32_591
  let c1_i32_592 : BitVec 32 := 1#32
  let v909 : BitVec 32 := Scalar.select v908 c1_i32_592 c4_i32_590
  let v910 : BitVec 32 := Scalar.remsi v890 v909
  let c0_i32_594 : BitVec 32 := 0#32
  let v912 : BitVec 1 := Scalar.cmpi .slt v910 c0_i32_594
  let c0_i32_595 : BitVec 32 := 0#32
  let v913 : BitVec 1 := Scalar.cmpi .slt v909 c0_i32_595
  let v914 : BitVec 1 := Scalar.xori v912 v913
  let c0_i32_593 : BitVec 32 := 0#32
  let v911 : BitVec 1 := Scalar.cmpi .ne v910 c0_i32_593
  let v915 : BitVec 1 := Scalar.andi v914 v911
  let v916 : BitVec 32 := Scalar.addi v910 v909
  let v917 : BitVec 32 := Scalar.select v915 v916 v910
  let c1_i32_596 : BitVec 32 := 1#32
  let v918 : BitVec 1 := Scalar.cmpi .eq v917 c1_i32_596
  let c2_i32_597 : BitVec 32 := 2#32
  let v919 : BitVec 1 := Scalar.cmpi .eq v917 c2_i32_597
  let v920 : BitVec 1 := Scalar.ori v918 v919
  let c1_i32_598 : BitVec 32 := 1#32
  let c0_i32_599 : BitVec 32 := 0#32
  let v921 : BitVec 32 := Scalar.select v920 c1_i32_598 c0_i32_599
  let v922 : BitVec 32 := Scalar.subi c1_i32_600 v921
  let c1_i32_609 : BitVec 32 := 1#32
  let v935 : BitVec 32 := Scalar.subi c1_i32_609 v922
  let v936 : BitVec 32 := Scalar.select v934 v922 v935
  let v937 : BitVec 32 := Scalar.addi v923 v936
  let v939 : BitVec 32 := Scalar.addi v938 v937
  let c1_i32_621 : BitVec 32 := 1#32
  let v940 : BitVec 32 := Scalar.muli v939 c1_i32_621
  let v941 : BitVec 32 := Scalar.addi c0_i32_622 v940
  v941.toNat
def k0_dev16 (d0 : Dev nD) : Nat :=
  let c0_i32_761 : BitVec 32 := 0#32
  let c8_i32_715 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_670 : BitVec 32 := 0#32
  let v973 : BitVec 1 := Scalar.cmpi .sgt v2 c0_i32_670
  let v974 : BitVec 32 := Scalar.extui v973
  let c0_i32_671 : BitVec 32 := 0#32
  let v975 : BitVec 1 := Scalar.cmpi .slt v2 c0_i32_671
  let v976 : BitVec 32 := Scalar.extui v975
  let v977 : BitVec 32 := Scalar.subi v974 v976
  let c8_i32_669 : BitVec 32 := 8#32
  let c0_i32_672 : BitVec 32 := 0#32
  let v978 : BitVec 1 := Scalar.cmpi .sgt c8_i32_669 c0_i32_672
  let v979 : BitVec 32 := Scalar.extui v978
  let c0_i32_673 : BitVec 32 := 0#32
  let v980 : BitVec 1 := Scalar.cmpi .slt c8_i32_669 c0_i32_673
  let v981 : BitVec 32 := Scalar.extui v980
  let v982 : BitVec 32 := Scalar.subi v979 v981
  let v983 : BitVec 1 := Scalar.cmpi .ne v977 v982
  let v984 : BitVec 32 := Scalar.remsi v2 c8_i32_669
  let c0_i32_674 : BitVec 32 := 0#32
  let v985 : BitVec 1 := Scalar.cmpi .ne v984 c0_i32_674
  let v986 : BitVec 1 := Scalar.andi v983 v985
  let v972 : BitVec 32 := Scalar.divsi v2 c8_i32_669
  let c1_i32_675 : BitVec 32 := 1#32
  let v987 : BitVec 32 := Scalar.subi v972 c1_i32_675
  let v988 : BitVec 32 := Scalar.select v986 v987 v972
  let v1056 : BitVec 32 := Scalar.muli c8_i32_715 v988
  let c2_i32_706 : BitVec 32 := 2#32
  let c8_i32_676 : BitVec 32 := 8#32
  let c0_i32_677 : BitVec 32 := 0#32
  let v989 : BitVec 1 := Scalar.cmpi .eq c8_i32_676 c0_i32_677
  let c1_i32_678 : BitVec 32 := 1#32
  let v990 : BitVec 32 := Scalar.select v989 c1_i32_678 c8_i32_676
  let v991 : BitVec 32 := Scalar.remsi v2 v990
  let c0_i32_680 : BitVec 32 := 0#32
  let v993 : BitVec 1 := Scalar.cmpi .slt v991 c0_i32_680
  let c0_i32_681 : BitVec 32 := 0#32
  let v994 : BitVec 1 := Scalar.cmpi .slt v990 c0_i32_681
  let v995 : BitVec 1 := Scalar.xori v993 v994
  let c0_i32_679 : BitVec 32 := 0#32
  let v992 : BitVec 1 := Scalar.cmpi .ne v991 c0_i32_679
  let v996 : BitVec 1 := Scalar.andi v995 v992
  let v997 : BitVec 32 := Scalar.addi v991 v990
  let v998 : BitVec 32 := Scalar.select v996 v997 v991
  let c0_i32_683 : BitVec 32 := 0#32
  let v1000 : BitVec 1 := Scalar.cmpi .sgt v998 c0_i32_683
  let v1001 : BitVec 32 := Scalar.extui v1000
  let c0_i32_684 : BitVec 32 := 0#32
  let v1002 : BitVec 1 := Scalar.cmpi .slt v998 c0_i32_684
  let v1003 : BitVec 32 := Scalar.extui v1002
  let v1004 : BitVec 32 := Scalar.subi v1001 v1003
  let c2_i32_682 : BitVec 32 := 2#32
  let c0_i32_685 : BitVec 32 := 0#32
  let v1005 : BitVec 1 := Scalar.cmpi .sgt c2_i32_682 c0_i32_685
  let v1006 : BitVec 32 := Scalar.extui v1005
  let c0_i32_686 : BitVec 32 := 0#32
  let v1007 : BitVec 1 := Scalar.cmpi .slt c2_i32_682 c0_i32_686
  let v1008 : BitVec 32 := Scalar.extui v1007
  let v1009 : BitVec 32 := Scalar.subi v1006 v1008
  let v1010 : BitVec 1 := Scalar.cmpi .ne v1004 v1009
  let v1011 : BitVec 32 := Scalar.remsi v998 c2_i32_682
  let c0_i32_687 : BitVec 32 := 0#32
  let v1012 : BitVec 1 := Scalar.cmpi .ne v1011 c0_i32_687
  let v1013 : BitVec 1 := Scalar.andi v1010 v1012
  let v999 : BitVec 32 := Scalar.divsi v998 c2_i32_682
  let c1_i32_688 : BitVec 32 := 1#32
  let v1014 : BitVec 32 := Scalar.subi v999 c1_i32_688
  let v1015 : BitVec 32 := Scalar.select v1013 v1014 v999
  let c1_i32_699 : BitVec 32 := 1#32
  let v1030 : BitVec 32 := Scalar.addi v1015 c1_i32_699
  let c4_i32_700 : BitVec 32 := 4#32
  let c0_i32_701 : BitVec 32 := 0#32
  let v1031 : BitVec 1 := Scalar.cmpi .eq c4_i32_700 c0_i32_701
  let c1_i32_702 : BitVec 32 := 1#32
  let v1032 : BitVec 32 := Scalar.select v1031 c1_i32_702 c4_i32_700
  let v1033 : BitVec 32 := Scalar.remsi v1030 v1032
  let c0_i32_704 : BitVec 32 := 0#32
  let v1035 : BitVec 1 := Scalar.cmpi .slt v1033 c0_i32_704
  let c0_i32_705 : BitVec 32 := 0#32
  let v1036 : BitVec 1 := Scalar.cmpi .slt v1032 c0_i32_705
  let v1037 : BitVec 1 := Scalar.xori v1035 v1036
  let c0_i32_703 : BitVec 32 := 0#32
  let v1034 : BitVec 1 := Scalar.cmpi .ne v1033 c0_i32_703
  let v1038 : BitVec 1 := Scalar.andi v1037 v1034
  let v1039 : BitVec 32 := Scalar.addi v1033 v1032
  let v1040 : BitVec 32 := Scalar.select v1038 v1039 v1033
  let v1041 : BitVec 32 := Scalar.muli c2_i32_706 v1040
  let c2_i32_707 : BitVec 32 := 2#32
  let c0_i32_708 : BitVec 32 := 0#32
  let v1042 : BitVec 1 := Scalar.cmpi .eq c2_i32_707 c0_i32_708
  let c1_i32_709 : BitVec 32 := 1#32
  let v1043 : BitVec 32 := Scalar.select v1042 c1_i32_709 c2_i32_707
  let v1044 : BitVec 32 := Scalar.remsi v1040 v1043
  let c0_i32_711 : BitVec 32 := 0#32
  let v1046 : BitVec 1 := Scalar.cmpi .slt v1044 c0_i32_711
  let c0_i32_712 : BitVec 32 := 0#32
  let v1047 : BitVec 1 := Scalar.cmpi .slt v1043 c0_i32_712
  let v1048 : BitVec 1 := Scalar.xori v1046 v1047
  let c0_i32_710 : BitVec 32 := 0#32
  let v1045 : BitVec 1 := Scalar.cmpi .ne v1044 c0_i32_710
  let v1049 : BitVec 1 := Scalar.andi v1048 v1045
  let v1050 : BitVec 32 := Scalar.addi v1044 v1043
  let v1051 : BitVec 32 := Scalar.select v1049 v1050 v1044
  let c0_i32_713 : BitVec 32 := 0#32
  let v1052 : BitVec 1 := Scalar.cmpi .eq v1051 c0_i32_713
  let c4_i32_689 : BitVec 32 := 4#32
  let c0_i32_690 : BitVec 32 := 0#32
  let v1016 : BitVec 1 := Scalar.cmpi .eq c4_i32_689 c0_i32_690
  let c1_i32_691 : BitVec 32 := 1#32
  let v1017 : BitVec 32 := Scalar.select v1016 c1_i32_691 c4_i32_689
  let v1018 : BitVec 32 := Scalar.remsi v998 v1017
  let c0_i32_693 : BitVec 32 := 0#32
  let v1020 : BitVec 1 := Scalar.cmpi .slt v1018 c0_i32_693
  let c0_i32_694 : BitVec 32 := 0#32
  let v1021 : BitVec 1 := Scalar.cmpi .slt v1017 c0_i32_694
  let v1022 : BitVec 1 := Scalar.xori v1020 v1021
  let c0_i32_692 : BitVec 32 := 0#32
  let v1019 : BitVec 1 := Scalar.cmpi .ne v1018 c0_i32_692
  let v1023 : BitVec 1 := Scalar.andi v1022 v1019
  let v1024 : BitVec 32 := Scalar.addi v1018 v1017
  let v1025 : BitVec 32 := Scalar.select v1023 v1024 v1018
  let c1_i32_695 : BitVec 32 := 1#32
  let v1026 : BitVec 1 := Scalar.cmpi .eq v1025 c1_i32_695
  let c2_i32_696 : BitVec 32 := 2#32
  let v1027 : BitVec 1 := Scalar.cmpi .eq v1025 c2_i32_696
  let v1028 : BitVec 1 := Scalar.ori v1026 v1027
  let c1_i32_697 : BitVec 32 := 1#32
  let c0_i32_698 : BitVec 32 := 0#32
  let v1029 : BitVec 32 := Scalar.select v1028 c1_i32_697 c0_i32_698
  let c1_i32_714 : BitVec 32 := 1#32
  let v1053 : BitVec 32 := Scalar.subi c1_i32_714 v1029
  let v1054 : BitVec 32 := Scalar.select v1052 v1029 v1053
  let v1055 : BitVec 32 := Scalar.addi v1041 v1054
  let v1057 : BitVec 32 := Scalar.addi v1056 v1055
  let c1_i32_760 : BitVec 32 := 1#32
  let v1114 : BitVec 32 := Scalar.muli v1057 c1_i32_760
  let v1115 : BitVec 32 := Scalar.addi c0_i32_761 v1114
  v1115.toNat
def k0_dev17 (d0 : Dev nD) : Nat :=
  let c0_i32_777 : BitVec 32 := 0#32
  let c8_i32_732 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_670 : BitVec 32 := 0#32
  let v973 : BitVec 1 := Scalar.cmpi .sgt v2 c0_i32_670
  let v974 : BitVec 32 := Scalar.extui v973
  let c0_i32_671 : BitVec 32 := 0#32
  let v975 : BitVec 1 := Scalar.cmpi .slt v2 c0_i32_671
  let v976 : BitVec 32 := Scalar.extui v975
  let v977 : BitVec 32 := Scalar.subi v974 v976
  let c8_i32_669 : BitVec 32 := 8#32
  let c0_i32_672 : BitVec 32 := 0#32
  let v978 : BitVec 1 := Scalar.cmpi .sgt c8_i32_669 c0_i32_672
  let v979 : BitVec 32 := Scalar.extui v978
  let c0_i32_673 : BitVec 32 := 0#32
  let v980 : BitVec 1 := Scalar.cmpi .slt c8_i32_669 c0_i32_673
  let v981 : BitVec 32 := Scalar.extui v980
  let v982 : BitVec 32 := Scalar.subi v979 v981
  let v983 : BitVec 1 := Scalar.cmpi .ne v977 v982
  let v984 : BitVec 32 := Scalar.remsi v2 c8_i32_669
  let c0_i32_674 : BitVec 32 := 0#32
  let v985 : BitVec 1 := Scalar.cmpi .ne v984 c0_i32_674
  let v986 : BitVec 1 := Scalar.andi v983 v985
  let v972 : BitVec 32 := Scalar.divsi v2 c8_i32_669
  let c1_i32_675 : BitVec 32 := 1#32
  let v987 : BitVec 32 := Scalar.subi v972 c1_i32_675
  let v988 : BitVec 32 := Scalar.select v986 v987 v972
  let v1084 : BitVec 32 := Scalar.muli c8_i32_732 v988
  let c2_i32_723 : BitVec 32 := 2#32
  let c8_i32_676 : BitVec 32 := 8#32
  let c0_i32_677 : BitVec 32 := 0#32
  let v989 : BitVec 1 := Scalar.cmpi .eq c8_i32_676 c0_i32_677
  let c1_i32_678 : BitVec 32 := 1#32
  let v990 : BitVec 32 := Scalar.select v989 c1_i32_678 c8_i32_676
  let v991 : BitVec 32 := Scalar.remsi v2 v990
  let c0_i32_680 : BitVec 32 := 0#32
  let v993 : BitVec 1 := Scalar.cmpi .slt v991 c0_i32_680
  let c0_i32_681 : BitVec 32 := 0#32
  let v994 : BitVec 1 := Scalar.cmpi .slt v990 c0_i32_681
  let v995 : BitVec 1 := Scalar.xori v993 v994
  let c0_i32_679 : BitVec 32 := 0#32
  let v992 : BitVec 1 := Scalar.cmpi .ne v991 c0_i32_679
  let v996 : BitVec 1 := Scalar.andi v995 v992
  let v997 : BitVec 32 := Scalar.addi v991 v990
  let v998 : BitVec 32 := Scalar.select v996 v997 v991
  let c0_i32_683 : BitVec 32 := 0#32
  let v1000 : BitVec 1 := Scalar.cmpi .sgt v998 c0_i32_683
  let v1001 : BitVec 32 := Scalar.extui v1000
  let c0_i32_684 : BitVec 32 := 0#32
  let v1002 : BitVec 1 := Scalar.cmpi .slt v998 c0_i32_684
  let v1003 : BitVec 32 := Scalar.extui v1002
  let v1004 : BitVec 32 := Scalar.subi v1001 v1003
  let c2_i32_682 : BitVec 32 := 2#32
  let c0_i32_685 : BitVec 32 := 0#32
  let v1005 : BitVec 1 := Scalar.cmpi .sgt c2_i32_682 c0_i32_685
  let v1006 : BitVec 32 := Scalar.extui v1005
  let c0_i32_686 : BitVec 32 := 0#32
  let v1007 : BitVec 1 := Scalar.cmpi .slt c2_i32_682 c0_i32_686
  let v1008 : BitVec 32 := Scalar.extui v1007
  let v1009 : BitVec 32 := Scalar.subi v1006 v1008
  let v1010 : BitVec 1 := Scalar.cmpi .ne v1004 v1009
  let v1011 : BitVec 32 := Scalar.remsi v998 c2_i32_682
  let c0_i32_687 : BitVec 32 := 0#32
  let v1012 : BitVec 1 := Scalar.cmpi .ne v1011 c0_i32_687
  let v1013 : BitVec 1 := Scalar.andi v1010 v1012
  let v999 : BitVec 32 := Scalar.divsi v998 c2_i32_682
  let c1_i32_688 : BitVec 32 := 1#32
  let v1014 : BitVec 32 := Scalar.subi v999 c1_i32_688
  let v1015 : BitVec 32 := Scalar.select v1013 v1014 v999
  let c2_i32_716 : BitVec 32 := 2#32
  let v1058 : BitVec 32 := Scalar.addi v1015 c2_i32_716
  let c4_i32_717 : BitVec 32 := 4#32
  let c0_i32_718 : BitVec 32 := 0#32
  let v1059 : BitVec 1 := Scalar.cmpi .eq c4_i32_717 c0_i32_718
  let c1_i32_719 : BitVec 32 := 1#32
  let v1060 : BitVec 32 := Scalar.select v1059 c1_i32_719 c4_i32_717
  let v1061 : BitVec 32 := Scalar.remsi v1058 v1060
  let c0_i32_721 : BitVec 32 := 0#32
  let v1063 : BitVec 1 := Scalar.cmpi .slt v1061 c0_i32_721
  let c0_i32_722 : BitVec 32 := 0#32
  let v1064 : BitVec 1 := Scalar.cmpi .slt v1060 c0_i32_722
  let v1065 : BitVec 1 := Scalar.xori v1063 v1064
  let c0_i32_720 : BitVec 32 := 0#32
  let v1062 : BitVec 1 := Scalar.cmpi .ne v1061 c0_i32_720
  let v1066 : BitVec 1 := Scalar.andi v1065 v1062
  let v1067 : BitVec 32 := Scalar.addi v1061 v1060
  let v1068 : BitVec 32 := Scalar.select v1066 v1067 v1061
  let v1069 : BitVec 32 := Scalar.muli c2_i32_723 v1068
  let c2_i32_724 : BitVec 32 := 2#32
  let c0_i32_725 : BitVec 32 := 0#32
  let v1070 : BitVec 1 := Scalar.cmpi .eq c2_i32_724 c0_i32_725
  let c1_i32_726 : BitVec 32 := 1#32
  let v1071 : BitVec 32 := Scalar.select v1070 c1_i32_726 c2_i32_724
  let v1072 : BitVec 32 := Scalar.remsi v1068 v1071
  let c0_i32_728 : BitVec 32 := 0#32
  let v1074 : BitVec 1 := Scalar.cmpi .slt v1072 c0_i32_728
  let c0_i32_729 : BitVec 32 := 0#32
  let v1075 : BitVec 1 := Scalar.cmpi .slt v1071 c0_i32_729
  let v1076 : BitVec 1 := Scalar.xori v1074 v1075
  let c0_i32_727 : BitVec 32 := 0#32
  let v1073 : BitVec 1 := Scalar.cmpi .ne v1072 c0_i32_727
  let v1077 : BitVec 1 := Scalar.andi v1076 v1073
  let v1078 : BitVec 32 := Scalar.addi v1072 v1071
  let v1079 : BitVec 32 := Scalar.select v1077 v1078 v1072
  let c0_i32_730 : BitVec 32 := 0#32
  let v1080 : BitVec 1 := Scalar.cmpi .eq v1079 c0_i32_730
  let c4_i32_689 : BitVec 32 := 4#32
  let c0_i32_690 : BitVec 32 := 0#32
  let v1016 : BitVec 1 := Scalar.cmpi .eq c4_i32_689 c0_i32_690
  let c1_i32_691 : BitVec 32 := 1#32
  let v1017 : BitVec 32 := Scalar.select v1016 c1_i32_691 c4_i32_689
  let v1018 : BitVec 32 := Scalar.remsi v998 v1017
  let c0_i32_693 : BitVec 32 := 0#32
  let v1020 : BitVec 1 := Scalar.cmpi .slt v1018 c0_i32_693
  let c0_i32_694 : BitVec 32 := 0#32
  let v1021 : BitVec 1 := Scalar.cmpi .slt v1017 c0_i32_694
  let v1022 : BitVec 1 := Scalar.xori v1020 v1021
  let c0_i32_692 : BitVec 32 := 0#32
  let v1019 : BitVec 1 := Scalar.cmpi .ne v1018 c0_i32_692
  let v1023 : BitVec 1 := Scalar.andi v1022 v1019
  let v1024 : BitVec 32 := Scalar.addi v1018 v1017
  let v1025 : BitVec 32 := Scalar.select v1023 v1024 v1018
  let c1_i32_695 : BitVec 32 := 1#32
  let v1026 : BitVec 1 := Scalar.cmpi .eq v1025 c1_i32_695
  let c2_i32_696 : BitVec 32 := 2#32
  let v1027 : BitVec 1 := Scalar.cmpi .eq v1025 c2_i32_696
  let v1028 : BitVec 1 := Scalar.ori v1026 v1027
  let c1_i32_697 : BitVec 32 := 1#32
  let c0_i32_698 : BitVec 32 := 0#32
  let v1029 : BitVec 32 := Scalar.select v1028 c1_i32_697 c0_i32_698
  let c1_i32_731 : BitVec 32 := 1#32
  let v1081 : BitVec 32 := Scalar.subi c1_i32_731 v1029
  let v1082 : BitVec 32 := Scalar.select v1080 v1029 v1081
  let v1083 : BitVec 32 := Scalar.addi v1069 v1082
  let v1085 : BitVec 32 := Scalar.addi v1084 v1083
  let c1_i32_776 : BitVec 32 := 1#32
  let v1124 : BitVec 32 := Scalar.muli v1085 c1_i32_776
  let v1125 : BitVec 32 := Scalar.addi c0_i32_777 v1124
  v1125.toNat
def k0_dev18 (d0 : Dev nD) : Nat :=
  let c0_i32_793 : BitVec 32 := 0#32
  let c8_i32_749 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_670 : BitVec 32 := 0#32
  let v973 : BitVec 1 := Scalar.cmpi .sgt v2 c0_i32_670
  let v974 : BitVec 32 := Scalar.extui v973
  let c0_i32_671 : BitVec 32 := 0#32
  let v975 : BitVec 1 := Scalar.cmpi .slt v2 c0_i32_671
  let v976 : BitVec 32 := Scalar.extui v975
  let v977 : BitVec 32 := Scalar.subi v974 v976
  let c8_i32_669 : BitVec 32 := 8#32
  let c0_i32_672 : BitVec 32 := 0#32
  let v978 : BitVec 1 := Scalar.cmpi .sgt c8_i32_669 c0_i32_672
  let v979 : BitVec 32 := Scalar.extui v978
  let c0_i32_673 : BitVec 32 := 0#32
  let v980 : BitVec 1 := Scalar.cmpi .slt c8_i32_669 c0_i32_673
  let v981 : BitVec 32 := Scalar.extui v980
  let v982 : BitVec 32 := Scalar.subi v979 v981
  let v983 : BitVec 1 := Scalar.cmpi .ne v977 v982
  let v984 : BitVec 32 := Scalar.remsi v2 c8_i32_669
  let c0_i32_674 : BitVec 32 := 0#32
  let v985 : BitVec 1 := Scalar.cmpi .ne v984 c0_i32_674
  let v986 : BitVec 1 := Scalar.andi v983 v985
  let v972 : BitVec 32 := Scalar.divsi v2 c8_i32_669
  let c1_i32_675 : BitVec 32 := 1#32
  let v987 : BitVec 32 := Scalar.subi v972 c1_i32_675
  let v988 : BitVec 32 := Scalar.select v986 v987 v972
  let v1112 : BitVec 32 := Scalar.muli c8_i32_749 v988
  let c2_i32_740 : BitVec 32 := 2#32
  let c8_i32_676 : BitVec 32 := 8#32
  let c0_i32_677 : BitVec 32 := 0#32
  let v989 : BitVec 1 := Scalar.cmpi .eq c8_i32_676 c0_i32_677
  let c1_i32_678 : BitVec 32 := 1#32
  let v990 : BitVec 32 := Scalar.select v989 c1_i32_678 c8_i32_676
  let v991 : BitVec 32 := Scalar.remsi v2 v990
  let c0_i32_680 : BitVec 32 := 0#32
  let v993 : BitVec 1 := Scalar.cmpi .slt v991 c0_i32_680
  let c0_i32_681 : BitVec 32 := 0#32
  let v994 : BitVec 1 := Scalar.cmpi .slt v990 c0_i32_681
  let v995 : BitVec 1 := Scalar.xori v993 v994
  let c0_i32_679 : BitVec 32 := 0#32
  let v992 : BitVec 1 := Scalar.cmpi .ne v991 c0_i32_679
  let v996 : BitVec 1 := Scalar.andi v995 v992
  let v997 : BitVec 32 := Scalar.addi v991 v990
  let v998 : BitVec 32 := Scalar.select v996 v997 v991
  let c0_i32_683 : BitVec 32 := 0#32
  let v1000 : BitVec 1 := Scalar.cmpi .sgt v998 c0_i32_683
  let v1001 : BitVec 32 := Scalar.extui v1000
  let c0_i32_684 : BitVec 32 := 0#32
  let v1002 : BitVec 1 := Scalar.cmpi .slt v998 c0_i32_684
  let v1003 : BitVec 32 := Scalar.extui v1002
  let v1004 : BitVec 32 := Scalar.subi v1001 v1003
  let c2_i32_682 : BitVec 32 := 2#32
  let c0_i32_685 : BitVec 32 := 0#32
  let v1005 : BitVec 1 := Scalar.cmpi .sgt c2_i32_682 c0_i32_685
  let v1006 : BitVec 32 := Scalar.extui v1005
  let c0_i32_686 : BitVec 32 := 0#32
  let v1007 : BitVec 1 := Scalar.cmpi .slt c2_i32_682 c0_i32_686
  let v1008 : BitVec 32 := Scalar.extui v1007
  let v1009 : BitVec 32 := Scalar.subi v1006 v1008
  let v1010 : BitVec 1 := Scalar.cmpi .ne v1004 v1009
  let v1011 : BitVec 32 := Scalar.remsi v998 c2_i32_682
  let c0_i32_687 : BitVec 32 := 0#32
  let v1012 : BitVec 1 := Scalar.cmpi .ne v1011 c0_i32_687
  let v1013 : BitVec 1 := Scalar.andi v1010 v1012
  let v999 : BitVec 32 := Scalar.divsi v998 c2_i32_682
  let c1_i32_688 : BitVec 32 := 1#32
  let v1014 : BitVec 32 := Scalar.subi v999 c1_i32_688
  let v1015 : BitVec 32 := Scalar.select v1013 v1014 v999
  let c3_i32_733 : BitVec 32 := 3#32
  let v1086 : BitVec 32 := Scalar.addi v1015 c3_i32_733
  let c4_i32_734 : BitVec 32 := 4#32
  let c0_i32_735 : BitVec 32 := 0#32
  let v1087 : BitVec 1 := Scalar.cmpi .eq c4_i32_734 c0_i32_735
  let c1_i32_736 : BitVec 32 := 1#32
  let v1088 : BitVec 32 := Scalar.select v1087 c1_i32_736 c4_i32_734
  let v1089 : BitVec 32 := Scalar.remsi v1086 v1088
  let c0_i32_738 : BitVec 32 := 0#32
  let v1091 : BitVec 1 := Scalar.cmpi .slt v1089 c0_i32_738
  let c0_i32_739 : BitVec 32 := 0#32
  let v1092 : BitVec 1 := Scalar.cmpi .slt v1088 c0_i32_739
  let v1093 : BitVec 1 := Scalar.xori v1091 v1092
  let c0_i32_737 : BitVec 32 := 0#32
  let v1090 : BitVec 1 := Scalar.cmpi .ne v1089 c0_i32_737
  let v1094 : BitVec 1 := Scalar.andi v1093 v1090
  let v1095 : BitVec 32 := Scalar.addi v1089 v1088
  let v1096 : BitVec 32 := Scalar.select v1094 v1095 v1089
  let v1097 : BitVec 32 := Scalar.muli c2_i32_740 v1096
  let c2_i32_741 : BitVec 32 := 2#32
  let c0_i32_742 : BitVec 32 := 0#32
  let v1098 : BitVec 1 := Scalar.cmpi .eq c2_i32_741 c0_i32_742
  let c1_i32_743 : BitVec 32 := 1#32
  let v1099 : BitVec 32 := Scalar.select v1098 c1_i32_743 c2_i32_741
  let v1100 : BitVec 32 := Scalar.remsi v1096 v1099
  let c0_i32_745 : BitVec 32 := 0#32
  let v1102 : BitVec 1 := Scalar.cmpi .slt v1100 c0_i32_745
  let c0_i32_746 : BitVec 32 := 0#32
  let v1103 : BitVec 1 := Scalar.cmpi .slt v1099 c0_i32_746
  let v1104 : BitVec 1 := Scalar.xori v1102 v1103
  let c0_i32_744 : BitVec 32 := 0#32
  let v1101 : BitVec 1 := Scalar.cmpi .ne v1100 c0_i32_744
  let v1105 : BitVec 1 := Scalar.andi v1104 v1101
  let v1106 : BitVec 32 := Scalar.addi v1100 v1099
  let v1107 : BitVec 32 := Scalar.select v1105 v1106 v1100
  let c0_i32_747 : BitVec 32 := 0#32
  let v1108 : BitVec 1 := Scalar.cmpi .eq v1107 c0_i32_747
  let c4_i32_689 : BitVec 32 := 4#32
  let c0_i32_690 : BitVec 32 := 0#32
  let v1016 : BitVec 1 := Scalar.cmpi .eq c4_i32_689 c0_i32_690
  let c1_i32_691 : BitVec 32 := 1#32
  let v1017 : BitVec 32 := Scalar.select v1016 c1_i32_691 c4_i32_689
  let v1018 : BitVec 32 := Scalar.remsi v998 v1017
  let c0_i32_693 : BitVec 32 := 0#32
  let v1020 : BitVec 1 := Scalar.cmpi .slt v1018 c0_i32_693
  let c0_i32_694 : BitVec 32 := 0#32
  let v1021 : BitVec 1 := Scalar.cmpi .slt v1017 c0_i32_694
  let v1022 : BitVec 1 := Scalar.xori v1020 v1021
  let c0_i32_692 : BitVec 32 := 0#32
  let v1019 : BitVec 1 := Scalar.cmpi .ne v1018 c0_i32_692
  let v1023 : BitVec 1 := Scalar.andi v1022 v1019
  let v1024 : BitVec 32 := Scalar.addi v1018 v1017
  let v1025 : BitVec 32 := Scalar.select v1023 v1024 v1018
  let c1_i32_695 : BitVec 32 := 1#32
  let v1026 : BitVec 1 := Scalar.cmpi .eq v1025 c1_i32_695
  let c2_i32_696 : BitVec 32 := 2#32
  let v1027 : BitVec 1 := Scalar.cmpi .eq v1025 c2_i32_696
  let v1028 : BitVec 1 := Scalar.ori v1026 v1027
  let c1_i32_697 : BitVec 32 := 1#32
  let c0_i32_698 : BitVec 32 := 0#32
  let v1029 : BitVec 32 := Scalar.select v1028 c1_i32_697 c0_i32_698
  let c1_i32_748 : BitVec 32 := 1#32
  let v1109 : BitVec 32 := Scalar.subi c1_i32_748 v1029
  let v1110 : BitVec 32 := Scalar.select v1108 v1029 v1109
  let v1111 : BitVec 32 := Scalar.addi v1097 v1110
  let v1113 : BitVec 32 := Scalar.addi v1112 v1111
  let c1_i32_792 : BitVec 32 := 1#32
  let v1134 : BitVec 32 := Scalar.muli v1113 c1_i32_792
  let v1135 : BitVec 32 := Scalar.addi c0_i32_793 v1134
  v1135.toNat
def k0_dev19 (d0 : Dev nD) : Nat :=
  let c0_i32_1004 : BitVec 32 := 0#32
  let c8_i32_958 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_913 : BitVec 32 := 0#32
  let v1201 : BitVec 1 := Scalar.cmpi .sgt v2 c0_i32_913
  let v1202 : BitVec 32 := Scalar.extui v1201
  let c0_i32_914 : BitVec 32 := 0#32
  let v1203 : BitVec 1 := Scalar.cmpi .slt v2 c0_i32_914
  let v1204 : BitVec 32 := Scalar.extui v1203
  let v1205 : BitVec 32 := Scalar.subi v1202 v1204
  let c8_i32_912 : BitVec 32 := 8#32
  let c0_i32_915 : BitVec 32 := 0#32
  let v1206 : BitVec 1 := Scalar.cmpi .sgt c8_i32_912 c0_i32_915
  let v1207 : BitVec 32 := Scalar.extui v1206
  let c0_i32_916 : BitVec 32 := 0#32
  let v1208 : BitVec 1 := Scalar.cmpi .slt c8_i32_912 c0_i32_916
  let v1209 : BitVec 32 := Scalar.extui v1208
  let v1210 : BitVec 32 := Scalar.subi v1207 v1209
  let v1211 : BitVec 1 := Scalar.cmpi .ne v1205 v1210
  let v1212 : BitVec 32 := Scalar.remsi v2 c8_i32_912
  let c0_i32_917 : BitVec 32 := 0#32
  let v1213 : BitVec 1 := Scalar.cmpi .ne v1212 c0_i32_917
  let v1214 : BitVec 1 := Scalar.andi v1211 v1213
  let v1200 : BitVec 32 := Scalar.divsi v2 c8_i32_912
  let c1_i32_918 : BitVec 32 := 1#32
  let v1215 : BitVec 32 := Scalar.subi v1200 c1_i32_918
  let v1216 : BitVec 32 := Scalar.select v1214 v1215 v1200
  let c1_i32_942 : BitVec 32 := 1#32
  let v1258 : BitVec 32 := Scalar.addi v1216 c1_i32_942
  let c4_i32_943 : BitVec 32 := 4#32
  let c0_i32_944 : BitVec 32 := 0#32
  let v1259 : BitVec 1 := Scalar.cmpi .eq c4_i32_943 c0_i32_944
  let c1_i32_945 : BitVec 32 := 1#32
  let v1260 : BitVec 32 := Scalar.select v1259 c1_i32_945 c4_i32_943
  let v1261 : BitVec 32 := Scalar.remsi v1258 v1260
  let c0_i32_947 : BitVec 32 := 0#32
  let v1263 : BitVec 1 := Scalar.cmpi .slt v1261 c0_i32_947
  let c0_i32_948 : BitVec 32 := 0#32
  let v1264 : BitVec 1 := Scalar.cmpi .slt v1260 c0_i32_948
  let v1265 : BitVec 1 := Scalar.xori v1263 v1264
  let c0_i32_946 : BitVec 32 := 0#32
  let v1262 : BitVec 1 := Scalar.cmpi .ne v1261 c0_i32_946
  let v1266 : BitVec 1 := Scalar.andi v1265 v1262
  let v1267 : BitVec 32 := Scalar.addi v1261 v1260
  let v1268 : BitVec 32 := Scalar.select v1266 v1267 v1261
  let v1284 : BitVec 32 := Scalar.muli c8_i32_958 v1268
  let c2_i32_949 : BitVec 32 := 2#32
  let c8_i32_919 : BitVec 32 := 8#32
  let c0_i32_920 : BitVec 32 := 0#32
  let v1217 : BitVec 1 := Scalar.cmpi .eq c8_i32_919 c0_i32_920
  let c1_i32_921 : BitVec 32 := 1#32
  let v1218 : BitVec 32 := Scalar.select v1217 c1_i32_921 c8_i32_919
  let v1219 : BitVec 32 := Scalar.remsi v2 v1218
  let c0_i32_923 : BitVec 32 := 0#32
  let v1221 : BitVec 1 := Scalar.cmpi .slt v1219 c0_i32_923
  let c0_i32_924 : BitVec 32 := 0#32
  let v1222 : BitVec 1 := Scalar.cmpi .slt v1218 c0_i32_924
  let v1223 : BitVec 1 := Scalar.xori v1221 v1222
  let c0_i32_922 : BitVec 32 := 0#32
  let v1220 : BitVec 1 := Scalar.cmpi .ne v1219 c0_i32_922
  let v1224 : BitVec 1 := Scalar.andi v1223 v1220
  let v1225 : BitVec 32 := Scalar.addi v1219 v1218
  let v1226 : BitVec 32 := Scalar.select v1224 v1225 v1219
  let c0_i32_926 : BitVec 32 := 0#32
  let v1228 : BitVec 1 := Scalar.cmpi .sgt v1226 c0_i32_926
  let v1229 : BitVec 32 := Scalar.extui v1228
  let c0_i32_927 : BitVec 32 := 0#32
  let v1230 : BitVec 1 := Scalar.cmpi .slt v1226 c0_i32_927
  let v1231 : BitVec 32 := Scalar.extui v1230
  let v1232 : BitVec 32 := Scalar.subi v1229 v1231
  let c2_i32_925 : BitVec 32 := 2#32
  let c0_i32_928 : BitVec 32 := 0#32
  let v1233 : BitVec 1 := Scalar.cmpi .sgt c2_i32_925 c0_i32_928
  let v1234 : BitVec 32 := Scalar.extui v1233
  let c0_i32_929 : BitVec 32 := 0#32
  let v1235 : BitVec 1 := Scalar.cmpi .slt c2_i32_925 c0_i32_929
  let v1236 : BitVec 32 := Scalar.extui v1235
  let v1237 : BitVec 32 := Scalar.subi v1234 v1236
  let v1238 : BitVec 1 := Scalar.cmpi .ne v1232 v1237
  let v1239 : BitVec 32 := Scalar.remsi v1226 c2_i32_925
  let c0_i32_930 : BitVec 32 := 0#32
  let v1240 : BitVec 1 := Scalar.cmpi .ne v1239 c0_i32_930
  let v1241 : BitVec 1 := Scalar.andi v1238 v1240
  let v1227 : BitVec 32 := Scalar.divsi v1226 c2_i32_925
  let c1_i32_931 : BitVec 32 := 1#32
  let v1242 : BitVec 32 := Scalar.subi v1227 c1_i32_931
  let v1243 : BitVec 32 := Scalar.select v1241 v1242 v1227
  let v1269 : BitVec 32 := Scalar.muli c2_i32_949 v1243
  let c2_i32_950 : BitVec 32 := 2#32
  let c0_i32_951 : BitVec 32 := 0#32
  let v1270 : BitVec 1 := Scalar.cmpi .eq c2_i32_950 c0_i32_951
  let c1_i32_952 : BitVec 32 := 1#32
  let v1271 : BitVec 32 := Scalar.select v1270 c1_i32_952 c2_i32_950
  let v1272 : BitVec 32 := Scalar.remsi v1243 v1271
  let c0_i32_954 : BitVec 32 := 0#32
  let v1274 : BitVec 1 := Scalar.cmpi .slt v1272 c0_i32_954
  let c0_i32_955 : BitVec 32 := 0#32
  let v1275 : BitVec 1 := Scalar.cmpi .slt v1271 c0_i32_955
  let v1276 : BitVec 1 := Scalar.xori v1274 v1275
  let c0_i32_953 : BitVec 32 := 0#32
  let v1273 : BitVec 1 := Scalar.cmpi .ne v1272 c0_i32_953
  let v1277 : BitVec 1 := Scalar.andi v1276 v1273
  let v1278 : BitVec 32 := Scalar.addi v1272 v1271
  let v1279 : BitVec 32 := Scalar.select v1277 v1278 v1272
  let c0_i32_956 : BitVec 32 := 0#32
  let v1280 : BitVec 1 := Scalar.cmpi .eq v1279 c0_i32_956
  let c4_i32_932 : BitVec 32 := 4#32
  let c0_i32_933 : BitVec 32 := 0#32
  let v1244 : BitVec 1 := Scalar.cmpi .eq c4_i32_932 c0_i32_933
  let c1_i32_934 : BitVec 32 := 1#32
  let v1245 : BitVec 32 := Scalar.select v1244 c1_i32_934 c4_i32_932
  let v1246 : BitVec 32 := Scalar.remsi v1226 v1245
  let c0_i32_936 : BitVec 32 := 0#32
  let v1248 : BitVec 1 := Scalar.cmpi .slt v1246 c0_i32_936
  let c0_i32_937 : BitVec 32 := 0#32
  let v1249 : BitVec 1 := Scalar.cmpi .slt v1245 c0_i32_937
  let v1250 : BitVec 1 := Scalar.xori v1248 v1249
  let c0_i32_935 : BitVec 32 := 0#32
  let v1247 : BitVec 1 := Scalar.cmpi .ne v1246 c0_i32_935
  let v1251 : BitVec 1 := Scalar.andi v1250 v1247
  let v1252 : BitVec 32 := Scalar.addi v1246 v1245
  let v1253 : BitVec 32 := Scalar.select v1251 v1252 v1246
  let c1_i32_938 : BitVec 32 := 1#32
  let v1254 : BitVec 1 := Scalar.cmpi .eq v1253 c1_i32_938
  let c2_i32_939 : BitVec 32 := 2#32
  let v1255 : BitVec 1 := Scalar.cmpi .eq v1253 c2_i32_939
  let v1256 : BitVec 1 := Scalar.ori v1254 v1255
  let c1_i32_940 : BitVec 32 := 1#32
  let c0_i32_941 : BitVec 32 := 0#32
  let v1257 : BitVec 32 := Scalar.select v1256 c1_i32_940 c0_i32_941
  let c1_i32_957 : BitVec 32 := 1#32
  let v1281 : BitVec 32 := Scalar.subi c1_i32_957 v1257
  let v1282 : BitVec 32 := Scalar.select v1280 v1257 v1281
  let v1283 : BitVec 32 := Scalar.addi v1269 v1282
  let v1285 : BitVec 32 := Scalar.addi v1284 v1283
  let c1_i32_1003 : BitVec 32 := 1#32
  let v1342 : BitVec 32 := Scalar.muli v1285 c1_i32_1003
  let v1343 : BitVec 32 := Scalar.addi c0_i32_1004 v1342
  v1343.toNat
def k0_dev20 (d0 : Dev nD) : Nat :=
  let c0_i32_1020 : BitVec 32 := 0#32
  let c8_i32_975 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_913 : BitVec 32 := 0#32
  let v1201 : BitVec 1 := Scalar.cmpi .sgt v2 c0_i32_913
  let v1202 : BitVec 32 := Scalar.extui v1201
  let c0_i32_914 : BitVec 32 := 0#32
  let v1203 : BitVec 1 := Scalar.cmpi .slt v2 c0_i32_914
  let v1204 : BitVec 32 := Scalar.extui v1203
  let v1205 : BitVec 32 := Scalar.subi v1202 v1204
  let c8_i32_912 : BitVec 32 := 8#32
  let c0_i32_915 : BitVec 32 := 0#32
  let v1206 : BitVec 1 := Scalar.cmpi .sgt c8_i32_912 c0_i32_915
  let v1207 : BitVec 32 := Scalar.extui v1206
  let c0_i32_916 : BitVec 32 := 0#32
  let v1208 : BitVec 1 := Scalar.cmpi .slt c8_i32_912 c0_i32_916
  let v1209 : BitVec 32 := Scalar.extui v1208
  let v1210 : BitVec 32 := Scalar.subi v1207 v1209
  let v1211 : BitVec 1 := Scalar.cmpi .ne v1205 v1210
  let v1212 : BitVec 32 := Scalar.remsi v2 c8_i32_912
  let c0_i32_917 : BitVec 32 := 0#32
  let v1213 : BitVec 1 := Scalar.cmpi .ne v1212 c0_i32_917
  let v1214 : BitVec 1 := Scalar.andi v1211 v1213
  let v1200 : BitVec 32 := Scalar.divsi v2 c8_i32_912
  let c1_i32_918 : BitVec 32 := 1#32
  let v1215 : BitVec 32 := Scalar.subi v1200 c1_i32_918
  let v1216 : BitVec 32 := Scalar.select v1214 v1215 v1200
  let c2_i32_959 : BitVec 32 := 2#32
  let v1286 : BitVec 32 := Scalar.addi v1216 c2_i32_959
  let c4_i32_960 : BitVec 32 := 4#32
  let c0_i32_961 : BitVec 32 := 0#32
  let v1287 : BitVec 1 := Scalar.cmpi .eq c4_i32_960 c0_i32_961
  let c1_i32_962 : BitVec 32 := 1#32
  let v1288 : BitVec 32 := Scalar.select v1287 c1_i32_962 c4_i32_960
  let v1289 : BitVec 32 := Scalar.remsi v1286 v1288
  let c0_i32_964 : BitVec 32 := 0#32
  let v1291 : BitVec 1 := Scalar.cmpi .slt v1289 c0_i32_964
  let c0_i32_965 : BitVec 32 := 0#32
  let v1292 : BitVec 1 := Scalar.cmpi .slt v1288 c0_i32_965
  let v1293 : BitVec 1 := Scalar.xori v1291 v1292
  let c0_i32_963 : BitVec 32 := 0#32
  let v1290 : BitVec 1 := Scalar.cmpi .ne v1289 c0_i32_963
  let v1294 : BitVec 1 := Scalar.andi v1293 v1290
  let v1295 : BitVec 32 := Scalar.addi v1289 v1288
  let v1296 : BitVec 32 := Scalar.select v1294 v1295 v1289
  let v1312 : BitVec 32 := Scalar.muli c8_i32_975 v1296
  let c2_i32_966 : BitVec 32 := 2#32
  let c8_i32_919 : BitVec 32 := 8#32
  let c0_i32_920 : BitVec 32 := 0#32
  let v1217 : BitVec 1 := Scalar.cmpi .eq c8_i32_919 c0_i32_920
  let c1_i32_921 : BitVec 32 := 1#32
  let v1218 : BitVec 32 := Scalar.select v1217 c1_i32_921 c8_i32_919
  let v1219 : BitVec 32 := Scalar.remsi v2 v1218
  let c0_i32_923 : BitVec 32 := 0#32
  let v1221 : BitVec 1 := Scalar.cmpi .slt v1219 c0_i32_923
  let c0_i32_924 : BitVec 32 := 0#32
  let v1222 : BitVec 1 := Scalar.cmpi .slt v1218 c0_i32_924
  let v1223 : BitVec 1 := Scalar.xori v1221 v1222
  let c0_i32_922 : BitVec 32 := 0#32
  let v1220 : BitVec 1 := Scalar.cmpi .ne v1219 c0_i32_922
  let v1224 : BitVec 1 := Scalar.andi v1223 v1220
  let v1225 : BitVec 32 := Scalar.addi v1219 v1218
  let v1226 : BitVec 32 := Scalar.select v1224 v1225 v1219
  let c0_i32_926 : BitVec 32 := 0#32
  let v1228 : BitVec 1 := Scalar.cmpi .sgt v1226 c0_i32_926
  let v1229 : BitVec 32 := Scalar.extui v1228
  let c0_i32_927 : BitVec 32 := 0#32
  let v1230 : BitVec 1 := Scalar.cmpi .slt v1226 c0_i32_927
  let v1231 : BitVec 32 := Scalar.extui v1230
  let v1232 : BitVec 32 := Scalar.subi v1229 v1231
  let c2_i32_925 : BitVec 32 := 2#32
  let c0_i32_928 : BitVec 32 := 0#32
  let v1233 : BitVec 1 := Scalar.cmpi .sgt c2_i32_925 c0_i32_928
  let v1234 : BitVec 32 := Scalar.extui v1233
  let c0_i32_929 : BitVec 32 := 0#32
  let v1235 : BitVec 1 := Scalar.cmpi .slt c2_i32_925 c0_i32_929
  let v1236 : BitVec 32 := Scalar.extui v1235
  let v1237 : BitVec 32 := Scalar.subi v1234 v1236
  let v1238 : BitVec 1 := Scalar.cmpi .ne v1232 v1237
  let v1239 : BitVec 32 := Scalar.remsi v1226 c2_i32_925
  let c0_i32_930 : BitVec 32 := 0#32
  let v1240 : BitVec 1 := Scalar.cmpi .ne v1239 c0_i32_930
  let v1241 : BitVec 1 := Scalar.andi v1238 v1240
  let v1227 : BitVec 32 := Scalar.divsi v1226 c2_i32_925
  let c1_i32_931 : BitVec 32 := 1#32
  let v1242 : BitVec 32 := Scalar.subi v1227 c1_i32_931
  let v1243 : BitVec 32 := Scalar.select v1241 v1242 v1227
  let v1297 : BitVec 32 := Scalar.muli c2_i32_966 v1243
  let c2_i32_967 : BitVec 32 := 2#32
  let c0_i32_968 : BitVec 32 := 0#32
  let v1298 : BitVec 1 := Scalar.cmpi .eq c2_i32_967 c0_i32_968
  let c1_i32_969 : BitVec 32 := 1#32
  let v1299 : BitVec 32 := Scalar.select v1298 c1_i32_969 c2_i32_967
  let v1300 : BitVec 32 := Scalar.remsi v1243 v1299
  let c0_i32_971 : BitVec 32 := 0#32
  let v1302 : BitVec 1 := Scalar.cmpi .slt v1300 c0_i32_971
  let c0_i32_972 : BitVec 32 := 0#32
  let v1303 : BitVec 1 := Scalar.cmpi .slt v1299 c0_i32_972
  let v1304 : BitVec 1 := Scalar.xori v1302 v1303
  let c0_i32_970 : BitVec 32 := 0#32
  let v1301 : BitVec 1 := Scalar.cmpi .ne v1300 c0_i32_970
  let v1305 : BitVec 1 := Scalar.andi v1304 v1301
  let v1306 : BitVec 32 := Scalar.addi v1300 v1299
  let v1307 : BitVec 32 := Scalar.select v1305 v1306 v1300
  let c0_i32_973 : BitVec 32 := 0#32
  let v1308 : BitVec 1 := Scalar.cmpi .eq v1307 c0_i32_973
  let c4_i32_932 : BitVec 32 := 4#32
  let c0_i32_933 : BitVec 32 := 0#32
  let v1244 : BitVec 1 := Scalar.cmpi .eq c4_i32_932 c0_i32_933
  let c1_i32_934 : BitVec 32 := 1#32
  let v1245 : BitVec 32 := Scalar.select v1244 c1_i32_934 c4_i32_932
  let v1246 : BitVec 32 := Scalar.remsi v1226 v1245
  let c0_i32_936 : BitVec 32 := 0#32
  let v1248 : BitVec 1 := Scalar.cmpi .slt v1246 c0_i32_936
  let c0_i32_937 : BitVec 32 := 0#32
  let v1249 : BitVec 1 := Scalar.cmpi .slt v1245 c0_i32_937
  let v1250 : BitVec 1 := Scalar.xori v1248 v1249
  let c0_i32_935 : BitVec 32 := 0#32
  let v1247 : BitVec 1 := Scalar.cmpi .ne v1246 c0_i32_935
  let v1251 : BitVec 1 := Scalar.andi v1250 v1247
  let v1252 : BitVec 32 := Scalar.addi v1246 v1245
  let v1253 : BitVec 32 := Scalar.select v1251 v1252 v1246
  let c1_i32_938 : BitVec 32 := 1#32
  let v1254 : BitVec 1 := Scalar.cmpi .eq v1253 c1_i32_938
  let c2_i32_939 : BitVec 32 := 2#32
  let v1255 : BitVec 1 := Scalar.cmpi .eq v1253 c2_i32_939
  let v1256 : BitVec 1 := Scalar.ori v1254 v1255
  let c1_i32_940 : BitVec 32 := 1#32
  let c0_i32_941 : BitVec 32 := 0#32
  let v1257 : BitVec 32 := Scalar.select v1256 c1_i32_940 c0_i32_941
  let c1_i32_974 : BitVec 32 := 1#32
  let v1309 : BitVec 32 := Scalar.subi c1_i32_974 v1257
  let v1310 : BitVec 32 := Scalar.select v1308 v1257 v1309
  let v1311 : BitVec 32 := Scalar.addi v1297 v1310
  let v1313 : BitVec 32 := Scalar.addi v1312 v1311
  let c1_i32_1019 : BitVec 32 := 1#32
  let v1352 : BitVec 32 := Scalar.muli v1313 c1_i32_1019
  let v1353 : BitVec 32 := Scalar.addi c0_i32_1020 v1352
  v1353.toNat
def k0_dev21 (d0 : Dev nD) : Nat :=
  let c0_i32_1036 : BitVec 32 := 0#32
  let c8_i32_992 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_913 : BitVec 32 := 0#32
  let v1201 : BitVec 1 := Scalar.cmpi .sgt v2 c0_i32_913
  let v1202 : BitVec 32 := Scalar.extui v1201
  let c0_i32_914 : BitVec 32 := 0#32
  let v1203 : BitVec 1 := Scalar.cmpi .slt v2 c0_i32_914
  let v1204 : BitVec 32 := Scalar.extui v1203
  let v1205 : BitVec 32 := Scalar.subi v1202 v1204
  let c8_i32_912 : BitVec 32 := 8#32
  let c0_i32_915 : BitVec 32 := 0#32
  let v1206 : BitVec 1 := Scalar.cmpi .sgt c8_i32_912 c0_i32_915
  let v1207 : BitVec 32 := Scalar.extui v1206
  let c0_i32_916 : BitVec 32 := 0#32
  let v1208 : BitVec 1 := Scalar.cmpi .slt c8_i32_912 c0_i32_916
  let v1209 : BitVec 32 := Scalar.extui v1208
  let v1210 : BitVec 32 := Scalar.subi v1207 v1209
  let v1211 : BitVec 1 := Scalar.cmpi .ne v1205 v1210
  let v1212 : BitVec 32 := Scalar.remsi v2 c8_i32_912
  let c0_i32_917 : BitVec 32 := 0#32
  let v1213 : BitVec 1 := Scalar.cmpi .ne v1212 c0_i32_917
  let v1214 : BitVec 1 := Scalar.andi v1211 v1213
  let v1200 : BitVec 32 := Scalar.divsi v2 c8_i32_912
  let c1_i32_918 : BitVec 32 := 1#32
  let v1215 : BitVec 32 := Scalar.subi v1200 c1_i32_918
  let v1216 : BitVec 32 := Scalar.select v1214 v1215 v1200
  let c3_i32_976 : BitVec 32 := 3#32
  let v1314 : BitVec 32 := Scalar.addi v1216 c3_i32_976
  let c4_i32_977 : BitVec 32 := 4#32
  let c0_i32_978 : BitVec 32 := 0#32
  let v1315 : BitVec 1 := Scalar.cmpi .eq c4_i32_977 c0_i32_978
  let c1_i32_979 : BitVec 32 := 1#32
  let v1316 : BitVec 32 := Scalar.select v1315 c1_i32_979 c4_i32_977
  let v1317 : BitVec 32 := Scalar.remsi v1314 v1316
  let c0_i32_981 : BitVec 32 := 0#32
  let v1319 : BitVec 1 := Scalar.cmpi .slt v1317 c0_i32_981
  let c0_i32_982 : BitVec 32 := 0#32
  let v1320 : BitVec 1 := Scalar.cmpi .slt v1316 c0_i32_982
  let v1321 : BitVec 1 := Scalar.xori v1319 v1320
  let c0_i32_980 : BitVec 32 := 0#32
  let v1318 : BitVec 1 := Scalar.cmpi .ne v1317 c0_i32_980
  let v1322 : BitVec 1 := Scalar.andi v1321 v1318
  let v1323 : BitVec 32 := Scalar.addi v1317 v1316
  let v1324 : BitVec 32 := Scalar.select v1322 v1323 v1317
  let v1340 : BitVec 32 := Scalar.muli c8_i32_992 v1324
  let c2_i32_983 : BitVec 32 := 2#32
  let c8_i32_919 : BitVec 32 := 8#32
  let c0_i32_920 : BitVec 32 := 0#32
  let v1217 : BitVec 1 := Scalar.cmpi .eq c8_i32_919 c0_i32_920
  let c1_i32_921 : BitVec 32 := 1#32
  let v1218 : BitVec 32 := Scalar.select v1217 c1_i32_921 c8_i32_919
  let v1219 : BitVec 32 := Scalar.remsi v2 v1218
  let c0_i32_923 : BitVec 32 := 0#32
  let v1221 : BitVec 1 := Scalar.cmpi .slt v1219 c0_i32_923
  let c0_i32_924 : BitVec 32 := 0#32
  let v1222 : BitVec 1 := Scalar.cmpi .slt v1218 c0_i32_924
  let v1223 : BitVec 1 := Scalar.xori v1221 v1222
  let c0_i32_922 : BitVec 32 := 0#32
  let v1220 : BitVec 1 := Scalar.cmpi .ne v1219 c0_i32_922
  let v1224 : BitVec 1 := Scalar.andi v1223 v1220
  let v1225 : BitVec 32 := Scalar.addi v1219 v1218
  let v1226 : BitVec 32 := Scalar.select v1224 v1225 v1219
  let c0_i32_926 : BitVec 32 := 0#32
  let v1228 : BitVec 1 := Scalar.cmpi .sgt v1226 c0_i32_926
  let v1229 : BitVec 32 := Scalar.extui v1228
  let c0_i32_927 : BitVec 32 := 0#32
  let v1230 : BitVec 1 := Scalar.cmpi .slt v1226 c0_i32_927
  let v1231 : BitVec 32 := Scalar.extui v1230
  let v1232 : BitVec 32 := Scalar.subi v1229 v1231
  let c2_i32_925 : BitVec 32 := 2#32
  let c0_i32_928 : BitVec 32 := 0#32
  let v1233 : BitVec 1 := Scalar.cmpi .sgt c2_i32_925 c0_i32_928
  let v1234 : BitVec 32 := Scalar.extui v1233
  let c0_i32_929 : BitVec 32 := 0#32
  let v1235 : BitVec 1 := Scalar.cmpi .slt c2_i32_925 c0_i32_929
  let v1236 : BitVec 32 := Scalar.extui v1235
  let v1237 : BitVec 32 := Scalar.subi v1234 v1236
  let v1238 : BitVec 1 := Scalar.cmpi .ne v1232 v1237
  let v1239 : BitVec 32 := Scalar.remsi v1226 c2_i32_925
  let c0_i32_930 : BitVec 32 := 0#32
  let v1240 : BitVec 1 := Scalar.cmpi .ne v1239 c0_i32_930
  let v1241 : BitVec 1 := Scalar.andi v1238 v1240
  let v1227 : BitVec 32 := Scalar.divsi v1226 c2_i32_925
  let c1_i32_931 : BitVec 32 := 1#32
  let v1242 : BitVec 32 := Scalar.subi v1227 c1_i32_931
  let v1243 : BitVec 32 := Scalar.select v1241 v1242 v1227
  let v1325 : BitVec 32 := Scalar.muli c2_i32_983 v1243
  let c2_i32_984 : BitVec 32 := 2#32
  let c0_i32_985 : BitVec 32 := 0#32
  let v1326 : BitVec 1 := Scalar.cmpi .eq c2_i32_984 c0_i32_985
  let c1_i32_986 : BitVec 32 := 1#32
  let v1327 : BitVec 32 := Scalar.select v1326 c1_i32_986 c2_i32_984
  let v1328 : BitVec 32 := Scalar.remsi v1243 v1327
  let c0_i32_988 : BitVec 32 := 0#32
  let v1330 : BitVec 1 := Scalar.cmpi .slt v1328 c0_i32_988
  let c0_i32_989 : BitVec 32 := 0#32
  let v1331 : BitVec 1 := Scalar.cmpi .slt v1327 c0_i32_989
  let v1332 : BitVec 1 := Scalar.xori v1330 v1331
  let c0_i32_987 : BitVec 32 := 0#32
  let v1329 : BitVec 1 := Scalar.cmpi .ne v1328 c0_i32_987
  let v1333 : BitVec 1 := Scalar.andi v1332 v1329
  let v1334 : BitVec 32 := Scalar.addi v1328 v1327
  let v1335 : BitVec 32 := Scalar.select v1333 v1334 v1328
  let c0_i32_990 : BitVec 32 := 0#32
  let v1336 : BitVec 1 := Scalar.cmpi .eq v1335 c0_i32_990
  let c4_i32_932 : BitVec 32 := 4#32
  let c0_i32_933 : BitVec 32 := 0#32
  let v1244 : BitVec 1 := Scalar.cmpi .eq c4_i32_932 c0_i32_933
  let c1_i32_934 : BitVec 32 := 1#32
  let v1245 : BitVec 32 := Scalar.select v1244 c1_i32_934 c4_i32_932
  let v1246 : BitVec 32 := Scalar.remsi v1226 v1245
  let c0_i32_936 : BitVec 32 := 0#32
  let v1248 : BitVec 1 := Scalar.cmpi .slt v1246 c0_i32_936
  let c0_i32_937 : BitVec 32 := 0#32
  let v1249 : BitVec 1 := Scalar.cmpi .slt v1245 c0_i32_937
  let v1250 : BitVec 1 := Scalar.xori v1248 v1249
  let c0_i32_935 : BitVec 32 := 0#32
  let v1247 : BitVec 1 := Scalar.cmpi .ne v1246 c0_i32_935
  let v1251 : BitVec 1 := Scalar.andi v1250 v1247
  let v1252 : BitVec 32 := Scalar.addi v1246 v1245
  let v1253 : BitVec 32 := Scalar.select v1251 v1252 v1246
  let c1_i32_938 : BitVec 32 := 1#32
  let v1254 : BitVec 1 := Scalar.cmpi .eq v1253 c1_i32_938
  let c2_i32_939 : BitVec 32 := 2#32
  let v1255 : BitVec 1 := Scalar.cmpi .eq v1253 c2_i32_939
  let v1256 : BitVec 1 := Scalar.ori v1254 v1255
  let c1_i32_940 : BitVec 32 := 1#32
  let c0_i32_941 : BitVec 32 := 0#32
  let v1257 : BitVec 32 := Scalar.select v1256 c1_i32_940 c0_i32_941
  let c1_i32_991 : BitVec 32 := 1#32
  let v1337 : BitVec 32 := Scalar.subi c1_i32_991 v1257
  let v1338 : BitVec 32 := Scalar.select v1336 v1257 v1337
  let v1339 : BitVec 32 := Scalar.addi v1325 v1338
  let v1341 : BitVec 32 := Scalar.addi v1340 v1339
  let c1_i32_1035 : BitVec 32 := 1#32
  let v1362 : BitVec 32 := Scalar.muli v1341 c1_i32_1035
  let v1363 : BitVec 32 := Scalar.addi c0_i32_1036 v1362
  v1363.toNat
def k0_dev22 (d0 : Dev nD) : Nat :=
  let c0_i32_1207 : BitVec 32 := 0#32
  let c8_i32_1195 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1156 : BitVec 32 := 0#32
  let v1429 : BitVec 1 := Scalar.cmpi .sgt v2 c0_i32_1156
  let v1430 : BitVec 32 := Scalar.extui v1429
  let c0_i32_1157 : BitVec 32 := 0#32
  let v1431 : BitVec 1 := Scalar.cmpi .slt v2 c0_i32_1157
  let v1432 : BitVec 32 := Scalar.extui v1431
  let v1433 : BitVec 32 := Scalar.subi v1430 v1432
  let c8_i32_1155 : BitVec 32 := 8#32
  let c0_i32_1158 : BitVec 32 := 0#32
  let v1434 : BitVec 1 := Scalar.cmpi .sgt c8_i32_1155 c0_i32_1158
  let v1435 : BitVec 32 := Scalar.extui v1434
  let c0_i32_1159 : BitVec 32 := 0#32
  let v1436 : BitVec 1 := Scalar.cmpi .slt c8_i32_1155 c0_i32_1159
  let v1437 : BitVec 32 := Scalar.extui v1436
  let v1438 : BitVec 32 := Scalar.subi v1435 v1437
  let v1439 : BitVec 1 := Scalar.cmpi .ne v1433 v1438
  let v1440 : BitVec 32 := Scalar.remsi v2 c8_i32_1155
  let c0_i32_1160 : BitVec 32 := 0#32
  let v1441 : BitVec 1 := Scalar.cmpi .ne v1440 c0_i32_1160
  let v1442 : BitVec 1 := Scalar.andi v1439 v1441
  let v1428 : BitVec 32 := Scalar.divsi v2 c8_i32_1155
  let c1_i32_1161 : BitVec 32 := 1#32
  let v1443 : BitVec 32 := Scalar.subi v1428 c1_i32_1161
  let v1444 : BitVec 32 := Scalar.select v1442 v1443 v1428
  let v1502 : BitVec 32 := Scalar.muli c8_i32_1195 v1444
  let c2_i32_1186 : BitVec 32 := 2#32
  let c8_i32_1162 : BitVec 32 := 8#32
  let c0_i32_1163 : BitVec 32 := 0#32
  let v1445 : BitVec 1 := Scalar.cmpi .eq c8_i32_1162 c0_i32_1163
  let c1_i32_1164 : BitVec 32 := 1#32
  let v1446 : BitVec 32 := Scalar.select v1445 c1_i32_1164 c8_i32_1162
  let v1447 : BitVec 32 := Scalar.remsi v2 v1446
  let c0_i32_1166 : BitVec 32 := 0#32
  let v1449 : BitVec 1 := Scalar.cmpi .slt v1447 c0_i32_1166
  let c0_i32_1167 : BitVec 32 := 0#32
  let v1450 : BitVec 1 := Scalar.cmpi .slt v1446 c0_i32_1167
  let v1451 : BitVec 1 := Scalar.xori v1449 v1450
  let c0_i32_1165 : BitVec 32 := 0#32
  let v1448 : BitVec 1 := Scalar.cmpi .ne v1447 c0_i32_1165
  let v1452 : BitVec 1 := Scalar.andi v1451 v1448
  let v1453 : BitVec 32 := Scalar.addi v1447 v1446
  let v1454 : BitVec 32 := Scalar.select v1452 v1453 v1447
  let c0_i32_1169 : BitVec 32 := 0#32
  let v1456 : BitVec 1 := Scalar.cmpi .sgt v1454 c0_i32_1169
  let v1457 : BitVec 32 := Scalar.extui v1456
  let c0_i32_1170 : BitVec 32 := 0#32
  let v1458 : BitVec 1 := Scalar.cmpi .slt v1454 c0_i32_1170
  let v1459 : BitVec 32 := Scalar.extui v1458
  let v1460 : BitVec 32 := Scalar.subi v1457 v1459
  let c2_i32_1168 : BitVec 32 := 2#32
  let c0_i32_1171 : BitVec 32 := 0#32
  let v1461 : BitVec 1 := Scalar.cmpi .sgt c2_i32_1168 c0_i32_1171
  let v1462 : BitVec 32 := Scalar.extui v1461
  let c0_i32_1172 : BitVec 32 := 0#32
  let v1463 : BitVec 1 := Scalar.cmpi .slt c2_i32_1168 c0_i32_1172
  let v1464 : BitVec 32 := Scalar.extui v1463
  let v1465 : BitVec 32 := Scalar.subi v1462 v1464
  let v1466 : BitVec 1 := Scalar.cmpi .ne v1460 v1465
  let v1467 : BitVec 32 := Scalar.remsi v1454 c2_i32_1168
  let c0_i32_1173 : BitVec 32 := 0#32
  let v1468 : BitVec 1 := Scalar.cmpi .ne v1467 c0_i32_1173
  let v1469 : BitVec 1 := Scalar.andi v1466 v1468
  let v1455 : BitVec 32 := Scalar.divsi v1454 c2_i32_1168
  let c1_i32_1174 : BitVec 32 := 1#32
  let v1470 : BitVec 32 := Scalar.subi v1455 c1_i32_1174
  let v1471 : BitVec 32 := Scalar.select v1469 v1470 v1455
  let v1487 : BitVec 32 := Scalar.muli c2_i32_1186 v1471
  let c2_i32_1187 : BitVec 32 := 2#32
  let c0_i32_1188 : BitVec 32 := 0#32
  let v1488 : BitVec 1 := Scalar.cmpi .eq c2_i32_1187 c0_i32_1188
  let c1_i32_1189 : BitVec 32 := 1#32
  let v1489 : BitVec 32 := Scalar.select v1488 c1_i32_1189 c2_i32_1187
  let v1490 : BitVec 32 := Scalar.remsi v1471 v1489
  let c0_i32_1191 : BitVec 32 := 0#32
  let v1492 : BitVec 1 := Scalar.cmpi .slt v1490 c0_i32_1191
  let c0_i32_1192 : BitVec 32 := 0#32
  let v1493 : BitVec 1 := Scalar.cmpi .slt v1489 c0_i32_1192
  let v1494 : BitVec 1 := Scalar.xori v1492 v1493
  let c0_i32_1190 : BitVec 32 := 0#32
  let v1491 : BitVec 1 := Scalar.cmpi .ne v1490 c0_i32_1190
  let v1495 : BitVec 1 := Scalar.andi v1494 v1491
  let v1496 : BitVec 32 := Scalar.addi v1490 v1489
  let v1497 : BitVec 32 := Scalar.select v1495 v1496 v1490
  let c0_i32_1193 : BitVec 32 := 0#32
  let v1498 : BitVec 1 := Scalar.cmpi .eq v1497 c0_i32_1193
  let c1_i32_1185 : BitVec 32 := 1#32
  let c4_i32_1175 : BitVec 32 := 4#32
  let c0_i32_1176 : BitVec 32 := 0#32
  let v1472 : BitVec 1 := Scalar.cmpi .eq c4_i32_1175 c0_i32_1176
  let c1_i32_1177 : BitVec 32 := 1#32
  let v1473 : BitVec 32 := Scalar.select v1472 c1_i32_1177 c4_i32_1175
  let v1474 : BitVec 32 := Scalar.remsi v1454 v1473
  let c0_i32_1179 : BitVec 32 := 0#32
  let v1476 : BitVec 1 := Scalar.cmpi .slt v1474 c0_i32_1179
  let c0_i32_1180 : BitVec 32 := 0#32
  let v1477 : BitVec 1 := Scalar.cmpi .slt v1473 c0_i32_1180
  let v1478 : BitVec 1 := Scalar.xori v1476 v1477
  let c0_i32_1178 : BitVec 32 := 0#32
  let v1475 : BitVec 1 := Scalar.cmpi .ne v1474 c0_i32_1178
  let v1479 : BitVec 1 := Scalar.andi v1478 v1475
  let v1480 : BitVec 32 := Scalar.addi v1474 v1473
  let v1481 : BitVec 32 := Scalar.select v1479 v1480 v1474
  let c1_i32_1181 : BitVec 32 := 1#32
  let v1482 : BitVec 1 := Scalar.cmpi .eq v1481 c1_i32_1181
  let c2_i32_1182 : BitVec 32 := 2#32
  let v1483 : BitVec 1 := Scalar.cmpi .eq v1481 c2_i32_1182
  let v1484 : BitVec 1 := Scalar.ori v1482 v1483
  let c1_i32_1183 : BitVec 32 := 1#32
  let c0_i32_1184 : BitVec 32 := 0#32
  let v1485 : BitVec 32 := Scalar.select v1484 c1_i32_1183 c0_i32_1184
  let v1486 : BitVec 32 := Scalar.subi c1_i32_1185 v1485
  let c1_i32_1194 : BitVec 32 := 1#32
  let v1499 : BitVec 32 := Scalar.subi c1_i32_1194 v1486
  let v1500 : BitVec 32 := Scalar.select v1498 v1486 v1499
  let v1501 : BitVec 32 := Scalar.addi v1487 v1500
  let v1503 : BitVec 32 := Scalar.addi v1502 v1501
  let c1_i32_1206 : BitVec 32 := 1#32
  let v1504 : BitVec 32 := Scalar.muli v1503 c1_i32_1206
  let v1505 : BitVec 32 := Scalar.addi c0_i32_1207 v1504
  v1505.toNat
def k0_dev23 (d0 : Dev nD) : Nat :=
  let c0_i32_1346 : BitVec 32 := 0#32
  let c8_i32_1300 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1255 : BitVec 32 := 0#32
  let v1537 : BitVec 1 := Scalar.cmpi .sgt v2 c0_i32_1255
  let v1538 : BitVec 32 := Scalar.extui v1537
  let c0_i32_1256 : BitVec 32 := 0#32
  let v1539 : BitVec 1 := Scalar.cmpi .slt v2 c0_i32_1256
  let v1540 : BitVec 32 := Scalar.extui v1539
  let v1541 : BitVec 32 := Scalar.subi v1538 v1540
  let c8_i32_1254 : BitVec 32 := 8#32
  let c0_i32_1257 : BitVec 32 := 0#32
  let v1542 : BitVec 1 := Scalar.cmpi .sgt c8_i32_1254 c0_i32_1257
  let v1543 : BitVec 32 := Scalar.extui v1542
  let c0_i32_1258 : BitVec 32 := 0#32
  let v1544 : BitVec 1 := Scalar.cmpi .slt c8_i32_1254 c0_i32_1258
  let v1545 : BitVec 32 := Scalar.extui v1544
  let v1546 : BitVec 32 := Scalar.subi v1543 v1545
  let v1547 : BitVec 1 := Scalar.cmpi .ne v1541 v1546
  let v1548 : BitVec 32 := Scalar.remsi v2 c8_i32_1254
  let c0_i32_1259 : BitVec 32 := 0#32
  let v1549 : BitVec 1 := Scalar.cmpi .ne v1548 c0_i32_1259
  let v1550 : BitVec 1 := Scalar.andi v1547 v1549
  let v1536 : BitVec 32 := Scalar.divsi v2 c8_i32_1254
  let c1_i32_1260 : BitVec 32 := 1#32
  let v1551 : BitVec 32 := Scalar.subi v1536 c1_i32_1260
  let v1552 : BitVec 32 := Scalar.select v1550 v1551 v1536
  let v1620 : BitVec 32 := Scalar.muli c8_i32_1300 v1552
  let c2_i32_1291 : BitVec 32 := 2#32
  let c8_i32_1261 : BitVec 32 := 8#32
  let c0_i32_1262 : BitVec 32 := 0#32
  let v1553 : BitVec 1 := Scalar.cmpi .eq c8_i32_1261 c0_i32_1262
  let c1_i32_1263 : BitVec 32 := 1#32
  let v1554 : BitVec 32 := Scalar.select v1553 c1_i32_1263 c8_i32_1261
  let v1555 : BitVec 32 := Scalar.remsi v2 v1554
  let c0_i32_1265 : BitVec 32 := 0#32
  let v1557 : BitVec 1 := Scalar.cmpi .slt v1555 c0_i32_1265
  let c0_i32_1266 : BitVec 32 := 0#32
  let v1558 : BitVec 1 := Scalar.cmpi .slt v1554 c0_i32_1266
  let v1559 : BitVec 1 := Scalar.xori v1557 v1558
  let c0_i32_1264 : BitVec 32 := 0#32
  let v1556 : BitVec 1 := Scalar.cmpi .ne v1555 c0_i32_1264
  let v1560 : BitVec 1 := Scalar.andi v1559 v1556
  let v1561 : BitVec 32 := Scalar.addi v1555 v1554
  let v1562 : BitVec 32 := Scalar.select v1560 v1561 v1555
  let c0_i32_1268 : BitVec 32 := 0#32
  let v1564 : BitVec 1 := Scalar.cmpi .sgt v1562 c0_i32_1268
  let v1565 : BitVec 32 := Scalar.extui v1564
  let c0_i32_1269 : BitVec 32 := 0#32
  let v1566 : BitVec 1 := Scalar.cmpi .slt v1562 c0_i32_1269
  let v1567 : BitVec 32 := Scalar.extui v1566
  let v1568 : BitVec 32 := Scalar.subi v1565 v1567
  let c2_i32_1267 : BitVec 32 := 2#32
  let c0_i32_1270 : BitVec 32 := 0#32
  let v1569 : BitVec 1 := Scalar.cmpi .sgt c2_i32_1267 c0_i32_1270
  let v1570 : BitVec 32 := Scalar.extui v1569
  let c0_i32_1271 : BitVec 32 := 0#32
  let v1571 : BitVec 1 := Scalar.cmpi .slt c2_i32_1267 c0_i32_1271
  let v1572 : BitVec 32 := Scalar.extui v1571
  let v1573 : BitVec 32 := Scalar.subi v1570 v1572
  let v1574 : BitVec 1 := Scalar.cmpi .ne v1568 v1573
  let v1575 : BitVec 32 := Scalar.remsi v1562 c2_i32_1267
  let c0_i32_1272 : BitVec 32 := 0#32
  let v1576 : BitVec 1 := Scalar.cmpi .ne v1575 c0_i32_1272
  let v1577 : BitVec 1 := Scalar.andi v1574 v1576
  let v1563 : BitVec 32 := Scalar.divsi v1562 c2_i32_1267
  let c1_i32_1273 : BitVec 32 := 1#32
  let v1578 : BitVec 32 := Scalar.subi v1563 c1_i32_1273
  let v1579 : BitVec 32 := Scalar.select v1577 v1578 v1563
  let c1_i32_1284 : BitVec 32 := 1#32
  let v1594 : BitVec 32 := Scalar.addi v1579 c1_i32_1284
  let c4_i32_1285 : BitVec 32 := 4#32
  let c0_i32_1286 : BitVec 32 := 0#32
  let v1595 : BitVec 1 := Scalar.cmpi .eq c4_i32_1285 c0_i32_1286
  let c1_i32_1287 : BitVec 32 := 1#32
  let v1596 : BitVec 32 := Scalar.select v1595 c1_i32_1287 c4_i32_1285
  let v1597 : BitVec 32 := Scalar.remsi v1594 v1596
  let c0_i32_1289 : BitVec 32 := 0#32
  let v1599 : BitVec 1 := Scalar.cmpi .slt v1597 c0_i32_1289
  let c0_i32_1290 : BitVec 32 := 0#32
  let v1600 : BitVec 1 := Scalar.cmpi .slt v1596 c0_i32_1290
  let v1601 : BitVec 1 := Scalar.xori v1599 v1600
  let c0_i32_1288 : BitVec 32 := 0#32
  let v1598 : BitVec 1 := Scalar.cmpi .ne v1597 c0_i32_1288
  let v1602 : BitVec 1 := Scalar.andi v1601 v1598
  let v1603 : BitVec 32 := Scalar.addi v1597 v1596
  let v1604 : BitVec 32 := Scalar.select v1602 v1603 v1597
  let v1605 : BitVec 32 := Scalar.muli c2_i32_1291 v1604
  let c2_i32_1292 : BitVec 32 := 2#32
  let c0_i32_1293 : BitVec 32 := 0#32
  let v1606 : BitVec 1 := Scalar.cmpi .eq c2_i32_1292 c0_i32_1293
  let c1_i32_1294 : BitVec 32 := 1#32
  let v1607 : BitVec 32 := Scalar.select v1606 c1_i32_1294 c2_i32_1292
  let v1608 : BitVec 32 := Scalar.remsi v1604 v1607
  let c0_i32_1296 : BitVec 32 := 0#32
  let v1610 : BitVec 1 := Scalar.cmpi .slt v1608 c0_i32_1296
  let c0_i32_1297 : BitVec 32 := 0#32
  let v1611 : BitVec 1 := Scalar.cmpi .slt v1607 c0_i32_1297
  let v1612 : BitVec 1 := Scalar.xori v1610 v1611
  let c0_i32_1295 : BitVec 32 := 0#32
  let v1609 : BitVec 1 := Scalar.cmpi .ne v1608 c0_i32_1295
  let v1613 : BitVec 1 := Scalar.andi v1612 v1609
  let v1614 : BitVec 32 := Scalar.addi v1608 v1607
  let v1615 : BitVec 32 := Scalar.select v1613 v1614 v1608
  let c0_i32_1298 : BitVec 32 := 0#32
  let v1616 : BitVec 1 := Scalar.cmpi .eq v1615 c0_i32_1298
  let c4_i32_1274 : BitVec 32 := 4#32
  let c0_i32_1275 : BitVec 32 := 0#32
  let v1580 : BitVec 1 := Scalar.cmpi .eq c4_i32_1274 c0_i32_1275
  let c1_i32_1276 : BitVec 32 := 1#32
  let v1581 : BitVec 32 := Scalar.select v1580 c1_i32_1276 c4_i32_1274
  let v1582 : BitVec 32 := Scalar.remsi v1562 v1581
  let c0_i32_1278 : BitVec 32 := 0#32
  let v1584 : BitVec 1 := Scalar.cmpi .slt v1582 c0_i32_1278
  let c0_i32_1279 : BitVec 32 := 0#32
  let v1585 : BitVec 1 := Scalar.cmpi .slt v1581 c0_i32_1279
  let v1586 : BitVec 1 := Scalar.xori v1584 v1585
  let c0_i32_1277 : BitVec 32 := 0#32
  let v1583 : BitVec 1 := Scalar.cmpi .ne v1582 c0_i32_1277
  let v1587 : BitVec 1 := Scalar.andi v1586 v1583
  let v1588 : BitVec 32 := Scalar.addi v1582 v1581
  let v1589 : BitVec 32 := Scalar.select v1587 v1588 v1582
  let c1_i32_1280 : BitVec 32 := 1#32
  let v1590 : BitVec 1 := Scalar.cmpi .eq v1589 c1_i32_1280
  let c2_i32_1281 : BitVec 32 := 2#32
  let v1591 : BitVec 1 := Scalar.cmpi .eq v1589 c2_i32_1281
  let v1592 : BitVec 1 := Scalar.ori v1590 v1591
  let c1_i32_1282 : BitVec 32 := 1#32
  let c0_i32_1283 : BitVec 32 := 0#32
  let v1593 : BitVec 32 := Scalar.select v1592 c1_i32_1282 c0_i32_1283
  let c1_i32_1299 : BitVec 32 := 1#32
  let v1617 : BitVec 32 := Scalar.subi c1_i32_1299 v1593
  let v1618 : BitVec 32 := Scalar.select v1616 v1593 v1617
  let v1619 : BitVec 32 := Scalar.addi v1605 v1618
  let v1621 : BitVec 32 := Scalar.addi v1620 v1619
  let c1_i32_1345 : BitVec 32 := 1#32
  let v1678 : BitVec 32 := Scalar.muli v1621 c1_i32_1345
  let v1679 : BitVec 32 := Scalar.addi c0_i32_1346 v1678
  v1679.toNat
def k0_dev24 (d0 : Dev nD) : Nat :=
  let c0_i32_1362 : BitVec 32 := 0#32
  let c8_i32_1317 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1255 : BitVec 32 := 0#32
  let v1537 : BitVec 1 := Scalar.cmpi .sgt v2 c0_i32_1255
  let v1538 : BitVec 32 := Scalar.extui v1537
  let c0_i32_1256 : BitVec 32 := 0#32
  let v1539 : BitVec 1 := Scalar.cmpi .slt v2 c0_i32_1256
  let v1540 : BitVec 32 := Scalar.extui v1539
  let v1541 : BitVec 32 := Scalar.subi v1538 v1540
  let c8_i32_1254 : BitVec 32 := 8#32
  let c0_i32_1257 : BitVec 32 := 0#32
  let v1542 : BitVec 1 := Scalar.cmpi .sgt c8_i32_1254 c0_i32_1257
  let v1543 : BitVec 32 := Scalar.extui v1542
  let c0_i32_1258 : BitVec 32 := 0#32
  let v1544 : BitVec 1 := Scalar.cmpi .slt c8_i32_1254 c0_i32_1258
  let v1545 : BitVec 32 := Scalar.extui v1544
  let v1546 : BitVec 32 := Scalar.subi v1543 v1545
  let v1547 : BitVec 1 := Scalar.cmpi .ne v1541 v1546
  let v1548 : BitVec 32 := Scalar.remsi v2 c8_i32_1254
  let c0_i32_1259 : BitVec 32 := 0#32
  let v1549 : BitVec 1 := Scalar.cmpi .ne v1548 c0_i32_1259
  let v1550 : BitVec 1 := Scalar.andi v1547 v1549
  let v1536 : BitVec 32 := Scalar.divsi v2 c8_i32_1254
  let c1_i32_1260 : BitVec 32 := 1#32
  let v1551 : BitVec 32 := Scalar.subi v1536 c1_i32_1260
  let v1552 : BitVec 32 := Scalar.select v1550 v1551 v1536
  let v1648 : BitVec 32 := Scalar.muli c8_i32_1317 v1552
  let c2_i32_1308 : BitVec 32 := 2#32
  let c8_i32_1261 : BitVec 32 := 8#32
  let c0_i32_1262 : BitVec 32 := 0#32
  let v1553 : BitVec 1 := Scalar.cmpi .eq c8_i32_1261 c0_i32_1262
  let c1_i32_1263 : BitVec 32 := 1#32
  let v1554 : BitVec 32 := Scalar.select v1553 c1_i32_1263 c8_i32_1261
  let v1555 : BitVec 32 := Scalar.remsi v2 v1554
  let c0_i32_1265 : BitVec 32 := 0#32
  let v1557 : BitVec 1 := Scalar.cmpi .slt v1555 c0_i32_1265
  let c0_i32_1266 : BitVec 32 := 0#32
  let v1558 : BitVec 1 := Scalar.cmpi .slt v1554 c0_i32_1266
  let v1559 : BitVec 1 := Scalar.xori v1557 v1558
  let c0_i32_1264 : BitVec 32 := 0#32
  let v1556 : BitVec 1 := Scalar.cmpi .ne v1555 c0_i32_1264
  let v1560 : BitVec 1 := Scalar.andi v1559 v1556
  let v1561 : BitVec 32 := Scalar.addi v1555 v1554
  let v1562 : BitVec 32 := Scalar.select v1560 v1561 v1555
  let c0_i32_1268 : BitVec 32 := 0#32
  let v1564 : BitVec 1 := Scalar.cmpi .sgt v1562 c0_i32_1268
  let v1565 : BitVec 32 := Scalar.extui v1564
  let c0_i32_1269 : BitVec 32 := 0#32
  let v1566 : BitVec 1 := Scalar.cmpi .slt v1562 c0_i32_1269
  let v1567 : BitVec 32 := Scalar.extui v1566
  let v1568 : BitVec 32 := Scalar.subi v1565 v1567
  let c2_i32_1267 : BitVec 32 := 2#32
  let c0_i32_1270 : BitVec 32 := 0#32
  let v1569 : BitVec 1 := Scalar.cmpi .sgt c2_i32_1267 c0_i32_1270
  let v1570 : BitVec 32 := Scalar.extui v1569
  let c0_i32_1271 : BitVec 32 := 0#32
  let v1571 : BitVec 1 := Scalar.cmpi .slt c2_i32_1267 c0_i32_1271
  let v1572 : BitVec 32 := Scalar.extui v1571
  let v1573 : BitVec 32 := Scalar.subi v1570 v1572
  let v1574 : BitVec 1 := Scalar.cmpi .ne v1568 v1573
  let v1575 : BitVec 32 := Scalar.remsi v1562 c2_i32_1267
  let c0_i32_1272 : BitVec 32 := 0#32
  let v1576 : BitVec 1 := Scalar.cmpi .ne v1575 c0_i32_1272
  let v1577 : BitVec 1 := Scalar.andi v1574 v1576
  let v1563 : BitVec 32 := Scalar.divsi v1562 c2_i32_1267
  let c1_i32_1273 : BitVec 32 := 1#32
  let v1578 : BitVec 32 := Scalar.subi v1563 c1_i32_1273
  let v1579 : BitVec 32 := Scalar.select v1577 v1578 v1563
  let c2_i32_1301 : BitVec 32 := 2#32
  let v1622 : BitVec 32 := Scalar.addi v1579 c2_i32_1301
  let c4_i32_1302 : BitVec 32 := 4#32
  let c0_i32_1303 : BitVec 32 := 0#32
  let v1623 : BitVec 1 := Scalar.cmpi .eq c4_i32_1302 c0_i32_1303
  let c1_i32_1304 : BitVec 32 := 1#32
  let v1624 : BitVec 32 := Scalar.select v1623 c1_i32_1304 c4_i32_1302
  let v1625 : BitVec 32 := Scalar.remsi v1622 v1624
  let c0_i32_1306 : BitVec 32 := 0#32
  let v1627 : BitVec 1 := Scalar.cmpi .slt v1625 c0_i32_1306
  let c0_i32_1307 : BitVec 32 := 0#32
  let v1628 : BitVec 1 := Scalar.cmpi .slt v1624 c0_i32_1307
  let v1629 : BitVec 1 := Scalar.xori v1627 v1628
  let c0_i32_1305 : BitVec 32 := 0#32
  let v1626 : BitVec 1 := Scalar.cmpi .ne v1625 c0_i32_1305
  let v1630 : BitVec 1 := Scalar.andi v1629 v1626
  let v1631 : BitVec 32 := Scalar.addi v1625 v1624
  let v1632 : BitVec 32 := Scalar.select v1630 v1631 v1625
  let v1633 : BitVec 32 := Scalar.muli c2_i32_1308 v1632
  let c2_i32_1309 : BitVec 32 := 2#32
  let c0_i32_1310 : BitVec 32 := 0#32
  let v1634 : BitVec 1 := Scalar.cmpi .eq c2_i32_1309 c0_i32_1310
  let c1_i32_1311 : BitVec 32 := 1#32
  let v1635 : BitVec 32 := Scalar.select v1634 c1_i32_1311 c2_i32_1309
  let v1636 : BitVec 32 := Scalar.remsi v1632 v1635
  let c0_i32_1313 : BitVec 32 := 0#32
  let v1638 : BitVec 1 := Scalar.cmpi .slt v1636 c0_i32_1313
  let c0_i32_1314 : BitVec 32 := 0#32
  let v1639 : BitVec 1 := Scalar.cmpi .slt v1635 c0_i32_1314
  let v1640 : BitVec 1 := Scalar.xori v1638 v1639
  let c0_i32_1312 : BitVec 32 := 0#32
  let v1637 : BitVec 1 := Scalar.cmpi .ne v1636 c0_i32_1312
  let v1641 : BitVec 1 := Scalar.andi v1640 v1637
  let v1642 : BitVec 32 := Scalar.addi v1636 v1635
  let v1643 : BitVec 32 := Scalar.select v1641 v1642 v1636
  let c0_i32_1315 : BitVec 32 := 0#32
  let v1644 : BitVec 1 := Scalar.cmpi .eq v1643 c0_i32_1315
  let c4_i32_1274 : BitVec 32 := 4#32
  let c0_i32_1275 : BitVec 32 := 0#32
  let v1580 : BitVec 1 := Scalar.cmpi .eq c4_i32_1274 c0_i32_1275
  let c1_i32_1276 : BitVec 32 := 1#32
  let v1581 : BitVec 32 := Scalar.select v1580 c1_i32_1276 c4_i32_1274
  let v1582 : BitVec 32 := Scalar.remsi v1562 v1581
  let c0_i32_1278 : BitVec 32 := 0#32
  let v1584 : BitVec 1 := Scalar.cmpi .slt v1582 c0_i32_1278
  let c0_i32_1279 : BitVec 32 := 0#32
  let v1585 : BitVec 1 := Scalar.cmpi .slt v1581 c0_i32_1279
  let v1586 : BitVec 1 := Scalar.xori v1584 v1585
  let c0_i32_1277 : BitVec 32 := 0#32
  let v1583 : BitVec 1 := Scalar.cmpi .ne v1582 c0_i32_1277
  let v1587 : BitVec 1 := Scalar.andi v1586 v1583
  let v1588 : BitVec 32 := Scalar.addi v1582 v1581
  let v1589 : BitVec 32 := Scalar.select v1587 v1588 v1582
  let c1_i32_1280 : BitVec 32 := 1#32
  let v1590 : BitVec 1 := Scalar.cmpi .eq v1589 c1_i32_1280
  let c2_i32_1281 : BitVec 32 := 2#32
  let v1591 : BitVec 1 := Scalar.cmpi .eq v1589 c2_i32_1281
  let v1592 : BitVec 1 := Scalar.ori v1590 v1591
  let c1_i32_1282 : BitVec 32 := 1#32
  let c0_i32_1283 : BitVec 32 := 0#32
  let v1593 : BitVec 32 := Scalar.select v1592 c1_i32_1282 c0_i32_1283
  let c1_i32_1316 : BitVec 32 := 1#32
  let v1645 : BitVec 32 := Scalar.subi c1_i32_1316 v1593
  let v1646 : BitVec 32 := Scalar.select v1644 v1593 v1645
  let v1647 : BitVec 32 := Scalar.addi v1633 v1646
  let v1649 : BitVec 32 := Scalar.addi v1648 v1647
  let c1_i32_1361 : BitVec 32 := 1#32
  let v1688 : BitVec 32 := Scalar.muli v1649 c1_i32_1361
  let v1689 : BitVec 32 := Scalar.addi c0_i32_1362 v1688
  v1689.toNat
def k0_dev25 (d0 : Dev nD) : Nat :=
  let c0_i32_1378 : BitVec 32 := 0#32
  let c8_i32_1334 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1255 : BitVec 32 := 0#32
  let v1537 : BitVec 1 := Scalar.cmpi .sgt v2 c0_i32_1255
  let v1538 : BitVec 32 := Scalar.extui v1537
  let c0_i32_1256 : BitVec 32 := 0#32
  let v1539 : BitVec 1 := Scalar.cmpi .slt v2 c0_i32_1256
  let v1540 : BitVec 32 := Scalar.extui v1539
  let v1541 : BitVec 32 := Scalar.subi v1538 v1540
  let c8_i32_1254 : BitVec 32 := 8#32
  let c0_i32_1257 : BitVec 32 := 0#32
  let v1542 : BitVec 1 := Scalar.cmpi .sgt c8_i32_1254 c0_i32_1257
  let v1543 : BitVec 32 := Scalar.extui v1542
  let c0_i32_1258 : BitVec 32 := 0#32
  let v1544 : BitVec 1 := Scalar.cmpi .slt c8_i32_1254 c0_i32_1258
  let v1545 : BitVec 32 := Scalar.extui v1544
  let v1546 : BitVec 32 := Scalar.subi v1543 v1545
  let v1547 : BitVec 1 := Scalar.cmpi .ne v1541 v1546
  let v1548 : BitVec 32 := Scalar.remsi v2 c8_i32_1254
  let c0_i32_1259 : BitVec 32 := 0#32
  let v1549 : BitVec 1 := Scalar.cmpi .ne v1548 c0_i32_1259
  let v1550 : BitVec 1 := Scalar.andi v1547 v1549
  let v1536 : BitVec 32 := Scalar.divsi v2 c8_i32_1254
  let c1_i32_1260 : BitVec 32 := 1#32
  let v1551 : BitVec 32 := Scalar.subi v1536 c1_i32_1260
  let v1552 : BitVec 32 := Scalar.select v1550 v1551 v1536
  let v1676 : BitVec 32 := Scalar.muli c8_i32_1334 v1552
  let c2_i32_1325 : BitVec 32 := 2#32
  let c8_i32_1261 : BitVec 32 := 8#32
  let c0_i32_1262 : BitVec 32 := 0#32
  let v1553 : BitVec 1 := Scalar.cmpi .eq c8_i32_1261 c0_i32_1262
  let c1_i32_1263 : BitVec 32 := 1#32
  let v1554 : BitVec 32 := Scalar.select v1553 c1_i32_1263 c8_i32_1261
  let v1555 : BitVec 32 := Scalar.remsi v2 v1554
  let c0_i32_1265 : BitVec 32 := 0#32
  let v1557 : BitVec 1 := Scalar.cmpi .slt v1555 c0_i32_1265
  let c0_i32_1266 : BitVec 32 := 0#32
  let v1558 : BitVec 1 := Scalar.cmpi .slt v1554 c0_i32_1266
  let v1559 : BitVec 1 := Scalar.xori v1557 v1558
  let c0_i32_1264 : BitVec 32 := 0#32
  let v1556 : BitVec 1 := Scalar.cmpi .ne v1555 c0_i32_1264
  let v1560 : BitVec 1 := Scalar.andi v1559 v1556
  let v1561 : BitVec 32 := Scalar.addi v1555 v1554
  let v1562 : BitVec 32 := Scalar.select v1560 v1561 v1555
  let c0_i32_1268 : BitVec 32 := 0#32
  let v1564 : BitVec 1 := Scalar.cmpi .sgt v1562 c0_i32_1268
  let v1565 : BitVec 32 := Scalar.extui v1564
  let c0_i32_1269 : BitVec 32 := 0#32
  let v1566 : BitVec 1 := Scalar.cmpi .slt v1562 c0_i32_1269
  let v1567 : BitVec 32 := Scalar.extui v1566
  let v1568 : BitVec 32 := Scalar.subi v1565 v1567
  let c2_i32_1267 : BitVec 32 := 2#32
  let c0_i32_1270 : BitVec 32 := 0#32
  let v1569 : BitVec 1 := Scalar.cmpi .sgt c2_i32_1267 c0_i32_1270
  let v1570 : BitVec 32 := Scalar.extui v1569
  let c0_i32_1271 : BitVec 32 := 0#32
  let v1571 : BitVec 1 := Scalar.cmpi .slt c2_i32_1267 c0_i32_1271
  let v1572 : BitVec 32 := Scalar.extui v1571
  let v1573 : BitVec 32 := Scalar.subi v1570 v1572
  let v1574 : BitVec 1 := Scalar.cmpi .ne v1568 v1573
  let v1575 : BitVec 32 := Scalar.remsi v1562 c2_i32_1267
  let c0_i32_1272 : BitVec 32 := 0#32
  let v1576 : BitVec 1 := Scalar.cmpi .ne v1575 c0_i32_1272
  let v1577 : BitVec 1 := Scalar.andi v1574 v1576
  let v1563 : BitVec 32 := Scalar.divsi v1562 c2_i32_1267
  let c1_i32_1273 : BitVec 32 := 1#32
  let v1578 : BitVec 32 := Scalar.subi v1563 c1_i32_1273
  let v1579 : BitVec 32 := Scalar.select v1577 v1578 v1563
  let c3_i32_1318 : BitVec 32 := 3#32
  let v1650 : BitVec 32 := Scalar.addi v1579 c3_i32_1318
  let c4_i32_1319 : BitVec 32 := 4#32
  let c0_i32_1320 : BitVec 32 := 0#32
  let v1651 : BitVec 1 := Scalar.cmpi .eq c4_i32_1319 c0_i32_1320
  let c1_i32_1321 : BitVec 32 := 1#32
  let v1652 : BitVec 32 := Scalar.select v1651 c1_i32_1321 c4_i32_1319
  let v1653 : BitVec 32 := Scalar.remsi v1650 v1652
  let c0_i32_1323 : BitVec 32 := 0#32
  let v1655 : BitVec 1 := Scalar.cmpi .slt v1653 c0_i32_1323
  let c0_i32_1324 : BitVec 32 := 0#32
  let v1656 : BitVec 1 := Scalar.cmpi .slt v1652 c0_i32_1324
  let v1657 : BitVec 1 := Scalar.xori v1655 v1656
  let c0_i32_1322 : BitVec 32 := 0#32
  let v1654 : BitVec 1 := Scalar.cmpi .ne v1653 c0_i32_1322
  let v1658 : BitVec 1 := Scalar.andi v1657 v1654
  let v1659 : BitVec 32 := Scalar.addi v1653 v1652
  let v1660 : BitVec 32 := Scalar.select v1658 v1659 v1653
  let v1661 : BitVec 32 := Scalar.muli c2_i32_1325 v1660
  let c2_i32_1326 : BitVec 32 := 2#32
  let c0_i32_1327 : BitVec 32 := 0#32
  let v1662 : BitVec 1 := Scalar.cmpi .eq c2_i32_1326 c0_i32_1327
  let c1_i32_1328 : BitVec 32 := 1#32
  let v1663 : BitVec 32 := Scalar.select v1662 c1_i32_1328 c2_i32_1326
  let v1664 : BitVec 32 := Scalar.remsi v1660 v1663
  let c0_i32_1330 : BitVec 32 := 0#32
  let v1666 : BitVec 1 := Scalar.cmpi .slt v1664 c0_i32_1330
  let c0_i32_1331 : BitVec 32 := 0#32
  let v1667 : BitVec 1 := Scalar.cmpi .slt v1663 c0_i32_1331
  let v1668 : BitVec 1 := Scalar.xori v1666 v1667
  let c0_i32_1329 : BitVec 32 := 0#32
  let v1665 : BitVec 1 := Scalar.cmpi .ne v1664 c0_i32_1329
  let v1669 : BitVec 1 := Scalar.andi v1668 v1665
  let v1670 : BitVec 32 := Scalar.addi v1664 v1663
  let v1671 : BitVec 32 := Scalar.select v1669 v1670 v1664
  let c0_i32_1332 : BitVec 32 := 0#32
  let v1672 : BitVec 1 := Scalar.cmpi .eq v1671 c0_i32_1332
  let c4_i32_1274 : BitVec 32 := 4#32
  let c0_i32_1275 : BitVec 32 := 0#32
  let v1580 : BitVec 1 := Scalar.cmpi .eq c4_i32_1274 c0_i32_1275
  let c1_i32_1276 : BitVec 32 := 1#32
  let v1581 : BitVec 32 := Scalar.select v1580 c1_i32_1276 c4_i32_1274
  let v1582 : BitVec 32 := Scalar.remsi v1562 v1581
  let c0_i32_1278 : BitVec 32 := 0#32
  let v1584 : BitVec 1 := Scalar.cmpi .slt v1582 c0_i32_1278
  let c0_i32_1279 : BitVec 32 := 0#32
  let v1585 : BitVec 1 := Scalar.cmpi .slt v1581 c0_i32_1279
  let v1586 : BitVec 1 := Scalar.xori v1584 v1585
  let c0_i32_1277 : BitVec 32 := 0#32
  let v1583 : BitVec 1 := Scalar.cmpi .ne v1582 c0_i32_1277
  let v1587 : BitVec 1 := Scalar.andi v1586 v1583
  let v1588 : BitVec 32 := Scalar.addi v1582 v1581
  let v1589 : BitVec 32 := Scalar.select v1587 v1588 v1582
  let c1_i32_1280 : BitVec 32 := 1#32
  let v1590 : BitVec 1 := Scalar.cmpi .eq v1589 c1_i32_1280
  let c2_i32_1281 : BitVec 32 := 2#32
  let v1591 : BitVec 1 := Scalar.cmpi .eq v1589 c2_i32_1281
  let v1592 : BitVec 1 := Scalar.ori v1590 v1591
  let c1_i32_1282 : BitVec 32 := 1#32
  let c0_i32_1283 : BitVec 32 := 0#32
  let v1593 : BitVec 32 := Scalar.select v1592 c1_i32_1282 c0_i32_1283
  let c1_i32_1333 : BitVec 32 := 1#32
  let v1673 : BitVec 32 := Scalar.subi c1_i32_1333 v1593
  let v1674 : BitVec 32 := Scalar.select v1672 v1593 v1673
  let v1675 : BitVec 32 := Scalar.addi v1661 v1674
  let v1677 : BitVec 32 := Scalar.addi v1676 v1675
  let c1_i32_1377 : BitVec 32 := 1#32
  let v1698 : BitVec 32 := Scalar.muli v1677 c1_i32_1377
  let v1699 : BitVec 32 := Scalar.addi c0_i32_1378 v1698
  v1699.toNat
def k0_dev26 (d0 : Dev nD) : Nat :=
  let c0_i32_1589 : BitVec 32 := 0#32
  let c8_i32_1543 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1498 : BitVec 32 := 0#32
  let v1765 : BitVec 1 := Scalar.cmpi .sgt v2 c0_i32_1498
  let v1766 : BitVec 32 := Scalar.extui v1765
  let c0_i32_1499 : BitVec 32 := 0#32
  let v1767 : BitVec 1 := Scalar.cmpi .slt v2 c0_i32_1499
  let v1768 : BitVec 32 := Scalar.extui v1767
  let v1769 : BitVec 32 := Scalar.subi v1766 v1768
  let c8_i32_1497 : BitVec 32 := 8#32
  let c0_i32_1500 : BitVec 32 := 0#32
  let v1770 : BitVec 1 := Scalar.cmpi .sgt c8_i32_1497 c0_i32_1500
  let v1771 : BitVec 32 := Scalar.extui v1770
  let c0_i32_1501 : BitVec 32 := 0#32
  let v1772 : BitVec 1 := Scalar.cmpi .slt c8_i32_1497 c0_i32_1501
  let v1773 : BitVec 32 := Scalar.extui v1772
  let v1774 : BitVec 32 := Scalar.subi v1771 v1773
  let v1775 : BitVec 1 := Scalar.cmpi .ne v1769 v1774
  let v1776 : BitVec 32 := Scalar.remsi v2 c8_i32_1497
  let c0_i32_1502 : BitVec 32 := 0#32
  let v1777 : BitVec 1 := Scalar.cmpi .ne v1776 c0_i32_1502
  let v1778 : BitVec 1 := Scalar.andi v1775 v1777
  let v1764 : BitVec 32 := Scalar.divsi v2 c8_i32_1497
  let c1_i32_1503 : BitVec 32 := 1#32
  let v1779 : BitVec 32 := Scalar.subi v1764 c1_i32_1503
  let v1780 : BitVec 32 := Scalar.select v1778 v1779 v1764
  let c1_i32_1527 : BitVec 32 := 1#32
  let v1822 : BitVec 32 := Scalar.addi v1780 c1_i32_1527
  let c4_i32_1528 : BitVec 32 := 4#32
  let c0_i32_1529 : BitVec 32 := 0#32
  let v1823 : BitVec 1 := Scalar.cmpi .eq c4_i32_1528 c0_i32_1529
  let c1_i32_1530 : BitVec 32 := 1#32
  let v1824 : BitVec 32 := Scalar.select v1823 c1_i32_1530 c4_i32_1528
  let v1825 : BitVec 32 := Scalar.remsi v1822 v1824
  let c0_i32_1532 : BitVec 32 := 0#32
  let v1827 : BitVec 1 := Scalar.cmpi .slt v1825 c0_i32_1532
  let c0_i32_1533 : BitVec 32 := 0#32
  let v1828 : BitVec 1 := Scalar.cmpi .slt v1824 c0_i32_1533
  let v1829 : BitVec 1 := Scalar.xori v1827 v1828
  let c0_i32_1531 : BitVec 32 := 0#32
  let v1826 : BitVec 1 := Scalar.cmpi .ne v1825 c0_i32_1531
  let v1830 : BitVec 1 := Scalar.andi v1829 v1826
  let v1831 : BitVec 32 := Scalar.addi v1825 v1824
  let v1832 : BitVec 32 := Scalar.select v1830 v1831 v1825
  let v1848 : BitVec 32 := Scalar.muli c8_i32_1543 v1832
  let c2_i32_1534 : BitVec 32 := 2#32
  let c8_i32_1504 : BitVec 32 := 8#32
  let c0_i32_1505 : BitVec 32 := 0#32
  let v1781 : BitVec 1 := Scalar.cmpi .eq c8_i32_1504 c0_i32_1505
  let c1_i32_1506 : BitVec 32 := 1#32
  let v1782 : BitVec 32 := Scalar.select v1781 c1_i32_1506 c8_i32_1504
  let v1783 : BitVec 32 := Scalar.remsi v2 v1782
  let c0_i32_1508 : BitVec 32 := 0#32
  let v1785 : BitVec 1 := Scalar.cmpi .slt v1783 c0_i32_1508
  let c0_i32_1509 : BitVec 32 := 0#32
  let v1786 : BitVec 1 := Scalar.cmpi .slt v1782 c0_i32_1509
  let v1787 : BitVec 1 := Scalar.xori v1785 v1786
  let c0_i32_1507 : BitVec 32 := 0#32
  let v1784 : BitVec 1 := Scalar.cmpi .ne v1783 c0_i32_1507
  let v1788 : BitVec 1 := Scalar.andi v1787 v1784
  let v1789 : BitVec 32 := Scalar.addi v1783 v1782
  let v1790 : BitVec 32 := Scalar.select v1788 v1789 v1783
  let c0_i32_1511 : BitVec 32 := 0#32
  let v1792 : BitVec 1 := Scalar.cmpi .sgt v1790 c0_i32_1511
  let v1793 : BitVec 32 := Scalar.extui v1792
  let c0_i32_1512 : BitVec 32 := 0#32
  let v1794 : BitVec 1 := Scalar.cmpi .slt v1790 c0_i32_1512
  let v1795 : BitVec 32 := Scalar.extui v1794
  let v1796 : BitVec 32 := Scalar.subi v1793 v1795
  let c2_i32_1510 : BitVec 32 := 2#32
  let c0_i32_1513 : BitVec 32 := 0#32
  let v1797 : BitVec 1 := Scalar.cmpi .sgt c2_i32_1510 c0_i32_1513
  let v1798 : BitVec 32 := Scalar.extui v1797
  let c0_i32_1514 : BitVec 32 := 0#32
  let v1799 : BitVec 1 := Scalar.cmpi .slt c2_i32_1510 c0_i32_1514
  let v1800 : BitVec 32 := Scalar.extui v1799
  let v1801 : BitVec 32 := Scalar.subi v1798 v1800
  let v1802 : BitVec 1 := Scalar.cmpi .ne v1796 v1801
  let v1803 : BitVec 32 := Scalar.remsi v1790 c2_i32_1510
  let c0_i32_1515 : BitVec 32 := 0#32
  let v1804 : BitVec 1 := Scalar.cmpi .ne v1803 c0_i32_1515
  let v1805 : BitVec 1 := Scalar.andi v1802 v1804
  let v1791 : BitVec 32 := Scalar.divsi v1790 c2_i32_1510
  let c1_i32_1516 : BitVec 32 := 1#32
  let v1806 : BitVec 32 := Scalar.subi v1791 c1_i32_1516
  let v1807 : BitVec 32 := Scalar.select v1805 v1806 v1791
  let v1833 : BitVec 32 := Scalar.muli c2_i32_1534 v1807
  let c2_i32_1535 : BitVec 32 := 2#32
  let c0_i32_1536 : BitVec 32 := 0#32
  let v1834 : BitVec 1 := Scalar.cmpi .eq c2_i32_1535 c0_i32_1536
  let c1_i32_1537 : BitVec 32 := 1#32
  let v1835 : BitVec 32 := Scalar.select v1834 c1_i32_1537 c2_i32_1535
  let v1836 : BitVec 32 := Scalar.remsi v1807 v1835
  let c0_i32_1539 : BitVec 32 := 0#32
  let v1838 : BitVec 1 := Scalar.cmpi .slt v1836 c0_i32_1539
  let c0_i32_1540 : BitVec 32 := 0#32
  let v1839 : BitVec 1 := Scalar.cmpi .slt v1835 c0_i32_1540
  let v1840 : BitVec 1 := Scalar.xori v1838 v1839
  let c0_i32_1538 : BitVec 32 := 0#32
  let v1837 : BitVec 1 := Scalar.cmpi .ne v1836 c0_i32_1538
  let v1841 : BitVec 1 := Scalar.andi v1840 v1837
  let v1842 : BitVec 32 := Scalar.addi v1836 v1835
  let v1843 : BitVec 32 := Scalar.select v1841 v1842 v1836
  let c0_i32_1541 : BitVec 32 := 0#32
  let v1844 : BitVec 1 := Scalar.cmpi .eq v1843 c0_i32_1541
  let c4_i32_1517 : BitVec 32 := 4#32
  let c0_i32_1518 : BitVec 32 := 0#32
  let v1808 : BitVec 1 := Scalar.cmpi .eq c4_i32_1517 c0_i32_1518
  let c1_i32_1519 : BitVec 32 := 1#32
  let v1809 : BitVec 32 := Scalar.select v1808 c1_i32_1519 c4_i32_1517
  let v1810 : BitVec 32 := Scalar.remsi v1790 v1809
  let c0_i32_1521 : BitVec 32 := 0#32
  let v1812 : BitVec 1 := Scalar.cmpi .slt v1810 c0_i32_1521
  let c0_i32_1522 : BitVec 32 := 0#32
  let v1813 : BitVec 1 := Scalar.cmpi .slt v1809 c0_i32_1522
  let v1814 : BitVec 1 := Scalar.xori v1812 v1813
  let c0_i32_1520 : BitVec 32 := 0#32
  let v1811 : BitVec 1 := Scalar.cmpi .ne v1810 c0_i32_1520
  let v1815 : BitVec 1 := Scalar.andi v1814 v1811
  let v1816 : BitVec 32 := Scalar.addi v1810 v1809
  let v1817 : BitVec 32 := Scalar.select v1815 v1816 v1810
  let c1_i32_1523 : BitVec 32 := 1#32
  let v1818 : BitVec 1 := Scalar.cmpi .eq v1817 c1_i32_1523
  let c2_i32_1524 : BitVec 32 := 2#32
  let v1819 : BitVec 1 := Scalar.cmpi .eq v1817 c2_i32_1524
  let v1820 : BitVec 1 := Scalar.ori v1818 v1819
  let c1_i32_1525 : BitVec 32 := 1#32
  let c0_i32_1526 : BitVec 32 := 0#32
  let v1821 : BitVec 32 := Scalar.select v1820 c1_i32_1525 c0_i32_1526
  let c1_i32_1542 : BitVec 32 := 1#32
  let v1845 : BitVec 32 := Scalar.subi c1_i32_1542 v1821
  let v1846 : BitVec 32 := Scalar.select v1844 v1821 v1845
  let v1847 : BitVec 32 := Scalar.addi v1833 v1846
  let v1849 : BitVec 32 := Scalar.addi v1848 v1847
  let c1_i32_1588 : BitVec 32 := 1#32
  let v1906 : BitVec 32 := Scalar.muli v1849 c1_i32_1588
  let v1907 : BitVec 32 := Scalar.addi c0_i32_1589 v1906
  v1907.toNat
def k0_dev27 (d0 : Dev nD) : Nat :=
  let c0_i32_1605 : BitVec 32 := 0#32
  let c8_i32_1560 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1498 : BitVec 32 := 0#32
  let v1765 : BitVec 1 := Scalar.cmpi .sgt v2 c0_i32_1498
  let v1766 : BitVec 32 := Scalar.extui v1765
  let c0_i32_1499 : BitVec 32 := 0#32
  let v1767 : BitVec 1 := Scalar.cmpi .slt v2 c0_i32_1499
  let v1768 : BitVec 32 := Scalar.extui v1767
  let v1769 : BitVec 32 := Scalar.subi v1766 v1768
  let c8_i32_1497 : BitVec 32 := 8#32
  let c0_i32_1500 : BitVec 32 := 0#32
  let v1770 : BitVec 1 := Scalar.cmpi .sgt c8_i32_1497 c0_i32_1500
  let v1771 : BitVec 32 := Scalar.extui v1770
  let c0_i32_1501 : BitVec 32 := 0#32
  let v1772 : BitVec 1 := Scalar.cmpi .slt c8_i32_1497 c0_i32_1501
  let v1773 : BitVec 32 := Scalar.extui v1772
  let v1774 : BitVec 32 := Scalar.subi v1771 v1773
  let v1775 : BitVec 1 := Scalar.cmpi .ne v1769 v1774
  let v1776 : BitVec 32 := Scalar.remsi v2 c8_i32_1497
  let c0_i32_1502 : BitVec 32 := 0#32
  let v1777 : BitVec 1 := Scalar.cmpi .ne v1776 c0_i32_1502
  let v1778 : BitVec 1 := Scalar.andi v1775 v1777
  let v1764 : BitVec 32 := Scalar.divsi v2 c8_i32_1497
  let c1_i32_1503 : BitVec 32 := 1#32
  let v1779 : BitVec 32 := Scalar.subi v1764 c1_i32_1503
  let v1780 : BitVec 32 := Scalar.select v1778 v1779 v1764
  let c2_i32_1544 : BitVec 32 := 2#32
  let v1850 : BitVec 32 := Scalar.addi v1780 c2_i32_1544
  let c4_i32_1545 : BitVec 32 := 4#32
  let c0_i32_1546 : BitVec 32 := 0#32
  let v1851 : BitVec 1 := Scalar.cmpi .eq c4_i32_1545 c0_i32_1546
  let c1_i32_1547 : BitVec 32 := 1#32
  let v1852 : BitVec 32 := Scalar.select v1851 c1_i32_1547 c4_i32_1545
  let v1853 : BitVec 32 := Scalar.remsi v1850 v1852
  let c0_i32_1549 : BitVec 32 := 0#32
  let v1855 : BitVec 1 := Scalar.cmpi .slt v1853 c0_i32_1549
  let c0_i32_1550 : BitVec 32 := 0#32
  let v1856 : BitVec 1 := Scalar.cmpi .slt v1852 c0_i32_1550
  let v1857 : BitVec 1 := Scalar.xori v1855 v1856
  let c0_i32_1548 : BitVec 32 := 0#32
  let v1854 : BitVec 1 := Scalar.cmpi .ne v1853 c0_i32_1548
  let v1858 : BitVec 1 := Scalar.andi v1857 v1854
  let v1859 : BitVec 32 := Scalar.addi v1853 v1852
  let v1860 : BitVec 32 := Scalar.select v1858 v1859 v1853
  let v1876 : BitVec 32 := Scalar.muli c8_i32_1560 v1860
  let c2_i32_1551 : BitVec 32 := 2#32
  let c8_i32_1504 : BitVec 32 := 8#32
  let c0_i32_1505 : BitVec 32 := 0#32
  let v1781 : BitVec 1 := Scalar.cmpi .eq c8_i32_1504 c0_i32_1505
  let c1_i32_1506 : BitVec 32 := 1#32
  let v1782 : BitVec 32 := Scalar.select v1781 c1_i32_1506 c8_i32_1504
  let v1783 : BitVec 32 := Scalar.remsi v2 v1782
  let c0_i32_1508 : BitVec 32 := 0#32
  let v1785 : BitVec 1 := Scalar.cmpi .slt v1783 c0_i32_1508
  let c0_i32_1509 : BitVec 32 := 0#32
  let v1786 : BitVec 1 := Scalar.cmpi .slt v1782 c0_i32_1509
  let v1787 : BitVec 1 := Scalar.xori v1785 v1786
  let c0_i32_1507 : BitVec 32 := 0#32
  let v1784 : BitVec 1 := Scalar.cmpi .ne v1783 c0_i32_1507
  let v1788 : BitVec 1 := Scalar.andi v1787 v1784
  let v1789 : BitVec 32 := Scalar.addi v1783 v1782
  let v1790 : BitVec 32 := Scalar.select v1788 v1789 v1783
  let c0_i32_1511 : BitVec 32 := 0#32
  let v1792 : BitVec 1 := Scalar.cmpi .sgt v1790 c0_i32_1511
  let v1793 : BitVec 32 := Scalar.extui v1792
  let c0_i32_1512 : BitVec 32 := 0#32
  let v1794 : BitVec 1 := Scalar.cmpi .slt v1790 c0_i32_1512
  let v1795 : BitVec 32 := Scalar.extui v1794
  let v1796 : BitVec 32 := Scalar.subi v1793 v1795
  let c2_i32_1510 : BitVec 32 := 2#32
  let c0_i32_1513 : BitVec 32 := 0#32
  let v1797 : BitVec 1 := Scalar.cmpi .sgt c2_i32_1510 c0_i32_1513
  let v1798 : BitVec 32 := Scalar.extui v1797
  let c0_i32_1514 : BitVec 32 := 0#32
  let v1799 : BitVec 1 := Scalar.cmpi .slt c2_i32_1510 c0_i32_1514
  let v1800 : BitVec 32 := Scalar.extui v1799
  let v1801 : BitVec 32 := Scalar.subi v1798 v1800
  let v1802 : BitVec 1 := Scalar.cmpi .ne v1796 v1801
  let v1803 : BitVec 32 := Scalar.remsi v1790 c2_i32_1510
  let c0_i32_1515 : BitVec 32 := 0#32
  let v1804 : BitVec 1 := Scalar.cmpi .ne v1803 c0_i32_1515
  let v1805 : BitVec 1 := Scalar.andi v1802 v1804
  let v1791 : BitVec 32 := Scalar.divsi v1790 c2_i32_1510
  let c1_i32_1516 : BitVec 32 := 1#32
  let v1806 : BitVec 32 := Scalar.subi v1791 c1_i32_1516
  let v1807 : BitVec 32 := Scalar.select v1805 v1806 v1791
  let v1861 : BitVec 32 := Scalar.muli c2_i32_1551 v1807
  let c2_i32_1552 : BitVec 32 := 2#32
  let c0_i32_1553 : BitVec 32 := 0#32
  let v1862 : BitVec 1 := Scalar.cmpi .eq c2_i32_1552 c0_i32_1553
  let c1_i32_1554 : BitVec 32 := 1#32
  let v1863 : BitVec 32 := Scalar.select v1862 c1_i32_1554 c2_i32_1552
  let v1864 : BitVec 32 := Scalar.remsi v1807 v1863
  let c0_i32_1556 : BitVec 32 := 0#32
  let v1866 : BitVec 1 := Scalar.cmpi .slt v1864 c0_i32_1556
  let c0_i32_1557 : BitVec 32 := 0#32
  let v1867 : BitVec 1 := Scalar.cmpi .slt v1863 c0_i32_1557
  let v1868 : BitVec 1 := Scalar.xori v1866 v1867
  let c0_i32_1555 : BitVec 32 := 0#32
  let v1865 : BitVec 1 := Scalar.cmpi .ne v1864 c0_i32_1555
  let v1869 : BitVec 1 := Scalar.andi v1868 v1865
  let v1870 : BitVec 32 := Scalar.addi v1864 v1863
  let v1871 : BitVec 32 := Scalar.select v1869 v1870 v1864
  let c0_i32_1558 : BitVec 32 := 0#32
  let v1872 : BitVec 1 := Scalar.cmpi .eq v1871 c0_i32_1558
  let c4_i32_1517 : BitVec 32 := 4#32
  let c0_i32_1518 : BitVec 32 := 0#32
  let v1808 : BitVec 1 := Scalar.cmpi .eq c4_i32_1517 c0_i32_1518
  let c1_i32_1519 : BitVec 32 := 1#32
  let v1809 : BitVec 32 := Scalar.select v1808 c1_i32_1519 c4_i32_1517
  let v1810 : BitVec 32 := Scalar.remsi v1790 v1809
  let c0_i32_1521 : BitVec 32 := 0#32
  let v1812 : BitVec 1 := Scalar.cmpi .slt v1810 c0_i32_1521
  let c0_i32_1522 : BitVec 32 := 0#32
  let v1813 : BitVec 1 := Scalar.cmpi .slt v1809 c0_i32_1522
  let v1814 : BitVec 1 := Scalar.xori v1812 v1813
  let c0_i32_1520 : BitVec 32 := 0#32
  let v1811 : BitVec 1 := Scalar.cmpi .ne v1810 c0_i32_1520
  let v1815 : BitVec 1 := Scalar.andi v1814 v1811
  let v1816 : BitVec 32 := Scalar.addi v1810 v1809
  let v1817 : BitVec 32 := Scalar.select v1815 v1816 v1810
  let c1_i32_1523 : BitVec 32 := 1#32
  let v1818 : BitVec 1 := Scalar.cmpi .eq v1817 c1_i32_1523
  let c2_i32_1524 : BitVec 32 := 2#32
  let v1819 : BitVec 1 := Scalar.cmpi .eq v1817 c2_i32_1524
  let v1820 : BitVec 1 := Scalar.ori v1818 v1819
  let c1_i32_1525 : BitVec 32 := 1#32
  let c0_i32_1526 : BitVec 32 := 0#32
  let v1821 : BitVec 32 := Scalar.select v1820 c1_i32_1525 c0_i32_1526
  let c1_i32_1559 : BitVec 32 := 1#32
  let v1873 : BitVec 32 := Scalar.subi c1_i32_1559 v1821
  let v1874 : BitVec 32 := Scalar.select v1872 v1821 v1873
  let v1875 : BitVec 32 := Scalar.addi v1861 v1874
  let v1877 : BitVec 32 := Scalar.addi v1876 v1875
  let c1_i32_1604 : BitVec 32 := 1#32
  let v1916 : BitVec 32 := Scalar.muli v1877 c1_i32_1604
  let v1917 : BitVec 32 := Scalar.addi c0_i32_1605 v1916
  v1917.toNat
def k0_dev28 (d0 : Dev nD) : Nat :=
  let c0_i32_1621 : BitVec 32 := 0#32
  let c8_i32_1577 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1498 : BitVec 32 := 0#32
  let v1765 : BitVec 1 := Scalar.cmpi .sgt v2 c0_i32_1498
  let v1766 : BitVec 32 := Scalar.extui v1765
  let c0_i32_1499 : BitVec 32 := 0#32
  let v1767 : BitVec 1 := Scalar.cmpi .slt v2 c0_i32_1499
  let v1768 : BitVec 32 := Scalar.extui v1767
  let v1769 : BitVec 32 := Scalar.subi v1766 v1768
  let c8_i32_1497 : BitVec 32 := 8#32
  let c0_i32_1500 : BitVec 32 := 0#32
  let v1770 : BitVec 1 := Scalar.cmpi .sgt c8_i32_1497 c0_i32_1500
  let v1771 : BitVec 32 := Scalar.extui v1770
  let c0_i32_1501 : BitVec 32 := 0#32
  let v1772 : BitVec 1 := Scalar.cmpi .slt c8_i32_1497 c0_i32_1501
  let v1773 : BitVec 32 := Scalar.extui v1772
  let v1774 : BitVec 32 := Scalar.subi v1771 v1773
  let v1775 : BitVec 1 := Scalar.cmpi .ne v1769 v1774
  let v1776 : BitVec 32 := Scalar.remsi v2 c8_i32_1497
  let c0_i32_1502 : BitVec 32 := 0#32
  let v1777 : BitVec 1 := Scalar.cmpi .ne v1776 c0_i32_1502
  let v1778 : BitVec 1 := Scalar.andi v1775 v1777
  let v1764 : BitVec 32 := Scalar.divsi v2 c8_i32_1497
  let c1_i32_1503 : BitVec 32 := 1#32
  let v1779 : BitVec 32 := Scalar.subi v1764 c1_i32_1503
  let v1780 : BitVec 32 := Scalar.select v1778 v1779 v1764
  let c3_i32_1561 : BitVec 32 := 3#32
  let v1878 : BitVec 32 := Scalar.addi v1780 c3_i32_1561
  let c4_i32_1562 : BitVec 32 := 4#32
  let c0_i32_1563 : BitVec 32 := 0#32
  let v1879 : BitVec 1 := Scalar.cmpi .eq c4_i32_1562 c0_i32_1563
  let c1_i32_1564 : BitVec 32 := 1#32
  let v1880 : BitVec 32 := Scalar.select v1879 c1_i32_1564 c4_i32_1562
  let v1881 : BitVec 32 := Scalar.remsi v1878 v1880
  let c0_i32_1566 : BitVec 32 := 0#32
  let v1883 : BitVec 1 := Scalar.cmpi .slt v1881 c0_i32_1566
  let c0_i32_1567 : BitVec 32 := 0#32
  let v1884 : BitVec 1 := Scalar.cmpi .slt v1880 c0_i32_1567
  let v1885 : BitVec 1 := Scalar.xori v1883 v1884
  let c0_i32_1565 : BitVec 32 := 0#32
  let v1882 : BitVec 1 := Scalar.cmpi .ne v1881 c0_i32_1565
  let v1886 : BitVec 1 := Scalar.andi v1885 v1882
  let v1887 : BitVec 32 := Scalar.addi v1881 v1880
  let v1888 : BitVec 32 := Scalar.select v1886 v1887 v1881
  let v1904 : BitVec 32 := Scalar.muli c8_i32_1577 v1888
  let c2_i32_1568 : BitVec 32 := 2#32
  let c8_i32_1504 : BitVec 32 := 8#32
  let c0_i32_1505 : BitVec 32 := 0#32
  let v1781 : BitVec 1 := Scalar.cmpi .eq c8_i32_1504 c0_i32_1505
  let c1_i32_1506 : BitVec 32 := 1#32
  let v1782 : BitVec 32 := Scalar.select v1781 c1_i32_1506 c8_i32_1504
  let v1783 : BitVec 32 := Scalar.remsi v2 v1782
  let c0_i32_1508 : BitVec 32 := 0#32
  let v1785 : BitVec 1 := Scalar.cmpi .slt v1783 c0_i32_1508
  let c0_i32_1509 : BitVec 32 := 0#32
  let v1786 : BitVec 1 := Scalar.cmpi .slt v1782 c0_i32_1509
  let v1787 : BitVec 1 := Scalar.xori v1785 v1786
  let c0_i32_1507 : BitVec 32 := 0#32
  let v1784 : BitVec 1 := Scalar.cmpi .ne v1783 c0_i32_1507
  let v1788 : BitVec 1 := Scalar.andi v1787 v1784
  let v1789 : BitVec 32 := Scalar.addi v1783 v1782
  let v1790 : BitVec 32 := Scalar.select v1788 v1789 v1783
  let c0_i32_1511 : BitVec 32 := 0#32
  let v1792 : BitVec 1 := Scalar.cmpi .sgt v1790 c0_i32_1511
  let v1793 : BitVec 32 := Scalar.extui v1792
  let c0_i32_1512 : BitVec 32 := 0#32
  let v1794 : BitVec 1 := Scalar.cmpi .slt v1790 c0_i32_1512
  let v1795 : BitVec 32 := Scalar.extui v1794
  let v1796 : BitVec 32 := Scalar.subi v1793 v1795
  let c2_i32_1510 : BitVec 32 := 2#32
  let c0_i32_1513 : BitVec 32 := 0#32
  let v1797 : BitVec 1 := Scalar.cmpi .sgt c2_i32_1510 c0_i32_1513
  let v1798 : BitVec 32 := Scalar.extui v1797
  let c0_i32_1514 : BitVec 32 := 0#32
  let v1799 : BitVec 1 := Scalar.cmpi .slt c2_i32_1510 c0_i32_1514
  let v1800 : BitVec 32 := Scalar.extui v1799
  let v1801 : BitVec 32 := Scalar.subi v1798 v1800
  let v1802 : BitVec 1 := Scalar.cmpi .ne v1796 v1801
  let v1803 : BitVec 32 := Scalar.remsi v1790 c2_i32_1510
  let c0_i32_1515 : BitVec 32 := 0#32
  let v1804 : BitVec 1 := Scalar.cmpi .ne v1803 c0_i32_1515
  let v1805 : BitVec 1 := Scalar.andi v1802 v1804
  let v1791 : BitVec 32 := Scalar.divsi v1790 c2_i32_1510
  let c1_i32_1516 : BitVec 32 := 1#32
  let v1806 : BitVec 32 := Scalar.subi v1791 c1_i32_1516
  let v1807 : BitVec 32 := Scalar.select v1805 v1806 v1791
  let v1889 : BitVec 32 := Scalar.muli c2_i32_1568 v1807
  let c2_i32_1569 : BitVec 32 := 2#32
  let c0_i32_1570 : BitVec 32 := 0#32
  let v1890 : BitVec 1 := Scalar.cmpi .eq c2_i32_1569 c0_i32_1570
  let c1_i32_1571 : BitVec 32 := 1#32
  let v1891 : BitVec 32 := Scalar.select v1890 c1_i32_1571 c2_i32_1569
  let v1892 : BitVec 32 := Scalar.remsi v1807 v1891
  let c0_i32_1573 : BitVec 32 := 0#32
  let v1894 : BitVec 1 := Scalar.cmpi .slt v1892 c0_i32_1573
  let c0_i32_1574 : BitVec 32 := 0#32
  let v1895 : BitVec 1 := Scalar.cmpi .slt v1891 c0_i32_1574
  let v1896 : BitVec 1 := Scalar.xori v1894 v1895
  let c0_i32_1572 : BitVec 32 := 0#32
  let v1893 : BitVec 1 := Scalar.cmpi .ne v1892 c0_i32_1572
  let v1897 : BitVec 1 := Scalar.andi v1896 v1893
  let v1898 : BitVec 32 := Scalar.addi v1892 v1891
  let v1899 : BitVec 32 := Scalar.select v1897 v1898 v1892
  let c0_i32_1575 : BitVec 32 := 0#32
  let v1900 : BitVec 1 := Scalar.cmpi .eq v1899 c0_i32_1575
  let c4_i32_1517 : BitVec 32 := 4#32
  let c0_i32_1518 : BitVec 32 := 0#32
  let v1808 : BitVec 1 := Scalar.cmpi .eq c4_i32_1517 c0_i32_1518
  let c1_i32_1519 : BitVec 32 := 1#32
  let v1809 : BitVec 32 := Scalar.select v1808 c1_i32_1519 c4_i32_1517
  let v1810 : BitVec 32 := Scalar.remsi v1790 v1809
  let c0_i32_1521 : BitVec 32 := 0#32
  let v1812 : BitVec 1 := Scalar.cmpi .slt v1810 c0_i32_1521
  let c0_i32_1522 : BitVec 32 := 0#32
  let v1813 : BitVec 1 := Scalar.cmpi .slt v1809 c0_i32_1522
  let v1814 : BitVec 1 := Scalar.xori v1812 v1813
  let c0_i32_1520 : BitVec 32 := 0#32
  let v1811 : BitVec 1 := Scalar.cmpi .ne v1810 c0_i32_1520
  let v1815 : BitVec 1 := Scalar.andi v1814 v1811
  let v1816 : BitVec 32 := Scalar.addi v1810 v1809
  let v1817 : BitVec 32 := Scalar.select v1815 v1816 v1810
  let c1_i32_1523 : BitVec 32 := 1#32
  let v1818 : BitVec 1 := Scalar.cmpi .eq v1817 c1_i32_1523
  let c2_i32_1524 : BitVec 32 := 2#32
  let v1819 : BitVec 1 := Scalar.cmpi .eq v1817 c2_i32_1524
  let v1820 : BitVec 1 := Scalar.ori v1818 v1819
  let c1_i32_1525 : BitVec 32 := 1#32
  let c0_i32_1526 : BitVec 32 := 0#32
  let v1821 : BitVec 32 := Scalar.select v1820 c1_i32_1525 c0_i32_1526
  let c1_i32_1576 : BitVec 32 := 1#32
  let v1901 : BitVec 32 := Scalar.subi c1_i32_1576 v1821
  let v1902 : BitVec 32 := Scalar.select v1900 v1821 v1901
  let v1903 : BitVec 32 := Scalar.addi v1889 v1902
  let v1905 : BitVec 32 := Scalar.addi v1904 v1903
  let c1_i32_1620 : BitVec 32 := 1#32
  let v1926 : BitVec 32 := Scalar.muli v1905 c1_i32_1620
  let v1927 : BitVec 32 := Scalar.addi c0_i32_1621 v1926
  v1927.toNat
def k0_dev29 (d0 : Dev nD) : Nat :=
  let c0_i32_1792 : BitVec 32 := 0#32
  let c8_i32_1780 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1741 : BitVec 32 := 0#32
  let v1993 : BitVec 1 := Scalar.cmpi .sgt v2 c0_i32_1741
  let v1994 : BitVec 32 := Scalar.extui v1993
  let c0_i32_1742 : BitVec 32 := 0#32
  let v1995 : BitVec 1 := Scalar.cmpi .slt v2 c0_i32_1742
  let v1996 : BitVec 32 := Scalar.extui v1995
  let v1997 : BitVec 32 := Scalar.subi v1994 v1996
  let c8_i32_1740 : BitVec 32 := 8#32
  let c0_i32_1743 : BitVec 32 := 0#32
  let v1998 : BitVec 1 := Scalar.cmpi .sgt c8_i32_1740 c0_i32_1743
  let v1999 : BitVec 32 := Scalar.extui v1998
  let c0_i32_1744 : BitVec 32 := 0#32
  let v2000 : BitVec 1 := Scalar.cmpi .slt c8_i32_1740 c0_i32_1744
  let v2001 : BitVec 32 := Scalar.extui v2000
  let v2002 : BitVec 32 := Scalar.subi v1999 v2001
  let v2003 : BitVec 1 := Scalar.cmpi .ne v1997 v2002
  let v2004 : BitVec 32 := Scalar.remsi v2 c8_i32_1740
  let c0_i32_1745 : BitVec 32 := 0#32
  let v2005 : BitVec 1 := Scalar.cmpi .ne v2004 c0_i32_1745
  let v2006 : BitVec 1 := Scalar.andi v2003 v2005
  let v1992 : BitVec 32 := Scalar.divsi v2 c8_i32_1740
  let c1_i32_1746 : BitVec 32 := 1#32
  let v2007 : BitVec 32 := Scalar.subi v1992 c1_i32_1746
  let v2008 : BitVec 32 := Scalar.select v2006 v2007 v1992
  let v2066 : BitVec 32 := Scalar.muli c8_i32_1780 v2008
  let c2_i32_1771 : BitVec 32 := 2#32
  let c8_i32_1747 : BitVec 32 := 8#32
  let c0_i32_1748 : BitVec 32 := 0#32
  let v2009 : BitVec 1 := Scalar.cmpi .eq c8_i32_1747 c0_i32_1748
  let c1_i32_1749 : BitVec 32 := 1#32
  let v2010 : BitVec 32 := Scalar.select v2009 c1_i32_1749 c8_i32_1747
  let v2011 : BitVec 32 := Scalar.remsi v2 v2010
  let c0_i32_1751 : BitVec 32 := 0#32
  let v2013 : BitVec 1 := Scalar.cmpi .slt v2011 c0_i32_1751
  let c0_i32_1752 : BitVec 32 := 0#32
  let v2014 : BitVec 1 := Scalar.cmpi .slt v2010 c0_i32_1752
  let v2015 : BitVec 1 := Scalar.xori v2013 v2014
  let c0_i32_1750 : BitVec 32 := 0#32
  let v2012 : BitVec 1 := Scalar.cmpi .ne v2011 c0_i32_1750
  let v2016 : BitVec 1 := Scalar.andi v2015 v2012
  let v2017 : BitVec 32 := Scalar.addi v2011 v2010
  let v2018 : BitVec 32 := Scalar.select v2016 v2017 v2011
  let c0_i32_1754 : BitVec 32 := 0#32
  let v2020 : BitVec 1 := Scalar.cmpi .sgt v2018 c0_i32_1754
  let v2021 : BitVec 32 := Scalar.extui v2020
  let c0_i32_1755 : BitVec 32 := 0#32
  let v2022 : BitVec 1 := Scalar.cmpi .slt v2018 c0_i32_1755
  let v2023 : BitVec 32 := Scalar.extui v2022
  let v2024 : BitVec 32 := Scalar.subi v2021 v2023
  let c2_i32_1753 : BitVec 32 := 2#32
  let c0_i32_1756 : BitVec 32 := 0#32
  let v2025 : BitVec 1 := Scalar.cmpi .sgt c2_i32_1753 c0_i32_1756
  let v2026 : BitVec 32 := Scalar.extui v2025
  let c0_i32_1757 : BitVec 32 := 0#32
  let v2027 : BitVec 1 := Scalar.cmpi .slt c2_i32_1753 c0_i32_1757
  let v2028 : BitVec 32 := Scalar.extui v2027
  let v2029 : BitVec 32 := Scalar.subi v2026 v2028
  let v2030 : BitVec 1 := Scalar.cmpi .ne v2024 v2029
  let v2031 : BitVec 32 := Scalar.remsi v2018 c2_i32_1753
  let c0_i32_1758 : BitVec 32 := 0#32
  let v2032 : BitVec 1 := Scalar.cmpi .ne v2031 c0_i32_1758
  let v2033 : BitVec 1 := Scalar.andi v2030 v2032
  let v2019 : BitVec 32 := Scalar.divsi v2018 c2_i32_1753
  let c1_i32_1759 : BitVec 32 := 1#32
  let v2034 : BitVec 32 := Scalar.subi v2019 c1_i32_1759
  let v2035 : BitVec 32 := Scalar.select v2033 v2034 v2019
  let v2051 : BitVec 32 := Scalar.muli c2_i32_1771 v2035
  let c2_i32_1772 : BitVec 32 := 2#32
  let c0_i32_1773 : BitVec 32 := 0#32
  let v2052 : BitVec 1 := Scalar.cmpi .eq c2_i32_1772 c0_i32_1773
  let c1_i32_1774 : BitVec 32 := 1#32
  let v2053 : BitVec 32 := Scalar.select v2052 c1_i32_1774 c2_i32_1772
  let v2054 : BitVec 32 := Scalar.remsi v2035 v2053
  let c0_i32_1776 : BitVec 32 := 0#32
  let v2056 : BitVec 1 := Scalar.cmpi .slt v2054 c0_i32_1776
  let c0_i32_1777 : BitVec 32 := 0#32
  let v2057 : BitVec 1 := Scalar.cmpi .slt v2053 c0_i32_1777
  let v2058 : BitVec 1 := Scalar.xori v2056 v2057
  let c0_i32_1775 : BitVec 32 := 0#32
  let v2055 : BitVec 1 := Scalar.cmpi .ne v2054 c0_i32_1775
  let v2059 : BitVec 1 := Scalar.andi v2058 v2055
  let v2060 : BitVec 32 := Scalar.addi v2054 v2053
  let v2061 : BitVec 32 := Scalar.select v2059 v2060 v2054
  let c0_i32_1778 : BitVec 32 := 0#32
  let v2062 : BitVec 1 := Scalar.cmpi .eq v2061 c0_i32_1778
  let c1_i32_1770 : BitVec 32 := 1#32
  let c4_i32_1760 : BitVec 32 := 4#32
  let c0_i32_1761 : BitVec 32 := 0#32
  let v2036 : BitVec 1 := Scalar.cmpi .eq c4_i32_1760 c0_i32_1761
  let c1_i32_1762 : BitVec 32 := 1#32
  let v2037 : BitVec 32 := Scalar.select v2036 c1_i32_1762 c4_i32_1760
  let v2038 : BitVec 32 := Scalar.remsi v2018 v2037
  let c0_i32_1764 : BitVec 32 := 0#32
  let v2040 : BitVec 1 := Scalar.cmpi .slt v2038 c0_i32_1764
  let c0_i32_1765 : BitVec 32 := 0#32
  let v2041 : BitVec 1 := Scalar.cmpi .slt v2037 c0_i32_1765
  let v2042 : BitVec 1 := Scalar.xori v2040 v2041
  let c0_i32_1763 : BitVec 32 := 0#32
  let v2039 : BitVec 1 := Scalar.cmpi .ne v2038 c0_i32_1763
  let v2043 : BitVec 1 := Scalar.andi v2042 v2039
  let v2044 : BitVec 32 := Scalar.addi v2038 v2037
  let v2045 : BitVec 32 := Scalar.select v2043 v2044 v2038
  let c1_i32_1766 : BitVec 32 := 1#32
  let v2046 : BitVec 1 := Scalar.cmpi .eq v2045 c1_i32_1766
  let c2_i32_1767 : BitVec 32 := 2#32
  let v2047 : BitVec 1 := Scalar.cmpi .eq v2045 c2_i32_1767
  let v2048 : BitVec 1 := Scalar.ori v2046 v2047
  let c1_i32_1768 : BitVec 32 := 1#32
  let c0_i32_1769 : BitVec 32 := 0#32
  let v2049 : BitVec 32 := Scalar.select v2048 c1_i32_1768 c0_i32_1769
  let v2050 : BitVec 32 := Scalar.subi c1_i32_1770 v2049
  let c1_i32_1779 : BitVec 32 := 1#32
  let v2063 : BitVec 32 := Scalar.subi c1_i32_1779 v2050
  let v2064 : BitVec 32 := Scalar.select v2062 v2050 v2063
  let v2065 : BitVec 32 := Scalar.addi v2051 v2064
  let v2067 : BitVec 32 := Scalar.addi v2066 v2065
  let c1_i32_1791 : BitVec 32 := 1#32
  let v2068 : BitVec 32 := Scalar.muli v2067 c1_i32_1791
  let v2069 : BitVec 32 := Scalar.addi c0_i32_1792 v2068
  v2069.toNat
def k0_dev30 (d0 : Dev nD) : Nat :=
  let c0_i32_1931 : BitVec 32 := 0#32
  let c8_i32_1885 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1840 : BitVec 32 := 0#32
  let v2101 : BitVec 1 := Scalar.cmpi .sgt v2 c0_i32_1840
  let v2102 : BitVec 32 := Scalar.extui v2101
  let c0_i32_1841 : BitVec 32 := 0#32
  let v2103 : BitVec 1 := Scalar.cmpi .slt v2 c0_i32_1841
  let v2104 : BitVec 32 := Scalar.extui v2103
  let v2105 : BitVec 32 := Scalar.subi v2102 v2104
  let c8_i32_1839 : BitVec 32 := 8#32
  let c0_i32_1842 : BitVec 32 := 0#32
  let v2106 : BitVec 1 := Scalar.cmpi .sgt c8_i32_1839 c0_i32_1842
  let v2107 : BitVec 32 := Scalar.extui v2106
  let c0_i32_1843 : BitVec 32 := 0#32
  let v2108 : BitVec 1 := Scalar.cmpi .slt c8_i32_1839 c0_i32_1843
  let v2109 : BitVec 32 := Scalar.extui v2108
  let v2110 : BitVec 32 := Scalar.subi v2107 v2109
  let v2111 : BitVec 1 := Scalar.cmpi .ne v2105 v2110
  let v2112 : BitVec 32 := Scalar.remsi v2 c8_i32_1839
  let c0_i32_1844 : BitVec 32 := 0#32
  let v2113 : BitVec 1 := Scalar.cmpi .ne v2112 c0_i32_1844
  let v2114 : BitVec 1 := Scalar.andi v2111 v2113
  let v2100 : BitVec 32 := Scalar.divsi v2 c8_i32_1839
  let c1_i32_1845 : BitVec 32 := 1#32
  let v2115 : BitVec 32 := Scalar.subi v2100 c1_i32_1845
  let v2116 : BitVec 32 := Scalar.select v2114 v2115 v2100
  let v2184 : BitVec 32 := Scalar.muli c8_i32_1885 v2116
  let c2_i32_1876 : BitVec 32 := 2#32
  let c8_i32_1846 : BitVec 32 := 8#32
  let c0_i32_1847 : BitVec 32 := 0#32
  let v2117 : BitVec 1 := Scalar.cmpi .eq c8_i32_1846 c0_i32_1847
  let c1_i32_1848 : BitVec 32 := 1#32
  let v2118 : BitVec 32 := Scalar.select v2117 c1_i32_1848 c8_i32_1846
  let v2119 : BitVec 32 := Scalar.remsi v2 v2118
  let c0_i32_1850 : BitVec 32 := 0#32
  let v2121 : BitVec 1 := Scalar.cmpi .slt v2119 c0_i32_1850
  let c0_i32_1851 : BitVec 32 := 0#32
  let v2122 : BitVec 1 := Scalar.cmpi .slt v2118 c0_i32_1851
  let v2123 : BitVec 1 := Scalar.xori v2121 v2122
  let c0_i32_1849 : BitVec 32 := 0#32
  let v2120 : BitVec 1 := Scalar.cmpi .ne v2119 c0_i32_1849
  let v2124 : BitVec 1 := Scalar.andi v2123 v2120
  let v2125 : BitVec 32 := Scalar.addi v2119 v2118
  let v2126 : BitVec 32 := Scalar.select v2124 v2125 v2119
  let c0_i32_1853 : BitVec 32 := 0#32
  let v2128 : BitVec 1 := Scalar.cmpi .sgt v2126 c0_i32_1853
  let v2129 : BitVec 32 := Scalar.extui v2128
  let c0_i32_1854 : BitVec 32 := 0#32
  let v2130 : BitVec 1 := Scalar.cmpi .slt v2126 c0_i32_1854
  let v2131 : BitVec 32 := Scalar.extui v2130
  let v2132 : BitVec 32 := Scalar.subi v2129 v2131
  let c2_i32_1852 : BitVec 32 := 2#32
  let c0_i32_1855 : BitVec 32 := 0#32
  let v2133 : BitVec 1 := Scalar.cmpi .sgt c2_i32_1852 c0_i32_1855
  let v2134 : BitVec 32 := Scalar.extui v2133
  let c0_i32_1856 : BitVec 32 := 0#32
  let v2135 : BitVec 1 := Scalar.cmpi .slt c2_i32_1852 c0_i32_1856
  let v2136 : BitVec 32 := Scalar.extui v2135
  let v2137 : BitVec 32 := Scalar.subi v2134 v2136
  let v2138 : BitVec 1 := Scalar.cmpi .ne v2132 v2137
  let v2139 : BitVec 32 := Scalar.remsi v2126 c2_i32_1852
  let c0_i32_1857 : BitVec 32 := 0#32
  let v2140 : BitVec 1 := Scalar.cmpi .ne v2139 c0_i32_1857
  let v2141 : BitVec 1 := Scalar.andi v2138 v2140
  let v2127 : BitVec 32 := Scalar.divsi v2126 c2_i32_1852
  let c1_i32_1858 : BitVec 32 := 1#32
  let v2142 : BitVec 32 := Scalar.subi v2127 c1_i32_1858
  let v2143 : BitVec 32 := Scalar.select v2141 v2142 v2127
  let c1_i32_1869 : BitVec 32 := 1#32
  let v2158 : BitVec 32 := Scalar.addi v2143 c1_i32_1869
  let c4_i32_1870 : BitVec 32 := 4#32
  let c0_i32_1871 : BitVec 32 := 0#32
  let v2159 : BitVec 1 := Scalar.cmpi .eq c4_i32_1870 c0_i32_1871
  let c1_i32_1872 : BitVec 32 := 1#32
  let v2160 : BitVec 32 := Scalar.select v2159 c1_i32_1872 c4_i32_1870
  let v2161 : BitVec 32 := Scalar.remsi v2158 v2160
  let c0_i32_1874 : BitVec 32 := 0#32
  let v2163 : BitVec 1 := Scalar.cmpi .slt v2161 c0_i32_1874
  let c0_i32_1875 : BitVec 32 := 0#32
  let v2164 : BitVec 1 := Scalar.cmpi .slt v2160 c0_i32_1875
  let v2165 : BitVec 1 := Scalar.xori v2163 v2164
  let c0_i32_1873 : BitVec 32 := 0#32
  let v2162 : BitVec 1 := Scalar.cmpi .ne v2161 c0_i32_1873
  let v2166 : BitVec 1 := Scalar.andi v2165 v2162
  let v2167 : BitVec 32 := Scalar.addi v2161 v2160
  let v2168 : BitVec 32 := Scalar.select v2166 v2167 v2161
  let v2169 : BitVec 32 := Scalar.muli c2_i32_1876 v2168
  let c2_i32_1877 : BitVec 32 := 2#32
  let c0_i32_1878 : BitVec 32 := 0#32
  let v2170 : BitVec 1 := Scalar.cmpi .eq c2_i32_1877 c0_i32_1878
  let c1_i32_1879 : BitVec 32 := 1#32
  let v2171 : BitVec 32 := Scalar.select v2170 c1_i32_1879 c2_i32_1877
  let v2172 : BitVec 32 := Scalar.remsi v2168 v2171
  let c0_i32_1881 : BitVec 32 := 0#32
  let v2174 : BitVec 1 := Scalar.cmpi .slt v2172 c0_i32_1881
  let c0_i32_1882 : BitVec 32 := 0#32
  let v2175 : BitVec 1 := Scalar.cmpi .slt v2171 c0_i32_1882
  let v2176 : BitVec 1 := Scalar.xori v2174 v2175
  let c0_i32_1880 : BitVec 32 := 0#32
  let v2173 : BitVec 1 := Scalar.cmpi .ne v2172 c0_i32_1880
  let v2177 : BitVec 1 := Scalar.andi v2176 v2173
  let v2178 : BitVec 32 := Scalar.addi v2172 v2171
  let v2179 : BitVec 32 := Scalar.select v2177 v2178 v2172
  let c0_i32_1883 : BitVec 32 := 0#32
  let v2180 : BitVec 1 := Scalar.cmpi .eq v2179 c0_i32_1883
  let c4_i32_1859 : BitVec 32 := 4#32
  let c0_i32_1860 : BitVec 32 := 0#32
  let v2144 : BitVec 1 := Scalar.cmpi .eq c4_i32_1859 c0_i32_1860
  let c1_i32_1861 : BitVec 32 := 1#32
  let v2145 : BitVec 32 := Scalar.select v2144 c1_i32_1861 c4_i32_1859
  let v2146 : BitVec 32 := Scalar.remsi v2126 v2145
  let c0_i32_1863 : BitVec 32 := 0#32
  let v2148 : BitVec 1 := Scalar.cmpi .slt v2146 c0_i32_1863
  let c0_i32_1864 : BitVec 32 := 0#32
  let v2149 : BitVec 1 := Scalar.cmpi .slt v2145 c0_i32_1864
  let v2150 : BitVec 1 := Scalar.xori v2148 v2149
  let c0_i32_1862 : BitVec 32 := 0#32
  let v2147 : BitVec 1 := Scalar.cmpi .ne v2146 c0_i32_1862
  let v2151 : BitVec 1 := Scalar.andi v2150 v2147
  let v2152 : BitVec 32 := Scalar.addi v2146 v2145
  let v2153 : BitVec 32 := Scalar.select v2151 v2152 v2146
  let c1_i32_1865 : BitVec 32 := 1#32
  let v2154 : BitVec 1 := Scalar.cmpi .eq v2153 c1_i32_1865
  let c2_i32_1866 : BitVec 32 := 2#32
  let v2155 : BitVec 1 := Scalar.cmpi .eq v2153 c2_i32_1866
  let v2156 : BitVec 1 := Scalar.ori v2154 v2155
  let c1_i32_1867 : BitVec 32 := 1#32
  let c0_i32_1868 : BitVec 32 := 0#32
  let v2157 : BitVec 32 := Scalar.select v2156 c1_i32_1867 c0_i32_1868
  let c1_i32_1884 : BitVec 32 := 1#32
  let v2181 : BitVec 32 := Scalar.subi c1_i32_1884 v2157
  let v2182 : BitVec 32 := Scalar.select v2180 v2157 v2181
  let v2183 : BitVec 32 := Scalar.addi v2169 v2182
  let v2185 : BitVec 32 := Scalar.addi v2184 v2183
  let c1_i32_1930 : BitVec 32 := 1#32
  let v2242 : BitVec 32 := Scalar.muli v2185 c1_i32_1930
  let v2243 : BitVec 32 := Scalar.addi c0_i32_1931 v2242
  v2243.toNat
def k0_dev31 (d0 : Dev nD) : Nat :=
  let c0_i32_1947 : BitVec 32 := 0#32
  let c8_i32_1902 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1840 : BitVec 32 := 0#32
  let v2101 : BitVec 1 := Scalar.cmpi .sgt v2 c0_i32_1840
  let v2102 : BitVec 32 := Scalar.extui v2101
  let c0_i32_1841 : BitVec 32 := 0#32
  let v2103 : BitVec 1 := Scalar.cmpi .slt v2 c0_i32_1841
  let v2104 : BitVec 32 := Scalar.extui v2103
  let v2105 : BitVec 32 := Scalar.subi v2102 v2104
  let c8_i32_1839 : BitVec 32 := 8#32
  let c0_i32_1842 : BitVec 32 := 0#32
  let v2106 : BitVec 1 := Scalar.cmpi .sgt c8_i32_1839 c0_i32_1842
  let v2107 : BitVec 32 := Scalar.extui v2106
  let c0_i32_1843 : BitVec 32 := 0#32
  let v2108 : BitVec 1 := Scalar.cmpi .slt c8_i32_1839 c0_i32_1843
  let v2109 : BitVec 32 := Scalar.extui v2108
  let v2110 : BitVec 32 := Scalar.subi v2107 v2109
  let v2111 : BitVec 1 := Scalar.cmpi .ne v2105 v2110
  let v2112 : BitVec 32 := Scalar.remsi v2 c8_i32_1839
  let c0_i32_1844 : BitVec 32 := 0#32
  let v2113 : BitVec 1 := Scalar.cmpi .ne v2112 c0_i32_1844
  let v2114 : BitVec 1 := Scalar.andi v2111 v2113
  let v2100 : BitVec 32 := Scalar.divsi v2 c8_i32_1839
  let c1_i32_1845 : BitVec 32 := 1#32
  let v2115 : BitVec 32 := Scalar.subi v2100 c1_i32_1845
  let v2116 : BitVec 32 := Scalar.select v2114 v2115 v2100
  let v2212 : BitVec 32 := Scalar.muli c8_i32_1902 v2116
  let c2_i32_1893 : BitVec 32 := 2#32
  let c8_i32_1846 : BitVec 32 := 8#32
  let c0_i32_1847 : BitVec 32 := 0#32
  let v2117 : BitVec 1 := Scalar.cmpi .eq c8_i32_1846 c0_i32_1847
  let c1_i32_1848 : BitVec 32 := 1#32
  let v2118 : BitVec 32 := Scalar.select v2117 c1_i32_1848 c8_i32_1846
  let v2119 : BitVec 32 := Scalar.remsi v2 v2118
  let c0_i32_1850 : BitVec 32 := 0#32
  let v2121 : BitVec 1 := Scalar.cmpi .slt v2119 c0_i32_1850
  let c0_i32_1851 : BitVec 32 := 0#32
  let v2122 : BitVec 1 := Scalar.cmpi .slt v2118 c0_i32_1851
  let v2123 : BitVec 1 := Scalar.xori v2121 v2122
  let c0_i32_1849 : BitVec 32 := 0#32
  let v2120 : BitVec 1 := Scalar.cmpi .ne v2119 c0_i32_1849
  let v2124 : BitVec 1 := Scalar.andi v2123 v2120
  let v2125 : BitVec 32 := Scalar.addi v2119 v2118
  let v2126 : BitVec 32 := Scalar.select v2124 v2125 v2119
  let c0_i32_1853 : BitVec 32 := 0#32
  let v2128 : BitVec 1 := Scalar.cmpi .sgt v2126 c0_i32_1853
  let v2129 : BitVec 32 := Scalar.extui v2128
  let c0_i32_1854 : BitVec 32 := 0#32
  let v2130 : BitVec 1 := Scalar.cmpi .slt v2126 c0_i32_1854
  let v2131 : BitVec 32 := Scalar.extui v2130
  let v2132 : BitVec 32 := Scalar.subi v2129 v2131
  let c2_i32_1852 : BitVec 32 := 2#32
  let c0_i32_1855 : BitVec 32 := 0#32
  let v2133 : BitVec 1 := Scalar.cmpi .sgt c2_i32_1852 c0_i32_1855
  let v2134 : BitVec 32 := Scalar.extui v2133
  let c0_i32_1856 : BitVec 32 := 0#32
  let v2135 : BitVec 1 := Scalar.cmpi .slt c2_i32_1852 c0_i32_1856
  let v2136 : BitVec 32 := Scalar.extui v2135
  let v2137 : BitVec 32 := Scalar.subi v2134 v2136
  let v2138 : BitVec 1 := Scalar.cmpi .ne v2132 v2137
  let v2139 : BitVec 32 := Scalar.remsi v2126 c2_i32_1852
  let c0_i32_1857 : BitVec 32 := 0#32
  let v2140 : BitVec 1 := Scalar.cmpi .ne v2139 c0_i32_1857
  let v2141 : BitVec 1 := Scalar.andi v2138 v2140
  let v2127 : BitVec 32 := Scalar.divsi v2126 c2_i32_1852
  let c1_i32_1858 : BitVec 32 := 1#32
  let v2142 : BitVec 32 := Scalar.subi v2127 c1_i32_1858
  let v2143 : BitVec 32 := Scalar.select v2141 v2142 v2127
  let c2_i32_1886 : BitVec 32 := 2#32
  let v2186 : BitVec 32 := Scalar.addi v2143 c2_i32_1886
  let c4_i32_1887 : BitVec 32 := 4#32
  let c0_i32_1888 : BitVec 32 := 0#32
  let v2187 : BitVec 1 := Scalar.cmpi .eq c4_i32_1887 c0_i32_1888
  let c1_i32_1889 : BitVec 32 := 1#32
  let v2188 : BitVec 32 := Scalar.select v2187 c1_i32_1889 c4_i32_1887
  let v2189 : BitVec 32 := Scalar.remsi v2186 v2188
  let c0_i32_1891 : BitVec 32 := 0#32
  let v2191 : BitVec 1 := Scalar.cmpi .slt v2189 c0_i32_1891
  let c0_i32_1892 : BitVec 32 := 0#32
  let v2192 : BitVec 1 := Scalar.cmpi .slt v2188 c0_i32_1892
  let v2193 : BitVec 1 := Scalar.xori v2191 v2192
  let c0_i32_1890 : BitVec 32 := 0#32
  let v2190 : BitVec 1 := Scalar.cmpi .ne v2189 c0_i32_1890
  let v2194 : BitVec 1 := Scalar.andi v2193 v2190
  let v2195 : BitVec 32 := Scalar.addi v2189 v2188
  let v2196 : BitVec 32 := Scalar.select v2194 v2195 v2189
  let v2197 : BitVec 32 := Scalar.muli c2_i32_1893 v2196
  let c2_i32_1894 : BitVec 32 := 2#32
  let c0_i32_1895 : BitVec 32 := 0#32
  let v2198 : BitVec 1 := Scalar.cmpi .eq c2_i32_1894 c0_i32_1895
  let c1_i32_1896 : BitVec 32 := 1#32
  let v2199 : BitVec 32 := Scalar.select v2198 c1_i32_1896 c2_i32_1894
  let v2200 : BitVec 32 := Scalar.remsi v2196 v2199
  let c0_i32_1898 : BitVec 32 := 0#32
  let v2202 : BitVec 1 := Scalar.cmpi .slt v2200 c0_i32_1898
  let c0_i32_1899 : BitVec 32 := 0#32
  let v2203 : BitVec 1 := Scalar.cmpi .slt v2199 c0_i32_1899
  let v2204 : BitVec 1 := Scalar.xori v2202 v2203
  let c0_i32_1897 : BitVec 32 := 0#32
  let v2201 : BitVec 1 := Scalar.cmpi .ne v2200 c0_i32_1897
  let v2205 : BitVec 1 := Scalar.andi v2204 v2201
  let v2206 : BitVec 32 := Scalar.addi v2200 v2199
  let v2207 : BitVec 32 := Scalar.select v2205 v2206 v2200
  let c0_i32_1900 : BitVec 32 := 0#32
  let v2208 : BitVec 1 := Scalar.cmpi .eq v2207 c0_i32_1900
  let c4_i32_1859 : BitVec 32 := 4#32
  let c0_i32_1860 : BitVec 32 := 0#32
  let v2144 : BitVec 1 := Scalar.cmpi .eq c4_i32_1859 c0_i32_1860
  let c1_i32_1861 : BitVec 32 := 1#32
  let v2145 : BitVec 32 := Scalar.select v2144 c1_i32_1861 c4_i32_1859
  let v2146 : BitVec 32 := Scalar.remsi v2126 v2145
  let c0_i32_1863 : BitVec 32 := 0#32
  let v2148 : BitVec 1 := Scalar.cmpi .slt v2146 c0_i32_1863
  let c0_i32_1864 : BitVec 32 := 0#32
  let v2149 : BitVec 1 := Scalar.cmpi .slt v2145 c0_i32_1864
  let v2150 : BitVec 1 := Scalar.xori v2148 v2149
  let c0_i32_1862 : BitVec 32 := 0#32
  let v2147 : BitVec 1 := Scalar.cmpi .ne v2146 c0_i32_1862
  let v2151 : BitVec 1 := Scalar.andi v2150 v2147
  let v2152 : BitVec 32 := Scalar.addi v2146 v2145
  let v2153 : BitVec 32 := Scalar.select v2151 v2152 v2146
  let c1_i32_1865 : BitVec 32 := 1#32
  let v2154 : BitVec 1 := Scalar.cmpi .eq v2153 c1_i32_1865
  let c2_i32_1866 : BitVec 32 := 2#32
  let v2155 : BitVec 1 := Scalar.cmpi .eq v2153 c2_i32_1866
  let v2156 : BitVec 1 := Scalar.ori v2154 v2155
  let c1_i32_1867 : BitVec 32 := 1#32
  let c0_i32_1868 : BitVec 32 := 0#32
  let v2157 : BitVec 32 := Scalar.select v2156 c1_i32_1867 c0_i32_1868
  let c1_i32_1901 : BitVec 32 := 1#32
  let v2209 : BitVec 32 := Scalar.subi c1_i32_1901 v2157
  let v2210 : BitVec 32 := Scalar.select v2208 v2157 v2209
  let v2211 : BitVec 32 := Scalar.addi v2197 v2210
  let v2213 : BitVec 32 := Scalar.addi v2212 v2211
  let c1_i32_1946 : BitVec 32 := 1#32
  let v2252 : BitVec 32 := Scalar.muli v2213 c1_i32_1946
  let v2253 : BitVec 32 := Scalar.addi c0_i32_1947 v2252
  v2253.toNat
def k0_dev32 (d0 : Dev nD) : Nat :=
  let c0_i32_1963 : BitVec 32 := 0#32
  let c8_i32_1919 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1840 : BitVec 32 := 0#32
  let v2101 : BitVec 1 := Scalar.cmpi .sgt v2 c0_i32_1840
  let v2102 : BitVec 32 := Scalar.extui v2101
  let c0_i32_1841 : BitVec 32 := 0#32
  let v2103 : BitVec 1 := Scalar.cmpi .slt v2 c0_i32_1841
  let v2104 : BitVec 32 := Scalar.extui v2103
  let v2105 : BitVec 32 := Scalar.subi v2102 v2104
  let c8_i32_1839 : BitVec 32 := 8#32
  let c0_i32_1842 : BitVec 32 := 0#32
  let v2106 : BitVec 1 := Scalar.cmpi .sgt c8_i32_1839 c0_i32_1842
  let v2107 : BitVec 32 := Scalar.extui v2106
  let c0_i32_1843 : BitVec 32 := 0#32
  let v2108 : BitVec 1 := Scalar.cmpi .slt c8_i32_1839 c0_i32_1843
  let v2109 : BitVec 32 := Scalar.extui v2108
  let v2110 : BitVec 32 := Scalar.subi v2107 v2109
  let v2111 : BitVec 1 := Scalar.cmpi .ne v2105 v2110
  let v2112 : BitVec 32 := Scalar.remsi v2 c8_i32_1839
  let c0_i32_1844 : BitVec 32 := 0#32
  let v2113 : BitVec 1 := Scalar.cmpi .ne v2112 c0_i32_1844
  let v2114 : BitVec 1 := Scalar.andi v2111 v2113
  let v2100 : BitVec 32 := Scalar.divsi v2 c8_i32_1839
  let c1_i32_1845 : BitVec 32 := 1#32
  let v2115 : BitVec 32 := Scalar.subi v2100 c1_i32_1845
  let v2116 : BitVec 32 := Scalar.select v2114 v2115 v2100
  let v2240 : BitVec 32 := Scalar.muli c8_i32_1919 v2116
  let c2_i32_1910 : BitVec 32 := 2#32
  let c8_i32_1846 : BitVec 32 := 8#32
  let c0_i32_1847 : BitVec 32 := 0#32
  let v2117 : BitVec 1 := Scalar.cmpi .eq c8_i32_1846 c0_i32_1847
  let c1_i32_1848 : BitVec 32 := 1#32
  let v2118 : BitVec 32 := Scalar.select v2117 c1_i32_1848 c8_i32_1846
  let v2119 : BitVec 32 := Scalar.remsi v2 v2118
  let c0_i32_1850 : BitVec 32 := 0#32
  let v2121 : BitVec 1 := Scalar.cmpi .slt v2119 c0_i32_1850
  let c0_i32_1851 : BitVec 32 := 0#32
  let v2122 : BitVec 1 := Scalar.cmpi .slt v2118 c0_i32_1851
  let v2123 : BitVec 1 := Scalar.xori v2121 v2122
  let c0_i32_1849 : BitVec 32 := 0#32
  let v2120 : BitVec 1 := Scalar.cmpi .ne v2119 c0_i32_1849
  let v2124 : BitVec 1 := Scalar.andi v2123 v2120
  let v2125 : BitVec 32 := Scalar.addi v2119 v2118
  let v2126 : BitVec 32 := Scalar.select v2124 v2125 v2119
  let c0_i32_1853 : BitVec 32 := 0#32
  let v2128 : BitVec 1 := Scalar.cmpi .sgt v2126 c0_i32_1853
  let v2129 : BitVec 32 := Scalar.extui v2128
  let c0_i32_1854 : BitVec 32 := 0#32
  let v2130 : BitVec 1 := Scalar.cmpi .slt v2126 c0_i32_1854
  let v2131 : BitVec 32 := Scalar.extui v2130
  let v2132 : BitVec 32 := Scalar.subi v2129 v2131
  let c2_i32_1852 : BitVec 32 := 2#32
  let c0_i32_1855 : BitVec 32 := 0#32
  let v2133 : BitVec 1 := Scalar.cmpi .sgt c2_i32_1852 c0_i32_1855
  let v2134 : BitVec 32 := Scalar.extui v2133
  let c0_i32_1856 : BitVec 32 := 0#32
  let v2135 : BitVec 1 := Scalar.cmpi .slt c2_i32_1852 c0_i32_1856
  let v2136 : BitVec 32 := Scalar.extui v2135
  let v2137 : BitVec 32 := Scalar.subi v2134 v2136
  let v2138 : BitVec 1 := Scalar.cmpi .ne v2132 v2137
  let v2139 : BitVec 32 := Scalar.remsi v2126 c2_i32_1852
  let c0_i32_1857 : BitVec 32 := 0#32
  let v2140 : BitVec 1 := Scalar.cmpi .ne v2139 c0_i32_1857
  let v2141 : BitVec 1 := Scalar.andi v2138 v2140
  let v2127 : BitVec 32 := Scalar.divsi v2126 c2_i32_1852
  let c1_i32_1858 : BitVec 32 := 1#32
  let v2142 : BitVec 32 := Scalar.subi v2127 c1_i32_1858
  let v2143 : BitVec 32 := Scalar.select v2141 v2142 v2127
  let c3_i32_1903 : BitVec 32 := 3#32
  let v2214 : BitVec 32 := Scalar.addi v2143 c3_i32_1903
  let c4_i32_1904 : BitVec 32 := 4#32
  let c0_i32_1905 : BitVec 32 := 0#32
  let v2215 : BitVec 1 := Scalar.cmpi .eq c4_i32_1904 c0_i32_1905
  let c1_i32_1906 : BitVec 32 := 1#32
  let v2216 : BitVec 32 := Scalar.select v2215 c1_i32_1906 c4_i32_1904
  let v2217 : BitVec 32 := Scalar.remsi v2214 v2216
  let c0_i32_1908 : BitVec 32 := 0#32
  let v2219 : BitVec 1 := Scalar.cmpi .slt v2217 c0_i32_1908
  let c0_i32_1909 : BitVec 32 := 0#32
  let v2220 : BitVec 1 := Scalar.cmpi .slt v2216 c0_i32_1909
  let v2221 : BitVec 1 := Scalar.xori v2219 v2220
  let c0_i32_1907 : BitVec 32 := 0#32
  let v2218 : BitVec 1 := Scalar.cmpi .ne v2217 c0_i32_1907
  let v2222 : BitVec 1 := Scalar.andi v2221 v2218
  let v2223 : BitVec 32 := Scalar.addi v2217 v2216
  let v2224 : BitVec 32 := Scalar.select v2222 v2223 v2217
  let v2225 : BitVec 32 := Scalar.muli c2_i32_1910 v2224
  let c2_i32_1911 : BitVec 32 := 2#32
  let c0_i32_1912 : BitVec 32 := 0#32
  let v2226 : BitVec 1 := Scalar.cmpi .eq c2_i32_1911 c0_i32_1912
  let c1_i32_1913 : BitVec 32 := 1#32
  let v2227 : BitVec 32 := Scalar.select v2226 c1_i32_1913 c2_i32_1911
  let v2228 : BitVec 32 := Scalar.remsi v2224 v2227
  let c0_i32_1915 : BitVec 32 := 0#32
  let v2230 : BitVec 1 := Scalar.cmpi .slt v2228 c0_i32_1915
  let c0_i32_1916 : BitVec 32 := 0#32
  let v2231 : BitVec 1 := Scalar.cmpi .slt v2227 c0_i32_1916
  let v2232 : BitVec 1 := Scalar.xori v2230 v2231
  let c0_i32_1914 : BitVec 32 := 0#32
  let v2229 : BitVec 1 := Scalar.cmpi .ne v2228 c0_i32_1914
  let v2233 : BitVec 1 := Scalar.andi v2232 v2229
  let v2234 : BitVec 32 := Scalar.addi v2228 v2227
  let v2235 : BitVec 32 := Scalar.select v2233 v2234 v2228
  let c0_i32_1917 : BitVec 32 := 0#32
  let v2236 : BitVec 1 := Scalar.cmpi .eq v2235 c0_i32_1917
  let c4_i32_1859 : BitVec 32 := 4#32
  let c0_i32_1860 : BitVec 32 := 0#32
  let v2144 : BitVec 1 := Scalar.cmpi .eq c4_i32_1859 c0_i32_1860
  let c1_i32_1861 : BitVec 32 := 1#32
  let v2145 : BitVec 32 := Scalar.select v2144 c1_i32_1861 c4_i32_1859
  let v2146 : BitVec 32 := Scalar.remsi v2126 v2145
  let c0_i32_1863 : BitVec 32 := 0#32
  let v2148 : BitVec 1 := Scalar.cmpi .slt v2146 c0_i32_1863
  let c0_i32_1864 : BitVec 32 := 0#32
  let v2149 : BitVec 1 := Scalar.cmpi .slt v2145 c0_i32_1864
  let v2150 : BitVec 1 := Scalar.xori v2148 v2149
  let c0_i32_1862 : BitVec 32 := 0#32
  let v2147 : BitVec 1 := Scalar.cmpi .ne v2146 c0_i32_1862
  let v2151 : BitVec 1 := Scalar.andi v2150 v2147
  let v2152 : BitVec 32 := Scalar.addi v2146 v2145
  let v2153 : BitVec 32 := Scalar.select v2151 v2152 v2146
  let c1_i32_1865 : BitVec 32 := 1#32
  let v2154 : BitVec 1 := Scalar.cmpi .eq v2153 c1_i32_1865
  let c2_i32_1866 : BitVec 32 := 2#32
  let v2155 : BitVec 1 := Scalar.cmpi .eq v2153 c2_i32_1866
  let v2156 : BitVec 1 := Scalar.ori v2154 v2155
  let c1_i32_1867 : BitVec 32 := 1#32
  let c0_i32_1868 : BitVec 32 := 0#32
  let v2157 : BitVec 32 := Scalar.select v2156 c1_i32_1867 c0_i32_1868
  let c1_i32_1918 : BitVec 32 := 1#32
  let v2237 : BitVec 32 := Scalar.subi c1_i32_1918 v2157
  let v2238 : BitVec 32 := Scalar.select v2236 v2157 v2237
  let v2239 : BitVec 32 := Scalar.addi v2225 v2238
  let v2241 : BitVec 32 := Scalar.addi v2240 v2239
  let c1_i32_1962 : BitVec 32 := 1#32
  let v2262 : BitVec 32 := Scalar.muli v2241 c1_i32_1962
  let v2263 : BitVec 32 := Scalar.addi c0_i32_1963 v2262
  v2263.toNat
def k0_dev33 (d0 : Dev nD) : Nat :=
  let c0_i32_2174 : BitVec 32 := 0#32
  let c8_i32_2128 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2083 : BitVec 32 := 0#32
  let v2329 : BitVec 1 := Scalar.cmpi .sgt v2 c0_i32_2083
  let v2330 : BitVec 32 := Scalar.extui v2329
  let c0_i32_2084 : BitVec 32 := 0#32
  let v2331 : BitVec 1 := Scalar.cmpi .slt v2 c0_i32_2084
  let v2332 : BitVec 32 := Scalar.extui v2331
  let v2333 : BitVec 32 := Scalar.subi v2330 v2332
  let c8_i32_2082 : BitVec 32 := 8#32
  let c0_i32_2085 : BitVec 32 := 0#32
  let v2334 : BitVec 1 := Scalar.cmpi .sgt c8_i32_2082 c0_i32_2085
  let v2335 : BitVec 32 := Scalar.extui v2334
  let c0_i32_2086 : BitVec 32 := 0#32
  let v2336 : BitVec 1 := Scalar.cmpi .slt c8_i32_2082 c0_i32_2086
  let v2337 : BitVec 32 := Scalar.extui v2336
  let v2338 : BitVec 32 := Scalar.subi v2335 v2337
  let v2339 : BitVec 1 := Scalar.cmpi .ne v2333 v2338
  let v2340 : BitVec 32 := Scalar.remsi v2 c8_i32_2082
  let c0_i32_2087 : BitVec 32 := 0#32
  let v2341 : BitVec 1 := Scalar.cmpi .ne v2340 c0_i32_2087
  let v2342 : BitVec 1 := Scalar.andi v2339 v2341
  let v2328 : BitVec 32 := Scalar.divsi v2 c8_i32_2082
  let c1_i32_2088 : BitVec 32 := 1#32
  let v2343 : BitVec 32 := Scalar.subi v2328 c1_i32_2088
  let v2344 : BitVec 32 := Scalar.select v2342 v2343 v2328
  let c1_i32_2112 : BitVec 32 := 1#32
  let v2386 : BitVec 32 := Scalar.addi v2344 c1_i32_2112
  let c4_i32_2113 : BitVec 32 := 4#32
  let c0_i32_2114 : BitVec 32 := 0#32
  let v2387 : BitVec 1 := Scalar.cmpi .eq c4_i32_2113 c0_i32_2114
  let c1_i32_2115 : BitVec 32 := 1#32
  let v2388 : BitVec 32 := Scalar.select v2387 c1_i32_2115 c4_i32_2113
  let v2389 : BitVec 32 := Scalar.remsi v2386 v2388
  let c0_i32_2117 : BitVec 32 := 0#32
  let v2391 : BitVec 1 := Scalar.cmpi .slt v2389 c0_i32_2117
  let c0_i32_2118 : BitVec 32 := 0#32
  let v2392 : BitVec 1 := Scalar.cmpi .slt v2388 c0_i32_2118
  let v2393 : BitVec 1 := Scalar.xori v2391 v2392
  let c0_i32_2116 : BitVec 32 := 0#32
  let v2390 : BitVec 1 := Scalar.cmpi .ne v2389 c0_i32_2116
  let v2394 : BitVec 1 := Scalar.andi v2393 v2390
  let v2395 : BitVec 32 := Scalar.addi v2389 v2388
  let v2396 : BitVec 32 := Scalar.select v2394 v2395 v2389
  let v2412 : BitVec 32 := Scalar.muli c8_i32_2128 v2396
  let c2_i32_2119 : BitVec 32 := 2#32
  let c8_i32_2089 : BitVec 32 := 8#32
  let c0_i32_2090 : BitVec 32 := 0#32
  let v2345 : BitVec 1 := Scalar.cmpi .eq c8_i32_2089 c0_i32_2090
  let c1_i32_2091 : BitVec 32 := 1#32
  let v2346 : BitVec 32 := Scalar.select v2345 c1_i32_2091 c8_i32_2089
  let v2347 : BitVec 32 := Scalar.remsi v2 v2346
  let c0_i32_2093 : BitVec 32 := 0#32
  let v2349 : BitVec 1 := Scalar.cmpi .slt v2347 c0_i32_2093
  let c0_i32_2094 : BitVec 32 := 0#32
  let v2350 : BitVec 1 := Scalar.cmpi .slt v2346 c0_i32_2094
  let v2351 : BitVec 1 := Scalar.xori v2349 v2350
  let c0_i32_2092 : BitVec 32 := 0#32
  let v2348 : BitVec 1 := Scalar.cmpi .ne v2347 c0_i32_2092
  let v2352 : BitVec 1 := Scalar.andi v2351 v2348
  let v2353 : BitVec 32 := Scalar.addi v2347 v2346
  let v2354 : BitVec 32 := Scalar.select v2352 v2353 v2347
  let c0_i32_2096 : BitVec 32 := 0#32
  let v2356 : BitVec 1 := Scalar.cmpi .sgt v2354 c0_i32_2096
  let v2357 : BitVec 32 := Scalar.extui v2356
  let c0_i32_2097 : BitVec 32 := 0#32
  let v2358 : BitVec 1 := Scalar.cmpi .slt v2354 c0_i32_2097
  let v2359 : BitVec 32 := Scalar.extui v2358
  let v2360 : BitVec 32 := Scalar.subi v2357 v2359
  let c2_i32_2095 : BitVec 32 := 2#32
  let c0_i32_2098 : BitVec 32 := 0#32
  let v2361 : BitVec 1 := Scalar.cmpi .sgt c2_i32_2095 c0_i32_2098
  let v2362 : BitVec 32 := Scalar.extui v2361
  let c0_i32_2099 : BitVec 32 := 0#32
  let v2363 : BitVec 1 := Scalar.cmpi .slt c2_i32_2095 c0_i32_2099
  let v2364 : BitVec 32 := Scalar.extui v2363
  let v2365 : BitVec 32 := Scalar.subi v2362 v2364
  let v2366 : BitVec 1 := Scalar.cmpi .ne v2360 v2365
  let v2367 : BitVec 32 := Scalar.remsi v2354 c2_i32_2095
  let c0_i32_2100 : BitVec 32 := 0#32
  let v2368 : BitVec 1 := Scalar.cmpi .ne v2367 c0_i32_2100
  let v2369 : BitVec 1 := Scalar.andi v2366 v2368
  let v2355 : BitVec 32 := Scalar.divsi v2354 c2_i32_2095
  let c1_i32_2101 : BitVec 32 := 1#32
  let v2370 : BitVec 32 := Scalar.subi v2355 c1_i32_2101
  let v2371 : BitVec 32 := Scalar.select v2369 v2370 v2355
  let v2397 : BitVec 32 := Scalar.muli c2_i32_2119 v2371
  let c2_i32_2120 : BitVec 32 := 2#32
  let c0_i32_2121 : BitVec 32 := 0#32
  let v2398 : BitVec 1 := Scalar.cmpi .eq c2_i32_2120 c0_i32_2121
  let c1_i32_2122 : BitVec 32 := 1#32
  let v2399 : BitVec 32 := Scalar.select v2398 c1_i32_2122 c2_i32_2120
  let v2400 : BitVec 32 := Scalar.remsi v2371 v2399
  let c0_i32_2124 : BitVec 32 := 0#32
  let v2402 : BitVec 1 := Scalar.cmpi .slt v2400 c0_i32_2124
  let c0_i32_2125 : BitVec 32 := 0#32
  let v2403 : BitVec 1 := Scalar.cmpi .slt v2399 c0_i32_2125
  let v2404 : BitVec 1 := Scalar.xori v2402 v2403
  let c0_i32_2123 : BitVec 32 := 0#32
  let v2401 : BitVec 1 := Scalar.cmpi .ne v2400 c0_i32_2123
  let v2405 : BitVec 1 := Scalar.andi v2404 v2401
  let v2406 : BitVec 32 := Scalar.addi v2400 v2399
  let v2407 : BitVec 32 := Scalar.select v2405 v2406 v2400
  let c0_i32_2126 : BitVec 32 := 0#32
  let v2408 : BitVec 1 := Scalar.cmpi .eq v2407 c0_i32_2126
  let c4_i32_2102 : BitVec 32 := 4#32
  let c0_i32_2103 : BitVec 32 := 0#32
  let v2372 : BitVec 1 := Scalar.cmpi .eq c4_i32_2102 c0_i32_2103
  let c1_i32_2104 : BitVec 32 := 1#32
  let v2373 : BitVec 32 := Scalar.select v2372 c1_i32_2104 c4_i32_2102
  let v2374 : BitVec 32 := Scalar.remsi v2354 v2373
  let c0_i32_2106 : BitVec 32 := 0#32
  let v2376 : BitVec 1 := Scalar.cmpi .slt v2374 c0_i32_2106
  let c0_i32_2107 : BitVec 32 := 0#32
  let v2377 : BitVec 1 := Scalar.cmpi .slt v2373 c0_i32_2107
  let v2378 : BitVec 1 := Scalar.xori v2376 v2377
  let c0_i32_2105 : BitVec 32 := 0#32
  let v2375 : BitVec 1 := Scalar.cmpi .ne v2374 c0_i32_2105
  let v2379 : BitVec 1 := Scalar.andi v2378 v2375
  let v2380 : BitVec 32 := Scalar.addi v2374 v2373
  let v2381 : BitVec 32 := Scalar.select v2379 v2380 v2374
  let c1_i32_2108 : BitVec 32 := 1#32
  let v2382 : BitVec 1 := Scalar.cmpi .eq v2381 c1_i32_2108
  let c2_i32_2109 : BitVec 32 := 2#32
  let v2383 : BitVec 1 := Scalar.cmpi .eq v2381 c2_i32_2109
  let v2384 : BitVec 1 := Scalar.ori v2382 v2383
  let c1_i32_2110 : BitVec 32 := 1#32
  let c0_i32_2111 : BitVec 32 := 0#32
  let v2385 : BitVec 32 := Scalar.select v2384 c1_i32_2110 c0_i32_2111
  let c1_i32_2127 : BitVec 32 := 1#32
  let v2409 : BitVec 32 := Scalar.subi c1_i32_2127 v2385
  let v2410 : BitVec 32 := Scalar.select v2408 v2385 v2409
  let v2411 : BitVec 32 := Scalar.addi v2397 v2410
  let v2413 : BitVec 32 := Scalar.addi v2412 v2411
  let c1_i32_2173 : BitVec 32 := 1#32
  let v2470 : BitVec 32 := Scalar.muli v2413 c1_i32_2173
  let v2471 : BitVec 32 := Scalar.addi c0_i32_2174 v2470
  v2471.toNat
def k0_dev34 (d0 : Dev nD) : Nat :=
  let c0_i32_2190 : BitVec 32 := 0#32
  let c8_i32_2145 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2083 : BitVec 32 := 0#32
  let v2329 : BitVec 1 := Scalar.cmpi .sgt v2 c0_i32_2083
  let v2330 : BitVec 32 := Scalar.extui v2329
  let c0_i32_2084 : BitVec 32 := 0#32
  let v2331 : BitVec 1 := Scalar.cmpi .slt v2 c0_i32_2084
  let v2332 : BitVec 32 := Scalar.extui v2331
  let v2333 : BitVec 32 := Scalar.subi v2330 v2332
  let c8_i32_2082 : BitVec 32 := 8#32
  let c0_i32_2085 : BitVec 32 := 0#32
  let v2334 : BitVec 1 := Scalar.cmpi .sgt c8_i32_2082 c0_i32_2085
  let v2335 : BitVec 32 := Scalar.extui v2334
  let c0_i32_2086 : BitVec 32 := 0#32
  let v2336 : BitVec 1 := Scalar.cmpi .slt c8_i32_2082 c0_i32_2086
  let v2337 : BitVec 32 := Scalar.extui v2336
  let v2338 : BitVec 32 := Scalar.subi v2335 v2337
  let v2339 : BitVec 1 := Scalar.cmpi .ne v2333 v2338
  let v2340 : BitVec 32 := Scalar.remsi v2 c8_i32_2082
  let c0_i32_2087 : BitVec 32 := 0#32
  let v2341 : BitVec 1 := Scalar.cmpi .ne v2340 c0_i32_2087
  let v2342 : BitVec 1 := Scalar.andi v2339 v2341
  let v2328 : BitVec 32 := Scalar.divsi v2 c8_i32_2082
  let c1_i32_2088 : BitVec 32 := 1#32
  let v2343 : BitVec 32 := Scalar.subi v2328 c1_i32_2088
  let v2344 : BitVec 32 := Scalar.select v2342 v2343 v2328
  let c2_i32_2129 : BitVec 32 := 2#32
  let v2414 : BitVec 32 := Scalar.addi v2344 c2_i32_2129
  let c4_i32_2130 : BitVec 32 := 4#32
  let c0_i32_2131 : BitVec 32 := 0#32
  let v2415 : BitVec 1 := Scalar.cmpi .eq c4_i32_2130 c0_i32_2131
  let c1_i32_2132 : BitVec 32 := 1#32
  let v2416 : BitVec 32 := Scalar.select v2415 c1_i32_2132 c4_i32_2130
  let v2417 : BitVec 32 := Scalar.remsi v2414 v2416
  let c0_i32_2134 : BitVec 32 := 0#32
  let v2419 : BitVec 1 := Scalar.cmpi .slt v2417 c0_i32_2134
  let c0_i32_2135 : BitVec 32 := 0#32
  let v2420 : BitVec 1 := Scalar.cmpi .slt v2416 c0_i32_2135
  let v2421 : BitVec 1 := Scalar.xori v2419 v2420
  let c0_i32_2133 : BitVec 32 := 0#32
  let v2418 : BitVec 1 := Scalar.cmpi .ne v2417 c0_i32_2133
  let v2422 : BitVec 1 := Scalar.andi v2421 v2418
  let v2423 : BitVec 32 := Scalar.addi v2417 v2416
  let v2424 : BitVec 32 := Scalar.select v2422 v2423 v2417
  let v2440 : BitVec 32 := Scalar.muli c8_i32_2145 v2424
  let c2_i32_2136 : BitVec 32 := 2#32
  let c8_i32_2089 : BitVec 32 := 8#32
  let c0_i32_2090 : BitVec 32 := 0#32
  let v2345 : BitVec 1 := Scalar.cmpi .eq c8_i32_2089 c0_i32_2090
  let c1_i32_2091 : BitVec 32 := 1#32
  let v2346 : BitVec 32 := Scalar.select v2345 c1_i32_2091 c8_i32_2089
  let v2347 : BitVec 32 := Scalar.remsi v2 v2346
  let c0_i32_2093 : BitVec 32 := 0#32
  let v2349 : BitVec 1 := Scalar.cmpi .slt v2347 c0_i32_2093
  let c0_i32_2094 : BitVec 32 := 0#32
  let v2350 : BitVec 1 := Scalar.cmpi .slt v2346 c0_i32_2094
  let v2351 : BitVec 1 := Scalar.xori v2349 v2350
  let c0_i32_2092 : BitVec 32 := 0#32
  let v2348 : BitVec 1 := Scalar.cmpi .ne v2347 c0_i32_2092
  let v2352 : BitVec 1 := Scalar.andi v2351 v2348
  let v2353 : BitVec 32 := Scalar.addi v2347 v2346
  let v2354 : BitVec 32 := Scalar.select v2352 v2353 v2347
  let c0_i32_2096 : BitVec 32 := 0#32
  let v2356 : BitVec 1 := Scalar.cmpi .sgt v2354 c0_i32_2096
  let v2357 : BitVec 32 := Scalar.extui v2356
  let c0_i32_2097 : BitVec 32 := 0#32
  let v2358 : BitVec 1 := Scalar.cmpi .slt v2354 c0_i32_2097
  let v2359 : BitVec 32 := Scalar.extui v2358
  let v2360 : BitVec 32 := Scalar.subi v2357 v2359
  let c2_i32_2095 : BitVec 32 := 2#32
  let c0_i32_2098 : BitVec 32 := 0#32
  let v2361 : BitVec 1 := Scalar.cmpi .sgt c2_i32_2095 c0_i32_2098
  let v2362 : BitVec 32 := Scalar.extui v2361
  let c0_i32_2099 : BitVec 32 := 0#32
  let v2363 : BitVec 1 := Scalar.cmpi .slt c2_i32_2095 c0_i32_2099
  let v2364 : BitVec 32 := Scalar.extui v2363
  let v2365 : BitVec 32 := Scalar.subi v2362 v2364
  let v2366 : BitVec 1 := Scalar.cmpi .ne v2360 v2365
  let v2367 : BitVec 32 := Scalar.remsi v2354 c2_i32_2095
  let c0_i32_2100 : BitVec 32 := 0#32
  let v2368 : BitVec 1 := Scalar.cmpi .ne v2367 c0_i32_2100
  let v2369 : BitVec 1 := Scalar.andi v2366 v2368
  let v2355 : BitVec 32 := Scalar.divsi v2354 c2_i32_2095
  let c1_i32_2101 : BitVec 32 := 1#32
  let v2370 : BitVec 32 := Scalar.subi v2355 c1_i32_2101
  let v2371 : BitVec 32 := Scalar.select v2369 v2370 v2355
  let v2425 : BitVec 32 := Scalar.muli c2_i32_2136 v2371
  let c2_i32_2137 : BitVec 32 := 2#32
  let c0_i32_2138 : BitVec 32 := 0#32
  let v2426 : BitVec 1 := Scalar.cmpi .eq c2_i32_2137 c0_i32_2138
  let c1_i32_2139 : BitVec 32 := 1#32
  let v2427 : BitVec 32 := Scalar.select v2426 c1_i32_2139 c2_i32_2137
  let v2428 : BitVec 32 := Scalar.remsi v2371 v2427
  let c0_i32_2141 : BitVec 32 := 0#32
  let v2430 : BitVec 1 := Scalar.cmpi .slt v2428 c0_i32_2141
  let c0_i32_2142 : BitVec 32 := 0#32
  let v2431 : BitVec 1 := Scalar.cmpi .slt v2427 c0_i32_2142
  let v2432 : BitVec 1 := Scalar.xori v2430 v2431
  let c0_i32_2140 : BitVec 32 := 0#32
  let v2429 : BitVec 1 := Scalar.cmpi .ne v2428 c0_i32_2140
  let v2433 : BitVec 1 := Scalar.andi v2432 v2429
  let v2434 : BitVec 32 := Scalar.addi v2428 v2427
  let v2435 : BitVec 32 := Scalar.select v2433 v2434 v2428
  let c0_i32_2143 : BitVec 32 := 0#32
  let v2436 : BitVec 1 := Scalar.cmpi .eq v2435 c0_i32_2143
  let c4_i32_2102 : BitVec 32 := 4#32
  let c0_i32_2103 : BitVec 32 := 0#32
  let v2372 : BitVec 1 := Scalar.cmpi .eq c4_i32_2102 c0_i32_2103
  let c1_i32_2104 : BitVec 32 := 1#32
  let v2373 : BitVec 32 := Scalar.select v2372 c1_i32_2104 c4_i32_2102
  let v2374 : BitVec 32 := Scalar.remsi v2354 v2373
  let c0_i32_2106 : BitVec 32 := 0#32
  let v2376 : BitVec 1 := Scalar.cmpi .slt v2374 c0_i32_2106
  let c0_i32_2107 : BitVec 32 := 0#32
  let v2377 : BitVec 1 := Scalar.cmpi .slt v2373 c0_i32_2107
  let v2378 : BitVec 1 := Scalar.xori v2376 v2377
  let c0_i32_2105 : BitVec 32 := 0#32
  let v2375 : BitVec 1 := Scalar.cmpi .ne v2374 c0_i32_2105
  let v2379 : BitVec 1 := Scalar.andi v2378 v2375
  let v2380 : BitVec 32 := Scalar.addi v2374 v2373
  let v2381 : BitVec 32 := Scalar.select v2379 v2380 v2374
  let c1_i32_2108 : BitVec 32 := 1#32
  let v2382 : BitVec 1 := Scalar.cmpi .eq v2381 c1_i32_2108
  let c2_i32_2109 : BitVec 32 := 2#32
  let v2383 : BitVec 1 := Scalar.cmpi .eq v2381 c2_i32_2109
  let v2384 : BitVec 1 := Scalar.ori v2382 v2383
  let c1_i32_2110 : BitVec 32 := 1#32
  let c0_i32_2111 : BitVec 32 := 0#32
  let v2385 : BitVec 32 := Scalar.select v2384 c1_i32_2110 c0_i32_2111
  let c1_i32_2144 : BitVec 32 := 1#32
  let v2437 : BitVec 32 := Scalar.subi c1_i32_2144 v2385
  let v2438 : BitVec 32 := Scalar.select v2436 v2385 v2437
  let v2439 : BitVec 32 := Scalar.addi v2425 v2438
  let v2441 : BitVec 32 := Scalar.addi v2440 v2439
  let c1_i32_2189 : BitVec 32 := 1#32
  let v2480 : BitVec 32 := Scalar.muli v2441 c1_i32_2189
  let v2481 : BitVec 32 := Scalar.addi c0_i32_2190 v2480
  v2481.toNat
def k0_dev35 (d0 : Dev nD) : Nat :=
  let c0_i32_2206 : BitVec 32 := 0#32
  let c8_i32_2162 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2083 : BitVec 32 := 0#32
  let v2329 : BitVec 1 := Scalar.cmpi .sgt v2 c0_i32_2083
  let v2330 : BitVec 32 := Scalar.extui v2329
  let c0_i32_2084 : BitVec 32 := 0#32
  let v2331 : BitVec 1 := Scalar.cmpi .slt v2 c0_i32_2084
  let v2332 : BitVec 32 := Scalar.extui v2331
  let v2333 : BitVec 32 := Scalar.subi v2330 v2332
  let c8_i32_2082 : BitVec 32 := 8#32
  let c0_i32_2085 : BitVec 32 := 0#32
  let v2334 : BitVec 1 := Scalar.cmpi .sgt c8_i32_2082 c0_i32_2085
  let v2335 : BitVec 32 := Scalar.extui v2334
  let c0_i32_2086 : BitVec 32 := 0#32
  let v2336 : BitVec 1 := Scalar.cmpi .slt c8_i32_2082 c0_i32_2086
  let v2337 : BitVec 32 := Scalar.extui v2336
  let v2338 : BitVec 32 := Scalar.subi v2335 v2337
  let v2339 : BitVec 1 := Scalar.cmpi .ne v2333 v2338
  let v2340 : BitVec 32 := Scalar.remsi v2 c8_i32_2082
  let c0_i32_2087 : BitVec 32 := 0#32
  let v2341 : BitVec 1 := Scalar.cmpi .ne v2340 c0_i32_2087
  let v2342 : BitVec 1 := Scalar.andi v2339 v2341
  let v2328 : BitVec 32 := Scalar.divsi v2 c8_i32_2082
  let c1_i32_2088 : BitVec 32 := 1#32
  let v2343 : BitVec 32 := Scalar.subi v2328 c1_i32_2088
  let v2344 : BitVec 32 := Scalar.select v2342 v2343 v2328
  let c3_i32_2146 : BitVec 32 := 3#32
  let v2442 : BitVec 32 := Scalar.addi v2344 c3_i32_2146
  let c4_i32_2147 : BitVec 32 := 4#32
  let c0_i32_2148 : BitVec 32 := 0#32
  let v2443 : BitVec 1 := Scalar.cmpi .eq c4_i32_2147 c0_i32_2148
  let c1_i32_2149 : BitVec 32 := 1#32
  let v2444 : BitVec 32 := Scalar.select v2443 c1_i32_2149 c4_i32_2147
  let v2445 : BitVec 32 := Scalar.remsi v2442 v2444
  let c0_i32_2151 : BitVec 32 := 0#32
  let v2447 : BitVec 1 := Scalar.cmpi .slt v2445 c0_i32_2151
  let c0_i32_2152 : BitVec 32 := 0#32
  let v2448 : BitVec 1 := Scalar.cmpi .slt v2444 c0_i32_2152
  let v2449 : BitVec 1 := Scalar.xori v2447 v2448
  let c0_i32_2150 : BitVec 32 := 0#32
  let v2446 : BitVec 1 := Scalar.cmpi .ne v2445 c0_i32_2150
  let v2450 : BitVec 1 := Scalar.andi v2449 v2446
  let v2451 : BitVec 32 := Scalar.addi v2445 v2444
  let v2452 : BitVec 32 := Scalar.select v2450 v2451 v2445
  let v2468 : BitVec 32 := Scalar.muli c8_i32_2162 v2452
  let c2_i32_2153 : BitVec 32 := 2#32
  let c8_i32_2089 : BitVec 32 := 8#32
  let c0_i32_2090 : BitVec 32 := 0#32
  let v2345 : BitVec 1 := Scalar.cmpi .eq c8_i32_2089 c0_i32_2090
  let c1_i32_2091 : BitVec 32 := 1#32
  let v2346 : BitVec 32 := Scalar.select v2345 c1_i32_2091 c8_i32_2089
  let v2347 : BitVec 32 := Scalar.remsi v2 v2346
  let c0_i32_2093 : BitVec 32 := 0#32
  let v2349 : BitVec 1 := Scalar.cmpi .slt v2347 c0_i32_2093
  let c0_i32_2094 : BitVec 32 := 0#32
  let v2350 : BitVec 1 := Scalar.cmpi .slt v2346 c0_i32_2094
  let v2351 : BitVec 1 := Scalar.xori v2349 v2350
  let c0_i32_2092 : BitVec 32 := 0#32
  let v2348 : BitVec 1 := Scalar.cmpi .ne v2347 c0_i32_2092
  let v2352 : BitVec 1 := Scalar.andi v2351 v2348
  let v2353 : BitVec 32 := Scalar.addi v2347 v2346
  let v2354 : BitVec 32 := Scalar.select v2352 v2353 v2347
  let c0_i32_2096 : BitVec 32 := 0#32
  let v2356 : BitVec 1 := Scalar.cmpi .sgt v2354 c0_i32_2096
  let v2357 : BitVec 32 := Scalar.extui v2356
  let c0_i32_2097 : BitVec 32 := 0#32
  let v2358 : BitVec 1 := Scalar.cmpi .slt v2354 c0_i32_2097
  let v2359 : BitVec 32 := Scalar.extui v2358
  let v2360 : BitVec 32 := Scalar.subi v2357 v2359
  let c2_i32_2095 : BitVec 32 := 2#32
  let c0_i32_2098 : BitVec 32 := 0#32
  let v2361 : BitVec 1 := Scalar.cmpi .sgt c2_i32_2095 c0_i32_2098
  let v2362 : BitVec 32 := Scalar.extui v2361
  let c0_i32_2099 : BitVec 32 := 0#32
  let v2363 : BitVec 1 := Scalar.cmpi .slt c2_i32_2095 c0_i32_2099
  let v2364 : BitVec 32 := Scalar.extui v2363
  let v2365 : BitVec 32 := Scalar.subi v2362 v2364
  let v2366 : BitVec 1 := Scalar.cmpi .ne v2360 v2365
  let v2367 : BitVec 32 := Scalar.remsi v2354 c2_i32_2095
  let c0_i32_2100 : BitVec 32 := 0#32
  let v2368 : BitVec 1 := Scalar.cmpi .ne v2367 c0_i32_2100
  let v2369 : BitVec 1 := Scalar.andi v2366 v2368
  let v2355 : BitVec 32 := Scalar.divsi v2354 c2_i32_2095
  let c1_i32_2101 : BitVec 32 := 1#32
  let v2370 : BitVec 32 := Scalar.subi v2355 c1_i32_2101
  let v2371 : BitVec 32 := Scalar.select v2369 v2370 v2355
  let v2453 : BitVec 32 := Scalar.muli c2_i32_2153 v2371
  let c2_i32_2154 : BitVec 32 := 2#32
  let c0_i32_2155 : BitVec 32 := 0#32
  let v2454 : BitVec 1 := Scalar.cmpi .eq c2_i32_2154 c0_i32_2155
  let c1_i32_2156 : BitVec 32 := 1#32
  let v2455 : BitVec 32 := Scalar.select v2454 c1_i32_2156 c2_i32_2154
  let v2456 : BitVec 32 := Scalar.remsi v2371 v2455
  let c0_i32_2158 : BitVec 32 := 0#32
  let v2458 : BitVec 1 := Scalar.cmpi .slt v2456 c0_i32_2158
  let c0_i32_2159 : BitVec 32 := 0#32
  let v2459 : BitVec 1 := Scalar.cmpi .slt v2455 c0_i32_2159
  let v2460 : BitVec 1 := Scalar.xori v2458 v2459
  let c0_i32_2157 : BitVec 32 := 0#32
  let v2457 : BitVec 1 := Scalar.cmpi .ne v2456 c0_i32_2157
  let v2461 : BitVec 1 := Scalar.andi v2460 v2457
  let v2462 : BitVec 32 := Scalar.addi v2456 v2455
  let v2463 : BitVec 32 := Scalar.select v2461 v2462 v2456
  let c0_i32_2160 : BitVec 32 := 0#32
  let v2464 : BitVec 1 := Scalar.cmpi .eq v2463 c0_i32_2160
  let c4_i32_2102 : BitVec 32 := 4#32
  let c0_i32_2103 : BitVec 32 := 0#32
  let v2372 : BitVec 1 := Scalar.cmpi .eq c4_i32_2102 c0_i32_2103
  let c1_i32_2104 : BitVec 32 := 1#32
  let v2373 : BitVec 32 := Scalar.select v2372 c1_i32_2104 c4_i32_2102
  let v2374 : BitVec 32 := Scalar.remsi v2354 v2373
  let c0_i32_2106 : BitVec 32 := 0#32
  let v2376 : BitVec 1 := Scalar.cmpi .slt v2374 c0_i32_2106
  let c0_i32_2107 : BitVec 32 := 0#32
  let v2377 : BitVec 1 := Scalar.cmpi .slt v2373 c0_i32_2107
  let v2378 : BitVec 1 := Scalar.xori v2376 v2377
  let c0_i32_2105 : BitVec 32 := 0#32
  let v2375 : BitVec 1 := Scalar.cmpi .ne v2374 c0_i32_2105
  let v2379 : BitVec 1 := Scalar.andi v2378 v2375
  let v2380 : BitVec 32 := Scalar.addi v2374 v2373
  let v2381 : BitVec 32 := Scalar.select v2379 v2380 v2374
  let c1_i32_2108 : BitVec 32 := 1#32
  let v2382 : BitVec 1 := Scalar.cmpi .eq v2381 c1_i32_2108
  let c2_i32_2109 : BitVec 32 := 2#32
  let v2383 : BitVec 1 := Scalar.cmpi .eq v2381 c2_i32_2109
  let v2384 : BitVec 1 := Scalar.ori v2382 v2383
  let c1_i32_2110 : BitVec 32 := 1#32
  let c0_i32_2111 : BitVec 32 := 0#32
  let v2385 : BitVec 32 := Scalar.select v2384 c1_i32_2110 c0_i32_2111
  let c1_i32_2161 : BitVec 32 := 1#32
  let v2465 : BitVec 32 := Scalar.subi c1_i32_2161 v2385
  let v2466 : BitVec 32 := Scalar.select v2464 v2385 v2465
  let v2467 : BitVec 32 := Scalar.addi v2453 v2466
  let v2469 : BitVec 32 := Scalar.addi v2468 v2467
  let c1_i32_2205 : BitVec 32 := 1#32
  let v2490 : BitVec 32 := Scalar.muli v2469 c1_i32_2205
  let v2491 : BitVec 32 := Scalar.addi c0_i32_2206 v2490
  v2491.toNat
def k0_dev36 (d0 : Dev nD) : Nat :=
  let c0_i32_2386 : BitVec 32 := 0#32
  let c8_i32_2374 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2335 : BitVec 32 := 0#32
  let v2568 : BitVec 1 := Scalar.cmpi .sgt v2 c0_i32_2335
  let v2569 : BitVec 32 := Scalar.extui v2568
  let c0_i32_2336 : BitVec 32 := 0#32
  let v2570 : BitVec 1 := Scalar.cmpi .slt v2 c0_i32_2336
  let v2571 : BitVec 32 := Scalar.extui v2570
  let v2572 : BitVec 32 := Scalar.subi v2569 v2571
  let c8_i32_2334 : BitVec 32 := 8#32
  let c0_i32_2337 : BitVec 32 := 0#32
  let v2573 : BitVec 1 := Scalar.cmpi .sgt c8_i32_2334 c0_i32_2337
  let v2574 : BitVec 32 := Scalar.extui v2573
  let c0_i32_2338 : BitVec 32 := 0#32
  let v2575 : BitVec 1 := Scalar.cmpi .slt c8_i32_2334 c0_i32_2338
  let v2576 : BitVec 32 := Scalar.extui v2575
  let v2577 : BitVec 32 := Scalar.subi v2574 v2576
  let v2578 : BitVec 1 := Scalar.cmpi .ne v2572 v2577
  let v2579 : BitVec 32 := Scalar.remsi v2 c8_i32_2334
  let c0_i32_2339 : BitVec 32 := 0#32
  let v2580 : BitVec 1 := Scalar.cmpi .ne v2579 c0_i32_2339
  let v2581 : BitVec 1 := Scalar.andi v2578 v2580
  let v2567 : BitVec 32 := Scalar.divsi v2 c8_i32_2334
  let c1_i32_2340 : BitVec 32 := 1#32
  let v2582 : BitVec 32 := Scalar.subi v2567 c1_i32_2340
  let v2583 : BitVec 32 := Scalar.select v2581 v2582 v2567
  let v2641 : BitVec 32 := Scalar.muli c8_i32_2374 v2583
  let c2_i32_2365 : BitVec 32 := 2#32
  let c8_i32_2341 : BitVec 32 := 8#32
  let c0_i32_2342 : BitVec 32 := 0#32
  let v2584 : BitVec 1 := Scalar.cmpi .eq c8_i32_2341 c0_i32_2342
  let c1_i32_2343 : BitVec 32 := 1#32
  let v2585 : BitVec 32 := Scalar.select v2584 c1_i32_2343 c8_i32_2341
  let v2586 : BitVec 32 := Scalar.remsi v2 v2585
  let c0_i32_2345 : BitVec 32 := 0#32
  let v2588 : BitVec 1 := Scalar.cmpi .slt v2586 c0_i32_2345
  let c0_i32_2346 : BitVec 32 := 0#32
  let v2589 : BitVec 1 := Scalar.cmpi .slt v2585 c0_i32_2346
  let v2590 : BitVec 1 := Scalar.xori v2588 v2589
  let c0_i32_2344 : BitVec 32 := 0#32
  let v2587 : BitVec 1 := Scalar.cmpi .ne v2586 c0_i32_2344
  let v2591 : BitVec 1 := Scalar.andi v2590 v2587
  let v2592 : BitVec 32 := Scalar.addi v2586 v2585
  let v2593 : BitVec 32 := Scalar.select v2591 v2592 v2586
  let c0_i32_2348 : BitVec 32 := 0#32
  let v2595 : BitVec 1 := Scalar.cmpi .sgt v2593 c0_i32_2348
  let v2596 : BitVec 32 := Scalar.extui v2595
  let c0_i32_2349 : BitVec 32 := 0#32
  let v2597 : BitVec 1 := Scalar.cmpi .slt v2593 c0_i32_2349
  let v2598 : BitVec 32 := Scalar.extui v2597
  let v2599 : BitVec 32 := Scalar.subi v2596 v2598
  let c2_i32_2347 : BitVec 32 := 2#32
  let c0_i32_2350 : BitVec 32 := 0#32
  let v2600 : BitVec 1 := Scalar.cmpi .sgt c2_i32_2347 c0_i32_2350
  let v2601 : BitVec 32 := Scalar.extui v2600
  let c0_i32_2351 : BitVec 32 := 0#32
  let v2602 : BitVec 1 := Scalar.cmpi .slt c2_i32_2347 c0_i32_2351
  let v2603 : BitVec 32 := Scalar.extui v2602
  let v2604 : BitVec 32 := Scalar.subi v2601 v2603
  let v2605 : BitVec 1 := Scalar.cmpi .ne v2599 v2604
  let v2606 : BitVec 32 := Scalar.remsi v2593 c2_i32_2347
  let c0_i32_2352 : BitVec 32 := 0#32
  let v2607 : BitVec 1 := Scalar.cmpi .ne v2606 c0_i32_2352
  let v2608 : BitVec 1 := Scalar.andi v2605 v2607
  let v2594 : BitVec 32 := Scalar.divsi v2593 c2_i32_2347
  let c1_i32_2353 : BitVec 32 := 1#32
  let v2609 : BitVec 32 := Scalar.subi v2594 c1_i32_2353
  let v2610 : BitVec 32 := Scalar.select v2608 v2609 v2594
  let v2626 : BitVec 32 := Scalar.muli c2_i32_2365 v2610
  let c2_i32_2366 : BitVec 32 := 2#32
  let c0_i32_2367 : BitVec 32 := 0#32
  let v2627 : BitVec 1 := Scalar.cmpi .eq c2_i32_2366 c0_i32_2367
  let c1_i32_2368 : BitVec 32 := 1#32
  let v2628 : BitVec 32 := Scalar.select v2627 c1_i32_2368 c2_i32_2366
  let v2629 : BitVec 32 := Scalar.remsi v2610 v2628
  let c0_i32_2370 : BitVec 32 := 0#32
  let v2631 : BitVec 1 := Scalar.cmpi .slt v2629 c0_i32_2370
  let c0_i32_2371 : BitVec 32 := 0#32
  let v2632 : BitVec 1 := Scalar.cmpi .slt v2628 c0_i32_2371
  let v2633 : BitVec 1 := Scalar.xori v2631 v2632
  let c0_i32_2369 : BitVec 32 := 0#32
  let v2630 : BitVec 1 := Scalar.cmpi .ne v2629 c0_i32_2369
  let v2634 : BitVec 1 := Scalar.andi v2633 v2630
  let v2635 : BitVec 32 := Scalar.addi v2629 v2628
  let v2636 : BitVec 32 := Scalar.select v2634 v2635 v2629
  let c0_i32_2372 : BitVec 32 := 0#32
  let v2637 : BitVec 1 := Scalar.cmpi .eq v2636 c0_i32_2372
  let c1_i32_2364 : BitVec 32 := 1#32
  let c4_i32_2354 : BitVec 32 := 4#32
  let c0_i32_2355 : BitVec 32 := 0#32
  let v2611 : BitVec 1 := Scalar.cmpi .eq c4_i32_2354 c0_i32_2355
  let c1_i32_2356 : BitVec 32 := 1#32
  let v2612 : BitVec 32 := Scalar.select v2611 c1_i32_2356 c4_i32_2354
  let v2613 : BitVec 32 := Scalar.remsi v2593 v2612
  let c0_i32_2358 : BitVec 32 := 0#32
  let v2615 : BitVec 1 := Scalar.cmpi .slt v2613 c0_i32_2358
  let c0_i32_2359 : BitVec 32 := 0#32
  let v2616 : BitVec 1 := Scalar.cmpi .slt v2612 c0_i32_2359
  let v2617 : BitVec 1 := Scalar.xori v2615 v2616
  let c0_i32_2357 : BitVec 32 := 0#32
  let v2614 : BitVec 1 := Scalar.cmpi .ne v2613 c0_i32_2357
  let v2618 : BitVec 1 := Scalar.andi v2617 v2614
  let v2619 : BitVec 32 := Scalar.addi v2613 v2612
  let v2620 : BitVec 32 := Scalar.select v2618 v2619 v2613
  let c1_i32_2360 : BitVec 32 := 1#32
  let v2621 : BitVec 1 := Scalar.cmpi .eq v2620 c1_i32_2360
  let c2_i32_2361 : BitVec 32 := 2#32
  let v2622 : BitVec 1 := Scalar.cmpi .eq v2620 c2_i32_2361
  let v2623 : BitVec 1 := Scalar.ori v2621 v2622
  let c1_i32_2362 : BitVec 32 := 1#32
  let c0_i32_2363 : BitVec 32 := 0#32
  let v2624 : BitVec 32 := Scalar.select v2623 c1_i32_2362 c0_i32_2363
  let v2625 : BitVec 32 := Scalar.subi c1_i32_2364 v2624
  let c1_i32_2373 : BitVec 32 := 1#32
  let v2638 : BitVec 32 := Scalar.subi c1_i32_2373 v2625
  let v2639 : BitVec 32 := Scalar.select v2637 v2625 v2638
  let v2640 : BitVec 32 := Scalar.addi v2626 v2639
  let v2642 : BitVec 32 := Scalar.addi v2641 v2640
  let c1_i32_2385 : BitVec 32 := 1#32
  let v2643 : BitVec 32 := Scalar.muli v2642 c1_i32_2385
  let v2644 : BitVec 32 := Scalar.addi c0_i32_2386 v2643
  v2644.toNat
def k0_dev37 (d0 : Dev nD) : Nat :=
  let c0_i32_2534 : BitVec 32 := 0#32
  let c8_i32_2488 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2443 : BitVec 32 := 0#32
  let v2687 : BitVec 1 := Scalar.cmpi .sgt v2 c0_i32_2443
  let v2688 : BitVec 32 := Scalar.extui v2687
  let c0_i32_2444 : BitVec 32 := 0#32
  let v2689 : BitVec 1 := Scalar.cmpi .slt v2 c0_i32_2444
  let v2690 : BitVec 32 := Scalar.extui v2689
  let v2691 : BitVec 32 := Scalar.subi v2688 v2690
  let c8_i32_2442 : BitVec 32 := 8#32
  let c0_i32_2445 : BitVec 32 := 0#32
  let v2692 : BitVec 1 := Scalar.cmpi .sgt c8_i32_2442 c0_i32_2445
  let v2693 : BitVec 32 := Scalar.extui v2692
  let c0_i32_2446 : BitVec 32 := 0#32
  let v2694 : BitVec 1 := Scalar.cmpi .slt c8_i32_2442 c0_i32_2446
  let v2695 : BitVec 32 := Scalar.extui v2694
  let v2696 : BitVec 32 := Scalar.subi v2693 v2695
  let v2697 : BitVec 1 := Scalar.cmpi .ne v2691 v2696
  let v2698 : BitVec 32 := Scalar.remsi v2 c8_i32_2442
  let c0_i32_2447 : BitVec 32 := 0#32
  let v2699 : BitVec 1 := Scalar.cmpi .ne v2698 c0_i32_2447
  let v2700 : BitVec 1 := Scalar.andi v2697 v2699
  let v2686 : BitVec 32 := Scalar.divsi v2 c8_i32_2442
  let c1_i32_2448 : BitVec 32 := 1#32
  let v2701 : BitVec 32 := Scalar.subi v2686 c1_i32_2448
  let v2702 : BitVec 32 := Scalar.select v2700 v2701 v2686
  let v2770 : BitVec 32 := Scalar.muli c8_i32_2488 v2702
  let c2_i32_2479 : BitVec 32 := 2#32
  let c8_i32_2449 : BitVec 32 := 8#32
  let c0_i32_2450 : BitVec 32 := 0#32
  let v2703 : BitVec 1 := Scalar.cmpi .eq c8_i32_2449 c0_i32_2450
  let c1_i32_2451 : BitVec 32 := 1#32
  let v2704 : BitVec 32 := Scalar.select v2703 c1_i32_2451 c8_i32_2449
  let v2705 : BitVec 32 := Scalar.remsi v2 v2704
  let c0_i32_2453 : BitVec 32 := 0#32
  let v2707 : BitVec 1 := Scalar.cmpi .slt v2705 c0_i32_2453
  let c0_i32_2454 : BitVec 32 := 0#32
  let v2708 : BitVec 1 := Scalar.cmpi .slt v2704 c0_i32_2454
  let v2709 : BitVec 1 := Scalar.xori v2707 v2708
  let c0_i32_2452 : BitVec 32 := 0#32
  let v2706 : BitVec 1 := Scalar.cmpi .ne v2705 c0_i32_2452
  let v2710 : BitVec 1 := Scalar.andi v2709 v2706
  let v2711 : BitVec 32 := Scalar.addi v2705 v2704
  let v2712 : BitVec 32 := Scalar.select v2710 v2711 v2705
  let c0_i32_2456 : BitVec 32 := 0#32
  let v2714 : BitVec 1 := Scalar.cmpi .sgt v2712 c0_i32_2456
  let v2715 : BitVec 32 := Scalar.extui v2714
  let c0_i32_2457 : BitVec 32 := 0#32
  let v2716 : BitVec 1 := Scalar.cmpi .slt v2712 c0_i32_2457
  let v2717 : BitVec 32 := Scalar.extui v2716
  let v2718 : BitVec 32 := Scalar.subi v2715 v2717
  let c2_i32_2455 : BitVec 32 := 2#32
  let c0_i32_2458 : BitVec 32 := 0#32
  let v2719 : BitVec 1 := Scalar.cmpi .sgt c2_i32_2455 c0_i32_2458
  let v2720 : BitVec 32 := Scalar.extui v2719
  let c0_i32_2459 : BitVec 32 := 0#32
  let v2721 : BitVec 1 := Scalar.cmpi .slt c2_i32_2455 c0_i32_2459
  let v2722 : BitVec 32 := Scalar.extui v2721
  let v2723 : BitVec 32 := Scalar.subi v2720 v2722
  let v2724 : BitVec 1 := Scalar.cmpi .ne v2718 v2723
  let v2725 : BitVec 32 := Scalar.remsi v2712 c2_i32_2455
  let c0_i32_2460 : BitVec 32 := 0#32
  let v2726 : BitVec 1 := Scalar.cmpi .ne v2725 c0_i32_2460
  let v2727 : BitVec 1 := Scalar.andi v2724 v2726
  let v2713 : BitVec 32 := Scalar.divsi v2712 c2_i32_2455
  let c1_i32_2461 : BitVec 32 := 1#32
  let v2728 : BitVec 32 := Scalar.subi v2713 c1_i32_2461
  let v2729 : BitVec 32 := Scalar.select v2727 v2728 v2713
  let c1_i32_2472 : BitVec 32 := 1#32
  let v2744 : BitVec 32 := Scalar.addi v2729 c1_i32_2472
  let c4_i32_2473 : BitVec 32 := 4#32
  let c0_i32_2474 : BitVec 32 := 0#32
  let v2745 : BitVec 1 := Scalar.cmpi .eq c4_i32_2473 c0_i32_2474
  let c1_i32_2475 : BitVec 32 := 1#32
  let v2746 : BitVec 32 := Scalar.select v2745 c1_i32_2475 c4_i32_2473
  let v2747 : BitVec 32 := Scalar.remsi v2744 v2746
  let c0_i32_2477 : BitVec 32 := 0#32
  let v2749 : BitVec 1 := Scalar.cmpi .slt v2747 c0_i32_2477
  let c0_i32_2478 : BitVec 32 := 0#32
  let v2750 : BitVec 1 := Scalar.cmpi .slt v2746 c0_i32_2478
  let v2751 : BitVec 1 := Scalar.xori v2749 v2750
  let c0_i32_2476 : BitVec 32 := 0#32
  let v2748 : BitVec 1 := Scalar.cmpi .ne v2747 c0_i32_2476
  let v2752 : BitVec 1 := Scalar.andi v2751 v2748
  let v2753 : BitVec 32 := Scalar.addi v2747 v2746
  let v2754 : BitVec 32 := Scalar.select v2752 v2753 v2747
  let v2755 : BitVec 32 := Scalar.muli c2_i32_2479 v2754
  let c2_i32_2480 : BitVec 32 := 2#32
  let c0_i32_2481 : BitVec 32 := 0#32
  let v2756 : BitVec 1 := Scalar.cmpi .eq c2_i32_2480 c0_i32_2481
  let c1_i32_2482 : BitVec 32 := 1#32
  let v2757 : BitVec 32 := Scalar.select v2756 c1_i32_2482 c2_i32_2480
  let v2758 : BitVec 32 := Scalar.remsi v2754 v2757
  let c0_i32_2484 : BitVec 32 := 0#32
  let v2760 : BitVec 1 := Scalar.cmpi .slt v2758 c0_i32_2484
  let c0_i32_2485 : BitVec 32 := 0#32
  let v2761 : BitVec 1 := Scalar.cmpi .slt v2757 c0_i32_2485
  let v2762 : BitVec 1 := Scalar.xori v2760 v2761
  let c0_i32_2483 : BitVec 32 := 0#32
  let v2759 : BitVec 1 := Scalar.cmpi .ne v2758 c0_i32_2483
  let v2763 : BitVec 1 := Scalar.andi v2762 v2759
  let v2764 : BitVec 32 := Scalar.addi v2758 v2757
  let v2765 : BitVec 32 := Scalar.select v2763 v2764 v2758
  let c0_i32_2486 : BitVec 32 := 0#32
  let v2766 : BitVec 1 := Scalar.cmpi .eq v2765 c0_i32_2486
  let c4_i32_2462 : BitVec 32 := 4#32
  let c0_i32_2463 : BitVec 32 := 0#32
  let v2730 : BitVec 1 := Scalar.cmpi .eq c4_i32_2462 c0_i32_2463
  let c1_i32_2464 : BitVec 32 := 1#32
  let v2731 : BitVec 32 := Scalar.select v2730 c1_i32_2464 c4_i32_2462
  let v2732 : BitVec 32 := Scalar.remsi v2712 v2731
  let c0_i32_2466 : BitVec 32 := 0#32
  let v2734 : BitVec 1 := Scalar.cmpi .slt v2732 c0_i32_2466
  let c0_i32_2467 : BitVec 32 := 0#32
  let v2735 : BitVec 1 := Scalar.cmpi .slt v2731 c0_i32_2467
  let v2736 : BitVec 1 := Scalar.xori v2734 v2735
  let c0_i32_2465 : BitVec 32 := 0#32
  let v2733 : BitVec 1 := Scalar.cmpi .ne v2732 c0_i32_2465
  let v2737 : BitVec 1 := Scalar.andi v2736 v2733
  let v2738 : BitVec 32 := Scalar.addi v2732 v2731
  let v2739 : BitVec 32 := Scalar.select v2737 v2738 v2732
  let c1_i32_2468 : BitVec 32 := 1#32
  let v2740 : BitVec 1 := Scalar.cmpi .eq v2739 c1_i32_2468
  let c2_i32_2469 : BitVec 32 := 2#32
  let v2741 : BitVec 1 := Scalar.cmpi .eq v2739 c2_i32_2469
  let v2742 : BitVec 1 := Scalar.ori v2740 v2741
  let c1_i32_2470 : BitVec 32 := 1#32
  let c0_i32_2471 : BitVec 32 := 0#32
  let v2743 : BitVec 32 := Scalar.select v2742 c1_i32_2470 c0_i32_2471
  let c1_i32_2487 : BitVec 32 := 1#32
  let v2767 : BitVec 32 := Scalar.subi c1_i32_2487 v2743
  let v2768 : BitVec 32 := Scalar.select v2766 v2743 v2767
  let v2769 : BitVec 32 := Scalar.addi v2755 v2768
  let v2771 : BitVec 32 := Scalar.addi v2770 v2769
  let c1_i32_2533 : BitVec 32 := 1#32
  let v2828 : BitVec 32 := Scalar.muli v2771 c1_i32_2533
  let v2829 : BitVec 32 := Scalar.addi c0_i32_2534 v2828
  v2829.toNat
def k0_dev38 (d0 : Dev nD) : Nat :=
  let c0_i32_2550 : BitVec 32 := 0#32
  let c8_i32_2505 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2443 : BitVec 32 := 0#32
  let v2687 : BitVec 1 := Scalar.cmpi .sgt v2 c0_i32_2443
  let v2688 : BitVec 32 := Scalar.extui v2687
  let c0_i32_2444 : BitVec 32 := 0#32
  let v2689 : BitVec 1 := Scalar.cmpi .slt v2 c0_i32_2444
  let v2690 : BitVec 32 := Scalar.extui v2689
  let v2691 : BitVec 32 := Scalar.subi v2688 v2690
  let c8_i32_2442 : BitVec 32 := 8#32
  let c0_i32_2445 : BitVec 32 := 0#32
  let v2692 : BitVec 1 := Scalar.cmpi .sgt c8_i32_2442 c0_i32_2445
  let v2693 : BitVec 32 := Scalar.extui v2692
  let c0_i32_2446 : BitVec 32 := 0#32
  let v2694 : BitVec 1 := Scalar.cmpi .slt c8_i32_2442 c0_i32_2446
  let v2695 : BitVec 32 := Scalar.extui v2694
  let v2696 : BitVec 32 := Scalar.subi v2693 v2695
  let v2697 : BitVec 1 := Scalar.cmpi .ne v2691 v2696
  let v2698 : BitVec 32 := Scalar.remsi v2 c8_i32_2442
  let c0_i32_2447 : BitVec 32 := 0#32
  let v2699 : BitVec 1 := Scalar.cmpi .ne v2698 c0_i32_2447
  let v2700 : BitVec 1 := Scalar.andi v2697 v2699
  let v2686 : BitVec 32 := Scalar.divsi v2 c8_i32_2442
  let c1_i32_2448 : BitVec 32 := 1#32
  let v2701 : BitVec 32 := Scalar.subi v2686 c1_i32_2448
  let v2702 : BitVec 32 := Scalar.select v2700 v2701 v2686
  let v2798 : BitVec 32 := Scalar.muli c8_i32_2505 v2702
  let c2_i32_2496 : BitVec 32 := 2#32
  let c8_i32_2449 : BitVec 32 := 8#32
  let c0_i32_2450 : BitVec 32 := 0#32
  let v2703 : BitVec 1 := Scalar.cmpi .eq c8_i32_2449 c0_i32_2450
  let c1_i32_2451 : BitVec 32 := 1#32
  let v2704 : BitVec 32 := Scalar.select v2703 c1_i32_2451 c8_i32_2449
  let v2705 : BitVec 32 := Scalar.remsi v2 v2704
  let c0_i32_2453 : BitVec 32 := 0#32
  let v2707 : BitVec 1 := Scalar.cmpi .slt v2705 c0_i32_2453
  let c0_i32_2454 : BitVec 32 := 0#32
  let v2708 : BitVec 1 := Scalar.cmpi .slt v2704 c0_i32_2454
  let v2709 : BitVec 1 := Scalar.xori v2707 v2708
  let c0_i32_2452 : BitVec 32 := 0#32
  let v2706 : BitVec 1 := Scalar.cmpi .ne v2705 c0_i32_2452
  let v2710 : BitVec 1 := Scalar.andi v2709 v2706
  let v2711 : BitVec 32 := Scalar.addi v2705 v2704
  let v2712 : BitVec 32 := Scalar.select v2710 v2711 v2705
  let c0_i32_2456 : BitVec 32 := 0#32
  let v2714 : BitVec 1 := Scalar.cmpi .sgt v2712 c0_i32_2456
  let v2715 : BitVec 32 := Scalar.extui v2714
  let c0_i32_2457 : BitVec 32 := 0#32
  let v2716 : BitVec 1 := Scalar.cmpi .slt v2712 c0_i32_2457
  let v2717 : BitVec 32 := Scalar.extui v2716
  let v2718 : BitVec 32 := Scalar.subi v2715 v2717
  let c2_i32_2455 : BitVec 32 := 2#32
  let c0_i32_2458 : BitVec 32 := 0#32
  let v2719 : BitVec 1 := Scalar.cmpi .sgt c2_i32_2455 c0_i32_2458
  let v2720 : BitVec 32 := Scalar.extui v2719
  let c0_i32_2459 : BitVec 32 := 0#32
  let v2721 : BitVec 1 := Scalar.cmpi .slt c2_i32_2455 c0_i32_2459
  let v2722 : BitVec 32 := Scalar.extui v2721
  let v2723 : BitVec 32 := Scalar.subi v2720 v2722
  let v2724 : BitVec 1 := Scalar.cmpi .ne v2718 v2723
  let v2725 : BitVec 32 := Scalar.remsi v2712 c2_i32_2455
  let c0_i32_2460 : BitVec 32 := 0#32
  let v2726 : BitVec 1 := Scalar.cmpi .ne v2725 c0_i32_2460
  let v2727 : BitVec 1 := Scalar.andi v2724 v2726
  let v2713 : BitVec 32 := Scalar.divsi v2712 c2_i32_2455
  let c1_i32_2461 : BitVec 32 := 1#32
  let v2728 : BitVec 32 := Scalar.subi v2713 c1_i32_2461
  let v2729 : BitVec 32 := Scalar.select v2727 v2728 v2713
  let c2_i32_2489 : BitVec 32 := 2#32
  let v2772 : BitVec 32 := Scalar.addi v2729 c2_i32_2489
  let c4_i32_2490 : BitVec 32 := 4#32
  let c0_i32_2491 : BitVec 32 := 0#32
  let v2773 : BitVec 1 := Scalar.cmpi .eq c4_i32_2490 c0_i32_2491
  let c1_i32_2492 : BitVec 32 := 1#32
  let v2774 : BitVec 32 := Scalar.select v2773 c1_i32_2492 c4_i32_2490
  let v2775 : BitVec 32 := Scalar.remsi v2772 v2774
  let c0_i32_2494 : BitVec 32 := 0#32
  let v2777 : BitVec 1 := Scalar.cmpi .slt v2775 c0_i32_2494
  let c0_i32_2495 : BitVec 32 := 0#32
  let v2778 : BitVec 1 := Scalar.cmpi .slt v2774 c0_i32_2495
  let v2779 : BitVec 1 := Scalar.xori v2777 v2778
  let c0_i32_2493 : BitVec 32 := 0#32
  let v2776 : BitVec 1 := Scalar.cmpi .ne v2775 c0_i32_2493
  let v2780 : BitVec 1 := Scalar.andi v2779 v2776
  let v2781 : BitVec 32 := Scalar.addi v2775 v2774
  let v2782 : BitVec 32 := Scalar.select v2780 v2781 v2775
  let v2783 : BitVec 32 := Scalar.muli c2_i32_2496 v2782
  let c2_i32_2497 : BitVec 32 := 2#32
  let c0_i32_2498 : BitVec 32 := 0#32
  let v2784 : BitVec 1 := Scalar.cmpi .eq c2_i32_2497 c0_i32_2498
  let c1_i32_2499 : BitVec 32 := 1#32
  let v2785 : BitVec 32 := Scalar.select v2784 c1_i32_2499 c2_i32_2497
  let v2786 : BitVec 32 := Scalar.remsi v2782 v2785
  let c0_i32_2501 : BitVec 32 := 0#32
  let v2788 : BitVec 1 := Scalar.cmpi .slt v2786 c0_i32_2501
  let c0_i32_2502 : BitVec 32 := 0#32
  let v2789 : BitVec 1 := Scalar.cmpi .slt v2785 c0_i32_2502
  let v2790 : BitVec 1 := Scalar.xori v2788 v2789
  let c0_i32_2500 : BitVec 32 := 0#32
  let v2787 : BitVec 1 := Scalar.cmpi .ne v2786 c0_i32_2500
  let v2791 : BitVec 1 := Scalar.andi v2790 v2787
  let v2792 : BitVec 32 := Scalar.addi v2786 v2785
  let v2793 : BitVec 32 := Scalar.select v2791 v2792 v2786
  let c0_i32_2503 : BitVec 32 := 0#32
  let v2794 : BitVec 1 := Scalar.cmpi .eq v2793 c0_i32_2503
  let c4_i32_2462 : BitVec 32 := 4#32
  let c0_i32_2463 : BitVec 32 := 0#32
  let v2730 : BitVec 1 := Scalar.cmpi .eq c4_i32_2462 c0_i32_2463
  let c1_i32_2464 : BitVec 32 := 1#32
  let v2731 : BitVec 32 := Scalar.select v2730 c1_i32_2464 c4_i32_2462
  let v2732 : BitVec 32 := Scalar.remsi v2712 v2731
  let c0_i32_2466 : BitVec 32 := 0#32
  let v2734 : BitVec 1 := Scalar.cmpi .slt v2732 c0_i32_2466
  let c0_i32_2467 : BitVec 32 := 0#32
  let v2735 : BitVec 1 := Scalar.cmpi .slt v2731 c0_i32_2467
  let v2736 : BitVec 1 := Scalar.xori v2734 v2735
  let c0_i32_2465 : BitVec 32 := 0#32
  let v2733 : BitVec 1 := Scalar.cmpi .ne v2732 c0_i32_2465
  let v2737 : BitVec 1 := Scalar.andi v2736 v2733
  let v2738 : BitVec 32 := Scalar.addi v2732 v2731
  let v2739 : BitVec 32 := Scalar.select v2737 v2738 v2732
  let c1_i32_2468 : BitVec 32 := 1#32
  let v2740 : BitVec 1 := Scalar.cmpi .eq v2739 c1_i32_2468
  let c2_i32_2469 : BitVec 32 := 2#32
  let v2741 : BitVec 1 := Scalar.cmpi .eq v2739 c2_i32_2469
  let v2742 : BitVec 1 := Scalar.ori v2740 v2741
  let c1_i32_2470 : BitVec 32 := 1#32
  let c0_i32_2471 : BitVec 32 := 0#32
  let v2743 : BitVec 32 := Scalar.select v2742 c1_i32_2470 c0_i32_2471
  let c1_i32_2504 : BitVec 32 := 1#32
  let v2795 : BitVec 32 := Scalar.subi c1_i32_2504 v2743
  let v2796 : BitVec 32 := Scalar.select v2794 v2743 v2795
  let v2797 : BitVec 32 := Scalar.addi v2783 v2796
  let v2799 : BitVec 32 := Scalar.addi v2798 v2797
  let c1_i32_2549 : BitVec 32 := 1#32
  let v2838 : BitVec 32 := Scalar.muli v2799 c1_i32_2549
  let v2839 : BitVec 32 := Scalar.addi c0_i32_2550 v2838
  v2839.toNat
def k0_dev39 (d0 : Dev nD) : Nat :=
  let c0_i32_2566 : BitVec 32 := 0#32
  let c8_i32_2522 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2443 : BitVec 32 := 0#32
  let v2687 : BitVec 1 := Scalar.cmpi .sgt v2 c0_i32_2443
  let v2688 : BitVec 32 := Scalar.extui v2687
  let c0_i32_2444 : BitVec 32 := 0#32
  let v2689 : BitVec 1 := Scalar.cmpi .slt v2 c0_i32_2444
  let v2690 : BitVec 32 := Scalar.extui v2689
  let v2691 : BitVec 32 := Scalar.subi v2688 v2690
  let c8_i32_2442 : BitVec 32 := 8#32
  let c0_i32_2445 : BitVec 32 := 0#32
  let v2692 : BitVec 1 := Scalar.cmpi .sgt c8_i32_2442 c0_i32_2445
  let v2693 : BitVec 32 := Scalar.extui v2692
  let c0_i32_2446 : BitVec 32 := 0#32
  let v2694 : BitVec 1 := Scalar.cmpi .slt c8_i32_2442 c0_i32_2446
  let v2695 : BitVec 32 := Scalar.extui v2694
  let v2696 : BitVec 32 := Scalar.subi v2693 v2695
  let v2697 : BitVec 1 := Scalar.cmpi .ne v2691 v2696
  let v2698 : BitVec 32 := Scalar.remsi v2 c8_i32_2442
  let c0_i32_2447 : BitVec 32 := 0#32
  let v2699 : BitVec 1 := Scalar.cmpi .ne v2698 c0_i32_2447
  let v2700 : BitVec 1 := Scalar.andi v2697 v2699
  let v2686 : BitVec 32 := Scalar.divsi v2 c8_i32_2442
  let c1_i32_2448 : BitVec 32 := 1#32
  let v2701 : BitVec 32 := Scalar.subi v2686 c1_i32_2448
  let v2702 : BitVec 32 := Scalar.select v2700 v2701 v2686
  let v2826 : BitVec 32 := Scalar.muli c8_i32_2522 v2702
  let c2_i32_2513 : BitVec 32 := 2#32
  let c8_i32_2449 : BitVec 32 := 8#32
  let c0_i32_2450 : BitVec 32 := 0#32
  let v2703 : BitVec 1 := Scalar.cmpi .eq c8_i32_2449 c0_i32_2450
  let c1_i32_2451 : BitVec 32 := 1#32
  let v2704 : BitVec 32 := Scalar.select v2703 c1_i32_2451 c8_i32_2449
  let v2705 : BitVec 32 := Scalar.remsi v2 v2704
  let c0_i32_2453 : BitVec 32 := 0#32
  let v2707 : BitVec 1 := Scalar.cmpi .slt v2705 c0_i32_2453
  let c0_i32_2454 : BitVec 32 := 0#32
  let v2708 : BitVec 1 := Scalar.cmpi .slt v2704 c0_i32_2454
  let v2709 : BitVec 1 := Scalar.xori v2707 v2708
  let c0_i32_2452 : BitVec 32 := 0#32
  let v2706 : BitVec 1 := Scalar.cmpi .ne v2705 c0_i32_2452
  let v2710 : BitVec 1 := Scalar.andi v2709 v2706
  let v2711 : BitVec 32 := Scalar.addi v2705 v2704
  let v2712 : BitVec 32 := Scalar.select v2710 v2711 v2705
  let c0_i32_2456 : BitVec 32 := 0#32
  let v2714 : BitVec 1 := Scalar.cmpi .sgt v2712 c0_i32_2456
  let v2715 : BitVec 32 := Scalar.extui v2714
  let c0_i32_2457 : BitVec 32 := 0#32
  let v2716 : BitVec 1 := Scalar.cmpi .slt v2712 c0_i32_2457
  let v2717 : BitVec 32 := Scalar.extui v2716
  let v2718 : BitVec 32 := Scalar.subi v2715 v2717
  let c2_i32_2455 : BitVec 32 := 2#32
  let c0_i32_2458 : BitVec 32 := 0#32
  let v2719 : BitVec 1 := Scalar.cmpi .sgt c2_i32_2455 c0_i32_2458
  let v2720 : BitVec 32 := Scalar.extui v2719
  let c0_i32_2459 : BitVec 32 := 0#32
  let v2721 : BitVec 1 := Scalar.cmpi .slt c2_i32_2455 c0_i32_2459
  let v2722 : BitVec 32 := Scalar.extui v2721
  let v2723 : BitVec 32 := Scalar.subi v2720 v2722
  let v2724 : BitVec 1 := Scalar.cmpi .ne v2718 v2723
  let v2725 : BitVec 32 := Scalar.remsi v2712 c2_i32_2455
  let c0_i32_2460 : BitVec 32 := 0#32
  let v2726 : BitVec 1 := Scalar.cmpi .ne v2725 c0_i32_2460
  let v2727 : BitVec 1 := Scalar.andi v2724 v2726
  let v2713 : BitVec 32 := Scalar.divsi v2712 c2_i32_2455
  let c1_i32_2461 : BitVec 32 := 1#32
  let v2728 : BitVec 32 := Scalar.subi v2713 c1_i32_2461
  let v2729 : BitVec 32 := Scalar.select v2727 v2728 v2713
  let c3_i32_2506 : BitVec 32 := 3#32
  let v2800 : BitVec 32 := Scalar.addi v2729 c3_i32_2506
  let c4_i32_2507 : BitVec 32 := 4#32
  let c0_i32_2508 : BitVec 32 := 0#32
  let v2801 : BitVec 1 := Scalar.cmpi .eq c4_i32_2507 c0_i32_2508
  let c1_i32_2509 : BitVec 32 := 1#32
  let v2802 : BitVec 32 := Scalar.select v2801 c1_i32_2509 c4_i32_2507
  let v2803 : BitVec 32 := Scalar.remsi v2800 v2802
  let c0_i32_2511 : BitVec 32 := 0#32
  let v2805 : BitVec 1 := Scalar.cmpi .slt v2803 c0_i32_2511
  let c0_i32_2512 : BitVec 32 := 0#32
  let v2806 : BitVec 1 := Scalar.cmpi .slt v2802 c0_i32_2512
  let v2807 : BitVec 1 := Scalar.xori v2805 v2806
  let c0_i32_2510 : BitVec 32 := 0#32
  let v2804 : BitVec 1 := Scalar.cmpi .ne v2803 c0_i32_2510
  let v2808 : BitVec 1 := Scalar.andi v2807 v2804
  let v2809 : BitVec 32 := Scalar.addi v2803 v2802
  let v2810 : BitVec 32 := Scalar.select v2808 v2809 v2803
  let v2811 : BitVec 32 := Scalar.muli c2_i32_2513 v2810
  let c2_i32_2514 : BitVec 32 := 2#32
  let c0_i32_2515 : BitVec 32 := 0#32
  let v2812 : BitVec 1 := Scalar.cmpi .eq c2_i32_2514 c0_i32_2515
  let c1_i32_2516 : BitVec 32 := 1#32
  let v2813 : BitVec 32 := Scalar.select v2812 c1_i32_2516 c2_i32_2514
  let v2814 : BitVec 32 := Scalar.remsi v2810 v2813
  let c0_i32_2518 : BitVec 32 := 0#32
  let v2816 : BitVec 1 := Scalar.cmpi .slt v2814 c0_i32_2518
  let c0_i32_2519 : BitVec 32 := 0#32
  let v2817 : BitVec 1 := Scalar.cmpi .slt v2813 c0_i32_2519
  let v2818 : BitVec 1 := Scalar.xori v2816 v2817
  let c0_i32_2517 : BitVec 32 := 0#32
  let v2815 : BitVec 1 := Scalar.cmpi .ne v2814 c0_i32_2517
  let v2819 : BitVec 1 := Scalar.andi v2818 v2815
  let v2820 : BitVec 32 := Scalar.addi v2814 v2813
  let v2821 : BitVec 32 := Scalar.select v2819 v2820 v2814
  let c0_i32_2520 : BitVec 32 := 0#32
  let v2822 : BitVec 1 := Scalar.cmpi .eq v2821 c0_i32_2520
  let c4_i32_2462 : BitVec 32 := 4#32
  let c0_i32_2463 : BitVec 32 := 0#32
  let v2730 : BitVec 1 := Scalar.cmpi .eq c4_i32_2462 c0_i32_2463
  let c1_i32_2464 : BitVec 32 := 1#32
  let v2731 : BitVec 32 := Scalar.select v2730 c1_i32_2464 c4_i32_2462
  let v2732 : BitVec 32 := Scalar.remsi v2712 v2731
  let c0_i32_2466 : BitVec 32 := 0#32
  let v2734 : BitVec 1 := Scalar.cmpi .slt v2732 c0_i32_2466
  let c0_i32_2467 : BitVec 32 := 0#32
  let v2735 : BitVec 1 := Scalar.cmpi .slt v2731 c0_i32_2467
  let v2736 : BitVec 1 := Scalar.xori v2734 v2735
  let c0_i32_2465 : BitVec 32 := 0#32
  let v2733 : BitVec 1 := Scalar.cmpi .ne v2732 c0_i32_2465
  let v2737 : BitVec 1 := Scalar.andi v2736 v2733
  let v2738 : BitVec 32 := Scalar.addi v2732 v2731
  let v2739 : BitVec 32 := Scalar.select v2737 v2738 v2732
  let c1_i32_2468 : BitVec 32 := 1#32
  let v2740 : BitVec 1 := Scalar.cmpi .eq v2739 c1_i32_2468
  let c2_i32_2469 : BitVec 32 := 2#32
  let v2741 : BitVec 1 := Scalar.cmpi .eq v2739 c2_i32_2469
  let v2742 : BitVec 1 := Scalar.ori v2740 v2741
  let c1_i32_2470 : BitVec 32 := 1#32
  let c0_i32_2471 : BitVec 32 := 0#32
  let v2743 : BitVec 32 := Scalar.select v2742 c1_i32_2470 c0_i32_2471
  let c1_i32_2521 : BitVec 32 := 1#32
  let v2823 : BitVec 32 := Scalar.subi c1_i32_2521 v2743
  let v2824 : BitVec 32 := Scalar.select v2822 v2743 v2823
  let v2825 : BitVec 32 := Scalar.addi v2811 v2824
  let v2827 : BitVec 32 := Scalar.addi v2826 v2825
  let c1_i32_2565 : BitVec 32 := 1#32
  let v2848 : BitVec 32 := Scalar.muli v2827 c1_i32_2565
  let v2849 : BitVec 32 := Scalar.addi c0_i32_2566 v2848
  v2849.toNat
def k0_dev40 (d0 : Dev nD) : Nat :=
  let c0_i32_2786 : BitVec 32 := 0#32
  let c8_i32_2740 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2695 : BitVec 32 := 0#32
  let v2926 : BitVec 1 := Scalar.cmpi .sgt v2 c0_i32_2695
  let v2927 : BitVec 32 := Scalar.extui v2926
  let c0_i32_2696 : BitVec 32 := 0#32
  let v2928 : BitVec 1 := Scalar.cmpi .slt v2 c0_i32_2696
  let v2929 : BitVec 32 := Scalar.extui v2928
  let v2930 : BitVec 32 := Scalar.subi v2927 v2929
  let c8_i32_2694 : BitVec 32 := 8#32
  let c0_i32_2697 : BitVec 32 := 0#32
  let v2931 : BitVec 1 := Scalar.cmpi .sgt c8_i32_2694 c0_i32_2697
  let v2932 : BitVec 32 := Scalar.extui v2931
  let c0_i32_2698 : BitVec 32 := 0#32
  let v2933 : BitVec 1 := Scalar.cmpi .slt c8_i32_2694 c0_i32_2698
  let v2934 : BitVec 32 := Scalar.extui v2933
  let v2935 : BitVec 32 := Scalar.subi v2932 v2934
  let v2936 : BitVec 1 := Scalar.cmpi .ne v2930 v2935
  let v2937 : BitVec 32 := Scalar.remsi v2 c8_i32_2694
  let c0_i32_2699 : BitVec 32 := 0#32
  let v2938 : BitVec 1 := Scalar.cmpi .ne v2937 c0_i32_2699
  let v2939 : BitVec 1 := Scalar.andi v2936 v2938
  let v2925 : BitVec 32 := Scalar.divsi v2 c8_i32_2694
  let c1_i32_2700 : BitVec 32 := 1#32
  let v2940 : BitVec 32 := Scalar.subi v2925 c1_i32_2700
  let v2941 : BitVec 32 := Scalar.select v2939 v2940 v2925
  let c1_i32_2724 : BitVec 32 := 1#32
  let v2983 : BitVec 32 := Scalar.addi v2941 c1_i32_2724
  let c4_i32_2725 : BitVec 32 := 4#32
  let c0_i32_2726 : BitVec 32 := 0#32
  let v2984 : BitVec 1 := Scalar.cmpi .eq c4_i32_2725 c0_i32_2726
  let c1_i32_2727 : BitVec 32 := 1#32
  let v2985 : BitVec 32 := Scalar.select v2984 c1_i32_2727 c4_i32_2725
  let v2986 : BitVec 32 := Scalar.remsi v2983 v2985
  let c0_i32_2729 : BitVec 32 := 0#32
  let v2988 : BitVec 1 := Scalar.cmpi .slt v2986 c0_i32_2729
  let c0_i32_2730 : BitVec 32 := 0#32
  let v2989 : BitVec 1 := Scalar.cmpi .slt v2985 c0_i32_2730
  let v2990 : BitVec 1 := Scalar.xori v2988 v2989
  let c0_i32_2728 : BitVec 32 := 0#32
  let v2987 : BitVec 1 := Scalar.cmpi .ne v2986 c0_i32_2728
  let v2991 : BitVec 1 := Scalar.andi v2990 v2987
  let v2992 : BitVec 32 := Scalar.addi v2986 v2985
  let v2993 : BitVec 32 := Scalar.select v2991 v2992 v2986
  let v3009 : BitVec 32 := Scalar.muli c8_i32_2740 v2993
  let c2_i32_2731 : BitVec 32 := 2#32
  let c8_i32_2701 : BitVec 32 := 8#32
  let c0_i32_2702 : BitVec 32 := 0#32
  let v2942 : BitVec 1 := Scalar.cmpi .eq c8_i32_2701 c0_i32_2702
  let c1_i32_2703 : BitVec 32 := 1#32
  let v2943 : BitVec 32 := Scalar.select v2942 c1_i32_2703 c8_i32_2701
  let v2944 : BitVec 32 := Scalar.remsi v2 v2943
  let c0_i32_2705 : BitVec 32 := 0#32
  let v2946 : BitVec 1 := Scalar.cmpi .slt v2944 c0_i32_2705
  let c0_i32_2706 : BitVec 32 := 0#32
  let v2947 : BitVec 1 := Scalar.cmpi .slt v2943 c0_i32_2706
  let v2948 : BitVec 1 := Scalar.xori v2946 v2947
  let c0_i32_2704 : BitVec 32 := 0#32
  let v2945 : BitVec 1 := Scalar.cmpi .ne v2944 c0_i32_2704
  let v2949 : BitVec 1 := Scalar.andi v2948 v2945
  let v2950 : BitVec 32 := Scalar.addi v2944 v2943
  let v2951 : BitVec 32 := Scalar.select v2949 v2950 v2944
  let c0_i32_2708 : BitVec 32 := 0#32
  let v2953 : BitVec 1 := Scalar.cmpi .sgt v2951 c0_i32_2708
  let v2954 : BitVec 32 := Scalar.extui v2953
  let c0_i32_2709 : BitVec 32 := 0#32
  let v2955 : BitVec 1 := Scalar.cmpi .slt v2951 c0_i32_2709
  let v2956 : BitVec 32 := Scalar.extui v2955
  let v2957 : BitVec 32 := Scalar.subi v2954 v2956
  let c2_i32_2707 : BitVec 32 := 2#32
  let c0_i32_2710 : BitVec 32 := 0#32
  let v2958 : BitVec 1 := Scalar.cmpi .sgt c2_i32_2707 c0_i32_2710
  let v2959 : BitVec 32 := Scalar.extui v2958
  let c0_i32_2711 : BitVec 32 := 0#32
  let v2960 : BitVec 1 := Scalar.cmpi .slt c2_i32_2707 c0_i32_2711
  let v2961 : BitVec 32 := Scalar.extui v2960
  let v2962 : BitVec 32 := Scalar.subi v2959 v2961
  let v2963 : BitVec 1 := Scalar.cmpi .ne v2957 v2962
  let v2964 : BitVec 32 := Scalar.remsi v2951 c2_i32_2707
  let c0_i32_2712 : BitVec 32 := 0#32
  let v2965 : BitVec 1 := Scalar.cmpi .ne v2964 c0_i32_2712
  let v2966 : BitVec 1 := Scalar.andi v2963 v2965
  let v2952 : BitVec 32 := Scalar.divsi v2951 c2_i32_2707
  let c1_i32_2713 : BitVec 32 := 1#32
  let v2967 : BitVec 32 := Scalar.subi v2952 c1_i32_2713
  let v2968 : BitVec 32 := Scalar.select v2966 v2967 v2952
  let v2994 : BitVec 32 := Scalar.muli c2_i32_2731 v2968
  let c2_i32_2732 : BitVec 32 := 2#32
  let c0_i32_2733 : BitVec 32 := 0#32
  let v2995 : BitVec 1 := Scalar.cmpi .eq c2_i32_2732 c0_i32_2733
  let c1_i32_2734 : BitVec 32 := 1#32
  let v2996 : BitVec 32 := Scalar.select v2995 c1_i32_2734 c2_i32_2732
  let v2997 : BitVec 32 := Scalar.remsi v2968 v2996
  let c0_i32_2736 : BitVec 32 := 0#32
  let v2999 : BitVec 1 := Scalar.cmpi .slt v2997 c0_i32_2736
  let c0_i32_2737 : BitVec 32 := 0#32
  let v3000 : BitVec 1 := Scalar.cmpi .slt v2996 c0_i32_2737
  let v3001 : BitVec 1 := Scalar.xori v2999 v3000
  let c0_i32_2735 : BitVec 32 := 0#32
  let v2998 : BitVec 1 := Scalar.cmpi .ne v2997 c0_i32_2735
  let v3002 : BitVec 1 := Scalar.andi v3001 v2998
  let v3003 : BitVec 32 := Scalar.addi v2997 v2996
  let v3004 : BitVec 32 := Scalar.select v3002 v3003 v2997
  let c0_i32_2738 : BitVec 32 := 0#32
  let v3005 : BitVec 1 := Scalar.cmpi .eq v3004 c0_i32_2738
  let c4_i32_2714 : BitVec 32 := 4#32
  let c0_i32_2715 : BitVec 32 := 0#32
  let v2969 : BitVec 1 := Scalar.cmpi .eq c4_i32_2714 c0_i32_2715
  let c1_i32_2716 : BitVec 32 := 1#32
  let v2970 : BitVec 32 := Scalar.select v2969 c1_i32_2716 c4_i32_2714
  let v2971 : BitVec 32 := Scalar.remsi v2951 v2970
  let c0_i32_2718 : BitVec 32 := 0#32
  let v2973 : BitVec 1 := Scalar.cmpi .slt v2971 c0_i32_2718
  let c0_i32_2719 : BitVec 32 := 0#32
  let v2974 : BitVec 1 := Scalar.cmpi .slt v2970 c0_i32_2719
  let v2975 : BitVec 1 := Scalar.xori v2973 v2974
  let c0_i32_2717 : BitVec 32 := 0#32
  let v2972 : BitVec 1 := Scalar.cmpi .ne v2971 c0_i32_2717
  let v2976 : BitVec 1 := Scalar.andi v2975 v2972
  let v2977 : BitVec 32 := Scalar.addi v2971 v2970
  let v2978 : BitVec 32 := Scalar.select v2976 v2977 v2971
  let c1_i32_2720 : BitVec 32 := 1#32
  let v2979 : BitVec 1 := Scalar.cmpi .eq v2978 c1_i32_2720
  let c2_i32_2721 : BitVec 32 := 2#32
  let v2980 : BitVec 1 := Scalar.cmpi .eq v2978 c2_i32_2721
  let v2981 : BitVec 1 := Scalar.ori v2979 v2980
  let c1_i32_2722 : BitVec 32 := 1#32
  let c0_i32_2723 : BitVec 32 := 0#32
  let v2982 : BitVec 32 := Scalar.select v2981 c1_i32_2722 c0_i32_2723
  let c1_i32_2739 : BitVec 32 := 1#32
  let v3006 : BitVec 32 := Scalar.subi c1_i32_2739 v2982
  let v3007 : BitVec 32 := Scalar.select v3005 v2982 v3006
  let v3008 : BitVec 32 := Scalar.addi v2994 v3007
  let v3010 : BitVec 32 := Scalar.addi v3009 v3008
  let c1_i32_2785 : BitVec 32 := 1#32
  let v3067 : BitVec 32 := Scalar.muli v3010 c1_i32_2785
  let v3068 : BitVec 32 := Scalar.addi c0_i32_2786 v3067
  v3068.toNat
def k0_dev41 (d0 : Dev nD) : Nat :=
  let c0_i32_2802 : BitVec 32 := 0#32
  let c8_i32_2757 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2695 : BitVec 32 := 0#32
  let v2926 : BitVec 1 := Scalar.cmpi .sgt v2 c0_i32_2695
  let v2927 : BitVec 32 := Scalar.extui v2926
  let c0_i32_2696 : BitVec 32 := 0#32
  let v2928 : BitVec 1 := Scalar.cmpi .slt v2 c0_i32_2696
  let v2929 : BitVec 32 := Scalar.extui v2928
  let v2930 : BitVec 32 := Scalar.subi v2927 v2929
  let c8_i32_2694 : BitVec 32 := 8#32
  let c0_i32_2697 : BitVec 32 := 0#32
  let v2931 : BitVec 1 := Scalar.cmpi .sgt c8_i32_2694 c0_i32_2697
  let v2932 : BitVec 32 := Scalar.extui v2931
  let c0_i32_2698 : BitVec 32 := 0#32
  let v2933 : BitVec 1 := Scalar.cmpi .slt c8_i32_2694 c0_i32_2698
  let v2934 : BitVec 32 := Scalar.extui v2933
  let v2935 : BitVec 32 := Scalar.subi v2932 v2934
  let v2936 : BitVec 1 := Scalar.cmpi .ne v2930 v2935
  let v2937 : BitVec 32 := Scalar.remsi v2 c8_i32_2694
  let c0_i32_2699 : BitVec 32 := 0#32
  let v2938 : BitVec 1 := Scalar.cmpi .ne v2937 c0_i32_2699
  let v2939 : BitVec 1 := Scalar.andi v2936 v2938
  let v2925 : BitVec 32 := Scalar.divsi v2 c8_i32_2694
  let c1_i32_2700 : BitVec 32 := 1#32
  let v2940 : BitVec 32 := Scalar.subi v2925 c1_i32_2700
  let v2941 : BitVec 32 := Scalar.select v2939 v2940 v2925
  let c2_i32_2741 : BitVec 32 := 2#32
  let v3011 : BitVec 32 := Scalar.addi v2941 c2_i32_2741
  let c4_i32_2742 : BitVec 32 := 4#32
  let c0_i32_2743 : BitVec 32 := 0#32
  let v3012 : BitVec 1 := Scalar.cmpi .eq c4_i32_2742 c0_i32_2743
  let c1_i32_2744 : BitVec 32 := 1#32
  let v3013 : BitVec 32 := Scalar.select v3012 c1_i32_2744 c4_i32_2742
  let v3014 : BitVec 32 := Scalar.remsi v3011 v3013
  let c0_i32_2746 : BitVec 32 := 0#32
  let v3016 : BitVec 1 := Scalar.cmpi .slt v3014 c0_i32_2746
  let c0_i32_2747 : BitVec 32 := 0#32
  let v3017 : BitVec 1 := Scalar.cmpi .slt v3013 c0_i32_2747
  let v3018 : BitVec 1 := Scalar.xori v3016 v3017
  let c0_i32_2745 : BitVec 32 := 0#32
  let v3015 : BitVec 1 := Scalar.cmpi .ne v3014 c0_i32_2745
  let v3019 : BitVec 1 := Scalar.andi v3018 v3015
  let v3020 : BitVec 32 := Scalar.addi v3014 v3013
  let v3021 : BitVec 32 := Scalar.select v3019 v3020 v3014
  let v3037 : BitVec 32 := Scalar.muli c8_i32_2757 v3021
  let c2_i32_2748 : BitVec 32 := 2#32
  let c8_i32_2701 : BitVec 32 := 8#32
  let c0_i32_2702 : BitVec 32 := 0#32
  let v2942 : BitVec 1 := Scalar.cmpi .eq c8_i32_2701 c0_i32_2702
  let c1_i32_2703 : BitVec 32 := 1#32
  let v2943 : BitVec 32 := Scalar.select v2942 c1_i32_2703 c8_i32_2701
  let v2944 : BitVec 32 := Scalar.remsi v2 v2943
  let c0_i32_2705 : BitVec 32 := 0#32
  let v2946 : BitVec 1 := Scalar.cmpi .slt v2944 c0_i32_2705
  let c0_i32_2706 : BitVec 32 := 0#32
  let v2947 : BitVec 1 := Scalar.cmpi .slt v2943 c0_i32_2706
  let v2948 : BitVec 1 := Scalar.xori v2946 v2947
  let c0_i32_2704 : BitVec 32 := 0#32
  let v2945 : BitVec 1 := Scalar.cmpi .ne v2944 c0_i32_2704
  let v2949 : BitVec 1 := Scalar.andi v2948 v2945
  let v2950 : BitVec 32 := Scalar.addi v2944 v2943
  let v2951 : BitVec 32 := Scalar.select v2949 v2950 v2944
  let c0_i32_2708 : BitVec 32 := 0#32
  let v2953 : BitVec 1 := Scalar.cmpi .sgt v2951 c0_i32_2708
  let v2954 : BitVec 32 := Scalar.extui v2953
  let c0_i32_2709 : BitVec 32 := 0#32
  let v2955 : BitVec 1 := Scalar.cmpi .slt v2951 c0_i32_2709
  let v2956 : BitVec 32 := Scalar.extui v2955
  let v2957 : BitVec 32 := Scalar.subi v2954 v2956
  let c2_i32_2707 : BitVec 32 := 2#32
  let c0_i32_2710 : BitVec 32 := 0#32
  let v2958 : BitVec 1 := Scalar.cmpi .sgt c2_i32_2707 c0_i32_2710
  let v2959 : BitVec 32 := Scalar.extui v2958
  let c0_i32_2711 : BitVec 32 := 0#32
  let v2960 : BitVec 1 := Scalar.cmpi .slt c2_i32_2707 c0_i32_2711
  let v2961 : BitVec 32 := Scalar.extui v2960
  let v2962 : BitVec 32 := Scalar.subi v2959 v2961
  let v2963 : BitVec 1 := Scalar.cmpi .ne v2957 v2962
  let v2964 : BitVec 32 := Scalar.remsi v2951 c2_i32_2707
  let c0_i32_2712 : BitVec 32 := 0#32
  let v2965 : BitVec 1 := Scalar.cmpi .ne v2964 c0_i32_2712
  let v2966 : BitVec 1 := Scalar.andi v2963 v2965
  let v2952 : BitVec 32 := Scalar.divsi v2951 c2_i32_2707
  let c1_i32_2713 : BitVec 32 := 1#32
  let v2967 : BitVec 32 := Scalar.subi v2952 c1_i32_2713
  let v2968 : BitVec 32 := Scalar.select v2966 v2967 v2952
  let v3022 : BitVec 32 := Scalar.muli c2_i32_2748 v2968
  let c2_i32_2749 : BitVec 32 := 2#32
  let c0_i32_2750 : BitVec 32 := 0#32
  let v3023 : BitVec 1 := Scalar.cmpi .eq c2_i32_2749 c0_i32_2750
  let c1_i32_2751 : BitVec 32 := 1#32
  let v3024 : BitVec 32 := Scalar.select v3023 c1_i32_2751 c2_i32_2749
  let v3025 : BitVec 32 := Scalar.remsi v2968 v3024
  let c0_i32_2753 : BitVec 32 := 0#32
  let v3027 : BitVec 1 := Scalar.cmpi .slt v3025 c0_i32_2753
  let c0_i32_2754 : BitVec 32 := 0#32
  let v3028 : BitVec 1 := Scalar.cmpi .slt v3024 c0_i32_2754
  let v3029 : BitVec 1 := Scalar.xori v3027 v3028
  let c0_i32_2752 : BitVec 32 := 0#32
  let v3026 : BitVec 1 := Scalar.cmpi .ne v3025 c0_i32_2752
  let v3030 : BitVec 1 := Scalar.andi v3029 v3026
  let v3031 : BitVec 32 := Scalar.addi v3025 v3024
  let v3032 : BitVec 32 := Scalar.select v3030 v3031 v3025
  let c0_i32_2755 : BitVec 32 := 0#32
  let v3033 : BitVec 1 := Scalar.cmpi .eq v3032 c0_i32_2755
  let c4_i32_2714 : BitVec 32 := 4#32
  let c0_i32_2715 : BitVec 32 := 0#32
  let v2969 : BitVec 1 := Scalar.cmpi .eq c4_i32_2714 c0_i32_2715
  let c1_i32_2716 : BitVec 32 := 1#32
  let v2970 : BitVec 32 := Scalar.select v2969 c1_i32_2716 c4_i32_2714
  let v2971 : BitVec 32 := Scalar.remsi v2951 v2970
  let c0_i32_2718 : BitVec 32 := 0#32
  let v2973 : BitVec 1 := Scalar.cmpi .slt v2971 c0_i32_2718
  let c0_i32_2719 : BitVec 32 := 0#32
  let v2974 : BitVec 1 := Scalar.cmpi .slt v2970 c0_i32_2719
  let v2975 : BitVec 1 := Scalar.xori v2973 v2974
  let c0_i32_2717 : BitVec 32 := 0#32
  let v2972 : BitVec 1 := Scalar.cmpi .ne v2971 c0_i32_2717
  let v2976 : BitVec 1 := Scalar.andi v2975 v2972
  let v2977 : BitVec 32 := Scalar.addi v2971 v2970
  let v2978 : BitVec 32 := Scalar.select v2976 v2977 v2971
  let c1_i32_2720 : BitVec 32 := 1#32
  let v2979 : BitVec 1 := Scalar.cmpi .eq v2978 c1_i32_2720
  let c2_i32_2721 : BitVec 32 := 2#32
  let v2980 : BitVec 1 := Scalar.cmpi .eq v2978 c2_i32_2721
  let v2981 : BitVec 1 := Scalar.ori v2979 v2980
  let c1_i32_2722 : BitVec 32 := 1#32
  let c0_i32_2723 : BitVec 32 := 0#32
  let v2982 : BitVec 32 := Scalar.select v2981 c1_i32_2722 c0_i32_2723
  let c1_i32_2756 : BitVec 32 := 1#32
  let v3034 : BitVec 32 := Scalar.subi c1_i32_2756 v2982
  let v3035 : BitVec 32 := Scalar.select v3033 v2982 v3034
  let v3036 : BitVec 32 := Scalar.addi v3022 v3035
  let v3038 : BitVec 32 := Scalar.addi v3037 v3036
  let c1_i32_2801 : BitVec 32 := 1#32
  let v3077 : BitVec 32 := Scalar.muli v3038 c1_i32_2801
  let v3078 : BitVec 32 := Scalar.addi c0_i32_2802 v3077
  v3078.toNat
def k0_dev42 (d0 : Dev nD) : Nat :=
  let c0_i32_2818 : BitVec 32 := 0#32
  let c8_i32_2774 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2695 : BitVec 32 := 0#32
  let v2926 : BitVec 1 := Scalar.cmpi .sgt v2 c0_i32_2695
  let v2927 : BitVec 32 := Scalar.extui v2926
  let c0_i32_2696 : BitVec 32 := 0#32
  let v2928 : BitVec 1 := Scalar.cmpi .slt v2 c0_i32_2696
  let v2929 : BitVec 32 := Scalar.extui v2928
  let v2930 : BitVec 32 := Scalar.subi v2927 v2929
  let c8_i32_2694 : BitVec 32 := 8#32
  let c0_i32_2697 : BitVec 32 := 0#32
  let v2931 : BitVec 1 := Scalar.cmpi .sgt c8_i32_2694 c0_i32_2697
  let v2932 : BitVec 32 := Scalar.extui v2931
  let c0_i32_2698 : BitVec 32 := 0#32
  let v2933 : BitVec 1 := Scalar.cmpi .slt c8_i32_2694 c0_i32_2698
  let v2934 : BitVec 32 := Scalar.extui v2933
  let v2935 : BitVec 32 := Scalar.subi v2932 v2934
  let v2936 : BitVec 1 := Scalar.cmpi .ne v2930 v2935
  let v2937 : BitVec 32 := Scalar.remsi v2 c8_i32_2694
  let c0_i32_2699 : BitVec 32 := 0#32
  let v2938 : BitVec 1 := Scalar.cmpi .ne v2937 c0_i32_2699
  let v2939 : BitVec 1 := Scalar.andi v2936 v2938
  let v2925 : BitVec 32 := Scalar.divsi v2 c8_i32_2694
  let c1_i32_2700 : BitVec 32 := 1#32
  let v2940 : BitVec 32 := Scalar.subi v2925 c1_i32_2700
  let v2941 : BitVec 32 := Scalar.select v2939 v2940 v2925
  let c3_i32_2758 : BitVec 32 := 3#32
  let v3039 : BitVec 32 := Scalar.addi v2941 c3_i32_2758
  let c4_i32_2759 : BitVec 32 := 4#32
  let c0_i32_2760 : BitVec 32 := 0#32
  let v3040 : BitVec 1 := Scalar.cmpi .eq c4_i32_2759 c0_i32_2760
  let c1_i32_2761 : BitVec 32 := 1#32
  let v3041 : BitVec 32 := Scalar.select v3040 c1_i32_2761 c4_i32_2759
  let v3042 : BitVec 32 := Scalar.remsi v3039 v3041
  let c0_i32_2763 : BitVec 32 := 0#32
  let v3044 : BitVec 1 := Scalar.cmpi .slt v3042 c0_i32_2763
  let c0_i32_2764 : BitVec 32 := 0#32
  let v3045 : BitVec 1 := Scalar.cmpi .slt v3041 c0_i32_2764
  let v3046 : BitVec 1 := Scalar.xori v3044 v3045
  let c0_i32_2762 : BitVec 32 := 0#32
  let v3043 : BitVec 1 := Scalar.cmpi .ne v3042 c0_i32_2762
  let v3047 : BitVec 1 := Scalar.andi v3046 v3043
  let v3048 : BitVec 32 := Scalar.addi v3042 v3041
  let v3049 : BitVec 32 := Scalar.select v3047 v3048 v3042
  let v3065 : BitVec 32 := Scalar.muli c8_i32_2774 v3049
  let c2_i32_2765 : BitVec 32 := 2#32
  let c8_i32_2701 : BitVec 32 := 8#32
  let c0_i32_2702 : BitVec 32 := 0#32
  let v2942 : BitVec 1 := Scalar.cmpi .eq c8_i32_2701 c0_i32_2702
  let c1_i32_2703 : BitVec 32 := 1#32
  let v2943 : BitVec 32 := Scalar.select v2942 c1_i32_2703 c8_i32_2701
  let v2944 : BitVec 32 := Scalar.remsi v2 v2943
  let c0_i32_2705 : BitVec 32 := 0#32
  let v2946 : BitVec 1 := Scalar.cmpi .slt v2944 c0_i32_2705
  let c0_i32_2706 : BitVec 32 := 0#32
  let v2947 : BitVec 1 := Scalar.cmpi .slt v2943 c0_i32_2706
  let v2948 : BitVec 1 := Scalar.xori v2946 v2947
  let c0_i32_2704 : BitVec 32 := 0#32
  let v2945 : BitVec 1 := Scalar.cmpi .ne v2944 c0_i32_2704
  let v2949 : BitVec 1 := Scalar.andi v2948 v2945
  let v2950 : BitVec 32 := Scalar.addi v2944 v2943
  let v2951 : BitVec 32 := Scalar.select v2949 v2950 v2944
  let c0_i32_2708 : BitVec 32 := 0#32
  let v2953 : BitVec 1 := Scalar.cmpi .sgt v2951 c0_i32_2708
  let v2954 : BitVec 32 := Scalar.extui v2953
  let c0_i32_2709 : BitVec 32 := 0#32
  let v2955 : BitVec 1 := Scalar.cmpi .slt v2951 c0_i32_2709
  let v2956 : BitVec 32 := Scalar.extui v2955
  let v2957 : BitVec 32 := Scalar.subi v2954 v2956
  let c2_i32_2707 : BitVec 32 := 2#32
  let c0_i32_2710 : BitVec 32 := 0#32
  let v2958 : BitVec 1 := Scalar.cmpi .sgt c2_i32_2707 c0_i32_2710
  let v2959 : BitVec 32 := Scalar.extui v2958
  let c0_i32_2711 : BitVec 32 := 0#32
  let v2960 : BitVec 1 := Scalar.cmpi .slt c2_i32_2707 c0_i32_2711
  let v2961 : BitVec 32 := Scalar.extui v2960
  let v2962 : BitVec 32 := Scalar.subi v2959 v2961
  let v2963 : BitVec 1 := Scalar.cmpi .ne v2957 v2962
  let v2964 : BitVec 32 := Scalar.remsi v2951 c2_i32_2707
  let c0_i32_2712 : BitVec 32 := 0#32
  let v2965 : BitVec 1 := Scalar.cmpi .ne v2964 c0_i32_2712
  let v2966 : BitVec 1 := Scalar.andi v2963 v2965
  let v2952 : BitVec 32 := Scalar.divsi v2951 c2_i32_2707
  let c1_i32_2713 : BitVec 32 := 1#32
  let v2967 : BitVec 32 := Scalar.subi v2952 c1_i32_2713
  let v2968 : BitVec 32 := Scalar.select v2966 v2967 v2952
  let v3050 : BitVec 32 := Scalar.muli c2_i32_2765 v2968
  let c2_i32_2766 : BitVec 32 := 2#32
  let c0_i32_2767 : BitVec 32 := 0#32
  let v3051 : BitVec 1 := Scalar.cmpi .eq c2_i32_2766 c0_i32_2767
  let c1_i32_2768 : BitVec 32 := 1#32
  let v3052 : BitVec 32 := Scalar.select v3051 c1_i32_2768 c2_i32_2766
  let v3053 : BitVec 32 := Scalar.remsi v2968 v3052
  let c0_i32_2770 : BitVec 32 := 0#32
  let v3055 : BitVec 1 := Scalar.cmpi .slt v3053 c0_i32_2770
  let c0_i32_2771 : BitVec 32 := 0#32
  let v3056 : BitVec 1 := Scalar.cmpi .slt v3052 c0_i32_2771
  let v3057 : BitVec 1 := Scalar.xori v3055 v3056
  let c0_i32_2769 : BitVec 32 := 0#32
  let v3054 : BitVec 1 := Scalar.cmpi .ne v3053 c0_i32_2769
  let v3058 : BitVec 1 := Scalar.andi v3057 v3054
  let v3059 : BitVec 32 := Scalar.addi v3053 v3052
  let v3060 : BitVec 32 := Scalar.select v3058 v3059 v3053
  let c0_i32_2772 : BitVec 32 := 0#32
  let v3061 : BitVec 1 := Scalar.cmpi .eq v3060 c0_i32_2772
  let c4_i32_2714 : BitVec 32 := 4#32
  let c0_i32_2715 : BitVec 32 := 0#32
  let v2969 : BitVec 1 := Scalar.cmpi .eq c4_i32_2714 c0_i32_2715
  let c1_i32_2716 : BitVec 32 := 1#32
  let v2970 : BitVec 32 := Scalar.select v2969 c1_i32_2716 c4_i32_2714
  let v2971 : BitVec 32 := Scalar.remsi v2951 v2970
  let c0_i32_2718 : BitVec 32 := 0#32
  let v2973 : BitVec 1 := Scalar.cmpi .slt v2971 c0_i32_2718
  let c0_i32_2719 : BitVec 32 := 0#32
  let v2974 : BitVec 1 := Scalar.cmpi .slt v2970 c0_i32_2719
  let v2975 : BitVec 1 := Scalar.xori v2973 v2974
  let c0_i32_2717 : BitVec 32 := 0#32
  let v2972 : BitVec 1 := Scalar.cmpi .ne v2971 c0_i32_2717
  let v2976 : BitVec 1 := Scalar.andi v2975 v2972
  let v2977 : BitVec 32 := Scalar.addi v2971 v2970
  let v2978 : BitVec 32 := Scalar.select v2976 v2977 v2971
  let c1_i32_2720 : BitVec 32 := 1#32
  let v2979 : BitVec 1 := Scalar.cmpi .eq v2978 c1_i32_2720
  let c2_i32_2721 : BitVec 32 := 2#32
  let v2980 : BitVec 1 := Scalar.cmpi .eq v2978 c2_i32_2721
  let v2981 : BitVec 1 := Scalar.ori v2979 v2980
  let c1_i32_2722 : BitVec 32 := 1#32
  let c0_i32_2723 : BitVec 32 := 0#32
  let v2982 : BitVec 32 := Scalar.select v2981 c1_i32_2722 c0_i32_2723
  let c1_i32_2773 : BitVec 32 := 1#32
  let v3062 : BitVec 32 := Scalar.subi c1_i32_2773 v2982
  let v3063 : BitVec 32 := Scalar.select v3061 v2982 v3062
  let v3064 : BitVec 32 := Scalar.addi v3050 v3063
  let v3066 : BitVec 32 := Scalar.addi v3065 v3064
  let c1_i32_2817 : BitVec 32 := 1#32
  let v3087 : BitVec 32 := Scalar.muli v3066 c1_i32_2817
  let v3088 : BitVec 32 := Scalar.addi c0_i32_2818 v3087
  v3088.toNat
def k0_dev43 (d0 : Dev nD) : Nat :=
  let c0_i32_2998 : BitVec 32 := 0#32
  let c8_i32_2986 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2947 : BitVec 32 := 0#32
  let v3165 : BitVec 1 := Scalar.cmpi .sgt v2 c0_i32_2947
  let v3166 : BitVec 32 := Scalar.extui v3165
  let c0_i32_2948 : BitVec 32 := 0#32
  let v3167 : BitVec 1 := Scalar.cmpi .slt v2 c0_i32_2948
  let v3168 : BitVec 32 := Scalar.extui v3167
  let v3169 : BitVec 32 := Scalar.subi v3166 v3168
  let c8_i32_2946 : BitVec 32 := 8#32
  let c0_i32_2949 : BitVec 32 := 0#32
  let v3170 : BitVec 1 := Scalar.cmpi .sgt c8_i32_2946 c0_i32_2949
  let v3171 : BitVec 32 := Scalar.extui v3170
  let c0_i32_2950 : BitVec 32 := 0#32
  let v3172 : BitVec 1 := Scalar.cmpi .slt c8_i32_2946 c0_i32_2950
  let v3173 : BitVec 32 := Scalar.extui v3172
  let v3174 : BitVec 32 := Scalar.subi v3171 v3173
  let v3175 : BitVec 1 := Scalar.cmpi .ne v3169 v3174
  let v3176 : BitVec 32 := Scalar.remsi v2 c8_i32_2946
  let c0_i32_2951 : BitVec 32 := 0#32
  let v3177 : BitVec 1 := Scalar.cmpi .ne v3176 c0_i32_2951
  let v3178 : BitVec 1 := Scalar.andi v3175 v3177
  let v3164 : BitVec 32 := Scalar.divsi v2 c8_i32_2946
  let c1_i32_2952 : BitVec 32 := 1#32
  let v3179 : BitVec 32 := Scalar.subi v3164 c1_i32_2952
  let v3180 : BitVec 32 := Scalar.select v3178 v3179 v3164
  let v3238 : BitVec 32 := Scalar.muli c8_i32_2986 v3180
  let c2_i32_2977 : BitVec 32 := 2#32
  let c8_i32_2953 : BitVec 32 := 8#32
  let c0_i32_2954 : BitVec 32 := 0#32
  let v3181 : BitVec 1 := Scalar.cmpi .eq c8_i32_2953 c0_i32_2954
  let c1_i32_2955 : BitVec 32 := 1#32
  let v3182 : BitVec 32 := Scalar.select v3181 c1_i32_2955 c8_i32_2953
  let v3183 : BitVec 32 := Scalar.remsi v2 v3182
  let c0_i32_2957 : BitVec 32 := 0#32
  let v3185 : BitVec 1 := Scalar.cmpi .slt v3183 c0_i32_2957
  let c0_i32_2958 : BitVec 32 := 0#32
  let v3186 : BitVec 1 := Scalar.cmpi .slt v3182 c0_i32_2958
  let v3187 : BitVec 1 := Scalar.xori v3185 v3186
  let c0_i32_2956 : BitVec 32 := 0#32
  let v3184 : BitVec 1 := Scalar.cmpi .ne v3183 c0_i32_2956
  let v3188 : BitVec 1 := Scalar.andi v3187 v3184
  let v3189 : BitVec 32 := Scalar.addi v3183 v3182
  let v3190 : BitVec 32 := Scalar.select v3188 v3189 v3183
  let c0_i32_2960 : BitVec 32 := 0#32
  let v3192 : BitVec 1 := Scalar.cmpi .sgt v3190 c0_i32_2960
  let v3193 : BitVec 32 := Scalar.extui v3192
  let c0_i32_2961 : BitVec 32 := 0#32
  let v3194 : BitVec 1 := Scalar.cmpi .slt v3190 c0_i32_2961
  let v3195 : BitVec 32 := Scalar.extui v3194
  let v3196 : BitVec 32 := Scalar.subi v3193 v3195
  let c2_i32_2959 : BitVec 32 := 2#32
  let c0_i32_2962 : BitVec 32 := 0#32
  let v3197 : BitVec 1 := Scalar.cmpi .sgt c2_i32_2959 c0_i32_2962
  let v3198 : BitVec 32 := Scalar.extui v3197
  let c0_i32_2963 : BitVec 32 := 0#32
  let v3199 : BitVec 1 := Scalar.cmpi .slt c2_i32_2959 c0_i32_2963
  let v3200 : BitVec 32 := Scalar.extui v3199
  let v3201 : BitVec 32 := Scalar.subi v3198 v3200
  let v3202 : BitVec 1 := Scalar.cmpi .ne v3196 v3201
  let v3203 : BitVec 32 := Scalar.remsi v3190 c2_i32_2959
  let c0_i32_2964 : BitVec 32 := 0#32
  let v3204 : BitVec 1 := Scalar.cmpi .ne v3203 c0_i32_2964
  let v3205 : BitVec 1 := Scalar.andi v3202 v3204
  let v3191 : BitVec 32 := Scalar.divsi v3190 c2_i32_2959
  let c1_i32_2965 : BitVec 32 := 1#32
  let v3206 : BitVec 32 := Scalar.subi v3191 c1_i32_2965
  let v3207 : BitVec 32 := Scalar.select v3205 v3206 v3191
  let v3223 : BitVec 32 := Scalar.muli c2_i32_2977 v3207
  let c2_i32_2978 : BitVec 32 := 2#32
  let c0_i32_2979 : BitVec 32 := 0#32
  let v3224 : BitVec 1 := Scalar.cmpi .eq c2_i32_2978 c0_i32_2979
  let c1_i32_2980 : BitVec 32 := 1#32
  let v3225 : BitVec 32 := Scalar.select v3224 c1_i32_2980 c2_i32_2978
  let v3226 : BitVec 32 := Scalar.remsi v3207 v3225
  let c0_i32_2982 : BitVec 32 := 0#32
  let v3228 : BitVec 1 := Scalar.cmpi .slt v3226 c0_i32_2982
  let c0_i32_2983 : BitVec 32 := 0#32
  let v3229 : BitVec 1 := Scalar.cmpi .slt v3225 c0_i32_2983
  let v3230 : BitVec 1 := Scalar.xori v3228 v3229
  let c0_i32_2981 : BitVec 32 := 0#32
  let v3227 : BitVec 1 := Scalar.cmpi .ne v3226 c0_i32_2981
  let v3231 : BitVec 1 := Scalar.andi v3230 v3227
  let v3232 : BitVec 32 := Scalar.addi v3226 v3225
  let v3233 : BitVec 32 := Scalar.select v3231 v3232 v3226
  let c0_i32_2984 : BitVec 32 := 0#32
  let v3234 : BitVec 1 := Scalar.cmpi .eq v3233 c0_i32_2984
  let c1_i32_2976 : BitVec 32 := 1#32
  let c4_i32_2966 : BitVec 32 := 4#32
  let c0_i32_2967 : BitVec 32 := 0#32
  let v3208 : BitVec 1 := Scalar.cmpi .eq c4_i32_2966 c0_i32_2967
  let c1_i32_2968 : BitVec 32 := 1#32
  let v3209 : BitVec 32 := Scalar.select v3208 c1_i32_2968 c4_i32_2966
  let v3210 : BitVec 32 := Scalar.remsi v3190 v3209
  let c0_i32_2970 : BitVec 32 := 0#32
  let v3212 : BitVec 1 := Scalar.cmpi .slt v3210 c0_i32_2970
  let c0_i32_2971 : BitVec 32 := 0#32
  let v3213 : BitVec 1 := Scalar.cmpi .slt v3209 c0_i32_2971
  let v3214 : BitVec 1 := Scalar.xori v3212 v3213
  let c0_i32_2969 : BitVec 32 := 0#32
  let v3211 : BitVec 1 := Scalar.cmpi .ne v3210 c0_i32_2969
  let v3215 : BitVec 1 := Scalar.andi v3214 v3211
  let v3216 : BitVec 32 := Scalar.addi v3210 v3209
  let v3217 : BitVec 32 := Scalar.select v3215 v3216 v3210
  let c1_i32_2972 : BitVec 32 := 1#32
  let v3218 : BitVec 1 := Scalar.cmpi .eq v3217 c1_i32_2972
  let c2_i32_2973 : BitVec 32 := 2#32
  let v3219 : BitVec 1 := Scalar.cmpi .eq v3217 c2_i32_2973
  let v3220 : BitVec 1 := Scalar.ori v3218 v3219
  let c1_i32_2974 : BitVec 32 := 1#32
  let c0_i32_2975 : BitVec 32 := 0#32
  let v3221 : BitVec 32 := Scalar.select v3220 c1_i32_2974 c0_i32_2975
  let v3222 : BitVec 32 := Scalar.subi c1_i32_2976 v3221
  let c1_i32_2985 : BitVec 32 := 1#32
  let v3235 : BitVec 32 := Scalar.subi c1_i32_2985 v3222
  let v3236 : BitVec 32 := Scalar.select v3234 v3222 v3235
  let v3237 : BitVec 32 := Scalar.addi v3223 v3236
  let v3239 : BitVec 32 := Scalar.addi v3238 v3237
  let c1_i32_2997 : BitVec 32 := 1#32
  let v3240 : BitVec 32 := Scalar.muli v3239 c1_i32_2997
  let v3241 : BitVec 32 := Scalar.addi c0_i32_2998 v3240
  v3241.toNat
def k0_dev44 (d0 : Dev nD) : Nat :=
  let c0_i32_3137 : BitVec 32 := 0#32
  let c8_i32_3091 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3046 : BitVec 32 := 0#32
  let v3273 : BitVec 1 := Scalar.cmpi .sgt v2 c0_i32_3046
  let v3274 : BitVec 32 := Scalar.extui v3273
  let c0_i32_3047 : BitVec 32 := 0#32
  let v3275 : BitVec 1 := Scalar.cmpi .slt v2 c0_i32_3047
  let v3276 : BitVec 32 := Scalar.extui v3275
  let v3277 : BitVec 32 := Scalar.subi v3274 v3276
  let c8_i32_3045 : BitVec 32 := 8#32
  let c0_i32_3048 : BitVec 32 := 0#32
  let v3278 : BitVec 1 := Scalar.cmpi .sgt c8_i32_3045 c0_i32_3048
  let v3279 : BitVec 32 := Scalar.extui v3278
  let c0_i32_3049 : BitVec 32 := 0#32
  let v3280 : BitVec 1 := Scalar.cmpi .slt c8_i32_3045 c0_i32_3049
  let v3281 : BitVec 32 := Scalar.extui v3280
  let v3282 : BitVec 32 := Scalar.subi v3279 v3281
  let v3283 : BitVec 1 := Scalar.cmpi .ne v3277 v3282
  let v3284 : BitVec 32 := Scalar.remsi v2 c8_i32_3045
  let c0_i32_3050 : BitVec 32 := 0#32
  let v3285 : BitVec 1 := Scalar.cmpi .ne v3284 c0_i32_3050
  let v3286 : BitVec 1 := Scalar.andi v3283 v3285
  let v3272 : BitVec 32 := Scalar.divsi v2 c8_i32_3045
  let c1_i32_3051 : BitVec 32 := 1#32
  let v3287 : BitVec 32 := Scalar.subi v3272 c1_i32_3051
  let v3288 : BitVec 32 := Scalar.select v3286 v3287 v3272
  let v3356 : BitVec 32 := Scalar.muli c8_i32_3091 v3288
  let c2_i32_3082 : BitVec 32 := 2#32
  let c8_i32_3052 : BitVec 32 := 8#32
  let c0_i32_3053 : BitVec 32 := 0#32
  let v3289 : BitVec 1 := Scalar.cmpi .eq c8_i32_3052 c0_i32_3053
  let c1_i32_3054 : BitVec 32 := 1#32
  let v3290 : BitVec 32 := Scalar.select v3289 c1_i32_3054 c8_i32_3052
  let v3291 : BitVec 32 := Scalar.remsi v2 v3290
  let c0_i32_3056 : BitVec 32 := 0#32
  let v3293 : BitVec 1 := Scalar.cmpi .slt v3291 c0_i32_3056
  let c0_i32_3057 : BitVec 32 := 0#32
  let v3294 : BitVec 1 := Scalar.cmpi .slt v3290 c0_i32_3057
  let v3295 : BitVec 1 := Scalar.xori v3293 v3294
  let c0_i32_3055 : BitVec 32 := 0#32
  let v3292 : BitVec 1 := Scalar.cmpi .ne v3291 c0_i32_3055
  let v3296 : BitVec 1 := Scalar.andi v3295 v3292
  let v3297 : BitVec 32 := Scalar.addi v3291 v3290
  let v3298 : BitVec 32 := Scalar.select v3296 v3297 v3291
  let c0_i32_3059 : BitVec 32 := 0#32
  let v3300 : BitVec 1 := Scalar.cmpi .sgt v3298 c0_i32_3059
  let v3301 : BitVec 32 := Scalar.extui v3300
  let c0_i32_3060 : BitVec 32 := 0#32
  let v3302 : BitVec 1 := Scalar.cmpi .slt v3298 c0_i32_3060
  let v3303 : BitVec 32 := Scalar.extui v3302
  let v3304 : BitVec 32 := Scalar.subi v3301 v3303
  let c2_i32_3058 : BitVec 32 := 2#32
  let c0_i32_3061 : BitVec 32 := 0#32
  let v3305 : BitVec 1 := Scalar.cmpi .sgt c2_i32_3058 c0_i32_3061
  let v3306 : BitVec 32 := Scalar.extui v3305
  let c0_i32_3062 : BitVec 32 := 0#32
  let v3307 : BitVec 1 := Scalar.cmpi .slt c2_i32_3058 c0_i32_3062
  let v3308 : BitVec 32 := Scalar.extui v3307
  let v3309 : BitVec 32 := Scalar.subi v3306 v3308
  let v3310 : BitVec 1 := Scalar.cmpi .ne v3304 v3309
  let v3311 : BitVec 32 := Scalar.remsi v3298 c2_i32_3058
  let c0_i32_3063 : BitVec 32 := 0#32
  let v3312 : BitVec 1 := Scalar.cmpi .ne v3311 c0_i32_3063
  let v3313 : BitVec 1 := Scalar.andi v3310 v3312
  let v3299 : BitVec 32 := Scalar.divsi v3298 c2_i32_3058
  let c1_i32_3064 : BitVec 32 := 1#32
  let v3314 : BitVec 32 := Scalar.subi v3299 c1_i32_3064
  let v3315 : BitVec 32 := Scalar.select v3313 v3314 v3299
  let c1_i32_3075 : BitVec 32 := 1#32
  let v3330 : BitVec 32 := Scalar.addi v3315 c1_i32_3075
  let c4_i32_3076 : BitVec 32 := 4#32
  let c0_i32_3077 : BitVec 32 := 0#32
  let v3331 : BitVec 1 := Scalar.cmpi .eq c4_i32_3076 c0_i32_3077
  let c1_i32_3078 : BitVec 32 := 1#32
  let v3332 : BitVec 32 := Scalar.select v3331 c1_i32_3078 c4_i32_3076
  let v3333 : BitVec 32 := Scalar.remsi v3330 v3332
  let c0_i32_3080 : BitVec 32 := 0#32
  let v3335 : BitVec 1 := Scalar.cmpi .slt v3333 c0_i32_3080
  let c0_i32_3081 : BitVec 32 := 0#32
  let v3336 : BitVec 1 := Scalar.cmpi .slt v3332 c0_i32_3081
  let v3337 : BitVec 1 := Scalar.xori v3335 v3336
  let c0_i32_3079 : BitVec 32 := 0#32
  let v3334 : BitVec 1 := Scalar.cmpi .ne v3333 c0_i32_3079
  let v3338 : BitVec 1 := Scalar.andi v3337 v3334
  let v3339 : BitVec 32 := Scalar.addi v3333 v3332
  let v3340 : BitVec 32 := Scalar.select v3338 v3339 v3333
  let v3341 : BitVec 32 := Scalar.muli c2_i32_3082 v3340
  let c2_i32_3083 : BitVec 32 := 2#32
  let c0_i32_3084 : BitVec 32 := 0#32
  let v3342 : BitVec 1 := Scalar.cmpi .eq c2_i32_3083 c0_i32_3084
  let c1_i32_3085 : BitVec 32 := 1#32
  let v3343 : BitVec 32 := Scalar.select v3342 c1_i32_3085 c2_i32_3083
  let v3344 : BitVec 32 := Scalar.remsi v3340 v3343
  let c0_i32_3087 : BitVec 32 := 0#32
  let v3346 : BitVec 1 := Scalar.cmpi .slt v3344 c0_i32_3087
  let c0_i32_3088 : BitVec 32 := 0#32
  let v3347 : BitVec 1 := Scalar.cmpi .slt v3343 c0_i32_3088
  let v3348 : BitVec 1 := Scalar.xori v3346 v3347
  let c0_i32_3086 : BitVec 32 := 0#32
  let v3345 : BitVec 1 := Scalar.cmpi .ne v3344 c0_i32_3086
  let v3349 : BitVec 1 := Scalar.andi v3348 v3345
  let v3350 : BitVec 32 := Scalar.addi v3344 v3343
  let v3351 : BitVec 32 := Scalar.select v3349 v3350 v3344
  let c0_i32_3089 : BitVec 32 := 0#32
  let v3352 : BitVec 1 := Scalar.cmpi .eq v3351 c0_i32_3089
  let c4_i32_3065 : BitVec 32 := 4#32
  let c0_i32_3066 : BitVec 32 := 0#32
  let v3316 : BitVec 1 := Scalar.cmpi .eq c4_i32_3065 c0_i32_3066
  let c1_i32_3067 : BitVec 32 := 1#32
  let v3317 : BitVec 32 := Scalar.select v3316 c1_i32_3067 c4_i32_3065
  let v3318 : BitVec 32 := Scalar.remsi v3298 v3317
  let c0_i32_3069 : BitVec 32 := 0#32
  let v3320 : BitVec 1 := Scalar.cmpi .slt v3318 c0_i32_3069
  let c0_i32_3070 : BitVec 32 := 0#32
  let v3321 : BitVec 1 := Scalar.cmpi .slt v3317 c0_i32_3070
  let v3322 : BitVec 1 := Scalar.xori v3320 v3321
  let c0_i32_3068 : BitVec 32 := 0#32
  let v3319 : BitVec 1 := Scalar.cmpi .ne v3318 c0_i32_3068
  let v3323 : BitVec 1 := Scalar.andi v3322 v3319
  let v3324 : BitVec 32 := Scalar.addi v3318 v3317
  let v3325 : BitVec 32 := Scalar.select v3323 v3324 v3318
  let c1_i32_3071 : BitVec 32 := 1#32
  let v3326 : BitVec 1 := Scalar.cmpi .eq v3325 c1_i32_3071
  let c2_i32_3072 : BitVec 32 := 2#32
  let v3327 : BitVec 1 := Scalar.cmpi .eq v3325 c2_i32_3072
  let v3328 : BitVec 1 := Scalar.ori v3326 v3327
  let c1_i32_3073 : BitVec 32 := 1#32
  let c0_i32_3074 : BitVec 32 := 0#32
  let v3329 : BitVec 32 := Scalar.select v3328 c1_i32_3073 c0_i32_3074
  let c1_i32_3090 : BitVec 32 := 1#32
  let v3353 : BitVec 32 := Scalar.subi c1_i32_3090 v3329
  let v3354 : BitVec 32 := Scalar.select v3352 v3329 v3353
  let v3355 : BitVec 32 := Scalar.addi v3341 v3354
  let v3357 : BitVec 32 := Scalar.addi v3356 v3355
  let c1_i32_3136 : BitVec 32 := 1#32
  let v3414 : BitVec 32 := Scalar.muli v3357 c1_i32_3136
  let v3415 : BitVec 32 := Scalar.addi c0_i32_3137 v3414
  v3415.toNat
def k0_dev45 (d0 : Dev nD) : Nat :=
  let c0_i32_3153 : BitVec 32 := 0#32
  let c8_i32_3108 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3046 : BitVec 32 := 0#32
  let v3273 : BitVec 1 := Scalar.cmpi .sgt v2 c0_i32_3046
  let v3274 : BitVec 32 := Scalar.extui v3273
  let c0_i32_3047 : BitVec 32 := 0#32
  let v3275 : BitVec 1 := Scalar.cmpi .slt v2 c0_i32_3047
  let v3276 : BitVec 32 := Scalar.extui v3275
  let v3277 : BitVec 32 := Scalar.subi v3274 v3276
  let c8_i32_3045 : BitVec 32 := 8#32
  let c0_i32_3048 : BitVec 32 := 0#32
  let v3278 : BitVec 1 := Scalar.cmpi .sgt c8_i32_3045 c0_i32_3048
  let v3279 : BitVec 32 := Scalar.extui v3278
  let c0_i32_3049 : BitVec 32 := 0#32
  let v3280 : BitVec 1 := Scalar.cmpi .slt c8_i32_3045 c0_i32_3049
  let v3281 : BitVec 32 := Scalar.extui v3280
  let v3282 : BitVec 32 := Scalar.subi v3279 v3281
  let v3283 : BitVec 1 := Scalar.cmpi .ne v3277 v3282
  let v3284 : BitVec 32 := Scalar.remsi v2 c8_i32_3045
  let c0_i32_3050 : BitVec 32 := 0#32
  let v3285 : BitVec 1 := Scalar.cmpi .ne v3284 c0_i32_3050
  let v3286 : BitVec 1 := Scalar.andi v3283 v3285
  let v3272 : BitVec 32 := Scalar.divsi v2 c8_i32_3045
  let c1_i32_3051 : BitVec 32 := 1#32
  let v3287 : BitVec 32 := Scalar.subi v3272 c1_i32_3051
  let v3288 : BitVec 32 := Scalar.select v3286 v3287 v3272
  let v3384 : BitVec 32 := Scalar.muli c8_i32_3108 v3288
  let c2_i32_3099 : BitVec 32 := 2#32
  let c8_i32_3052 : BitVec 32 := 8#32
  let c0_i32_3053 : BitVec 32 := 0#32
  let v3289 : BitVec 1 := Scalar.cmpi .eq c8_i32_3052 c0_i32_3053
  let c1_i32_3054 : BitVec 32 := 1#32
  let v3290 : BitVec 32 := Scalar.select v3289 c1_i32_3054 c8_i32_3052
  let v3291 : BitVec 32 := Scalar.remsi v2 v3290
  let c0_i32_3056 : BitVec 32 := 0#32
  let v3293 : BitVec 1 := Scalar.cmpi .slt v3291 c0_i32_3056
  let c0_i32_3057 : BitVec 32 := 0#32
  let v3294 : BitVec 1 := Scalar.cmpi .slt v3290 c0_i32_3057
  let v3295 : BitVec 1 := Scalar.xori v3293 v3294
  let c0_i32_3055 : BitVec 32 := 0#32
  let v3292 : BitVec 1 := Scalar.cmpi .ne v3291 c0_i32_3055
  let v3296 : BitVec 1 := Scalar.andi v3295 v3292
  let v3297 : BitVec 32 := Scalar.addi v3291 v3290
  let v3298 : BitVec 32 := Scalar.select v3296 v3297 v3291
  let c0_i32_3059 : BitVec 32 := 0#32
  let v3300 : BitVec 1 := Scalar.cmpi .sgt v3298 c0_i32_3059
  let v3301 : BitVec 32 := Scalar.extui v3300
  let c0_i32_3060 : BitVec 32 := 0#32
  let v3302 : BitVec 1 := Scalar.cmpi .slt v3298 c0_i32_3060
  let v3303 : BitVec 32 := Scalar.extui v3302
  let v3304 : BitVec 32 := Scalar.subi v3301 v3303
  let c2_i32_3058 : BitVec 32 := 2#32
  let c0_i32_3061 : BitVec 32 := 0#32
  let v3305 : BitVec 1 := Scalar.cmpi .sgt c2_i32_3058 c0_i32_3061
  let v3306 : BitVec 32 := Scalar.extui v3305
  let c0_i32_3062 : BitVec 32 := 0#32
  let v3307 : BitVec 1 := Scalar.cmpi .slt c2_i32_3058 c0_i32_3062
  let v3308 : BitVec 32 := Scalar.extui v3307
  let v3309 : BitVec 32 := Scalar.subi v3306 v3308
  let v3310 : BitVec 1 := Scalar.cmpi .ne v3304 v3309
  let v3311 : BitVec 32 := Scalar.remsi v3298 c2_i32_3058
  let c0_i32_3063 : BitVec 32 := 0#32
  let v3312 : BitVec 1 := Scalar.cmpi .ne v3311 c0_i32_3063
  let v3313 : BitVec 1 := Scalar.andi v3310 v3312
  let v3299 : BitVec 32 := Scalar.divsi v3298 c2_i32_3058
  let c1_i32_3064 : BitVec 32 := 1#32
  let v3314 : BitVec 32 := Scalar.subi v3299 c1_i32_3064
  let v3315 : BitVec 32 := Scalar.select v3313 v3314 v3299
  let c2_i32_3092 : BitVec 32 := 2#32
  let v3358 : BitVec 32 := Scalar.addi v3315 c2_i32_3092
  let c4_i32_3093 : BitVec 32 := 4#32
  let c0_i32_3094 : BitVec 32 := 0#32
  let v3359 : BitVec 1 := Scalar.cmpi .eq c4_i32_3093 c0_i32_3094
  let c1_i32_3095 : BitVec 32 := 1#32
  let v3360 : BitVec 32 := Scalar.select v3359 c1_i32_3095 c4_i32_3093
  let v3361 : BitVec 32 := Scalar.remsi v3358 v3360
  let c0_i32_3097 : BitVec 32 := 0#32
  let v3363 : BitVec 1 := Scalar.cmpi .slt v3361 c0_i32_3097
  let c0_i32_3098 : BitVec 32 := 0#32
  let v3364 : BitVec 1 := Scalar.cmpi .slt v3360 c0_i32_3098
  let v3365 : BitVec 1 := Scalar.xori v3363 v3364
  let c0_i32_3096 : BitVec 32 := 0#32
  let v3362 : BitVec 1 := Scalar.cmpi .ne v3361 c0_i32_3096
  let v3366 : BitVec 1 := Scalar.andi v3365 v3362
  let v3367 : BitVec 32 := Scalar.addi v3361 v3360
  let v3368 : BitVec 32 := Scalar.select v3366 v3367 v3361
  let v3369 : BitVec 32 := Scalar.muli c2_i32_3099 v3368
  let c2_i32_3100 : BitVec 32 := 2#32
  let c0_i32_3101 : BitVec 32 := 0#32
  let v3370 : BitVec 1 := Scalar.cmpi .eq c2_i32_3100 c0_i32_3101
  let c1_i32_3102 : BitVec 32 := 1#32
  let v3371 : BitVec 32 := Scalar.select v3370 c1_i32_3102 c2_i32_3100
  let v3372 : BitVec 32 := Scalar.remsi v3368 v3371
  let c0_i32_3104 : BitVec 32 := 0#32
  let v3374 : BitVec 1 := Scalar.cmpi .slt v3372 c0_i32_3104
  let c0_i32_3105 : BitVec 32 := 0#32
  let v3375 : BitVec 1 := Scalar.cmpi .slt v3371 c0_i32_3105
  let v3376 : BitVec 1 := Scalar.xori v3374 v3375
  let c0_i32_3103 : BitVec 32 := 0#32
  let v3373 : BitVec 1 := Scalar.cmpi .ne v3372 c0_i32_3103
  let v3377 : BitVec 1 := Scalar.andi v3376 v3373
  let v3378 : BitVec 32 := Scalar.addi v3372 v3371
  let v3379 : BitVec 32 := Scalar.select v3377 v3378 v3372
  let c0_i32_3106 : BitVec 32 := 0#32
  let v3380 : BitVec 1 := Scalar.cmpi .eq v3379 c0_i32_3106
  let c4_i32_3065 : BitVec 32 := 4#32
  let c0_i32_3066 : BitVec 32 := 0#32
  let v3316 : BitVec 1 := Scalar.cmpi .eq c4_i32_3065 c0_i32_3066
  let c1_i32_3067 : BitVec 32 := 1#32
  let v3317 : BitVec 32 := Scalar.select v3316 c1_i32_3067 c4_i32_3065
  let v3318 : BitVec 32 := Scalar.remsi v3298 v3317
  let c0_i32_3069 : BitVec 32 := 0#32
  let v3320 : BitVec 1 := Scalar.cmpi .slt v3318 c0_i32_3069
  let c0_i32_3070 : BitVec 32 := 0#32
  let v3321 : BitVec 1 := Scalar.cmpi .slt v3317 c0_i32_3070
  let v3322 : BitVec 1 := Scalar.xori v3320 v3321
  let c0_i32_3068 : BitVec 32 := 0#32
  let v3319 : BitVec 1 := Scalar.cmpi .ne v3318 c0_i32_3068
  let v3323 : BitVec 1 := Scalar.andi v3322 v3319
  let v3324 : BitVec 32 := Scalar.addi v3318 v3317
  let v3325 : BitVec 32 := Scalar.select v3323 v3324 v3318
  let c1_i32_3071 : BitVec 32 := 1#32
  let v3326 : BitVec 1 := Scalar.cmpi .eq v3325 c1_i32_3071
  let c2_i32_3072 : BitVec 32 := 2#32
  let v3327 : BitVec 1 := Scalar.cmpi .eq v3325 c2_i32_3072
  let v3328 : BitVec 1 := Scalar.ori v3326 v3327
  let c1_i32_3073 : BitVec 32 := 1#32
  let c0_i32_3074 : BitVec 32 := 0#32
  let v3329 : BitVec 32 := Scalar.select v3328 c1_i32_3073 c0_i32_3074
  let c1_i32_3107 : BitVec 32 := 1#32
  let v3381 : BitVec 32 := Scalar.subi c1_i32_3107 v3329
  let v3382 : BitVec 32 := Scalar.select v3380 v3329 v3381
  let v3383 : BitVec 32 := Scalar.addi v3369 v3382
  let v3385 : BitVec 32 := Scalar.addi v3384 v3383
  let c1_i32_3152 : BitVec 32 := 1#32
  let v3424 : BitVec 32 := Scalar.muli v3385 c1_i32_3152
  let v3425 : BitVec 32 := Scalar.addi c0_i32_3153 v3424
  v3425.toNat
def k0_dev46 (d0 : Dev nD) : Nat :=
  let c0_i32_3169 : BitVec 32 := 0#32
  let c8_i32_3125 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3046 : BitVec 32 := 0#32
  let v3273 : BitVec 1 := Scalar.cmpi .sgt v2 c0_i32_3046
  let v3274 : BitVec 32 := Scalar.extui v3273
  let c0_i32_3047 : BitVec 32 := 0#32
  let v3275 : BitVec 1 := Scalar.cmpi .slt v2 c0_i32_3047
  let v3276 : BitVec 32 := Scalar.extui v3275
  let v3277 : BitVec 32 := Scalar.subi v3274 v3276
  let c8_i32_3045 : BitVec 32 := 8#32
  let c0_i32_3048 : BitVec 32 := 0#32
  let v3278 : BitVec 1 := Scalar.cmpi .sgt c8_i32_3045 c0_i32_3048
  let v3279 : BitVec 32 := Scalar.extui v3278
  let c0_i32_3049 : BitVec 32 := 0#32
  let v3280 : BitVec 1 := Scalar.cmpi .slt c8_i32_3045 c0_i32_3049
  let v3281 : BitVec 32 := Scalar.extui v3280
  let v3282 : BitVec 32 := Scalar.subi v3279 v3281
  let v3283 : BitVec 1 := Scalar.cmpi .ne v3277 v3282
  let v3284 : BitVec 32 := Scalar.remsi v2 c8_i32_3045
  let c0_i32_3050 : BitVec 32 := 0#32
  let v3285 : BitVec 1 := Scalar.cmpi .ne v3284 c0_i32_3050
  let v3286 : BitVec 1 := Scalar.andi v3283 v3285
  let v3272 : BitVec 32 := Scalar.divsi v2 c8_i32_3045
  let c1_i32_3051 : BitVec 32 := 1#32
  let v3287 : BitVec 32 := Scalar.subi v3272 c1_i32_3051
  let v3288 : BitVec 32 := Scalar.select v3286 v3287 v3272
  let v3412 : BitVec 32 := Scalar.muli c8_i32_3125 v3288
  let c2_i32_3116 : BitVec 32 := 2#32
  let c8_i32_3052 : BitVec 32 := 8#32
  let c0_i32_3053 : BitVec 32 := 0#32
  let v3289 : BitVec 1 := Scalar.cmpi .eq c8_i32_3052 c0_i32_3053
  let c1_i32_3054 : BitVec 32 := 1#32
  let v3290 : BitVec 32 := Scalar.select v3289 c1_i32_3054 c8_i32_3052
  let v3291 : BitVec 32 := Scalar.remsi v2 v3290
  let c0_i32_3056 : BitVec 32 := 0#32
  let v3293 : BitVec 1 := Scalar.cmpi .slt v3291 c0_i32_3056
  let c0_i32_3057 : BitVec 32 := 0#32
  let v3294 : BitVec 1 := Scalar.cmpi .slt v3290 c0_i32_3057
  let v3295 : BitVec 1 := Scalar.xori v3293 v3294
  let c0_i32_3055 : BitVec 32 := 0#32
  let v3292 : BitVec 1 := Scalar.cmpi .ne v3291 c0_i32_3055
  let v3296 : BitVec 1 := Scalar.andi v3295 v3292
  let v3297 : BitVec 32 := Scalar.addi v3291 v3290
  let v3298 : BitVec 32 := Scalar.select v3296 v3297 v3291
  let c0_i32_3059 : BitVec 32 := 0#32
  let v3300 : BitVec 1 := Scalar.cmpi .sgt v3298 c0_i32_3059
  let v3301 : BitVec 32 := Scalar.extui v3300
  let c0_i32_3060 : BitVec 32 := 0#32
  let v3302 : BitVec 1 := Scalar.cmpi .slt v3298 c0_i32_3060
  let v3303 : BitVec 32 := Scalar.extui v3302
  let v3304 : BitVec 32 := Scalar.subi v3301 v3303
  let c2_i32_3058 : BitVec 32 := 2#32
  let c0_i32_3061 : BitVec 32 := 0#32
  let v3305 : BitVec 1 := Scalar.cmpi .sgt c2_i32_3058 c0_i32_3061
  let v3306 : BitVec 32 := Scalar.extui v3305
  let c0_i32_3062 : BitVec 32 := 0#32
  let v3307 : BitVec 1 := Scalar.cmpi .slt c2_i32_3058 c0_i32_3062
  let v3308 : BitVec 32 := Scalar.extui v3307
  let v3309 : BitVec 32 := Scalar.subi v3306 v3308
  let v3310 : BitVec 1 := Scalar.cmpi .ne v3304 v3309
  let v3311 : BitVec 32 := Scalar.remsi v3298 c2_i32_3058
  let c0_i32_3063 : BitVec 32 := 0#32
  let v3312 : BitVec 1 := Scalar.cmpi .ne v3311 c0_i32_3063
  let v3313 : BitVec 1 := Scalar.andi v3310 v3312
  let v3299 : BitVec 32 := Scalar.divsi v3298 c2_i32_3058
  let c1_i32_3064 : BitVec 32 := 1#32
  let v3314 : BitVec 32 := Scalar.subi v3299 c1_i32_3064
  let v3315 : BitVec 32 := Scalar.select v3313 v3314 v3299
  let c3_i32_3109 : BitVec 32 := 3#32
  let v3386 : BitVec 32 := Scalar.addi v3315 c3_i32_3109
  let c4_i32_3110 : BitVec 32 := 4#32
  let c0_i32_3111 : BitVec 32 := 0#32
  let v3387 : BitVec 1 := Scalar.cmpi .eq c4_i32_3110 c0_i32_3111
  let c1_i32_3112 : BitVec 32 := 1#32
  let v3388 : BitVec 32 := Scalar.select v3387 c1_i32_3112 c4_i32_3110
  let v3389 : BitVec 32 := Scalar.remsi v3386 v3388
  let c0_i32_3114 : BitVec 32 := 0#32
  let v3391 : BitVec 1 := Scalar.cmpi .slt v3389 c0_i32_3114
  let c0_i32_3115 : BitVec 32 := 0#32
  let v3392 : BitVec 1 := Scalar.cmpi .slt v3388 c0_i32_3115
  let v3393 : BitVec 1 := Scalar.xori v3391 v3392
  let c0_i32_3113 : BitVec 32 := 0#32
  let v3390 : BitVec 1 := Scalar.cmpi .ne v3389 c0_i32_3113
  let v3394 : BitVec 1 := Scalar.andi v3393 v3390
  let v3395 : BitVec 32 := Scalar.addi v3389 v3388
  let v3396 : BitVec 32 := Scalar.select v3394 v3395 v3389
  let v3397 : BitVec 32 := Scalar.muli c2_i32_3116 v3396
  let c2_i32_3117 : BitVec 32 := 2#32
  let c0_i32_3118 : BitVec 32 := 0#32
  let v3398 : BitVec 1 := Scalar.cmpi .eq c2_i32_3117 c0_i32_3118
  let c1_i32_3119 : BitVec 32 := 1#32
  let v3399 : BitVec 32 := Scalar.select v3398 c1_i32_3119 c2_i32_3117
  let v3400 : BitVec 32 := Scalar.remsi v3396 v3399
  let c0_i32_3121 : BitVec 32 := 0#32
  let v3402 : BitVec 1 := Scalar.cmpi .slt v3400 c0_i32_3121
  let c0_i32_3122 : BitVec 32 := 0#32
  let v3403 : BitVec 1 := Scalar.cmpi .slt v3399 c0_i32_3122
  let v3404 : BitVec 1 := Scalar.xori v3402 v3403
  let c0_i32_3120 : BitVec 32 := 0#32
  let v3401 : BitVec 1 := Scalar.cmpi .ne v3400 c0_i32_3120
  let v3405 : BitVec 1 := Scalar.andi v3404 v3401
  let v3406 : BitVec 32 := Scalar.addi v3400 v3399
  let v3407 : BitVec 32 := Scalar.select v3405 v3406 v3400
  let c0_i32_3123 : BitVec 32 := 0#32
  let v3408 : BitVec 1 := Scalar.cmpi .eq v3407 c0_i32_3123
  let c4_i32_3065 : BitVec 32 := 4#32
  let c0_i32_3066 : BitVec 32 := 0#32
  let v3316 : BitVec 1 := Scalar.cmpi .eq c4_i32_3065 c0_i32_3066
  let c1_i32_3067 : BitVec 32 := 1#32
  let v3317 : BitVec 32 := Scalar.select v3316 c1_i32_3067 c4_i32_3065
  let v3318 : BitVec 32 := Scalar.remsi v3298 v3317
  let c0_i32_3069 : BitVec 32 := 0#32
  let v3320 : BitVec 1 := Scalar.cmpi .slt v3318 c0_i32_3069
  let c0_i32_3070 : BitVec 32 := 0#32
  let v3321 : BitVec 1 := Scalar.cmpi .slt v3317 c0_i32_3070
  let v3322 : BitVec 1 := Scalar.xori v3320 v3321
  let c0_i32_3068 : BitVec 32 := 0#32
  let v3319 : BitVec 1 := Scalar.cmpi .ne v3318 c0_i32_3068
  let v3323 : BitVec 1 := Scalar.andi v3322 v3319
  let v3324 : BitVec 32 := Scalar.addi v3318 v3317
  let v3325 : BitVec 32 := Scalar.select v3323 v3324 v3318
  let c1_i32_3071 : BitVec 32 := 1#32
  let v3326 : BitVec 1 := Scalar.cmpi .eq v3325 c1_i32_3071
  let c2_i32_3072 : BitVec 32 := 2#32
  let v3327 : BitVec 1 := Scalar.cmpi .eq v3325 c2_i32_3072
  let v3328 : BitVec 1 := Scalar.ori v3326 v3327
  let c1_i32_3073 : BitVec 32 := 1#32
  let c0_i32_3074 : BitVec 32 := 0#32
  let v3329 : BitVec 32 := Scalar.select v3328 c1_i32_3073 c0_i32_3074
  let c1_i32_3124 : BitVec 32 := 1#32
  let v3409 : BitVec 32 := Scalar.subi c1_i32_3124 v3329
  let v3410 : BitVec 32 := Scalar.select v3408 v3329 v3409
  let v3411 : BitVec 32 := Scalar.addi v3397 v3410
  let v3413 : BitVec 32 := Scalar.addi v3412 v3411
  let c1_i32_3168 : BitVec 32 := 1#32
  let v3434 : BitVec 32 := Scalar.muli v3413 c1_i32_3168
  let v3435 : BitVec 32 := Scalar.addi c0_i32_3169 v3434
  v3435.toNat
def k0_dev47 (d0 : Dev nD) : Nat :=
  let c0_i32_3380 : BitVec 32 := 0#32
  let c8_i32_3334 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3289 : BitVec 32 := 0#32
  let v3501 : BitVec 1 := Scalar.cmpi .sgt v2 c0_i32_3289
  let v3502 : BitVec 32 := Scalar.extui v3501
  let c0_i32_3290 : BitVec 32 := 0#32
  let v3503 : BitVec 1 := Scalar.cmpi .slt v2 c0_i32_3290
  let v3504 : BitVec 32 := Scalar.extui v3503
  let v3505 : BitVec 32 := Scalar.subi v3502 v3504
  let c8_i32_3288 : BitVec 32 := 8#32
  let c0_i32_3291 : BitVec 32 := 0#32
  let v3506 : BitVec 1 := Scalar.cmpi .sgt c8_i32_3288 c0_i32_3291
  let v3507 : BitVec 32 := Scalar.extui v3506
  let c0_i32_3292 : BitVec 32 := 0#32
  let v3508 : BitVec 1 := Scalar.cmpi .slt c8_i32_3288 c0_i32_3292
  let v3509 : BitVec 32 := Scalar.extui v3508
  let v3510 : BitVec 32 := Scalar.subi v3507 v3509
  let v3511 : BitVec 1 := Scalar.cmpi .ne v3505 v3510
  let v3512 : BitVec 32 := Scalar.remsi v2 c8_i32_3288
  let c0_i32_3293 : BitVec 32 := 0#32
  let v3513 : BitVec 1 := Scalar.cmpi .ne v3512 c0_i32_3293
  let v3514 : BitVec 1 := Scalar.andi v3511 v3513
  let v3500 : BitVec 32 := Scalar.divsi v2 c8_i32_3288
  let c1_i32_3294 : BitVec 32 := 1#32
  let v3515 : BitVec 32 := Scalar.subi v3500 c1_i32_3294
  let v3516 : BitVec 32 := Scalar.select v3514 v3515 v3500
  let c1_i32_3318 : BitVec 32 := 1#32
  let v3558 : BitVec 32 := Scalar.addi v3516 c1_i32_3318
  let c4_i32_3319 : BitVec 32 := 4#32
  let c0_i32_3320 : BitVec 32 := 0#32
  let v3559 : BitVec 1 := Scalar.cmpi .eq c4_i32_3319 c0_i32_3320
  let c1_i32_3321 : BitVec 32 := 1#32
  let v3560 : BitVec 32 := Scalar.select v3559 c1_i32_3321 c4_i32_3319
  let v3561 : BitVec 32 := Scalar.remsi v3558 v3560
  let c0_i32_3323 : BitVec 32 := 0#32
  let v3563 : BitVec 1 := Scalar.cmpi .slt v3561 c0_i32_3323
  let c0_i32_3324 : BitVec 32 := 0#32
  let v3564 : BitVec 1 := Scalar.cmpi .slt v3560 c0_i32_3324
  let v3565 : BitVec 1 := Scalar.xori v3563 v3564
  let c0_i32_3322 : BitVec 32 := 0#32
  let v3562 : BitVec 1 := Scalar.cmpi .ne v3561 c0_i32_3322
  let v3566 : BitVec 1 := Scalar.andi v3565 v3562
  let v3567 : BitVec 32 := Scalar.addi v3561 v3560
  let v3568 : BitVec 32 := Scalar.select v3566 v3567 v3561
  let v3584 : BitVec 32 := Scalar.muli c8_i32_3334 v3568
  let c2_i32_3325 : BitVec 32 := 2#32
  let c8_i32_3295 : BitVec 32 := 8#32
  let c0_i32_3296 : BitVec 32 := 0#32
  let v3517 : BitVec 1 := Scalar.cmpi .eq c8_i32_3295 c0_i32_3296
  let c1_i32_3297 : BitVec 32 := 1#32
  let v3518 : BitVec 32 := Scalar.select v3517 c1_i32_3297 c8_i32_3295
  let v3519 : BitVec 32 := Scalar.remsi v2 v3518
  let c0_i32_3299 : BitVec 32 := 0#32
  let v3521 : BitVec 1 := Scalar.cmpi .slt v3519 c0_i32_3299
  let c0_i32_3300 : BitVec 32 := 0#32
  let v3522 : BitVec 1 := Scalar.cmpi .slt v3518 c0_i32_3300
  let v3523 : BitVec 1 := Scalar.xori v3521 v3522
  let c0_i32_3298 : BitVec 32 := 0#32
  let v3520 : BitVec 1 := Scalar.cmpi .ne v3519 c0_i32_3298
  let v3524 : BitVec 1 := Scalar.andi v3523 v3520
  let v3525 : BitVec 32 := Scalar.addi v3519 v3518
  let v3526 : BitVec 32 := Scalar.select v3524 v3525 v3519
  let c0_i32_3302 : BitVec 32 := 0#32
  let v3528 : BitVec 1 := Scalar.cmpi .sgt v3526 c0_i32_3302
  let v3529 : BitVec 32 := Scalar.extui v3528
  let c0_i32_3303 : BitVec 32 := 0#32
  let v3530 : BitVec 1 := Scalar.cmpi .slt v3526 c0_i32_3303
  let v3531 : BitVec 32 := Scalar.extui v3530
  let v3532 : BitVec 32 := Scalar.subi v3529 v3531
  let c2_i32_3301 : BitVec 32 := 2#32
  let c0_i32_3304 : BitVec 32 := 0#32
  let v3533 : BitVec 1 := Scalar.cmpi .sgt c2_i32_3301 c0_i32_3304
  let v3534 : BitVec 32 := Scalar.extui v3533
  let c0_i32_3305 : BitVec 32 := 0#32
  let v3535 : BitVec 1 := Scalar.cmpi .slt c2_i32_3301 c0_i32_3305
  let v3536 : BitVec 32 := Scalar.extui v3535
  let v3537 : BitVec 32 := Scalar.subi v3534 v3536
  let v3538 : BitVec 1 := Scalar.cmpi .ne v3532 v3537
  let v3539 : BitVec 32 := Scalar.remsi v3526 c2_i32_3301
  let c0_i32_3306 : BitVec 32 := 0#32
  let v3540 : BitVec 1 := Scalar.cmpi .ne v3539 c0_i32_3306
  let v3541 : BitVec 1 := Scalar.andi v3538 v3540
  let v3527 : BitVec 32 := Scalar.divsi v3526 c2_i32_3301
  let c1_i32_3307 : BitVec 32 := 1#32
  let v3542 : BitVec 32 := Scalar.subi v3527 c1_i32_3307
  let v3543 : BitVec 32 := Scalar.select v3541 v3542 v3527
  let v3569 : BitVec 32 := Scalar.muli c2_i32_3325 v3543
  let c2_i32_3326 : BitVec 32 := 2#32
  let c0_i32_3327 : BitVec 32 := 0#32
  let v3570 : BitVec 1 := Scalar.cmpi .eq c2_i32_3326 c0_i32_3327
  let c1_i32_3328 : BitVec 32 := 1#32
  let v3571 : BitVec 32 := Scalar.select v3570 c1_i32_3328 c2_i32_3326
  let v3572 : BitVec 32 := Scalar.remsi v3543 v3571
  let c0_i32_3330 : BitVec 32 := 0#32
  let v3574 : BitVec 1 := Scalar.cmpi .slt v3572 c0_i32_3330
  let c0_i32_3331 : BitVec 32 := 0#32
  let v3575 : BitVec 1 := Scalar.cmpi .slt v3571 c0_i32_3331
  let v3576 : BitVec 1 := Scalar.xori v3574 v3575
  let c0_i32_3329 : BitVec 32 := 0#32
  let v3573 : BitVec 1 := Scalar.cmpi .ne v3572 c0_i32_3329
  let v3577 : BitVec 1 := Scalar.andi v3576 v3573
  let v3578 : BitVec 32 := Scalar.addi v3572 v3571
  let v3579 : BitVec 32 := Scalar.select v3577 v3578 v3572
  let c0_i32_3332 : BitVec 32 := 0#32
  let v3580 : BitVec 1 := Scalar.cmpi .eq v3579 c0_i32_3332
  let c4_i32_3308 : BitVec 32 := 4#32
  let c0_i32_3309 : BitVec 32 := 0#32
  let v3544 : BitVec 1 := Scalar.cmpi .eq c4_i32_3308 c0_i32_3309
  let c1_i32_3310 : BitVec 32 := 1#32
  let v3545 : BitVec 32 := Scalar.select v3544 c1_i32_3310 c4_i32_3308
  let v3546 : BitVec 32 := Scalar.remsi v3526 v3545
  let c0_i32_3312 : BitVec 32 := 0#32
  let v3548 : BitVec 1 := Scalar.cmpi .slt v3546 c0_i32_3312
  let c0_i32_3313 : BitVec 32 := 0#32
  let v3549 : BitVec 1 := Scalar.cmpi .slt v3545 c0_i32_3313
  let v3550 : BitVec 1 := Scalar.xori v3548 v3549
  let c0_i32_3311 : BitVec 32 := 0#32
  let v3547 : BitVec 1 := Scalar.cmpi .ne v3546 c0_i32_3311
  let v3551 : BitVec 1 := Scalar.andi v3550 v3547
  let v3552 : BitVec 32 := Scalar.addi v3546 v3545
  let v3553 : BitVec 32 := Scalar.select v3551 v3552 v3546
  let c1_i32_3314 : BitVec 32 := 1#32
  let v3554 : BitVec 1 := Scalar.cmpi .eq v3553 c1_i32_3314
  let c2_i32_3315 : BitVec 32 := 2#32
  let v3555 : BitVec 1 := Scalar.cmpi .eq v3553 c2_i32_3315
  let v3556 : BitVec 1 := Scalar.ori v3554 v3555
  let c1_i32_3316 : BitVec 32 := 1#32
  let c0_i32_3317 : BitVec 32 := 0#32
  let v3557 : BitVec 32 := Scalar.select v3556 c1_i32_3316 c0_i32_3317
  let c1_i32_3333 : BitVec 32 := 1#32
  let v3581 : BitVec 32 := Scalar.subi c1_i32_3333 v3557
  let v3582 : BitVec 32 := Scalar.select v3580 v3557 v3581
  let v3583 : BitVec 32 := Scalar.addi v3569 v3582
  let v3585 : BitVec 32 := Scalar.addi v3584 v3583
  let c1_i32_3379 : BitVec 32 := 1#32
  let v3642 : BitVec 32 := Scalar.muli v3585 c1_i32_3379
  let v3643 : BitVec 32 := Scalar.addi c0_i32_3380 v3642
  v3643.toNat
def k0_dev48 (d0 : Dev nD) : Nat :=
  let c0_i32_3396 : BitVec 32 := 0#32
  let c8_i32_3351 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3289 : BitVec 32 := 0#32
  let v3501 : BitVec 1 := Scalar.cmpi .sgt v2 c0_i32_3289
  let v3502 : BitVec 32 := Scalar.extui v3501
  let c0_i32_3290 : BitVec 32 := 0#32
  let v3503 : BitVec 1 := Scalar.cmpi .slt v2 c0_i32_3290
  let v3504 : BitVec 32 := Scalar.extui v3503
  let v3505 : BitVec 32 := Scalar.subi v3502 v3504
  let c8_i32_3288 : BitVec 32 := 8#32
  let c0_i32_3291 : BitVec 32 := 0#32
  let v3506 : BitVec 1 := Scalar.cmpi .sgt c8_i32_3288 c0_i32_3291
  let v3507 : BitVec 32 := Scalar.extui v3506
  let c0_i32_3292 : BitVec 32 := 0#32
  let v3508 : BitVec 1 := Scalar.cmpi .slt c8_i32_3288 c0_i32_3292
  let v3509 : BitVec 32 := Scalar.extui v3508
  let v3510 : BitVec 32 := Scalar.subi v3507 v3509
  let v3511 : BitVec 1 := Scalar.cmpi .ne v3505 v3510
  let v3512 : BitVec 32 := Scalar.remsi v2 c8_i32_3288
  let c0_i32_3293 : BitVec 32 := 0#32
  let v3513 : BitVec 1 := Scalar.cmpi .ne v3512 c0_i32_3293
  let v3514 : BitVec 1 := Scalar.andi v3511 v3513
  let v3500 : BitVec 32 := Scalar.divsi v2 c8_i32_3288
  let c1_i32_3294 : BitVec 32 := 1#32
  let v3515 : BitVec 32 := Scalar.subi v3500 c1_i32_3294
  let v3516 : BitVec 32 := Scalar.select v3514 v3515 v3500
  let c2_i32_3335 : BitVec 32 := 2#32
  let v3586 : BitVec 32 := Scalar.addi v3516 c2_i32_3335
  let c4_i32_3336 : BitVec 32 := 4#32
  let c0_i32_3337 : BitVec 32 := 0#32
  let v3587 : BitVec 1 := Scalar.cmpi .eq c4_i32_3336 c0_i32_3337
  let c1_i32_3338 : BitVec 32 := 1#32
  let v3588 : BitVec 32 := Scalar.select v3587 c1_i32_3338 c4_i32_3336
  let v3589 : BitVec 32 := Scalar.remsi v3586 v3588
  let c0_i32_3340 : BitVec 32 := 0#32
  let v3591 : BitVec 1 := Scalar.cmpi .slt v3589 c0_i32_3340
  let c0_i32_3341 : BitVec 32 := 0#32
  let v3592 : BitVec 1 := Scalar.cmpi .slt v3588 c0_i32_3341
  let v3593 : BitVec 1 := Scalar.xori v3591 v3592
  let c0_i32_3339 : BitVec 32 := 0#32
  let v3590 : BitVec 1 := Scalar.cmpi .ne v3589 c0_i32_3339
  let v3594 : BitVec 1 := Scalar.andi v3593 v3590
  let v3595 : BitVec 32 := Scalar.addi v3589 v3588
  let v3596 : BitVec 32 := Scalar.select v3594 v3595 v3589
  let v3612 : BitVec 32 := Scalar.muli c8_i32_3351 v3596
  let c2_i32_3342 : BitVec 32 := 2#32
  let c8_i32_3295 : BitVec 32 := 8#32
  let c0_i32_3296 : BitVec 32 := 0#32
  let v3517 : BitVec 1 := Scalar.cmpi .eq c8_i32_3295 c0_i32_3296
  let c1_i32_3297 : BitVec 32 := 1#32
  let v3518 : BitVec 32 := Scalar.select v3517 c1_i32_3297 c8_i32_3295
  let v3519 : BitVec 32 := Scalar.remsi v2 v3518
  let c0_i32_3299 : BitVec 32 := 0#32
  let v3521 : BitVec 1 := Scalar.cmpi .slt v3519 c0_i32_3299
  let c0_i32_3300 : BitVec 32 := 0#32
  let v3522 : BitVec 1 := Scalar.cmpi .slt v3518 c0_i32_3300
  let v3523 : BitVec 1 := Scalar.xori v3521 v3522
  let c0_i32_3298 : BitVec 32 := 0#32
  let v3520 : BitVec 1 := Scalar.cmpi .ne v3519 c0_i32_3298
  let v3524 : BitVec 1 := Scalar.andi v3523 v3520
  let v3525 : BitVec 32 := Scalar.addi v3519 v3518
  let v3526 : BitVec 32 := Scalar.select v3524 v3525 v3519
  let c0_i32_3302 : BitVec 32 := 0#32
  let v3528 : BitVec 1 := Scalar.cmpi .sgt v3526 c0_i32_3302
  let v3529 : BitVec 32 := Scalar.extui v3528
  let c0_i32_3303 : BitVec 32 := 0#32
  let v3530 : BitVec 1 := Scalar.cmpi .slt v3526 c0_i32_3303
  let v3531 : BitVec 32 := Scalar.extui v3530
  let v3532 : BitVec 32 := Scalar.subi v3529 v3531
  let c2_i32_3301 : BitVec 32 := 2#32
  let c0_i32_3304 : BitVec 32 := 0#32
  let v3533 : BitVec 1 := Scalar.cmpi .sgt c2_i32_3301 c0_i32_3304
  let v3534 : BitVec 32 := Scalar.extui v3533
  let c0_i32_3305 : BitVec 32 := 0#32
  let v3535 : BitVec 1 := Scalar.cmpi .slt c2_i32_3301 c0_i32_3305
  let v3536 : BitVec 32 := Scalar.extui v3535
  let v3537 : BitVec 32 := Scalar.subi v3534 v3536
  let v3538 : BitVec 1 := Scalar.cmpi .ne v3532 v3537
  let v3539 : BitVec 32 := Scalar.remsi v3526 c2_i32_3301
  let c0_i32_3306 : BitVec 32 := 0#32
  let v3540 : BitVec 1 := Scalar.cmpi .ne v3539 c0_i32_3306
  let v3541 : BitVec 1 := Scalar.andi v3538 v3540
  let v3527 : BitVec 32 := Scalar.divsi v3526 c2_i32_3301
  let c1_i32_3307 : BitVec 32 := 1#32
  let v3542 : BitVec 32 := Scalar.subi v3527 c1_i32_3307
  let v3543 : BitVec 32 := Scalar.select v3541 v3542 v3527
  let v3597 : BitVec 32 := Scalar.muli c2_i32_3342 v3543
  let c2_i32_3343 : BitVec 32 := 2#32
  let c0_i32_3344 : BitVec 32 := 0#32
  let v3598 : BitVec 1 := Scalar.cmpi .eq c2_i32_3343 c0_i32_3344
  let c1_i32_3345 : BitVec 32 := 1#32
  let v3599 : BitVec 32 := Scalar.select v3598 c1_i32_3345 c2_i32_3343
  let v3600 : BitVec 32 := Scalar.remsi v3543 v3599
  let c0_i32_3347 : BitVec 32 := 0#32
  let v3602 : BitVec 1 := Scalar.cmpi .slt v3600 c0_i32_3347
  let c0_i32_3348 : BitVec 32 := 0#32
  let v3603 : BitVec 1 := Scalar.cmpi .slt v3599 c0_i32_3348
  let v3604 : BitVec 1 := Scalar.xori v3602 v3603
  let c0_i32_3346 : BitVec 32 := 0#32
  let v3601 : BitVec 1 := Scalar.cmpi .ne v3600 c0_i32_3346
  let v3605 : BitVec 1 := Scalar.andi v3604 v3601
  let v3606 : BitVec 32 := Scalar.addi v3600 v3599
  let v3607 : BitVec 32 := Scalar.select v3605 v3606 v3600
  let c0_i32_3349 : BitVec 32 := 0#32
  let v3608 : BitVec 1 := Scalar.cmpi .eq v3607 c0_i32_3349
  let c4_i32_3308 : BitVec 32 := 4#32
  let c0_i32_3309 : BitVec 32 := 0#32
  let v3544 : BitVec 1 := Scalar.cmpi .eq c4_i32_3308 c0_i32_3309
  let c1_i32_3310 : BitVec 32 := 1#32
  let v3545 : BitVec 32 := Scalar.select v3544 c1_i32_3310 c4_i32_3308
  let v3546 : BitVec 32 := Scalar.remsi v3526 v3545
  let c0_i32_3312 : BitVec 32 := 0#32
  let v3548 : BitVec 1 := Scalar.cmpi .slt v3546 c0_i32_3312
  let c0_i32_3313 : BitVec 32 := 0#32
  let v3549 : BitVec 1 := Scalar.cmpi .slt v3545 c0_i32_3313
  let v3550 : BitVec 1 := Scalar.xori v3548 v3549
  let c0_i32_3311 : BitVec 32 := 0#32
  let v3547 : BitVec 1 := Scalar.cmpi .ne v3546 c0_i32_3311
  let v3551 : BitVec 1 := Scalar.andi v3550 v3547
  let v3552 : BitVec 32 := Scalar.addi v3546 v3545
  let v3553 : BitVec 32 := Scalar.select v3551 v3552 v3546
  let c1_i32_3314 : BitVec 32 := 1#32
  let v3554 : BitVec 1 := Scalar.cmpi .eq v3553 c1_i32_3314
  let c2_i32_3315 : BitVec 32 := 2#32
  let v3555 : BitVec 1 := Scalar.cmpi .eq v3553 c2_i32_3315
  let v3556 : BitVec 1 := Scalar.ori v3554 v3555
  let c1_i32_3316 : BitVec 32 := 1#32
  let c0_i32_3317 : BitVec 32 := 0#32
  let v3557 : BitVec 32 := Scalar.select v3556 c1_i32_3316 c0_i32_3317
  let c1_i32_3350 : BitVec 32 := 1#32
  let v3609 : BitVec 32 := Scalar.subi c1_i32_3350 v3557
  let v3610 : BitVec 32 := Scalar.select v3608 v3557 v3609
  let v3611 : BitVec 32 := Scalar.addi v3597 v3610
  let v3613 : BitVec 32 := Scalar.addi v3612 v3611
  let c1_i32_3395 : BitVec 32 := 1#32
  let v3652 : BitVec 32 := Scalar.muli v3613 c1_i32_3395
  let v3653 : BitVec 32 := Scalar.addi c0_i32_3396 v3652
  v3653.toNat
def k0_dev49 (d0 : Dev nD) : Nat :=
  let c0_i32_3412 : BitVec 32 := 0#32
  let c8_i32_3368 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3289 : BitVec 32 := 0#32
  let v3501 : BitVec 1 := Scalar.cmpi .sgt v2 c0_i32_3289
  let v3502 : BitVec 32 := Scalar.extui v3501
  let c0_i32_3290 : BitVec 32 := 0#32
  let v3503 : BitVec 1 := Scalar.cmpi .slt v2 c0_i32_3290
  let v3504 : BitVec 32 := Scalar.extui v3503
  let v3505 : BitVec 32 := Scalar.subi v3502 v3504
  let c8_i32_3288 : BitVec 32 := 8#32
  let c0_i32_3291 : BitVec 32 := 0#32
  let v3506 : BitVec 1 := Scalar.cmpi .sgt c8_i32_3288 c0_i32_3291
  let v3507 : BitVec 32 := Scalar.extui v3506
  let c0_i32_3292 : BitVec 32 := 0#32
  let v3508 : BitVec 1 := Scalar.cmpi .slt c8_i32_3288 c0_i32_3292
  let v3509 : BitVec 32 := Scalar.extui v3508
  let v3510 : BitVec 32 := Scalar.subi v3507 v3509
  let v3511 : BitVec 1 := Scalar.cmpi .ne v3505 v3510
  let v3512 : BitVec 32 := Scalar.remsi v2 c8_i32_3288
  let c0_i32_3293 : BitVec 32 := 0#32
  let v3513 : BitVec 1 := Scalar.cmpi .ne v3512 c0_i32_3293
  let v3514 : BitVec 1 := Scalar.andi v3511 v3513
  let v3500 : BitVec 32 := Scalar.divsi v2 c8_i32_3288
  let c1_i32_3294 : BitVec 32 := 1#32
  let v3515 : BitVec 32 := Scalar.subi v3500 c1_i32_3294
  let v3516 : BitVec 32 := Scalar.select v3514 v3515 v3500
  let c3_i32_3352 : BitVec 32 := 3#32
  let v3614 : BitVec 32 := Scalar.addi v3516 c3_i32_3352
  let c4_i32_3353 : BitVec 32 := 4#32
  let c0_i32_3354 : BitVec 32 := 0#32
  let v3615 : BitVec 1 := Scalar.cmpi .eq c4_i32_3353 c0_i32_3354
  let c1_i32_3355 : BitVec 32 := 1#32
  let v3616 : BitVec 32 := Scalar.select v3615 c1_i32_3355 c4_i32_3353
  let v3617 : BitVec 32 := Scalar.remsi v3614 v3616
  let c0_i32_3357 : BitVec 32 := 0#32
  let v3619 : BitVec 1 := Scalar.cmpi .slt v3617 c0_i32_3357
  let c0_i32_3358 : BitVec 32 := 0#32
  let v3620 : BitVec 1 := Scalar.cmpi .slt v3616 c0_i32_3358
  let v3621 : BitVec 1 := Scalar.xori v3619 v3620
  let c0_i32_3356 : BitVec 32 := 0#32
  let v3618 : BitVec 1 := Scalar.cmpi .ne v3617 c0_i32_3356
  let v3622 : BitVec 1 := Scalar.andi v3621 v3618
  let v3623 : BitVec 32 := Scalar.addi v3617 v3616
  let v3624 : BitVec 32 := Scalar.select v3622 v3623 v3617
  let v3640 : BitVec 32 := Scalar.muli c8_i32_3368 v3624
  let c2_i32_3359 : BitVec 32 := 2#32
  let c8_i32_3295 : BitVec 32 := 8#32
  let c0_i32_3296 : BitVec 32 := 0#32
  let v3517 : BitVec 1 := Scalar.cmpi .eq c8_i32_3295 c0_i32_3296
  let c1_i32_3297 : BitVec 32 := 1#32
  let v3518 : BitVec 32 := Scalar.select v3517 c1_i32_3297 c8_i32_3295
  let v3519 : BitVec 32 := Scalar.remsi v2 v3518
  let c0_i32_3299 : BitVec 32 := 0#32
  let v3521 : BitVec 1 := Scalar.cmpi .slt v3519 c0_i32_3299
  let c0_i32_3300 : BitVec 32 := 0#32
  let v3522 : BitVec 1 := Scalar.cmpi .slt v3518 c0_i32_3300
  let v3523 : BitVec 1 := Scalar.xori v3521 v3522
  let c0_i32_3298 : BitVec 32 := 0#32
  let v3520 : BitVec 1 := Scalar.cmpi .ne v3519 c0_i32_3298
  let v3524 : BitVec 1 := Scalar.andi v3523 v3520
  let v3525 : BitVec 32 := Scalar.addi v3519 v3518
  let v3526 : BitVec 32 := Scalar.select v3524 v3525 v3519
  let c0_i32_3302 : BitVec 32 := 0#32
  let v3528 : BitVec 1 := Scalar.cmpi .sgt v3526 c0_i32_3302
  let v3529 : BitVec 32 := Scalar.extui v3528
  let c0_i32_3303 : BitVec 32 := 0#32
  let v3530 : BitVec 1 := Scalar.cmpi .slt v3526 c0_i32_3303
  let v3531 : BitVec 32 := Scalar.extui v3530
  let v3532 : BitVec 32 := Scalar.subi v3529 v3531
  let c2_i32_3301 : BitVec 32 := 2#32
  let c0_i32_3304 : BitVec 32 := 0#32
  let v3533 : BitVec 1 := Scalar.cmpi .sgt c2_i32_3301 c0_i32_3304
  let v3534 : BitVec 32 := Scalar.extui v3533
  let c0_i32_3305 : BitVec 32 := 0#32
  let v3535 : BitVec 1 := Scalar.cmpi .slt c2_i32_3301 c0_i32_3305
  let v3536 : BitVec 32 := Scalar.extui v3535
  let v3537 : BitVec 32 := Scalar.subi v3534 v3536
  let v3538 : BitVec 1 := Scalar.cmpi .ne v3532 v3537
  let v3539 : BitVec 32 := Scalar.remsi v3526 c2_i32_3301
  let c0_i32_3306 : BitVec 32 := 0#32
  let v3540 : BitVec 1 := Scalar.cmpi .ne v3539 c0_i32_3306
  let v3541 : BitVec 1 := Scalar.andi v3538 v3540
  let v3527 : BitVec 32 := Scalar.divsi v3526 c2_i32_3301
  let c1_i32_3307 : BitVec 32 := 1#32
  let v3542 : BitVec 32 := Scalar.subi v3527 c1_i32_3307
  let v3543 : BitVec 32 := Scalar.select v3541 v3542 v3527
  let v3625 : BitVec 32 := Scalar.muli c2_i32_3359 v3543
  let c2_i32_3360 : BitVec 32 := 2#32
  let c0_i32_3361 : BitVec 32 := 0#32
  let v3626 : BitVec 1 := Scalar.cmpi .eq c2_i32_3360 c0_i32_3361
  let c1_i32_3362 : BitVec 32 := 1#32
  let v3627 : BitVec 32 := Scalar.select v3626 c1_i32_3362 c2_i32_3360
  let v3628 : BitVec 32 := Scalar.remsi v3543 v3627
  let c0_i32_3364 : BitVec 32 := 0#32
  let v3630 : BitVec 1 := Scalar.cmpi .slt v3628 c0_i32_3364
  let c0_i32_3365 : BitVec 32 := 0#32
  let v3631 : BitVec 1 := Scalar.cmpi .slt v3627 c0_i32_3365
  let v3632 : BitVec 1 := Scalar.xori v3630 v3631
  let c0_i32_3363 : BitVec 32 := 0#32
  let v3629 : BitVec 1 := Scalar.cmpi .ne v3628 c0_i32_3363
  let v3633 : BitVec 1 := Scalar.andi v3632 v3629
  let v3634 : BitVec 32 := Scalar.addi v3628 v3627
  let v3635 : BitVec 32 := Scalar.select v3633 v3634 v3628
  let c0_i32_3366 : BitVec 32 := 0#32
  let v3636 : BitVec 1 := Scalar.cmpi .eq v3635 c0_i32_3366
  let c4_i32_3308 : BitVec 32 := 4#32
  let c0_i32_3309 : BitVec 32 := 0#32
  let v3544 : BitVec 1 := Scalar.cmpi .eq c4_i32_3308 c0_i32_3309
  let c1_i32_3310 : BitVec 32 := 1#32
  let v3545 : BitVec 32 := Scalar.select v3544 c1_i32_3310 c4_i32_3308
  let v3546 : BitVec 32 := Scalar.remsi v3526 v3545
  let c0_i32_3312 : BitVec 32 := 0#32
  let v3548 : BitVec 1 := Scalar.cmpi .slt v3546 c0_i32_3312
  let c0_i32_3313 : BitVec 32 := 0#32
  let v3549 : BitVec 1 := Scalar.cmpi .slt v3545 c0_i32_3313
  let v3550 : BitVec 1 := Scalar.xori v3548 v3549
  let c0_i32_3311 : BitVec 32 := 0#32
  let v3547 : BitVec 1 := Scalar.cmpi .ne v3546 c0_i32_3311
  let v3551 : BitVec 1 := Scalar.andi v3550 v3547
  let v3552 : BitVec 32 := Scalar.addi v3546 v3545
  let v3553 : BitVec 32 := Scalar.select v3551 v3552 v3546
  let c1_i32_3314 : BitVec 32 := 1#32
  let v3554 : BitVec 1 := Scalar.cmpi .eq v3553 c1_i32_3314
  let c2_i32_3315 : BitVec 32 := 2#32
  let v3555 : BitVec 1 := Scalar.cmpi .eq v3553 c2_i32_3315
  let v3556 : BitVec 1 := Scalar.ori v3554 v3555
  let c1_i32_3316 : BitVec 32 := 1#32
  let c0_i32_3317 : BitVec 32 := 0#32
  let v3557 : BitVec 32 := Scalar.select v3556 c1_i32_3316 c0_i32_3317
  let c1_i32_3367 : BitVec 32 := 1#32
  let v3637 : BitVec 32 := Scalar.subi c1_i32_3367 v3557
  let v3638 : BitVec 32 := Scalar.select v3636 v3557 v3637
  let v3639 : BitVec 32 := Scalar.addi v3625 v3638
  let v3641 : BitVec 32 := Scalar.addi v3640 v3639
  let c1_i32_3411 : BitVec 32 := 1#32
  let v3662 : BitVec 32 := Scalar.muli v3641 c1_i32_3411
  let v3663 : BitVec 32 := Scalar.addi c0_i32_3412 v3662
  v3663.toNat
def k0_dev50 (d0 : Dev nD) : Nat :=
  let c0_i32_3583 : BitVec 32 := 0#32
  let c8_i32_3571 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3532 : BitVec 32 := 0#32
  let v3729 : BitVec 1 := Scalar.cmpi .sgt v2 c0_i32_3532
  let v3730 : BitVec 32 := Scalar.extui v3729
  let c0_i32_3533 : BitVec 32 := 0#32
  let v3731 : BitVec 1 := Scalar.cmpi .slt v2 c0_i32_3533
  let v3732 : BitVec 32 := Scalar.extui v3731
  let v3733 : BitVec 32 := Scalar.subi v3730 v3732
  let c8_i32_3531 : BitVec 32 := 8#32
  let c0_i32_3534 : BitVec 32 := 0#32
  let v3734 : BitVec 1 := Scalar.cmpi .sgt c8_i32_3531 c0_i32_3534
  let v3735 : BitVec 32 := Scalar.extui v3734
  let c0_i32_3535 : BitVec 32 := 0#32
  let v3736 : BitVec 1 := Scalar.cmpi .slt c8_i32_3531 c0_i32_3535
  let v3737 : BitVec 32 := Scalar.extui v3736
  let v3738 : BitVec 32 := Scalar.subi v3735 v3737
  let v3739 : BitVec 1 := Scalar.cmpi .ne v3733 v3738
  let v3740 : BitVec 32 := Scalar.remsi v2 c8_i32_3531
  let c0_i32_3536 : BitVec 32 := 0#32
  let v3741 : BitVec 1 := Scalar.cmpi .ne v3740 c0_i32_3536
  let v3742 : BitVec 1 := Scalar.andi v3739 v3741
  let v3728 : BitVec 32 := Scalar.divsi v2 c8_i32_3531
  let c1_i32_3537 : BitVec 32 := 1#32
  let v3743 : BitVec 32 := Scalar.subi v3728 c1_i32_3537
  let v3744 : BitVec 32 := Scalar.select v3742 v3743 v3728
  let v3802 : BitVec 32 := Scalar.muli c8_i32_3571 v3744
  let c2_i32_3562 : BitVec 32 := 2#32
  let c8_i32_3538 : BitVec 32 := 8#32
  let c0_i32_3539 : BitVec 32 := 0#32
  let v3745 : BitVec 1 := Scalar.cmpi .eq c8_i32_3538 c0_i32_3539
  let c1_i32_3540 : BitVec 32 := 1#32
  let v3746 : BitVec 32 := Scalar.select v3745 c1_i32_3540 c8_i32_3538
  let v3747 : BitVec 32 := Scalar.remsi v2 v3746
  let c0_i32_3542 : BitVec 32 := 0#32
  let v3749 : BitVec 1 := Scalar.cmpi .slt v3747 c0_i32_3542
  let c0_i32_3543 : BitVec 32 := 0#32
  let v3750 : BitVec 1 := Scalar.cmpi .slt v3746 c0_i32_3543
  let v3751 : BitVec 1 := Scalar.xori v3749 v3750
  let c0_i32_3541 : BitVec 32 := 0#32
  let v3748 : BitVec 1 := Scalar.cmpi .ne v3747 c0_i32_3541
  let v3752 : BitVec 1 := Scalar.andi v3751 v3748
  let v3753 : BitVec 32 := Scalar.addi v3747 v3746
  let v3754 : BitVec 32 := Scalar.select v3752 v3753 v3747
  let c0_i32_3545 : BitVec 32 := 0#32
  let v3756 : BitVec 1 := Scalar.cmpi .sgt v3754 c0_i32_3545
  let v3757 : BitVec 32 := Scalar.extui v3756
  let c0_i32_3546 : BitVec 32 := 0#32
  let v3758 : BitVec 1 := Scalar.cmpi .slt v3754 c0_i32_3546
  let v3759 : BitVec 32 := Scalar.extui v3758
  let v3760 : BitVec 32 := Scalar.subi v3757 v3759
  let c2_i32_3544 : BitVec 32 := 2#32
  let c0_i32_3547 : BitVec 32 := 0#32
  let v3761 : BitVec 1 := Scalar.cmpi .sgt c2_i32_3544 c0_i32_3547
  let v3762 : BitVec 32 := Scalar.extui v3761
  let c0_i32_3548 : BitVec 32 := 0#32
  let v3763 : BitVec 1 := Scalar.cmpi .slt c2_i32_3544 c0_i32_3548
  let v3764 : BitVec 32 := Scalar.extui v3763
  let v3765 : BitVec 32 := Scalar.subi v3762 v3764
  let v3766 : BitVec 1 := Scalar.cmpi .ne v3760 v3765
  let v3767 : BitVec 32 := Scalar.remsi v3754 c2_i32_3544
  let c0_i32_3549 : BitVec 32 := 0#32
  let v3768 : BitVec 1 := Scalar.cmpi .ne v3767 c0_i32_3549
  let v3769 : BitVec 1 := Scalar.andi v3766 v3768
  let v3755 : BitVec 32 := Scalar.divsi v3754 c2_i32_3544
  let c1_i32_3550 : BitVec 32 := 1#32
  let v3770 : BitVec 32 := Scalar.subi v3755 c1_i32_3550
  let v3771 : BitVec 32 := Scalar.select v3769 v3770 v3755
  let v3787 : BitVec 32 := Scalar.muli c2_i32_3562 v3771
  let c2_i32_3563 : BitVec 32 := 2#32
  let c0_i32_3564 : BitVec 32 := 0#32
  let v3788 : BitVec 1 := Scalar.cmpi .eq c2_i32_3563 c0_i32_3564
  let c1_i32_3565 : BitVec 32 := 1#32
  let v3789 : BitVec 32 := Scalar.select v3788 c1_i32_3565 c2_i32_3563
  let v3790 : BitVec 32 := Scalar.remsi v3771 v3789
  let c0_i32_3567 : BitVec 32 := 0#32
  let v3792 : BitVec 1 := Scalar.cmpi .slt v3790 c0_i32_3567
  let c0_i32_3568 : BitVec 32 := 0#32
  let v3793 : BitVec 1 := Scalar.cmpi .slt v3789 c0_i32_3568
  let v3794 : BitVec 1 := Scalar.xori v3792 v3793
  let c0_i32_3566 : BitVec 32 := 0#32
  let v3791 : BitVec 1 := Scalar.cmpi .ne v3790 c0_i32_3566
  let v3795 : BitVec 1 := Scalar.andi v3794 v3791
  let v3796 : BitVec 32 := Scalar.addi v3790 v3789
  let v3797 : BitVec 32 := Scalar.select v3795 v3796 v3790
  let c0_i32_3569 : BitVec 32 := 0#32
  let v3798 : BitVec 1 := Scalar.cmpi .eq v3797 c0_i32_3569
  let c1_i32_3561 : BitVec 32 := 1#32
  let c4_i32_3551 : BitVec 32 := 4#32
  let c0_i32_3552 : BitVec 32 := 0#32
  let v3772 : BitVec 1 := Scalar.cmpi .eq c4_i32_3551 c0_i32_3552
  let c1_i32_3553 : BitVec 32 := 1#32
  let v3773 : BitVec 32 := Scalar.select v3772 c1_i32_3553 c4_i32_3551
  let v3774 : BitVec 32 := Scalar.remsi v3754 v3773
  let c0_i32_3555 : BitVec 32 := 0#32
  let v3776 : BitVec 1 := Scalar.cmpi .slt v3774 c0_i32_3555
  let c0_i32_3556 : BitVec 32 := 0#32
  let v3777 : BitVec 1 := Scalar.cmpi .slt v3773 c0_i32_3556
  let v3778 : BitVec 1 := Scalar.xori v3776 v3777
  let c0_i32_3554 : BitVec 32 := 0#32
  let v3775 : BitVec 1 := Scalar.cmpi .ne v3774 c0_i32_3554
  let v3779 : BitVec 1 := Scalar.andi v3778 v3775
  let v3780 : BitVec 32 := Scalar.addi v3774 v3773
  let v3781 : BitVec 32 := Scalar.select v3779 v3780 v3774
  let c1_i32_3557 : BitVec 32 := 1#32
  let v3782 : BitVec 1 := Scalar.cmpi .eq v3781 c1_i32_3557
  let c2_i32_3558 : BitVec 32 := 2#32
  let v3783 : BitVec 1 := Scalar.cmpi .eq v3781 c2_i32_3558
  let v3784 : BitVec 1 := Scalar.ori v3782 v3783
  let c1_i32_3559 : BitVec 32 := 1#32
  let c0_i32_3560 : BitVec 32 := 0#32
  let v3785 : BitVec 32 := Scalar.select v3784 c1_i32_3559 c0_i32_3560
  let v3786 : BitVec 32 := Scalar.subi c1_i32_3561 v3785
  let c1_i32_3570 : BitVec 32 := 1#32
  let v3799 : BitVec 32 := Scalar.subi c1_i32_3570 v3786
  let v3800 : BitVec 32 := Scalar.select v3798 v3786 v3799
  let v3801 : BitVec 32 := Scalar.addi v3787 v3800
  let v3803 : BitVec 32 := Scalar.addi v3802 v3801
  let c1_i32_3582 : BitVec 32 := 1#32
  let v3804 : BitVec 32 := Scalar.muli v3803 c1_i32_3582
  let v3805 : BitVec 32 := Scalar.addi c0_i32_3583 v3804
  v3805.toNat
def k0_dev51 (d0 : Dev nD) : Nat :=
  let c0_i32_3722 : BitVec 32 := 0#32
  let c8_i32_3676 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3631 : BitVec 32 := 0#32
  let v3837 : BitVec 1 := Scalar.cmpi .sgt v2 c0_i32_3631
  let v3838 : BitVec 32 := Scalar.extui v3837
  let c0_i32_3632 : BitVec 32 := 0#32
  let v3839 : BitVec 1 := Scalar.cmpi .slt v2 c0_i32_3632
  let v3840 : BitVec 32 := Scalar.extui v3839
  let v3841 : BitVec 32 := Scalar.subi v3838 v3840
  let c8_i32_3630 : BitVec 32 := 8#32
  let c0_i32_3633 : BitVec 32 := 0#32
  let v3842 : BitVec 1 := Scalar.cmpi .sgt c8_i32_3630 c0_i32_3633
  let v3843 : BitVec 32 := Scalar.extui v3842
  let c0_i32_3634 : BitVec 32 := 0#32
  let v3844 : BitVec 1 := Scalar.cmpi .slt c8_i32_3630 c0_i32_3634
  let v3845 : BitVec 32 := Scalar.extui v3844
  let v3846 : BitVec 32 := Scalar.subi v3843 v3845
  let v3847 : BitVec 1 := Scalar.cmpi .ne v3841 v3846
  let v3848 : BitVec 32 := Scalar.remsi v2 c8_i32_3630
  let c0_i32_3635 : BitVec 32 := 0#32
  let v3849 : BitVec 1 := Scalar.cmpi .ne v3848 c0_i32_3635
  let v3850 : BitVec 1 := Scalar.andi v3847 v3849
  let v3836 : BitVec 32 := Scalar.divsi v2 c8_i32_3630
  let c1_i32_3636 : BitVec 32 := 1#32
  let v3851 : BitVec 32 := Scalar.subi v3836 c1_i32_3636
  let v3852 : BitVec 32 := Scalar.select v3850 v3851 v3836
  let v3920 : BitVec 32 := Scalar.muli c8_i32_3676 v3852
  let c2_i32_3667 : BitVec 32 := 2#32
  let c8_i32_3637 : BitVec 32 := 8#32
  let c0_i32_3638 : BitVec 32 := 0#32
  let v3853 : BitVec 1 := Scalar.cmpi .eq c8_i32_3637 c0_i32_3638
  let c1_i32_3639 : BitVec 32 := 1#32
  let v3854 : BitVec 32 := Scalar.select v3853 c1_i32_3639 c8_i32_3637
  let v3855 : BitVec 32 := Scalar.remsi v2 v3854
  let c0_i32_3641 : BitVec 32 := 0#32
  let v3857 : BitVec 1 := Scalar.cmpi .slt v3855 c0_i32_3641
  let c0_i32_3642 : BitVec 32 := 0#32
  let v3858 : BitVec 1 := Scalar.cmpi .slt v3854 c0_i32_3642
  let v3859 : BitVec 1 := Scalar.xori v3857 v3858
  let c0_i32_3640 : BitVec 32 := 0#32
  let v3856 : BitVec 1 := Scalar.cmpi .ne v3855 c0_i32_3640
  let v3860 : BitVec 1 := Scalar.andi v3859 v3856
  let v3861 : BitVec 32 := Scalar.addi v3855 v3854
  let v3862 : BitVec 32 := Scalar.select v3860 v3861 v3855
  let c0_i32_3644 : BitVec 32 := 0#32
  let v3864 : BitVec 1 := Scalar.cmpi .sgt v3862 c0_i32_3644
  let v3865 : BitVec 32 := Scalar.extui v3864
  let c0_i32_3645 : BitVec 32 := 0#32
  let v3866 : BitVec 1 := Scalar.cmpi .slt v3862 c0_i32_3645
  let v3867 : BitVec 32 := Scalar.extui v3866
  let v3868 : BitVec 32 := Scalar.subi v3865 v3867
  let c2_i32_3643 : BitVec 32 := 2#32
  let c0_i32_3646 : BitVec 32 := 0#32
  let v3869 : BitVec 1 := Scalar.cmpi .sgt c2_i32_3643 c0_i32_3646
  let v3870 : BitVec 32 := Scalar.extui v3869
  let c0_i32_3647 : BitVec 32 := 0#32
  let v3871 : BitVec 1 := Scalar.cmpi .slt c2_i32_3643 c0_i32_3647
  let v3872 : BitVec 32 := Scalar.extui v3871
  let v3873 : BitVec 32 := Scalar.subi v3870 v3872
  let v3874 : BitVec 1 := Scalar.cmpi .ne v3868 v3873
  let v3875 : BitVec 32 := Scalar.remsi v3862 c2_i32_3643
  let c0_i32_3648 : BitVec 32 := 0#32
  let v3876 : BitVec 1 := Scalar.cmpi .ne v3875 c0_i32_3648
  let v3877 : BitVec 1 := Scalar.andi v3874 v3876
  let v3863 : BitVec 32 := Scalar.divsi v3862 c2_i32_3643
  let c1_i32_3649 : BitVec 32 := 1#32
  let v3878 : BitVec 32 := Scalar.subi v3863 c1_i32_3649
  let v3879 : BitVec 32 := Scalar.select v3877 v3878 v3863
  let c1_i32_3660 : BitVec 32 := 1#32
  let v3894 : BitVec 32 := Scalar.addi v3879 c1_i32_3660
  let c4_i32_3661 : BitVec 32 := 4#32
  let c0_i32_3662 : BitVec 32 := 0#32
  let v3895 : BitVec 1 := Scalar.cmpi .eq c4_i32_3661 c0_i32_3662
  let c1_i32_3663 : BitVec 32 := 1#32
  let v3896 : BitVec 32 := Scalar.select v3895 c1_i32_3663 c4_i32_3661
  let v3897 : BitVec 32 := Scalar.remsi v3894 v3896
  let c0_i32_3665 : BitVec 32 := 0#32
  let v3899 : BitVec 1 := Scalar.cmpi .slt v3897 c0_i32_3665
  let c0_i32_3666 : BitVec 32 := 0#32
  let v3900 : BitVec 1 := Scalar.cmpi .slt v3896 c0_i32_3666
  let v3901 : BitVec 1 := Scalar.xori v3899 v3900
  let c0_i32_3664 : BitVec 32 := 0#32
  let v3898 : BitVec 1 := Scalar.cmpi .ne v3897 c0_i32_3664
  let v3902 : BitVec 1 := Scalar.andi v3901 v3898
  let v3903 : BitVec 32 := Scalar.addi v3897 v3896
  let v3904 : BitVec 32 := Scalar.select v3902 v3903 v3897
  let v3905 : BitVec 32 := Scalar.muli c2_i32_3667 v3904
  let c2_i32_3668 : BitVec 32 := 2#32
  let c0_i32_3669 : BitVec 32 := 0#32
  let v3906 : BitVec 1 := Scalar.cmpi .eq c2_i32_3668 c0_i32_3669
  let c1_i32_3670 : BitVec 32 := 1#32
  let v3907 : BitVec 32 := Scalar.select v3906 c1_i32_3670 c2_i32_3668
  let v3908 : BitVec 32 := Scalar.remsi v3904 v3907
  let c0_i32_3672 : BitVec 32 := 0#32
  let v3910 : BitVec 1 := Scalar.cmpi .slt v3908 c0_i32_3672
  let c0_i32_3673 : BitVec 32 := 0#32
  let v3911 : BitVec 1 := Scalar.cmpi .slt v3907 c0_i32_3673
  let v3912 : BitVec 1 := Scalar.xori v3910 v3911
  let c0_i32_3671 : BitVec 32 := 0#32
  let v3909 : BitVec 1 := Scalar.cmpi .ne v3908 c0_i32_3671
  let v3913 : BitVec 1 := Scalar.andi v3912 v3909
  let v3914 : BitVec 32 := Scalar.addi v3908 v3907
  let v3915 : BitVec 32 := Scalar.select v3913 v3914 v3908
  let c0_i32_3674 : BitVec 32 := 0#32
  let v3916 : BitVec 1 := Scalar.cmpi .eq v3915 c0_i32_3674
  let c4_i32_3650 : BitVec 32 := 4#32
  let c0_i32_3651 : BitVec 32 := 0#32
  let v3880 : BitVec 1 := Scalar.cmpi .eq c4_i32_3650 c0_i32_3651
  let c1_i32_3652 : BitVec 32 := 1#32
  let v3881 : BitVec 32 := Scalar.select v3880 c1_i32_3652 c4_i32_3650
  let v3882 : BitVec 32 := Scalar.remsi v3862 v3881
  let c0_i32_3654 : BitVec 32 := 0#32
  let v3884 : BitVec 1 := Scalar.cmpi .slt v3882 c0_i32_3654
  let c0_i32_3655 : BitVec 32 := 0#32
  let v3885 : BitVec 1 := Scalar.cmpi .slt v3881 c0_i32_3655
  let v3886 : BitVec 1 := Scalar.xori v3884 v3885
  let c0_i32_3653 : BitVec 32 := 0#32
  let v3883 : BitVec 1 := Scalar.cmpi .ne v3882 c0_i32_3653
  let v3887 : BitVec 1 := Scalar.andi v3886 v3883
  let v3888 : BitVec 32 := Scalar.addi v3882 v3881
  let v3889 : BitVec 32 := Scalar.select v3887 v3888 v3882
  let c1_i32_3656 : BitVec 32 := 1#32
  let v3890 : BitVec 1 := Scalar.cmpi .eq v3889 c1_i32_3656
  let c2_i32_3657 : BitVec 32 := 2#32
  let v3891 : BitVec 1 := Scalar.cmpi .eq v3889 c2_i32_3657
  let v3892 : BitVec 1 := Scalar.ori v3890 v3891
  let c1_i32_3658 : BitVec 32 := 1#32
  let c0_i32_3659 : BitVec 32 := 0#32
  let v3893 : BitVec 32 := Scalar.select v3892 c1_i32_3658 c0_i32_3659
  let c1_i32_3675 : BitVec 32 := 1#32
  let v3917 : BitVec 32 := Scalar.subi c1_i32_3675 v3893
  let v3918 : BitVec 32 := Scalar.select v3916 v3893 v3917
  let v3919 : BitVec 32 := Scalar.addi v3905 v3918
  let v3921 : BitVec 32 := Scalar.addi v3920 v3919
  let c1_i32_3721 : BitVec 32 := 1#32
  let v3978 : BitVec 32 := Scalar.muli v3921 c1_i32_3721
  let v3979 : BitVec 32 := Scalar.addi c0_i32_3722 v3978
  v3979.toNat
def k0_dev52 (d0 : Dev nD) : Nat :=
  let c0_i32_3738 : BitVec 32 := 0#32
  let c8_i32_3693 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3631 : BitVec 32 := 0#32
  let v3837 : BitVec 1 := Scalar.cmpi .sgt v2 c0_i32_3631
  let v3838 : BitVec 32 := Scalar.extui v3837
  let c0_i32_3632 : BitVec 32 := 0#32
  let v3839 : BitVec 1 := Scalar.cmpi .slt v2 c0_i32_3632
  let v3840 : BitVec 32 := Scalar.extui v3839
  let v3841 : BitVec 32 := Scalar.subi v3838 v3840
  let c8_i32_3630 : BitVec 32 := 8#32
  let c0_i32_3633 : BitVec 32 := 0#32
  let v3842 : BitVec 1 := Scalar.cmpi .sgt c8_i32_3630 c0_i32_3633
  let v3843 : BitVec 32 := Scalar.extui v3842
  let c0_i32_3634 : BitVec 32 := 0#32
  let v3844 : BitVec 1 := Scalar.cmpi .slt c8_i32_3630 c0_i32_3634
  let v3845 : BitVec 32 := Scalar.extui v3844
  let v3846 : BitVec 32 := Scalar.subi v3843 v3845
  let v3847 : BitVec 1 := Scalar.cmpi .ne v3841 v3846
  let v3848 : BitVec 32 := Scalar.remsi v2 c8_i32_3630
  let c0_i32_3635 : BitVec 32 := 0#32
  let v3849 : BitVec 1 := Scalar.cmpi .ne v3848 c0_i32_3635
  let v3850 : BitVec 1 := Scalar.andi v3847 v3849
  let v3836 : BitVec 32 := Scalar.divsi v2 c8_i32_3630
  let c1_i32_3636 : BitVec 32 := 1#32
  let v3851 : BitVec 32 := Scalar.subi v3836 c1_i32_3636
  let v3852 : BitVec 32 := Scalar.select v3850 v3851 v3836
  let v3948 : BitVec 32 := Scalar.muli c8_i32_3693 v3852
  let c2_i32_3684 : BitVec 32 := 2#32
  let c8_i32_3637 : BitVec 32 := 8#32
  let c0_i32_3638 : BitVec 32 := 0#32
  let v3853 : BitVec 1 := Scalar.cmpi .eq c8_i32_3637 c0_i32_3638
  let c1_i32_3639 : BitVec 32 := 1#32
  let v3854 : BitVec 32 := Scalar.select v3853 c1_i32_3639 c8_i32_3637
  let v3855 : BitVec 32 := Scalar.remsi v2 v3854
  let c0_i32_3641 : BitVec 32 := 0#32
  let v3857 : BitVec 1 := Scalar.cmpi .slt v3855 c0_i32_3641
  let c0_i32_3642 : BitVec 32 := 0#32
  let v3858 : BitVec 1 := Scalar.cmpi .slt v3854 c0_i32_3642
  let v3859 : BitVec 1 := Scalar.xori v3857 v3858
  let c0_i32_3640 : BitVec 32 := 0#32
  let v3856 : BitVec 1 := Scalar.cmpi .ne v3855 c0_i32_3640
  let v3860 : BitVec 1 := Scalar.andi v3859 v3856
  let v3861 : BitVec 32 := Scalar.addi v3855 v3854
  let v3862 : BitVec 32 := Scalar.select v3860 v3861 v3855
  let c0_i32_3644 : BitVec 32 := 0#32
  let v3864 : BitVec 1 := Scalar.cmpi .sgt v3862 c0_i32_3644
  let v3865 : BitVec 32 := Scalar.extui v3864
  let c0_i32_3645 : BitVec 32 := 0#32
  let v3866 : BitVec 1 := Scalar.cmpi .slt v3862 c0_i32_3645
  let v3867 : BitVec 32 := Scalar.extui v3866
  let v3868 : BitVec 32 := Scalar.subi v3865 v3867
  let c2_i32_3643 : BitVec 32 := 2#32
  let c0_i32_3646 : BitVec 32 := 0#32
  let v3869 : BitVec 1 := Scalar.cmpi .sgt c2_i32_3643 c0_i32_3646
  let v3870 : BitVec 32 := Scalar.extui v3869
  let c0_i32_3647 : BitVec 32 := 0#32
  let v3871 : BitVec 1 := Scalar.cmpi .slt c2_i32_3643 c0_i32_3647
  let v3872 : BitVec 32 := Scalar.extui v3871
  let v3873 : BitVec 32 := Scalar.subi v3870 v3872
  let v3874 : BitVec 1 := Scalar.cmpi .ne v3868 v3873
  let v3875 : BitVec 32 := Scalar.remsi v3862 c2_i32_3643
  let c0_i32_3648 : BitVec 32 := 0#32
  let v3876 : BitVec 1 := Scalar.cmpi .ne v3875 c0_i32_3648
  let v3877 : BitVec 1 := Scalar.andi v3874 v3876
  let v3863 : BitVec 32 := Scalar.divsi v3862 c2_i32_3643
  let c1_i32_3649 : BitVec 32 := 1#32
  let v3878 : BitVec 32 := Scalar.subi v3863 c1_i32_3649
  let v3879 : BitVec 32 := Scalar.select v3877 v3878 v3863
  let c2_i32_3677 : BitVec 32 := 2#32
  let v3922 : BitVec 32 := Scalar.addi v3879 c2_i32_3677
  let c4_i32_3678 : BitVec 32 := 4#32
  let c0_i32_3679 : BitVec 32 := 0#32
  let v3923 : BitVec 1 := Scalar.cmpi .eq c4_i32_3678 c0_i32_3679
  let c1_i32_3680 : BitVec 32 := 1#32
  let v3924 : BitVec 32 := Scalar.select v3923 c1_i32_3680 c4_i32_3678
  let v3925 : BitVec 32 := Scalar.remsi v3922 v3924
  let c0_i32_3682 : BitVec 32 := 0#32
  let v3927 : BitVec 1 := Scalar.cmpi .slt v3925 c0_i32_3682
  let c0_i32_3683 : BitVec 32 := 0#32
  let v3928 : BitVec 1 := Scalar.cmpi .slt v3924 c0_i32_3683
  let v3929 : BitVec 1 := Scalar.xori v3927 v3928
  let c0_i32_3681 : BitVec 32 := 0#32
  let v3926 : BitVec 1 := Scalar.cmpi .ne v3925 c0_i32_3681
  let v3930 : BitVec 1 := Scalar.andi v3929 v3926
  let v3931 : BitVec 32 := Scalar.addi v3925 v3924
  let v3932 : BitVec 32 := Scalar.select v3930 v3931 v3925
  let v3933 : BitVec 32 := Scalar.muli c2_i32_3684 v3932
  let c2_i32_3685 : BitVec 32 := 2#32
  let c0_i32_3686 : BitVec 32 := 0#32
  let v3934 : BitVec 1 := Scalar.cmpi .eq c2_i32_3685 c0_i32_3686
  let c1_i32_3687 : BitVec 32 := 1#32
  let v3935 : BitVec 32 := Scalar.select v3934 c1_i32_3687 c2_i32_3685
  let v3936 : BitVec 32 := Scalar.remsi v3932 v3935
  let c0_i32_3689 : BitVec 32 := 0#32
  let v3938 : BitVec 1 := Scalar.cmpi .slt v3936 c0_i32_3689
  let c0_i32_3690 : BitVec 32 := 0#32
  let v3939 : BitVec 1 := Scalar.cmpi .slt v3935 c0_i32_3690
  let v3940 : BitVec 1 := Scalar.xori v3938 v3939
  let c0_i32_3688 : BitVec 32 := 0#32
  let v3937 : BitVec 1 := Scalar.cmpi .ne v3936 c0_i32_3688
  let v3941 : BitVec 1 := Scalar.andi v3940 v3937
  let v3942 : BitVec 32 := Scalar.addi v3936 v3935
  let v3943 : BitVec 32 := Scalar.select v3941 v3942 v3936
  let c0_i32_3691 : BitVec 32 := 0#32
  let v3944 : BitVec 1 := Scalar.cmpi .eq v3943 c0_i32_3691
  let c4_i32_3650 : BitVec 32 := 4#32
  let c0_i32_3651 : BitVec 32 := 0#32
  let v3880 : BitVec 1 := Scalar.cmpi .eq c4_i32_3650 c0_i32_3651
  let c1_i32_3652 : BitVec 32 := 1#32
  let v3881 : BitVec 32 := Scalar.select v3880 c1_i32_3652 c4_i32_3650
  let v3882 : BitVec 32 := Scalar.remsi v3862 v3881
  let c0_i32_3654 : BitVec 32 := 0#32
  let v3884 : BitVec 1 := Scalar.cmpi .slt v3882 c0_i32_3654
  let c0_i32_3655 : BitVec 32 := 0#32
  let v3885 : BitVec 1 := Scalar.cmpi .slt v3881 c0_i32_3655
  let v3886 : BitVec 1 := Scalar.xori v3884 v3885
  let c0_i32_3653 : BitVec 32 := 0#32
  let v3883 : BitVec 1 := Scalar.cmpi .ne v3882 c0_i32_3653
  let v3887 : BitVec 1 := Scalar.andi v3886 v3883
  let v3888 : BitVec 32 := Scalar.addi v3882 v3881
  let v3889 : BitVec 32 := Scalar.select v3887 v3888 v3882
  let c1_i32_3656 : BitVec 32 := 1#32
  let v3890 : BitVec 1 := Scalar.cmpi .eq v3889 c1_i32_3656
  let c2_i32_3657 : BitVec 32 := 2#32
  let v3891 : BitVec 1 := Scalar.cmpi .eq v3889 c2_i32_3657
  let v3892 : BitVec 1 := Scalar.ori v3890 v3891
  let c1_i32_3658 : BitVec 32 := 1#32
  let c0_i32_3659 : BitVec 32 := 0#32
  let v3893 : BitVec 32 := Scalar.select v3892 c1_i32_3658 c0_i32_3659
  let c1_i32_3692 : BitVec 32 := 1#32
  let v3945 : BitVec 32 := Scalar.subi c1_i32_3692 v3893
  let v3946 : BitVec 32 := Scalar.select v3944 v3893 v3945
  let v3947 : BitVec 32 := Scalar.addi v3933 v3946
  let v3949 : BitVec 32 := Scalar.addi v3948 v3947
  let c1_i32_3737 : BitVec 32 := 1#32
  let v3988 : BitVec 32 := Scalar.muli v3949 c1_i32_3737
  let v3989 : BitVec 32 := Scalar.addi c0_i32_3738 v3988
  v3989.toNat
def k0_dev53 (d0 : Dev nD) : Nat :=
  let c0_i32_3754 : BitVec 32 := 0#32
  let c8_i32_3710 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3631 : BitVec 32 := 0#32
  let v3837 : BitVec 1 := Scalar.cmpi .sgt v2 c0_i32_3631
  let v3838 : BitVec 32 := Scalar.extui v3837
  let c0_i32_3632 : BitVec 32 := 0#32
  let v3839 : BitVec 1 := Scalar.cmpi .slt v2 c0_i32_3632
  let v3840 : BitVec 32 := Scalar.extui v3839
  let v3841 : BitVec 32 := Scalar.subi v3838 v3840
  let c8_i32_3630 : BitVec 32 := 8#32
  let c0_i32_3633 : BitVec 32 := 0#32
  let v3842 : BitVec 1 := Scalar.cmpi .sgt c8_i32_3630 c0_i32_3633
  let v3843 : BitVec 32 := Scalar.extui v3842
  let c0_i32_3634 : BitVec 32 := 0#32
  let v3844 : BitVec 1 := Scalar.cmpi .slt c8_i32_3630 c0_i32_3634
  let v3845 : BitVec 32 := Scalar.extui v3844
  let v3846 : BitVec 32 := Scalar.subi v3843 v3845
  let v3847 : BitVec 1 := Scalar.cmpi .ne v3841 v3846
  let v3848 : BitVec 32 := Scalar.remsi v2 c8_i32_3630
  let c0_i32_3635 : BitVec 32 := 0#32
  let v3849 : BitVec 1 := Scalar.cmpi .ne v3848 c0_i32_3635
  let v3850 : BitVec 1 := Scalar.andi v3847 v3849
  let v3836 : BitVec 32 := Scalar.divsi v2 c8_i32_3630
  let c1_i32_3636 : BitVec 32 := 1#32
  let v3851 : BitVec 32 := Scalar.subi v3836 c1_i32_3636
  let v3852 : BitVec 32 := Scalar.select v3850 v3851 v3836
  let v3976 : BitVec 32 := Scalar.muli c8_i32_3710 v3852
  let c2_i32_3701 : BitVec 32 := 2#32
  let c8_i32_3637 : BitVec 32 := 8#32
  let c0_i32_3638 : BitVec 32 := 0#32
  let v3853 : BitVec 1 := Scalar.cmpi .eq c8_i32_3637 c0_i32_3638
  let c1_i32_3639 : BitVec 32 := 1#32
  let v3854 : BitVec 32 := Scalar.select v3853 c1_i32_3639 c8_i32_3637
  let v3855 : BitVec 32 := Scalar.remsi v2 v3854
  let c0_i32_3641 : BitVec 32 := 0#32
  let v3857 : BitVec 1 := Scalar.cmpi .slt v3855 c0_i32_3641
  let c0_i32_3642 : BitVec 32 := 0#32
  let v3858 : BitVec 1 := Scalar.cmpi .slt v3854 c0_i32_3642
  let v3859 : BitVec 1 := Scalar.xori v3857 v3858
  let c0_i32_3640 : BitVec 32 := 0#32
  let v3856 : BitVec 1 := Scalar.cmpi .ne v3855 c0_i32_3640
  let v3860 : BitVec 1 := Scalar.andi v3859 v3856
  let v3861 : BitVec 32 := Scalar.addi v3855 v3854
  let v3862 : BitVec 32 := Scalar.select v3860 v3861 v3855
  let c0_i32_3644 : BitVec 32 := 0#32
  let v3864 : BitVec 1 := Scalar.cmpi .sgt v3862 c0_i32_3644
  let v3865 : BitVec 32 := Scalar.extui v3864
  let c0_i32_3645 : BitVec 32 := 0#32
  let v3866 : BitVec 1 := Scalar.cmpi .slt v3862 c0_i32_3645
  let v3867 : BitVec 32 := Scalar.extui v3866
  let v3868 : BitVec 32 := Scalar.subi v3865 v3867
  let c2_i32_3643 : BitVec 32 := 2#32
  let c0_i32_3646 : BitVec 32 := 0#32
  let v3869 : BitVec 1 := Scalar.cmpi .sgt c2_i32_3643 c0_i32_3646
  let v3870 : BitVec 32 := Scalar.extui v3869
  let c0_i32_3647 : BitVec 32 := 0#32
  let v3871 : BitVec 1 := Scalar.cmpi .slt c2_i32_3643 c0_i32_3647
  let v3872 : BitVec 32 := Scalar.extui v3871
  let v3873 : BitVec 32 := Scalar.subi v3870 v3872
  let v3874 : BitVec 1 := Scalar.cmpi .ne v3868 v3873
  let v3875 : BitVec 32 := Scalar.remsi v3862 c2_i32_3643
  let c0_i32_3648 : BitVec 32 := 0#32
  let v3876 : BitVec 1 := Scalar.cmpi .ne v3875 c0_i32_3648
  let v3877 : BitVec 1 := Scalar.andi v3874 v3876
  let v3863 : BitVec 32 := Scalar.divsi v3862 c2_i32_3643
  let c1_i32_3649 : BitVec 32 := 1#32
  let v3878 : BitVec 32 := Scalar.subi v3863 c1_i32_3649
  let v3879 : BitVec 32 := Scalar.select v3877 v3878 v3863
  let c3_i32_3694 : BitVec 32 := 3#32
  let v3950 : BitVec 32 := Scalar.addi v3879 c3_i32_3694
  let c4_i32_3695 : BitVec 32 := 4#32
  let c0_i32_3696 : BitVec 32 := 0#32
  let v3951 : BitVec 1 := Scalar.cmpi .eq c4_i32_3695 c0_i32_3696
  let c1_i32_3697 : BitVec 32 := 1#32
  let v3952 : BitVec 32 := Scalar.select v3951 c1_i32_3697 c4_i32_3695
  let v3953 : BitVec 32 := Scalar.remsi v3950 v3952
  let c0_i32_3699 : BitVec 32 := 0#32
  let v3955 : BitVec 1 := Scalar.cmpi .slt v3953 c0_i32_3699
  let c0_i32_3700 : BitVec 32 := 0#32
  let v3956 : BitVec 1 := Scalar.cmpi .slt v3952 c0_i32_3700
  let v3957 : BitVec 1 := Scalar.xori v3955 v3956
  let c0_i32_3698 : BitVec 32 := 0#32
  let v3954 : BitVec 1 := Scalar.cmpi .ne v3953 c0_i32_3698
  let v3958 : BitVec 1 := Scalar.andi v3957 v3954
  let v3959 : BitVec 32 := Scalar.addi v3953 v3952
  let v3960 : BitVec 32 := Scalar.select v3958 v3959 v3953
  let v3961 : BitVec 32 := Scalar.muli c2_i32_3701 v3960
  let c2_i32_3702 : BitVec 32 := 2#32
  let c0_i32_3703 : BitVec 32 := 0#32
  let v3962 : BitVec 1 := Scalar.cmpi .eq c2_i32_3702 c0_i32_3703
  let c1_i32_3704 : BitVec 32 := 1#32
  let v3963 : BitVec 32 := Scalar.select v3962 c1_i32_3704 c2_i32_3702
  let v3964 : BitVec 32 := Scalar.remsi v3960 v3963
  let c0_i32_3706 : BitVec 32 := 0#32
  let v3966 : BitVec 1 := Scalar.cmpi .slt v3964 c0_i32_3706
  let c0_i32_3707 : BitVec 32 := 0#32
  let v3967 : BitVec 1 := Scalar.cmpi .slt v3963 c0_i32_3707
  let v3968 : BitVec 1 := Scalar.xori v3966 v3967
  let c0_i32_3705 : BitVec 32 := 0#32
  let v3965 : BitVec 1 := Scalar.cmpi .ne v3964 c0_i32_3705
  let v3969 : BitVec 1 := Scalar.andi v3968 v3965
  let v3970 : BitVec 32 := Scalar.addi v3964 v3963
  let v3971 : BitVec 32 := Scalar.select v3969 v3970 v3964
  let c0_i32_3708 : BitVec 32 := 0#32
  let v3972 : BitVec 1 := Scalar.cmpi .eq v3971 c0_i32_3708
  let c4_i32_3650 : BitVec 32 := 4#32
  let c0_i32_3651 : BitVec 32 := 0#32
  let v3880 : BitVec 1 := Scalar.cmpi .eq c4_i32_3650 c0_i32_3651
  let c1_i32_3652 : BitVec 32 := 1#32
  let v3881 : BitVec 32 := Scalar.select v3880 c1_i32_3652 c4_i32_3650
  let v3882 : BitVec 32 := Scalar.remsi v3862 v3881
  let c0_i32_3654 : BitVec 32 := 0#32
  let v3884 : BitVec 1 := Scalar.cmpi .slt v3882 c0_i32_3654
  let c0_i32_3655 : BitVec 32 := 0#32
  let v3885 : BitVec 1 := Scalar.cmpi .slt v3881 c0_i32_3655
  let v3886 : BitVec 1 := Scalar.xori v3884 v3885
  let c0_i32_3653 : BitVec 32 := 0#32
  let v3883 : BitVec 1 := Scalar.cmpi .ne v3882 c0_i32_3653
  let v3887 : BitVec 1 := Scalar.andi v3886 v3883
  let v3888 : BitVec 32 := Scalar.addi v3882 v3881
  let v3889 : BitVec 32 := Scalar.select v3887 v3888 v3882
  let c1_i32_3656 : BitVec 32 := 1#32
  let v3890 : BitVec 1 := Scalar.cmpi .eq v3889 c1_i32_3656
  let c2_i32_3657 : BitVec 32 := 2#32
  let v3891 : BitVec 1 := Scalar.cmpi .eq v3889 c2_i32_3657
  let v3892 : BitVec 1 := Scalar.ori v3890 v3891
  let c1_i32_3658 : BitVec 32 := 1#32
  let c0_i32_3659 : BitVec 32 := 0#32
  let v3893 : BitVec 32 := Scalar.select v3892 c1_i32_3658 c0_i32_3659
  let c1_i32_3709 : BitVec 32 := 1#32
  let v3973 : BitVec 32 := Scalar.subi c1_i32_3709 v3893
  let v3974 : BitVec 32 := Scalar.select v3972 v3893 v3973
  let v3975 : BitVec 32 := Scalar.addi v3961 v3974
  let v3977 : BitVec 32 := Scalar.addi v3976 v3975
  let c1_i32_3753 : BitVec 32 := 1#32
  let v3998 : BitVec 32 := Scalar.muli v3977 c1_i32_3753
  let v3999 : BitVec 32 := Scalar.addi c0_i32_3754 v3998
  v3999.toNat
def k0_dev54 (d0 : Dev nD) : Nat :=
  let c0_i32_3963 : BitVec 32 := 0#32
  let c8_i32_3918 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3873 : BitVec 32 := 0#32
  let v4065 : BitVec 1 := Scalar.cmpi .sgt v2 c0_i32_3873
  let v4066 : BitVec 32 := Scalar.extui v4065
  let c0_i32_3874 : BitVec 32 := 0#32
  let v4067 : BitVec 1 := Scalar.cmpi .slt v2 c0_i32_3874
  let v4068 : BitVec 32 := Scalar.extui v4067
  let v4069 : BitVec 32 := Scalar.subi v4066 v4068
  let c8_i32_3872 : BitVec 32 := 8#32
  let c0_i32_3875 : BitVec 32 := 0#32
  let v4070 : BitVec 1 := Scalar.cmpi .sgt c8_i32_3872 c0_i32_3875
  let v4071 : BitVec 32 := Scalar.extui v4070
  let c0_i32_3876 : BitVec 32 := 0#32
  let v4072 : BitVec 1 := Scalar.cmpi .slt c8_i32_3872 c0_i32_3876
  let v4073 : BitVec 32 := Scalar.extui v4072
  let v4074 : BitVec 32 := Scalar.subi v4071 v4073
  let v4075 : BitVec 1 := Scalar.cmpi .ne v4069 v4074
  let v4076 : BitVec 32 := Scalar.remsi v2 c8_i32_3872
  let c0_i32_3877 : BitVec 32 := 0#32
  let v4077 : BitVec 1 := Scalar.cmpi .ne v4076 c0_i32_3877
  let v4078 : BitVec 1 := Scalar.andi v4075 v4077
  let v4064 : BitVec 32 := Scalar.divsi v2 c8_i32_3872
  let c1_i32_3878 : BitVec 32 := 1#32
  let v4079 : BitVec 32 := Scalar.subi v4064 c1_i32_3878
  let v4080 : BitVec 32 := Scalar.select v4078 v4079 v4064
  let c1_i32_3902 : BitVec 32 := 1#32
  let v4122 : BitVec 32 := Scalar.addi v4080 c1_i32_3902
  let c4_i32_3903 : BitVec 32 := 4#32
  let c0_i32_3904 : BitVec 32 := 0#32
  let v4123 : BitVec 1 := Scalar.cmpi .eq c4_i32_3903 c0_i32_3904
  let c1_i32_3905 : BitVec 32 := 1#32
  let v4124 : BitVec 32 := Scalar.select v4123 c1_i32_3905 c4_i32_3903
  let v4125 : BitVec 32 := Scalar.remsi v4122 v4124
  let c0_i32_3907 : BitVec 32 := 0#32
  let v4127 : BitVec 1 := Scalar.cmpi .slt v4125 c0_i32_3907
  let c0_i32_3908 : BitVec 32 := 0#32
  let v4128 : BitVec 1 := Scalar.cmpi .slt v4124 c0_i32_3908
  let v4129 : BitVec 1 := Scalar.xori v4127 v4128
  let c0_i32_3906 : BitVec 32 := 0#32
  let v4126 : BitVec 1 := Scalar.cmpi .ne v4125 c0_i32_3906
  let v4130 : BitVec 1 := Scalar.andi v4129 v4126
  let v4131 : BitVec 32 := Scalar.addi v4125 v4124
  let v4132 : BitVec 32 := Scalar.select v4130 v4131 v4125
  let v4148 : BitVec 32 := Scalar.muli c8_i32_3918 v4132
  let c2_i32_3909 : BitVec 32 := 2#32
  let c8_i32_3879 : BitVec 32 := 8#32
  let c0_i32_3880 : BitVec 32 := 0#32
  let v4081 : BitVec 1 := Scalar.cmpi .eq c8_i32_3879 c0_i32_3880
  let c1_i32_3881 : BitVec 32 := 1#32
  let v4082 : BitVec 32 := Scalar.select v4081 c1_i32_3881 c8_i32_3879
  let v4083 : BitVec 32 := Scalar.remsi v2 v4082
  let c0_i32_3883 : BitVec 32 := 0#32
  let v4085 : BitVec 1 := Scalar.cmpi .slt v4083 c0_i32_3883
  let c0_i32_3884 : BitVec 32 := 0#32
  let v4086 : BitVec 1 := Scalar.cmpi .slt v4082 c0_i32_3884
  let v4087 : BitVec 1 := Scalar.xori v4085 v4086
  let c0_i32_3882 : BitVec 32 := 0#32
  let v4084 : BitVec 1 := Scalar.cmpi .ne v4083 c0_i32_3882
  let v4088 : BitVec 1 := Scalar.andi v4087 v4084
  let v4089 : BitVec 32 := Scalar.addi v4083 v4082
  let v4090 : BitVec 32 := Scalar.select v4088 v4089 v4083
  let c0_i32_3886 : BitVec 32 := 0#32
  let v4092 : BitVec 1 := Scalar.cmpi .sgt v4090 c0_i32_3886
  let v4093 : BitVec 32 := Scalar.extui v4092
  let c0_i32_3887 : BitVec 32 := 0#32
  let v4094 : BitVec 1 := Scalar.cmpi .slt v4090 c0_i32_3887
  let v4095 : BitVec 32 := Scalar.extui v4094
  let v4096 : BitVec 32 := Scalar.subi v4093 v4095
  let c2_i32_3885 : BitVec 32 := 2#32
  let c0_i32_3888 : BitVec 32 := 0#32
  let v4097 : BitVec 1 := Scalar.cmpi .sgt c2_i32_3885 c0_i32_3888
  let v4098 : BitVec 32 := Scalar.extui v4097
  let c0_i32_3889 : BitVec 32 := 0#32
  let v4099 : BitVec 1 := Scalar.cmpi .slt c2_i32_3885 c0_i32_3889
  let v4100 : BitVec 32 := Scalar.extui v4099
  let v4101 : BitVec 32 := Scalar.subi v4098 v4100
  let v4102 : BitVec 1 := Scalar.cmpi .ne v4096 v4101
  let v4103 : BitVec 32 := Scalar.remsi v4090 c2_i32_3885
  let c0_i32_3890 : BitVec 32 := 0#32
  let v4104 : BitVec 1 := Scalar.cmpi .ne v4103 c0_i32_3890
  let v4105 : BitVec 1 := Scalar.andi v4102 v4104
  let v4091 : BitVec 32 := Scalar.divsi v4090 c2_i32_3885
  let c1_i32_3891 : BitVec 32 := 1#32
  let v4106 : BitVec 32 := Scalar.subi v4091 c1_i32_3891
  let v4107 : BitVec 32 := Scalar.select v4105 v4106 v4091
  let v4133 : BitVec 32 := Scalar.muli c2_i32_3909 v4107
  let c2_i32_3910 : BitVec 32 := 2#32
  let c0_i32_3911 : BitVec 32 := 0#32
  let v4134 : BitVec 1 := Scalar.cmpi .eq c2_i32_3910 c0_i32_3911
  let c1_i32_3912 : BitVec 32 := 1#32
  let v4135 : BitVec 32 := Scalar.select v4134 c1_i32_3912 c2_i32_3910
  let v4136 : BitVec 32 := Scalar.remsi v4107 v4135
  let c0_i32_3914 : BitVec 32 := 0#32
  let v4138 : BitVec 1 := Scalar.cmpi .slt v4136 c0_i32_3914
  let c0_i32_3915 : BitVec 32 := 0#32
  let v4139 : BitVec 1 := Scalar.cmpi .slt v4135 c0_i32_3915
  let v4140 : BitVec 1 := Scalar.xori v4138 v4139
  let c0_i32_3913 : BitVec 32 := 0#32
  let v4137 : BitVec 1 := Scalar.cmpi .ne v4136 c0_i32_3913
  let v4141 : BitVec 1 := Scalar.andi v4140 v4137
  let v4142 : BitVec 32 := Scalar.addi v4136 v4135
  let v4143 : BitVec 32 := Scalar.select v4141 v4142 v4136
  let c0_i32_3916 : BitVec 32 := 0#32
  let v4144 : BitVec 1 := Scalar.cmpi .eq v4143 c0_i32_3916
  let c4_i32_3892 : BitVec 32 := 4#32
  let c0_i32_3893 : BitVec 32 := 0#32
  let v4108 : BitVec 1 := Scalar.cmpi .eq c4_i32_3892 c0_i32_3893
  let c1_i32_3894 : BitVec 32 := 1#32
  let v4109 : BitVec 32 := Scalar.select v4108 c1_i32_3894 c4_i32_3892
  let v4110 : BitVec 32 := Scalar.remsi v4090 v4109
  let c0_i32_3896 : BitVec 32 := 0#32
  let v4112 : BitVec 1 := Scalar.cmpi .slt v4110 c0_i32_3896
  let c0_i32_3897 : BitVec 32 := 0#32
  let v4113 : BitVec 1 := Scalar.cmpi .slt v4109 c0_i32_3897
  let v4114 : BitVec 1 := Scalar.xori v4112 v4113
  let c0_i32_3895 : BitVec 32 := 0#32
  let v4111 : BitVec 1 := Scalar.cmpi .ne v4110 c0_i32_3895
  let v4115 : BitVec 1 := Scalar.andi v4114 v4111
  let v4116 : BitVec 32 := Scalar.addi v4110 v4109
  let v4117 : BitVec 32 := Scalar.select v4115 v4116 v4110
  let c1_i32_3898 : BitVec 32 := 1#32
  let v4118 : BitVec 1 := Scalar.cmpi .eq v4117 c1_i32_3898
  let c2_i32_3899 : BitVec 32 := 2#32
  let v4119 : BitVec 1 := Scalar.cmpi .eq v4117 c2_i32_3899
  let v4120 : BitVec 1 := Scalar.ori v4118 v4119
  let c1_i32_3900 : BitVec 32 := 1#32
  let c0_i32_3901 : BitVec 32 := 0#32
  let v4121 : BitVec 32 := Scalar.select v4120 c1_i32_3900 c0_i32_3901
  let c1_i32_3917 : BitVec 32 := 1#32
  let v4145 : BitVec 32 := Scalar.subi c1_i32_3917 v4121
  let v4146 : BitVec 32 := Scalar.select v4144 v4121 v4145
  let v4147 : BitVec 32 := Scalar.addi v4133 v4146
  let v4149 : BitVec 32 := Scalar.addi v4148 v4147
  let c1_i32_3962 : BitVec 32 := 1#32
  let v4206 : BitVec 32 := Scalar.muli v4149 c1_i32_3962
  let v4207 : BitVec 32 := Scalar.addi c0_i32_3963 v4206
  v4207.toNat
def k0_dev55 (d0 : Dev nD) : Nat :=
  let c0_i32_3979 : BitVec 32 := 0#32
  let c8_i32_3935 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3873 : BitVec 32 := 0#32
  let v4065 : BitVec 1 := Scalar.cmpi .sgt v2 c0_i32_3873
  let v4066 : BitVec 32 := Scalar.extui v4065
  let c0_i32_3874 : BitVec 32 := 0#32
  let v4067 : BitVec 1 := Scalar.cmpi .slt v2 c0_i32_3874
  let v4068 : BitVec 32 := Scalar.extui v4067
  let v4069 : BitVec 32 := Scalar.subi v4066 v4068
  let c8_i32_3872 : BitVec 32 := 8#32
  let c0_i32_3875 : BitVec 32 := 0#32
  let v4070 : BitVec 1 := Scalar.cmpi .sgt c8_i32_3872 c0_i32_3875
  let v4071 : BitVec 32 := Scalar.extui v4070
  let c0_i32_3876 : BitVec 32 := 0#32
  let v4072 : BitVec 1 := Scalar.cmpi .slt c8_i32_3872 c0_i32_3876
  let v4073 : BitVec 32 := Scalar.extui v4072
  let v4074 : BitVec 32 := Scalar.subi v4071 v4073
  let v4075 : BitVec 1 := Scalar.cmpi .ne v4069 v4074
  let v4076 : BitVec 32 := Scalar.remsi v2 c8_i32_3872
  let c0_i32_3877 : BitVec 32 := 0#32
  let v4077 : BitVec 1 := Scalar.cmpi .ne v4076 c0_i32_3877
  let v4078 : BitVec 1 := Scalar.andi v4075 v4077
  let v4064 : BitVec 32 := Scalar.divsi v2 c8_i32_3872
  let c1_i32_3878 : BitVec 32 := 1#32
  let v4079 : BitVec 32 := Scalar.subi v4064 c1_i32_3878
  let v4080 : BitVec 32 := Scalar.select v4078 v4079 v4064
  let c2_i32_3919 : BitVec 32 := 2#32
  let v4150 : BitVec 32 := Scalar.addi v4080 c2_i32_3919
  let c4_i32_3920 : BitVec 32 := 4#32
  let c0_i32_3921 : BitVec 32 := 0#32
  let v4151 : BitVec 1 := Scalar.cmpi .eq c4_i32_3920 c0_i32_3921
  let c1_i32_3922 : BitVec 32 := 1#32
  let v4152 : BitVec 32 := Scalar.select v4151 c1_i32_3922 c4_i32_3920
  let v4153 : BitVec 32 := Scalar.remsi v4150 v4152
  let c0_i32_3924 : BitVec 32 := 0#32
  let v4155 : BitVec 1 := Scalar.cmpi .slt v4153 c0_i32_3924
  let c0_i32_3925 : BitVec 32 := 0#32
  let v4156 : BitVec 1 := Scalar.cmpi .slt v4152 c0_i32_3925
  let v4157 : BitVec 1 := Scalar.xori v4155 v4156
  let c0_i32_3923 : BitVec 32 := 0#32
  let v4154 : BitVec 1 := Scalar.cmpi .ne v4153 c0_i32_3923
  let v4158 : BitVec 1 := Scalar.andi v4157 v4154
  let v4159 : BitVec 32 := Scalar.addi v4153 v4152
  let v4160 : BitVec 32 := Scalar.select v4158 v4159 v4153
  let v4176 : BitVec 32 := Scalar.muli c8_i32_3935 v4160
  let c2_i32_3926 : BitVec 32 := 2#32
  let c8_i32_3879 : BitVec 32 := 8#32
  let c0_i32_3880 : BitVec 32 := 0#32
  let v4081 : BitVec 1 := Scalar.cmpi .eq c8_i32_3879 c0_i32_3880
  let c1_i32_3881 : BitVec 32 := 1#32
  let v4082 : BitVec 32 := Scalar.select v4081 c1_i32_3881 c8_i32_3879
  let v4083 : BitVec 32 := Scalar.remsi v2 v4082
  let c0_i32_3883 : BitVec 32 := 0#32
  let v4085 : BitVec 1 := Scalar.cmpi .slt v4083 c0_i32_3883
  let c0_i32_3884 : BitVec 32 := 0#32
  let v4086 : BitVec 1 := Scalar.cmpi .slt v4082 c0_i32_3884
  let v4087 : BitVec 1 := Scalar.xori v4085 v4086
  let c0_i32_3882 : BitVec 32 := 0#32
  let v4084 : BitVec 1 := Scalar.cmpi .ne v4083 c0_i32_3882
  let v4088 : BitVec 1 := Scalar.andi v4087 v4084
  let v4089 : BitVec 32 := Scalar.addi v4083 v4082
  let v4090 : BitVec 32 := Scalar.select v4088 v4089 v4083
  let c0_i32_3886 : BitVec 32 := 0#32
  let v4092 : BitVec 1 := Scalar.cmpi .sgt v4090 c0_i32_3886
  let v4093 : BitVec 32 := Scalar.extui v4092
  let c0_i32_3887 : BitVec 32 := 0#32
  let v4094 : BitVec 1 := Scalar.cmpi .slt v4090 c0_i32_3887
  let v4095 : BitVec 32 := Scalar.extui v4094
  let v4096 : BitVec 32 := Scalar.subi v4093 v4095
  let c2_i32_3885 : BitVec 32 := 2#32
  let c0_i32_3888 : BitVec 32 := 0#32
  let v4097 : BitVec 1 := Scalar.cmpi .sgt c2_i32_3885 c0_i32_3888
  let v4098 : BitVec 32 := Scalar.extui v4097
  let c0_i32_3889 : BitVec 32 := 0#32
  let v4099 : BitVec 1 := Scalar.cmpi .slt c2_i32_3885 c0_i32_3889
  let v4100 : BitVec 32 := Scalar.extui v4099
  let v4101 : BitVec 32 := Scalar.subi v4098 v4100
  let v4102 : BitVec 1 := Scalar.cmpi .ne v4096 v4101
  let v4103 : BitVec 32 := Scalar.remsi v4090 c2_i32_3885
  let c0_i32_3890 : BitVec 32 := 0#32
  let v4104 : BitVec 1 := Scalar.cmpi .ne v4103 c0_i32_3890
  let v4105 : BitVec 1 := Scalar.andi v4102 v4104
  let v4091 : BitVec 32 := Scalar.divsi v4090 c2_i32_3885
  let c1_i32_3891 : BitVec 32 := 1#32
  let v4106 : BitVec 32 := Scalar.subi v4091 c1_i32_3891
  let v4107 : BitVec 32 := Scalar.select v4105 v4106 v4091
  let v4161 : BitVec 32 := Scalar.muli c2_i32_3926 v4107
  let c2_i32_3927 : BitVec 32 := 2#32
  let c0_i32_3928 : BitVec 32 := 0#32
  let v4162 : BitVec 1 := Scalar.cmpi .eq c2_i32_3927 c0_i32_3928
  let c1_i32_3929 : BitVec 32 := 1#32
  let v4163 : BitVec 32 := Scalar.select v4162 c1_i32_3929 c2_i32_3927
  let v4164 : BitVec 32 := Scalar.remsi v4107 v4163
  let c0_i32_3931 : BitVec 32 := 0#32
  let v4166 : BitVec 1 := Scalar.cmpi .slt v4164 c0_i32_3931
  let c0_i32_3932 : BitVec 32 := 0#32
  let v4167 : BitVec 1 := Scalar.cmpi .slt v4163 c0_i32_3932
  let v4168 : BitVec 1 := Scalar.xori v4166 v4167
  let c0_i32_3930 : BitVec 32 := 0#32
  let v4165 : BitVec 1 := Scalar.cmpi .ne v4164 c0_i32_3930
  let v4169 : BitVec 1 := Scalar.andi v4168 v4165
  let v4170 : BitVec 32 := Scalar.addi v4164 v4163
  let v4171 : BitVec 32 := Scalar.select v4169 v4170 v4164
  let c0_i32_3933 : BitVec 32 := 0#32
  let v4172 : BitVec 1 := Scalar.cmpi .eq v4171 c0_i32_3933
  let c4_i32_3892 : BitVec 32 := 4#32
  let c0_i32_3893 : BitVec 32 := 0#32
  let v4108 : BitVec 1 := Scalar.cmpi .eq c4_i32_3892 c0_i32_3893
  let c1_i32_3894 : BitVec 32 := 1#32
  let v4109 : BitVec 32 := Scalar.select v4108 c1_i32_3894 c4_i32_3892
  let v4110 : BitVec 32 := Scalar.remsi v4090 v4109
  let c0_i32_3896 : BitVec 32 := 0#32
  let v4112 : BitVec 1 := Scalar.cmpi .slt v4110 c0_i32_3896
  let c0_i32_3897 : BitVec 32 := 0#32
  let v4113 : BitVec 1 := Scalar.cmpi .slt v4109 c0_i32_3897
  let v4114 : BitVec 1 := Scalar.xori v4112 v4113
  let c0_i32_3895 : BitVec 32 := 0#32
  let v4111 : BitVec 1 := Scalar.cmpi .ne v4110 c0_i32_3895
  let v4115 : BitVec 1 := Scalar.andi v4114 v4111
  let v4116 : BitVec 32 := Scalar.addi v4110 v4109
  let v4117 : BitVec 32 := Scalar.select v4115 v4116 v4110
  let c1_i32_3898 : BitVec 32 := 1#32
  let v4118 : BitVec 1 := Scalar.cmpi .eq v4117 c1_i32_3898
  let c2_i32_3899 : BitVec 32 := 2#32
  let v4119 : BitVec 1 := Scalar.cmpi .eq v4117 c2_i32_3899
  let v4120 : BitVec 1 := Scalar.ori v4118 v4119
  let c1_i32_3900 : BitVec 32 := 1#32
  let c0_i32_3901 : BitVec 32 := 0#32
  let v4121 : BitVec 32 := Scalar.select v4120 c1_i32_3900 c0_i32_3901
  let c1_i32_3934 : BitVec 32 := 1#32
  let v4173 : BitVec 32 := Scalar.subi c1_i32_3934 v4121
  let v4174 : BitVec 32 := Scalar.select v4172 v4121 v4173
  let v4175 : BitVec 32 := Scalar.addi v4161 v4174
  let v4177 : BitVec 32 := Scalar.addi v4176 v4175
  let c1_i32_3978 : BitVec 32 := 1#32
  let v4216 : BitVec 32 := Scalar.muli v4177 c1_i32_3978
  let v4217 : BitVec 32 := Scalar.addi c0_i32_3979 v4216
  v4217.toNat
def k0_dev56 (d0 : Dev nD) : Nat :=
  let c0_i32_3995 : BitVec 32 := 0#32
  let c8_i32_3952 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3873 : BitVec 32 := 0#32
  let v4065 : BitVec 1 := Scalar.cmpi .sgt v2 c0_i32_3873
  let v4066 : BitVec 32 := Scalar.extui v4065
  let c0_i32_3874 : BitVec 32 := 0#32
  let v4067 : BitVec 1 := Scalar.cmpi .slt v2 c0_i32_3874
  let v4068 : BitVec 32 := Scalar.extui v4067
  let v4069 : BitVec 32 := Scalar.subi v4066 v4068
  let c8_i32_3872 : BitVec 32 := 8#32
  let c0_i32_3875 : BitVec 32 := 0#32
  let v4070 : BitVec 1 := Scalar.cmpi .sgt c8_i32_3872 c0_i32_3875
  let v4071 : BitVec 32 := Scalar.extui v4070
  let c0_i32_3876 : BitVec 32 := 0#32
  let v4072 : BitVec 1 := Scalar.cmpi .slt c8_i32_3872 c0_i32_3876
  let v4073 : BitVec 32 := Scalar.extui v4072
  let v4074 : BitVec 32 := Scalar.subi v4071 v4073
  let v4075 : BitVec 1 := Scalar.cmpi .ne v4069 v4074
  let v4076 : BitVec 32 := Scalar.remsi v2 c8_i32_3872
  let c0_i32_3877 : BitVec 32 := 0#32
  let v4077 : BitVec 1 := Scalar.cmpi .ne v4076 c0_i32_3877
  let v4078 : BitVec 1 := Scalar.andi v4075 v4077
  let v4064 : BitVec 32 := Scalar.divsi v2 c8_i32_3872
  let c1_i32_3878 : BitVec 32 := 1#32
  let v4079 : BitVec 32 := Scalar.subi v4064 c1_i32_3878
  let v4080 : BitVec 32 := Scalar.select v4078 v4079 v4064
  let c3_i32_3936 : BitVec 32 := 3#32
  let v4178 : BitVec 32 := Scalar.addi v4080 c3_i32_3936
  let c4_i32_3937 : BitVec 32 := 4#32
  let c0_i32_3938 : BitVec 32 := 0#32
  let v4179 : BitVec 1 := Scalar.cmpi .eq c4_i32_3937 c0_i32_3938
  let c1_i32_3939 : BitVec 32 := 1#32
  let v4180 : BitVec 32 := Scalar.select v4179 c1_i32_3939 c4_i32_3937
  let v4181 : BitVec 32 := Scalar.remsi v4178 v4180
  let c0_i32_3941 : BitVec 32 := 0#32
  let v4183 : BitVec 1 := Scalar.cmpi .slt v4181 c0_i32_3941
  let c0_i32_3942 : BitVec 32 := 0#32
  let v4184 : BitVec 1 := Scalar.cmpi .slt v4180 c0_i32_3942
  let v4185 : BitVec 1 := Scalar.xori v4183 v4184
  let c0_i32_3940 : BitVec 32 := 0#32
  let v4182 : BitVec 1 := Scalar.cmpi .ne v4181 c0_i32_3940
  let v4186 : BitVec 1 := Scalar.andi v4185 v4182
  let v4187 : BitVec 32 := Scalar.addi v4181 v4180
  let v4188 : BitVec 32 := Scalar.select v4186 v4187 v4181
  let v4204 : BitVec 32 := Scalar.muli c8_i32_3952 v4188
  let c2_i32_3943 : BitVec 32 := 2#32
  let c8_i32_3879 : BitVec 32 := 8#32
  let c0_i32_3880 : BitVec 32 := 0#32
  let v4081 : BitVec 1 := Scalar.cmpi .eq c8_i32_3879 c0_i32_3880
  let c1_i32_3881 : BitVec 32 := 1#32
  let v4082 : BitVec 32 := Scalar.select v4081 c1_i32_3881 c8_i32_3879
  let v4083 : BitVec 32 := Scalar.remsi v2 v4082
  let c0_i32_3883 : BitVec 32 := 0#32
  let v4085 : BitVec 1 := Scalar.cmpi .slt v4083 c0_i32_3883
  let c0_i32_3884 : BitVec 32 := 0#32
  let v4086 : BitVec 1 := Scalar.cmpi .slt v4082 c0_i32_3884
  let v4087 : BitVec 1 := Scalar.xori v4085 v4086
  let c0_i32_3882 : BitVec 32 := 0#32
  let v4084 : BitVec 1 := Scalar.cmpi .ne v4083 c0_i32_3882
  let v4088 : BitVec 1 := Scalar.andi v4087 v4084
  let v4089 : BitVec 32 := Scalar.addi v4083 v4082
  let v4090 : BitVec 32 := Scalar.select v4088 v4089 v4083
  let c0_i32_3886 : BitVec 32 := 0#32
  let v4092 : BitVec 1 := Scalar.cmpi .sgt v4090 c0_i32_3886
  let v4093 : BitVec 32 := Scalar.extui v4092
  let c0_i32_3887 : BitVec 32 := 0#32
  let v4094 : BitVec 1 := Scalar.cmpi .slt v4090 c0_i32_3887
  let v4095 : BitVec 32 := Scalar.extui v4094
  let v4096 : BitVec 32 := Scalar.subi v4093 v4095
  let c2_i32_3885 : BitVec 32 := 2#32
  let c0_i32_3888 : BitVec 32 := 0#32
  let v4097 : BitVec 1 := Scalar.cmpi .sgt c2_i32_3885 c0_i32_3888
  let v4098 : BitVec 32 := Scalar.extui v4097
  let c0_i32_3889 : BitVec 32 := 0#32
  let v4099 : BitVec 1 := Scalar.cmpi .slt c2_i32_3885 c0_i32_3889
  let v4100 : BitVec 32 := Scalar.extui v4099
  let v4101 : BitVec 32 := Scalar.subi v4098 v4100
  let v4102 : BitVec 1 := Scalar.cmpi .ne v4096 v4101
  let v4103 : BitVec 32 := Scalar.remsi v4090 c2_i32_3885
  let c0_i32_3890 : BitVec 32 := 0#32
  let v4104 : BitVec 1 := Scalar.cmpi .ne v4103 c0_i32_3890
  let v4105 : BitVec 1 := Scalar.andi v4102 v4104
  let v4091 : BitVec 32 := Scalar.divsi v4090 c2_i32_3885
  let c1_i32_3891 : BitVec 32 := 1#32
  let v4106 : BitVec 32 := Scalar.subi v4091 c1_i32_3891
  let v4107 : BitVec 32 := Scalar.select v4105 v4106 v4091
  let v4189 : BitVec 32 := Scalar.muli c2_i32_3943 v4107
  let c2_i32_3944 : BitVec 32 := 2#32
  let c0_i32_3945 : BitVec 32 := 0#32
  let v4190 : BitVec 1 := Scalar.cmpi .eq c2_i32_3944 c0_i32_3945
  let c1_i32_3946 : BitVec 32 := 1#32
  let v4191 : BitVec 32 := Scalar.select v4190 c1_i32_3946 c2_i32_3944
  let v4192 : BitVec 32 := Scalar.remsi v4107 v4191
  let c0_i32_3948 : BitVec 32 := 0#32
  let v4194 : BitVec 1 := Scalar.cmpi .slt v4192 c0_i32_3948
  let c0_i32_3949 : BitVec 32 := 0#32
  let v4195 : BitVec 1 := Scalar.cmpi .slt v4191 c0_i32_3949
  let v4196 : BitVec 1 := Scalar.xori v4194 v4195
  let c0_i32_3947 : BitVec 32 := 0#32
  let v4193 : BitVec 1 := Scalar.cmpi .ne v4192 c0_i32_3947
  let v4197 : BitVec 1 := Scalar.andi v4196 v4193
  let v4198 : BitVec 32 := Scalar.addi v4192 v4191
  let v4199 : BitVec 32 := Scalar.select v4197 v4198 v4192
  let c0_i32_3950 : BitVec 32 := 0#32
  let v4200 : BitVec 1 := Scalar.cmpi .eq v4199 c0_i32_3950
  let c4_i32_3892 : BitVec 32 := 4#32
  let c0_i32_3893 : BitVec 32 := 0#32
  let v4108 : BitVec 1 := Scalar.cmpi .eq c4_i32_3892 c0_i32_3893
  let c1_i32_3894 : BitVec 32 := 1#32
  let v4109 : BitVec 32 := Scalar.select v4108 c1_i32_3894 c4_i32_3892
  let v4110 : BitVec 32 := Scalar.remsi v4090 v4109
  let c0_i32_3896 : BitVec 32 := 0#32
  let v4112 : BitVec 1 := Scalar.cmpi .slt v4110 c0_i32_3896
  let c0_i32_3897 : BitVec 32 := 0#32
  let v4113 : BitVec 1 := Scalar.cmpi .slt v4109 c0_i32_3897
  let v4114 : BitVec 1 := Scalar.xori v4112 v4113
  let c0_i32_3895 : BitVec 32 := 0#32
  let v4111 : BitVec 1 := Scalar.cmpi .ne v4110 c0_i32_3895
  let v4115 : BitVec 1 := Scalar.andi v4114 v4111
  let v4116 : BitVec 32 := Scalar.addi v4110 v4109
  let v4117 : BitVec 32 := Scalar.select v4115 v4116 v4110
  let c1_i32_3898 : BitVec 32 := 1#32
  let v4118 : BitVec 1 := Scalar.cmpi .eq v4117 c1_i32_3898
  let c2_i32_3899 : BitVec 32 := 2#32
  let v4119 : BitVec 1 := Scalar.cmpi .eq v4117 c2_i32_3899
  let v4120 : BitVec 1 := Scalar.ori v4118 v4119
  let c1_i32_3900 : BitVec 32 := 1#32
  let c0_i32_3901 : BitVec 32 := 0#32
  let v4121 : BitVec 32 := Scalar.select v4120 c1_i32_3900 c0_i32_3901
  let c1_i32_3951 : BitVec 32 := 1#32
  let v4201 : BitVec 32 := Scalar.subi c1_i32_3951 v4121
  let v4202 : BitVec 32 := Scalar.select v4200 v4121 v4201
  let v4203 : BitVec 32 := Scalar.addi v4189 v4202
  let v4205 : BitVec 32 := Scalar.addi v4204 v4203
  let c1_i32_3994 : BitVec 32 := 1#32
  let v4226 : BitVec 32 := Scalar.muli v4205 c1_i32_3994
  let v4227 : BitVec 32 := Scalar.addi c0_i32_3995 v4226
  v4227.toNat
def k0_dev57 (d0 : Dev nD) : Nat :=
  let c0_i32_4166 : BitVec 32 := 0#32
  let c8_i32_4154 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4115 : BitVec 32 := 0#32
  let v4293 : BitVec 1 := Scalar.cmpi .sgt v2 c0_i32_4115
  let v4294 : BitVec 32 := Scalar.extui v4293
  let c0_i32_4116 : BitVec 32 := 0#32
  let v4295 : BitVec 1 := Scalar.cmpi .slt v2 c0_i32_4116
  let v4296 : BitVec 32 := Scalar.extui v4295
  let v4297 : BitVec 32 := Scalar.subi v4294 v4296
  let c8_i32_4114 : BitVec 32 := 8#32
  let c0_i32_4117 : BitVec 32 := 0#32
  let v4298 : BitVec 1 := Scalar.cmpi .sgt c8_i32_4114 c0_i32_4117
  let v4299 : BitVec 32 := Scalar.extui v4298
  let c0_i32_4118 : BitVec 32 := 0#32
  let v4300 : BitVec 1 := Scalar.cmpi .slt c8_i32_4114 c0_i32_4118
  let v4301 : BitVec 32 := Scalar.extui v4300
  let v4302 : BitVec 32 := Scalar.subi v4299 v4301
  let v4303 : BitVec 1 := Scalar.cmpi .ne v4297 v4302
  let v4304 : BitVec 32 := Scalar.remsi v2 c8_i32_4114
  let c0_i32_4119 : BitVec 32 := 0#32
  let v4305 : BitVec 1 := Scalar.cmpi .ne v4304 c0_i32_4119
  let v4306 : BitVec 1 := Scalar.andi v4303 v4305
  let v4292 : BitVec 32 := Scalar.divsi v2 c8_i32_4114
  let c1_i32_4120 : BitVec 32 := 1#32
  let v4307 : BitVec 32 := Scalar.subi v4292 c1_i32_4120
  let v4308 : BitVec 32 := Scalar.select v4306 v4307 v4292
  let v4366 : BitVec 32 := Scalar.muli c8_i32_4154 v4308
  let c2_i32_4145 : BitVec 32 := 2#32
  let c8_i32_4121 : BitVec 32 := 8#32
  let c0_i32_4122 : BitVec 32 := 0#32
  let v4309 : BitVec 1 := Scalar.cmpi .eq c8_i32_4121 c0_i32_4122
  let c1_i32_4123 : BitVec 32 := 1#32
  let v4310 : BitVec 32 := Scalar.select v4309 c1_i32_4123 c8_i32_4121
  let v4311 : BitVec 32 := Scalar.remsi v2 v4310
  let c0_i32_4125 : BitVec 32 := 0#32
  let v4313 : BitVec 1 := Scalar.cmpi .slt v4311 c0_i32_4125
  let c0_i32_4126 : BitVec 32 := 0#32
  let v4314 : BitVec 1 := Scalar.cmpi .slt v4310 c0_i32_4126
  let v4315 : BitVec 1 := Scalar.xori v4313 v4314
  let c0_i32_4124 : BitVec 32 := 0#32
  let v4312 : BitVec 1 := Scalar.cmpi .ne v4311 c0_i32_4124
  let v4316 : BitVec 1 := Scalar.andi v4315 v4312
  let v4317 : BitVec 32 := Scalar.addi v4311 v4310
  let v4318 : BitVec 32 := Scalar.select v4316 v4317 v4311
  let c0_i32_4128 : BitVec 32 := 0#32
  let v4320 : BitVec 1 := Scalar.cmpi .sgt v4318 c0_i32_4128
  let v4321 : BitVec 32 := Scalar.extui v4320
  let c0_i32_4129 : BitVec 32 := 0#32
  let v4322 : BitVec 1 := Scalar.cmpi .slt v4318 c0_i32_4129
  let v4323 : BitVec 32 := Scalar.extui v4322
  let v4324 : BitVec 32 := Scalar.subi v4321 v4323
  let c2_i32_4127 : BitVec 32 := 2#32
  let c0_i32_4130 : BitVec 32 := 0#32
  let v4325 : BitVec 1 := Scalar.cmpi .sgt c2_i32_4127 c0_i32_4130
  let v4326 : BitVec 32 := Scalar.extui v4325
  let c0_i32_4131 : BitVec 32 := 0#32
  let v4327 : BitVec 1 := Scalar.cmpi .slt c2_i32_4127 c0_i32_4131
  let v4328 : BitVec 32 := Scalar.extui v4327
  let v4329 : BitVec 32 := Scalar.subi v4326 v4328
  let v4330 : BitVec 1 := Scalar.cmpi .ne v4324 v4329
  let v4331 : BitVec 32 := Scalar.remsi v4318 c2_i32_4127
  let c0_i32_4132 : BitVec 32 := 0#32
  let v4332 : BitVec 1 := Scalar.cmpi .ne v4331 c0_i32_4132
  let v4333 : BitVec 1 := Scalar.andi v4330 v4332
  let v4319 : BitVec 32 := Scalar.divsi v4318 c2_i32_4127
  let c1_i32_4133 : BitVec 32 := 1#32
  let v4334 : BitVec 32 := Scalar.subi v4319 c1_i32_4133
  let v4335 : BitVec 32 := Scalar.select v4333 v4334 v4319
  let v4351 : BitVec 32 := Scalar.muli c2_i32_4145 v4335
  let c2_i32_4146 : BitVec 32 := 2#32
  let c0_i32_4147 : BitVec 32 := 0#32
  let v4352 : BitVec 1 := Scalar.cmpi .eq c2_i32_4146 c0_i32_4147
  let c1_i32_4148 : BitVec 32 := 1#32
  let v4353 : BitVec 32 := Scalar.select v4352 c1_i32_4148 c2_i32_4146
  let v4354 : BitVec 32 := Scalar.remsi v4335 v4353
  let c0_i32_4150 : BitVec 32 := 0#32
  let v4356 : BitVec 1 := Scalar.cmpi .slt v4354 c0_i32_4150
  let c0_i32_4151 : BitVec 32 := 0#32
  let v4357 : BitVec 1 := Scalar.cmpi .slt v4353 c0_i32_4151
  let v4358 : BitVec 1 := Scalar.xori v4356 v4357
  let c0_i32_4149 : BitVec 32 := 0#32
  let v4355 : BitVec 1 := Scalar.cmpi .ne v4354 c0_i32_4149
  let v4359 : BitVec 1 := Scalar.andi v4358 v4355
  let v4360 : BitVec 32 := Scalar.addi v4354 v4353
  let v4361 : BitVec 32 := Scalar.select v4359 v4360 v4354
  let c0_i32_4152 : BitVec 32 := 0#32
  let v4362 : BitVec 1 := Scalar.cmpi .eq v4361 c0_i32_4152
  let c1_i32_4144 : BitVec 32 := 1#32
  let c4_i32_4134 : BitVec 32 := 4#32
  let c0_i32_4135 : BitVec 32 := 0#32
  let v4336 : BitVec 1 := Scalar.cmpi .eq c4_i32_4134 c0_i32_4135
  let c1_i32_4136 : BitVec 32 := 1#32
  let v4337 : BitVec 32 := Scalar.select v4336 c1_i32_4136 c4_i32_4134
  let v4338 : BitVec 32 := Scalar.remsi v4318 v4337
  let c0_i32_4138 : BitVec 32 := 0#32
  let v4340 : BitVec 1 := Scalar.cmpi .slt v4338 c0_i32_4138
  let c0_i32_4139 : BitVec 32 := 0#32
  let v4341 : BitVec 1 := Scalar.cmpi .slt v4337 c0_i32_4139
  let v4342 : BitVec 1 := Scalar.xori v4340 v4341
  let c0_i32_4137 : BitVec 32 := 0#32
  let v4339 : BitVec 1 := Scalar.cmpi .ne v4338 c0_i32_4137
  let v4343 : BitVec 1 := Scalar.andi v4342 v4339
  let v4344 : BitVec 32 := Scalar.addi v4338 v4337
  let v4345 : BitVec 32 := Scalar.select v4343 v4344 v4338
  let c1_i32_4140 : BitVec 32 := 1#32
  let v4346 : BitVec 1 := Scalar.cmpi .eq v4345 c1_i32_4140
  let c2_i32_4141 : BitVec 32 := 2#32
  let v4347 : BitVec 1 := Scalar.cmpi .eq v4345 c2_i32_4141
  let v4348 : BitVec 1 := Scalar.ori v4346 v4347
  let c1_i32_4142 : BitVec 32 := 1#32
  let c0_i32_4143 : BitVec 32 := 0#32
  let v4349 : BitVec 32 := Scalar.select v4348 c1_i32_4142 c0_i32_4143
  let v4350 : BitVec 32 := Scalar.subi c1_i32_4144 v4349
  let c1_i32_4153 : BitVec 32 := 1#32
  let v4363 : BitVec 32 := Scalar.subi c1_i32_4153 v4350
  let v4364 : BitVec 32 := Scalar.select v4362 v4350 v4363
  let v4365 : BitVec 32 := Scalar.addi v4351 v4364
  let v4367 : BitVec 32 := Scalar.addi v4366 v4365
  let c1_i32_4165 : BitVec 32 := 1#32
  let v4368 : BitVec 32 := Scalar.muli v4367 c1_i32_4165
  let v4369 : BitVec 32 := Scalar.addi c0_i32_4166 v4368
  v4369.toNat
def k0_dev58 (d0 : Dev nD) : Nat :=
  let c0_i32_4305 : BitVec 32 := 0#32
  let c8_i32_4259 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4214 : BitVec 32 := 0#32
  let v4401 : BitVec 1 := Scalar.cmpi .sgt v2 c0_i32_4214
  let v4402 : BitVec 32 := Scalar.extui v4401
  let c0_i32_4215 : BitVec 32 := 0#32
  let v4403 : BitVec 1 := Scalar.cmpi .slt v2 c0_i32_4215
  let v4404 : BitVec 32 := Scalar.extui v4403
  let v4405 : BitVec 32 := Scalar.subi v4402 v4404
  let c8_i32_4213 : BitVec 32 := 8#32
  let c0_i32_4216 : BitVec 32 := 0#32
  let v4406 : BitVec 1 := Scalar.cmpi .sgt c8_i32_4213 c0_i32_4216
  let v4407 : BitVec 32 := Scalar.extui v4406
  let c0_i32_4217 : BitVec 32 := 0#32
  let v4408 : BitVec 1 := Scalar.cmpi .slt c8_i32_4213 c0_i32_4217
  let v4409 : BitVec 32 := Scalar.extui v4408
  let v4410 : BitVec 32 := Scalar.subi v4407 v4409
  let v4411 : BitVec 1 := Scalar.cmpi .ne v4405 v4410
  let v4412 : BitVec 32 := Scalar.remsi v2 c8_i32_4213
  let c0_i32_4218 : BitVec 32 := 0#32
  let v4413 : BitVec 1 := Scalar.cmpi .ne v4412 c0_i32_4218
  let v4414 : BitVec 1 := Scalar.andi v4411 v4413
  let v4400 : BitVec 32 := Scalar.divsi v2 c8_i32_4213
  let c1_i32_4219 : BitVec 32 := 1#32
  let v4415 : BitVec 32 := Scalar.subi v4400 c1_i32_4219
  let v4416 : BitVec 32 := Scalar.select v4414 v4415 v4400
  let v4484 : BitVec 32 := Scalar.muli c8_i32_4259 v4416
  let c2_i32_4250 : BitVec 32 := 2#32
  let c8_i32_4220 : BitVec 32 := 8#32
  let c0_i32_4221 : BitVec 32 := 0#32
  let v4417 : BitVec 1 := Scalar.cmpi .eq c8_i32_4220 c0_i32_4221
  let c1_i32_4222 : BitVec 32 := 1#32
  let v4418 : BitVec 32 := Scalar.select v4417 c1_i32_4222 c8_i32_4220
  let v4419 : BitVec 32 := Scalar.remsi v2 v4418
  let c0_i32_4224 : BitVec 32 := 0#32
  let v4421 : BitVec 1 := Scalar.cmpi .slt v4419 c0_i32_4224
  let c0_i32_4225 : BitVec 32 := 0#32
  let v4422 : BitVec 1 := Scalar.cmpi .slt v4418 c0_i32_4225
  let v4423 : BitVec 1 := Scalar.xori v4421 v4422
  let c0_i32_4223 : BitVec 32 := 0#32
  let v4420 : BitVec 1 := Scalar.cmpi .ne v4419 c0_i32_4223
  let v4424 : BitVec 1 := Scalar.andi v4423 v4420
  let v4425 : BitVec 32 := Scalar.addi v4419 v4418
  let v4426 : BitVec 32 := Scalar.select v4424 v4425 v4419
  let c0_i32_4227 : BitVec 32 := 0#32
  let v4428 : BitVec 1 := Scalar.cmpi .sgt v4426 c0_i32_4227
  let v4429 : BitVec 32 := Scalar.extui v4428
  let c0_i32_4228 : BitVec 32 := 0#32
  let v4430 : BitVec 1 := Scalar.cmpi .slt v4426 c0_i32_4228
  let v4431 : BitVec 32 := Scalar.extui v4430
  let v4432 : BitVec 32 := Scalar.subi v4429 v4431
  let c2_i32_4226 : BitVec 32 := 2#32
  let c0_i32_4229 : BitVec 32 := 0#32
  let v4433 : BitVec 1 := Scalar.cmpi .sgt c2_i32_4226 c0_i32_4229
  let v4434 : BitVec 32 := Scalar.extui v4433
  let c0_i32_4230 : BitVec 32 := 0#32
  let v4435 : BitVec 1 := Scalar.cmpi .slt c2_i32_4226 c0_i32_4230
  let v4436 : BitVec 32 := Scalar.extui v4435
  let v4437 : BitVec 32 := Scalar.subi v4434 v4436
  let v4438 : BitVec 1 := Scalar.cmpi .ne v4432 v4437
  let v4439 : BitVec 32 := Scalar.remsi v4426 c2_i32_4226
  let c0_i32_4231 : BitVec 32 := 0#32
  let v4440 : BitVec 1 := Scalar.cmpi .ne v4439 c0_i32_4231
  let v4441 : BitVec 1 := Scalar.andi v4438 v4440
  let v4427 : BitVec 32 := Scalar.divsi v4426 c2_i32_4226
  let c1_i32_4232 : BitVec 32 := 1#32
  let v4442 : BitVec 32 := Scalar.subi v4427 c1_i32_4232
  let v4443 : BitVec 32 := Scalar.select v4441 v4442 v4427
  let c1_i32_4243 : BitVec 32 := 1#32
  let v4458 : BitVec 32 := Scalar.addi v4443 c1_i32_4243
  let c4_i32_4244 : BitVec 32 := 4#32
  let c0_i32_4245 : BitVec 32 := 0#32
  let v4459 : BitVec 1 := Scalar.cmpi .eq c4_i32_4244 c0_i32_4245
  let c1_i32_4246 : BitVec 32 := 1#32
  let v4460 : BitVec 32 := Scalar.select v4459 c1_i32_4246 c4_i32_4244
  let v4461 : BitVec 32 := Scalar.remsi v4458 v4460
  let c0_i32_4248 : BitVec 32 := 0#32
  let v4463 : BitVec 1 := Scalar.cmpi .slt v4461 c0_i32_4248
  let c0_i32_4249 : BitVec 32 := 0#32
  let v4464 : BitVec 1 := Scalar.cmpi .slt v4460 c0_i32_4249
  let v4465 : BitVec 1 := Scalar.xori v4463 v4464
  let c0_i32_4247 : BitVec 32 := 0#32
  let v4462 : BitVec 1 := Scalar.cmpi .ne v4461 c0_i32_4247
  let v4466 : BitVec 1 := Scalar.andi v4465 v4462
  let v4467 : BitVec 32 := Scalar.addi v4461 v4460
  let v4468 : BitVec 32 := Scalar.select v4466 v4467 v4461
  let v4469 : BitVec 32 := Scalar.muli c2_i32_4250 v4468
  let c2_i32_4251 : BitVec 32 := 2#32
  let c0_i32_4252 : BitVec 32 := 0#32
  let v4470 : BitVec 1 := Scalar.cmpi .eq c2_i32_4251 c0_i32_4252
  let c1_i32_4253 : BitVec 32 := 1#32
  let v4471 : BitVec 32 := Scalar.select v4470 c1_i32_4253 c2_i32_4251
  let v4472 : BitVec 32 := Scalar.remsi v4468 v4471
  let c0_i32_4255 : BitVec 32 := 0#32
  let v4474 : BitVec 1 := Scalar.cmpi .slt v4472 c0_i32_4255
  let c0_i32_4256 : BitVec 32 := 0#32
  let v4475 : BitVec 1 := Scalar.cmpi .slt v4471 c0_i32_4256
  let v4476 : BitVec 1 := Scalar.xori v4474 v4475
  let c0_i32_4254 : BitVec 32 := 0#32
  let v4473 : BitVec 1 := Scalar.cmpi .ne v4472 c0_i32_4254
  let v4477 : BitVec 1 := Scalar.andi v4476 v4473
  let v4478 : BitVec 32 := Scalar.addi v4472 v4471
  let v4479 : BitVec 32 := Scalar.select v4477 v4478 v4472
  let c0_i32_4257 : BitVec 32 := 0#32
  let v4480 : BitVec 1 := Scalar.cmpi .eq v4479 c0_i32_4257
  let c4_i32_4233 : BitVec 32 := 4#32
  let c0_i32_4234 : BitVec 32 := 0#32
  let v4444 : BitVec 1 := Scalar.cmpi .eq c4_i32_4233 c0_i32_4234
  let c1_i32_4235 : BitVec 32 := 1#32
  let v4445 : BitVec 32 := Scalar.select v4444 c1_i32_4235 c4_i32_4233
  let v4446 : BitVec 32 := Scalar.remsi v4426 v4445
  let c0_i32_4237 : BitVec 32 := 0#32
  let v4448 : BitVec 1 := Scalar.cmpi .slt v4446 c0_i32_4237
  let c0_i32_4238 : BitVec 32 := 0#32
  let v4449 : BitVec 1 := Scalar.cmpi .slt v4445 c0_i32_4238
  let v4450 : BitVec 1 := Scalar.xori v4448 v4449
  let c0_i32_4236 : BitVec 32 := 0#32
  let v4447 : BitVec 1 := Scalar.cmpi .ne v4446 c0_i32_4236
  let v4451 : BitVec 1 := Scalar.andi v4450 v4447
  let v4452 : BitVec 32 := Scalar.addi v4446 v4445
  let v4453 : BitVec 32 := Scalar.select v4451 v4452 v4446
  let c1_i32_4239 : BitVec 32 := 1#32
  let v4454 : BitVec 1 := Scalar.cmpi .eq v4453 c1_i32_4239
  let c2_i32_4240 : BitVec 32 := 2#32
  let v4455 : BitVec 1 := Scalar.cmpi .eq v4453 c2_i32_4240
  let v4456 : BitVec 1 := Scalar.ori v4454 v4455
  let c1_i32_4241 : BitVec 32 := 1#32
  let c0_i32_4242 : BitVec 32 := 0#32
  let v4457 : BitVec 32 := Scalar.select v4456 c1_i32_4241 c0_i32_4242
  let c1_i32_4258 : BitVec 32 := 1#32
  let v4481 : BitVec 32 := Scalar.subi c1_i32_4258 v4457
  let v4482 : BitVec 32 := Scalar.select v4480 v4457 v4481
  let v4483 : BitVec 32 := Scalar.addi v4469 v4482
  let v4485 : BitVec 32 := Scalar.addi v4484 v4483
  let c1_i32_4304 : BitVec 32 := 1#32
  let v4542 : BitVec 32 := Scalar.muli v4485 c1_i32_4304
  let v4543 : BitVec 32 := Scalar.addi c0_i32_4305 v4542
  v4543.toNat
def k0_dev59 (d0 : Dev nD) : Nat :=
  let c0_i32_4321 : BitVec 32 := 0#32
  let c8_i32_4276 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4214 : BitVec 32 := 0#32
  let v4401 : BitVec 1 := Scalar.cmpi .sgt v2 c0_i32_4214
  let v4402 : BitVec 32 := Scalar.extui v4401
  let c0_i32_4215 : BitVec 32 := 0#32
  let v4403 : BitVec 1 := Scalar.cmpi .slt v2 c0_i32_4215
  let v4404 : BitVec 32 := Scalar.extui v4403
  let v4405 : BitVec 32 := Scalar.subi v4402 v4404
  let c8_i32_4213 : BitVec 32 := 8#32
  let c0_i32_4216 : BitVec 32 := 0#32
  let v4406 : BitVec 1 := Scalar.cmpi .sgt c8_i32_4213 c0_i32_4216
  let v4407 : BitVec 32 := Scalar.extui v4406
  let c0_i32_4217 : BitVec 32 := 0#32
  let v4408 : BitVec 1 := Scalar.cmpi .slt c8_i32_4213 c0_i32_4217
  let v4409 : BitVec 32 := Scalar.extui v4408
  let v4410 : BitVec 32 := Scalar.subi v4407 v4409
  let v4411 : BitVec 1 := Scalar.cmpi .ne v4405 v4410
  let v4412 : BitVec 32 := Scalar.remsi v2 c8_i32_4213
  let c0_i32_4218 : BitVec 32 := 0#32
  let v4413 : BitVec 1 := Scalar.cmpi .ne v4412 c0_i32_4218
  let v4414 : BitVec 1 := Scalar.andi v4411 v4413
  let v4400 : BitVec 32 := Scalar.divsi v2 c8_i32_4213
  let c1_i32_4219 : BitVec 32 := 1#32
  let v4415 : BitVec 32 := Scalar.subi v4400 c1_i32_4219
  let v4416 : BitVec 32 := Scalar.select v4414 v4415 v4400
  let v4512 : BitVec 32 := Scalar.muli c8_i32_4276 v4416
  let c2_i32_4267 : BitVec 32 := 2#32
  let c8_i32_4220 : BitVec 32 := 8#32
  let c0_i32_4221 : BitVec 32 := 0#32
  let v4417 : BitVec 1 := Scalar.cmpi .eq c8_i32_4220 c0_i32_4221
  let c1_i32_4222 : BitVec 32 := 1#32
  let v4418 : BitVec 32 := Scalar.select v4417 c1_i32_4222 c8_i32_4220
  let v4419 : BitVec 32 := Scalar.remsi v2 v4418
  let c0_i32_4224 : BitVec 32 := 0#32
  let v4421 : BitVec 1 := Scalar.cmpi .slt v4419 c0_i32_4224
  let c0_i32_4225 : BitVec 32 := 0#32
  let v4422 : BitVec 1 := Scalar.cmpi .slt v4418 c0_i32_4225
  let v4423 : BitVec 1 := Scalar.xori v4421 v4422
  let c0_i32_4223 : BitVec 32 := 0#32
  let v4420 : BitVec 1 := Scalar.cmpi .ne v4419 c0_i32_4223
  let v4424 : BitVec 1 := Scalar.andi v4423 v4420
  let v4425 : BitVec 32 := Scalar.addi v4419 v4418
  let v4426 : BitVec 32 := Scalar.select v4424 v4425 v4419
  let c0_i32_4227 : BitVec 32 := 0#32
  let v4428 : BitVec 1 := Scalar.cmpi .sgt v4426 c0_i32_4227
  let v4429 : BitVec 32 := Scalar.extui v4428
  let c0_i32_4228 : BitVec 32 := 0#32
  let v4430 : BitVec 1 := Scalar.cmpi .slt v4426 c0_i32_4228
  let v4431 : BitVec 32 := Scalar.extui v4430
  let v4432 : BitVec 32 := Scalar.subi v4429 v4431
  let c2_i32_4226 : BitVec 32 := 2#32
  let c0_i32_4229 : BitVec 32 := 0#32
  let v4433 : BitVec 1 := Scalar.cmpi .sgt c2_i32_4226 c0_i32_4229
  let v4434 : BitVec 32 := Scalar.extui v4433
  let c0_i32_4230 : BitVec 32 := 0#32
  let v4435 : BitVec 1 := Scalar.cmpi .slt c2_i32_4226 c0_i32_4230
  let v4436 : BitVec 32 := Scalar.extui v4435
  let v4437 : BitVec 32 := Scalar.subi v4434 v4436
  let v4438 : BitVec 1 := Scalar.cmpi .ne v4432 v4437
  let v4439 : BitVec 32 := Scalar.remsi v4426 c2_i32_4226
  let c0_i32_4231 : BitVec 32 := 0#32
  let v4440 : BitVec 1 := Scalar.cmpi .ne v4439 c0_i32_4231
  let v4441 : BitVec 1 := Scalar.andi v4438 v4440
  let v4427 : BitVec 32 := Scalar.divsi v4426 c2_i32_4226
  let c1_i32_4232 : BitVec 32 := 1#32
  let v4442 : BitVec 32 := Scalar.subi v4427 c1_i32_4232
  let v4443 : BitVec 32 := Scalar.select v4441 v4442 v4427
  let c2_i32_4260 : BitVec 32 := 2#32
  let v4486 : BitVec 32 := Scalar.addi v4443 c2_i32_4260
  let c4_i32_4261 : BitVec 32 := 4#32
  let c0_i32_4262 : BitVec 32 := 0#32
  let v4487 : BitVec 1 := Scalar.cmpi .eq c4_i32_4261 c0_i32_4262
  let c1_i32_4263 : BitVec 32 := 1#32
  let v4488 : BitVec 32 := Scalar.select v4487 c1_i32_4263 c4_i32_4261
  let v4489 : BitVec 32 := Scalar.remsi v4486 v4488
  let c0_i32_4265 : BitVec 32 := 0#32
  let v4491 : BitVec 1 := Scalar.cmpi .slt v4489 c0_i32_4265
  let c0_i32_4266 : BitVec 32 := 0#32
  let v4492 : BitVec 1 := Scalar.cmpi .slt v4488 c0_i32_4266
  let v4493 : BitVec 1 := Scalar.xori v4491 v4492
  let c0_i32_4264 : BitVec 32 := 0#32
  let v4490 : BitVec 1 := Scalar.cmpi .ne v4489 c0_i32_4264
  let v4494 : BitVec 1 := Scalar.andi v4493 v4490
  let v4495 : BitVec 32 := Scalar.addi v4489 v4488
  let v4496 : BitVec 32 := Scalar.select v4494 v4495 v4489
  let v4497 : BitVec 32 := Scalar.muli c2_i32_4267 v4496
  let c2_i32_4268 : BitVec 32 := 2#32
  let c0_i32_4269 : BitVec 32 := 0#32
  let v4498 : BitVec 1 := Scalar.cmpi .eq c2_i32_4268 c0_i32_4269
  let c1_i32_4270 : BitVec 32 := 1#32
  let v4499 : BitVec 32 := Scalar.select v4498 c1_i32_4270 c2_i32_4268
  let v4500 : BitVec 32 := Scalar.remsi v4496 v4499
  let c0_i32_4272 : BitVec 32 := 0#32
  let v4502 : BitVec 1 := Scalar.cmpi .slt v4500 c0_i32_4272
  let c0_i32_4273 : BitVec 32 := 0#32
  let v4503 : BitVec 1 := Scalar.cmpi .slt v4499 c0_i32_4273
  let v4504 : BitVec 1 := Scalar.xori v4502 v4503
  let c0_i32_4271 : BitVec 32 := 0#32
  let v4501 : BitVec 1 := Scalar.cmpi .ne v4500 c0_i32_4271
  let v4505 : BitVec 1 := Scalar.andi v4504 v4501
  let v4506 : BitVec 32 := Scalar.addi v4500 v4499
  let v4507 : BitVec 32 := Scalar.select v4505 v4506 v4500
  let c0_i32_4274 : BitVec 32 := 0#32
  let v4508 : BitVec 1 := Scalar.cmpi .eq v4507 c0_i32_4274
  let c4_i32_4233 : BitVec 32 := 4#32
  let c0_i32_4234 : BitVec 32 := 0#32
  let v4444 : BitVec 1 := Scalar.cmpi .eq c4_i32_4233 c0_i32_4234
  let c1_i32_4235 : BitVec 32 := 1#32
  let v4445 : BitVec 32 := Scalar.select v4444 c1_i32_4235 c4_i32_4233
  let v4446 : BitVec 32 := Scalar.remsi v4426 v4445
  let c0_i32_4237 : BitVec 32 := 0#32
  let v4448 : BitVec 1 := Scalar.cmpi .slt v4446 c0_i32_4237
  let c0_i32_4238 : BitVec 32 := 0#32
  let v4449 : BitVec 1 := Scalar.cmpi .slt v4445 c0_i32_4238
  let v4450 : BitVec 1 := Scalar.xori v4448 v4449
  let c0_i32_4236 : BitVec 32 := 0#32
  let v4447 : BitVec 1 := Scalar.cmpi .ne v4446 c0_i32_4236
  let v4451 : BitVec 1 := Scalar.andi v4450 v4447
  let v4452 : BitVec 32 := Scalar.addi v4446 v4445
  let v4453 : BitVec 32 := Scalar.select v4451 v4452 v4446
  let c1_i32_4239 : BitVec 32 := 1#32
  let v4454 : BitVec 1 := Scalar.cmpi .eq v4453 c1_i32_4239
  let c2_i32_4240 : BitVec 32 := 2#32
  let v4455 : BitVec 1 := Scalar.cmpi .eq v4453 c2_i32_4240
  let v4456 : BitVec 1 := Scalar.ori v4454 v4455
  let c1_i32_4241 : BitVec 32 := 1#32
  let c0_i32_4242 : BitVec 32 := 0#32
  let v4457 : BitVec 32 := Scalar.select v4456 c1_i32_4241 c0_i32_4242
  let c1_i32_4275 : BitVec 32 := 1#32
  let v4509 : BitVec 32 := Scalar.subi c1_i32_4275 v4457
  let v4510 : BitVec 32 := Scalar.select v4508 v4457 v4509
  let v4511 : BitVec 32 := Scalar.addi v4497 v4510
  let v4513 : BitVec 32 := Scalar.addi v4512 v4511
  let c1_i32_4320 : BitVec 32 := 1#32
  let v4552 : BitVec 32 := Scalar.muli v4513 c1_i32_4320
  let v4553 : BitVec 32 := Scalar.addi c0_i32_4321 v4552
  v4553.toNat
def k0_dev60 (d0 : Dev nD) : Nat :=
  let c0_i32_4337 : BitVec 32 := 0#32
  let c8_i32_4293 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4214 : BitVec 32 := 0#32
  let v4401 : BitVec 1 := Scalar.cmpi .sgt v2 c0_i32_4214
  let v4402 : BitVec 32 := Scalar.extui v4401
  let c0_i32_4215 : BitVec 32 := 0#32
  let v4403 : BitVec 1 := Scalar.cmpi .slt v2 c0_i32_4215
  let v4404 : BitVec 32 := Scalar.extui v4403
  let v4405 : BitVec 32 := Scalar.subi v4402 v4404
  let c8_i32_4213 : BitVec 32 := 8#32
  let c0_i32_4216 : BitVec 32 := 0#32
  let v4406 : BitVec 1 := Scalar.cmpi .sgt c8_i32_4213 c0_i32_4216
  let v4407 : BitVec 32 := Scalar.extui v4406
  let c0_i32_4217 : BitVec 32 := 0#32
  let v4408 : BitVec 1 := Scalar.cmpi .slt c8_i32_4213 c0_i32_4217
  let v4409 : BitVec 32 := Scalar.extui v4408
  let v4410 : BitVec 32 := Scalar.subi v4407 v4409
  let v4411 : BitVec 1 := Scalar.cmpi .ne v4405 v4410
  let v4412 : BitVec 32 := Scalar.remsi v2 c8_i32_4213
  let c0_i32_4218 : BitVec 32 := 0#32
  let v4413 : BitVec 1 := Scalar.cmpi .ne v4412 c0_i32_4218
  let v4414 : BitVec 1 := Scalar.andi v4411 v4413
  let v4400 : BitVec 32 := Scalar.divsi v2 c8_i32_4213
  let c1_i32_4219 : BitVec 32 := 1#32
  let v4415 : BitVec 32 := Scalar.subi v4400 c1_i32_4219
  let v4416 : BitVec 32 := Scalar.select v4414 v4415 v4400
  let v4540 : BitVec 32 := Scalar.muli c8_i32_4293 v4416
  let c2_i32_4284 : BitVec 32 := 2#32
  let c8_i32_4220 : BitVec 32 := 8#32
  let c0_i32_4221 : BitVec 32 := 0#32
  let v4417 : BitVec 1 := Scalar.cmpi .eq c8_i32_4220 c0_i32_4221
  let c1_i32_4222 : BitVec 32 := 1#32
  let v4418 : BitVec 32 := Scalar.select v4417 c1_i32_4222 c8_i32_4220
  let v4419 : BitVec 32 := Scalar.remsi v2 v4418
  let c0_i32_4224 : BitVec 32 := 0#32
  let v4421 : BitVec 1 := Scalar.cmpi .slt v4419 c0_i32_4224
  let c0_i32_4225 : BitVec 32 := 0#32
  let v4422 : BitVec 1 := Scalar.cmpi .slt v4418 c0_i32_4225
  let v4423 : BitVec 1 := Scalar.xori v4421 v4422
  let c0_i32_4223 : BitVec 32 := 0#32
  let v4420 : BitVec 1 := Scalar.cmpi .ne v4419 c0_i32_4223
  let v4424 : BitVec 1 := Scalar.andi v4423 v4420
  let v4425 : BitVec 32 := Scalar.addi v4419 v4418
  let v4426 : BitVec 32 := Scalar.select v4424 v4425 v4419
  let c0_i32_4227 : BitVec 32 := 0#32
  let v4428 : BitVec 1 := Scalar.cmpi .sgt v4426 c0_i32_4227
  let v4429 : BitVec 32 := Scalar.extui v4428
  let c0_i32_4228 : BitVec 32 := 0#32
  let v4430 : BitVec 1 := Scalar.cmpi .slt v4426 c0_i32_4228
  let v4431 : BitVec 32 := Scalar.extui v4430
  let v4432 : BitVec 32 := Scalar.subi v4429 v4431
  let c2_i32_4226 : BitVec 32 := 2#32
  let c0_i32_4229 : BitVec 32 := 0#32
  let v4433 : BitVec 1 := Scalar.cmpi .sgt c2_i32_4226 c0_i32_4229
  let v4434 : BitVec 32 := Scalar.extui v4433
  let c0_i32_4230 : BitVec 32 := 0#32
  let v4435 : BitVec 1 := Scalar.cmpi .slt c2_i32_4226 c0_i32_4230
  let v4436 : BitVec 32 := Scalar.extui v4435
  let v4437 : BitVec 32 := Scalar.subi v4434 v4436
  let v4438 : BitVec 1 := Scalar.cmpi .ne v4432 v4437
  let v4439 : BitVec 32 := Scalar.remsi v4426 c2_i32_4226
  let c0_i32_4231 : BitVec 32 := 0#32
  let v4440 : BitVec 1 := Scalar.cmpi .ne v4439 c0_i32_4231
  let v4441 : BitVec 1 := Scalar.andi v4438 v4440
  let v4427 : BitVec 32 := Scalar.divsi v4426 c2_i32_4226
  let c1_i32_4232 : BitVec 32 := 1#32
  let v4442 : BitVec 32 := Scalar.subi v4427 c1_i32_4232
  let v4443 : BitVec 32 := Scalar.select v4441 v4442 v4427
  let c3_i32_4277 : BitVec 32 := 3#32
  let v4514 : BitVec 32 := Scalar.addi v4443 c3_i32_4277
  let c4_i32_4278 : BitVec 32 := 4#32
  let c0_i32_4279 : BitVec 32 := 0#32
  let v4515 : BitVec 1 := Scalar.cmpi .eq c4_i32_4278 c0_i32_4279
  let c1_i32_4280 : BitVec 32 := 1#32
  let v4516 : BitVec 32 := Scalar.select v4515 c1_i32_4280 c4_i32_4278
  let v4517 : BitVec 32 := Scalar.remsi v4514 v4516
  let c0_i32_4282 : BitVec 32 := 0#32
  let v4519 : BitVec 1 := Scalar.cmpi .slt v4517 c0_i32_4282
  let c0_i32_4283 : BitVec 32 := 0#32
  let v4520 : BitVec 1 := Scalar.cmpi .slt v4516 c0_i32_4283
  let v4521 : BitVec 1 := Scalar.xori v4519 v4520
  let c0_i32_4281 : BitVec 32 := 0#32
  let v4518 : BitVec 1 := Scalar.cmpi .ne v4517 c0_i32_4281
  let v4522 : BitVec 1 := Scalar.andi v4521 v4518
  let v4523 : BitVec 32 := Scalar.addi v4517 v4516
  let v4524 : BitVec 32 := Scalar.select v4522 v4523 v4517
  let v4525 : BitVec 32 := Scalar.muli c2_i32_4284 v4524
  let c2_i32_4285 : BitVec 32 := 2#32
  let c0_i32_4286 : BitVec 32 := 0#32
  let v4526 : BitVec 1 := Scalar.cmpi .eq c2_i32_4285 c0_i32_4286
  let c1_i32_4287 : BitVec 32 := 1#32
  let v4527 : BitVec 32 := Scalar.select v4526 c1_i32_4287 c2_i32_4285
  let v4528 : BitVec 32 := Scalar.remsi v4524 v4527
  let c0_i32_4289 : BitVec 32 := 0#32
  let v4530 : BitVec 1 := Scalar.cmpi .slt v4528 c0_i32_4289
  let c0_i32_4290 : BitVec 32 := 0#32
  let v4531 : BitVec 1 := Scalar.cmpi .slt v4527 c0_i32_4290
  let v4532 : BitVec 1 := Scalar.xori v4530 v4531
  let c0_i32_4288 : BitVec 32 := 0#32
  let v4529 : BitVec 1 := Scalar.cmpi .ne v4528 c0_i32_4288
  let v4533 : BitVec 1 := Scalar.andi v4532 v4529
  let v4534 : BitVec 32 := Scalar.addi v4528 v4527
  let v4535 : BitVec 32 := Scalar.select v4533 v4534 v4528
  let c0_i32_4291 : BitVec 32 := 0#32
  let v4536 : BitVec 1 := Scalar.cmpi .eq v4535 c0_i32_4291
  let c4_i32_4233 : BitVec 32 := 4#32
  let c0_i32_4234 : BitVec 32 := 0#32
  let v4444 : BitVec 1 := Scalar.cmpi .eq c4_i32_4233 c0_i32_4234
  let c1_i32_4235 : BitVec 32 := 1#32
  let v4445 : BitVec 32 := Scalar.select v4444 c1_i32_4235 c4_i32_4233
  let v4446 : BitVec 32 := Scalar.remsi v4426 v4445
  let c0_i32_4237 : BitVec 32 := 0#32
  let v4448 : BitVec 1 := Scalar.cmpi .slt v4446 c0_i32_4237
  let c0_i32_4238 : BitVec 32 := 0#32
  let v4449 : BitVec 1 := Scalar.cmpi .slt v4445 c0_i32_4238
  let v4450 : BitVec 1 := Scalar.xori v4448 v4449
  let c0_i32_4236 : BitVec 32 := 0#32
  let v4447 : BitVec 1 := Scalar.cmpi .ne v4446 c0_i32_4236
  let v4451 : BitVec 1 := Scalar.andi v4450 v4447
  let v4452 : BitVec 32 := Scalar.addi v4446 v4445
  let v4453 : BitVec 32 := Scalar.select v4451 v4452 v4446
  let c1_i32_4239 : BitVec 32 := 1#32
  let v4454 : BitVec 1 := Scalar.cmpi .eq v4453 c1_i32_4239
  let c2_i32_4240 : BitVec 32 := 2#32
  let v4455 : BitVec 1 := Scalar.cmpi .eq v4453 c2_i32_4240
  let v4456 : BitVec 1 := Scalar.ori v4454 v4455
  let c1_i32_4241 : BitVec 32 := 1#32
  let c0_i32_4242 : BitVec 32 := 0#32
  let v4457 : BitVec 32 := Scalar.select v4456 c1_i32_4241 c0_i32_4242
  let c1_i32_4292 : BitVec 32 := 1#32
  let v4537 : BitVec 32 := Scalar.subi c1_i32_4292 v4457
  let v4538 : BitVec 32 := Scalar.select v4536 v4457 v4537
  let v4539 : BitVec 32 := Scalar.addi v4525 v4538
  let v4541 : BitVec 32 := Scalar.addi v4540 v4539
  let c1_i32_4336 : BitVec 32 := 1#32
  let v4562 : BitVec 32 := Scalar.muli v4541 c1_i32_4336
  let v4563 : BitVec 32 := Scalar.addi c0_i32_4337 v4562
  v4563.toNat
def k0_dev61 (d0 : Dev nD) : Nat :=
  let c0_i32_4548 : BitVec 32 := 0#32
  let c8_i32_4502 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4457 : BitVec 32 := 0#32
  let v4629 : BitVec 1 := Scalar.cmpi .sgt v2 c0_i32_4457
  let v4630 : BitVec 32 := Scalar.extui v4629
  let c0_i32_4458 : BitVec 32 := 0#32
  let v4631 : BitVec 1 := Scalar.cmpi .slt v2 c0_i32_4458
  let v4632 : BitVec 32 := Scalar.extui v4631
  let v4633 : BitVec 32 := Scalar.subi v4630 v4632
  let c8_i32_4456 : BitVec 32 := 8#32
  let c0_i32_4459 : BitVec 32 := 0#32
  let v4634 : BitVec 1 := Scalar.cmpi .sgt c8_i32_4456 c0_i32_4459
  let v4635 : BitVec 32 := Scalar.extui v4634
  let c0_i32_4460 : BitVec 32 := 0#32
  let v4636 : BitVec 1 := Scalar.cmpi .slt c8_i32_4456 c0_i32_4460
  let v4637 : BitVec 32 := Scalar.extui v4636
  let v4638 : BitVec 32 := Scalar.subi v4635 v4637
  let v4639 : BitVec 1 := Scalar.cmpi .ne v4633 v4638
  let v4640 : BitVec 32 := Scalar.remsi v2 c8_i32_4456
  let c0_i32_4461 : BitVec 32 := 0#32
  let v4641 : BitVec 1 := Scalar.cmpi .ne v4640 c0_i32_4461
  let v4642 : BitVec 1 := Scalar.andi v4639 v4641
  let v4628 : BitVec 32 := Scalar.divsi v2 c8_i32_4456
  let c1_i32_4462 : BitVec 32 := 1#32
  let v4643 : BitVec 32 := Scalar.subi v4628 c1_i32_4462
  let v4644 : BitVec 32 := Scalar.select v4642 v4643 v4628
  let c1_i32_4486 : BitVec 32 := 1#32
  let v4686 : BitVec 32 := Scalar.addi v4644 c1_i32_4486
  let c4_i32_4487 : BitVec 32 := 4#32
  let c0_i32_4488 : BitVec 32 := 0#32
  let v4687 : BitVec 1 := Scalar.cmpi .eq c4_i32_4487 c0_i32_4488
  let c1_i32_4489 : BitVec 32 := 1#32
  let v4688 : BitVec 32 := Scalar.select v4687 c1_i32_4489 c4_i32_4487
  let v4689 : BitVec 32 := Scalar.remsi v4686 v4688
  let c0_i32_4491 : BitVec 32 := 0#32
  let v4691 : BitVec 1 := Scalar.cmpi .slt v4689 c0_i32_4491
  let c0_i32_4492 : BitVec 32 := 0#32
  let v4692 : BitVec 1 := Scalar.cmpi .slt v4688 c0_i32_4492
  let v4693 : BitVec 1 := Scalar.xori v4691 v4692
  let c0_i32_4490 : BitVec 32 := 0#32
  let v4690 : BitVec 1 := Scalar.cmpi .ne v4689 c0_i32_4490
  let v4694 : BitVec 1 := Scalar.andi v4693 v4690
  let v4695 : BitVec 32 := Scalar.addi v4689 v4688
  let v4696 : BitVec 32 := Scalar.select v4694 v4695 v4689
  let v4712 : BitVec 32 := Scalar.muli c8_i32_4502 v4696
  let c2_i32_4493 : BitVec 32 := 2#32
  let c8_i32_4463 : BitVec 32 := 8#32
  let c0_i32_4464 : BitVec 32 := 0#32
  let v4645 : BitVec 1 := Scalar.cmpi .eq c8_i32_4463 c0_i32_4464
  let c1_i32_4465 : BitVec 32 := 1#32
  let v4646 : BitVec 32 := Scalar.select v4645 c1_i32_4465 c8_i32_4463
  let v4647 : BitVec 32 := Scalar.remsi v2 v4646
  let c0_i32_4467 : BitVec 32 := 0#32
  let v4649 : BitVec 1 := Scalar.cmpi .slt v4647 c0_i32_4467
  let c0_i32_4468 : BitVec 32 := 0#32
  let v4650 : BitVec 1 := Scalar.cmpi .slt v4646 c0_i32_4468
  let v4651 : BitVec 1 := Scalar.xori v4649 v4650
  let c0_i32_4466 : BitVec 32 := 0#32
  let v4648 : BitVec 1 := Scalar.cmpi .ne v4647 c0_i32_4466
  let v4652 : BitVec 1 := Scalar.andi v4651 v4648
  let v4653 : BitVec 32 := Scalar.addi v4647 v4646
  let v4654 : BitVec 32 := Scalar.select v4652 v4653 v4647
  let c0_i32_4470 : BitVec 32 := 0#32
  let v4656 : BitVec 1 := Scalar.cmpi .sgt v4654 c0_i32_4470
  let v4657 : BitVec 32 := Scalar.extui v4656
  let c0_i32_4471 : BitVec 32 := 0#32
  let v4658 : BitVec 1 := Scalar.cmpi .slt v4654 c0_i32_4471
  let v4659 : BitVec 32 := Scalar.extui v4658
  let v4660 : BitVec 32 := Scalar.subi v4657 v4659
  let c2_i32_4469 : BitVec 32 := 2#32
  let c0_i32_4472 : BitVec 32 := 0#32
  let v4661 : BitVec 1 := Scalar.cmpi .sgt c2_i32_4469 c0_i32_4472
  let v4662 : BitVec 32 := Scalar.extui v4661
  let c0_i32_4473 : BitVec 32 := 0#32
  let v4663 : BitVec 1 := Scalar.cmpi .slt c2_i32_4469 c0_i32_4473
  let v4664 : BitVec 32 := Scalar.extui v4663
  let v4665 : BitVec 32 := Scalar.subi v4662 v4664
  let v4666 : BitVec 1 := Scalar.cmpi .ne v4660 v4665
  let v4667 : BitVec 32 := Scalar.remsi v4654 c2_i32_4469
  let c0_i32_4474 : BitVec 32 := 0#32
  let v4668 : BitVec 1 := Scalar.cmpi .ne v4667 c0_i32_4474
  let v4669 : BitVec 1 := Scalar.andi v4666 v4668
  let v4655 : BitVec 32 := Scalar.divsi v4654 c2_i32_4469
  let c1_i32_4475 : BitVec 32 := 1#32
  let v4670 : BitVec 32 := Scalar.subi v4655 c1_i32_4475
  let v4671 : BitVec 32 := Scalar.select v4669 v4670 v4655
  let v4697 : BitVec 32 := Scalar.muli c2_i32_4493 v4671
  let c2_i32_4494 : BitVec 32 := 2#32
  let c0_i32_4495 : BitVec 32 := 0#32
  let v4698 : BitVec 1 := Scalar.cmpi .eq c2_i32_4494 c0_i32_4495
  let c1_i32_4496 : BitVec 32 := 1#32
  let v4699 : BitVec 32 := Scalar.select v4698 c1_i32_4496 c2_i32_4494
  let v4700 : BitVec 32 := Scalar.remsi v4671 v4699
  let c0_i32_4498 : BitVec 32 := 0#32
  let v4702 : BitVec 1 := Scalar.cmpi .slt v4700 c0_i32_4498
  let c0_i32_4499 : BitVec 32 := 0#32
  let v4703 : BitVec 1 := Scalar.cmpi .slt v4699 c0_i32_4499
  let v4704 : BitVec 1 := Scalar.xori v4702 v4703
  let c0_i32_4497 : BitVec 32 := 0#32
  let v4701 : BitVec 1 := Scalar.cmpi .ne v4700 c0_i32_4497
  let v4705 : BitVec 1 := Scalar.andi v4704 v4701
  let v4706 : BitVec 32 := Scalar.addi v4700 v4699
  let v4707 : BitVec 32 := Scalar.select v4705 v4706 v4700
  let c0_i32_4500 : BitVec 32 := 0#32
  let v4708 : BitVec 1 := Scalar.cmpi .eq v4707 c0_i32_4500
  let c4_i32_4476 : BitVec 32 := 4#32
  let c0_i32_4477 : BitVec 32 := 0#32
  let v4672 : BitVec 1 := Scalar.cmpi .eq c4_i32_4476 c0_i32_4477
  let c1_i32_4478 : BitVec 32 := 1#32
  let v4673 : BitVec 32 := Scalar.select v4672 c1_i32_4478 c4_i32_4476
  let v4674 : BitVec 32 := Scalar.remsi v4654 v4673
  let c0_i32_4480 : BitVec 32 := 0#32
  let v4676 : BitVec 1 := Scalar.cmpi .slt v4674 c0_i32_4480
  let c0_i32_4481 : BitVec 32 := 0#32
  let v4677 : BitVec 1 := Scalar.cmpi .slt v4673 c0_i32_4481
  let v4678 : BitVec 1 := Scalar.xori v4676 v4677
  let c0_i32_4479 : BitVec 32 := 0#32
  let v4675 : BitVec 1 := Scalar.cmpi .ne v4674 c0_i32_4479
  let v4679 : BitVec 1 := Scalar.andi v4678 v4675
  let v4680 : BitVec 32 := Scalar.addi v4674 v4673
  let v4681 : BitVec 32 := Scalar.select v4679 v4680 v4674
  let c1_i32_4482 : BitVec 32 := 1#32
  let v4682 : BitVec 1 := Scalar.cmpi .eq v4681 c1_i32_4482
  let c2_i32_4483 : BitVec 32 := 2#32
  let v4683 : BitVec 1 := Scalar.cmpi .eq v4681 c2_i32_4483
  let v4684 : BitVec 1 := Scalar.ori v4682 v4683
  let c1_i32_4484 : BitVec 32 := 1#32
  let c0_i32_4485 : BitVec 32 := 0#32
  let v4685 : BitVec 32 := Scalar.select v4684 c1_i32_4484 c0_i32_4485
  let c1_i32_4501 : BitVec 32 := 1#32
  let v4709 : BitVec 32 := Scalar.subi c1_i32_4501 v4685
  let v4710 : BitVec 32 := Scalar.select v4708 v4685 v4709
  let v4711 : BitVec 32 := Scalar.addi v4697 v4710
  let v4713 : BitVec 32 := Scalar.addi v4712 v4711
  let c1_i32_4547 : BitVec 32 := 1#32
  let v4770 : BitVec 32 := Scalar.muli v4713 c1_i32_4547
  let v4771 : BitVec 32 := Scalar.addi c0_i32_4548 v4770
  v4771.toNat
def k0_dev62 (d0 : Dev nD) : Nat :=
  let c0_i32_4564 : BitVec 32 := 0#32
  let c8_i32_4519 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4457 : BitVec 32 := 0#32
  let v4629 : BitVec 1 := Scalar.cmpi .sgt v2 c0_i32_4457
  let v4630 : BitVec 32 := Scalar.extui v4629
  let c0_i32_4458 : BitVec 32 := 0#32
  let v4631 : BitVec 1 := Scalar.cmpi .slt v2 c0_i32_4458
  let v4632 : BitVec 32 := Scalar.extui v4631
  let v4633 : BitVec 32 := Scalar.subi v4630 v4632
  let c8_i32_4456 : BitVec 32 := 8#32
  let c0_i32_4459 : BitVec 32 := 0#32
  let v4634 : BitVec 1 := Scalar.cmpi .sgt c8_i32_4456 c0_i32_4459
  let v4635 : BitVec 32 := Scalar.extui v4634
  let c0_i32_4460 : BitVec 32 := 0#32
  let v4636 : BitVec 1 := Scalar.cmpi .slt c8_i32_4456 c0_i32_4460
  let v4637 : BitVec 32 := Scalar.extui v4636
  let v4638 : BitVec 32 := Scalar.subi v4635 v4637
  let v4639 : BitVec 1 := Scalar.cmpi .ne v4633 v4638
  let v4640 : BitVec 32 := Scalar.remsi v2 c8_i32_4456
  let c0_i32_4461 : BitVec 32 := 0#32
  let v4641 : BitVec 1 := Scalar.cmpi .ne v4640 c0_i32_4461
  let v4642 : BitVec 1 := Scalar.andi v4639 v4641
  let v4628 : BitVec 32 := Scalar.divsi v2 c8_i32_4456
  let c1_i32_4462 : BitVec 32 := 1#32
  let v4643 : BitVec 32 := Scalar.subi v4628 c1_i32_4462
  let v4644 : BitVec 32 := Scalar.select v4642 v4643 v4628
  let c2_i32_4503 : BitVec 32 := 2#32
  let v4714 : BitVec 32 := Scalar.addi v4644 c2_i32_4503
  let c4_i32_4504 : BitVec 32 := 4#32
  let c0_i32_4505 : BitVec 32 := 0#32
  let v4715 : BitVec 1 := Scalar.cmpi .eq c4_i32_4504 c0_i32_4505
  let c1_i32_4506 : BitVec 32 := 1#32
  let v4716 : BitVec 32 := Scalar.select v4715 c1_i32_4506 c4_i32_4504
  let v4717 : BitVec 32 := Scalar.remsi v4714 v4716
  let c0_i32_4508 : BitVec 32 := 0#32
  let v4719 : BitVec 1 := Scalar.cmpi .slt v4717 c0_i32_4508
  let c0_i32_4509 : BitVec 32 := 0#32
  let v4720 : BitVec 1 := Scalar.cmpi .slt v4716 c0_i32_4509
  let v4721 : BitVec 1 := Scalar.xori v4719 v4720
  let c0_i32_4507 : BitVec 32 := 0#32
  let v4718 : BitVec 1 := Scalar.cmpi .ne v4717 c0_i32_4507
  let v4722 : BitVec 1 := Scalar.andi v4721 v4718
  let v4723 : BitVec 32 := Scalar.addi v4717 v4716
  let v4724 : BitVec 32 := Scalar.select v4722 v4723 v4717
  let v4740 : BitVec 32 := Scalar.muli c8_i32_4519 v4724
  let c2_i32_4510 : BitVec 32 := 2#32
  let c8_i32_4463 : BitVec 32 := 8#32
  let c0_i32_4464 : BitVec 32 := 0#32
  let v4645 : BitVec 1 := Scalar.cmpi .eq c8_i32_4463 c0_i32_4464
  let c1_i32_4465 : BitVec 32 := 1#32
  let v4646 : BitVec 32 := Scalar.select v4645 c1_i32_4465 c8_i32_4463
  let v4647 : BitVec 32 := Scalar.remsi v2 v4646
  let c0_i32_4467 : BitVec 32 := 0#32
  let v4649 : BitVec 1 := Scalar.cmpi .slt v4647 c0_i32_4467
  let c0_i32_4468 : BitVec 32 := 0#32
  let v4650 : BitVec 1 := Scalar.cmpi .slt v4646 c0_i32_4468
  let v4651 : BitVec 1 := Scalar.xori v4649 v4650
  let c0_i32_4466 : BitVec 32 := 0#32
  let v4648 : BitVec 1 := Scalar.cmpi .ne v4647 c0_i32_4466
  let v4652 : BitVec 1 := Scalar.andi v4651 v4648
  let v4653 : BitVec 32 := Scalar.addi v4647 v4646
  let v4654 : BitVec 32 := Scalar.select v4652 v4653 v4647
  let c0_i32_4470 : BitVec 32 := 0#32
  let v4656 : BitVec 1 := Scalar.cmpi .sgt v4654 c0_i32_4470
  let v4657 : BitVec 32 := Scalar.extui v4656
  let c0_i32_4471 : BitVec 32 := 0#32
  let v4658 : BitVec 1 := Scalar.cmpi .slt v4654 c0_i32_4471
  let v4659 : BitVec 32 := Scalar.extui v4658
  let v4660 : BitVec 32 := Scalar.subi v4657 v4659
  let c2_i32_4469 : BitVec 32 := 2#32
  let c0_i32_4472 : BitVec 32 := 0#32
  let v4661 : BitVec 1 := Scalar.cmpi .sgt c2_i32_4469 c0_i32_4472
  let v4662 : BitVec 32 := Scalar.extui v4661
  let c0_i32_4473 : BitVec 32 := 0#32
  let v4663 : BitVec 1 := Scalar.cmpi .slt c2_i32_4469 c0_i32_4473
  let v4664 : BitVec 32 := Scalar.extui v4663
  let v4665 : BitVec 32 := Scalar.subi v4662 v4664
  let v4666 : BitVec 1 := Scalar.cmpi .ne v4660 v4665
  let v4667 : BitVec 32 := Scalar.remsi v4654 c2_i32_4469
  let c0_i32_4474 : BitVec 32 := 0#32
  let v4668 : BitVec 1 := Scalar.cmpi .ne v4667 c0_i32_4474
  let v4669 : BitVec 1 := Scalar.andi v4666 v4668
  let v4655 : BitVec 32 := Scalar.divsi v4654 c2_i32_4469
  let c1_i32_4475 : BitVec 32 := 1#32
  let v4670 : BitVec 32 := Scalar.subi v4655 c1_i32_4475
  let v4671 : BitVec 32 := Scalar.select v4669 v4670 v4655
  let v4725 : BitVec 32 := Scalar.muli c2_i32_4510 v4671
  let c2_i32_4511 : BitVec 32 := 2#32
  let c0_i32_4512 : BitVec 32 := 0#32
  let v4726 : BitVec 1 := Scalar.cmpi .eq c2_i32_4511 c0_i32_4512
  let c1_i32_4513 : BitVec 32 := 1#32
  let v4727 : BitVec 32 := Scalar.select v4726 c1_i32_4513 c2_i32_4511
  let v4728 : BitVec 32 := Scalar.remsi v4671 v4727
  let c0_i32_4515 : BitVec 32 := 0#32
  let v4730 : BitVec 1 := Scalar.cmpi .slt v4728 c0_i32_4515
  let c0_i32_4516 : BitVec 32 := 0#32
  let v4731 : BitVec 1 := Scalar.cmpi .slt v4727 c0_i32_4516
  let v4732 : BitVec 1 := Scalar.xori v4730 v4731
  let c0_i32_4514 : BitVec 32 := 0#32
  let v4729 : BitVec 1 := Scalar.cmpi .ne v4728 c0_i32_4514
  let v4733 : BitVec 1 := Scalar.andi v4732 v4729
  let v4734 : BitVec 32 := Scalar.addi v4728 v4727
  let v4735 : BitVec 32 := Scalar.select v4733 v4734 v4728
  let c0_i32_4517 : BitVec 32 := 0#32
  let v4736 : BitVec 1 := Scalar.cmpi .eq v4735 c0_i32_4517
  let c4_i32_4476 : BitVec 32 := 4#32
  let c0_i32_4477 : BitVec 32 := 0#32
  let v4672 : BitVec 1 := Scalar.cmpi .eq c4_i32_4476 c0_i32_4477
  let c1_i32_4478 : BitVec 32 := 1#32
  let v4673 : BitVec 32 := Scalar.select v4672 c1_i32_4478 c4_i32_4476
  let v4674 : BitVec 32 := Scalar.remsi v4654 v4673
  let c0_i32_4480 : BitVec 32 := 0#32
  let v4676 : BitVec 1 := Scalar.cmpi .slt v4674 c0_i32_4480
  let c0_i32_4481 : BitVec 32 := 0#32
  let v4677 : BitVec 1 := Scalar.cmpi .slt v4673 c0_i32_4481
  let v4678 : BitVec 1 := Scalar.xori v4676 v4677
  let c0_i32_4479 : BitVec 32 := 0#32
  let v4675 : BitVec 1 := Scalar.cmpi .ne v4674 c0_i32_4479
  let v4679 : BitVec 1 := Scalar.andi v4678 v4675
  let v4680 : BitVec 32 := Scalar.addi v4674 v4673
  let v4681 : BitVec 32 := Scalar.select v4679 v4680 v4674
  let c1_i32_4482 : BitVec 32 := 1#32
  let v4682 : BitVec 1 := Scalar.cmpi .eq v4681 c1_i32_4482
  let c2_i32_4483 : BitVec 32 := 2#32
  let v4683 : BitVec 1 := Scalar.cmpi .eq v4681 c2_i32_4483
  let v4684 : BitVec 1 := Scalar.ori v4682 v4683
  let c1_i32_4484 : BitVec 32 := 1#32
  let c0_i32_4485 : BitVec 32 := 0#32
  let v4685 : BitVec 32 := Scalar.select v4684 c1_i32_4484 c0_i32_4485
  let c1_i32_4518 : BitVec 32 := 1#32
  let v4737 : BitVec 32 := Scalar.subi c1_i32_4518 v4685
  let v4738 : BitVec 32 := Scalar.select v4736 v4685 v4737
  let v4739 : BitVec 32 := Scalar.addi v4725 v4738
  let v4741 : BitVec 32 := Scalar.addi v4740 v4739
  let c1_i32_4563 : BitVec 32 := 1#32
  let v4780 : BitVec 32 := Scalar.muli v4741 c1_i32_4563
  let v4781 : BitVec 32 := Scalar.addi c0_i32_4564 v4780
  v4781.toNat
def k0_dev63 (d0 : Dev nD) : Nat :=
  let c0_i32_4580 : BitVec 32 := 0#32
  let c8_i32_4536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4457 : BitVec 32 := 0#32
  let v4629 : BitVec 1 := Scalar.cmpi .sgt v2 c0_i32_4457
  let v4630 : BitVec 32 := Scalar.extui v4629
  let c0_i32_4458 : BitVec 32 := 0#32
  let v4631 : BitVec 1 := Scalar.cmpi .slt v2 c0_i32_4458
  let v4632 : BitVec 32 := Scalar.extui v4631
  let v4633 : BitVec 32 := Scalar.subi v4630 v4632
  let c8_i32_4456 : BitVec 32 := 8#32
  let c0_i32_4459 : BitVec 32 := 0#32
  let v4634 : BitVec 1 := Scalar.cmpi .sgt c8_i32_4456 c0_i32_4459
  let v4635 : BitVec 32 := Scalar.extui v4634
  let c0_i32_4460 : BitVec 32 := 0#32
  let v4636 : BitVec 1 := Scalar.cmpi .slt c8_i32_4456 c0_i32_4460
  let v4637 : BitVec 32 := Scalar.extui v4636
  let v4638 : BitVec 32 := Scalar.subi v4635 v4637
  let v4639 : BitVec 1 := Scalar.cmpi .ne v4633 v4638
  let v4640 : BitVec 32 := Scalar.remsi v2 c8_i32_4456
  let c0_i32_4461 : BitVec 32 := 0#32
  let v4641 : BitVec 1 := Scalar.cmpi .ne v4640 c0_i32_4461
  let v4642 : BitVec 1 := Scalar.andi v4639 v4641
  let v4628 : BitVec 32 := Scalar.divsi v2 c8_i32_4456
  let c1_i32_4462 : BitVec 32 := 1#32
  let v4643 : BitVec 32 := Scalar.subi v4628 c1_i32_4462
  let v4644 : BitVec 32 := Scalar.select v4642 v4643 v4628
  let c3_i32_4520 : BitVec 32 := 3#32
  let v4742 : BitVec 32 := Scalar.addi v4644 c3_i32_4520
  let c4_i32_4521 : BitVec 32 := 4#32
  let c0_i32_4522 : BitVec 32 := 0#32
  let v4743 : BitVec 1 := Scalar.cmpi .eq c4_i32_4521 c0_i32_4522
  let c1_i32_4523 : BitVec 32 := 1#32
  let v4744 : BitVec 32 := Scalar.select v4743 c1_i32_4523 c4_i32_4521
  let v4745 : BitVec 32 := Scalar.remsi v4742 v4744
  let c0_i32_4525 : BitVec 32 := 0#32
  let v4747 : BitVec 1 := Scalar.cmpi .slt v4745 c0_i32_4525
  let c0_i32_4526 : BitVec 32 := 0#32
  let v4748 : BitVec 1 := Scalar.cmpi .slt v4744 c0_i32_4526
  let v4749 : BitVec 1 := Scalar.xori v4747 v4748
  let c0_i32_4524 : BitVec 32 := 0#32
  let v4746 : BitVec 1 := Scalar.cmpi .ne v4745 c0_i32_4524
  let v4750 : BitVec 1 := Scalar.andi v4749 v4746
  let v4751 : BitVec 32 := Scalar.addi v4745 v4744
  let v4752 : BitVec 32 := Scalar.select v4750 v4751 v4745
  let v4768 : BitVec 32 := Scalar.muli c8_i32_4536 v4752
  let c2_i32_4527 : BitVec 32 := 2#32
  let c8_i32_4463 : BitVec 32 := 8#32
  let c0_i32_4464 : BitVec 32 := 0#32
  let v4645 : BitVec 1 := Scalar.cmpi .eq c8_i32_4463 c0_i32_4464
  let c1_i32_4465 : BitVec 32 := 1#32
  let v4646 : BitVec 32 := Scalar.select v4645 c1_i32_4465 c8_i32_4463
  let v4647 : BitVec 32 := Scalar.remsi v2 v4646
  let c0_i32_4467 : BitVec 32 := 0#32
  let v4649 : BitVec 1 := Scalar.cmpi .slt v4647 c0_i32_4467
  let c0_i32_4468 : BitVec 32 := 0#32
  let v4650 : BitVec 1 := Scalar.cmpi .slt v4646 c0_i32_4468
  let v4651 : BitVec 1 := Scalar.xori v4649 v4650
  let c0_i32_4466 : BitVec 32 := 0#32
  let v4648 : BitVec 1 := Scalar.cmpi .ne v4647 c0_i32_4466
  let v4652 : BitVec 1 := Scalar.andi v4651 v4648
  let v4653 : BitVec 32 := Scalar.addi v4647 v4646
  let v4654 : BitVec 32 := Scalar.select v4652 v4653 v4647
  let c0_i32_4470 : BitVec 32 := 0#32
  let v4656 : BitVec 1 := Scalar.cmpi .sgt v4654 c0_i32_4470
  let v4657 : BitVec 32 := Scalar.extui v4656
  let c0_i32_4471 : BitVec 32 := 0#32
  let v4658 : BitVec 1 := Scalar.cmpi .slt v4654 c0_i32_4471
  let v4659 : BitVec 32 := Scalar.extui v4658
  let v4660 : BitVec 32 := Scalar.subi v4657 v4659
  let c2_i32_4469 : BitVec 32 := 2#32
  let c0_i32_4472 : BitVec 32 := 0#32
  let v4661 : BitVec 1 := Scalar.cmpi .sgt c2_i32_4469 c0_i32_4472
  let v4662 : BitVec 32 := Scalar.extui v4661
  let c0_i32_4473 : BitVec 32 := 0#32
  let v4663 : BitVec 1 := Scalar.cmpi .slt c2_i32_4469 c0_i32_4473
  let v4664 : BitVec 32 := Scalar.extui v4663
  let v4665 : BitVec 32 := Scalar.subi v4662 v4664
  let v4666 : BitVec 1 := Scalar.cmpi .ne v4660 v4665
  let v4667 : BitVec 32 := Scalar.remsi v4654 c2_i32_4469
  let c0_i32_4474 : BitVec 32 := 0#32
  let v4668 : BitVec 1 := Scalar.cmpi .ne v4667 c0_i32_4474
  let v4669 : BitVec 1 := Scalar.andi v4666 v4668
  let v4655 : BitVec 32 := Scalar.divsi v4654 c2_i32_4469
  let c1_i32_4475 : BitVec 32 := 1#32
  let v4670 : BitVec 32 := Scalar.subi v4655 c1_i32_4475
  let v4671 : BitVec 32 := Scalar.select v4669 v4670 v4655
  let v4753 : BitVec 32 := Scalar.muli c2_i32_4527 v4671
  let c2_i32_4528 : BitVec 32 := 2#32
  let c0_i32_4529 : BitVec 32 := 0#32
  let v4754 : BitVec 1 := Scalar.cmpi .eq c2_i32_4528 c0_i32_4529
  let c1_i32_4530 : BitVec 32 := 1#32
  let v4755 : BitVec 32 := Scalar.select v4754 c1_i32_4530 c2_i32_4528
  let v4756 : BitVec 32 := Scalar.remsi v4671 v4755
  let c0_i32_4532 : BitVec 32 := 0#32
  let v4758 : BitVec 1 := Scalar.cmpi .slt v4756 c0_i32_4532
  let c0_i32_4533 : BitVec 32 := 0#32
  let v4759 : BitVec 1 := Scalar.cmpi .slt v4755 c0_i32_4533
  let v4760 : BitVec 1 := Scalar.xori v4758 v4759
  let c0_i32_4531 : BitVec 32 := 0#32
  let v4757 : BitVec 1 := Scalar.cmpi .ne v4756 c0_i32_4531
  let v4761 : BitVec 1 := Scalar.andi v4760 v4757
  let v4762 : BitVec 32 := Scalar.addi v4756 v4755
  let v4763 : BitVec 32 := Scalar.select v4761 v4762 v4756
  let c0_i32_4534 : BitVec 32 := 0#32
  let v4764 : BitVec 1 := Scalar.cmpi .eq v4763 c0_i32_4534
  let c4_i32_4476 : BitVec 32 := 4#32
  let c0_i32_4477 : BitVec 32 := 0#32
  let v4672 : BitVec 1 := Scalar.cmpi .eq c4_i32_4476 c0_i32_4477
  let c1_i32_4478 : BitVec 32 := 1#32
  let v4673 : BitVec 32 := Scalar.select v4672 c1_i32_4478 c4_i32_4476
  let v4674 : BitVec 32 := Scalar.remsi v4654 v4673
  let c0_i32_4480 : BitVec 32 := 0#32
  let v4676 : BitVec 1 := Scalar.cmpi .slt v4674 c0_i32_4480
  let c0_i32_4481 : BitVec 32 := 0#32
  let v4677 : BitVec 1 := Scalar.cmpi .slt v4673 c0_i32_4481
  let v4678 : BitVec 1 := Scalar.xori v4676 v4677
  let c0_i32_4479 : BitVec 32 := 0#32
  let v4675 : BitVec 1 := Scalar.cmpi .ne v4674 c0_i32_4479
  let v4679 : BitVec 1 := Scalar.andi v4678 v4675
  let v4680 : BitVec 32 := Scalar.addi v4674 v4673
  let v4681 : BitVec 32 := Scalar.select v4679 v4680 v4674
  let c1_i32_4482 : BitVec 32 := 1#32
  let v4682 : BitVec 1 := Scalar.cmpi .eq v4681 c1_i32_4482
  let c2_i32_4483 : BitVec 32 := 2#32
  let v4683 : BitVec 1 := Scalar.cmpi .eq v4681 c2_i32_4483
  let v4684 : BitVec 1 := Scalar.ori v4682 v4683
  let c1_i32_4484 : BitVec 32 := 1#32
  let c0_i32_4485 : BitVec 32 := 0#32
  let v4685 : BitVec 32 := Scalar.select v4684 c1_i32_4484 c0_i32_4485
  let c1_i32_4535 : BitVec 32 := 1#32
  let v4765 : BitVec 32 := Scalar.subi c1_i32_4535 v4685
  let v4766 : BitVec 32 := Scalar.select v4764 v4685 v4765
  let v4767 : BitVec 32 := Scalar.addi v4753 v4766
  let v4769 : BitVec 32 := Scalar.addi v4768 v4767
  let c1_i32_4579 : BitVec 32 := 1#32
  let v4790 : BitVec 32 := Scalar.muli v4769 c1_i32_4579
  let v4791 : BitVec 32 := Scalar.addi c0_i32_4580 v4790
  v4791.toNat
def k0_dev64 (d0 : Dev nD) : Nat :=
  let c0_i32_4758 : BitVec 32 := 0#32
  let c8_i32_4747 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4708 : BitVec 32 := 0#32
  let v4868 : BitVec 1 := Scalar.cmpi .sgt v2 c0_i32_4708
  let v4869 : BitVec 32 := Scalar.extui v4868
  let c0_i32_4709 : BitVec 32 := 0#32
  let v4870 : BitVec 1 := Scalar.cmpi .slt v2 c0_i32_4709
  let v4871 : BitVec 32 := Scalar.extui v4870
  let v4872 : BitVec 32 := Scalar.subi v4869 v4871
  let c8_i32_4707 : BitVec 32 := 8#32
  let c0_i32_4710 : BitVec 32 := 0#32
  let v4873 : BitVec 1 := Scalar.cmpi .sgt c8_i32_4707 c0_i32_4710
  let v4874 : BitVec 32 := Scalar.extui v4873
  let c0_i32_4711 : BitVec 32 := 0#32
  let v4875 : BitVec 1 := Scalar.cmpi .slt c8_i32_4707 c0_i32_4711
  let v4876 : BitVec 32 := Scalar.extui v4875
  let v4877 : BitVec 32 := Scalar.subi v4874 v4876
  let v4878 : BitVec 1 := Scalar.cmpi .ne v4872 v4877
  let v4879 : BitVec 32 := Scalar.remsi v2 c8_i32_4707
  let c0_i32_4712 : BitVec 32 := 0#32
  let v4880 : BitVec 1 := Scalar.cmpi .ne v4879 c0_i32_4712
  let v4881 : BitVec 1 := Scalar.andi v4878 v4880
  let v4867 : BitVec 32 := Scalar.divsi v2 c8_i32_4707
  let c1_i32_4713 : BitVec 32 := 1#32
  let v4882 : BitVec 32 := Scalar.subi v4867 c1_i32_4713
  let v4883 : BitVec 32 := Scalar.select v4881 v4882 v4867
  let v4941 : BitVec 32 := Scalar.muli c8_i32_4747 v4883
  let c2_i32_4738 : BitVec 32 := 2#32
  let c8_i32_4714 : BitVec 32 := 8#32
  let c0_i32_4715 : BitVec 32 := 0#32
  let v4884 : BitVec 1 := Scalar.cmpi .eq c8_i32_4714 c0_i32_4715
  let c1_i32_4716 : BitVec 32 := 1#32
  let v4885 : BitVec 32 := Scalar.select v4884 c1_i32_4716 c8_i32_4714
  let v4886 : BitVec 32 := Scalar.remsi v2 v4885
  let c0_i32_4718 : BitVec 32 := 0#32
  let v4888 : BitVec 1 := Scalar.cmpi .slt v4886 c0_i32_4718
  let c0_i32_4719 : BitVec 32 := 0#32
  let v4889 : BitVec 1 := Scalar.cmpi .slt v4885 c0_i32_4719
  let v4890 : BitVec 1 := Scalar.xori v4888 v4889
  let c0_i32_4717 : BitVec 32 := 0#32
  let v4887 : BitVec 1 := Scalar.cmpi .ne v4886 c0_i32_4717
  let v4891 : BitVec 1 := Scalar.andi v4890 v4887
  let v4892 : BitVec 32 := Scalar.addi v4886 v4885
  let v4893 : BitVec 32 := Scalar.select v4891 v4892 v4886
  let c0_i32_4721 : BitVec 32 := 0#32
  let v4895 : BitVec 1 := Scalar.cmpi .sgt v4893 c0_i32_4721
  let v4896 : BitVec 32 := Scalar.extui v4895
  let c0_i32_4722 : BitVec 32 := 0#32
  let v4897 : BitVec 1 := Scalar.cmpi .slt v4893 c0_i32_4722
  let v4898 : BitVec 32 := Scalar.extui v4897
  let v4899 : BitVec 32 := Scalar.subi v4896 v4898
  let c2_i32_4720 : BitVec 32 := 2#32
  let c0_i32_4723 : BitVec 32 := 0#32
  let v4900 : BitVec 1 := Scalar.cmpi .sgt c2_i32_4720 c0_i32_4723
  let v4901 : BitVec 32 := Scalar.extui v4900
  let c0_i32_4724 : BitVec 32 := 0#32
  let v4902 : BitVec 1 := Scalar.cmpi .slt c2_i32_4720 c0_i32_4724
  let v4903 : BitVec 32 := Scalar.extui v4902
  let v4904 : BitVec 32 := Scalar.subi v4901 v4903
  let v4905 : BitVec 1 := Scalar.cmpi .ne v4899 v4904
  let v4906 : BitVec 32 := Scalar.remsi v4893 c2_i32_4720
  let c0_i32_4725 : BitVec 32 := 0#32
  let v4907 : BitVec 1 := Scalar.cmpi .ne v4906 c0_i32_4725
  let v4908 : BitVec 1 := Scalar.andi v4905 v4907
  let v4894 : BitVec 32 := Scalar.divsi v4893 c2_i32_4720
  let c1_i32_4726 : BitVec 32 := 1#32
  let v4909 : BitVec 32 := Scalar.subi v4894 c1_i32_4726
  let v4910 : BitVec 32 := Scalar.select v4908 v4909 v4894
  let v4926 : BitVec 32 := Scalar.muli c2_i32_4738 v4910
  let c2_i32_4739 : BitVec 32 := 2#32
  let c0_i32_4740 : BitVec 32 := 0#32
  let v4927 : BitVec 1 := Scalar.cmpi .eq c2_i32_4739 c0_i32_4740
  let c1_i32_4741 : BitVec 32 := 1#32
  let v4928 : BitVec 32 := Scalar.select v4927 c1_i32_4741 c2_i32_4739
  let v4929 : BitVec 32 := Scalar.remsi v4910 v4928
  let c0_i32_4743 : BitVec 32 := 0#32
  let v4931 : BitVec 1 := Scalar.cmpi .slt v4929 c0_i32_4743
  let c0_i32_4744 : BitVec 32 := 0#32
  let v4932 : BitVec 1 := Scalar.cmpi .slt v4928 c0_i32_4744
  let v4933 : BitVec 1 := Scalar.xori v4931 v4932
  let c0_i32_4742 : BitVec 32 := 0#32
  let v4930 : BitVec 1 := Scalar.cmpi .ne v4929 c0_i32_4742
  let v4934 : BitVec 1 := Scalar.andi v4933 v4930
  let v4935 : BitVec 32 := Scalar.addi v4929 v4928
  let v4936 : BitVec 32 := Scalar.select v4934 v4935 v4929
  let c0_i32_4745 : BitVec 32 := 0#32
  let v4937 : BitVec 1 := Scalar.cmpi .eq v4936 c0_i32_4745
  let c1_i32_4737 : BitVec 32 := 1#32
  let c4_i32_4727 : BitVec 32 := 4#32
  let c0_i32_4728 : BitVec 32 := 0#32
  let v4911 : BitVec 1 := Scalar.cmpi .eq c4_i32_4727 c0_i32_4728
  let c1_i32_4729 : BitVec 32 := 1#32
  let v4912 : BitVec 32 := Scalar.select v4911 c1_i32_4729 c4_i32_4727
  let v4913 : BitVec 32 := Scalar.remsi v4893 v4912
  let c0_i32_4731 : BitVec 32 := 0#32
  let v4915 : BitVec 1 := Scalar.cmpi .slt v4913 c0_i32_4731
  let c0_i32_4732 : BitVec 32 := 0#32
  let v4916 : BitVec 1 := Scalar.cmpi .slt v4912 c0_i32_4732
  let v4917 : BitVec 1 := Scalar.xori v4915 v4916
  let c0_i32_4730 : BitVec 32 := 0#32
  let v4914 : BitVec 1 := Scalar.cmpi .ne v4913 c0_i32_4730
  let v4918 : BitVec 1 := Scalar.andi v4917 v4914
  let v4919 : BitVec 32 := Scalar.addi v4913 v4912
  let v4920 : BitVec 32 := Scalar.select v4918 v4919 v4913
  let c1_i32_4733 : BitVec 32 := 1#32
  let v4921 : BitVec 1 := Scalar.cmpi .eq v4920 c1_i32_4733
  let c2_i32_4734 : BitVec 32 := 2#32
  let v4922 : BitVec 1 := Scalar.cmpi .eq v4920 c2_i32_4734
  let v4923 : BitVec 1 := Scalar.ori v4921 v4922
  let c1_i32_4735 : BitVec 32 := 1#32
  let c0_i32_4736 : BitVec 32 := 0#32
  let v4924 : BitVec 32 := Scalar.select v4923 c1_i32_4735 c0_i32_4736
  let v4925 : BitVec 32 := Scalar.subi c1_i32_4737 v4924
  let c1_i32_4746 : BitVec 32 := 1#32
  let v4938 : BitVec 32 := Scalar.subi c1_i32_4746 v4925
  let v4939 : BitVec 32 := Scalar.select v4937 v4925 v4938
  let v4940 : BitVec 32 := Scalar.addi v4926 v4939
  let v4942 : BitVec 32 := Scalar.addi v4941 v4940
  let c1_i32_4757 : BitVec 32 := 1#32
  let v4943 : BitVec 32 := Scalar.muli v4942 c1_i32_4757
  let v4944 : BitVec 32 := Scalar.addi c0_i32_4758 v4943
  v4944.toNat
def k0_dev65 (d0 : Dev nD) : Nat :=
  let c0_i32_4906 : BitVec 32 := 0#32
  let c8_i32_4860 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4815 : BitVec 32 := 0#32
  let v4987 : BitVec 1 := Scalar.cmpi .sgt v2 c0_i32_4815
  let v4988 : BitVec 32 := Scalar.extui v4987
  let c0_i32_4816 : BitVec 32 := 0#32
  let v4989 : BitVec 1 := Scalar.cmpi .slt v2 c0_i32_4816
  let v4990 : BitVec 32 := Scalar.extui v4989
  let v4991 : BitVec 32 := Scalar.subi v4988 v4990
  let c8_i32_4814 : BitVec 32 := 8#32
  let c0_i32_4817 : BitVec 32 := 0#32
  let v4992 : BitVec 1 := Scalar.cmpi .sgt c8_i32_4814 c0_i32_4817
  let v4993 : BitVec 32 := Scalar.extui v4992
  let c0_i32_4818 : BitVec 32 := 0#32
  let v4994 : BitVec 1 := Scalar.cmpi .slt c8_i32_4814 c0_i32_4818
  let v4995 : BitVec 32 := Scalar.extui v4994
  let v4996 : BitVec 32 := Scalar.subi v4993 v4995
  let v4997 : BitVec 1 := Scalar.cmpi .ne v4991 v4996
  let v4998 : BitVec 32 := Scalar.remsi v2 c8_i32_4814
  let c0_i32_4819 : BitVec 32 := 0#32
  let v4999 : BitVec 1 := Scalar.cmpi .ne v4998 c0_i32_4819
  let v5000 : BitVec 1 := Scalar.andi v4997 v4999
  let v4986 : BitVec 32 := Scalar.divsi v2 c8_i32_4814
  let c1_i32_4820 : BitVec 32 := 1#32
  let v5001 : BitVec 32 := Scalar.subi v4986 c1_i32_4820
  let v5002 : BitVec 32 := Scalar.select v5000 v5001 v4986
  let v5070 : BitVec 32 := Scalar.muli c8_i32_4860 v5002
  let c2_i32_4851 : BitVec 32 := 2#32
  let c8_i32_4821 : BitVec 32 := 8#32
  let c0_i32_4822 : BitVec 32 := 0#32
  let v5003 : BitVec 1 := Scalar.cmpi .eq c8_i32_4821 c0_i32_4822
  let c1_i32_4823 : BitVec 32 := 1#32
  let v5004 : BitVec 32 := Scalar.select v5003 c1_i32_4823 c8_i32_4821
  let v5005 : BitVec 32 := Scalar.remsi v2 v5004
  let c0_i32_4825 : BitVec 32 := 0#32
  let v5007 : BitVec 1 := Scalar.cmpi .slt v5005 c0_i32_4825
  let c0_i32_4826 : BitVec 32 := 0#32
  let v5008 : BitVec 1 := Scalar.cmpi .slt v5004 c0_i32_4826
  let v5009 : BitVec 1 := Scalar.xori v5007 v5008
  let c0_i32_4824 : BitVec 32 := 0#32
  let v5006 : BitVec 1 := Scalar.cmpi .ne v5005 c0_i32_4824
  let v5010 : BitVec 1 := Scalar.andi v5009 v5006
  let v5011 : BitVec 32 := Scalar.addi v5005 v5004
  let v5012 : BitVec 32 := Scalar.select v5010 v5011 v5005
  let c0_i32_4828 : BitVec 32 := 0#32
  let v5014 : BitVec 1 := Scalar.cmpi .sgt v5012 c0_i32_4828
  let v5015 : BitVec 32 := Scalar.extui v5014
  let c0_i32_4829 : BitVec 32 := 0#32
  let v5016 : BitVec 1 := Scalar.cmpi .slt v5012 c0_i32_4829
  let v5017 : BitVec 32 := Scalar.extui v5016
  let v5018 : BitVec 32 := Scalar.subi v5015 v5017
  let c2_i32_4827 : BitVec 32 := 2#32
  let c0_i32_4830 : BitVec 32 := 0#32
  let v5019 : BitVec 1 := Scalar.cmpi .sgt c2_i32_4827 c0_i32_4830
  let v5020 : BitVec 32 := Scalar.extui v5019
  let c0_i32_4831 : BitVec 32 := 0#32
  let v5021 : BitVec 1 := Scalar.cmpi .slt c2_i32_4827 c0_i32_4831
  let v5022 : BitVec 32 := Scalar.extui v5021
  let v5023 : BitVec 32 := Scalar.subi v5020 v5022
  let v5024 : BitVec 1 := Scalar.cmpi .ne v5018 v5023
  let v5025 : BitVec 32 := Scalar.remsi v5012 c2_i32_4827
  let c0_i32_4832 : BitVec 32 := 0#32
  let v5026 : BitVec 1 := Scalar.cmpi .ne v5025 c0_i32_4832
  let v5027 : BitVec 1 := Scalar.andi v5024 v5026
  let v5013 : BitVec 32 := Scalar.divsi v5012 c2_i32_4827
  let c1_i32_4833 : BitVec 32 := 1#32
  let v5028 : BitVec 32 := Scalar.subi v5013 c1_i32_4833
  let v5029 : BitVec 32 := Scalar.select v5027 v5028 v5013
  let c1_i32_4844 : BitVec 32 := 1#32
  let v5044 : BitVec 32 := Scalar.addi v5029 c1_i32_4844
  let c4_i32_4845 : BitVec 32 := 4#32
  let c0_i32_4846 : BitVec 32 := 0#32
  let v5045 : BitVec 1 := Scalar.cmpi .eq c4_i32_4845 c0_i32_4846
  let c1_i32_4847 : BitVec 32 := 1#32
  let v5046 : BitVec 32 := Scalar.select v5045 c1_i32_4847 c4_i32_4845
  let v5047 : BitVec 32 := Scalar.remsi v5044 v5046
  let c0_i32_4849 : BitVec 32 := 0#32
  let v5049 : BitVec 1 := Scalar.cmpi .slt v5047 c0_i32_4849
  let c0_i32_4850 : BitVec 32 := 0#32
  let v5050 : BitVec 1 := Scalar.cmpi .slt v5046 c0_i32_4850
  let v5051 : BitVec 1 := Scalar.xori v5049 v5050
  let c0_i32_4848 : BitVec 32 := 0#32
  let v5048 : BitVec 1 := Scalar.cmpi .ne v5047 c0_i32_4848
  let v5052 : BitVec 1 := Scalar.andi v5051 v5048
  let v5053 : BitVec 32 := Scalar.addi v5047 v5046
  let v5054 : BitVec 32 := Scalar.select v5052 v5053 v5047
  let v5055 : BitVec 32 := Scalar.muli c2_i32_4851 v5054
  let c2_i32_4852 : BitVec 32 := 2#32
  let c0_i32_4853 : BitVec 32 := 0#32
  let v5056 : BitVec 1 := Scalar.cmpi .eq c2_i32_4852 c0_i32_4853
  let c1_i32_4854 : BitVec 32 := 1#32
  let v5057 : BitVec 32 := Scalar.select v5056 c1_i32_4854 c2_i32_4852
  let v5058 : BitVec 32 := Scalar.remsi v5054 v5057
  let c0_i32_4856 : BitVec 32 := 0#32
  let v5060 : BitVec 1 := Scalar.cmpi .slt v5058 c0_i32_4856
  let c0_i32_4857 : BitVec 32 := 0#32
  let v5061 : BitVec 1 := Scalar.cmpi .slt v5057 c0_i32_4857
  let v5062 : BitVec 1 := Scalar.xori v5060 v5061
  let c0_i32_4855 : BitVec 32 := 0#32
  let v5059 : BitVec 1 := Scalar.cmpi .ne v5058 c0_i32_4855
  let v5063 : BitVec 1 := Scalar.andi v5062 v5059
  let v5064 : BitVec 32 := Scalar.addi v5058 v5057
  let v5065 : BitVec 32 := Scalar.select v5063 v5064 v5058
  let c0_i32_4858 : BitVec 32 := 0#32
  let v5066 : BitVec 1 := Scalar.cmpi .eq v5065 c0_i32_4858
  let c4_i32_4834 : BitVec 32 := 4#32
  let c0_i32_4835 : BitVec 32 := 0#32
  let v5030 : BitVec 1 := Scalar.cmpi .eq c4_i32_4834 c0_i32_4835
  let c1_i32_4836 : BitVec 32 := 1#32
  let v5031 : BitVec 32 := Scalar.select v5030 c1_i32_4836 c4_i32_4834
  let v5032 : BitVec 32 := Scalar.remsi v5012 v5031
  let c0_i32_4838 : BitVec 32 := 0#32
  let v5034 : BitVec 1 := Scalar.cmpi .slt v5032 c0_i32_4838
  let c0_i32_4839 : BitVec 32 := 0#32
  let v5035 : BitVec 1 := Scalar.cmpi .slt v5031 c0_i32_4839
  let v5036 : BitVec 1 := Scalar.xori v5034 v5035
  let c0_i32_4837 : BitVec 32 := 0#32
  let v5033 : BitVec 1 := Scalar.cmpi .ne v5032 c0_i32_4837
  let v5037 : BitVec 1 := Scalar.andi v5036 v5033
  let v5038 : BitVec 32 := Scalar.addi v5032 v5031
  let v5039 : BitVec 32 := Scalar.select v5037 v5038 v5032
  let c1_i32_4840 : BitVec 32 := 1#32
  let v5040 : BitVec 1 := Scalar.cmpi .eq v5039 c1_i32_4840
  let c2_i32_4841 : BitVec 32 := 2#32
  let v5041 : BitVec 1 := Scalar.cmpi .eq v5039 c2_i32_4841
  let v5042 : BitVec 1 := Scalar.ori v5040 v5041
  let c1_i32_4842 : BitVec 32 := 1#32
  let c0_i32_4843 : BitVec 32 := 0#32
  let v5043 : BitVec 32 := Scalar.select v5042 c1_i32_4842 c0_i32_4843
  let c1_i32_4859 : BitVec 32 := 1#32
  let v5067 : BitVec 32 := Scalar.subi c1_i32_4859 v5043
  let v5068 : BitVec 32 := Scalar.select v5066 v5043 v5067
  let v5069 : BitVec 32 := Scalar.addi v5055 v5068
  let v5071 : BitVec 32 := Scalar.addi v5070 v5069
  let c1_i32_4905 : BitVec 32 := 1#32
  let v5128 : BitVec 32 := Scalar.muli v5071 c1_i32_4905
  let v5129 : BitVec 32 := Scalar.addi c0_i32_4906 v5128
  v5129.toNat
def k0_dev66 (d0 : Dev nD) : Nat :=
  let c0_i32_4922 : BitVec 32 := 0#32
  let c8_i32_4877 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4815 : BitVec 32 := 0#32
  let v4987 : BitVec 1 := Scalar.cmpi .sgt v2 c0_i32_4815
  let v4988 : BitVec 32 := Scalar.extui v4987
  let c0_i32_4816 : BitVec 32 := 0#32
  let v4989 : BitVec 1 := Scalar.cmpi .slt v2 c0_i32_4816
  let v4990 : BitVec 32 := Scalar.extui v4989
  let v4991 : BitVec 32 := Scalar.subi v4988 v4990
  let c8_i32_4814 : BitVec 32 := 8#32
  let c0_i32_4817 : BitVec 32 := 0#32
  let v4992 : BitVec 1 := Scalar.cmpi .sgt c8_i32_4814 c0_i32_4817
  let v4993 : BitVec 32 := Scalar.extui v4992
  let c0_i32_4818 : BitVec 32 := 0#32
  let v4994 : BitVec 1 := Scalar.cmpi .slt c8_i32_4814 c0_i32_4818
  let v4995 : BitVec 32 := Scalar.extui v4994
  let v4996 : BitVec 32 := Scalar.subi v4993 v4995
  let v4997 : BitVec 1 := Scalar.cmpi .ne v4991 v4996
  let v4998 : BitVec 32 := Scalar.remsi v2 c8_i32_4814
  let c0_i32_4819 : BitVec 32 := 0#32
  let v4999 : BitVec 1 := Scalar.cmpi .ne v4998 c0_i32_4819
  let v5000 : BitVec 1 := Scalar.andi v4997 v4999
  let v4986 : BitVec 32 := Scalar.divsi v2 c8_i32_4814
  let c1_i32_4820 : BitVec 32 := 1#32
  let v5001 : BitVec 32 := Scalar.subi v4986 c1_i32_4820
  let v5002 : BitVec 32 := Scalar.select v5000 v5001 v4986
  let v5098 : BitVec 32 := Scalar.muli c8_i32_4877 v5002
  let c2_i32_4868 : BitVec 32 := 2#32
  let c8_i32_4821 : BitVec 32 := 8#32
  let c0_i32_4822 : BitVec 32 := 0#32
  let v5003 : BitVec 1 := Scalar.cmpi .eq c8_i32_4821 c0_i32_4822
  let c1_i32_4823 : BitVec 32 := 1#32
  let v5004 : BitVec 32 := Scalar.select v5003 c1_i32_4823 c8_i32_4821
  let v5005 : BitVec 32 := Scalar.remsi v2 v5004
  let c0_i32_4825 : BitVec 32 := 0#32
  let v5007 : BitVec 1 := Scalar.cmpi .slt v5005 c0_i32_4825
  let c0_i32_4826 : BitVec 32 := 0#32
  let v5008 : BitVec 1 := Scalar.cmpi .slt v5004 c0_i32_4826
  let v5009 : BitVec 1 := Scalar.xori v5007 v5008
  let c0_i32_4824 : BitVec 32 := 0#32
  let v5006 : BitVec 1 := Scalar.cmpi .ne v5005 c0_i32_4824
  let v5010 : BitVec 1 := Scalar.andi v5009 v5006
  let v5011 : BitVec 32 := Scalar.addi v5005 v5004
  let v5012 : BitVec 32 := Scalar.select v5010 v5011 v5005
  let c0_i32_4828 : BitVec 32 := 0#32
  let v5014 : BitVec 1 := Scalar.cmpi .sgt v5012 c0_i32_4828
  let v5015 : BitVec 32 := Scalar.extui v5014
  let c0_i32_4829 : BitVec 32 := 0#32
  let v5016 : BitVec 1 := Scalar.cmpi .slt v5012 c0_i32_4829
  let v5017 : BitVec 32 := Scalar.extui v5016
  let v5018 : BitVec 32 := Scalar.subi v5015 v5017
  let c2_i32_4827 : BitVec 32 := 2#32
  let c0_i32_4830 : BitVec 32 := 0#32
  let v5019 : BitVec 1 := Scalar.cmpi .sgt c2_i32_4827 c0_i32_4830
  let v5020 : BitVec 32 := Scalar.extui v5019
  let c0_i32_4831 : BitVec 32 := 0#32
  let v5021 : BitVec 1 := Scalar.cmpi .slt c2_i32_4827 c0_i32_4831
  let v5022 : BitVec 32 := Scalar.extui v5021
  let v5023 : BitVec 32 := Scalar.subi v5020 v5022
  let v5024 : BitVec 1 := Scalar.cmpi .ne v5018 v5023
  let v5025 : BitVec 32 := Scalar.remsi v5012 c2_i32_4827
  let c0_i32_4832 : BitVec 32 := 0#32
  let v5026 : BitVec 1 := Scalar.cmpi .ne v5025 c0_i32_4832
  let v5027 : BitVec 1 := Scalar.andi v5024 v5026
  let v5013 : BitVec 32 := Scalar.divsi v5012 c2_i32_4827
  let c1_i32_4833 : BitVec 32 := 1#32
  let v5028 : BitVec 32 := Scalar.subi v5013 c1_i32_4833
  let v5029 : BitVec 32 := Scalar.select v5027 v5028 v5013
  let c2_i32_4861 : BitVec 32 := 2#32
  let v5072 : BitVec 32 := Scalar.addi v5029 c2_i32_4861
  let c4_i32_4862 : BitVec 32 := 4#32
  let c0_i32_4863 : BitVec 32 := 0#32
  let v5073 : BitVec 1 := Scalar.cmpi .eq c4_i32_4862 c0_i32_4863
  let c1_i32_4864 : BitVec 32 := 1#32
  let v5074 : BitVec 32 := Scalar.select v5073 c1_i32_4864 c4_i32_4862
  let v5075 : BitVec 32 := Scalar.remsi v5072 v5074
  let c0_i32_4866 : BitVec 32 := 0#32
  let v5077 : BitVec 1 := Scalar.cmpi .slt v5075 c0_i32_4866
  let c0_i32_4867 : BitVec 32 := 0#32
  let v5078 : BitVec 1 := Scalar.cmpi .slt v5074 c0_i32_4867
  let v5079 : BitVec 1 := Scalar.xori v5077 v5078
  let c0_i32_4865 : BitVec 32 := 0#32
  let v5076 : BitVec 1 := Scalar.cmpi .ne v5075 c0_i32_4865
  let v5080 : BitVec 1 := Scalar.andi v5079 v5076
  let v5081 : BitVec 32 := Scalar.addi v5075 v5074
  let v5082 : BitVec 32 := Scalar.select v5080 v5081 v5075
  let v5083 : BitVec 32 := Scalar.muli c2_i32_4868 v5082
  let c2_i32_4869 : BitVec 32 := 2#32
  let c0_i32_4870 : BitVec 32 := 0#32
  let v5084 : BitVec 1 := Scalar.cmpi .eq c2_i32_4869 c0_i32_4870
  let c1_i32_4871 : BitVec 32 := 1#32
  let v5085 : BitVec 32 := Scalar.select v5084 c1_i32_4871 c2_i32_4869
  let v5086 : BitVec 32 := Scalar.remsi v5082 v5085
  let c0_i32_4873 : BitVec 32 := 0#32
  let v5088 : BitVec 1 := Scalar.cmpi .slt v5086 c0_i32_4873
  let c0_i32_4874 : BitVec 32 := 0#32
  let v5089 : BitVec 1 := Scalar.cmpi .slt v5085 c0_i32_4874
  let v5090 : BitVec 1 := Scalar.xori v5088 v5089
  let c0_i32_4872 : BitVec 32 := 0#32
  let v5087 : BitVec 1 := Scalar.cmpi .ne v5086 c0_i32_4872
  let v5091 : BitVec 1 := Scalar.andi v5090 v5087
  let v5092 : BitVec 32 := Scalar.addi v5086 v5085
  let v5093 : BitVec 32 := Scalar.select v5091 v5092 v5086
  let c0_i32_4875 : BitVec 32 := 0#32
  let v5094 : BitVec 1 := Scalar.cmpi .eq v5093 c0_i32_4875
  let c4_i32_4834 : BitVec 32 := 4#32
  let c0_i32_4835 : BitVec 32 := 0#32
  let v5030 : BitVec 1 := Scalar.cmpi .eq c4_i32_4834 c0_i32_4835
  let c1_i32_4836 : BitVec 32 := 1#32
  let v5031 : BitVec 32 := Scalar.select v5030 c1_i32_4836 c4_i32_4834
  let v5032 : BitVec 32 := Scalar.remsi v5012 v5031
  let c0_i32_4838 : BitVec 32 := 0#32
  let v5034 : BitVec 1 := Scalar.cmpi .slt v5032 c0_i32_4838
  let c0_i32_4839 : BitVec 32 := 0#32
  let v5035 : BitVec 1 := Scalar.cmpi .slt v5031 c0_i32_4839
  let v5036 : BitVec 1 := Scalar.xori v5034 v5035
  let c0_i32_4837 : BitVec 32 := 0#32
  let v5033 : BitVec 1 := Scalar.cmpi .ne v5032 c0_i32_4837
  let v5037 : BitVec 1 := Scalar.andi v5036 v5033
  let v5038 : BitVec 32 := Scalar.addi v5032 v5031
  let v5039 : BitVec 32 := Scalar.select v5037 v5038 v5032
  let c1_i32_4840 : BitVec 32 := 1#32
  let v5040 : BitVec 1 := Scalar.cmpi .eq v5039 c1_i32_4840
  let c2_i32_4841 : BitVec 32 := 2#32
  let v5041 : BitVec 1 := Scalar.cmpi .eq v5039 c2_i32_4841
  let v5042 : BitVec 1 := Scalar.ori v5040 v5041
  let c1_i32_4842 : BitVec 32 := 1#32
  let c0_i32_4843 : BitVec 32 := 0#32
  let v5043 : BitVec 32 := Scalar.select v5042 c1_i32_4842 c0_i32_4843
  let c1_i32_4876 : BitVec 32 := 1#32
  let v5095 : BitVec 32 := Scalar.subi c1_i32_4876 v5043
  let v5096 : BitVec 32 := Scalar.select v5094 v5043 v5095
  let v5097 : BitVec 32 := Scalar.addi v5083 v5096
  let v5099 : BitVec 32 := Scalar.addi v5098 v5097
  let c1_i32_4921 : BitVec 32 := 1#32
  let v5138 : BitVec 32 := Scalar.muli v5099 c1_i32_4921
  let v5139 : BitVec 32 := Scalar.addi c0_i32_4922 v5138
  v5139.toNat
def k0_dev67 (d0 : Dev nD) : Nat :=
  let c0_i32_4938 : BitVec 32 := 0#32
  let c8_i32_4894 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_4815 : BitVec 32 := 0#32
  let v4987 : BitVec 1 := Scalar.cmpi .sgt v2 c0_i32_4815
  let v4988 : BitVec 32 := Scalar.extui v4987
  let c0_i32_4816 : BitVec 32 := 0#32
  let v4989 : BitVec 1 := Scalar.cmpi .slt v2 c0_i32_4816
  let v4990 : BitVec 32 := Scalar.extui v4989
  let v4991 : BitVec 32 := Scalar.subi v4988 v4990
  let c8_i32_4814 : BitVec 32 := 8#32
  let c0_i32_4817 : BitVec 32 := 0#32
  let v4992 : BitVec 1 := Scalar.cmpi .sgt c8_i32_4814 c0_i32_4817
  let v4993 : BitVec 32 := Scalar.extui v4992
  let c0_i32_4818 : BitVec 32 := 0#32
  let v4994 : BitVec 1 := Scalar.cmpi .slt c8_i32_4814 c0_i32_4818
  let v4995 : BitVec 32 := Scalar.extui v4994
  let v4996 : BitVec 32 := Scalar.subi v4993 v4995
  let v4997 : BitVec 1 := Scalar.cmpi .ne v4991 v4996
  let v4998 : BitVec 32 := Scalar.remsi v2 c8_i32_4814
  let c0_i32_4819 : BitVec 32 := 0#32
  let v4999 : BitVec 1 := Scalar.cmpi .ne v4998 c0_i32_4819
  let v5000 : BitVec 1 := Scalar.andi v4997 v4999
  let v4986 : BitVec 32 := Scalar.divsi v2 c8_i32_4814
  let c1_i32_4820 : BitVec 32 := 1#32
  let v5001 : BitVec 32 := Scalar.subi v4986 c1_i32_4820
  let v5002 : BitVec 32 := Scalar.select v5000 v5001 v4986
  let v5126 : BitVec 32 := Scalar.muli c8_i32_4894 v5002
  let c2_i32_4885 : BitVec 32 := 2#32
  let c8_i32_4821 : BitVec 32 := 8#32
  let c0_i32_4822 : BitVec 32 := 0#32
  let v5003 : BitVec 1 := Scalar.cmpi .eq c8_i32_4821 c0_i32_4822
  let c1_i32_4823 : BitVec 32 := 1#32
  let v5004 : BitVec 32 := Scalar.select v5003 c1_i32_4823 c8_i32_4821
  let v5005 : BitVec 32 := Scalar.remsi v2 v5004
  let c0_i32_4825 : BitVec 32 := 0#32
  let v5007 : BitVec 1 := Scalar.cmpi .slt v5005 c0_i32_4825
  let c0_i32_4826 : BitVec 32 := 0#32
  let v5008 : BitVec 1 := Scalar.cmpi .slt v5004 c0_i32_4826
  let v5009 : BitVec 1 := Scalar.xori v5007 v5008
  let c0_i32_4824 : BitVec 32 := 0#32
  let v5006 : BitVec 1 := Scalar.cmpi .ne v5005 c0_i32_4824
  let v5010 : BitVec 1 := Scalar.andi v5009 v5006
  let v5011 : BitVec 32 := Scalar.addi v5005 v5004
  let v5012 : BitVec 32 := Scalar.select v5010 v5011 v5005
  let c0_i32_4828 : BitVec 32 := 0#32
  let v5014 : BitVec 1 := Scalar.cmpi .sgt v5012 c0_i32_4828
  let v5015 : BitVec 32 := Scalar.extui v5014
  let c0_i32_4829 : BitVec 32 := 0#32
  let v5016 : BitVec 1 := Scalar.cmpi .slt v5012 c0_i32_4829
  let v5017 : BitVec 32 := Scalar.extui v5016
  let v5018 : BitVec 32 := Scalar.subi v5015 v5017
  let c2_i32_4827 : BitVec 32 := 2#32
  let c0_i32_4830 : BitVec 32 := 0#32
  let v5019 : BitVec 1 := Scalar.cmpi .sgt c2_i32_4827 c0_i32_4830
  let v5020 : BitVec 32 := Scalar.extui v5019
  let c0_i32_4831 : BitVec 32 := 0#32
  let v5021 : BitVec 1 := Scalar.cmpi .slt c2_i32_4827 c0_i32_4831
  let v5022 : BitVec 32 := Scalar.extui v5021
  let v5023 : BitVec 32 := Scalar.subi v5020 v5022
  let v5024 : BitVec 1 := Scalar.cmpi .ne v5018 v5023
  let v5025 : BitVec 32 := Scalar.remsi v5012 c2_i32_4827
  let c0_i32_4832 : BitVec 32 := 0#32
  let v5026 : BitVec 1 := Scalar.cmpi .ne v5025 c0_i32_4832
  let v5027 : BitVec 1 := Scalar.andi v5024 v5026
  let v5013 : BitVec 32 := Scalar.divsi v5012 c2_i32_4827
  let c1_i32_4833 : BitVec 32 := 1#32
  let v5028 : BitVec 32 := Scalar.subi v5013 c1_i32_4833
  let v5029 : BitVec 32 := Scalar.select v5027 v5028 v5013
  let c3_i32_4878 : BitVec 32 := 3#32
  let v5100 : BitVec 32 := Scalar.addi v5029 c3_i32_4878
  let c4_i32_4879 : BitVec 32 := 4#32
  let c0_i32_4880 : BitVec 32 := 0#32
  let v5101 : BitVec 1 := Scalar.cmpi .eq c4_i32_4879 c0_i32_4880
  let c1_i32_4881 : BitVec 32 := 1#32
  let v5102 : BitVec 32 := Scalar.select v5101 c1_i32_4881 c4_i32_4879
  let v5103 : BitVec 32 := Scalar.remsi v5100 v5102
  let c0_i32_4883 : BitVec 32 := 0#32
  let v5105 : BitVec 1 := Scalar.cmpi .slt v5103 c0_i32_4883
  let c0_i32_4884 : BitVec 32 := 0#32
  let v5106 : BitVec 1 := Scalar.cmpi .slt v5102 c0_i32_4884
  let v5107 : BitVec 1 := Scalar.xori v5105 v5106
  let c0_i32_4882 : BitVec 32 := 0#32
  let v5104 : BitVec 1 := Scalar.cmpi .ne v5103 c0_i32_4882
  let v5108 : BitVec 1 := Scalar.andi v5107 v5104
  let v5109 : BitVec 32 := Scalar.addi v5103 v5102
  let v5110 : BitVec 32 := Scalar.select v5108 v5109 v5103
  let v5111 : BitVec 32 := Scalar.muli c2_i32_4885 v5110
  let c2_i32_4886 : BitVec 32 := 2#32
  let c0_i32_4887 : BitVec 32 := 0#32
  let v5112 : BitVec 1 := Scalar.cmpi .eq c2_i32_4886 c0_i32_4887
  let c1_i32_4888 : BitVec 32 := 1#32
  let v5113 : BitVec 32 := Scalar.select v5112 c1_i32_4888 c2_i32_4886
  let v5114 : BitVec 32 := Scalar.remsi v5110 v5113
  let c0_i32_4890 : BitVec 32 := 0#32
  let v5116 : BitVec 1 := Scalar.cmpi .slt v5114 c0_i32_4890
  let c0_i32_4891 : BitVec 32 := 0#32
  let v5117 : BitVec 1 := Scalar.cmpi .slt v5113 c0_i32_4891
  let v5118 : BitVec 1 := Scalar.xori v5116 v5117
  let c0_i32_4889 : BitVec 32 := 0#32
  let v5115 : BitVec 1 := Scalar.cmpi .ne v5114 c0_i32_4889
  let v5119 : BitVec 1 := Scalar.andi v5118 v5115
  let v5120 : BitVec 32 := Scalar.addi v5114 v5113
  let v5121 : BitVec 32 := Scalar.select v5119 v5120 v5114
  let c0_i32_4892 : BitVec 32 := 0#32
  let v5122 : BitVec 1 := Scalar.cmpi .eq v5121 c0_i32_4892
  let c4_i32_4834 : BitVec 32 := 4#32
  let c0_i32_4835 : BitVec 32 := 0#32
  let v5030 : BitVec 1 := Scalar.cmpi .eq c4_i32_4834 c0_i32_4835
  let c1_i32_4836 : BitVec 32 := 1#32
  let v5031 : BitVec 32 := Scalar.select v5030 c1_i32_4836 c4_i32_4834
  let v5032 : BitVec 32 := Scalar.remsi v5012 v5031
  let c0_i32_4838 : BitVec 32 := 0#32
  let v5034 : BitVec 1 := Scalar.cmpi .slt v5032 c0_i32_4838
  let c0_i32_4839 : BitVec 32 := 0#32
  let v5035 : BitVec 1 := Scalar.cmpi .slt v5031 c0_i32_4839
  let v5036 : BitVec 1 := Scalar.xori v5034 v5035
  let c0_i32_4837 : BitVec 32 := 0#32
  let v5033 : BitVec 1 := Scalar.cmpi .ne v5032 c0_i32_4837
  let v5037 : BitVec 1 := Scalar.andi v5036 v5033
  let v5038 : BitVec 32 := Scalar.addi v5032 v5031
  let v5039 : BitVec 32 := Scalar.select v5037 v5038 v5032
  let c1_i32_4840 : BitVec 32 := 1#32
  let v5040 : BitVec 1 := Scalar.cmpi .eq v5039 c1_i32_4840
  let c2_i32_4841 : BitVec 32 := 2#32
  let v5041 : BitVec 1 := Scalar.cmpi .eq v5039 c2_i32_4841
  let v5042 : BitVec 1 := Scalar.ori v5040 v5041
  let c1_i32_4842 : BitVec 32 := 1#32
  let c0_i32_4843 : BitVec 32 := 0#32
  let v5043 : BitVec 32 := Scalar.select v5042 c1_i32_4842 c0_i32_4843
  let c1_i32_4893 : BitVec 32 := 1#32
  let v5123 : BitVec 32 := Scalar.subi c1_i32_4893 v5043
  let v5124 : BitVec 32 := Scalar.select v5122 v5043 v5123
  let v5125 : BitVec 32 := Scalar.addi v5111 v5124
  let v5127 : BitVec 32 := Scalar.addi v5126 v5125
  let c1_i32_4937 : BitVec 32 := 1#32
  let v5148 : BitVec 32 := Scalar.muli v5127 c1_i32_4937
  let v5149 : BitVec 32 := Scalar.addi c0_i32_4938 v5148
  v5149.toNat
def k0_dev68 (d0 : Dev nD) : Nat :=
  let c0_i32_5158 : BitVec 32 := 0#32
  let c8_i32_5112 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5067 : BitVec 32 := 0#32
  let v5226 : BitVec 1 := Scalar.cmpi .sgt v2 c0_i32_5067
  let v5227 : BitVec 32 := Scalar.extui v5226
  let c0_i32_5068 : BitVec 32 := 0#32
  let v5228 : BitVec 1 := Scalar.cmpi .slt v2 c0_i32_5068
  let v5229 : BitVec 32 := Scalar.extui v5228
  let v5230 : BitVec 32 := Scalar.subi v5227 v5229
  let c8_i32_5066 : BitVec 32 := 8#32
  let c0_i32_5069 : BitVec 32 := 0#32
  let v5231 : BitVec 1 := Scalar.cmpi .sgt c8_i32_5066 c0_i32_5069
  let v5232 : BitVec 32 := Scalar.extui v5231
  let c0_i32_5070 : BitVec 32 := 0#32
  let v5233 : BitVec 1 := Scalar.cmpi .slt c8_i32_5066 c0_i32_5070
  let v5234 : BitVec 32 := Scalar.extui v5233
  let v5235 : BitVec 32 := Scalar.subi v5232 v5234
  let v5236 : BitVec 1 := Scalar.cmpi .ne v5230 v5235
  let v5237 : BitVec 32 := Scalar.remsi v2 c8_i32_5066
  let c0_i32_5071 : BitVec 32 := 0#32
  let v5238 : BitVec 1 := Scalar.cmpi .ne v5237 c0_i32_5071
  let v5239 : BitVec 1 := Scalar.andi v5236 v5238
  let v5225 : BitVec 32 := Scalar.divsi v2 c8_i32_5066
  let c1_i32_5072 : BitVec 32 := 1#32
  let v5240 : BitVec 32 := Scalar.subi v5225 c1_i32_5072
  let v5241 : BitVec 32 := Scalar.select v5239 v5240 v5225
  let c1_i32_5096 : BitVec 32 := 1#32
  let v5283 : BitVec 32 := Scalar.addi v5241 c1_i32_5096
  let c4_i32_5097 : BitVec 32 := 4#32
  let c0_i32_5098 : BitVec 32 := 0#32
  let v5284 : BitVec 1 := Scalar.cmpi .eq c4_i32_5097 c0_i32_5098
  let c1_i32_5099 : BitVec 32 := 1#32
  let v5285 : BitVec 32 := Scalar.select v5284 c1_i32_5099 c4_i32_5097
  let v5286 : BitVec 32 := Scalar.remsi v5283 v5285
  let c0_i32_5101 : BitVec 32 := 0#32
  let v5288 : BitVec 1 := Scalar.cmpi .slt v5286 c0_i32_5101
  let c0_i32_5102 : BitVec 32 := 0#32
  let v5289 : BitVec 1 := Scalar.cmpi .slt v5285 c0_i32_5102
  let v5290 : BitVec 1 := Scalar.xori v5288 v5289
  let c0_i32_5100 : BitVec 32 := 0#32
  let v5287 : BitVec 1 := Scalar.cmpi .ne v5286 c0_i32_5100
  let v5291 : BitVec 1 := Scalar.andi v5290 v5287
  let v5292 : BitVec 32 := Scalar.addi v5286 v5285
  let v5293 : BitVec 32 := Scalar.select v5291 v5292 v5286
  let v5309 : BitVec 32 := Scalar.muli c8_i32_5112 v5293
  let c2_i32_5103 : BitVec 32 := 2#32
  let c8_i32_5073 : BitVec 32 := 8#32
  let c0_i32_5074 : BitVec 32 := 0#32
  let v5242 : BitVec 1 := Scalar.cmpi .eq c8_i32_5073 c0_i32_5074
  let c1_i32_5075 : BitVec 32 := 1#32
  let v5243 : BitVec 32 := Scalar.select v5242 c1_i32_5075 c8_i32_5073
  let v5244 : BitVec 32 := Scalar.remsi v2 v5243
  let c0_i32_5077 : BitVec 32 := 0#32
  let v5246 : BitVec 1 := Scalar.cmpi .slt v5244 c0_i32_5077
  let c0_i32_5078 : BitVec 32 := 0#32
  let v5247 : BitVec 1 := Scalar.cmpi .slt v5243 c0_i32_5078
  let v5248 : BitVec 1 := Scalar.xori v5246 v5247
  let c0_i32_5076 : BitVec 32 := 0#32
  let v5245 : BitVec 1 := Scalar.cmpi .ne v5244 c0_i32_5076
  let v5249 : BitVec 1 := Scalar.andi v5248 v5245
  let v5250 : BitVec 32 := Scalar.addi v5244 v5243
  let v5251 : BitVec 32 := Scalar.select v5249 v5250 v5244
  let c0_i32_5080 : BitVec 32 := 0#32
  let v5253 : BitVec 1 := Scalar.cmpi .sgt v5251 c0_i32_5080
  let v5254 : BitVec 32 := Scalar.extui v5253
  let c0_i32_5081 : BitVec 32 := 0#32
  let v5255 : BitVec 1 := Scalar.cmpi .slt v5251 c0_i32_5081
  let v5256 : BitVec 32 := Scalar.extui v5255
  let v5257 : BitVec 32 := Scalar.subi v5254 v5256
  let c2_i32_5079 : BitVec 32 := 2#32
  let c0_i32_5082 : BitVec 32 := 0#32
  let v5258 : BitVec 1 := Scalar.cmpi .sgt c2_i32_5079 c0_i32_5082
  let v5259 : BitVec 32 := Scalar.extui v5258
  let c0_i32_5083 : BitVec 32 := 0#32
  let v5260 : BitVec 1 := Scalar.cmpi .slt c2_i32_5079 c0_i32_5083
  let v5261 : BitVec 32 := Scalar.extui v5260
  let v5262 : BitVec 32 := Scalar.subi v5259 v5261
  let v5263 : BitVec 1 := Scalar.cmpi .ne v5257 v5262
  let v5264 : BitVec 32 := Scalar.remsi v5251 c2_i32_5079
  let c0_i32_5084 : BitVec 32 := 0#32
  let v5265 : BitVec 1 := Scalar.cmpi .ne v5264 c0_i32_5084
  let v5266 : BitVec 1 := Scalar.andi v5263 v5265
  let v5252 : BitVec 32 := Scalar.divsi v5251 c2_i32_5079
  let c1_i32_5085 : BitVec 32 := 1#32
  let v5267 : BitVec 32 := Scalar.subi v5252 c1_i32_5085
  let v5268 : BitVec 32 := Scalar.select v5266 v5267 v5252
  let v5294 : BitVec 32 := Scalar.muli c2_i32_5103 v5268
  let c2_i32_5104 : BitVec 32 := 2#32
  let c0_i32_5105 : BitVec 32 := 0#32
  let v5295 : BitVec 1 := Scalar.cmpi .eq c2_i32_5104 c0_i32_5105
  let c1_i32_5106 : BitVec 32 := 1#32
  let v5296 : BitVec 32 := Scalar.select v5295 c1_i32_5106 c2_i32_5104
  let v5297 : BitVec 32 := Scalar.remsi v5268 v5296
  let c0_i32_5108 : BitVec 32 := 0#32
  let v5299 : BitVec 1 := Scalar.cmpi .slt v5297 c0_i32_5108
  let c0_i32_5109 : BitVec 32 := 0#32
  let v5300 : BitVec 1 := Scalar.cmpi .slt v5296 c0_i32_5109
  let v5301 : BitVec 1 := Scalar.xori v5299 v5300
  let c0_i32_5107 : BitVec 32 := 0#32
  let v5298 : BitVec 1 := Scalar.cmpi .ne v5297 c0_i32_5107
  let v5302 : BitVec 1 := Scalar.andi v5301 v5298
  let v5303 : BitVec 32 := Scalar.addi v5297 v5296
  let v5304 : BitVec 32 := Scalar.select v5302 v5303 v5297
  let c0_i32_5110 : BitVec 32 := 0#32
  let v5305 : BitVec 1 := Scalar.cmpi .eq v5304 c0_i32_5110
  let c4_i32_5086 : BitVec 32 := 4#32
  let c0_i32_5087 : BitVec 32 := 0#32
  let v5269 : BitVec 1 := Scalar.cmpi .eq c4_i32_5086 c0_i32_5087
  let c1_i32_5088 : BitVec 32 := 1#32
  let v5270 : BitVec 32 := Scalar.select v5269 c1_i32_5088 c4_i32_5086
  let v5271 : BitVec 32 := Scalar.remsi v5251 v5270
  let c0_i32_5090 : BitVec 32 := 0#32
  let v5273 : BitVec 1 := Scalar.cmpi .slt v5271 c0_i32_5090
  let c0_i32_5091 : BitVec 32 := 0#32
  let v5274 : BitVec 1 := Scalar.cmpi .slt v5270 c0_i32_5091
  let v5275 : BitVec 1 := Scalar.xori v5273 v5274
  let c0_i32_5089 : BitVec 32 := 0#32
  let v5272 : BitVec 1 := Scalar.cmpi .ne v5271 c0_i32_5089
  let v5276 : BitVec 1 := Scalar.andi v5275 v5272
  let v5277 : BitVec 32 := Scalar.addi v5271 v5270
  let v5278 : BitVec 32 := Scalar.select v5276 v5277 v5271
  let c1_i32_5092 : BitVec 32 := 1#32
  let v5279 : BitVec 1 := Scalar.cmpi .eq v5278 c1_i32_5092
  let c2_i32_5093 : BitVec 32 := 2#32
  let v5280 : BitVec 1 := Scalar.cmpi .eq v5278 c2_i32_5093
  let v5281 : BitVec 1 := Scalar.ori v5279 v5280
  let c1_i32_5094 : BitVec 32 := 1#32
  let c0_i32_5095 : BitVec 32 := 0#32
  let v5282 : BitVec 32 := Scalar.select v5281 c1_i32_5094 c0_i32_5095
  let c1_i32_5111 : BitVec 32 := 1#32
  let v5306 : BitVec 32 := Scalar.subi c1_i32_5111 v5282
  let v5307 : BitVec 32 := Scalar.select v5305 v5282 v5306
  let v5308 : BitVec 32 := Scalar.addi v5294 v5307
  let v5310 : BitVec 32 := Scalar.addi v5309 v5308
  let c1_i32_5157 : BitVec 32 := 1#32
  let v5367 : BitVec 32 := Scalar.muli v5310 c1_i32_5157
  let v5368 : BitVec 32 := Scalar.addi c0_i32_5158 v5367
  v5368.toNat
def k0_dev69 (d0 : Dev nD) : Nat :=
  let c0_i32_5174 : BitVec 32 := 0#32
  let c8_i32_5129 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5067 : BitVec 32 := 0#32
  let v5226 : BitVec 1 := Scalar.cmpi .sgt v2 c0_i32_5067
  let v5227 : BitVec 32 := Scalar.extui v5226
  let c0_i32_5068 : BitVec 32 := 0#32
  let v5228 : BitVec 1 := Scalar.cmpi .slt v2 c0_i32_5068
  let v5229 : BitVec 32 := Scalar.extui v5228
  let v5230 : BitVec 32 := Scalar.subi v5227 v5229
  let c8_i32_5066 : BitVec 32 := 8#32
  let c0_i32_5069 : BitVec 32 := 0#32
  let v5231 : BitVec 1 := Scalar.cmpi .sgt c8_i32_5066 c0_i32_5069
  let v5232 : BitVec 32 := Scalar.extui v5231
  let c0_i32_5070 : BitVec 32 := 0#32
  let v5233 : BitVec 1 := Scalar.cmpi .slt c8_i32_5066 c0_i32_5070
  let v5234 : BitVec 32 := Scalar.extui v5233
  let v5235 : BitVec 32 := Scalar.subi v5232 v5234
  let v5236 : BitVec 1 := Scalar.cmpi .ne v5230 v5235
  let v5237 : BitVec 32 := Scalar.remsi v2 c8_i32_5066
  let c0_i32_5071 : BitVec 32 := 0#32
  let v5238 : BitVec 1 := Scalar.cmpi .ne v5237 c0_i32_5071
  let v5239 : BitVec 1 := Scalar.andi v5236 v5238
  let v5225 : BitVec 32 := Scalar.divsi v2 c8_i32_5066
  let c1_i32_5072 : BitVec 32 := 1#32
  let v5240 : BitVec 32 := Scalar.subi v5225 c1_i32_5072
  let v5241 : BitVec 32 := Scalar.select v5239 v5240 v5225
  let c2_i32_5113 : BitVec 32 := 2#32
  let v5311 : BitVec 32 := Scalar.addi v5241 c2_i32_5113
  let c4_i32_5114 : BitVec 32 := 4#32
  let c0_i32_5115 : BitVec 32 := 0#32
  let v5312 : BitVec 1 := Scalar.cmpi .eq c4_i32_5114 c0_i32_5115
  let c1_i32_5116 : BitVec 32 := 1#32
  let v5313 : BitVec 32 := Scalar.select v5312 c1_i32_5116 c4_i32_5114
  let v5314 : BitVec 32 := Scalar.remsi v5311 v5313
  let c0_i32_5118 : BitVec 32 := 0#32
  let v5316 : BitVec 1 := Scalar.cmpi .slt v5314 c0_i32_5118
  let c0_i32_5119 : BitVec 32 := 0#32
  let v5317 : BitVec 1 := Scalar.cmpi .slt v5313 c0_i32_5119
  let v5318 : BitVec 1 := Scalar.xori v5316 v5317
  let c0_i32_5117 : BitVec 32 := 0#32
  let v5315 : BitVec 1 := Scalar.cmpi .ne v5314 c0_i32_5117
  let v5319 : BitVec 1 := Scalar.andi v5318 v5315
  let v5320 : BitVec 32 := Scalar.addi v5314 v5313
  let v5321 : BitVec 32 := Scalar.select v5319 v5320 v5314
  let v5337 : BitVec 32 := Scalar.muli c8_i32_5129 v5321
  let c2_i32_5120 : BitVec 32 := 2#32
  let c8_i32_5073 : BitVec 32 := 8#32
  let c0_i32_5074 : BitVec 32 := 0#32
  let v5242 : BitVec 1 := Scalar.cmpi .eq c8_i32_5073 c0_i32_5074
  let c1_i32_5075 : BitVec 32 := 1#32
  let v5243 : BitVec 32 := Scalar.select v5242 c1_i32_5075 c8_i32_5073
  let v5244 : BitVec 32 := Scalar.remsi v2 v5243
  let c0_i32_5077 : BitVec 32 := 0#32
  let v5246 : BitVec 1 := Scalar.cmpi .slt v5244 c0_i32_5077
  let c0_i32_5078 : BitVec 32 := 0#32
  let v5247 : BitVec 1 := Scalar.cmpi .slt v5243 c0_i32_5078
  let v5248 : BitVec 1 := Scalar.xori v5246 v5247
  let c0_i32_5076 : BitVec 32 := 0#32
  let v5245 : BitVec 1 := Scalar.cmpi .ne v5244 c0_i32_5076
  let v5249 : BitVec 1 := Scalar.andi v5248 v5245
  let v5250 : BitVec 32 := Scalar.addi v5244 v5243
  let v5251 : BitVec 32 := Scalar.select v5249 v5250 v5244
  let c0_i32_5080 : BitVec 32 := 0#32
  let v5253 : BitVec 1 := Scalar.cmpi .sgt v5251 c0_i32_5080
  let v5254 : BitVec 32 := Scalar.extui v5253
  let c0_i32_5081 : BitVec 32 := 0#32
  let v5255 : BitVec 1 := Scalar.cmpi .slt v5251 c0_i32_5081
  let v5256 : BitVec 32 := Scalar.extui v5255
  let v5257 : BitVec 32 := Scalar.subi v5254 v5256
  let c2_i32_5079 : BitVec 32 := 2#32
  let c0_i32_5082 : BitVec 32 := 0#32
  let v5258 : BitVec 1 := Scalar.cmpi .sgt c2_i32_5079 c0_i32_5082
  let v5259 : BitVec 32 := Scalar.extui v5258
  let c0_i32_5083 : BitVec 32 := 0#32
  let v5260 : BitVec 1 := Scalar.cmpi .slt c2_i32_5079 c0_i32_5083
  let v5261 : BitVec 32 := Scalar.extui v5260
  let v5262 : BitVec 32 := Scalar.subi v5259 v5261
  let v5263 : BitVec 1 := Scalar.cmpi .ne v5257 v5262
  let v5264 : BitVec 32 := Scalar.remsi v5251 c2_i32_5079
  let c0_i32_5084 : BitVec 32 := 0#32
  let v5265 : BitVec 1 := Scalar.cmpi .ne v5264 c0_i32_5084
  let v5266 : BitVec 1 := Scalar.andi v5263 v5265
  let v5252 : BitVec 32 := Scalar.divsi v5251 c2_i32_5079
  let c1_i32_5085 : BitVec 32 := 1#32
  let v5267 : BitVec 32 := Scalar.subi v5252 c1_i32_5085
  let v5268 : BitVec 32 := Scalar.select v5266 v5267 v5252
  let v5322 : BitVec 32 := Scalar.muli c2_i32_5120 v5268
  let c2_i32_5121 : BitVec 32 := 2#32
  let c0_i32_5122 : BitVec 32 := 0#32
  let v5323 : BitVec 1 := Scalar.cmpi .eq c2_i32_5121 c0_i32_5122
  let c1_i32_5123 : BitVec 32 := 1#32
  let v5324 : BitVec 32 := Scalar.select v5323 c1_i32_5123 c2_i32_5121
  let v5325 : BitVec 32 := Scalar.remsi v5268 v5324
  let c0_i32_5125 : BitVec 32 := 0#32
  let v5327 : BitVec 1 := Scalar.cmpi .slt v5325 c0_i32_5125
  let c0_i32_5126 : BitVec 32 := 0#32
  let v5328 : BitVec 1 := Scalar.cmpi .slt v5324 c0_i32_5126
  let v5329 : BitVec 1 := Scalar.xori v5327 v5328
  let c0_i32_5124 : BitVec 32 := 0#32
  let v5326 : BitVec 1 := Scalar.cmpi .ne v5325 c0_i32_5124
  let v5330 : BitVec 1 := Scalar.andi v5329 v5326
  let v5331 : BitVec 32 := Scalar.addi v5325 v5324
  let v5332 : BitVec 32 := Scalar.select v5330 v5331 v5325
  let c0_i32_5127 : BitVec 32 := 0#32
  let v5333 : BitVec 1 := Scalar.cmpi .eq v5332 c0_i32_5127
  let c4_i32_5086 : BitVec 32 := 4#32
  let c0_i32_5087 : BitVec 32 := 0#32
  let v5269 : BitVec 1 := Scalar.cmpi .eq c4_i32_5086 c0_i32_5087
  let c1_i32_5088 : BitVec 32 := 1#32
  let v5270 : BitVec 32 := Scalar.select v5269 c1_i32_5088 c4_i32_5086
  let v5271 : BitVec 32 := Scalar.remsi v5251 v5270
  let c0_i32_5090 : BitVec 32 := 0#32
  let v5273 : BitVec 1 := Scalar.cmpi .slt v5271 c0_i32_5090
  let c0_i32_5091 : BitVec 32 := 0#32
  let v5274 : BitVec 1 := Scalar.cmpi .slt v5270 c0_i32_5091
  let v5275 : BitVec 1 := Scalar.xori v5273 v5274
  let c0_i32_5089 : BitVec 32 := 0#32
  let v5272 : BitVec 1 := Scalar.cmpi .ne v5271 c0_i32_5089
  let v5276 : BitVec 1 := Scalar.andi v5275 v5272
  let v5277 : BitVec 32 := Scalar.addi v5271 v5270
  let v5278 : BitVec 32 := Scalar.select v5276 v5277 v5271
  let c1_i32_5092 : BitVec 32 := 1#32
  let v5279 : BitVec 1 := Scalar.cmpi .eq v5278 c1_i32_5092
  let c2_i32_5093 : BitVec 32 := 2#32
  let v5280 : BitVec 1 := Scalar.cmpi .eq v5278 c2_i32_5093
  let v5281 : BitVec 1 := Scalar.ori v5279 v5280
  let c1_i32_5094 : BitVec 32 := 1#32
  let c0_i32_5095 : BitVec 32 := 0#32
  let v5282 : BitVec 32 := Scalar.select v5281 c1_i32_5094 c0_i32_5095
  let c1_i32_5128 : BitVec 32 := 1#32
  let v5334 : BitVec 32 := Scalar.subi c1_i32_5128 v5282
  let v5335 : BitVec 32 := Scalar.select v5333 v5282 v5334
  let v5336 : BitVec 32 := Scalar.addi v5322 v5335
  let v5338 : BitVec 32 := Scalar.addi v5337 v5336
  let c1_i32_5173 : BitVec 32 := 1#32
  let v5377 : BitVec 32 := Scalar.muli v5338 c1_i32_5173
  let v5378 : BitVec 32 := Scalar.addi c0_i32_5174 v5377
  v5378.toNat
def k0_dev70 (d0 : Dev nD) : Nat :=
  let c0_i32_5190 : BitVec 32 := 0#32
  let c8_i32_5146 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5067 : BitVec 32 := 0#32
  let v5226 : BitVec 1 := Scalar.cmpi .sgt v2 c0_i32_5067
  let v5227 : BitVec 32 := Scalar.extui v5226
  let c0_i32_5068 : BitVec 32 := 0#32
  let v5228 : BitVec 1 := Scalar.cmpi .slt v2 c0_i32_5068
  let v5229 : BitVec 32 := Scalar.extui v5228
  let v5230 : BitVec 32 := Scalar.subi v5227 v5229
  let c8_i32_5066 : BitVec 32 := 8#32
  let c0_i32_5069 : BitVec 32 := 0#32
  let v5231 : BitVec 1 := Scalar.cmpi .sgt c8_i32_5066 c0_i32_5069
  let v5232 : BitVec 32 := Scalar.extui v5231
  let c0_i32_5070 : BitVec 32 := 0#32
  let v5233 : BitVec 1 := Scalar.cmpi .slt c8_i32_5066 c0_i32_5070
  let v5234 : BitVec 32 := Scalar.extui v5233
  let v5235 : BitVec 32 := Scalar.subi v5232 v5234
  let v5236 : BitVec 1 := Scalar.cmpi .ne v5230 v5235
  let v5237 : BitVec 32 := Scalar.remsi v2 c8_i32_5066
  let c0_i32_5071 : BitVec 32 := 0#32
  let v5238 : BitVec 1 := Scalar.cmpi .ne v5237 c0_i32_5071
  let v5239 : BitVec 1 := Scalar.andi v5236 v5238
  let v5225 : BitVec 32 := Scalar.divsi v2 c8_i32_5066
  let c1_i32_5072 : BitVec 32 := 1#32
  let v5240 : BitVec 32 := Scalar.subi v5225 c1_i32_5072
  let v5241 : BitVec 32 := Scalar.select v5239 v5240 v5225
  let c3_i32_5130 : BitVec 32 := 3#32
  let v5339 : BitVec 32 := Scalar.addi v5241 c3_i32_5130
  let c4_i32_5131 : BitVec 32 := 4#32
  let c0_i32_5132 : BitVec 32 := 0#32
  let v5340 : BitVec 1 := Scalar.cmpi .eq c4_i32_5131 c0_i32_5132
  let c1_i32_5133 : BitVec 32 := 1#32
  let v5341 : BitVec 32 := Scalar.select v5340 c1_i32_5133 c4_i32_5131
  let v5342 : BitVec 32 := Scalar.remsi v5339 v5341
  let c0_i32_5135 : BitVec 32 := 0#32
  let v5344 : BitVec 1 := Scalar.cmpi .slt v5342 c0_i32_5135
  let c0_i32_5136 : BitVec 32 := 0#32
  let v5345 : BitVec 1 := Scalar.cmpi .slt v5341 c0_i32_5136
  let v5346 : BitVec 1 := Scalar.xori v5344 v5345
  let c0_i32_5134 : BitVec 32 := 0#32
  let v5343 : BitVec 1 := Scalar.cmpi .ne v5342 c0_i32_5134
  let v5347 : BitVec 1 := Scalar.andi v5346 v5343
  let v5348 : BitVec 32 := Scalar.addi v5342 v5341
  let v5349 : BitVec 32 := Scalar.select v5347 v5348 v5342
  let v5365 : BitVec 32 := Scalar.muli c8_i32_5146 v5349
  let c2_i32_5137 : BitVec 32 := 2#32
  let c8_i32_5073 : BitVec 32 := 8#32
  let c0_i32_5074 : BitVec 32 := 0#32
  let v5242 : BitVec 1 := Scalar.cmpi .eq c8_i32_5073 c0_i32_5074
  let c1_i32_5075 : BitVec 32 := 1#32
  let v5243 : BitVec 32 := Scalar.select v5242 c1_i32_5075 c8_i32_5073
  let v5244 : BitVec 32 := Scalar.remsi v2 v5243
  let c0_i32_5077 : BitVec 32 := 0#32
  let v5246 : BitVec 1 := Scalar.cmpi .slt v5244 c0_i32_5077
  let c0_i32_5078 : BitVec 32 := 0#32
  let v5247 : BitVec 1 := Scalar.cmpi .slt v5243 c0_i32_5078
  let v5248 : BitVec 1 := Scalar.xori v5246 v5247
  let c0_i32_5076 : BitVec 32 := 0#32
  let v5245 : BitVec 1 := Scalar.cmpi .ne v5244 c0_i32_5076
  let v5249 : BitVec 1 := Scalar.andi v5248 v5245
  let v5250 : BitVec 32 := Scalar.addi v5244 v5243
  let v5251 : BitVec 32 := Scalar.select v5249 v5250 v5244
  let c0_i32_5080 : BitVec 32 := 0#32
  let v5253 : BitVec 1 := Scalar.cmpi .sgt v5251 c0_i32_5080
  let v5254 : BitVec 32 := Scalar.extui v5253
  let c0_i32_5081 : BitVec 32 := 0#32
  let v5255 : BitVec 1 := Scalar.cmpi .slt v5251 c0_i32_5081
  let v5256 : BitVec 32 := Scalar.extui v5255
  let v5257 : BitVec 32 := Scalar.subi v5254 v5256
  let c2_i32_5079 : BitVec 32 := 2#32
  let c0_i32_5082 : BitVec 32 := 0#32
  let v5258 : BitVec 1 := Scalar.cmpi .sgt c2_i32_5079 c0_i32_5082
  let v5259 : BitVec 32 := Scalar.extui v5258
  let c0_i32_5083 : BitVec 32 := 0#32
  let v5260 : BitVec 1 := Scalar.cmpi .slt c2_i32_5079 c0_i32_5083
  let v5261 : BitVec 32 := Scalar.extui v5260
  let v5262 : BitVec 32 := Scalar.subi v5259 v5261
  let v5263 : BitVec 1 := Scalar.cmpi .ne v5257 v5262
  let v5264 : BitVec 32 := Scalar.remsi v5251 c2_i32_5079
  let c0_i32_5084 : BitVec 32 := 0#32
  let v5265 : BitVec 1 := Scalar.cmpi .ne v5264 c0_i32_5084
  let v5266 : BitVec 1 := Scalar.andi v5263 v5265
  let v5252 : BitVec 32 := Scalar.divsi v5251 c2_i32_5079
  let c1_i32_5085 : BitVec 32 := 1#32
  let v5267 : BitVec 32 := Scalar.subi v5252 c1_i32_5085
  let v5268 : BitVec 32 := Scalar.select v5266 v5267 v5252
  let v5350 : BitVec 32 := Scalar.muli c2_i32_5137 v5268
  let c2_i32_5138 : BitVec 32 := 2#32
  let c0_i32_5139 : BitVec 32 := 0#32
  let v5351 : BitVec 1 := Scalar.cmpi .eq c2_i32_5138 c0_i32_5139
  let c1_i32_5140 : BitVec 32 := 1#32
  let v5352 : BitVec 32 := Scalar.select v5351 c1_i32_5140 c2_i32_5138
  let v5353 : BitVec 32 := Scalar.remsi v5268 v5352
  let c0_i32_5142 : BitVec 32 := 0#32
  let v5355 : BitVec 1 := Scalar.cmpi .slt v5353 c0_i32_5142
  let c0_i32_5143 : BitVec 32 := 0#32
  let v5356 : BitVec 1 := Scalar.cmpi .slt v5352 c0_i32_5143
  let v5357 : BitVec 1 := Scalar.xori v5355 v5356
  let c0_i32_5141 : BitVec 32 := 0#32
  let v5354 : BitVec 1 := Scalar.cmpi .ne v5353 c0_i32_5141
  let v5358 : BitVec 1 := Scalar.andi v5357 v5354
  let v5359 : BitVec 32 := Scalar.addi v5353 v5352
  let v5360 : BitVec 32 := Scalar.select v5358 v5359 v5353
  let c0_i32_5144 : BitVec 32 := 0#32
  let v5361 : BitVec 1 := Scalar.cmpi .eq v5360 c0_i32_5144
  let c4_i32_5086 : BitVec 32 := 4#32
  let c0_i32_5087 : BitVec 32 := 0#32
  let v5269 : BitVec 1 := Scalar.cmpi .eq c4_i32_5086 c0_i32_5087
  let c1_i32_5088 : BitVec 32 := 1#32
  let v5270 : BitVec 32 := Scalar.select v5269 c1_i32_5088 c4_i32_5086
  let v5271 : BitVec 32 := Scalar.remsi v5251 v5270
  let c0_i32_5090 : BitVec 32 := 0#32
  let v5273 : BitVec 1 := Scalar.cmpi .slt v5271 c0_i32_5090
  let c0_i32_5091 : BitVec 32 := 0#32
  let v5274 : BitVec 1 := Scalar.cmpi .slt v5270 c0_i32_5091
  let v5275 : BitVec 1 := Scalar.xori v5273 v5274
  let c0_i32_5089 : BitVec 32 := 0#32
  let v5272 : BitVec 1 := Scalar.cmpi .ne v5271 c0_i32_5089
  let v5276 : BitVec 1 := Scalar.andi v5275 v5272
  let v5277 : BitVec 32 := Scalar.addi v5271 v5270
  let v5278 : BitVec 32 := Scalar.select v5276 v5277 v5271
  let c1_i32_5092 : BitVec 32 := 1#32
  let v5279 : BitVec 1 := Scalar.cmpi .eq v5278 c1_i32_5092
  let c2_i32_5093 : BitVec 32 := 2#32
  let v5280 : BitVec 1 := Scalar.cmpi .eq v5278 c2_i32_5093
  let v5281 : BitVec 1 := Scalar.ori v5279 v5280
  let c1_i32_5094 : BitVec 32 := 1#32
  let c0_i32_5095 : BitVec 32 := 0#32
  let v5282 : BitVec 32 := Scalar.select v5281 c1_i32_5094 c0_i32_5095
  let c1_i32_5145 : BitVec 32 := 1#32
  let v5362 : BitVec 32 := Scalar.subi c1_i32_5145 v5282
  let v5363 : BitVec 32 := Scalar.select v5361 v5282 v5362
  let v5364 : BitVec 32 := Scalar.addi v5350 v5363
  let v5366 : BitVec 32 := Scalar.addi v5365 v5364
  let c1_i32_5189 : BitVec 32 := 1#32
  let v5387 : BitVec 32 := Scalar.muli v5366 c1_i32_5189
  let v5388 : BitVec 32 := Scalar.addi c0_i32_5190 v5387
  v5388.toNat
def k0_dev71 (d0 : Dev nD) : Nat :=
  let c0_i32_5370 : BitVec 32 := 0#32
  let c8_i32_5358 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5319 : BitVec 32 := 0#32
  let v5465 : BitVec 1 := Scalar.cmpi .sgt v2 c0_i32_5319
  let v5466 : BitVec 32 := Scalar.extui v5465
  let c0_i32_5320 : BitVec 32 := 0#32
  let v5467 : BitVec 1 := Scalar.cmpi .slt v2 c0_i32_5320
  let v5468 : BitVec 32 := Scalar.extui v5467
  let v5469 : BitVec 32 := Scalar.subi v5466 v5468
  let c8_i32_5318 : BitVec 32 := 8#32
  let c0_i32_5321 : BitVec 32 := 0#32
  let v5470 : BitVec 1 := Scalar.cmpi .sgt c8_i32_5318 c0_i32_5321
  let v5471 : BitVec 32 := Scalar.extui v5470
  let c0_i32_5322 : BitVec 32 := 0#32
  let v5472 : BitVec 1 := Scalar.cmpi .slt c8_i32_5318 c0_i32_5322
  let v5473 : BitVec 32 := Scalar.extui v5472
  let v5474 : BitVec 32 := Scalar.subi v5471 v5473
  let v5475 : BitVec 1 := Scalar.cmpi .ne v5469 v5474
  let v5476 : BitVec 32 := Scalar.remsi v2 c8_i32_5318
  let c0_i32_5323 : BitVec 32 := 0#32
  let v5477 : BitVec 1 := Scalar.cmpi .ne v5476 c0_i32_5323
  let v5478 : BitVec 1 := Scalar.andi v5475 v5477
  let v5464 : BitVec 32 := Scalar.divsi v2 c8_i32_5318
  let c1_i32_5324 : BitVec 32 := 1#32
  let v5479 : BitVec 32 := Scalar.subi v5464 c1_i32_5324
  let v5480 : BitVec 32 := Scalar.select v5478 v5479 v5464
  let v5538 : BitVec 32 := Scalar.muli c8_i32_5358 v5480
  let c2_i32_5349 : BitVec 32 := 2#32
  let c8_i32_5325 : BitVec 32 := 8#32
  let c0_i32_5326 : BitVec 32 := 0#32
  let v5481 : BitVec 1 := Scalar.cmpi .eq c8_i32_5325 c0_i32_5326
  let c1_i32_5327 : BitVec 32 := 1#32
  let v5482 : BitVec 32 := Scalar.select v5481 c1_i32_5327 c8_i32_5325
  let v5483 : BitVec 32 := Scalar.remsi v2 v5482
  let c0_i32_5329 : BitVec 32 := 0#32
  let v5485 : BitVec 1 := Scalar.cmpi .slt v5483 c0_i32_5329
  let c0_i32_5330 : BitVec 32 := 0#32
  let v5486 : BitVec 1 := Scalar.cmpi .slt v5482 c0_i32_5330
  let v5487 : BitVec 1 := Scalar.xori v5485 v5486
  let c0_i32_5328 : BitVec 32 := 0#32
  let v5484 : BitVec 1 := Scalar.cmpi .ne v5483 c0_i32_5328
  let v5488 : BitVec 1 := Scalar.andi v5487 v5484
  let v5489 : BitVec 32 := Scalar.addi v5483 v5482
  let v5490 : BitVec 32 := Scalar.select v5488 v5489 v5483
  let c0_i32_5332 : BitVec 32 := 0#32
  let v5492 : BitVec 1 := Scalar.cmpi .sgt v5490 c0_i32_5332
  let v5493 : BitVec 32 := Scalar.extui v5492
  let c0_i32_5333 : BitVec 32 := 0#32
  let v5494 : BitVec 1 := Scalar.cmpi .slt v5490 c0_i32_5333
  let v5495 : BitVec 32 := Scalar.extui v5494
  let v5496 : BitVec 32 := Scalar.subi v5493 v5495
  let c2_i32_5331 : BitVec 32 := 2#32
  let c0_i32_5334 : BitVec 32 := 0#32
  let v5497 : BitVec 1 := Scalar.cmpi .sgt c2_i32_5331 c0_i32_5334
  let v5498 : BitVec 32 := Scalar.extui v5497
  let c0_i32_5335 : BitVec 32 := 0#32
  let v5499 : BitVec 1 := Scalar.cmpi .slt c2_i32_5331 c0_i32_5335
  let v5500 : BitVec 32 := Scalar.extui v5499
  let v5501 : BitVec 32 := Scalar.subi v5498 v5500
  let v5502 : BitVec 1 := Scalar.cmpi .ne v5496 v5501
  let v5503 : BitVec 32 := Scalar.remsi v5490 c2_i32_5331
  let c0_i32_5336 : BitVec 32 := 0#32
  let v5504 : BitVec 1 := Scalar.cmpi .ne v5503 c0_i32_5336
  let v5505 : BitVec 1 := Scalar.andi v5502 v5504
  let v5491 : BitVec 32 := Scalar.divsi v5490 c2_i32_5331
  let c1_i32_5337 : BitVec 32 := 1#32
  let v5506 : BitVec 32 := Scalar.subi v5491 c1_i32_5337
  let v5507 : BitVec 32 := Scalar.select v5505 v5506 v5491
  let v5523 : BitVec 32 := Scalar.muli c2_i32_5349 v5507
  let c2_i32_5350 : BitVec 32 := 2#32
  let c0_i32_5351 : BitVec 32 := 0#32
  let v5524 : BitVec 1 := Scalar.cmpi .eq c2_i32_5350 c0_i32_5351
  let c1_i32_5352 : BitVec 32 := 1#32
  let v5525 : BitVec 32 := Scalar.select v5524 c1_i32_5352 c2_i32_5350
  let v5526 : BitVec 32 := Scalar.remsi v5507 v5525
  let c0_i32_5354 : BitVec 32 := 0#32
  let v5528 : BitVec 1 := Scalar.cmpi .slt v5526 c0_i32_5354
  let c0_i32_5355 : BitVec 32 := 0#32
  let v5529 : BitVec 1 := Scalar.cmpi .slt v5525 c0_i32_5355
  let v5530 : BitVec 1 := Scalar.xori v5528 v5529
  let c0_i32_5353 : BitVec 32 := 0#32
  let v5527 : BitVec 1 := Scalar.cmpi .ne v5526 c0_i32_5353
  let v5531 : BitVec 1 := Scalar.andi v5530 v5527
  let v5532 : BitVec 32 := Scalar.addi v5526 v5525
  let v5533 : BitVec 32 := Scalar.select v5531 v5532 v5526
  let c0_i32_5356 : BitVec 32 := 0#32
  let v5534 : BitVec 1 := Scalar.cmpi .eq v5533 c0_i32_5356
  let c1_i32_5348 : BitVec 32 := 1#32
  let c4_i32_5338 : BitVec 32 := 4#32
  let c0_i32_5339 : BitVec 32 := 0#32
  let v5508 : BitVec 1 := Scalar.cmpi .eq c4_i32_5338 c0_i32_5339
  let c1_i32_5340 : BitVec 32 := 1#32
  let v5509 : BitVec 32 := Scalar.select v5508 c1_i32_5340 c4_i32_5338
  let v5510 : BitVec 32 := Scalar.remsi v5490 v5509
  let c0_i32_5342 : BitVec 32 := 0#32
  let v5512 : BitVec 1 := Scalar.cmpi .slt v5510 c0_i32_5342
  let c0_i32_5343 : BitVec 32 := 0#32
  let v5513 : BitVec 1 := Scalar.cmpi .slt v5509 c0_i32_5343
  let v5514 : BitVec 1 := Scalar.xori v5512 v5513
  let c0_i32_5341 : BitVec 32 := 0#32
  let v5511 : BitVec 1 := Scalar.cmpi .ne v5510 c0_i32_5341
  let v5515 : BitVec 1 := Scalar.andi v5514 v5511
  let v5516 : BitVec 32 := Scalar.addi v5510 v5509
  let v5517 : BitVec 32 := Scalar.select v5515 v5516 v5510
  let c1_i32_5344 : BitVec 32 := 1#32
  let v5518 : BitVec 1 := Scalar.cmpi .eq v5517 c1_i32_5344
  let c2_i32_5345 : BitVec 32 := 2#32
  let v5519 : BitVec 1 := Scalar.cmpi .eq v5517 c2_i32_5345
  let v5520 : BitVec 1 := Scalar.ori v5518 v5519
  let c1_i32_5346 : BitVec 32 := 1#32
  let c0_i32_5347 : BitVec 32 := 0#32
  let v5521 : BitVec 32 := Scalar.select v5520 c1_i32_5346 c0_i32_5347
  let v5522 : BitVec 32 := Scalar.subi c1_i32_5348 v5521
  let c1_i32_5357 : BitVec 32 := 1#32
  let v5535 : BitVec 32 := Scalar.subi c1_i32_5357 v5522
  let v5536 : BitVec 32 := Scalar.select v5534 v5522 v5535
  let v5537 : BitVec 32 := Scalar.addi v5523 v5536
  let v5539 : BitVec 32 := Scalar.addi v5538 v5537
  let c1_i32_5369 : BitVec 32 := 1#32
  let v5540 : BitVec 32 := Scalar.muli v5539 c1_i32_5369
  let v5541 : BitVec 32 := Scalar.addi c0_i32_5370 v5540
  v5541.toNat
def k0_dev72 (d0 : Dev nD) : Nat :=
  let c0_i32_5508 : BitVec 32 := 0#32
  let c8_i32_5462 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5417 : BitVec 32 := 0#32
  let v5573 : BitVec 1 := Scalar.cmpi .sgt v2 c0_i32_5417
  let v5574 : BitVec 32 := Scalar.extui v5573
  let c0_i32_5418 : BitVec 32 := 0#32
  let v5575 : BitVec 1 := Scalar.cmpi .slt v2 c0_i32_5418
  let v5576 : BitVec 32 := Scalar.extui v5575
  let v5577 : BitVec 32 := Scalar.subi v5574 v5576
  let c8_i32_5416 : BitVec 32 := 8#32
  let c0_i32_5419 : BitVec 32 := 0#32
  let v5578 : BitVec 1 := Scalar.cmpi .sgt c8_i32_5416 c0_i32_5419
  let v5579 : BitVec 32 := Scalar.extui v5578
  let c0_i32_5420 : BitVec 32 := 0#32
  let v5580 : BitVec 1 := Scalar.cmpi .slt c8_i32_5416 c0_i32_5420
  let v5581 : BitVec 32 := Scalar.extui v5580
  let v5582 : BitVec 32 := Scalar.subi v5579 v5581
  let v5583 : BitVec 1 := Scalar.cmpi .ne v5577 v5582
  let v5584 : BitVec 32 := Scalar.remsi v2 c8_i32_5416
  let c0_i32_5421 : BitVec 32 := 0#32
  let v5585 : BitVec 1 := Scalar.cmpi .ne v5584 c0_i32_5421
  let v5586 : BitVec 1 := Scalar.andi v5583 v5585
  let v5572 : BitVec 32 := Scalar.divsi v2 c8_i32_5416
  let c1_i32_5422 : BitVec 32 := 1#32
  let v5587 : BitVec 32 := Scalar.subi v5572 c1_i32_5422
  let v5588 : BitVec 32 := Scalar.select v5586 v5587 v5572
  let v5656 : BitVec 32 := Scalar.muli c8_i32_5462 v5588
  let c2_i32_5453 : BitVec 32 := 2#32
  let c8_i32_5423 : BitVec 32 := 8#32
  let c0_i32_5424 : BitVec 32 := 0#32
  let v5589 : BitVec 1 := Scalar.cmpi .eq c8_i32_5423 c0_i32_5424
  let c1_i32_5425 : BitVec 32 := 1#32
  let v5590 : BitVec 32 := Scalar.select v5589 c1_i32_5425 c8_i32_5423
  let v5591 : BitVec 32 := Scalar.remsi v2 v5590
  let c0_i32_5427 : BitVec 32 := 0#32
  let v5593 : BitVec 1 := Scalar.cmpi .slt v5591 c0_i32_5427
  let c0_i32_5428 : BitVec 32 := 0#32
  let v5594 : BitVec 1 := Scalar.cmpi .slt v5590 c0_i32_5428
  let v5595 : BitVec 1 := Scalar.xori v5593 v5594
  let c0_i32_5426 : BitVec 32 := 0#32
  let v5592 : BitVec 1 := Scalar.cmpi .ne v5591 c0_i32_5426
  let v5596 : BitVec 1 := Scalar.andi v5595 v5592
  let v5597 : BitVec 32 := Scalar.addi v5591 v5590
  let v5598 : BitVec 32 := Scalar.select v5596 v5597 v5591
  let c0_i32_5430 : BitVec 32 := 0#32
  let v5600 : BitVec 1 := Scalar.cmpi .sgt v5598 c0_i32_5430
  let v5601 : BitVec 32 := Scalar.extui v5600
  let c0_i32_5431 : BitVec 32 := 0#32
  let v5602 : BitVec 1 := Scalar.cmpi .slt v5598 c0_i32_5431
  let v5603 : BitVec 32 := Scalar.extui v5602
  let v5604 : BitVec 32 := Scalar.subi v5601 v5603
  let c2_i32_5429 : BitVec 32 := 2#32
  let c0_i32_5432 : BitVec 32 := 0#32
  let v5605 : BitVec 1 := Scalar.cmpi .sgt c2_i32_5429 c0_i32_5432
  let v5606 : BitVec 32 := Scalar.extui v5605
  let c0_i32_5433 : BitVec 32 := 0#32
  let v5607 : BitVec 1 := Scalar.cmpi .slt c2_i32_5429 c0_i32_5433
  let v5608 : BitVec 32 := Scalar.extui v5607
  let v5609 : BitVec 32 := Scalar.subi v5606 v5608
  let v5610 : BitVec 1 := Scalar.cmpi .ne v5604 v5609
  let v5611 : BitVec 32 := Scalar.remsi v5598 c2_i32_5429
  let c0_i32_5434 : BitVec 32 := 0#32
  let v5612 : BitVec 1 := Scalar.cmpi .ne v5611 c0_i32_5434
  let v5613 : BitVec 1 := Scalar.andi v5610 v5612
  let v5599 : BitVec 32 := Scalar.divsi v5598 c2_i32_5429
  let c1_i32_5435 : BitVec 32 := 1#32
  let v5614 : BitVec 32 := Scalar.subi v5599 c1_i32_5435
  let v5615 : BitVec 32 := Scalar.select v5613 v5614 v5599
  let c1_i32_5446 : BitVec 32 := 1#32
  let v5630 : BitVec 32 := Scalar.addi v5615 c1_i32_5446
  let c4_i32_5447 : BitVec 32 := 4#32
  let c0_i32_5448 : BitVec 32 := 0#32
  let v5631 : BitVec 1 := Scalar.cmpi .eq c4_i32_5447 c0_i32_5448
  let c1_i32_5449 : BitVec 32 := 1#32
  let v5632 : BitVec 32 := Scalar.select v5631 c1_i32_5449 c4_i32_5447
  let v5633 : BitVec 32 := Scalar.remsi v5630 v5632
  let c0_i32_5451 : BitVec 32 := 0#32
  let v5635 : BitVec 1 := Scalar.cmpi .slt v5633 c0_i32_5451
  let c0_i32_5452 : BitVec 32 := 0#32
  let v5636 : BitVec 1 := Scalar.cmpi .slt v5632 c0_i32_5452
  let v5637 : BitVec 1 := Scalar.xori v5635 v5636
  let c0_i32_5450 : BitVec 32 := 0#32
  let v5634 : BitVec 1 := Scalar.cmpi .ne v5633 c0_i32_5450
  let v5638 : BitVec 1 := Scalar.andi v5637 v5634
  let v5639 : BitVec 32 := Scalar.addi v5633 v5632
  let v5640 : BitVec 32 := Scalar.select v5638 v5639 v5633
  let v5641 : BitVec 32 := Scalar.muli c2_i32_5453 v5640
  let c2_i32_5454 : BitVec 32 := 2#32
  let c0_i32_5455 : BitVec 32 := 0#32
  let v5642 : BitVec 1 := Scalar.cmpi .eq c2_i32_5454 c0_i32_5455
  let c1_i32_5456 : BitVec 32 := 1#32
  let v5643 : BitVec 32 := Scalar.select v5642 c1_i32_5456 c2_i32_5454
  let v5644 : BitVec 32 := Scalar.remsi v5640 v5643
  let c0_i32_5458 : BitVec 32 := 0#32
  let v5646 : BitVec 1 := Scalar.cmpi .slt v5644 c0_i32_5458
  let c0_i32_5459 : BitVec 32 := 0#32
  let v5647 : BitVec 1 := Scalar.cmpi .slt v5643 c0_i32_5459
  let v5648 : BitVec 1 := Scalar.xori v5646 v5647
  let c0_i32_5457 : BitVec 32 := 0#32
  let v5645 : BitVec 1 := Scalar.cmpi .ne v5644 c0_i32_5457
  let v5649 : BitVec 1 := Scalar.andi v5648 v5645
  let v5650 : BitVec 32 := Scalar.addi v5644 v5643
  let v5651 : BitVec 32 := Scalar.select v5649 v5650 v5644
  let c0_i32_5460 : BitVec 32 := 0#32
  let v5652 : BitVec 1 := Scalar.cmpi .eq v5651 c0_i32_5460
  let c4_i32_5436 : BitVec 32 := 4#32
  let c0_i32_5437 : BitVec 32 := 0#32
  let v5616 : BitVec 1 := Scalar.cmpi .eq c4_i32_5436 c0_i32_5437
  let c1_i32_5438 : BitVec 32 := 1#32
  let v5617 : BitVec 32 := Scalar.select v5616 c1_i32_5438 c4_i32_5436
  let v5618 : BitVec 32 := Scalar.remsi v5598 v5617
  let c0_i32_5440 : BitVec 32 := 0#32
  let v5620 : BitVec 1 := Scalar.cmpi .slt v5618 c0_i32_5440
  let c0_i32_5441 : BitVec 32 := 0#32
  let v5621 : BitVec 1 := Scalar.cmpi .slt v5617 c0_i32_5441
  let v5622 : BitVec 1 := Scalar.xori v5620 v5621
  let c0_i32_5439 : BitVec 32 := 0#32
  let v5619 : BitVec 1 := Scalar.cmpi .ne v5618 c0_i32_5439
  let v5623 : BitVec 1 := Scalar.andi v5622 v5619
  let v5624 : BitVec 32 := Scalar.addi v5618 v5617
  let v5625 : BitVec 32 := Scalar.select v5623 v5624 v5618
  let c1_i32_5442 : BitVec 32 := 1#32
  let v5626 : BitVec 1 := Scalar.cmpi .eq v5625 c1_i32_5442
  let c2_i32_5443 : BitVec 32 := 2#32
  let v5627 : BitVec 1 := Scalar.cmpi .eq v5625 c2_i32_5443
  let v5628 : BitVec 1 := Scalar.ori v5626 v5627
  let c1_i32_5444 : BitVec 32 := 1#32
  let c0_i32_5445 : BitVec 32 := 0#32
  let v5629 : BitVec 32 := Scalar.select v5628 c1_i32_5444 c0_i32_5445
  let c1_i32_5461 : BitVec 32 := 1#32
  let v5653 : BitVec 32 := Scalar.subi c1_i32_5461 v5629
  let v5654 : BitVec 32 := Scalar.select v5652 v5629 v5653
  let v5655 : BitVec 32 := Scalar.addi v5641 v5654
  let v5657 : BitVec 32 := Scalar.addi v5656 v5655
  let c1_i32_5507 : BitVec 32 := 1#32
  let v5714 : BitVec 32 := Scalar.muli v5657 c1_i32_5507
  let v5715 : BitVec 32 := Scalar.addi c0_i32_5508 v5714
  v5715.toNat
def k0_dev73 (d0 : Dev nD) : Nat :=
  let c0_i32_5524 : BitVec 32 := 0#32
  let c8_i32_5479 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5417 : BitVec 32 := 0#32
  let v5573 : BitVec 1 := Scalar.cmpi .sgt v2 c0_i32_5417
  let v5574 : BitVec 32 := Scalar.extui v5573
  let c0_i32_5418 : BitVec 32 := 0#32
  let v5575 : BitVec 1 := Scalar.cmpi .slt v2 c0_i32_5418
  let v5576 : BitVec 32 := Scalar.extui v5575
  let v5577 : BitVec 32 := Scalar.subi v5574 v5576
  let c8_i32_5416 : BitVec 32 := 8#32
  let c0_i32_5419 : BitVec 32 := 0#32
  let v5578 : BitVec 1 := Scalar.cmpi .sgt c8_i32_5416 c0_i32_5419
  let v5579 : BitVec 32 := Scalar.extui v5578
  let c0_i32_5420 : BitVec 32 := 0#32
  let v5580 : BitVec 1 := Scalar.cmpi .slt c8_i32_5416 c0_i32_5420
  let v5581 : BitVec 32 := Scalar.extui v5580
  let v5582 : BitVec 32 := Scalar.subi v5579 v5581
  let v5583 : BitVec 1 := Scalar.cmpi .ne v5577 v5582
  let v5584 : BitVec 32 := Scalar.remsi v2 c8_i32_5416
  let c0_i32_5421 : BitVec 32 := 0#32
  let v5585 : BitVec 1 := Scalar.cmpi .ne v5584 c0_i32_5421
  let v5586 : BitVec 1 := Scalar.andi v5583 v5585
  let v5572 : BitVec 32 := Scalar.divsi v2 c8_i32_5416
  let c1_i32_5422 : BitVec 32 := 1#32
  let v5587 : BitVec 32 := Scalar.subi v5572 c1_i32_5422
  let v5588 : BitVec 32 := Scalar.select v5586 v5587 v5572
  let v5684 : BitVec 32 := Scalar.muli c8_i32_5479 v5588
  let c2_i32_5470 : BitVec 32 := 2#32
  let c8_i32_5423 : BitVec 32 := 8#32
  let c0_i32_5424 : BitVec 32 := 0#32
  let v5589 : BitVec 1 := Scalar.cmpi .eq c8_i32_5423 c0_i32_5424
  let c1_i32_5425 : BitVec 32 := 1#32
  let v5590 : BitVec 32 := Scalar.select v5589 c1_i32_5425 c8_i32_5423
  let v5591 : BitVec 32 := Scalar.remsi v2 v5590
  let c0_i32_5427 : BitVec 32 := 0#32
  let v5593 : BitVec 1 := Scalar.cmpi .slt v5591 c0_i32_5427
  let c0_i32_5428 : BitVec 32 := 0#32
  let v5594 : BitVec 1 := Scalar.cmpi .slt v5590 c0_i32_5428
  let v5595 : BitVec 1 := Scalar.xori v5593 v5594
  let c0_i32_5426 : BitVec 32 := 0#32
  let v5592 : BitVec 1 := Scalar.cmpi .ne v5591 c0_i32_5426
  let v5596 : BitVec 1 := Scalar.andi v5595 v5592
  let v5597 : BitVec 32 := Scalar.addi v5591 v5590
  let v5598 : BitVec 32 := Scalar.select v5596 v5597 v5591
  let c0_i32_5430 : BitVec 32 := 0#32
  let v5600 : BitVec 1 := Scalar.cmpi .sgt v5598 c0_i32_5430
  let v5601 : BitVec 32 := Scalar.extui v5600
  let c0_i32_5431 : BitVec 32 := 0#32
  let v5602 : BitVec 1 := Scalar.cmpi .slt v5598 c0_i32_5431
  let v5603 : BitVec 32 := Scalar.extui v5602
  let v5604 : BitVec 32 := Scalar.subi v5601 v5603
  let c2_i32_5429 : BitVec 32 := 2#32
  let c0_i32_5432 : BitVec 32 := 0#32
  let v5605 : BitVec 1 := Scalar.cmpi .sgt c2_i32_5429 c0_i32_5432
  let v5606 : BitVec 32 := Scalar.extui v5605
  let c0_i32_5433 : BitVec 32 := 0#32
  let v5607 : BitVec 1 := Scalar.cmpi .slt c2_i32_5429 c0_i32_5433
  let v5608 : BitVec 32 := Scalar.extui v5607
  let v5609 : BitVec 32 := Scalar.subi v5606 v5608
  let v5610 : BitVec 1 := Scalar.cmpi .ne v5604 v5609
  let v5611 : BitVec 32 := Scalar.remsi v5598 c2_i32_5429
  let c0_i32_5434 : BitVec 32 := 0#32
  let v5612 : BitVec 1 := Scalar.cmpi .ne v5611 c0_i32_5434
  let v5613 : BitVec 1 := Scalar.andi v5610 v5612
  let v5599 : BitVec 32 := Scalar.divsi v5598 c2_i32_5429
  let c1_i32_5435 : BitVec 32 := 1#32
  let v5614 : BitVec 32 := Scalar.subi v5599 c1_i32_5435
  let v5615 : BitVec 32 := Scalar.select v5613 v5614 v5599
  let c2_i32_5463 : BitVec 32 := 2#32
  let v5658 : BitVec 32 := Scalar.addi v5615 c2_i32_5463
  let c4_i32_5464 : BitVec 32 := 4#32
  let c0_i32_5465 : BitVec 32 := 0#32
  let v5659 : BitVec 1 := Scalar.cmpi .eq c4_i32_5464 c0_i32_5465
  let c1_i32_5466 : BitVec 32 := 1#32
  let v5660 : BitVec 32 := Scalar.select v5659 c1_i32_5466 c4_i32_5464
  let v5661 : BitVec 32 := Scalar.remsi v5658 v5660
  let c0_i32_5468 : BitVec 32 := 0#32
  let v5663 : BitVec 1 := Scalar.cmpi .slt v5661 c0_i32_5468
  let c0_i32_5469 : BitVec 32 := 0#32
  let v5664 : BitVec 1 := Scalar.cmpi .slt v5660 c0_i32_5469
  let v5665 : BitVec 1 := Scalar.xori v5663 v5664
  let c0_i32_5467 : BitVec 32 := 0#32
  let v5662 : BitVec 1 := Scalar.cmpi .ne v5661 c0_i32_5467
  let v5666 : BitVec 1 := Scalar.andi v5665 v5662
  let v5667 : BitVec 32 := Scalar.addi v5661 v5660
  let v5668 : BitVec 32 := Scalar.select v5666 v5667 v5661
  let v5669 : BitVec 32 := Scalar.muli c2_i32_5470 v5668
  let c2_i32_5471 : BitVec 32 := 2#32
  let c0_i32_5472 : BitVec 32 := 0#32
  let v5670 : BitVec 1 := Scalar.cmpi .eq c2_i32_5471 c0_i32_5472
  let c1_i32_5473 : BitVec 32 := 1#32
  let v5671 : BitVec 32 := Scalar.select v5670 c1_i32_5473 c2_i32_5471
  let v5672 : BitVec 32 := Scalar.remsi v5668 v5671
  let c0_i32_5475 : BitVec 32 := 0#32
  let v5674 : BitVec 1 := Scalar.cmpi .slt v5672 c0_i32_5475
  let c0_i32_5476 : BitVec 32 := 0#32
  let v5675 : BitVec 1 := Scalar.cmpi .slt v5671 c0_i32_5476
  let v5676 : BitVec 1 := Scalar.xori v5674 v5675
  let c0_i32_5474 : BitVec 32 := 0#32
  let v5673 : BitVec 1 := Scalar.cmpi .ne v5672 c0_i32_5474
  let v5677 : BitVec 1 := Scalar.andi v5676 v5673
  let v5678 : BitVec 32 := Scalar.addi v5672 v5671
  let v5679 : BitVec 32 := Scalar.select v5677 v5678 v5672
  let c0_i32_5477 : BitVec 32 := 0#32
  let v5680 : BitVec 1 := Scalar.cmpi .eq v5679 c0_i32_5477
  let c4_i32_5436 : BitVec 32 := 4#32
  let c0_i32_5437 : BitVec 32 := 0#32
  let v5616 : BitVec 1 := Scalar.cmpi .eq c4_i32_5436 c0_i32_5437
  let c1_i32_5438 : BitVec 32 := 1#32
  let v5617 : BitVec 32 := Scalar.select v5616 c1_i32_5438 c4_i32_5436
  let v5618 : BitVec 32 := Scalar.remsi v5598 v5617
  let c0_i32_5440 : BitVec 32 := 0#32
  let v5620 : BitVec 1 := Scalar.cmpi .slt v5618 c0_i32_5440
  let c0_i32_5441 : BitVec 32 := 0#32
  let v5621 : BitVec 1 := Scalar.cmpi .slt v5617 c0_i32_5441
  let v5622 : BitVec 1 := Scalar.xori v5620 v5621
  let c0_i32_5439 : BitVec 32 := 0#32
  let v5619 : BitVec 1 := Scalar.cmpi .ne v5618 c0_i32_5439
  let v5623 : BitVec 1 := Scalar.andi v5622 v5619
  let v5624 : BitVec 32 := Scalar.addi v5618 v5617
  let v5625 : BitVec 32 := Scalar.select v5623 v5624 v5618
  let c1_i32_5442 : BitVec 32 := 1#32
  let v5626 : BitVec 1 := Scalar.cmpi .eq v5625 c1_i32_5442
  let c2_i32_5443 : BitVec 32 := 2#32
  let v5627 : BitVec 1 := Scalar.cmpi .eq v5625 c2_i32_5443
  let v5628 : BitVec 1 := Scalar.ori v5626 v5627
  let c1_i32_5444 : BitVec 32 := 1#32
  let c0_i32_5445 : BitVec 32 := 0#32
  let v5629 : BitVec 32 := Scalar.select v5628 c1_i32_5444 c0_i32_5445
  let c1_i32_5478 : BitVec 32 := 1#32
  let v5681 : BitVec 32 := Scalar.subi c1_i32_5478 v5629
  let v5682 : BitVec 32 := Scalar.select v5680 v5629 v5681
  let v5683 : BitVec 32 := Scalar.addi v5669 v5682
  let v5685 : BitVec 32 := Scalar.addi v5684 v5683
  let c1_i32_5523 : BitVec 32 := 1#32
  let v5724 : BitVec 32 := Scalar.muli v5685 c1_i32_5523
  let v5725 : BitVec 32 := Scalar.addi c0_i32_5524 v5724
  v5725.toNat
def k0_dev74 (d0 : Dev nD) : Nat :=
  let c0_i32_5540 : BitVec 32 := 0#32
  let c8_i32_5496 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5417 : BitVec 32 := 0#32
  let v5573 : BitVec 1 := Scalar.cmpi .sgt v2 c0_i32_5417
  let v5574 : BitVec 32 := Scalar.extui v5573
  let c0_i32_5418 : BitVec 32 := 0#32
  let v5575 : BitVec 1 := Scalar.cmpi .slt v2 c0_i32_5418
  let v5576 : BitVec 32 := Scalar.extui v5575
  let v5577 : BitVec 32 := Scalar.subi v5574 v5576
  let c8_i32_5416 : BitVec 32 := 8#32
  let c0_i32_5419 : BitVec 32 := 0#32
  let v5578 : BitVec 1 := Scalar.cmpi .sgt c8_i32_5416 c0_i32_5419
  let v5579 : BitVec 32 := Scalar.extui v5578
  let c0_i32_5420 : BitVec 32 := 0#32
  let v5580 : BitVec 1 := Scalar.cmpi .slt c8_i32_5416 c0_i32_5420
  let v5581 : BitVec 32 := Scalar.extui v5580
  let v5582 : BitVec 32 := Scalar.subi v5579 v5581
  let v5583 : BitVec 1 := Scalar.cmpi .ne v5577 v5582
  let v5584 : BitVec 32 := Scalar.remsi v2 c8_i32_5416
  let c0_i32_5421 : BitVec 32 := 0#32
  let v5585 : BitVec 1 := Scalar.cmpi .ne v5584 c0_i32_5421
  let v5586 : BitVec 1 := Scalar.andi v5583 v5585
  let v5572 : BitVec 32 := Scalar.divsi v2 c8_i32_5416
  let c1_i32_5422 : BitVec 32 := 1#32
  let v5587 : BitVec 32 := Scalar.subi v5572 c1_i32_5422
  let v5588 : BitVec 32 := Scalar.select v5586 v5587 v5572
  let v5712 : BitVec 32 := Scalar.muli c8_i32_5496 v5588
  let c2_i32_5487 : BitVec 32 := 2#32
  let c8_i32_5423 : BitVec 32 := 8#32
  let c0_i32_5424 : BitVec 32 := 0#32
  let v5589 : BitVec 1 := Scalar.cmpi .eq c8_i32_5423 c0_i32_5424
  let c1_i32_5425 : BitVec 32 := 1#32
  let v5590 : BitVec 32 := Scalar.select v5589 c1_i32_5425 c8_i32_5423
  let v5591 : BitVec 32 := Scalar.remsi v2 v5590
  let c0_i32_5427 : BitVec 32 := 0#32
  let v5593 : BitVec 1 := Scalar.cmpi .slt v5591 c0_i32_5427
  let c0_i32_5428 : BitVec 32 := 0#32
  let v5594 : BitVec 1 := Scalar.cmpi .slt v5590 c0_i32_5428
  let v5595 : BitVec 1 := Scalar.xori v5593 v5594
  let c0_i32_5426 : BitVec 32 := 0#32
  let v5592 : BitVec 1 := Scalar.cmpi .ne v5591 c0_i32_5426
  let v5596 : BitVec 1 := Scalar.andi v5595 v5592
  let v5597 : BitVec 32 := Scalar.addi v5591 v5590
  let v5598 : BitVec 32 := Scalar.select v5596 v5597 v5591
  let c0_i32_5430 : BitVec 32 := 0#32
  let v5600 : BitVec 1 := Scalar.cmpi .sgt v5598 c0_i32_5430
  let v5601 : BitVec 32 := Scalar.extui v5600
  let c0_i32_5431 : BitVec 32 := 0#32
  let v5602 : BitVec 1 := Scalar.cmpi .slt v5598 c0_i32_5431
  let v5603 : BitVec 32 := Scalar.extui v5602
  let v5604 : BitVec 32 := Scalar.subi v5601 v5603
  let c2_i32_5429 : BitVec 32 := 2#32
  let c0_i32_5432 : BitVec 32 := 0#32
  let v5605 : BitVec 1 := Scalar.cmpi .sgt c2_i32_5429 c0_i32_5432
  let v5606 : BitVec 32 := Scalar.extui v5605
  let c0_i32_5433 : BitVec 32 := 0#32
  let v5607 : BitVec 1 := Scalar.cmpi .slt c2_i32_5429 c0_i32_5433
  let v5608 : BitVec 32 := Scalar.extui v5607
  let v5609 : BitVec 32 := Scalar.subi v5606 v5608
  let v5610 : BitVec 1 := Scalar.cmpi .ne v5604 v5609
  let v5611 : BitVec 32 := Scalar.remsi v5598 c2_i32_5429
  let c0_i32_5434 : BitVec 32 := 0#32
  let v5612 : BitVec 1 := Scalar.cmpi .ne v5611 c0_i32_5434
  let v5613 : BitVec 1 := Scalar.andi v5610 v5612
  let v5599 : BitVec 32 := Scalar.divsi v5598 c2_i32_5429
  let c1_i32_5435 : BitVec 32 := 1#32
  let v5614 : BitVec 32 := Scalar.subi v5599 c1_i32_5435
  let v5615 : BitVec 32 := Scalar.select v5613 v5614 v5599
  let c3_i32_5480 : BitVec 32 := 3#32
  let v5686 : BitVec 32 := Scalar.addi v5615 c3_i32_5480
  let c4_i32_5481 : BitVec 32 := 4#32
  let c0_i32_5482 : BitVec 32 := 0#32
  let v5687 : BitVec 1 := Scalar.cmpi .eq c4_i32_5481 c0_i32_5482
  let c1_i32_5483 : BitVec 32 := 1#32
  let v5688 : BitVec 32 := Scalar.select v5687 c1_i32_5483 c4_i32_5481
  let v5689 : BitVec 32 := Scalar.remsi v5686 v5688
  let c0_i32_5485 : BitVec 32 := 0#32
  let v5691 : BitVec 1 := Scalar.cmpi .slt v5689 c0_i32_5485
  let c0_i32_5486 : BitVec 32 := 0#32
  let v5692 : BitVec 1 := Scalar.cmpi .slt v5688 c0_i32_5486
  let v5693 : BitVec 1 := Scalar.xori v5691 v5692
  let c0_i32_5484 : BitVec 32 := 0#32
  let v5690 : BitVec 1 := Scalar.cmpi .ne v5689 c0_i32_5484
  let v5694 : BitVec 1 := Scalar.andi v5693 v5690
  let v5695 : BitVec 32 := Scalar.addi v5689 v5688
  let v5696 : BitVec 32 := Scalar.select v5694 v5695 v5689
  let v5697 : BitVec 32 := Scalar.muli c2_i32_5487 v5696
  let c2_i32_5488 : BitVec 32 := 2#32
  let c0_i32_5489 : BitVec 32 := 0#32
  let v5698 : BitVec 1 := Scalar.cmpi .eq c2_i32_5488 c0_i32_5489
  let c1_i32_5490 : BitVec 32 := 1#32
  let v5699 : BitVec 32 := Scalar.select v5698 c1_i32_5490 c2_i32_5488
  let v5700 : BitVec 32 := Scalar.remsi v5696 v5699
  let c0_i32_5492 : BitVec 32 := 0#32
  let v5702 : BitVec 1 := Scalar.cmpi .slt v5700 c0_i32_5492
  let c0_i32_5493 : BitVec 32 := 0#32
  let v5703 : BitVec 1 := Scalar.cmpi .slt v5699 c0_i32_5493
  let v5704 : BitVec 1 := Scalar.xori v5702 v5703
  let c0_i32_5491 : BitVec 32 := 0#32
  let v5701 : BitVec 1 := Scalar.cmpi .ne v5700 c0_i32_5491
  let v5705 : BitVec 1 := Scalar.andi v5704 v5701
  let v5706 : BitVec 32 := Scalar.addi v5700 v5699
  let v5707 : BitVec 32 := Scalar.select v5705 v5706 v5700
  let c0_i32_5494 : BitVec 32 := 0#32
  let v5708 : BitVec 1 := Scalar.cmpi .eq v5707 c0_i32_5494
  let c4_i32_5436 : BitVec 32 := 4#32
  let c0_i32_5437 : BitVec 32 := 0#32
  let v5616 : BitVec 1 := Scalar.cmpi .eq c4_i32_5436 c0_i32_5437
  let c1_i32_5438 : BitVec 32 := 1#32
  let v5617 : BitVec 32 := Scalar.select v5616 c1_i32_5438 c4_i32_5436
  let v5618 : BitVec 32 := Scalar.remsi v5598 v5617
  let c0_i32_5440 : BitVec 32 := 0#32
  let v5620 : BitVec 1 := Scalar.cmpi .slt v5618 c0_i32_5440
  let c0_i32_5441 : BitVec 32 := 0#32
  let v5621 : BitVec 1 := Scalar.cmpi .slt v5617 c0_i32_5441
  let v5622 : BitVec 1 := Scalar.xori v5620 v5621
  let c0_i32_5439 : BitVec 32 := 0#32
  let v5619 : BitVec 1 := Scalar.cmpi .ne v5618 c0_i32_5439
  let v5623 : BitVec 1 := Scalar.andi v5622 v5619
  let v5624 : BitVec 32 := Scalar.addi v5618 v5617
  let v5625 : BitVec 32 := Scalar.select v5623 v5624 v5618
  let c1_i32_5442 : BitVec 32 := 1#32
  let v5626 : BitVec 1 := Scalar.cmpi .eq v5625 c1_i32_5442
  let c2_i32_5443 : BitVec 32 := 2#32
  let v5627 : BitVec 1 := Scalar.cmpi .eq v5625 c2_i32_5443
  let v5628 : BitVec 1 := Scalar.ori v5626 v5627
  let c1_i32_5444 : BitVec 32 := 1#32
  let c0_i32_5445 : BitVec 32 := 0#32
  let v5629 : BitVec 32 := Scalar.select v5628 c1_i32_5444 c0_i32_5445
  let c1_i32_5495 : BitVec 32 := 1#32
  let v5709 : BitVec 32 := Scalar.subi c1_i32_5495 v5629
  let v5710 : BitVec 32 := Scalar.select v5708 v5629 v5709
  let v5711 : BitVec 32 := Scalar.addi v5697 v5710
  let v5713 : BitVec 32 := Scalar.addi v5712 v5711
  let c1_i32_5539 : BitVec 32 := 1#32
  let v5734 : BitVec 32 := Scalar.muli v5713 c1_i32_5539
  let v5735 : BitVec 32 := Scalar.addi c0_i32_5540 v5734
  v5735.toNat
def k0_dev75 (d0 : Dev nD) : Nat :=
  let c0_i32_5751 : BitVec 32 := 0#32
  let c8_i32_5705 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5660 : BitVec 32 := 0#32
  let v5801 : BitVec 1 := Scalar.cmpi .sgt v2 c0_i32_5660
  let v5802 : BitVec 32 := Scalar.extui v5801
  let c0_i32_5661 : BitVec 32 := 0#32
  let v5803 : BitVec 1 := Scalar.cmpi .slt v2 c0_i32_5661
  let v5804 : BitVec 32 := Scalar.extui v5803
  let v5805 : BitVec 32 := Scalar.subi v5802 v5804
  let c8_i32_5659 : BitVec 32 := 8#32
  let c0_i32_5662 : BitVec 32 := 0#32
  let v5806 : BitVec 1 := Scalar.cmpi .sgt c8_i32_5659 c0_i32_5662
  let v5807 : BitVec 32 := Scalar.extui v5806
  let c0_i32_5663 : BitVec 32 := 0#32
  let v5808 : BitVec 1 := Scalar.cmpi .slt c8_i32_5659 c0_i32_5663
  let v5809 : BitVec 32 := Scalar.extui v5808
  let v5810 : BitVec 32 := Scalar.subi v5807 v5809
  let v5811 : BitVec 1 := Scalar.cmpi .ne v5805 v5810
  let v5812 : BitVec 32 := Scalar.remsi v2 c8_i32_5659
  let c0_i32_5664 : BitVec 32 := 0#32
  let v5813 : BitVec 1 := Scalar.cmpi .ne v5812 c0_i32_5664
  let v5814 : BitVec 1 := Scalar.andi v5811 v5813
  let v5800 : BitVec 32 := Scalar.divsi v2 c8_i32_5659
  let c1_i32_5665 : BitVec 32 := 1#32
  let v5815 : BitVec 32 := Scalar.subi v5800 c1_i32_5665
  let v5816 : BitVec 32 := Scalar.select v5814 v5815 v5800
  let c1_i32_5689 : BitVec 32 := 1#32
  let v5858 : BitVec 32 := Scalar.addi v5816 c1_i32_5689
  let c4_i32_5690 : BitVec 32 := 4#32
  let c0_i32_5691 : BitVec 32 := 0#32
  let v5859 : BitVec 1 := Scalar.cmpi .eq c4_i32_5690 c0_i32_5691
  let c1_i32_5692 : BitVec 32 := 1#32
  let v5860 : BitVec 32 := Scalar.select v5859 c1_i32_5692 c4_i32_5690
  let v5861 : BitVec 32 := Scalar.remsi v5858 v5860
  let c0_i32_5694 : BitVec 32 := 0#32
  let v5863 : BitVec 1 := Scalar.cmpi .slt v5861 c0_i32_5694
  let c0_i32_5695 : BitVec 32 := 0#32
  let v5864 : BitVec 1 := Scalar.cmpi .slt v5860 c0_i32_5695
  let v5865 : BitVec 1 := Scalar.xori v5863 v5864
  let c0_i32_5693 : BitVec 32 := 0#32
  let v5862 : BitVec 1 := Scalar.cmpi .ne v5861 c0_i32_5693
  let v5866 : BitVec 1 := Scalar.andi v5865 v5862
  let v5867 : BitVec 32 := Scalar.addi v5861 v5860
  let v5868 : BitVec 32 := Scalar.select v5866 v5867 v5861
  let v5884 : BitVec 32 := Scalar.muli c8_i32_5705 v5868
  let c2_i32_5696 : BitVec 32 := 2#32
  let c8_i32_5666 : BitVec 32 := 8#32
  let c0_i32_5667 : BitVec 32 := 0#32
  let v5817 : BitVec 1 := Scalar.cmpi .eq c8_i32_5666 c0_i32_5667
  let c1_i32_5668 : BitVec 32 := 1#32
  let v5818 : BitVec 32 := Scalar.select v5817 c1_i32_5668 c8_i32_5666
  let v5819 : BitVec 32 := Scalar.remsi v2 v5818
  let c0_i32_5670 : BitVec 32 := 0#32
  let v5821 : BitVec 1 := Scalar.cmpi .slt v5819 c0_i32_5670
  let c0_i32_5671 : BitVec 32 := 0#32
  let v5822 : BitVec 1 := Scalar.cmpi .slt v5818 c0_i32_5671
  let v5823 : BitVec 1 := Scalar.xori v5821 v5822
  let c0_i32_5669 : BitVec 32 := 0#32
  let v5820 : BitVec 1 := Scalar.cmpi .ne v5819 c0_i32_5669
  let v5824 : BitVec 1 := Scalar.andi v5823 v5820
  let v5825 : BitVec 32 := Scalar.addi v5819 v5818
  let v5826 : BitVec 32 := Scalar.select v5824 v5825 v5819
  let c0_i32_5673 : BitVec 32 := 0#32
  let v5828 : BitVec 1 := Scalar.cmpi .sgt v5826 c0_i32_5673
  let v5829 : BitVec 32 := Scalar.extui v5828
  let c0_i32_5674 : BitVec 32 := 0#32
  let v5830 : BitVec 1 := Scalar.cmpi .slt v5826 c0_i32_5674
  let v5831 : BitVec 32 := Scalar.extui v5830
  let v5832 : BitVec 32 := Scalar.subi v5829 v5831
  let c2_i32_5672 : BitVec 32 := 2#32
  let c0_i32_5675 : BitVec 32 := 0#32
  let v5833 : BitVec 1 := Scalar.cmpi .sgt c2_i32_5672 c0_i32_5675
  let v5834 : BitVec 32 := Scalar.extui v5833
  let c0_i32_5676 : BitVec 32 := 0#32
  let v5835 : BitVec 1 := Scalar.cmpi .slt c2_i32_5672 c0_i32_5676
  let v5836 : BitVec 32 := Scalar.extui v5835
  let v5837 : BitVec 32 := Scalar.subi v5834 v5836
  let v5838 : BitVec 1 := Scalar.cmpi .ne v5832 v5837
  let v5839 : BitVec 32 := Scalar.remsi v5826 c2_i32_5672
  let c0_i32_5677 : BitVec 32 := 0#32
  let v5840 : BitVec 1 := Scalar.cmpi .ne v5839 c0_i32_5677
  let v5841 : BitVec 1 := Scalar.andi v5838 v5840
  let v5827 : BitVec 32 := Scalar.divsi v5826 c2_i32_5672
  let c1_i32_5678 : BitVec 32 := 1#32
  let v5842 : BitVec 32 := Scalar.subi v5827 c1_i32_5678
  let v5843 : BitVec 32 := Scalar.select v5841 v5842 v5827
  let v5869 : BitVec 32 := Scalar.muli c2_i32_5696 v5843
  let c2_i32_5697 : BitVec 32 := 2#32
  let c0_i32_5698 : BitVec 32 := 0#32
  let v5870 : BitVec 1 := Scalar.cmpi .eq c2_i32_5697 c0_i32_5698
  let c1_i32_5699 : BitVec 32 := 1#32
  let v5871 : BitVec 32 := Scalar.select v5870 c1_i32_5699 c2_i32_5697
  let v5872 : BitVec 32 := Scalar.remsi v5843 v5871
  let c0_i32_5701 : BitVec 32 := 0#32
  let v5874 : BitVec 1 := Scalar.cmpi .slt v5872 c0_i32_5701
  let c0_i32_5702 : BitVec 32 := 0#32
  let v5875 : BitVec 1 := Scalar.cmpi .slt v5871 c0_i32_5702
  let v5876 : BitVec 1 := Scalar.xori v5874 v5875
  let c0_i32_5700 : BitVec 32 := 0#32
  let v5873 : BitVec 1 := Scalar.cmpi .ne v5872 c0_i32_5700
  let v5877 : BitVec 1 := Scalar.andi v5876 v5873
  let v5878 : BitVec 32 := Scalar.addi v5872 v5871
  let v5879 : BitVec 32 := Scalar.select v5877 v5878 v5872
  let c0_i32_5703 : BitVec 32 := 0#32
  let v5880 : BitVec 1 := Scalar.cmpi .eq v5879 c0_i32_5703
  let c4_i32_5679 : BitVec 32 := 4#32
  let c0_i32_5680 : BitVec 32 := 0#32
  let v5844 : BitVec 1 := Scalar.cmpi .eq c4_i32_5679 c0_i32_5680
  let c1_i32_5681 : BitVec 32 := 1#32
  let v5845 : BitVec 32 := Scalar.select v5844 c1_i32_5681 c4_i32_5679
  let v5846 : BitVec 32 := Scalar.remsi v5826 v5845
  let c0_i32_5683 : BitVec 32 := 0#32
  let v5848 : BitVec 1 := Scalar.cmpi .slt v5846 c0_i32_5683
  let c0_i32_5684 : BitVec 32 := 0#32
  let v5849 : BitVec 1 := Scalar.cmpi .slt v5845 c0_i32_5684
  let v5850 : BitVec 1 := Scalar.xori v5848 v5849
  let c0_i32_5682 : BitVec 32 := 0#32
  let v5847 : BitVec 1 := Scalar.cmpi .ne v5846 c0_i32_5682
  let v5851 : BitVec 1 := Scalar.andi v5850 v5847
  let v5852 : BitVec 32 := Scalar.addi v5846 v5845
  let v5853 : BitVec 32 := Scalar.select v5851 v5852 v5846
  let c1_i32_5685 : BitVec 32 := 1#32
  let v5854 : BitVec 1 := Scalar.cmpi .eq v5853 c1_i32_5685
  let c2_i32_5686 : BitVec 32 := 2#32
  let v5855 : BitVec 1 := Scalar.cmpi .eq v5853 c2_i32_5686
  let v5856 : BitVec 1 := Scalar.ori v5854 v5855
  let c1_i32_5687 : BitVec 32 := 1#32
  let c0_i32_5688 : BitVec 32 := 0#32
  let v5857 : BitVec 32 := Scalar.select v5856 c1_i32_5687 c0_i32_5688
  let c1_i32_5704 : BitVec 32 := 1#32
  let v5881 : BitVec 32 := Scalar.subi c1_i32_5704 v5857
  let v5882 : BitVec 32 := Scalar.select v5880 v5857 v5881
  let v5883 : BitVec 32 := Scalar.addi v5869 v5882
  let v5885 : BitVec 32 := Scalar.addi v5884 v5883
  let c1_i32_5750 : BitVec 32 := 1#32
  let v5942 : BitVec 32 := Scalar.muli v5885 c1_i32_5750
  let v5943 : BitVec 32 := Scalar.addi c0_i32_5751 v5942
  v5943.toNat
def k0_dev76 (d0 : Dev nD) : Nat :=
  let c0_i32_5767 : BitVec 32 := 0#32
  let c8_i32_5722 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5660 : BitVec 32 := 0#32
  let v5801 : BitVec 1 := Scalar.cmpi .sgt v2 c0_i32_5660
  let v5802 : BitVec 32 := Scalar.extui v5801
  let c0_i32_5661 : BitVec 32 := 0#32
  let v5803 : BitVec 1 := Scalar.cmpi .slt v2 c0_i32_5661
  let v5804 : BitVec 32 := Scalar.extui v5803
  let v5805 : BitVec 32 := Scalar.subi v5802 v5804
  let c8_i32_5659 : BitVec 32 := 8#32
  let c0_i32_5662 : BitVec 32 := 0#32
  let v5806 : BitVec 1 := Scalar.cmpi .sgt c8_i32_5659 c0_i32_5662
  let v5807 : BitVec 32 := Scalar.extui v5806
  let c0_i32_5663 : BitVec 32 := 0#32
  let v5808 : BitVec 1 := Scalar.cmpi .slt c8_i32_5659 c0_i32_5663
  let v5809 : BitVec 32 := Scalar.extui v5808
  let v5810 : BitVec 32 := Scalar.subi v5807 v5809
  let v5811 : BitVec 1 := Scalar.cmpi .ne v5805 v5810
  let v5812 : BitVec 32 := Scalar.remsi v2 c8_i32_5659
  let c0_i32_5664 : BitVec 32 := 0#32
  let v5813 : BitVec 1 := Scalar.cmpi .ne v5812 c0_i32_5664
  let v5814 : BitVec 1 := Scalar.andi v5811 v5813
  let v5800 : BitVec 32 := Scalar.divsi v2 c8_i32_5659
  let c1_i32_5665 : BitVec 32 := 1#32
  let v5815 : BitVec 32 := Scalar.subi v5800 c1_i32_5665
  let v5816 : BitVec 32 := Scalar.select v5814 v5815 v5800
  let c2_i32_5706 : BitVec 32 := 2#32
  let v5886 : BitVec 32 := Scalar.addi v5816 c2_i32_5706
  let c4_i32_5707 : BitVec 32 := 4#32
  let c0_i32_5708 : BitVec 32 := 0#32
  let v5887 : BitVec 1 := Scalar.cmpi .eq c4_i32_5707 c0_i32_5708
  let c1_i32_5709 : BitVec 32 := 1#32
  let v5888 : BitVec 32 := Scalar.select v5887 c1_i32_5709 c4_i32_5707
  let v5889 : BitVec 32 := Scalar.remsi v5886 v5888
  let c0_i32_5711 : BitVec 32 := 0#32
  let v5891 : BitVec 1 := Scalar.cmpi .slt v5889 c0_i32_5711
  let c0_i32_5712 : BitVec 32 := 0#32
  let v5892 : BitVec 1 := Scalar.cmpi .slt v5888 c0_i32_5712
  let v5893 : BitVec 1 := Scalar.xori v5891 v5892
  let c0_i32_5710 : BitVec 32 := 0#32
  let v5890 : BitVec 1 := Scalar.cmpi .ne v5889 c0_i32_5710
  let v5894 : BitVec 1 := Scalar.andi v5893 v5890
  let v5895 : BitVec 32 := Scalar.addi v5889 v5888
  let v5896 : BitVec 32 := Scalar.select v5894 v5895 v5889
  let v5912 : BitVec 32 := Scalar.muli c8_i32_5722 v5896
  let c2_i32_5713 : BitVec 32 := 2#32
  let c8_i32_5666 : BitVec 32 := 8#32
  let c0_i32_5667 : BitVec 32 := 0#32
  let v5817 : BitVec 1 := Scalar.cmpi .eq c8_i32_5666 c0_i32_5667
  let c1_i32_5668 : BitVec 32 := 1#32
  let v5818 : BitVec 32 := Scalar.select v5817 c1_i32_5668 c8_i32_5666
  let v5819 : BitVec 32 := Scalar.remsi v2 v5818
  let c0_i32_5670 : BitVec 32 := 0#32
  let v5821 : BitVec 1 := Scalar.cmpi .slt v5819 c0_i32_5670
  let c0_i32_5671 : BitVec 32 := 0#32
  let v5822 : BitVec 1 := Scalar.cmpi .slt v5818 c0_i32_5671
  let v5823 : BitVec 1 := Scalar.xori v5821 v5822
  let c0_i32_5669 : BitVec 32 := 0#32
  let v5820 : BitVec 1 := Scalar.cmpi .ne v5819 c0_i32_5669
  let v5824 : BitVec 1 := Scalar.andi v5823 v5820
  let v5825 : BitVec 32 := Scalar.addi v5819 v5818
  let v5826 : BitVec 32 := Scalar.select v5824 v5825 v5819
  let c0_i32_5673 : BitVec 32 := 0#32
  let v5828 : BitVec 1 := Scalar.cmpi .sgt v5826 c0_i32_5673
  let v5829 : BitVec 32 := Scalar.extui v5828
  let c0_i32_5674 : BitVec 32 := 0#32
  let v5830 : BitVec 1 := Scalar.cmpi .slt v5826 c0_i32_5674
  let v5831 : BitVec 32 := Scalar.extui v5830
  let v5832 : BitVec 32 := Scalar.subi v5829 v5831
  let c2_i32_5672 : BitVec 32 := 2#32
  let c0_i32_5675 : BitVec 32 := 0#32
  let v5833 : BitVec 1 := Scalar.cmpi .sgt c2_i32_5672 c0_i32_5675
  let v5834 : BitVec 32 := Scalar.extui v5833
  let c0_i32_5676 : BitVec 32 := 0#32
  let v5835 : BitVec 1 := Scalar.cmpi .slt c2_i32_5672 c0_i32_5676
  let v5836 : BitVec 32 := Scalar.extui v5835
  let v5837 : BitVec 32 := Scalar.subi v5834 v5836
  let v5838 : BitVec 1 := Scalar.cmpi .ne v5832 v5837
  let v5839 : BitVec 32 := Scalar.remsi v5826 c2_i32_5672
  let c0_i32_5677 : BitVec 32 := 0#32
  let v5840 : BitVec 1 := Scalar.cmpi .ne v5839 c0_i32_5677
  let v5841 : BitVec 1 := Scalar.andi v5838 v5840
  let v5827 : BitVec 32 := Scalar.divsi v5826 c2_i32_5672
  let c1_i32_5678 : BitVec 32 := 1#32
  let v5842 : BitVec 32 := Scalar.subi v5827 c1_i32_5678
  let v5843 : BitVec 32 := Scalar.select v5841 v5842 v5827
  let v5897 : BitVec 32 := Scalar.muli c2_i32_5713 v5843
  let c2_i32_5714 : BitVec 32 := 2#32
  let c0_i32_5715 : BitVec 32 := 0#32
  let v5898 : BitVec 1 := Scalar.cmpi .eq c2_i32_5714 c0_i32_5715
  let c1_i32_5716 : BitVec 32 := 1#32
  let v5899 : BitVec 32 := Scalar.select v5898 c1_i32_5716 c2_i32_5714
  let v5900 : BitVec 32 := Scalar.remsi v5843 v5899
  let c0_i32_5718 : BitVec 32 := 0#32
  let v5902 : BitVec 1 := Scalar.cmpi .slt v5900 c0_i32_5718
  let c0_i32_5719 : BitVec 32 := 0#32
  let v5903 : BitVec 1 := Scalar.cmpi .slt v5899 c0_i32_5719
  let v5904 : BitVec 1 := Scalar.xori v5902 v5903
  let c0_i32_5717 : BitVec 32 := 0#32
  let v5901 : BitVec 1 := Scalar.cmpi .ne v5900 c0_i32_5717
  let v5905 : BitVec 1 := Scalar.andi v5904 v5901
  let v5906 : BitVec 32 := Scalar.addi v5900 v5899
  let v5907 : BitVec 32 := Scalar.select v5905 v5906 v5900
  let c0_i32_5720 : BitVec 32 := 0#32
  let v5908 : BitVec 1 := Scalar.cmpi .eq v5907 c0_i32_5720
  let c4_i32_5679 : BitVec 32 := 4#32
  let c0_i32_5680 : BitVec 32 := 0#32
  let v5844 : BitVec 1 := Scalar.cmpi .eq c4_i32_5679 c0_i32_5680
  let c1_i32_5681 : BitVec 32 := 1#32
  let v5845 : BitVec 32 := Scalar.select v5844 c1_i32_5681 c4_i32_5679
  let v5846 : BitVec 32 := Scalar.remsi v5826 v5845
  let c0_i32_5683 : BitVec 32 := 0#32
  let v5848 : BitVec 1 := Scalar.cmpi .slt v5846 c0_i32_5683
  let c0_i32_5684 : BitVec 32 := 0#32
  let v5849 : BitVec 1 := Scalar.cmpi .slt v5845 c0_i32_5684
  let v5850 : BitVec 1 := Scalar.xori v5848 v5849
  let c0_i32_5682 : BitVec 32 := 0#32
  let v5847 : BitVec 1 := Scalar.cmpi .ne v5846 c0_i32_5682
  let v5851 : BitVec 1 := Scalar.andi v5850 v5847
  let v5852 : BitVec 32 := Scalar.addi v5846 v5845
  let v5853 : BitVec 32 := Scalar.select v5851 v5852 v5846
  let c1_i32_5685 : BitVec 32 := 1#32
  let v5854 : BitVec 1 := Scalar.cmpi .eq v5853 c1_i32_5685
  let c2_i32_5686 : BitVec 32 := 2#32
  let v5855 : BitVec 1 := Scalar.cmpi .eq v5853 c2_i32_5686
  let v5856 : BitVec 1 := Scalar.ori v5854 v5855
  let c1_i32_5687 : BitVec 32 := 1#32
  let c0_i32_5688 : BitVec 32 := 0#32
  let v5857 : BitVec 32 := Scalar.select v5856 c1_i32_5687 c0_i32_5688
  let c1_i32_5721 : BitVec 32 := 1#32
  let v5909 : BitVec 32 := Scalar.subi c1_i32_5721 v5857
  let v5910 : BitVec 32 := Scalar.select v5908 v5857 v5909
  let v5911 : BitVec 32 := Scalar.addi v5897 v5910
  let v5913 : BitVec 32 := Scalar.addi v5912 v5911
  let c1_i32_5766 : BitVec 32 := 1#32
  let v5952 : BitVec 32 := Scalar.muli v5913 c1_i32_5766
  let v5953 : BitVec 32 := Scalar.addi c0_i32_5767 v5952
  v5953.toNat
def k0_dev77 (d0 : Dev nD) : Nat :=
  let c0_i32_5783 : BitVec 32 := 0#32
  let c8_i32_5739 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5660 : BitVec 32 := 0#32
  let v5801 : BitVec 1 := Scalar.cmpi .sgt v2 c0_i32_5660
  let v5802 : BitVec 32 := Scalar.extui v5801
  let c0_i32_5661 : BitVec 32 := 0#32
  let v5803 : BitVec 1 := Scalar.cmpi .slt v2 c0_i32_5661
  let v5804 : BitVec 32 := Scalar.extui v5803
  let v5805 : BitVec 32 := Scalar.subi v5802 v5804
  let c8_i32_5659 : BitVec 32 := 8#32
  let c0_i32_5662 : BitVec 32 := 0#32
  let v5806 : BitVec 1 := Scalar.cmpi .sgt c8_i32_5659 c0_i32_5662
  let v5807 : BitVec 32 := Scalar.extui v5806
  let c0_i32_5663 : BitVec 32 := 0#32
  let v5808 : BitVec 1 := Scalar.cmpi .slt c8_i32_5659 c0_i32_5663
  let v5809 : BitVec 32 := Scalar.extui v5808
  let v5810 : BitVec 32 := Scalar.subi v5807 v5809
  let v5811 : BitVec 1 := Scalar.cmpi .ne v5805 v5810
  let v5812 : BitVec 32 := Scalar.remsi v2 c8_i32_5659
  let c0_i32_5664 : BitVec 32 := 0#32
  let v5813 : BitVec 1 := Scalar.cmpi .ne v5812 c0_i32_5664
  let v5814 : BitVec 1 := Scalar.andi v5811 v5813
  let v5800 : BitVec 32 := Scalar.divsi v2 c8_i32_5659
  let c1_i32_5665 : BitVec 32 := 1#32
  let v5815 : BitVec 32 := Scalar.subi v5800 c1_i32_5665
  let v5816 : BitVec 32 := Scalar.select v5814 v5815 v5800
  let c3_i32_5723 : BitVec 32 := 3#32
  let v5914 : BitVec 32 := Scalar.addi v5816 c3_i32_5723
  let c4_i32_5724 : BitVec 32 := 4#32
  let c0_i32_5725 : BitVec 32 := 0#32
  let v5915 : BitVec 1 := Scalar.cmpi .eq c4_i32_5724 c0_i32_5725
  let c1_i32_5726 : BitVec 32 := 1#32
  let v5916 : BitVec 32 := Scalar.select v5915 c1_i32_5726 c4_i32_5724
  let v5917 : BitVec 32 := Scalar.remsi v5914 v5916
  let c0_i32_5728 : BitVec 32 := 0#32
  let v5919 : BitVec 1 := Scalar.cmpi .slt v5917 c0_i32_5728
  let c0_i32_5729 : BitVec 32 := 0#32
  let v5920 : BitVec 1 := Scalar.cmpi .slt v5916 c0_i32_5729
  let v5921 : BitVec 1 := Scalar.xori v5919 v5920
  let c0_i32_5727 : BitVec 32 := 0#32
  let v5918 : BitVec 1 := Scalar.cmpi .ne v5917 c0_i32_5727
  let v5922 : BitVec 1 := Scalar.andi v5921 v5918
  let v5923 : BitVec 32 := Scalar.addi v5917 v5916
  let v5924 : BitVec 32 := Scalar.select v5922 v5923 v5917
  let v5940 : BitVec 32 := Scalar.muli c8_i32_5739 v5924
  let c2_i32_5730 : BitVec 32 := 2#32
  let c8_i32_5666 : BitVec 32 := 8#32
  let c0_i32_5667 : BitVec 32 := 0#32
  let v5817 : BitVec 1 := Scalar.cmpi .eq c8_i32_5666 c0_i32_5667
  let c1_i32_5668 : BitVec 32 := 1#32
  let v5818 : BitVec 32 := Scalar.select v5817 c1_i32_5668 c8_i32_5666
  let v5819 : BitVec 32 := Scalar.remsi v2 v5818
  let c0_i32_5670 : BitVec 32 := 0#32
  let v5821 : BitVec 1 := Scalar.cmpi .slt v5819 c0_i32_5670
  let c0_i32_5671 : BitVec 32 := 0#32
  let v5822 : BitVec 1 := Scalar.cmpi .slt v5818 c0_i32_5671
  let v5823 : BitVec 1 := Scalar.xori v5821 v5822
  let c0_i32_5669 : BitVec 32 := 0#32
  let v5820 : BitVec 1 := Scalar.cmpi .ne v5819 c0_i32_5669
  let v5824 : BitVec 1 := Scalar.andi v5823 v5820
  let v5825 : BitVec 32 := Scalar.addi v5819 v5818
  let v5826 : BitVec 32 := Scalar.select v5824 v5825 v5819
  let c0_i32_5673 : BitVec 32 := 0#32
  let v5828 : BitVec 1 := Scalar.cmpi .sgt v5826 c0_i32_5673
  let v5829 : BitVec 32 := Scalar.extui v5828
  let c0_i32_5674 : BitVec 32 := 0#32
  let v5830 : BitVec 1 := Scalar.cmpi .slt v5826 c0_i32_5674
  let v5831 : BitVec 32 := Scalar.extui v5830
  let v5832 : BitVec 32 := Scalar.subi v5829 v5831
  let c2_i32_5672 : BitVec 32 := 2#32
  let c0_i32_5675 : BitVec 32 := 0#32
  let v5833 : BitVec 1 := Scalar.cmpi .sgt c2_i32_5672 c0_i32_5675
  let v5834 : BitVec 32 := Scalar.extui v5833
  let c0_i32_5676 : BitVec 32 := 0#32
  let v5835 : BitVec 1 := Scalar.cmpi .slt c2_i32_5672 c0_i32_5676
  let v5836 : BitVec 32 := Scalar.extui v5835
  let v5837 : BitVec 32 := Scalar.subi v5834 v5836
  let v5838 : BitVec 1 := Scalar.cmpi .ne v5832 v5837
  let v5839 : BitVec 32 := Scalar.remsi v5826 c2_i32_5672
  let c0_i32_5677 : BitVec 32 := 0#32
  let v5840 : BitVec 1 := Scalar.cmpi .ne v5839 c0_i32_5677
  let v5841 : BitVec 1 := Scalar.andi v5838 v5840
  let v5827 : BitVec 32 := Scalar.divsi v5826 c2_i32_5672
  let c1_i32_5678 : BitVec 32 := 1#32
  let v5842 : BitVec 32 := Scalar.subi v5827 c1_i32_5678
  let v5843 : BitVec 32 := Scalar.select v5841 v5842 v5827
  let v5925 : BitVec 32 := Scalar.muli c2_i32_5730 v5843
  let c2_i32_5731 : BitVec 32 := 2#32
  let c0_i32_5732 : BitVec 32 := 0#32
  let v5926 : BitVec 1 := Scalar.cmpi .eq c2_i32_5731 c0_i32_5732
  let c1_i32_5733 : BitVec 32 := 1#32
  let v5927 : BitVec 32 := Scalar.select v5926 c1_i32_5733 c2_i32_5731
  let v5928 : BitVec 32 := Scalar.remsi v5843 v5927
  let c0_i32_5735 : BitVec 32 := 0#32
  let v5930 : BitVec 1 := Scalar.cmpi .slt v5928 c0_i32_5735
  let c0_i32_5736 : BitVec 32 := 0#32
  let v5931 : BitVec 1 := Scalar.cmpi .slt v5927 c0_i32_5736
  let v5932 : BitVec 1 := Scalar.xori v5930 v5931
  let c0_i32_5734 : BitVec 32 := 0#32
  let v5929 : BitVec 1 := Scalar.cmpi .ne v5928 c0_i32_5734
  let v5933 : BitVec 1 := Scalar.andi v5932 v5929
  let v5934 : BitVec 32 := Scalar.addi v5928 v5927
  let v5935 : BitVec 32 := Scalar.select v5933 v5934 v5928
  let c0_i32_5737 : BitVec 32 := 0#32
  let v5936 : BitVec 1 := Scalar.cmpi .eq v5935 c0_i32_5737
  let c4_i32_5679 : BitVec 32 := 4#32
  let c0_i32_5680 : BitVec 32 := 0#32
  let v5844 : BitVec 1 := Scalar.cmpi .eq c4_i32_5679 c0_i32_5680
  let c1_i32_5681 : BitVec 32 := 1#32
  let v5845 : BitVec 32 := Scalar.select v5844 c1_i32_5681 c4_i32_5679
  let v5846 : BitVec 32 := Scalar.remsi v5826 v5845
  let c0_i32_5683 : BitVec 32 := 0#32
  let v5848 : BitVec 1 := Scalar.cmpi .slt v5846 c0_i32_5683
  let c0_i32_5684 : BitVec 32 := 0#32
  let v5849 : BitVec 1 := Scalar.cmpi .slt v5845 c0_i32_5684
  let v5850 : BitVec 1 := Scalar.xori v5848 v5849
  let c0_i32_5682 : BitVec 32 := 0#32
  let v5847 : BitVec 1 := Scalar.cmpi .ne v5846 c0_i32_5682
  let v5851 : BitVec 1 := Scalar.andi v5850 v5847
  let v5852 : BitVec 32 := Scalar.addi v5846 v5845
  let v5853 : BitVec 32 := Scalar.select v5851 v5852 v5846
  let c1_i32_5685 : BitVec 32 := 1#32
  let v5854 : BitVec 1 := Scalar.cmpi .eq v5853 c1_i32_5685
  let c2_i32_5686 : BitVec 32 := 2#32
  let v5855 : BitVec 1 := Scalar.cmpi .eq v5853 c2_i32_5686
  let v5856 : BitVec 1 := Scalar.ori v5854 v5855
  let c1_i32_5687 : BitVec 32 := 1#32
  let c0_i32_5688 : BitVec 32 := 0#32
  let v5857 : BitVec 32 := Scalar.select v5856 c1_i32_5687 c0_i32_5688
  let c1_i32_5738 : BitVec 32 := 1#32
  let v5937 : BitVec 32 := Scalar.subi c1_i32_5738 v5857
  let v5938 : BitVec 32 := Scalar.select v5936 v5857 v5937
  let v5939 : BitVec 32 := Scalar.addi v5925 v5938
  let v5941 : BitVec 32 := Scalar.addi v5940 v5939
  let c1_i32_5782 : BitVec 32 := 1#32
  let v5962 : BitVec 32 := Scalar.muli v5941 c1_i32_5782
  let v5963 : BitVec 32 := Scalar.addi c0_i32_5783 v5962
  v5963.toNat
def k0_dev78 (d0 : Dev nD) : Nat :=
  let c0_i32_5954 : BitVec 32 := 0#32
  let c8_i32_5942 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5903 : BitVec 32 := 0#32
  let v6029 : BitVec 1 := Scalar.cmpi .sgt v2 c0_i32_5903
  let v6030 : BitVec 32 := Scalar.extui v6029
  let c0_i32_5904 : BitVec 32 := 0#32
  let v6031 : BitVec 1 := Scalar.cmpi .slt v2 c0_i32_5904
  let v6032 : BitVec 32 := Scalar.extui v6031
  let v6033 : BitVec 32 := Scalar.subi v6030 v6032
  let c8_i32_5902 : BitVec 32 := 8#32
  let c0_i32_5905 : BitVec 32 := 0#32
  let v6034 : BitVec 1 := Scalar.cmpi .sgt c8_i32_5902 c0_i32_5905
  let v6035 : BitVec 32 := Scalar.extui v6034
  let c0_i32_5906 : BitVec 32 := 0#32
  let v6036 : BitVec 1 := Scalar.cmpi .slt c8_i32_5902 c0_i32_5906
  let v6037 : BitVec 32 := Scalar.extui v6036
  let v6038 : BitVec 32 := Scalar.subi v6035 v6037
  let v6039 : BitVec 1 := Scalar.cmpi .ne v6033 v6038
  let v6040 : BitVec 32 := Scalar.remsi v2 c8_i32_5902
  let c0_i32_5907 : BitVec 32 := 0#32
  let v6041 : BitVec 1 := Scalar.cmpi .ne v6040 c0_i32_5907
  let v6042 : BitVec 1 := Scalar.andi v6039 v6041
  let v6028 : BitVec 32 := Scalar.divsi v2 c8_i32_5902
  let c1_i32_5908 : BitVec 32 := 1#32
  let v6043 : BitVec 32 := Scalar.subi v6028 c1_i32_5908
  let v6044 : BitVec 32 := Scalar.select v6042 v6043 v6028
  let v6102 : BitVec 32 := Scalar.muli c8_i32_5942 v6044
  let c2_i32_5933 : BitVec 32 := 2#32
  let c8_i32_5909 : BitVec 32 := 8#32
  let c0_i32_5910 : BitVec 32 := 0#32
  let v6045 : BitVec 1 := Scalar.cmpi .eq c8_i32_5909 c0_i32_5910
  let c1_i32_5911 : BitVec 32 := 1#32
  let v6046 : BitVec 32 := Scalar.select v6045 c1_i32_5911 c8_i32_5909
  let v6047 : BitVec 32 := Scalar.remsi v2 v6046
  let c0_i32_5913 : BitVec 32 := 0#32
  let v6049 : BitVec 1 := Scalar.cmpi .slt v6047 c0_i32_5913
  let c0_i32_5914 : BitVec 32 := 0#32
  let v6050 : BitVec 1 := Scalar.cmpi .slt v6046 c0_i32_5914
  let v6051 : BitVec 1 := Scalar.xori v6049 v6050
  let c0_i32_5912 : BitVec 32 := 0#32
  let v6048 : BitVec 1 := Scalar.cmpi .ne v6047 c0_i32_5912
  let v6052 : BitVec 1 := Scalar.andi v6051 v6048
  let v6053 : BitVec 32 := Scalar.addi v6047 v6046
  let v6054 : BitVec 32 := Scalar.select v6052 v6053 v6047
  let c0_i32_5916 : BitVec 32 := 0#32
  let v6056 : BitVec 1 := Scalar.cmpi .sgt v6054 c0_i32_5916
  let v6057 : BitVec 32 := Scalar.extui v6056
  let c0_i32_5917 : BitVec 32 := 0#32
  let v6058 : BitVec 1 := Scalar.cmpi .slt v6054 c0_i32_5917
  let v6059 : BitVec 32 := Scalar.extui v6058
  let v6060 : BitVec 32 := Scalar.subi v6057 v6059
  let c2_i32_5915 : BitVec 32 := 2#32
  let c0_i32_5918 : BitVec 32 := 0#32
  let v6061 : BitVec 1 := Scalar.cmpi .sgt c2_i32_5915 c0_i32_5918
  let v6062 : BitVec 32 := Scalar.extui v6061
  let c0_i32_5919 : BitVec 32 := 0#32
  let v6063 : BitVec 1 := Scalar.cmpi .slt c2_i32_5915 c0_i32_5919
  let v6064 : BitVec 32 := Scalar.extui v6063
  let v6065 : BitVec 32 := Scalar.subi v6062 v6064
  let v6066 : BitVec 1 := Scalar.cmpi .ne v6060 v6065
  let v6067 : BitVec 32 := Scalar.remsi v6054 c2_i32_5915
  let c0_i32_5920 : BitVec 32 := 0#32
  let v6068 : BitVec 1 := Scalar.cmpi .ne v6067 c0_i32_5920
  let v6069 : BitVec 1 := Scalar.andi v6066 v6068
  let v6055 : BitVec 32 := Scalar.divsi v6054 c2_i32_5915
  let c1_i32_5921 : BitVec 32 := 1#32
  let v6070 : BitVec 32 := Scalar.subi v6055 c1_i32_5921
  let v6071 : BitVec 32 := Scalar.select v6069 v6070 v6055
  let v6087 : BitVec 32 := Scalar.muli c2_i32_5933 v6071
  let c2_i32_5934 : BitVec 32 := 2#32
  let c0_i32_5935 : BitVec 32 := 0#32
  let v6088 : BitVec 1 := Scalar.cmpi .eq c2_i32_5934 c0_i32_5935
  let c1_i32_5936 : BitVec 32 := 1#32
  let v6089 : BitVec 32 := Scalar.select v6088 c1_i32_5936 c2_i32_5934
  let v6090 : BitVec 32 := Scalar.remsi v6071 v6089
  let c0_i32_5938 : BitVec 32 := 0#32
  let v6092 : BitVec 1 := Scalar.cmpi .slt v6090 c0_i32_5938
  let c0_i32_5939 : BitVec 32 := 0#32
  let v6093 : BitVec 1 := Scalar.cmpi .slt v6089 c0_i32_5939
  let v6094 : BitVec 1 := Scalar.xori v6092 v6093
  let c0_i32_5937 : BitVec 32 := 0#32
  let v6091 : BitVec 1 := Scalar.cmpi .ne v6090 c0_i32_5937
  let v6095 : BitVec 1 := Scalar.andi v6094 v6091
  let v6096 : BitVec 32 := Scalar.addi v6090 v6089
  let v6097 : BitVec 32 := Scalar.select v6095 v6096 v6090
  let c0_i32_5940 : BitVec 32 := 0#32
  let v6098 : BitVec 1 := Scalar.cmpi .eq v6097 c0_i32_5940
  let c1_i32_5932 : BitVec 32 := 1#32
  let c4_i32_5922 : BitVec 32 := 4#32
  let c0_i32_5923 : BitVec 32 := 0#32
  let v6072 : BitVec 1 := Scalar.cmpi .eq c4_i32_5922 c0_i32_5923
  let c1_i32_5924 : BitVec 32 := 1#32
  let v6073 : BitVec 32 := Scalar.select v6072 c1_i32_5924 c4_i32_5922
  let v6074 : BitVec 32 := Scalar.remsi v6054 v6073
  let c0_i32_5926 : BitVec 32 := 0#32
  let v6076 : BitVec 1 := Scalar.cmpi .slt v6074 c0_i32_5926
  let c0_i32_5927 : BitVec 32 := 0#32
  let v6077 : BitVec 1 := Scalar.cmpi .slt v6073 c0_i32_5927
  let v6078 : BitVec 1 := Scalar.xori v6076 v6077
  let c0_i32_5925 : BitVec 32 := 0#32
  let v6075 : BitVec 1 := Scalar.cmpi .ne v6074 c0_i32_5925
  let v6079 : BitVec 1 := Scalar.andi v6078 v6075
  let v6080 : BitVec 32 := Scalar.addi v6074 v6073
  let v6081 : BitVec 32 := Scalar.select v6079 v6080 v6074
  let c1_i32_5928 : BitVec 32 := 1#32
  let v6082 : BitVec 1 := Scalar.cmpi .eq v6081 c1_i32_5928
  let c2_i32_5929 : BitVec 32 := 2#32
  let v6083 : BitVec 1 := Scalar.cmpi .eq v6081 c2_i32_5929
  let v6084 : BitVec 1 := Scalar.ori v6082 v6083
  let c1_i32_5930 : BitVec 32 := 1#32
  let c0_i32_5931 : BitVec 32 := 0#32
  let v6085 : BitVec 32 := Scalar.select v6084 c1_i32_5930 c0_i32_5931
  let v6086 : BitVec 32 := Scalar.subi c1_i32_5932 v6085
  let c1_i32_5941 : BitVec 32 := 1#32
  let v6099 : BitVec 32 := Scalar.subi c1_i32_5941 v6086
  let v6100 : BitVec 32 := Scalar.select v6098 v6086 v6099
  let v6101 : BitVec 32 := Scalar.addi v6087 v6100
  let v6103 : BitVec 32 := Scalar.addi v6102 v6101
  let c1_i32_5953 : BitVec 32 := 1#32
  let v6104 : BitVec 32 := Scalar.muli v6103 c1_i32_5953
  let v6105 : BitVec 32 := Scalar.addi c0_i32_5954 v6104
  v6105.toNat
def k0_dev79 (d0 : Dev nD) : Nat :=
  let c0_i32_6093 : BitVec 32 := 0#32
  let c8_i32_6047 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6002 : BitVec 32 := 0#32
  let v6137 : BitVec 1 := Scalar.cmpi .sgt v2 c0_i32_6002
  let v6138 : BitVec 32 := Scalar.extui v6137
  let c0_i32_6003 : BitVec 32 := 0#32
  let v6139 : BitVec 1 := Scalar.cmpi .slt v2 c0_i32_6003
  let v6140 : BitVec 32 := Scalar.extui v6139
  let v6141 : BitVec 32 := Scalar.subi v6138 v6140
  let c8_i32_6001 : BitVec 32 := 8#32
  let c0_i32_6004 : BitVec 32 := 0#32
  let v6142 : BitVec 1 := Scalar.cmpi .sgt c8_i32_6001 c0_i32_6004
  let v6143 : BitVec 32 := Scalar.extui v6142
  let c0_i32_6005 : BitVec 32 := 0#32
  let v6144 : BitVec 1 := Scalar.cmpi .slt c8_i32_6001 c0_i32_6005
  let v6145 : BitVec 32 := Scalar.extui v6144
  let v6146 : BitVec 32 := Scalar.subi v6143 v6145
  let v6147 : BitVec 1 := Scalar.cmpi .ne v6141 v6146
  let v6148 : BitVec 32 := Scalar.remsi v2 c8_i32_6001
  let c0_i32_6006 : BitVec 32 := 0#32
  let v6149 : BitVec 1 := Scalar.cmpi .ne v6148 c0_i32_6006
  let v6150 : BitVec 1 := Scalar.andi v6147 v6149
  let v6136 : BitVec 32 := Scalar.divsi v2 c8_i32_6001
  let c1_i32_6007 : BitVec 32 := 1#32
  let v6151 : BitVec 32 := Scalar.subi v6136 c1_i32_6007
  let v6152 : BitVec 32 := Scalar.select v6150 v6151 v6136
  let v6220 : BitVec 32 := Scalar.muli c8_i32_6047 v6152
  let c2_i32_6038 : BitVec 32 := 2#32
  let c8_i32_6008 : BitVec 32 := 8#32
  let c0_i32_6009 : BitVec 32 := 0#32
  let v6153 : BitVec 1 := Scalar.cmpi .eq c8_i32_6008 c0_i32_6009
  let c1_i32_6010 : BitVec 32 := 1#32
  let v6154 : BitVec 32 := Scalar.select v6153 c1_i32_6010 c8_i32_6008
  let v6155 : BitVec 32 := Scalar.remsi v2 v6154
  let c0_i32_6012 : BitVec 32 := 0#32
  let v6157 : BitVec 1 := Scalar.cmpi .slt v6155 c0_i32_6012
  let c0_i32_6013 : BitVec 32 := 0#32
  let v6158 : BitVec 1 := Scalar.cmpi .slt v6154 c0_i32_6013
  let v6159 : BitVec 1 := Scalar.xori v6157 v6158
  let c0_i32_6011 : BitVec 32 := 0#32
  let v6156 : BitVec 1 := Scalar.cmpi .ne v6155 c0_i32_6011
  let v6160 : BitVec 1 := Scalar.andi v6159 v6156
  let v6161 : BitVec 32 := Scalar.addi v6155 v6154
  let v6162 : BitVec 32 := Scalar.select v6160 v6161 v6155
  let c0_i32_6015 : BitVec 32 := 0#32
  let v6164 : BitVec 1 := Scalar.cmpi .sgt v6162 c0_i32_6015
  let v6165 : BitVec 32 := Scalar.extui v6164
  let c0_i32_6016 : BitVec 32 := 0#32
  let v6166 : BitVec 1 := Scalar.cmpi .slt v6162 c0_i32_6016
  let v6167 : BitVec 32 := Scalar.extui v6166
  let v6168 : BitVec 32 := Scalar.subi v6165 v6167
  let c2_i32_6014 : BitVec 32 := 2#32
  let c0_i32_6017 : BitVec 32 := 0#32
  let v6169 : BitVec 1 := Scalar.cmpi .sgt c2_i32_6014 c0_i32_6017
  let v6170 : BitVec 32 := Scalar.extui v6169
  let c0_i32_6018 : BitVec 32 := 0#32
  let v6171 : BitVec 1 := Scalar.cmpi .slt c2_i32_6014 c0_i32_6018
  let v6172 : BitVec 32 := Scalar.extui v6171
  let v6173 : BitVec 32 := Scalar.subi v6170 v6172
  let v6174 : BitVec 1 := Scalar.cmpi .ne v6168 v6173
  let v6175 : BitVec 32 := Scalar.remsi v6162 c2_i32_6014
  let c0_i32_6019 : BitVec 32 := 0#32
  let v6176 : BitVec 1 := Scalar.cmpi .ne v6175 c0_i32_6019
  let v6177 : BitVec 1 := Scalar.andi v6174 v6176
  let v6163 : BitVec 32 := Scalar.divsi v6162 c2_i32_6014
  let c1_i32_6020 : BitVec 32 := 1#32
  let v6178 : BitVec 32 := Scalar.subi v6163 c1_i32_6020
  let v6179 : BitVec 32 := Scalar.select v6177 v6178 v6163
  let c1_i32_6031 : BitVec 32 := 1#32
  let v6194 : BitVec 32 := Scalar.addi v6179 c1_i32_6031
  let c4_i32_6032 : BitVec 32 := 4#32
  let c0_i32_6033 : BitVec 32 := 0#32
  let v6195 : BitVec 1 := Scalar.cmpi .eq c4_i32_6032 c0_i32_6033
  let c1_i32_6034 : BitVec 32 := 1#32
  let v6196 : BitVec 32 := Scalar.select v6195 c1_i32_6034 c4_i32_6032
  let v6197 : BitVec 32 := Scalar.remsi v6194 v6196
  let c0_i32_6036 : BitVec 32 := 0#32
  let v6199 : BitVec 1 := Scalar.cmpi .slt v6197 c0_i32_6036
  let c0_i32_6037 : BitVec 32 := 0#32
  let v6200 : BitVec 1 := Scalar.cmpi .slt v6196 c0_i32_6037
  let v6201 : BitVec 1 := Scalar.xori v6199 v6200
  let c0_i32_6035 : BitVec 32 := 0#32
  let v6198 : BitVec 1 := Scalar.cmpi .ne v6197 c0_i32_6035
  let v6202 : BitVec 1 := Scalar.andi v6201 v6198
  let v6203 : BitVec 32 := Scalar.addi v6197 v6196
  let v6204 : BitVec 32 := Scalar.select v6202 v6203 v6197
  let v6205 : BitVec 32 := Scalar.muli c2_i32_6038 v6204
  let c2_i32_6039 : BitVec 32 := 2#32
  let c0_i32_6040 : BitVec 32 := 0#32
  let v6206 : BitVec 1 := Scalar.cmpi .eq c2_i32_6039 c0_i32_6040
  let c1_i32_6041 : BitVec 32 := 1#32
  let v6207 : BitVec 32 := Scalar.select v6206 c1_i32_6041 c2_i32_6039
  let v6208 : BitVec 32 := Scalar.remsi v6204 v6207
  let c0_i32_6043 : BitVec 32 := 0#32
  let v6210 : BitVec 1 := Scalar.cmpi .slt v6208 c0_i32_6043
  let c0_i32_6044 : BitVec 32 := 0#32
  let v6211 : BitVec 1 := Scalar.cmpi .slt v6207 c0_i32_6044
  let v6212 : BitVec 1 := Scalar.xori v6210 v6211
  let c0_i32_6042 : BitVec 32 := 0#32
  let v6209 : BitVec 1 := Scalar.cmpi .ne v6208 c0_i32_6042
  let v6213 : BitVec 1 := Scalar.andi v6212 v6209
  let v6214 : BitVec 32 := Scalar.addi v6208 v6207
  let v6215 : BitVec 32 := Scalar.select v6213 v6214 v6208
  let c0_i32_6045 : BitVec 32 := 0#32
  let v6216 : BitVec 1 := Scalar.cmpi .eq v6215 c0_i32_6045
  let c4_i32_6021 : BitVec 32 := 4#32
  let c0_i32_6022 : BitVec 32 := 0#32
  let v6180 : BitVec 1 := Scalar.cmpi .eq c4_i32_6021 c0_i32_6022
  let c1_i32_6023 : BitVec 32 := 1#32
  let v6181 : BitVec 32 := Scalar.select v6180 c1_i32_6023 c4_i32_6021
  let v6182 : BitVec 32 := Scalar.remsi v6162 v6181
  let c0_i32_6025 : BitVec 32 := 0#32
  let v6184 : BitVec 1 := Scalar.cmpi .slt v6182 c0_i32_6025
  let c0_i32_6026 : BitVec 32 := 0#32
  let v6185 : BitVec 1 := Scalar.cmpi .slt v6181 c0_i32_6026
  let v6186 : BitVec 1 := Scalar.xori v6184 v6185
  let c0_i32_6024 : BitVec 32 := 0#32
  let v6183 : BitVec 1 := Scalar.cmpi .ne v6182 c0_i32_6024
  let v6187 : BitVec 1 := Scalar.andi v6186 v6183
  let v6188 : BitVec 32 := Scalar.addi v6182 v6181
  let v6189 : BitVec 32 := Scalar.select v6187 v6188 v6182
  let c1_i32_6027 : BitVec 32 := 1#32
  let v6190 : BitVec 1 := Scalar.cmpi .eq v6189 c1_i32_6027
  let c2_i32_6028 : BitVec 32 := 2#32
  let v6191 : BitVec 1 := Scalar.cmpi .eq v6189 c2_i32_6028
  let v6192 : BitVec 1 := Scalar.ori v6190 v6191
  let c1_i32_6029 : BitVec 32 := 1#32
  let c0_i32_6030 : BitVec 32 := 0#32
  let v6193 : BitVec 32 := Scalar.select v6192 c1_i32_6029 c0_i32_6030
  let c1_i32_6046 : BitVec 32 := 1#32
  let v6217 : BitVec 32 := Scalar.subi c1_i32_6046 v6193
  let v6218 : BitVec 32 := Scalar.select v6216 v6193 v6217
  let v6219 : BitVec 32 := Scalar.addi v6205 v6218
  let v6221 : BitVec 32 := Scalar.addi v6220 v6219
  let c1_i32_6092 : BitVec 32 := 1#32
  let v6278 : BitVec 32 := Scalar.muli v6221 c1_i32_6092
  let v6279 : BitVec 32 := Scalar.addi c0_i32_6093 v6278
  v6279.toNat
def k0_dev80 (d0 : Dev nD) : Nat :=
  let c0_i32_6109 : BitVec 32 := 0#32
  let c8_i32_6064 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6002 : BitVec 32 := 0#32
  let v6137 : BitVec 1 := Scalar.cmpi .sgt v2 c0_i32_6002
  let v6138 : BitVec 32 := Scalar.extui v6137
  let c0_i32_6003 : BitVec 32 := 0#32
  let v6139 : BitVec 1 := Scalar.cmpi .slt v2 c0_i32_6003
  let v6140 : BitVec 32 := Scalar.extui v6139
  let v6141 : BitVec 32 := Scalar.subi v6138 v6140
  let c8_i32_6001 : BitVec 32 := 8#32
  let c0_i32_6004 : BitVec 32 := 0#32
  let v6142 : BitVec 1 := Scalar.cmpi .sgt c8_i32_6001 c0_i32_6004
  let v6143 : BitVec 32 := Scalar.extui v6142
  let c0_i32_6005 : BitVec 32 := 0#32
  let v6144 : BitVec 1 := Scalar.cmpi .slt c8_i32_6001 c0_i32_6005
  let v6145 : BitVec 32 := Scalar.extui v6144
  let v6146 : BitVec 32 := Scalar.subi v6143 v6145
  let v6147 : BitVec 1 := Scalar.cmpi .ne v6141 v6146
  let v6148 : BitVec 32 := Scalar.remsi v2 c8_i32_6001
  let c0_i32_6006 : BitVec 32 := 0#32
  let v6149 : BitVec 1 := Scalar.cmpi .ne v6148 c0_i32_6006
  let v6150 : BitVec 1 := Scalar.andi v6147 v6149
  let v6136 : BitVec 32 := Scalar.divsi v2 c8_i32_6001
  let c1_i32_6007 : BitVec 32 := 1#32
  let v6151 : BitVec 32 := Scalar.subi v6136 c1_i32_6007
  let v6152 : BitVec 32 := Scalar.select v6150 v6151 v6136
  let v6248 : BitVec 32 := Scalar.muli c8_i32_6064 v6152
  let c2_i32_6055 : BitVec 32 := 2#32
  let c8_i32_6008 : BitVec 32 := 8#32
  let c0_i32_6009 : BitVec 32 := 0#32
  let v6153 : BitVec 1 := Scalar.cmpi .eq c8_i32_6008 c0_i32_6009
  let c1_i32_6010 : BitVec 32 := 1#32
  let v6154 : BitVec 32 := Scalar.select v6153 c1_i32_6010 c8_i32_6008
  let v6155 : BitVec 32 := Scalar.remsi v2 v6154
  let c0_i32_6012 : BitVec 32 := 0#32
  let v6157 : BitVec 1 := Scalar.cmpi .slt v6155 c0_i32_6012
  let c0_i32_6013 : BitVec 32 := 0#32
  let v6158 : BitVec 1 := Scalar.cmpi .slt v6154 c0_i32_6013
  let v6159 : BitVec 1 := Scalar.xori v6157 v6158
  let c0_i32_6011 : BitVec 32 := 0#32
  let v6156 : BitVec 1 := Scalar.cmpi .ne v6155 c0_i32_6011
  let v6160 : BitVec 1 := Scalar.andi v6159 v6156
  let v6161 : BitVec 32 := Scalar.addi v6155 v6154
  let v6162 : BitVec 32 := Scalar.select v6160 v6161 v6155
  let c0_i32_6015 : BitVec 32 := 0#32
  let v6164 : BitVec 1 := Scalar.cmpi .sgt v6162 c0_i32_6015
  let v6165 : BitVec 32 := Scalar.extui v6164
  let c0_i32_6016 : BitVec 32 := 0#32
  let v6166 : BitVec 1 := Scalar.cmpi .slt v6162 c0_i32_6016
  let v6167 : BitVec 32 := Scalar.extui v6166
  let v6168 : BitVec 32 := Scalar.subi v6165 v6167
  let c2_i32_6014 : BitVec 32 := 2#32
  let c0_i32_6017 : BitVec 32 := 0#32
  let v6169 : BitVec 1 := Scalar.cmpi .sgt c2_i32_6014 c0_i32_6017
  let v6170 : BitVec 32 := Scalar.extui v6169
  let c0_i32_6018 : BitVec 32 := 0#32
  let v6171 : BitVec 1 := Scalar.cmpi .slt c2_i32_6014 c0_i32_6018
  let v6172 : BitVec 32 := Scalar.extui v6171
  let v6173 : BitVec 32 := Scalar.subi v6170 v6172
  let v6174 : BitVec 1 := Scalar.cmpi .ne v6168 v6173
  let v6175 : BitVec 32 := Scalar.remsi v6162 c2_i32_6014
  let c0_i32_6019 : BitVec 32 := 0#32
  let v6176 : BitVec 1 := Scalar.cmpi .ne v6175 c0_i32_6019
  let v6177 : BitVec 1 := Scalar.andi v6174 v6176
  let v6163 : BitVec 32 := Scalar.divsi v6162 c2_i32_6014
  let c1_i32_6020 : BitVec 32 := 1#32
  let v6178 : BitVec 32 := Scalar.subi v6163 c1_i32_6020
  let v6179 : BitVec 32 := Scalar.select v6177 v6178 v6163
  let c2_i32_6048 : BitVec 32 := 2#32
  let v6222 : BitVec 32 := Scalar.addi v6179 c2_i32_6048
  let c4_i32_6049 : BitVec 32 := 4#32
  let c0_i32_6050 : BitVec 32 := 0#32
  let v6223 : BitVec 1 := Scalar.cmpi .eq c4_i32_6049 c0_i32_6050
  let c1_i32_6051 : BitVec 32 := 1#32
  let v6224 : BitVec 32 := Scalar.select v6223 c1_i32_6051 c4_i32_6049
  let v6225 : BitVec 32 := Scalar.remsi v6222 v6224
  let c0_i32_6053 : BitVec 32 := 0#32
  let v6227 : BitVec 1 := Scalar.cmpi .slt v6225 c0_i32_6053
  let c0_i32_6054 : BitVec 32 := 0#32
  let v6228 : BitVec 1 := Scalar.cmpi .slt v6224 c0_i32_6054
  let v6229 : BitVec 1 := Scalar.xori v6227 v6228
  let c0_i32_6052 : BitVec 32 := 0#32
  let v6226 : BitVec 1 := Scalar.cmpi .ne v6225 c0_i32_6052
  let v6230 : BitVec 1 := Scalar.andi v6229 v6226
  let v6231 : BitVec 32 := Scalar.addi v6225 v6224
  let v6232 : BitVec 32 := Scalar.select v6230 v6231 v6225
  let v6233 : BitVec 32 := Scalar.muli c2_i32_6055 v6232
  let c2_i32_6056 : BitVec 32 := 2#32
  let c0_i32_6057 : BitVec 32 := 0#32
  let v6234 : BitVec 1 := Scalar.cmpi .eq c2_i32_6056 c0_i32_6057
  let c1_i32_6058 : BitVec 32 := 1#32
  let v6235 : BitVec 32 := Scalar.select v6234 c1_i32_6058 c2_i32_6056
  let v6236 : BitVec 32 := Scalar.remsi v6232 v6235
  let c0_i32_6060 : BitVec 32 := 0#32
  let v6238 : BitVec 1 := Scalar.cmpi .slt v6236 c0_i32_6060
  let c0_i32_6061 : BitVec 32 := 0#32
  let v6239 : BitVec 1 := Scalar.cmpi .slt v6235 c0_i32_6061
  let v6240 : BitVec 1 := Scalar.xori v6238 v6239
  let c0_i32_6059 : BitVec 32 := 0#32
  let v6237 : BitVec 1 := Scalar.cmpi .ne v6236 c0_i32_6059
  let v6241 : BitVec 1 := Scalar.andi v6240 v6237
  let v6242 : BitVec 32 := Scalar.addi v6236 v6235
  let v6243 : BitVec 32 := Scalar.select v6241 v6242 v6236
  let c0_i32_6062 : BitVec 32 := 0#32
  let v6244 : BitVec 1 := Scalar.cmpi .eq v6243 c0_i32_6062
  let c4_i32_6021 : BitVec 32 := 4#32
  let c0_i32_6022 : BitVec 32 := 0#32
  let v6180 : BitVec 1 := Scalar.cmpi .eq c4_i32_6021 c0_i32_6022
  let c1_i32_6023 : BitVec 32 := 1#32
  let v6181 : BitVec 32 := Scalar.select v6180 c1_i32_6023 c4_i32_6021
  let v6182 : BitVec 32 := Scalar.remsi v6162 v6181
  let c0_i32_6025 : BitVec 32 := 0#32
  let v6184 : BitVec 1 := Scalar.cmpi .slt v6182 c0_i32_6025
  let c0_i32_6026 : BitVec 32 := 0#32
  let v6185 : BitVec 1 := Scalar.cmpi .slt v6181 c0_i32_6026
  let v6186 : BitVec 1 := Scalar.xori v6184 v6185
  let c0_i32_6024 : BitVec 32 := 0#32
  let v6183 : BitVec 1 := Scalar.cmpi .ne v6182 c0_i32_6024
  let v6187 : BitVec 1 := Scalar.andi v6186 v6183
  let v6188 : BitVec 32 := Scalar.addi v6182 v6181
  let v6189 : BitVec 32 := Scalar.select v6187 v6188 v6182
  let c1_i32_6027 : BitVec 32 := 1#32
  let v6190 : BitVec 1 := Scalar.cmpi .eq v6189 c1_i32_6027
  let c2_i32_6028 : BitVec 32 := 2#32
  let v6191 : BitVec 1 := Scalar.cmpi .eq v6189 c2_i32_6028
  let v6192 : BitVec 1 := Scalar.ori v6190 v6191
  let c1_i32_6029 : BitVec 32 := 1#32
  let c0_i32_6030 : BitVec 32 := 0#32
  let v6193 : BitVec 32 := Scalar.select v6192 c1_i32_6029 c0_i32_6030
  let c1_i32_6063 : BitVec 32 := 1#32
  let v6245 : BitVec 32 := Scalar.subi c1_i32_6063 v6193
  let v6246 : BitVec 32 := Scalar.select v6244 v6193 v6245
  let v6247 : BitVec 32 := Scalar.addi v6233 v6246
  let v6249 : BitVec 32 := Scalar.addi v6248 v6247
  let c1_i32_6108 : BitVec 32 := 1#32
  let v6288 : BitVec 32 := Scalar.muli v6249 c1_i32_6108
  let v6289 : BitVec 32 := Scalar.addi c0_i32_6109 v6288
  v6289.toNat
def k0_dev81 (d0 : Dev nD) : Nat :=
  let c0_i32_6125 : BitVec 32 := 0#32
  let c8_i32_6081 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6002 : BitVec 32 := 0#32
  let v6137 : BitVec 1 := Scalar.cmpi .sgt v2 c0_i32_6002
  let v6138 : BitVec 32 := Scalar.extui v6137
  let c0_i32_6003 : BitVec 32 := 0#32
  let v6139 : BitVec 1 := Scalar.cmpi .slt v2 c0_i32_6003
  let v6140 : BitVec 32 := Scalar.extui v6139
  let v6141 : BitVec 32 := Scalar.subi v6138 v6140
  let c8_i32_6001 : BitVec 32 := 8#32
  let c0_i32_6004 : BitVec 32 := 0#32
  let v6142 : BitVec 1 := Scalar.cmpi .sgt c8_i32_6001 c0_i32_6004
  let v6143 : BitVec 32 := Scalar.extui v6142
  let c0_i32_6005 : BitVec 32 := 0#32
  let v6144 : BitVec 1 := Scalar.cmpi .slt c8_i32_6001 c0_i32_6005
  let v6145 : BitVec 32 := Scalar.extui v6144
  let v6146 : BitVec 32 := Scalar.subi v6143 v6145
  let v6147 : BitVec 1 := Scalar.cmpi .ne v6141 v6146
  let v6148 : BitVec 32 := Scalar.remsi v2 c8_i32_6001
  let c0_i32_6006 : BitVec 32 := 0#32
  let v6149 : BitVec 1 := Scalar.cmpi .ne v6148 c0_i32_6006
  let v6150 : BitVec 1 := Scalar.andi v6147 v6149
  let v6136 : BitVec 32 := Scalar.divsi v2 c8_i32_6001
  let c1_i32_6007 : BitVec 32 := 1#32
  let v6151 : BitVec 32 := Scalar.subi v6136 c1_i32_6007
  let v6152 : BitVec 32 := Scalar.select v6150 v6151 v6136
  let v6276 : BitVec 32 := Scalar.muli c8_i32_6081 v6152
  let c2_i32_6072 : BitVec 32 := 2#32
  let c8_i32_6008 : BitVec 32 := 8#32
  let c0_i32_6009 : BitVec 32 := 0#32
  let v6153 : BitVec 1 := Scalar.cmpi .eq c8_i32_6008 c0_i32_6009
  let c1_i32_6010 : BitVec 32 := 1#32
  let v6154 : BitVec 32 := Scalar.select v6153 c1_i32_6010 c8_i32_6008
  let v6155 : BitVec 32 := Scalar.remsi v2 v6154
  let c0_i32_6012 : BitVec 32 := 0#32
  let v6157 : BitVec 1 := Scalar.cmpi .slt v6155 c0_i32_6012
  let c0_i32_6013 : BitVec 32 := 0#32
  let v6158 : BitVec 1 := Scalar.cmpi .slt v6154 c0_i32_6013
  let v6159 : BitVec 1 := Scalar.xori v6157 v6158
  let c0_i32_6011 : BitVec 32 := 0#32
  let v6156 : BitVec 1 := Scalar.cmpi .ne v6155 c0_i32_6011
  let v6160 : BitVec 1 := Scalar.andi v6159 v6156
  let v6161 : BitVec 32 := Scalar.addi v6155 v6154
  let v6162 : BitVec 32 := Scalar.select v6160 v6161 v6155
  let c0_i32_6015 : BitVec 32 := 0#32
  let v6164 : BitVec 1 := Scalar.cmpi .sgt v6162 c0_i32_6015
  let v6165 : BitVec 32 := Scalar.extui v6164
  let c0_i32_6016 : BitVec 32 := 0#32
  let v6166 : BitVec 1 := Scalar.cmpi .slt v6162 c0_i32_6016
  let v6167 : BitVec 32 := Scalar.extui v6166
  let v6168 : BitVec 32 := Scalar.subi v6165 v6167
  let c2_i32_6014 : BitVec 32 := 2#32
  let c0_i32_6017 : BitVec 32 := 0#32
  let v6169 : BitVec 1 := Scalar.cmpi .sgt c2_i32_6014 c0_i32_6017
  let v6170 : BitVec 32 := Scalar.extui v6169
  let c0_i32_6018 : BitVec 32 := 0#32
  let v6171 : BitVec 1 := Scalar.cmpi .slt c2_i32_6014 c0_i32_6018
  let v6172 : BitVec 32 := Scalar.extui v6171
  let v6173 : BitVec 32 := Scalar.subi v6170 v6172
  let v6174 : BitVec 1 := Scalar.cmpi .ne v6168 v6173
  let v6175 : BitVec 32 := Scalar.remsi v6162 c2_i32_6014
  let c0_i32_6019 : BitVec 32 := 0#32
  let v6176 : BitVec 1 := Scalar.cmpi .ne v6175 c0_i32_6019
  let v6177 : BitVec 1 := Scalar.andi v6174 v6176
  let v6163 : BitVec 32 := Scalar.divsi v6162 c2_i32_6014
  let c1_i32_6020 : BitVec 32 := 1#32
  let v6178 : BitVec 32 := Scalar.subi v6163 c1_i32_6020
  let v6179 : BitVec 32 := Scalar.select v6177 v6178 v6163
  let c3_i32_6065 : BitVec 32 := 3#32
  let v6250 : BitVec 32 := Scalar.addi v6179 c3_i32_6065
  let c4_i32_6066 : BitVec 32 := 4#32
  let c0_i32_6067 : BitVec 32 := 0#32
  let v6251 : BitVec 1 := Scalar.cmpi .eq c4_i32_6066 c0_i32_6067
  let c1_i32_6068 : BitVec 32 := 1#32
  let v6252 : BitVec 32 := Scalar.select v6251 c1_i32_6068 c4_i32_6066
  let v6253 : BitVec 32 := Scalar.remsi v6250 v6252
  let c0_i32_6070 : BitVec 32 := 0#32
  let v6255 : BitVec 1 := Scalar.cmpi .slt v6253 c0_i32_6070
  let c0_i32_6071 : BitVec 32 := 0#32
  let v6256 : BitVec 1 := Scalar.cmpi .slt v6252 c0_i32_6071
  let v6257 : BitVec 1 := Scalar.xori v6255 v6256
  let c0_i32_6069 : BitVec 32 := 0#32
  let v6254 : BitVec 1 := Scalar.cmpi .ne v6253 c0_i32_6069
  let v6258 : BitVec 1 := Scalar.andi v6257 v6254
  let v6259 : BitVec 32 := Scalar.addi v6253 v6252
  let v6260 : BitVec 32 := Scalar.select v6258 v6259 v6253
  let v6261 : BitVec 32 := Scalar.muli c2_i32_6072 v6260
  let c2_i32_6073 : BitVec 32 := 2#32
  let c0_i32_6074 : BitVec 32 := 0#32
  let v6262 : BitVec 1 := Scalar.cmpi .eq c2_i32_6073 c0_i32_6074
  let c1_i32_6075 : BitVec 32 := 1#32
  let v6263 : BitVec 32 := Scalar.select v6262 c1_i32_6075 c2_i32_6073
  let v6264 : BitVec 32 := Scalar.remsi v6260 v6263
  let c0_i32_6077 : BitVec 32 := 0#32
  let v6266 : BitVec 1 := Scalar.cmpi .slt v6264 c0_i32_6077
  let c0_i32_6078 : BitVec 32 := 0#32
  let v6267 : BitVec 1 := Scalar.cmpi .slt v6263 c0_i32_6078
  let v6268 : BitVec 1 := Scalar.xori v6266 v6267
  let c0_i32_6076 : BitVec 32 := 0#32
  let v6265 : BitVec 1 := Scalar.cmpi .ne v6264 c0_i32_6076
  let v6269 : BitVec 1 := Scalar.andi v6268 v6265
  let v6270 : BitVec 32 := Scalar.addi v6264 v6263
  let v6271 : BitVec 32 := Scalar.select v6269 v6270 v6264
  let c0_i32_6079 : BitVec 32 := 0#32
  let v6272 : BitVec 1 := Scalar.cmpi .eq v6271 c0_i32_6079
  let c4_i32_6021 : BitVec 32 := 4#32
  let c0_i32_6022 : BitVec 32 := 0#32
  let v6180 : BitVec 1 := Scalar.cmpi .eq c4_i32_6021 c0_i32_6022
  let c1_i32_6023 : BitVec 32 := 1#32
  let v6181 : BitVec 32 := Scalar.select v6180 c1_i32_6023 c4_i32_6021
  let v6182 : BitVec 32 := Scalar.remsi v6162 v6181
  let c0_i32_6025 : BitVec 32 := 0#32
  let v6184 : BitVec 1 := Scalar.cmpi .slt v6182 c0_i32_6025
  let c0_i32_6026 : BitVec 32 := 0#32
  let v6185 : BitVec 1 := Scalar.cmpi .slt v6181 c0_i32_6026
  let v6186 : BitVec 1 := Scalar.xori v6184 v6185
  let c0_i32_6024 : BitVec 32 := 0#32
  let v6183 : BitVec 1 := Scalar.cmpi .ne v6182 c0_i32_6024
  let v6187 : BitVec 1 := Scalar.andi v6186 v6183
  let v6188 : BitVec 32 := Scalar.addi v6182 v6181
  let v6189 : BitVec 32 := Scalar.select v6187 v6188 v6182
  let c1_i32_6027 : BitVec 32 := 1#32
  let v6190 : BitVec 1 := Scalar.cmpi .eq v6189 c1_i32_6027
  let c2_i32_6028 : BitVec 32 := 2#32
  let v6191 : BitVec 1 := Scalar.cmpi .eq v6189 c2_i32_6028
  let v6192 : BitVec 1 := Scalar.ori v6190 v6191
  let c1_i32_6029 : BitVec 32 := 1#32
  let c0_i32_6030 : BitVec 32 := 0#32
  let v6193 : BitVec 32 := Scalar.select v6192 c1_i32_6029 c0_i32_6030
  let c1_i32_6080 : BitVec 32 := 1#32
  let v6273 : BitVec 32 := Scalar.subi c1_i32_6080 v6193
  let v6274 : BitVec 32 := Scalar.select v6272 v6193 v6273
  let v6275 : BitVec 32 := Scalar.addi v6261 v6274
  let v6277 : BitVec 32 := Scalar.addi v6276 v6275
  let c1_i32_6124 : BitVec 32 := 1#32
  let v6298 : BitVec 32 := Scalar.muli v6277 c1_i32_6124
  let v6299 : BitVec 32 := Scalar.addi c0_i32_6125 v6298
  v6299.toNat
def k0_dev82 (d0 : Dev nD) : Nat :=
  let c0_i32_6335 : BitVec 32 := 0#32
  let c8_i32_6289 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6244 : BitVec 32 := 0#32
  let v6365 : BitVec 1 := Scalar.cmpi .sgt v2 c0_i32_6244
  let v6366 : BitVec 32 := Scalar.extui v6365
  let c0_i32_6245 : BitVec 32 := 0#32
  let v6367 : BitVec 1 := Scalar.cmpi .slt v2 c0_i32_6245
  let v6368 : BitVec 32 := Scalar.extui v6367
  let v6369 : BitVec 32 := Scalar.subi v6366 v6368
  let c8_i32_6243 : BitVec 32 := 8#32
  let c0_i32_6246 : BitVec 32 := 0#32
  let v6370 : BitVec 1 := Scalar.cmpi .sgt c8_i32_6243 c0_i32_6246
  let v6371 : BitVec 32 := Scalar.extui v6370
  let c0_i32_6247 : BitVec 32 := 0#32
  let v6372 : BitVec 1 := Scalar.cmpi .slt c8_i32_6243 c0_i32_6247
  let v6373 : BitVec 32 := Scalar.extui v6372
  let v6374 : BitVec 32 := Scalar.subi v6371 v6373
  let v6375 : BitVec 1 := Scalar.cmpi .ne v6369 v6374
  let v6376 : BitVec 32 := Scalar.remsi v2 c8_i32_6243
  let c0_i32_6248 : BitVec 32 := 0#32
  let v6377 : BitVec 1 := Scalar.cmpi .ne v6376 c0_i32_6248
  let v6378 : BitVec 1 := Scalar.andi v6375 v6377
  let v6364 : BitVec 32 := Scalar.divsi v2 c8_i32_6243
  let c1_i32_6249 : BitVec 32 := 1#32
  let v6379 : BitVec 32 := Scalar.subi v6364 c1_i32_6249
  let v6380 : BitVec 32 := Scalar.select v6378 v6379 v6364
  let c1_i32_6273 : BitVec 32 := 1#32
  let v6422 : BitVec 32 := Scalar.addi v6380 c1_i32_6273
  let c4_i32_6274 : BitVec 32 := 4#32
  let c0_i32_6275 : BitVec 32 := 0#32
  let v6423 : BitVec 1 := Scalar.cmpi .eq c4_i32_6274 c0_i32_6275
  let c1_i32_6276 : BitVec 32 := 1#32
  let v6424 : BitVec 32 := Scalar.select v6423 c1_i32_6276 c4_i32_6274
  let v6425 : BitVec 32 := Scalar.remsi v6422 v6424
  let c0_i32_6278 : BitVec 32 := 0#32
  let v6427 : BitVec 1 := Scalar.cmpi .slt v6425 c0_i32_6278
  let c0_i32_6279 : BitVec 32 := 0#32
  let v6428 : BitVec 1 := Scalar.cmpi .slt v6424 c0_i32_6279
  let v6429 : BitVec 1 := Scalar.xori v6427 v6428
  let c0_i32_6277 : BitVec 32 := 0#32
  let v6426 : BitVec 1 := Scalar.cmpi .ne v6425 c0_i32_6277
  let v6430 : BitVec 1 := Scalar.andi v6429 v6426
  let v6431 : BitVec 32 := Scalar.addi v6425 v6424
  let v6432 : BitVec 32 := Scalar.select v6430 v6431 v6425
  let v6448 : BitVec 32 := Scalar.muli c8_i32_6289 v6432
  let c2_i32_6280 : BitVec 32 := 2#32
  let c8_i32_6250 : BitVec 32 := 8#32
  let c0_i32_6251 : BitVec 32 := 0#32
  let v6381 : BitVec 1 := Scalar.cmpi .eq c8_i32_6250 c0_i32_6251
  let c1_i32_6252 : BitVec 32 := 1#32
  let v6382 : BitVec 32 := Scalar.select v6381 c1_i32_6252 c8_i32_6250
  let v6383 : BitVec 32 := Scalar.remsi v2 v6382
  let c0_i32_6254 : BitVec 32 := 0#32
  let v6385 : BitVec 1 := Scalar.cmpi .slt v6383 c0_i32_6254
  let c0_i32_6255 : BitVec 32 := 0#32
  let v6386 : BitVec 1 := Scalar.cmpi .slt v6382 c0_i32_6255
  let v6387 : BitVec 1 := Scalar.xori v6385 v6386
  let c0_i32_6253 : BitVec 32 := 0#32
  let v6384 : BitVec 1 := Scalar.cmpi .ne v6383 c0_i32_6253
  let v6388 : BitVec 1 := Scalar.andi v6387 v6384
  let v6389 : BitVec 32 := Scalar.addi v6383 v6382
  let v6390 : BitVec 32 := Scalar.select v6388 v6389 v6383
  let c0_i32_6257 : BitVec 32 := 0#32
  let v6392 : BitVec 1 := Scalar.cmpi .sgt v6390 c0_i32_6257
  let v6393 : BitVec 32 := Scalar.extui v6392
  let c0_i32_6258 : BitVec 32 := 0#32
  let v6394 : BitVec 1 := Scalar.cmpi .slt v6390 c0_i32_6258
  let v6395 : BitVec 32 := Scalar.extui v6394
  let v6396 : BitVec 32 := Scalar.subi v6393 v6395
  let c2_i32_6256 : BitVec 32 := 2#32
  let c0_i32_6259 : BitVec 32 := 0#32
  let v6397 : BitVec 1 := Scalar.cmpi .sgt c2_i32_6256 c0_i32_6259
  let v6398 : BitVec 32 := Scalar.extui v6397
  let c0_i32_6260 : BitVec 32 := 0#32
  let v6399 : BitVec 1 := Scalar.cmpi .slt c2_i32_6256 c0_i32_6260
  let v6400 : BitVec 32 := Scalar.extui v6399
  let v6401 : BitVec 32 := Scalar.subi v6398 v6400
  let v6402 : BitVec 1 := Scalar.cmpi .ne v6396 v6401
  let v6403 : BitVec 32 := Scalar.remsi v6390 c2_i32_6256
  let c0_i32_6261 : BitVec 32 := 0#32
  let v6404 : BitVec 1 := Scalar.cmpi .ne v6403 c0_i32_6261
  let v6405 : BitVec 1 := Scalar.andi v6402 v6404
  let v6391 : BitVec 32 := Scalar.divsi v6390 c2_i32_6256
  let c1_i32_6262 : BitVec 32 := 1#32
  let v6406 : BitVec 32 := Scalar.subi v6391 c1_i32_6262
  let v6407 : BitVec 32 := Scalar.select v6405 v6406 v6391
  let v6433 : BitVec 32 := Scalar.muli c2_i32_6280 v6407
  let c2_i32_6281 : BitVec 32 := 2#32
  let c0_i32_6282 : BitVec 32 := 0#32
  let v6434 : BitVec 1 := Scalar.cmpi .eq c2_i32_6281 c0_i32_6282
  let c1_i32_6283 : BitVec 32 := 1#32
  let v6435 : BitVec 32 := Scalar.select v6434 c1_i32_6283 c2_i32_6281
  let v6436 : BitVec 32 := Scalar.remsi v6407 v6435
  let c0_i32_6285 : BitVec 32 := 0#32
  let v6438 : BitVec 1 := Scalar.cmpi .slt v6436 c0_i32_6285
  let c0_i32_6286 : BitVec 32 := 0#32
  let v6439 : BitVec 1 := Scalar.cmpi .slt v6435 c0_i32_6286
  let v6440 : BitVec 1 := Scalar.xori v6438 v6439
  let c0_i32_6284 : BitVec 32 := 0#32
  let v6437 : BitVec 1 := Scalar.cmpi .ne v6436 c0_i32_6284
  let v6441 : BitVec 1 := Scalar.andi v6440 v6437
  let v6442 : BitVec 32 := Scalar.addi v6436 v6435
  let v6443 : BitVec 32 := Scalar.select v6441 v6442 v6436
  let c0_i32_6287 : BitVec 32 := 0#32
  let v6444 : BitVec 1 := Scalar.cmpi .eq v6443 c0_i32_6287
  let c4_i32_6263 : BitVec 32 := 4#32
  let c0_i32_6264 : BitVec 32 := 0#32
  let v6408 : BitVec 1 := Scalar.cmpi .eq c4_i32_6263 c0_i32_6264
  let c1_i32_6265 : BitVec 32 := 1#32
  let v6409 : BitVec 32 := Scalar.select v6408 c1_i32_6265 c4_i32_6263
  let v6410 : BitVec 32 := Scalar.remsi v6390 v6409
  let c0_i32_6267 : BitVec 32 := 0#32
  let v6412 : BitVec 1 := Scalar.cmpi .slt v6410 c0_i32_6267
  let c0_i32_6268 : BitVec 32 := 0#32
  let v6413 : BitVec 1 := Scalar.cmpi .slt v6409 c0_i32_6268
  let v6414 : BitVec 1 := Scalar.xori v6412 v6413
  let c0_i32_6266 : BitVec 32 := 0#32
  let v6411 : BitVec 1 := Scalar.cmpi .ne v6410 c0_i32_6266
  let v6415 : BitVec 1 := Scalar.andi v6414 v6411
  let v6416 : BitVec 32 := Scalar.addi v6410 v6409
  let v6417 : BitVec 32 := Scalar.select v6415 v6416 v6410
  let c1_i32_6269 : BitVec 32 := 1#32
  let v6418 : BitVec 1 := Scalar.cmpi .eq v6417 c1_i32_6269
  let c2_i32_6270 : BitVec 32 := 2#32
  let v6419 : BitVec 1 := Scalar.cmpi .eq v6417 c2_i32_6270
  let v6420 : BitVec 1 := Scalar.ori v6418 v6419
  let c1_i32_6271 : BitVec 32 := 1#32
  let c0_i32_6272 : BitVec 32 := 0#32
  let v6421 : BitVec 32 := Scalar.select v6420 c1_i32_6271 c0_i32_6272
  let c1_i32_6288 : BitVec 32 := 1#32
  let v6445 : BitVec 32 := Scalar.subi c1_i32_6288 v6421
  let v6446 : BitVec 32 := Scalar.select v6444 v6421 v6445
  let v6447 : BitVec 32 := Scalar.addi v6433 v6446
  let v6449 : BitVec 32 := Scalar.addi v6448 v6447
  let c1_i32_6334 : BitVec 32 := 1#32
  let v6506 : BitVec 32 := Scalar.muli v6449 c1_i32_6334
  let v6507 : BitVec 32 := Scalar.addi c0_i32_6335 v6506
  v6507.toNat
def k0_dev83 (d0 : Dev nD) : Nat :=
  let c0_i32_6351 : BitVec 32 := 0#32
  let c8_i32_6306 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6244 : BitVec 32 := 0#32
  let v6365 : BitVec 1 := Scalar.cmpi .sgt v2 c0_i32_6244
  let v6366 : BitVec 32 := Scalar.extui v6365
  let c0_i32_6245 : BitVec 32 := 0#32
  let v6367 : BitVec 1 := Scalar.cmpi .slt v2 c0_i32_6245
  let v6368 : BitVec 32 := Scalar.extui v6367
  let v6369 : BitVec 32 := Scalar.subi v6366 v6368
  let c8_i32_6243 : BitVec 32 := 8#32
  let c0_i32_6246 : BitVec 32 := 0#32
  let v6370 : BitVec 1 := Scalar.cmpi .sgt c8_i32_6243 c0_i32_6246
  let v6371 : BitVec 32 := Scalar.extui v6370
  let c0_i32_6247 : BitVec 32 := 0#32
  let v6372 : BitVec 1 := Scalar.cmpi .slt c8_i32_6243 c0_i32_6247
  let v6373 : BitVec 32 := Scalar.extui v6372
  let v6374 : BitVec 32 := Scalar.subi v6371 v6373
  let v6375 : BitVec 1 := Scalar.cmpi .ne v6369 v6374
  let v6376 : BitVec 32 := Scalar.remsi v2 c8_i32_6243
  let c0_i32_6248 : BitVec 32 := 0#32
  let v6377 : BitVec 1 := Scalar.cmpi .ne v6376 c0_i32_6248
  let v6378 : BitVec 1 := Scalar.andi v6375 v6377
  let v6364 : BitVec 32 := Scalar.divsi v2 c8_i32_6243
  let c1_i32_6249 : BitVec 32 := 1#32
  let v6379 : BitVec 32 := Scalar.subi v6364 c1_i32_6249
  let v6380 : BitVec 32 := Scalar.select v6378 v6379 v6364
  let c2_i32_6290 : BitVec 32 := 2#32
  let v6450 : BitVec 32 := Scalar.addi v6380 c2_i32_6290
  let c4_i32_6291 : BitVec 32 := 4#32
  let c0_i32_6292 : BitVec 32 := 0#32
  let v6451 : BitVec 1 := Scalar.cmpi .eq c4_i32_6291 c0_i32_6292
  let c1_i32_6293 : BitVec 32 := 1#32
  let v6452 : BitVec 32 := Scalar.select v6451 c1_i32_6293 c4_i32_6291
  let v6453 : BitVec 32 := Scalar.remsi v6450 v6452
  let c0_i32_6295 : BitVec 32 := 0#32
  let v6455 : BitVec 1 := Scalar.cmpi .slt v6453 c0_i32_6295
  let c0_i32_6296 : BitVec 32 := 0#32
  let v6456 : BitVec 1 := Scalar.cmpi .slt v6452 c0_i32_6296
  let v6457 : BitVec 1 := Scalar.xori v6455 v6456
  let c0_i32_6294 : BitVec 32 := 0#32
  let v6454 : BitVec 1 := Scalar.cmpi .ne v6453 c0_i32_6294
  let v6458 : BitVec 1 := Scalar.andi v6457 v6454
  let v6459 : BitVec 32 := Scalar.addi v6453 v6452
  let v6460 : BitVec 32 := Scalar.select v6458 v6459 v6453
  let v6476 : BitVec 32 := Scalar.muli c8_i32_6306 v6460
  let c2_i32_6297 : BitVec 32 := 2#32
  let c8_i32_6250 : BitVec 32 := 8#32
  let c0_i32_6251 : BitVec 32 := 0#32
  let v6381 : BitVec 1 := Scalar.cmpi .eq c8_i32_6250 c0_i32_6251
  let c1_i32_6252 : BitVec 32 := 1#32
  let v6382 : BitVec 32 := Scalar.select v6381 c1_i32_6252 c8_i32_6250
  let v6383 : BitVec 32 := Scalar.remsi v2 v6382
  let c0_i32_6254 : BitVec 32 := 0#32
  let v6385 : BitVec 1 := Scalar.cmpi .slt v6383 c0_i32_6254
  let c0_i32_6255 : BitVec 32 := 0#32
  let v6386 : BitVec 1 := Scalar.cmpi .slt v6382 c0_i32_6255
  let v6387 : BitVec 1 := Scalar.xori v6385 v6386
  let c0_i32_6253 : BitVec 32 := 0#32
  let v6384 : BitVec 1 := Scalar.cmpi .ne v6383 c0_i32_6253
  let v6388 : BitVec 1 := Scalar.andi v6387 v6384
  let v6389 : BitVec 32 := Scalar.addi v6383 v6382
  let v6390 : BitVec 32 := Scalar.select v6388 v6389 v6383
  let c0_i32_6257 : BitVec 32 := 0#32
  let v6392 : BitVec 1 := Scalar.cmpi .sgt v6390 c0_i32_6257
  let v6393 : BitVec 32 := Scalar.extui v6392
  let c0_i32_6258 : BitVec 32 := 0#32
  let v6394 : BitVec 1 := Scalar.cmpi .slt v6390 c0_i32_6258
  let v6395 : BitVec 32 := Scalar.extui v6394
  let v6396 : BitVec 32 := Scalar.subi v6393 v6395
  let c2_i32_6256 : BitVec 32 := 2#32
  let c0_i32_6259 : BitVec 32 := 0#32
  let v6397 : BitVec 1 := Scalar.cmpi .sgt c2_i32_6256 c0_i32_6259
  let v6398 : BitVec 32 := Scalar.extui v6397
  let c0_i32_6260 : BitVec 32 := 0#32
  let v6399 : BitVec 1 := Scalar.cmpi .slt c2_i32_6256 c0_i32_6260
  let v6400 : BitVec 32 := Scalar.extui v6399
  let v6401 : BitVec 32 := Scalar.subi v6398 v6400
  let v6402 : BitVec 1 := Scalar.cmpi .ne v6396 v6401
  let v6403 : BitVec 32 := Scalar.remsi v6390 c2_i32_6256
  let c0_i32_6261 : BitVec 32 := 0#32
  let v6404 : BitVec 1 := Scalar.cmpi .ne v6403 c0_i32_6261
  let v6405 : BitVec 1 := Scalar.andi v6402 v6404
  let v6391 : BitVec 32 := Scalar.divsi v6390 c2_i32_6256
  let c1_i32_6262 : BitVec 32 := 1#32
  let v6406 : BitVec 32 := Scalar.subi v6391 c1_i32_6262
  let v6407 : BitVec 32 := Scalar.select v6405 v6406 v6391
  let v6461 : BitVec 32 := Scalar.muli c2_i32_6297 v6407
  let c2_i32_6298 : BitVec 32 := 2#32
  let c0_i32_6299 : BitVec 32 := 0#32
  let v6462 : BitVec 1 := Scalar.cmpi .eq c2_i32_6298 c0_i32_6299
  let c1_i32_6300 : BitVec 32 := 1#32
  let v6463 : BitVec 32 := Scalar.select v6462 c1_i32_6300 c2_i32_6298
  let v6464 : BitVec 32 := Scalar.remsi v6407 v6463
  let c0_i32_6302 : BitVec 32 := 0#32
  let v6466 : BitVec 1 := Scalar.cmpi .slt v6464 c0_i32_6302
  let c0_i32_6303 : BitVec 32 := 0#32
  let v6467 : BitVec 1 := Scalar.cmpi .slt v6463 c0_i32_6303
  let v6468 : BitVec 1 := Scalar.xori v6466 v6467
  let c0_i32_6301 : BitVec 32 := 0#32
  let v6465 : BitVec 1 := Scalar.cmpi .ne v6464 c0_i32_6301
  let v6469 : BitVec 1 := Scalar.andi v6468 v6465
  let v6470 : BitVec 32 := Scalar.addi v6464 v6463
  let v6471 : BitVec 32 := Scalar.select v6469 v6470 v6464
  let c0_i32_6304 : BitVec 32 := 0#32
  let v6472 : BitVec 1 := Scalar.cmpi .eq v6471 c0_i32_6304
  let c4_i32_6263 : BitVec 32 := 4#32
  let c0_i32_6264 : BitVec 32 := 0#32
  let v6408 : BitVec 1 := Scalar.cmpi .eq c4_i32_6263 c0_i32_6264
  let c1_i32_6265 : BitVec 32 := 1#32
  let v6409 : BitVec 32 := Scalar.select v6408 c1_i32_6265 c4_i32_6263
  let v6410 : BitVec 32 := Scalar.remsi v6390 v6409
  let c0_i32_6267 : BitVec 32 := 0#32
  let v6412 : BitVec 1 := Scalar.cmpi .slt v6410 c0_i32_6267
  let c0_i32_6268 : BitVec 32 := 0#32
  let v6413 : BitVec 1 := Scalar.cmpi .slt v6409 c0_i32_6268
  let v6414 : BitVec 1 := Scalar.xori v6412 v6413
  let c0_i32_6266 : BitVec 32 := 0#32
  let v6411 : BitVec 1 := Scalar.cmpi .ne v6410 c0_i32_6266
  let v6415 : BitVec 1 := Scalar.andi v6414 v6411
  let v6416 : BitVec 32 := Scalar.addi v6410 v6409
  let v6417 : BitVec 32 := Scalar.select v6415 v6416 v6410
  let c1_i32_6269 : BitVec 32 := 1#32
  let v6418 : BitVec 1 := Scalar.cmpi .eq v6417 c1_i32_6269
  let c2_i32_6270 : BitVec 32 := 2#32
  let v6419 : BitVec 1 := Scalar.cmpi .eq v6417 c2_i32_6270
  let v6420 : BitVec 1 := Scalar.ori v6418 v6419
  let c1_i32_6271 : BitVec 32 := 1#32
  let c0_i32_6272 : BitVec 32 := 0#32
  let v6421 : BitVec 32 := Scalar.select v6420 c1_i32_6271 c0_i32_6272
  let c1_i32_6305 : BitVec 32 := 1#32
  let v6473 : BitVec 32 := Scalar.subi c1_i32_6305 v6421
  let v6474 : BitVec 32 := Scalar.select v6472 v6421 v6473
  let v6475 : BitVec 32 := Scalar.addi v6461 v6474
  let v6477 : BitVec 32 := Scalar.addi v6476 v6475
  let c1_i32_6350 : BitVec 32 := 1#32
  let v6516 : BitVec 32 := Scalar.muli v6477 c1_i32_6350
  let v6517 : BitVec 32 := Scalar.addi c0_i32_6351 v6516
  v6517.toNat
def k0_dev84 (d0 : Dev nD) : Nat :=
  let c0_i32_6367 : BitVec 32 := 0#32
  let c8_i32_6323 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6244 : BitVec 32 := 0#32
  let v6365 : BitVec 1 := Scalar.cmpi .sgt v2 c0_i32_6244
  let v6366 : BitVec 32 := Scalar.extui v6365
  let c0_i32_6245 : BitVec 32 := 0#32
  let v6367 : BitVec 1 := Scalar.cmpi .slt v2 c0_i32_6245
  let v6368 : BitVec 32 := Scalar.extui v6367
  let v6369 : BitVec 32 := Scalar.subi v6366 v6368
  let c8_i32_6243 : BitVec 32 := 8#32
  let c0_i32_6246 : BitVec 32 := 0#32
  let v6370 : BitVec 1 := Scalar.cmpi .sgt c8_i32_6243 c0_i32_6246
  let v6371 : BitVec 32 := Scalar.extui v6370
  let c0_i32_6247 : BitVec 32 := 0#32
  let v6372 : BitVec 1 := Scalar.cmpi .slt c8_i32_6243 c0_i32_6247
  let v6373 : BitVec 32 := Scalar.extui v6372
  let v6374 : BitVec 32 := Scalar.subi v6371 v6373
  let v6375 : BitVec 1 := Scalar.cmpi .ne v6369 v6374
  let v6376 : BitVec 32 := Scalar.remsi v2 c8_i32_6243
  let c0_i32_6248 : BitVec 32 := 0#32
  let v6377 : BitVec 1 := Scalar.cmpi .ne v6376 c0_i32_6248
  let v6378 : BitVec 1 := Scalar.andi v6375 v6377
  let v6364 : BitVec 32 := Scalar.divsi v2 c8_i32_6243
  let c1_i32_6249 : BitVec 32 := 1#32
  let v6379 : BitVec 32 := Scalar.subi v6364 c1_i32_6249
  let v6380 : BitVec 32 := Scalar.select v6378 v6379 v6364
  let c3_i32_6307 : BitVec 32 := 3#32
  let v6478 : BitVec 32 := Scalar.addi v6380 c3_i32_6307
  let c4_i32_6308 : BitVec 32 := 4#32
  let c0_i32_6309 : BitVec 32 := 0#32
  let v6479 : BitVec 1 := Scalar.cmpi .eq c4_i32_6308 c0_i32_6309
  let c1_i32_6310 : BitVec 32 := 1#32
  let v6480 : BitVec 32 := Scalar.select v6479 c1_i32_6310 c4_i32_6308
  let v6481 : BitVec 32 := Scalar.remsi v6478 v6480
  let c0_i32_6312 : BitVec 32 := 0#32
  let v6483 : BitVec 1 := Scalar.cmpi .slt v6481 c0_i32_6312
  let c0_i32_6313 : BitVec 32 := 0#32
  let v6484 : BitVec 1 := Scalar.cmpi .slt v6480 c0_i32_6313
  let v6485 : BitVec 1 := Scalar.xori v6483 v6484
  let c0_i32_6311 : BitVec 32 := 0#32
  let v6482 : BitVec 1 := Scalar.cmpi .ne v6481 c0_i32_6311
  let v6486 : BitVec 1 := Scalar.andi v6485 v6482
  let v6487 : BitVec 32 := Scalar.addi v6481 v6480
  let v6488 : BitVec 32 := Scalar.select v6486 v6487 v6481
  let v6504 : BitVec 32 := Scalar.muli c8_i32_6323 v6488
  let c2_i32_6314 : BitVec 32 := 2#32
  let c8_i32_6250 : BitVec 32 := 8#32
  let c0_i32_6251 : BitVec 32 := 0#32
  let v6381 : BitVec 1 := Scalar.cmpi .eq c8_i32_6250 c0_i32_6251
  let c1_i32_6252 : BitVec 32 := 1#32
  let v6382 : BitVec 32 := Scalar.select v6381 c1_i32_6252 c8_i32_6250
  let v6383 : BitVec 32 := Scalar.remsi v2 v6382
  let c0_i32_6254 : BitVec 32 := 0#32
  let v6385 : BitVec 1 := Scalar.cmpi .slt v6383 c0_i32_6254
  let c0_i32_6255 : BitVec 32 := 0#32
  let v6386 : BitVec 1 := Scalar.cmpi .slt v6382 c0_i32_6255
  let v6387 : BitVec 1 := Scalar.xori v6385 v6386
  let c0_i32_6253 : BitVec 32 := 0#32
  let v6384 : BitVec 1 := Scalar.cmpi .ne v6383 c0_i32_6253
  let v6388 : BitVec 1 := Scalar.andi v6387 v6384
  let v6389 : BitVec 32 := Scalar.addi v6383 v6382
  let v6390 : BitVec 32 := Scalar.select v6388 v6389 v6383
  let c0_i32_6257 : BitVec 32 := 0#32
  let v6392 : BitVec 1 := Scalar.cmpi .sgt v6390 c0_i32_6257
  let v6393 : BitVec 32 := Scalar.extui v6392
  let c0_i32_6258 : BitVec 32 := 0#32
  let v6394 : BitVec 1 := Scalar.cmpi .slt v6390 c0_i32_6258
  let v6395 : BitVec 32 := Scalar.extui v6394
  let v6396 : BitVec 32 := Scalar.subi v6393 v6395
  let c2_i32_6256 : BitVec 32 := 2#32
  let c0_i32_6259 : BitVec 32 := 0#32
  let v6397 : BitVec 1 := Scalar.cmpi .sgt c2_i32_6256 c0_i32_6259
  let v6398 : BitVec 32 := Scalar.extui v6397
  let c0_i32_6260 : BitVec 32 := 0#32
  let v6399 : BitVec 1 := Scalar.cmpi .slt c2_i32_6256 c0_i32_6260
  let v6400 : BitVec 32 := Scalar.extui v6399
  let v6401 : BitVec 32 := Scalar.subi v6398 v6400
  let v6402 : BitVec 1 := Scalar.cmpi .ne v6396 v6401
  let v6403 : BitVec 32 := Scalar.remsi v6390 c2_i32_6256
  let c0_i32_6261 : BitVec 32 := 0#32
  let v6404 : BitVec 1 := Scalar.cmpi .ne v6403 c0_i32_6261
  let v6405 : BitVec 1 := Scalar.andi v6402 v6404
  let v6391 : BitVec 32 := Scalar.divsi v6390 c2_i32_6256
  let c1_i32_6262 : BitVec 32 := 1#32
  let v6406 : BitVec 32 := Scalar.subi v6391 c1_i32_6262
  let v6407 : BitVec 32 := Scalar.select v6405 v6406 v6391
  let v6489 : BitVec 32 := Scalar.muli c2_i32_6314 v6407
  let c2_i32_6315 : BitVec 32 := 2#32
  let c0_i32_6316 : BitVec 32 := 0#32
  let v6490 : BitVec 1 := Scalar.cmpi .eq c2_i32_6315 c0_i32_6316
  let c1_i32_6317 : BitVec 32 := 1#32
  let v6491 : BitVec 32 := Scalar.select v6490 c1_i32_6317 c2_i32_6315
  let v6492 : BitVec 32 := Scalar.remsi v6407 v6491
  let c0_i32_6319 : BitVec 32 := 0#32
  let v6494 : BitVec 1 := Scalar.cmpi .slt v6492 c0_i32_6319
  let c0_i32_6320 : BitVec 32 := 0#32
  let v6495 : BitVec 1 := Scalar.cmpi .slt v6491 c0_i32_6320
  let v6496 : BitVec 1 := Scalar.xori v6494 v6495
  let c0_i32_6318 : BitVec 32 := 0#32
  let v6493 : BitVec 1 := Scalar.cmpi .ne v6492 c0_i32_6318
  let v6497 : BitVec 1 := Scalar.andi v6496 v6493
  let v6498 : BitVec 32 := Scalar.addi v6492 v6491
  let v6499 : BitVec 32 := Scalar.select v6497 v6498 v6492
  let c0_i32_6321 : BitVec 32 := 0#32
  let v6500 : BitVec 1 := Scalar.cmpi .eq v6499 c0_i32_6321
  let c4_i32_6263 : BitVec 32 := 4#32
  let c0_i32_6264 : BitVec 32 := 0#32
  let v6408 : BitVec 1 := Scalar.cmpi .eq c4_i32_6263 c0_i32_6264
  let c1_i32_6265 : BitVec 32 := 1#32
  let v6409 : BitVec 32 := Scalar.select v6408 c1_i32_6265 c4_i32_6263
  let v6410 : BitVec 32 := Scalar.remsi v6390 v6409
  let c0_i32_6267 : BitVec 32 := 0#32
  let v6412 : BitVec 1 := Scalar.cmpi .slt v6410 c0_i32_6267
  let c0_i32_6268 : BitVec 32 := 0#32
  let v6413 : BitVec 1 := Scalar.cmpi .slt v6409 c0_i32_6268
  let v6414 : BitVec 1 := Scalar.xori v6412 v6413
  let c0_i32_6266 : BitVec 32 := 0#32
  let v6411 : BitVec 1 := Scalar.cmpi .ne v6410 c0_i32_6266
  let v6415 : BitVec 1 := Scalar.andi v6414 v6411
  let v6416 : BitVec 32 := Scalar.addi v6410 v6409
  let v6417 : BitVec 32 := Scalar.select v6415 v6416 v6410
  let c1_i32_6269 : BitVec 32 := 1#32
  let v6418 : BitVec 1 := Scalar.cmpi .eq v6417 c1_i32_6269
  let c2_i32_6270 : BitVec 32 := 2#32
  let v6419 : BitVec 1 := Scalar.cmpi .eq v6417 c2_i32_6270
  let v6420 : BitVec 1 := Scalar.ori v6418 v6419
  let c1_i32_6271 : BitVec 32 := 1#32
  let c0_i32_6272 : BitVec 32 := 0#32
  let v6421 : BitVec 32 := Scalar.select v6420 c1_i32_6271 c0_i32_6272
  let c1_i32_6322 : BitVec 32 := 1#32
  let v6501 : BitVec 32 := Scalar.subi c1_i32_6322 v6421
  let v6502 : BitVec 32 := Scalar.select v6500 v6421 v6501
  let v6503 : BitVec 32 := Scalar.addi v6489 v6502
  let v6505 : BitVec 32 := Scalar.addi v6504 v6503
  let c1_i32_6366 : BitVec 32 := 1#32
  let v6526 : BitVec 32 := Scalar.muli v6505 c1_i32_6366
  let v6527 : BitVec 32 := Scalar.addi c0_i32_6367 v6526
  v6527.toNat
def k0_dev85 (d0 : Dev nD) : Nat :=
  let c0_i32_6538 : BitVec 32 := 0#32
  let c8_i32_6526 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6487 : BitVec 32 := 0#32
  let v6593 : BitVec 1 := Scalar.cmpi .sgt v2 c0_i32_6487
  let v6594 : BitVec 32 := Scalar.extui v6593
  let c0_i32_6488 : BitVec 32 := 0#32
  let v6595 : BitVec 1 := Scalar.cmpi .slt v2 c0_i32_6488
  let v6596 : BitVec 32 := Scalar.extui v6595
  let v6597 : BitVec 32 := Scalar.subi v6594 v6596
  let c8_i32_6486 : BitVec 32 := 8#32
  let c0_i32_6489 : BitVec 32 := 0#32
  let v6598 : BitVec 1 := Scalar.cmpi .sgt c8_i32_6486 c0_i32_6489
  let v6599 : BitVec 32 := Scalar.extui v6598
  let c0_i32_6490 : BitVec 32 := 0#32
  let v6600 : BitVec 1 := Scalar.cmpi .slt c8_i32_6486 c0_i32_6490
  let v6601 : BitVec 32 := Scalar.extui v6600
  let v6602 : BitVec 32 := Scalar.subi v6599 v6601
  let v6603 : BitVec 1 := Scalar.cmpi .ne v6597 v6602
  let v6604 : BitVec 32 := Scalar.remsi v2 c8_i32_6486
  let c0_i32_6491 : BitVec 32 := 0#32
  let v6605 : BitVec 1 := Scalar.cmpi .ne v6604 c0_i32_6491
  let v6606 : BitVec 1 := Scalar.andi v6603 v6605
  let v6592 : BitVec 32 := Scalar.divsi v2 c8_i32_6486
  let c1_i32_6492 : BitVec 32 := 1#32
  let v6607 : BitVec 32 := Scalar.subi v6592 c1_i32_6492
  let v6608 : BitVec 32 := Scalar.select v6606 v6607 v6592
  let v6666 : BitVec 32 := Scalar.muli c8_i32_6526 v6608
  let c2_i32_6517 : BitVec 32 := 2#32
  let c8_i32_6493 : BitVec 32 := 8#32
  let c0_i32_6494 : BitVec 32 := 0#32
  let v6609 : BitVec 1 := Scalar.cmpi .eq c8_i32_6493 c0_i32_6494
  let c1_i32_6495 : BitVec 32 := 1#32
  let v6610 : BitVec 32 := Scalar.select v6609 c1_i32_6495 c8_i32_6493
  let v6611 : BitVec 32 := Scalar.remsi v2 v6610
  let c0_i32_6497 : BitVec 32 := 0#32
  let v6613 : BitVec 1 := Scalar.cmpi .slt v6611 c0_i32_6497
  let c0_i32_6498 : BitVec 32 := 0#32
  let v6614 : BitVec 1 := Scalar.cmpi .slt v6610 c0_i32_6498
  let v6615 : BitVec 1 := Scalar.xori v6613 v6614
  let c0_i32_6496 : BitVec 32 := 0#32
  let v6612 : BitVec 1 := Scalar.cmpi .ne v6611 c0_i32_6496
  let v6616 : BitVec 1 := Scalar.andi v6615 v6612
  let v6617 : BitVec 32 := Scalar.addi v6611 v6610
  let v6618 : BitVec 32 := Scalar.select v6616 v6617 v6611
  let c0_i32_6500 : BitVec 32 := 0#32
  let v6620 : BitVec 1 := Scalar.cmpi .sgt v6618 c0_i32_6500
  let v6621 : BitVec 32 := Scalar.extui v6620
  let c0_i32_6501 : BitVec 32 := 0#32
  let v6622 : BitVec 1 := Scalar.cmpi .slt v6618 c0_i32_6501
  let v6623 : BitVec 32 := Scalar.extui v6622
  let v6624 : BitVec 32 := Scalar.subi v6621 v6623
  let c2_i32_6499 : BitVec 32 := 2#32
  let c0_i32_6502 : BitVec 32 := 0#32
  let v6625 : BitVec 1 := Scalar.cmpi .sgt c2_i32_6499 c0_i32_6502
  let v6626 : BitVec 32 := Scalar.extui v6625
  let c0_i32_6503 : BitVec 32 := 0#32
  let v6627 : BitVec 1 := Scalar.cmpi .slt c2_i32_6499 c0_i32_6503
  let v6628 : BitVec 32 := Scalar.extui v6627
  let v6629 : BitVec 32 := Scalar.subi v6626 v6628
  let v6630 : BitVec 1 := Scalar.cmpi .ne v6624 v6629
  let v6631 : BitVec 32 := Scalar.remsi v6618 c2_i32_6499
  let c0_i32_6504 : BitVec 32 := 0#32
  let v6632 : BitVec 1 := Scalar.cmpi .ne v6631 c0_i32_6504
  let v6633 : BitVec 1 := Scalar.andi v6630 v6632
  let v6619 : BitVec 32 := Scalar.divsi v6618 c2_i32_6499
  let c1_i32_6505 : BitVec 32 := 1#32
  let v6634 : BitVec 32 := Scalar.subi v6619 c1_i32_6505
  let v6635 : BitVec 32 := Scalar.select v6633 v6634 v6619
  let v6651 : BitVec 32 := Scalar.muli c2_i32_6517 v6635
  let c2_i32_6518 : BitVec 32 := 2#32
  let c0_i32_6519 : BitVec 32 := 0#32
  let v6652 : BitVec 1 := Scalar.cmpi .eq c2_i32_6518 c0_i32_6519
  let c1_i32_6520 : BitVec 32 := 1#32
  let v6653 : BitVec 32 := Scalar.select v6652 c1_i32_6520 c2_i32_6518
  let v6654 : BitVec 32 := Scalar.remsi v6635 v6653
  let c0_i32_6522 : BitVec 32 := 0#32
  let v6656 : BitVec 1 := Scalar.cmpi .slt v6654 c0_i32_6522
  let c0_i32_6523 : BitVec 32 := 0#32
  let v6657 : BitVec 1 := Scalar.cmpi .slt v6653 c0_i32_6523
  let v6658 : BitVec 1 := Scalar.xori v6656 v6657
  let c0_i32_6521 : BitVec 32 := 0#32
  let v6655 : BitVec 1 := Scalar.cmpi .ne v6654 c0_i32_6521
  let v6659 : BitVec 1 := Scalar.andi v6658 v6655
  let v6660 : BitVec 32 := Scalar.addi v6654 v6653
  let v6661 : BitVec 32 := Scalar.select v6659 v6660 v6654
  let c0_i32_6524 : BitVec 32 := 0#32
  let v6662 : BitVec 1 := Scalar.cmpi .eq v6661 c0_i32_6524
  let c1_i32_6516 : BitVec 32 := 1#32
  let c4_i32_6506 : BitVec 32 := 4#32
  let c0_i32_6507 : BitVec 32 := 0#32
  let v6636 : BitVec 1 := Scalar.cmpi .eq c4_i32_6506 c0_i32_6507
  let c1_i32_6508 : BitVec 32 := 1#32
  let v6637 : BitVec 32 := Scalar.select v6636 c1_i32_6508 c4_i32_6506
  let v6638 : BitVec 32 := Scalar.remsi v6618 v6637
  let c0_i32_6510 : BitVec 32 := 0#32
  let v6640 : BitVec 1 := Scalar.cmpi .slt v6638 c0_i32_6510
  let c0_i32_6511 : BitVec 32 := 0#32
  let v6641 : BitVec 1 := Scalar.cmpi .slt v6637 c0_i32_6511
  let v6642 : BitVec 1 := Scalar.xori v6640 v6641
  let c0_i32_6509 : BitVec 32 := 0#32
  let v6639 : BitVec 1 := Scalar.cmpi .ne v6638 c0_i32_6509
  let v6643 : BitVec 1 := Scalar.andi v6642 v6639
  let v6644 : BitVec 32 := Scalar.addi v6638 v6637
  let v6645 : BitVec 32 := Scalar.select v6643 v6644 v6638
  let c1_i32_6512 : BitVec 32 := 1#32
  let v6646 : BitVec 1 := Scalar.cmpi .eq v6645 c1_i32_6512
  let c2_i32_6513 : BitVec 32 := 2#32
  let v6647 : BitVec 1 := Scalar.cmpi .eq v6645 c2_i32_6513
  let v6648 : BitVec 1 := Scalar.ori v6646 v6647
  let c1_i32_6514 : BitVec 32 := 1#32
  let c0_i32_6515 : BitVec 32 := 0#32
  let v6649 : BitVec 32 := Scalar.select v6648 c1_i32_6514 c0_i32_6515
  let v6650 : BitVec 32 := Scalar.subi c1_i32_6516 v6649
  let c1_i32_6525 : BitVec 32 := 1#32
  let v6663 : BitVec 32 := Scalar.subi c1_i32_6525 v6650
  let v6664 : BitVec 32 := Scalar.select v6662 v6650 v6663
  let v6665 : BitVec 32 := Scalar.addi v6651 v6664
  let v6667 : BitVec 32 := Scalar.addi v6666 v6665
  let c1_i32_6537 : BitVec 32 := 1#32
  let v6668 : BitVec 32 := Scalar.muli v6667 c1_i32_6537
  let v6669 : BitVec 32 := Scalar.addi c0_i32_6538 v6668
  v6669.toNat
def k0_dev86 (d0 : Dev nD) : Nat :=
  let c0_i32_6677 : BitVec 32 := 0#32
  let c8_i32_6631 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6586 : BitVec 32 := 0#32
  let v6701 : BitVec 1 := Scalar.cmpi .sgt v2 c0_i32_6586
  let v6702 : BitVec 32 := Scalar.extui v6701
  let c0_i32_6587 : BitVec 32 := 0#32
  let v6703 : BitVec 1 := Scalar.cmpi .slt v2 c0_i32_6587
  let v6704 : BitVec 32 := Scalar.extui v6703
  let v6705 : BitVec 32 := Scalar.subi v6702 v6704
  let c8_i32_6585 : BitVec 32 := 8#32
  let c0_i32_6588 : BitVec 32 := 0#32
  let v6706 : BitVec 1 := Scalar.cmpi .sgt c8_i32_6585 c0_i32_6588
  let v6707 : BitVec 32 := Scalar.extui v6706
  let c0_i32_6589 : BitVec 32 := 0#32
  let v6708 : BitVec 1 := Scalar.cmpi .slt c8_i32_6585 c0_i32_6589
  let v6709 : BitVec 32 := Scalar.extui v6708
  let v6710 : BitVec 32 := Scalar.subi v6707 v6709
  let v6711 : BitVec 1 := Scalar.cmpi .ne v6705 v6710
  let v6712 : BitVec 32 := Scalar.remsi v2 c8_i32_6585
  let c0_i32_6590 : BitVec 32 := 0#32
  let v6713 : BitVec 1 := Scalar.cmpi .ne v6712 c0_i32_6590
  let v6714 : BitVec 1 := Scalar.andi v6711 v6713
  let v6700 : BitVec 32 := Scalar.divsi v2 c8_i32_6585
  let c1_i32_6591 : BitVec 32 := 1#32
  let v6715 : BitVec 32 := Scalar.subi v6700 c1_i32_6591
  let v6716 : BitVec 32 := Scalar.select v6714 v6715 v6700
  let v6784 : BitVec 32 := Scalar.muli c8_i32_6631 v6716
  let c2_i32_6622 : BitVec 32 := 2#32
  let c8_i32_6592 : BitVec 32 := 8#32
  let c0_i32_6593 : BitVec 32 := 0#32
  let v6717 : BitVec 1 := Scalar.cmpi .eq c8_i32_6592 c0_i32_6593
  let c1_i32_6594 : BitVec 32 := 1#32
  let v6718 : BitVec 32 := Scalar.select v6717 c1_i32_6594 c8_i32_6592
  let v6719 : BitVec 32 := Scalar.remsi v2 v6718
  let c0_i32_6596 : BitVec 32 := 0#32
  let v6721 : BitVec 1 := Scalar.cmpi .slt v6719 c0_i32_6596
  let c0_i32_6597 : BitVec 32 := 0#32
  let v6722 : BitVec 1 := Scalar.cmpi .slt v6718 c0_i32_6597
  let v6723 : BitVec 1 := Scalar.xori v6721 v6722
  let c0_i32_6595 : BitVec 32 := 0#32
  let v6720 : BitVec 1 := Scalar.cmpi .ne v6719 c0_i32_6595
  let v6724 : BitVec 1 := Scalar.andi v6723 v6720
  let v6725 : BitVec 32 := Scalar.addi v6719 v6718
  let v6726 : BitVec 32 := Scalar.select v6724 v6725 v6719
  let c0_i32_6599 : BitVec 32 := 0#32
  let v6728 : BitVec 1 := Scalar.cmpi .sgt v6726 c0_i32_6599
  let v6729 : BitVec 32 := Scalar.extui v6728
  let c0_i32_6600 : BitVec 32 := 0#32
  let v6730 : BitVec 1 := Scalar.cmpi .slt v6726 c0_i32_6600
  let v6731 : BitVec 32 := Scalar.extui v6730
  let v6732 : BitVec 32 := Scalar.subi v6729 v6731
  let c2_i32_6598 : BitVec 32 := 2#32
  let c0_i32_6601 : BitVec 32 := 0#32
  let v6733 : BitVec 1 := Scalar.cmpi .sgt c2_i32_6598 c0_i32_6601
  let v6734 : BitVec 32 := Scalar.extui v6733
  let c0_i32_6602 : BitVec 32 := 0#32
  let v6735 : BitVec 1 := Scalar.cmpi .slt c2_i32_6598 c0_i32_6602
  let v6736 : BitVec 32 := Scalar.extui v6735
  let v6737 : BitVec 32 := Scalar.subi v6734 v6736
  let v6738 : BitVec 1 := Scalar.cmpi .ne v6732 v6737
  let v6739 : BitVec 32 := Scalar.remsi v6726 c2_i32_6598
  let c0_i32_6603 : BitVec 32 := 0#32
  let v6740 : BitVec 1 := Scalar.cmpi .ne v6739 c0_i32_6603
  let v6741 : BitVec 1 := Scalar.andi v6738 v6740
  let v6727 : BitVec 32 := Scalar.divsi v6726 c2_i32_6598
  let c1_i32_6604 : BitVec 32 := 1#32
  let v6742 : BitVec 32 := Scalar.subi v6727 c1_i32_6604
  let v6743 : BitVec 32 := Scalar.select v6741 v6742 v6727
  let c1_i32_6615 : BitVec 32 := 1#32
  let v6758 : BitVec 32 := Scalar.addi v6743 c1_i32_6615
  let c4_i32_6616 : BitVec 32 := 4#32
  let c0_i32_6617 : BitVec 32 := 0#32
  let v6759 : BitVec 1 := Scalar.cmpi .eq c4_i32_6616 c0_i32_6617
  let c1_i32_6618 : BitVec 32 := 1#32
  let v6760 : BitVec 32 := Scalar.select v6759 c1_i32_6618 c4_i32_6616
  let v6761 : BitVec 32 := Scalar.remsi v6758 v6760
  let c0_i32_6620 : BitVec 32 := 0#32
  let v6763 : BitVec 1 := Scalar.cmpi .slt v6761 c0_i32_6620
  let c0_i32_6621 : BitVec 32 := 0#32
  let v6764 : BitVec 1 := Scalar.cmpi .slt v6760 c0_i32_6621
  let v6765 : BitVec 1 := Scalar.xori v6763 v6764
  let c0_i32_6619 : BitVec 32 := 0#32
  let v6762 : BitVec 1 := Scalar.cmpi .ne v6761 c0_i32_6619
  let v6766 : BitVec 1 := Scalar.andi v6765 v6762
  let v6767 : BitVec 32 := Scalar.addi v6761 v6760
  let v6768 : BitVec 32 := Scalar.select v6766 v6767 v6761
  let v6769 : BitVec 32 := Scalar.muli c2_i32_6622 v6768
  let c2_i32_6623 : BitVec 32 := 2#32
  let c0_i32_6624 : BitVec 32 := 0#32
  let v6770 : BitVec 1 := Scalar.cmpi .eq c2_i32_6623 c0_i32_6624
  let c1_i32_6625 : BitVec 32 := 1#32
  let v6771 : BitVec 32 := Scalar.select v6770 c1_i32_6625 c2_i32_6623
  let v6772 : BitVec 32 := Scalar.remsi v6768 v6771
  let c0_i32_6627 : BitVec 32 := 0#32
  let v6774 : BitVec 1 := Scalar.cmpi .slt v6772 c0_i32_6627
  let c0_i32_6628 : BitVec 32 := 0#32
  let v6775 : BitVec 1 := Scalar.cmpi .slt v6771 c0_i32_6628
  let v6776 : BitVec 1 := Scalar.xori v6774 v6775
  let c0_i32_6626 : BitVec 32 := 0#32
  let v6773 : BitVec 1 := Scalar.cmpi .ne v6772 c0_i32_6626
  let v6777 : BitVec 1 := Scalar.andi v6776 v6773
  let v6778 : BitVec 32 := Scalar.addi v6772 v6771
  let v6779 : BitVec 32 := Scalar.select v6777 v6778 v6772
  let c0_i32_6629 : BitVec 32 := 0#32
  let v6780 : BitVec 1 := Scalar.cmpi .eq v6779 c0_i32_6629
  let c4_i32_6605 : BitVec 32 := 4#32
  let c0_i32_6606 : BitVec 32 := 0#32
  let v6744 : BitVec 1 := Scalar.cmpi .eq c4_i32_6605 c0_i32_6606
  let c1_i32_6607 : BitVec 32 := 1#32
  let v6745 : BitVec 32 := Scalar.select v6744 c1_i32_6607 c4_i32_6605
  let v6746 : BitVec 32 := Scalar.remsi v6726 v6745
  let c0_i32_6609 : BitVec 32 := 0#32
  let v6748 : BitVec 1 := Scalar.cmpi .slt v6746 c0_i32_6609
  let c0_i32_6610 : BitVec 32 := 0#32
  let v6749 : BitVec 1 := Scalar.cmpi .slt v6745 c0_i32_6610
  let v6750 : BitVec 1 := Scalar.xori v6748 v6749
  let c0_i32_6608 : BitVec 32 := 0#32
  let v6747 : BitVec 1 := Scalar.cmpi .ne v6746 c0_i32_6608
  let v6751 : BitVec 1 := Scalar.andi v6750 v6747
  let v6752 : BitVec 32 := Scalar.addi v6746 v6745
  let v6753 : BitVec 32 := Scalar.select v6751 v6752 v6746
  let c1_i32_6611 : BitVec 32 := 1#32
  let v6754 : BitVec 1 := Scalar.cmpi .eq v6753 c1_i32_6611
  let c2_i32_6612 : BitVec 32 := 2#32
  let v6755 : BitVec 1 := Scalar.cmpi .eq v6753 c2_i32_6612
  let v6756 : BitVec 1 := Scalar.ori v6754 v6755
  let c1_i32_6613 : BitVec 32 := 1#32
  let c0_i32_6614 : BitVec 32 := 0#32
  let v6757 : BitVec 32 := Scalar.select v6756 c1_i32_6613 c0_i32_6614
  let c1_i32_6630 : BitVec 32 := 1#32
  let v6781 : BitVec 32 := Scalar.subi c1_i32_6630 v6757
  let v6782 : BitVec 32 := Scalar.select v6780 v6757 v6781
  let v6783 : BitVec 32 := Scalar.addi v6769 v6782
  let v6785 : BitVec 32 := Scalar.addi v6784 v6783
  let c1_i32_6676 : BitVec 32 := 1#32
  let v6842 : BitVec 32 := Scalar.muli v6785 c1_i32_6676
  let v6843 : BitVec 32 := Scalar.addi c0_i32_6677 v6842
  v6843.toNat
def k0_dev87 (d0 : Dev nD) : Nat :=
  let c0_i32_6693 : BitVec 32 := 0#32
  let c8_i32_6648 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6586 : BitVec 32 := 0#32
  let v6701 : BitVec 1 := Scalar.cmpi .sgt v2 c0_i32_6586
  let v6702 : BitVec 32 := Scalar.extui v6701
  let c0_i32_6587 : BitVec 32 := 0#32
  let v6703 : BitVec 1 := Scalar.cmpi .slt v2 c0_i32_6587
  let v6704 : BitVec 32 := Scalar.extui v6703
  let v6705 : BitVec 32 := Scalar.subi v6702 v6704
  let c8_i32_6585 : BitVec 32 := 8#32
  let c0_i32_6588 : BitVec 32 := 0#32
  let v6706 : BitVec 1 := Scalar.cmpi .sgt c8_i32_6585 c0_i32_6588
  let v6707 : BitVec 32 := Scalar.extui v6706
  let c0_i32_6589 : BitVec 32 := 0#32
  let v6708 : BitVec 1 := Scalar.cmpi .slt c8_i32_6585 c0_i32_6589
  let v6709 : BitVec 32 := Scalar.extui v6708
  let v6710 : BitVec 32 := Scalar.subi v6707 v6709
  let v6711 : BitVec 1 := Scalar.cmpi .ne v6705 v6710
  let v6712 : BitVec 32 := Scalar.remsi v2 c8_i32_6585
  let c0_i32_6590 : BitVec 32 := 0#32
  let v6713 : BitVec 1 := Scalar.cmpi .ne v6712 c0_i32_6590
  let v6714 : BitVec 1 := Scalar.andi v6711 v6713
  let v6700 : BitVec 32 := Scalar.divsi v2 c8_i32_6585
  let c1_i32_6591 : BitVec 32 := 1#32
  let v6715 : BitVec 32 := Scalar.subi v6700 c1_i32_6591
  let v6716 : BitVec 32 := Scalar.select v6714 v6715 v6700
  let v6812 : BitVec 32 := Scalar.muli c8_i32_6648 v6716
  let c2_i32_6639 : BitVec 32 := 2#32
  let c8_i32_6592 : BitVec 32 := 8#32
  let c0_i32_6593 : BitVec 32 := 0#32
  let v6717 : BitVec 1 := Scalar.cmpi .eq c8_i32_6592 c0_i32_6593
  let c1_i32_6594 : BitVec 32 := 1#32
  let v6718 : BitVec 32 := Scalar.select v6717 c1_i32_6594 c8_i32_6592
  let v6719 : BitVec 32 := Scalar.remsi v2 v6718
  let c0_i32_6596 : BitVec 32 := 0#32
  let v6721 : BitVec 1 := Scalar.cmpi .slt v6719 c0_i32_6596
  let c0_i32_6597 : BitVec 32 := 0#32
  let v6722 : BitVec 1 := Scalar.cmpi .slt v6718 c0_i32_6597
  let v6723 : BitVec 1 := Scalar.xori v6721 v6722
  let c0_i32_6595 : BitVec 32 := 0#32
  let v6720 : BitVec 1 := Scalar.cmpi .ne v6719 c0_i32_6595
  let v6724 : BitVec 1 := Scalar.andi v6723 v6720
  let v6725 : BitVec 32 := Scalar.addi v6719 v6718
  let v6726 : BitVec 32 := Scalar.select v6724 v6725 v6719
  let c0_i32_6599 : BitVec 32 := 0#32
  let v6728 : BitVec 1 := Scalar.cmpi .sgt v6726 c0_i32_6599
  let v6729 : BitVec 32 := Scalar.extui v6728
  let c0_i32_6600 : BitVec 32 := 0#32
  let v6730 : BitVec 1 := Scalar.cmpi .slt v6726 c0_i32_6600
  let v6731 : BitVec 32 := Scalar.extui v6730
  let v6732 : BitVec 32 := Scalar.subi v6729 v6731
  let c2_i32_6598 : BitVec 32 := 2#32
  let c0_i32_6601 : BitVec 32 := 0#32
  let v6733 : BitVec 1 := Scalar.cmpi .sgt c2_i32_6598 c0_i32_6601
  let v6734 : BitVec 32 := Scalar.extui v6733
  let c0_i32_6602 : BitVec 32 := 0#32
  let v6735 : BitVec 1 := Scalar.cmpi .slt c2_i32_6598 c0_i32_6602
  let v6736 : BitVec 32 := Scalar.extui v6735
  let v6737 : BitVec 32 := Scalar.subi v6734 v6736
  let v6738 : BitVec 1 := Scalar.cmpi .ne v6732 v6737
  let v6739 : BitVec 32 := Scalar.remsi v6726 c2_i32_6598
  let c0_i32_6603 : BitVec 32 := 0#32
  let v6740 : BitVec 1 := Scalar.cmpi .ne v6739 c0_i32_6603
  let v6741 : BitVec 1 := Scalar.andi v6738 v6740
  let v6727 : BitVec 32 := Scalar.divsi v6726 c2_i32_6598
  let c1_i32_6604 : BitVec 32 := 1#32
  let v6742 : BitVec 32 := Scalar.subi v6727 c1_i32_6604
  let v6743 : BitVec 32 := Scalar.select v6741 v6742 v6727
  let c2_i32_6632 : BitVec 32 := 2#32
  let v6786 : BitVec 32 := Scalar.addi v6743 c2_i32_6632
  let c4_i32_6633 : BitVec 32 := 4#32
  let c0_i32_6634 : BitVec 32 := 0#32
  let v6787 : BitVec 1 := Scalar.cmpi .eq c4_i32_6633 c0_i32_6634
  let c1_i32_6635 : BitVec 32 := 1#32
  let v6788 : BitVec 32 := Scalar.select v6787 c1_i32_6635 c4_i32_6633
  let v6789 : BitVec 32 := Scalar.remsi v6786 v6788
  let c0_i32_6637 : BitVec 32 := 0#32
  let v6791 : BitVec 1 := Scalar.cmpi .slt v6789 c0_i32_6637
  let c0_i32_6638 : BitVec 32 := 0#32
  let v6792 : BitVec 1 := Scalar.cmpi .slt v6788 c0_i32_6638
  let v6793 : BitVec 1 := Scalar.xori v6791 v6792
  let c0_i32_6636 : BitVec 32 := 0#32
  let v6790 : BitVec 1 := Scalar.cmpi .ne v6789 c0_i32_6636
  let v6794 : BitVec 1 := Scalar.andi v6793 v6790
  let v6795 : BitVec 32 := Scalar.addi v6789 v6788
  let v6796 : BitVec 32 := Scalar.select v6794 v6795 v6789
  let v6797 : BitVec 32 := Scalar.muli c2_i32_6639 v6796
  let c2_i32_6640 : BitVec 32 := 2#32
  let c0_i32_6641 : BitVec 32 := 0#32
  let v6798 : BitVec 1 := Scalar.cmpi .eq c2_i32_6640 c0_i32_6641
  let c1_i32_6642 : BitVec 32 := 1#32
  let v6799 : BitVec 32 := Scalar.select v6798 c1_i32_6642 c2_i32_6640
  let v6800 : BitVec 32 := Scalar.remsi v6796 v6799
  let c0_i32_6644 : BitVec 32 := 0#32
  let v6802 : BitVec 1 := Scalar.cmpi .slt v6800 c0_i32_6644
  let c0_i32_6645 : BitVec 32 := 0#32
  let v6803 : BitVec 1 := Scalar.cmpi .slt v6799 c0_i32_6645
  let v6804 : BitVec 1 := Scalar.xori v6802 v6803
  let c0_i32_6643 : BitVec 32 := 0#32
  let v6801 : BitVec 1 := Scalar.cmpi .ne v6800 c0_i32_6643
  let v6805 : BitVec 1 := Scalar.andi v6804 v6801
  let v6806 : BitVec 32 := Scalar.addi v6800 v6799
  let v6807 : BitVec 32 := Scalar.select v6805 v6806 v6800
  let c0_i32_6646 : BitVec 32 := 0#32
  let v6808 : BitVec 1 := Scalar.cmpi .eq v6807 c0_i32_6646
  let c4_i32_6605 : BitVec 32 := 4#32
  let c0_i32_6606 : BitVec 32 := 0#32
  let v6744 : BitVec 1 := Scalar.cmpi .eq c4_i32_6605 c0_i32_6606
  let c1_i32_6607 : BitVec 32 := 1#32
  let v6745 : BitVec 32 := Scalar.select v6744 c1_i32_6607 c4_i32_6605
  let v6746 : BitVec 32 := Scalar.remsi v6726 v6745
  let c0_i32_6609 : BitVec 32 := 0#32
  let v6748 : BitVec 1 := Scalar.cmpi .slt v6746 c0_i32_6609
  let c0_i32_6610 : BitVec 32 := 0#32
  let v6749 : BitVec 1 := Scalar.cmpi .slt v6745 c0_i32_6610
  let v6750 : BitVec 1 := Scalar.xori v6748 v6749
  let c0_i32_6608 : BitVec 32 := 0#32
  let v6747 : BitVec 1 := Scalar.cmpi .ne v6746 c0_i32_6608
  let v6751 : BitVec 1 := Scalar.andi v6750 v6747
  let v6752 : BitVec 32 := Scalar.addi v6746 v6745
  let v6753 : BitVec 32 := Scalar.select v6751 v6752 v6746
  let c1_i32_6611 : BitVec 32 := 1#32
  let v6754 : BitVec 1 := Scalar.cmpi .eq v6753 c1_i32_6611
  let c2_i32_6612 : BitVec 32 := 2#32
  let v6755 : BitVec 1 := Scalar.cmpi .eq v6753 c2_i32_6612
  let v6756 : BitVec 1 := Scalar.ori v6754 v6755
  let c1_i32_6613 : BitVec 32 := 1#32
  let c0_i32_6614 : BitVec 32 := 0#32
  let v6757 : BitVec 32 := Scalar.select v6756 c1_i32_6613 c0_i32_6614
  let c1_i32_6647 : BitVec 32 := 1#32
  let v6809 : BitVec 32 := Scalar.subi c1_i32_6647 v6757
  let v6810 : BitVec 32 := Scalar.select v6808 v6757 v6809
  let v6811 : BitVec 32 := Scalar.addi v6797 v6810
  let v6813 : BitVec 32 := Scalar.addi v6812 v6811
  let c1_i32_6692 : BitVec 32 := 1#32
  let v6852 : BitVec 32 := Scalar.muli v6813 c1_i32_6692
  let v6853 : BitVec 32 := Scalar.addi c0_i32_6693 v6852
  v6853.toNat
def k0_dev88 (d0 : Dev nD) : Nat :=
  let c0_i32_6709 : BitVec 32 := 0#32
  let c8_i32_6665 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6586 : BitVec 32 := 0#32
  let v6701 : BitVec 1 := Scalar.cmpi .sgt v2 c0_i32_6586
  let v6702 : BitVec 32 := Scalar.extui v6701
  let c0_i32_6587 : BitVec 32 := 0#32
  let v6703 : BitVec 1 := Scalar.cmpi .slt v2 c0_i32_6587
  let v6704 : BitVec 32 := Scalar.extui v6703
  let v6705 : BitVec 32 := Scalar.subi v6702 v6704
  let c8_i32_6585 : BitVec 32 := 8#32
  let c0_i32_6588 : BitVec 32 := 0#32
  let v6706 : BitVec 1 := Scalar.cmpi .sgt c8_i32_6585 c0_i32_6588
  let v6707 : BitVec 32 := Scalar.extui v6706
  let c0_i32_6589 : BitVec 32 := 0#32
  let v6708 : BitVec 1 := Scalar.cmpi .slt c8_i32_6585 c0_i32_6589
  let v6709 : BitVec 32 := Scalar.extui v6708
  let v6710 : BitVec 32 := Scalar.subi v6707 v6709
  let v6711 : BitVec 1 := Scalar.cmpi .ne v6705 v6710
  let v6712 : BitVec 32 := Scalar.remsi v2 c8_i32_6585
  let c0_i32_6590 : BitVec 32 := 0#32
  let v6713 : BitVec 1 := Scalar.cmpi .ne v6712 c0_i32_6590
  let v6714 : BitVec 1 := Scalar.andi v6711 v6713
  let v6700 : BitVec 32 := Scalar.divsi v2 c8_i32_6585
  let c1_i32_6591 : BitVec 32 := 1#32
  let v6715 : BitVec 32 := Scalar.subi v6700 c1_i32_6591
  let v6716 : BitVec 32 := Scalar.select v6714 v6715 v6700
  let v6840 : BitVec 32 := Scalar.muli c8_i32_6665 v6716
  let c2_i32_6656 : BitVec 32 := 2#32
  let c8_i32_6592 : BitVec 32 := 8#32
  let c0_i32_6593 : BitVec 32 := 0#32
  let v6717 : BitVec 1 := Scalar.cmpi .eq c8_i32_6592 c0_i32_6593
  let c1_i32_6594 : BitVec 32 := 1#32
  let v6718 : BitVec 32 := Scalar.select v6717 c1_i32_6594 c8_i32_6592
  let v6719 : BitVec 32 := Scalar.remsi v2 v6718
  let c0_i32_6596 : BitVec 32 := 0#32
  let v6721 : BitVec 1 := Scalar.cmpi .slt v6719 c0_i32_6596
  let c0_i32_6597 : BitVec 32 := 0#32
  let v6722 : BitVec 1 := Scalar.cmpi .slt v6718 c0_i32_6597
  let v6723 : BitVec 1 := Scalar.xori v6721 v6722
  let c0_i32_6595 : BitVec 32 := 0#32
  let v6720 : BitVec 1 := Scalar.cmpi .ne v6719 c0_i32_6595
  let v6724 : BitVec 1 := Scalar.andi v6723 v6720
  let v6725 : BitVec 32 := Scalar.addi v6719 v6718
  let v6726 : BitVec 32 := Scalar.select v6724 v6725 v6719
  let c0_i32_6599 : BitVec 32 := 0#32
  let v6728 : BitVec 1 := Scalar.cmpi .sgt v6726 c0_i32_6599
  let v6729 : BitVec 32 := Scalar.extui v6728
  let c0_i32_6600 : BitVec 32 := 0#32
  let v6730 : BitVec 1 := Scalar.cmpi .slt v6726 c0_i32_6600
  let v6731 : BitVec 32 := Scalar.extui v6730
  let v6732 : BitVec 32 := Scalar.subi v6729 v6731
  let c2_i32_6598 : BitVec 32 := 2#32
  let c0_i32_6601 : BitVec 32 := 0#32
  let v6733 : BitVec 1 := Scalar.cmpi .sgt c2_i32_6598 c0_i32_6601
  let v6734 : BitVec 32 := Scalar.extui v6733
  let c0_i32_6602 : BitVec 32 := 0#32
  let v6735 : BitVec 1 := Scalar.cmpi .slt c2_i32_6598 c0_i32_6602
  let v6736 : BitVec 32 := Scalar.extui v6735
  let v6737 : BitVec 32 := Scalar.subi v6734 v6736
  let v6738 : BitVec 1 := Scalar.cmpi .ne v6732 v6737
  let v6739 : BitVec 32 := Scalar.remsi v6726 c2_i32_6598
  let c0_i32_6603 : BitVec 32 := 0#32
  let v6740 : BitVec 1 := Scalar.cmpi .ne v6739 c0_i32_6603
  let v6741 : BitVec 1 := Scalar.andi v6738 v6740
  let v6727 : BitVec 32 := Scalar.divsi v6726 c2_i32_6598
  let c1_i32_6604 : BitVec 32 := 1#32
  let v6742 : BitVec 32 := Scalar.subi v6727 c1_i32_6604
  let v6743 : BitVec 32 := Scalar.select v6741 v6742 v6727
  let c3_i32_6649 : BitVec 32 := 3#32
  let v6814 : BitVec 32 := Scalar.addi v6743 c3_i32_6649
  let c4_i32_6650 : BitVec 32 := 4#32
  let c0_i32_6651 : BitVec 32 := 0#32
  let v6815 : BitVec 1 := Scalar.cmpi .eq c4_i32_6650 c0_i32_6651
  let c1_i32_6652 : BitVec 32 := 1#32
  let v6816 : BitVec 32 := Scalar.select v6815 c1_i32_6652 c4_i32_6650
  let v6817 : BitVec 32 := Scalar.remsi v6814 v6816
  let c0_i32_6654 : BitVec 32 := 0#32
  let v6819 : BitVec 1 := Scalar.cmpi .slt v6817 c0_i32_6654
  let c0_i32_6655 : BitVec 32 := 0#32
  let v6820 : BitVec 1 := Scalar.cmpi .slt v6816 c0_i32_6655
  let v6821 : BitVec 1 := Scalar.xori v6819 v6820
  let c0_i32_6653 : BitVec 32 := 0#32
  let v6818 : BitVec 1 := Scalar.cmpi .ne v6817 c0_i32_6653
  let v6822 : BitVec 1 := Scalar.andi v6821 v6818
  let v6823 : BitVec 32 := Scalar.addi v6817 v6816
  let v6824 : BitVec 32 := Scalar.select v6822 v6823 v6817
  let v6825 : BitVec 32 := Scalar.muli c2_i32_6656 v6824
  let c2_i32_6657 : BitVec 32 := 2#32
  let c0_i32_6658 : BitVec 32 := 0#32
  let v6826 : BitVec 1 := Scalar.cmpi .eq c2_i32_6657 c0_i32_6658
  let c1_i32_6659 : BitVec 32 := 1#32
  let v6827 : BitVec 32 := Scalar.select v6826 c1_i32_6659 c2_i32_6657
  let v6828 : BitVec 32 := Scalar.remsi v6824 v6827
  let c0_i32_6661 : BitVec 32 := 0#32
  let v6830 : BitVec 1 := Scalar.cmpi .slt v6828 c0_i32_6661
  let c0_i32_6662 : BitVec 32 := 0#32
  let v6831 : BitVec 1 := Scalar.cmpi .slt v6827 c0_i32_6662
  let v6832 : BitVec 1 := Scalar.xori v6830 v6831
  let c0_i32_6660 : BitVec 32 := 0#32
  let v6829 : BitVec 1 := Scalar.cmpi .ne v6828 c0_i32_6660
  let v6833 : BitVec 1 := Scalar.andi v6832 v6829
  let v6834 : BitVec 32 := Scalar.addi v6828 v6827
  let v6835 : BitVec 32 := Scalar.select v6833 v6834 v6828
  let c0_i32_6663 : BitVec 32 := 0#32
  let v6836 : BitVec 1 := Scalar.cmpi .eq v6835 c0_i32_6663
  let c4_i32_6605 : BitVec 32 := 4#32
  let c0_i32_6606 : BitVec 32 := 0#32
  let v6744 : BitVec 1 := Scalar.cmpi .eq c4_i32_6605 c0_i32_6606
  let c1_i32_6607 : BitVec 32 := 1#32
  let v6745 : BitVec 32 := Scalar.select v6744 c1_i32_6607 c4_i32_6605
  let v6746 : BitVec 32 := Scalar.remsi v6726 v6745
  let c0_i32_6609 : BitVec 32 := 0#32
  let v6748 : BitVec 1 := Scalar.cmpi .slt v6746 c0_i32_6609
  let c0_i32_6610 : BitVec 32 := 0#32
  let v6749 : BitVec 1 := Scalar.cmpi .slt v6745 c0_i32_6610
  let v6750 : BitVec 1 := Scalar.xori v6748 v6749
  let c0_i32_6608 : BitVec 32 := 0#32
  let v6747 : BitVec 1 := Scalar.cmpi .ne v6746 c0_i32_6608
  let v6751 : BitVec 1 := Scalar.andi v6750 v6747
  let v6752 : BitVec 32 := Scalar.addi v6746 v6745
  let v6753 : BitVec 32 := Scalar.select v6751 v6752 v6746
  let c1_i32_6611 : BitVec 32 := 1#32
  let v6754 : BitVec 1 := Scalar.cmpi .eq v6753 c1_i32_6611
  let c2_i32_6612 : BitVec 32 := 2#32
  let v6755 : BitVec 1 := Scalar.cmpi .eq v6753 c2_i32_6612
  let v6756 : BitVec 1 := Scalar.ori v6754 v6755
  let c1_i32_6613 : BitVec 32 := 1#32
  let c0_i32_6614 : BitVec 32 := 0#32
  let v6757 : BitVec 32 := Scalar.select v6756 c1_i32_6613 c0_i32_6614
  let c1_i32_6664 : BitVec 32 := 1#32
  let v6837 : BitVec 32 := Scalar.subi c1_i32_6664 v6757
  let v6838 : BitVec 32 := Scalar.select v6836 v6757 v6837
  let v6839 : BitVec 32 := Scalar.addi v6825 v6838
  let v6841 : BitVec 32 := Scalar.addi v6840 v6839
  let c1_i32_6708 : BitVec 32 := 1#32
  let v6862 : BitVec 32 := Scalar.muli v6841 c1_i32_6708
  let v6863 : BitVec 32 := Scalar.addi c0_i32_6709 v6862
  v6863.toNat
def k0_dev89 (d0 : Dev nD) : Nat :=
  let c0_i32_6920 : BitVec 32 := 0#32
  let c8_i32_6874 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6829 : BitVec 32 := 0#32
  let v6929 : BitVec 1 := Scalar.cmpi .sgt v2 c0_i32_6829
  let v6930 : BitVec 32 := Scalar.extui v6929
  let c0_i32_6830 : BitVec 32 := 0#32
  let v6931 : BitVec 1 := Scalar.cmpi .slt v2 c0_i32_6830
  let v6932 : BitVec 32 := Scalar.extui v6931
  let v6933 : BitVec 32 := Scalar.subi v6930 v6932
  let c8_i32_6828 : BitVec 32 := 8#32
  let c0_i32_6831 : BitVec 32 := 0#32
  let v6934 : BitVec 1 := Scalar.cmpi .sgt c8_i32_6828 c0_i32_6831
  let v6935 : BitVec 32 := Scalar.extui v6934
  let c0_i32_6832 : BitVec 32 := 0#32
  let v6936 : BitVec 1 := Scalar.cmpi .slt c8_i32_6828 c0_i32_6832
  let v6937 : BitVec 32 := Scalar.extui v6936
  let v6938 : BitVec 32 := Scalar.subi v6935 v6937
  let v6939 : BitVec 1 := Scalar.cmpi .ne v6933 v6938
  let v6940 : BitVec 32 := Scalar.remsi v2 c8_i32_6828
  let c0_i32_6833 : BitVec 32 := 0#32
  let v6941 : BitVec 1 := Scalar.cmpi .ne v6940 c0_i32_6833
  let v6942 : BitVec 1 := Scalar.andi v6939 v6941
  let v6928 : BitVec 32 := Scalar.divsi v2 c8_i32_6828
  let c1_i32_6834 : BitVec 32 := 1#32
  let v6943 : BitVec 32 := Scalar.subi v6928 c1_i32_6834
  let v6944 : BitVec 32 := Scalar.select v6942 v6943 v6928
  let c1_i32_6858 : BitVec 32 := 1#32
  let v6986 : BitVec 32 := Scalar.addi v6944 c1_i32_6858
  let c4_i32_6859 : BitVec 32 := 4#32
  let c0_i32_6860 : BitVec 32 := 0#32
  let v6987 : BitVec 1 := Scalar.cmpi .eq c4_i32_6859 c0_i32_6860
  let c1_i32_6861 : BitVec 32 := 1#32
  let v6988 : BitVec 32 := Scalar.select v6987 c1_i32_6861 c4_i32_6859
  let v6989 : BitVec 32 := Scalar.remsi v6986 v6988
  let c0_i32_6863 : BitVec 32 := 0#32
  let v6991 : BitVec 1 := Scalar.cmpi .slt v6989 c0_i32_6863
  let c0_i32_6864 : BitVec 32 := 0#32
  let v6992 : BitVec 1 := Scalar.cmpi .slt v6988 c0_i32_6864
  let v6993 : BitVec 1 := Scalar.xori v6991 v6992
  let c0_i32_6862 : BitVec 32 := 0#32
  let v6990 : BitVec 1 := Scalar.cmpi .ne v6989 c0_i32_6862
  let v6994 : BitVec 1 := Scalar.andi v6993 v6990
  let v6995 : BitVec 32 := Scalar.addi v6989 v6988
  let v6996 : BitVec 32 := Scalar.select v6994 v6995 v6989
  let v7012 : BitVec 32 := Scalar.muli c8_i32_6874 v6996
  let c2_i32_6865 : BitVec 32 := 2#32
  let c8_i32_6835 : BitVec 32 := 8#32
  let c0_i32_6836 : BitVec 32 := 0#32
  let v6945 : BitVec 1 := Scalar.cmpi .eq c8_i32_6835 c0_i32_6836
  let c1_i32_6837 : BitVec 32 := 1#32
  let v6946 : BitVec 32 := Scalar.select v6945 c1_i32_6837 c8_i32_6835
  let v6947 : BitVec 32 := Scalar.remsi v2 v6946
  let c0_i32_6839 : BitVec 32 := 0#32
  let v6949 : BitVec 1 := Scalar.cmpi .slt v6947 c0_i32_6839
  let c0_i32_6840 : BitVec 32 := 0#32
  let v6950 : BitVec 1 := Scalar.cmpi .slt v6946 c0_i32_6840
  let v6951 : BitVec 1 := Scalar.xori v6949 v6950
  let c0_i32_6838 : BitVec 32 := 0#32
  let v6948 : BitVec 1 := Scalar.cmpi .ne v6947 c0_i32_6838
  let v6952 : BitVec 1 := Scalar.andi v6951 v6948
  let v6953 : BitVec 32 := Scalar.addi v6947 v6946
  let v6954 : BitVec 32 := Scalar.select v6952 v6953 v6947
  let c0_i32_6842 : BitVec 32 := 0#32
  let v6956 : BitVec 1 := Scalar.cmpi .sgt v6954 c0_i32_6842
  let v6957 : BitVec 32 := Scalar.extui v6956
  let c0_i32_6843 : BitVec 32 := 0#32
  let v6958 : BitVec 1 := Scalar.cmpi .slt v6954 c0_i32_6843
  let v6959 : BitVec 32 := Scalar.extui v6958
  let v6960 : BitVec 32 := Scalar.subi v6957 v6959
  let c2_i32_6841 : BitVec 32 := 2#32
  let c0_i32_6844 : BitVec 32 := 0#32
  let v6961 : BitVec 1 := Scalar.cmpi .sgt c2_i32_6841 c0_i32_6844
  let v6962 : BitVec 32 := Scalar.extui v6961
  let c0_i32_6845 : BitVec 32 := 0#32
  let v6963 : BitVec 1 := Scalar.cmpi .slt c2_i32_6841 c0_i32_6845
  let v6964 : BitVec 32 := Scalar.extui v6963
  let v6965 : BitVec 32 := Scalar.subi v6962 v6964
  let v6966 : BitVec 1 := Scalar.cmpi .ne v6960 v6965
  let v6967 : BitVec 32 := Scalar.remsi v6954 c2_i32_6841
  let c0_i32_6846 : BitVec 32 := 0#32
  let v6968 : BitVec 1 := Scalar.cmpi .ne v6967 c0_i32_6846
  let v6969 : BitVec 1 := Scalar.andi v6966 v6968
  let v6955 : BitVec 32 := Scalar.divsi v6954 c2_i32_6841
  let c1_i32_6847 : BitVec 32 := 1#32
  let v6970 : BitVec 32 := Scalar.subi v6955 c1_i32_6847
  let v6971 : BitVec 32 := Scalar.select v6969 v6970 v6955
  let v6997 : BitVec 32 := Scalar.muli c2_i32_6865 v6971
  let c2_i32_6866 : BitVec 32 := 2#32
  let c0_i32_6867 : BitVec 32 := 0#32
  let v6998 : BitVec 1 := Scalar.cmpi .eq c2_i32_6866 c0_i32_6867
  let c1_i32_6868 : BitVec 32 := 1#32
  let v6999 : BitVec 32 := Scalar.select v6998 c1_i32_6868 c2_i32_6866
  let v7000 : BitVec 32 := Scalar.remsi v6971 v6999
  let c0_i32_6870 : BitVec 32 := 0#32
  let v7002 : BitVec 1 := Scalar.cmpi .slt v7000 c0_i32_6870
  let c0_i32_6871 : BitVec 32 := 0#32
  let v7003 : BitVec 1 := Scalar.cmpi .slt v6999 c0_i32_6871
  let v7004 : BitVec 1 := Scalar.xori v7002 v7003
  let c0_i32_6869 : BitVec 32 := 0#32
  let v7001 : BitVec 1 := Scalar.cmpi .ne v7000 c0_i32_6869
  let v7005 : BitVec 1 := Scalar.andi v7004 v7001
  let v7006 : BitVec 32 := Scalar.addi v7000 v6999
  let v7007 : BitVec 32 := Scalar.select v7005 v7006 v7000
  let c0_i32_6872 : BitVec 32 := 0#32
  let v7008 : BitVec 1 := Scalar.cmpi .eq v7007 c0_i32_6872
  let c4_i32_6848 : BitVec 32 := 4#32
  let c0_i32_6849 : BitVec 32 := 0#32
  let v6972 : BitVec 1 := Scalar.cmpi .eq c4_i32_6848 c0_i32_6849
  let c1_i32_6850 : BitVec 32 := 1#32
  let v6973 : BitVec 32 := Scalar.select v6972 c1_i32_6850 c4_i32_6848
  let v6974 : BitVec 32 := Scalar.remsi v6954 v6973
  let c0_i32_6852 : BitVec 32 := 0#32
  let v6976 : BitVec 1 := Scalar.cmpi .slt v6974 c0_i32_6852
  let c0_i32_6853 : BitVec 32 := 0#32
  let v6977 : BitVec 1 := Scalar.cmpi .slt v6973 c0_i32_6853
  let v6978 : BitVec 1 := Scalar.xori v6976 v6977
  let c0_i32_6851 : BitVec 32 := 0#32
  let v6975 : BitVec 1 := Scalar.cmpi .ne v6974 c0_i32_6851
  let v6979 : BitVec 1 := Scalar.andi v6978 v6975
  let v6980 : BitVec 32 := Scalar.addi v6974 v6973
  let v6981 : BitVec 32 := Scalar.select v6979 v6980 v6974
  let c1_i32_6854 : BitVec 32 := 1#32
  let v6982 : BitVec 1 := Scalar.cmpi .eq v6981 c1_i32_6854
  let c2_i32_6855 : BitVec 32 := 2#32
  let v6983 : BitVec 1 := Scalar.cmpi .eq v6981 c2_i32_6855
  let v6984 : BitVec 1 := Scalar.ori v6982 v6983
  let c1_i32_6856 : BitVec 32 := 1#32
  let c0_i32_6857 : BitVec 32 := 0#32
  let v6985 : BitVec 32 := Scalar.select v6984 c1_i32_6856 c0_i32_6857
  let c1_i32_6873 : BitVec 32 := 1#32
  let v7009 : BitVec 32 := Scalar.subi c1_i32_6873 v6985
  let v7010 : BitVec 32 := Scalar.select v7008 v6985 v7009
  let v7011 : BitVec 32 := Scalar.addi v6997 v7010
  let v7013 : BitVec 32 := Scalar.addi v7012 v7011
  let c1_i32_6919 : BitVec 32 := 1#32
  let v7070 : BitVec 32 := Scalar.muli v7013 c1_i32_6919
  let v7071 : BitVec 32 := Scalar.addi c0_i32_6920 v7070
  v7071.toNat
def k0_dev90 (d0 : Dev nD) : Nat :=
  let c0_i32_6936 : BitVec 32 := 0#32
  let c8_i32_6891 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6829 : BitVec 32 := 0#32
  let v6929 : BitVec 1 := Scalar.cmpi .sgt v2 c0_i32_6829
  let v6930 : BitVec 32 := Scalar.extui v6929
  let c0_i32_6830 : BitVec 32 := 0#32
  let v6931 : BitVec 1 := Scalar.cmpi .slt v2 c0_i32_6830
  let v6932 : BitVec 32 := Scalar.extui v6931
  let v6933 : BitVec 32 := Scalar.subi v6930 v6932
  let c8_i32_6828 : BitVec 32 := 8#32
  let c0_i32_6831 : BitVec 32 := 0#32
  let v6934 : BitVec 1 := Scalar.cmpi .sgt c8_i32_6828 c0_i32_6831
  let v6935 : BitVec 32 := Scalar.extui v6934
  let c0_i32_6832 : BitVec 32 := 0#32
  let v6936 : BitVec 1 := Scalar.cmpi .slt c8_i32_6828 c0_i32_6832
  let v6937 : BitVec 32 := Scalar.extui v6936
  let v6938 : BitVec 32 := Scalar.subi v6935 v6937
  let v6939 : BitVec 1 := Scalar.cmpi .ne v6933 v6938
  let v6940 : BitVec 32 := Scalar.remsi v2 c8_i32_6828
  let c0_i32_6833 : BitVec 32 := 0#32
  let v6941 : BitVec 1 := Scalar.cmpi .ne v6940 c0_i32_6833
  let v6942 : BitVec 1 := Scalar.andi v6939 v6941
  let v6928 : BitVec 32 := Scalar.divsi v2 c8_i32_6828
  let c1_i32_6834 : BitVec 32 := 1#32
  let v6943 : BitVec 32 := Scalar.subi v6928 c1_i32_6834
  let v6944 : BitVec 32 := Scalar.select v6942 v6943 v6928
  let c2_i32_6875 : BitVec 32 := 2#32
  let v7014 : BitVec 32 := Scalar.addi v6944 c2_i32_6875
  let c4_i32_6876 : BitVec 32 := 4#32
  let c0_i32_6877 : BitVec 32 := 0#32
  let v7015 : BitVec 1 := Scalar.cmpi .eq c4_i32_6876 c0_i32_6877
  let c1_i32_6878 : BitVec 32 := 1#32
  let v7016 : BitVec 32 := Scalar.select v7015 c1_i32_6878 c4_i32_6876
  let v7017 : BitVec 32 := Scalar.remsi v7014 v7016
  let c0_i32_6880 : BitVec 32 := 0#32
  let v7019 : BitVec 1 := Scalar.cmpi .slt v7017 c0_i32_6880
  let c0_i32_6881 : BitVec 32 := 0#32
  let v7020 : BitVec 1 := Scalar.cmpi .slt v7016 c0_i32_6881
  let v7021 : BitVec 1 := Scalar.xori v7019 v7020
  let c0_i32_6879 : BitVec 32 := 0#32
  let v7018 : BitVec 1 := Scalar.cmpi .ne v7017 c0_i32_6879
  let v7022 : BitVec 1 := Scalar.andi v7021 v7018
  let v7023 : BitVec 32 := Scalar.addi v7017 v7016
  let v7024 : BitVec 32 := Scalar.select v7022 v7023 v7017
  let v7040 : BitVec 32 := Scalar.muli c8_i32_6891 v7024
  let c2_i32_6882 : BitVec 32 := 2#32
  let c8_i32_6835 : BitVec 32 := 8#32
  let c0_i32_6836 : BitVec 32 := 0#32
  let v6945 : BitVec 1 := Scalar.cmpi .eq c8_i32_6835 c0_i32_6836
  let c1_i32_6837 : BitVec 32 := 1#32
  let v6946 : BitVec 32 := Scalar.select v6945 c1_i32_6837 c8_i32_6835
  let v6947 : BitVec 32 := Scalar.remsi v2 v6946
  let c0_i32_6839 : BitVec 32 := 0#32
  let v6949 : BitVec 1 := Scalar.cmpi .slt v6947 c0_i32_6839
  let c0_i32_6840 : BitVec 32 := 0#32
  let v6950 : BitVec 1 := Scalar.cmpi .slt v6946 c0_i32_6840
  let v6951 : BitVec 1 := Scalar.xori v6949 v6950
  let c0_i32_6838 : BitVec 32 := 0#32
  let v6948 : BitVec 1 := Scalar.cmpi .ne v6947 c0_i32_6838
  let v6952 : BitVec 1 := Scalar.andi v6951 v6948
  let v6953 : BitVec 32 := Scalar.addi v6947 v6946
  let v6954 : BitVec 32 := Scalar.select v6952 v6953 v6947
  let c0_i32_6842 : BitVec 32 := 0#32
  let v6956 : BitVec 1 := Scalar.cmpi .sgt v6954 c0_i32_6842
  let v6957 : BitVec 32 := Scalar.extui v6956
  let c0_i32_6843 : BitVec 32 := 0#32
  let v6958 : BitVec 1 := Scalar.cmpi .slt v6954 c0_i32_6843
  let v6959 : BitVec 32 := Scalar.extui v6958
  let v6960 : BitVec 32 := Scalar.subi v6957 v6959
  let c2_i32_6841 : BitVec 32 := 2#32
  let c0_i32_6844 : BitVec 32 := 0#32
  let v6961 : BitVec 1 := Scalar.cmpi .sgt c2_i32_6841 c0_i32_6844
  let v6962 : BitVec 32 := Scalar.extui v6961
  let c0_i32_6845 : BitVec 32 := 0#32
  let v6963 : BitVec 1 := Scalar.cmpi .slt c2_i32_6841 c0_i32_6845
  let v6964 : BitVec 32 := Scalar.extui v6963
  let v6965 : BitVec 32 := Scalar.subi v6962 v6964
  let v6966 : BitVec 1 := Scalar.cmpi .ne v6960 v6965
  let v6967 : BitVec 32 := Scalar.remsi v6954 c2_i32_6841
  let c0_i32_6846 : BitVec 32 := 0#32
  let v6968 : BitVec 1 := Scalar.cmpi .ne v6967 c0_i32_6846
  let v6969 : BitVec 1 := Scalar.andi v6966 v6968
  let v6955 : BitVec 32 := Scalar.divsi v6954 c2_i32_6841
  let c1_i32_6847 : BitVec 32 := 1#32
  let v6970 : BitVec 32 := Scalar.subi v6955 c1_i32_6847
  let v6971 : BitVec 32 := Scalar.select v6969 v6970 v6955
  let v7025 : BitVec 32 := Scalar.muli c2_i32_6882 v6971
  let c2_i32_6883 : BitVec 32 := 2#32
  let c0_i32_6884 : BitVec 32 := 0#32
  let v7026 : BitVec 1 := Scalar.cmpi .eq c2_i32_6883 c0_i32_6884
  let c1_i32_6885 : BitVec 32 := 1#32
  let v7027 : BitVec 32 := Scalar.select v7026 c1_i32_6885 c2_i32_6883
  let v7028 : BitVec 32 := Scalar.remsi v6971 v7027
  let c0_i32_6887 : BitVec 32 := 0#32
  let v7030 : BitVec 1 := Scalar.cmpi .slt v7028 c0_i32_6887
  let c0_i32_6888 : BitVec 32 := 0#32
  let v7031 : BitVec 1 := Scalar.cmpi .slt v7027 c0_i32_6888
  let v7032 : BitVec 1 := Scalar.xori v7030 v7031
  let c0_i32_6886 : BitVec 32 := 0#32
  let v7029 : BitVec 1 := Scalar.cmpi .ne v7028 c0_i32_6886
  let v7033 : BitVec 1 := Scalar.andi v7032 v7029
  let v7034 : BitVec 32 := Scalar.addi v7028 v7027
  let v7035 : BitVec 32 := Scalar.select v7033 v7034 v7028
  let c0_i32_6889 : BitVec 32 := 0#32
  let v7036 : BitVec 1 := Scalar.cmpi .eq v7035 c0_i32_6889
  let c4_i32_6848 : BitVec 32 := 4#32
  let c0_i32_6849 : BitVec 32 := 0#32
  let v6972 : BitVec 1 := Scalar.cmpi .eq c4_i32_6848 c0_i32_6849
  let c1_i32_6850 : BitVec 32 := 1#32
  let v6973 : BitVec 32 := Scalar.select v6972 c1_i32_6850 c4_i32_6848
  let v6974 : BitVec 32 := Scalar.remsi v6954 v6973
  let c0_i32_6852 : BitVec 32 := 0#32
  let v6976 : BitVec 1 := Scalar.cmpi .slt v6974 c0_i32_6852
  let c0_i32_6853 : BitVec 32 := 0#32
  let v6977 : BitVec 1 := Scalar.cmpi .slt v6973 c0_i32_6853
  let v6978 : BitVec 1 := Scalar.xori v6976 v6977
  let c0_i32_6851 : BitVec 32 := 0#32
  let v6975 : BitVec 1 := Scalar.cmpi .ne v6974 c0_i32_6851
  let v6979 : BitVec 1 := Scalar.andi v6978 v6975
  let v6980 : BitVec 32 := Scalar.addi v6974 v6973
  let v6981 : BitVec 32 := Scalar.select v6979 v6980 v6974
  let c1_i32_6854 : BitVec 32 := 1#32
  let v6982 : BitVec 1 := Scalar.cmpi .eq v6981 c1_i32_6854
  let c2_i32_6855 : BitVec 32 := 2#32
  let v6983 : BitVec 1 := Scalar.cmpi .eq v6981 c2_i32_6855
  let v6984 : BitVec 1 := Scalar.ori v6982 v6983
  let c1_i32_6856 : BitVec 32 := 1#32
  let c0_i32_6857 : BitVec 32 := 0#32
  let v6985 : BitVec 32 := Scalar.select v6984 c1_i32_6856 c0_i32_6857
  let c1_i32_6890 : BitVec 32 := 1#32
  let v7037 : BitVec 32 := Scalar.subi c1_i32_6890 v6985
  let v7038 : BitVec 32 := Scalar.select v7036 v6985 v7037
  let v7039 : BitVec 32 := Scalar.addi v7025 v7038
  let v7041 : BitVec 32 := Scalar.addi v7040 v7039
  let c1_i32_6935 : BitVec 32 := 1#32
  let v7080 : BitVec 32 := Scalar.muli v7041 c1_i32_6935
  let v7081 : BitVec 32 := Scalar.addi c0_i32_6936 v7080
  v7081.toNat
def k0_dev91 (d0 : Dev nD) : Nat :=
  let c0_i32_6952 : BitVec 32 := 0#32
  let c8_i32_6908 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6829 : BitVec 32 := 0#32
  let v6929 : BitVec 1 := Scalar.cmpi .sgt v2 c0_i32_6829
  let v6930 : BitVec 32 := Scalar.extui v6929
  let c0_i32_6830 : BitVec 32 := 0#32
  let v6931 : BitVec 1 := Scalar.cmpi .slt v2 c0_i32_6830
  let v6932 : BitVec 32 := Scalar.extui v6931
  let v6933 : BitVec 32 := Scalar.subi v6930 v6932
  let c8_i32_6828 : BitVec 32 := 8#32
  let c0_i32_6831 : BitVec 32 := 0#32
  let v6934 : BitVec 1 := Scalar.cmpi .sgt c8_i32_6828 c0_i32_6831
  let v6935 : BitVec 32 := Scalar.extui v6934
  let c0_i32_6832 : BitVec 32 := 0#32
  let v6936 : BitVec 1 := Scalar.cmpi .slt c8_i32_6828 c0_i32_6832
  let v6937 : BitVec 32 := Scalar.extui v6936
  let v6938 : BitVec 32 := Scalar.subi v6935 v6937
  let v6939 : BitVec 1 := Scalar.cmpi .ne v6933 v6938
  let v6940 : BitVec 32 := Scalar.remsi v2 c8_i32_6828
  let c0_i32_6833 : BitVec 32 := 0#32
  let v6941 : BitVec 1 := Scalar.cmpi .ne v6940 c0_i32_6833
  let v6942 : BitVec 1 := Scalar.andi v6939 v6941
  let v6928 : BitVec 32 := Scalar.divsi v2 c8_i32_6828
  let c1_i32_6834 : BitVec 32 := 1#32
  let v6943 : BitVec 32 := Scalar.subi v6928 c1_i32_6834
  let v6944 : BitVec 32 := Scalar.select v6942 v6943 v6928
  let c3_i32_6892 : BitVec 32 := 3#32
  let v7042 : BitVec 32 := Scalar.addi v6944 c3_i32_6892
  let c4_i32_6893 : BitVec 32 := 4#32
  let c0_i32_6894 : BitVec 32 := 0#32
  let v7043 : BitVec 1 := Scalar.cmpi .eq c4_i32_6893 c0_i32_6894
  let c1_i32_6895 : BitVec 32 := 1#32
  let v7044 : BitVec 32 := Scalar.select v7043 c1_i32_6895 c4_i32_6893
  let v7045 : BitVec 32 := Scalar.remsi v7042 v7044
  let c0_i32_6897 : BitVec 32 := 0#32
  let v7047 : BitVec 1 := Scalar.cmpi .slt v7045 c0_i32_6897
  let c0_i32_6898 : BitVec 32 := 0#32
  let v7048 : BitVec 1 := Scalar.cmpi .slt v7044 c0_i32_6898
  let v7049 : BitVec 1 := Scalar.xori v7047 v7048
  let c0_i32_6896 : BitVec 32 := 0#32
  let v7046 : BitVec 1 := Scalar.cmpi .ne v7045 c0_i32_6896
  let v7050 : BitVec 1 := Scalar.andi v7049 v7046
  let v7051 : BitVec 32 := Scalar.addi v7045 v7044
  let v7052 : BitVec 32 := Scalar.select v7050 v7051 v7045
  let v7068 : BitVec 32 := Scalar.muli c8_i32_6908 v7052
  let c2_i32_6899 : BitVec 32 := 2#32
  let c8_i32_6835 : BitVec 32 := 8#32
  let c0_i32_6836 : BitVec 32 := 0#32
  let v6945 : BitVec 1 := Scalar.cmpi .eq c8_i32_6835 c0_i32_6836
  let c1_i32_6837 : BitVec 32 := 1#32
  let v6946 : BitVec 32 := Scalar.select v6945 c1_i32_6837 c8_i32_6835
  let v6947 : BitVec 32 := Scalar.remsi v2 v6946
  let c0_i32_6839 : BitVec 32 := 0#32
  let v6949 : BitVec 1 := Scalar.cmpi .slt v6947 c0_i32_6839
  let c0_i32_6840 : BitVec 32 := 0#32
  let v6950 : BitVec 1 := Scalar.cmpi .slt v6946 c0_i32_6840
  let v6951 : BitVec 1 := Scalar.xori v6949 v6950
  let c0_i32_6838 : BitVec 32 := 0#32
  let v6948 : BitVec 1 := Scalar.cmpi .ne v6947 c0_i32_6838
  let v6952 : BitVec 1 := Scalar.andi v6951 v6948
  let v6953 : BitVec 32 := Scalar.addi v6947 v6946
  let v6954 : BitVec 32 := Scalar.select v6952 v6953 v6947
  let c0_i32_6842 : BitVec 32 := 0#32
  let v6956 : BitVec 1 := Scalar.cmpi .sgt v6954 c0_i32_6842
  let v6957 : BitVec 32 := Scalar.extui v6956
  let c0_i32_6843 : BitVec 32 := 0#32
  let v6958 : BitVec 1 := Scalar.cmpi .slt v6954 c0_i32_6843
  let v6959 : BitVec 32 := Scalar.extui v6958
  let v6960 : BitVec 32 := Scalar.subi v6957 v6959
  let c2_i32_6841 : BitVec 32 := 2#32
  let c0_i32_6844 : BitVec 32 := 0#32
  let v6961 : BitVec 1 := Scalar.cmpi .sgt c2_i32_6841 c0_i32_6844
  let v6962 : BitVec 32 := Scalar.extui v6961
  let c0_i32_6845 : BitVec 32 := 0#32
  let v6963 : BitVec 1 := Scalar.cmpi .slt c2_i32_6841 c0_i32_6845
  let v6964 : BitVec 32 := Scalar.extui v6963
  let v6965 : BitVec 32 := Scalar.subi v6962 v6964
  let v6966 : BitVec 1 := Scalar.cmpi .ne v6960 v6965
  let v6967 : BitVec 32 := Scalar.remsi v6954 c2_i32_6841
  let c0_i32_6846 : BitVec 32 := 0#32
  let v6968 : BitVec 1 := Scalar.cmpi .ne v6967 c0_i32_6846
  let v6969 : BitVec 1 := Scalar.andi v6966 v6968
  let v6955 : BitVec 32 := Scalar.divsi v6954 c2_i32_6841
  let c1_i32_6847 : BitVec 32 := 1#32
  let v6970 : BitVec 32 := Scalar.subi v6955 c1_i32_6847
  let v6971 : BitVec 32 := Scalar.select v6969 v6970 v6955
  let v7053 : BitVec 32 := Scalar.muli c2_i32_6899 v6971
  let c2_i32_6900 : BitVec 32 := 2#32
  let c0_i32_6901 : BitVec 32 := 0#32
  let v7054 : BitVec 1 := Scalar.cmpi .eq c2_i32_6900 c0_i32_6901
  let c1_i32_6902 : BitVec 32 := 1#32
  let v7055 : BitVec 32 := Scalar.select v7054 c1_i32_6902 c2_i32_6900
  let v7056 : BitVec 32 := Scalar.remsi v6971 v7055
  let c0_i32_6904 : BitVec 32 := 0#32
  let v7058 : BitVec 1 := Scalar.cmpi .slt v7056 c0_i32_6904
  let c0_i32_6905 : BitVec 32 := 0#32
  let v7059 : BitVec 1 := Scalar.cmpi .slt v7055 c0_i32_6905
  let v7060 : BitVec 1 := Scalar.xori v7058 v7059
  let c0_i32_6903 : BitVec 32 := 0#32
  let v7057 : BitVec 1 := Scalar.cmpi .ne v7056 c0_i32_6903
  let v7061 : BitVec 1 := Scalar.andi v7060 v7057
  let v7062 : BitVec 32 := Scalar.addi v7056 v7055
  let v7063 : BitVec 32 := Scalar.select v7061 v7062 v7056
  let c0_i32_6906 : BitVec 32 := 0#32
  let v7064 : BitVec 1 := Scalar.cmpi .eq v7063 c0_i32_6906
  let c4_i32_6848 : BitVec 32 := 4#32
  let c0_i32_6849 : BitVec 32 := 0#32
  let v6972 : BitVec 1 := Scalar.cmpi .eq c4_i32_6848 c0_i32_6849
  let c1_i32_6850 : BitVec 32 := 1#32
  let v6973 : BitVec 32 := Scalar.select v6972 c1_i32_6850 c4_i32_6848
  let v6974 : BitVec 32 := Scalar.remsi v6954 v6973
  let c0_i32_6852 : BitVec 32 := 0#32
  let v6976 : BitVec 1 := Scalar.cmpi .slt v6974 c0_i32_6852
  let c0_i32_6853 : BitVec 32 := 0#32
  let v6977 : BitVec 1 := Scalar.cmpi .slt v6973 c0_i32_6853
  let v6978 : BitVec 1 := Scalar.xori v6976 v6977
  let c0_i32_6851 : BitVec 32 := 0#32
  let v6975 : BitVec 1 := Scalar.cmpi .ne v6974 c0_i32_6851
  let v6979 : BitVec 1 := Scalar.andi v6978 v6975
  let v6980 : BitVec 32 := Scalar.addi v6974 v6973
  let v6981 : BitVec 32 := Scalar.select v6979 v6980 v6974
  let c1_i32_6854 : BitVec 32 := 1#32
  let v6982 : BitVec 1 := Scalar.cmpi .eq v6981 c1_i32_6854
  let c2_i32_6855 : BitVec 32 := 2#32
  let v6983 : BitVec 1 := Scalar.cmpi .eq v6981 c2_i32_6855
  let v6984 : BitVec 1 := Scalar.ori v6982 v6983
  let c1_i32_6856 : BitVec 32 := 1#32
  let c0_i32_6857 : BitVec 32 := 0#32
  let v6985 : BitVec 32 := Scalar.select v6984 c1_i32_6856 c0_i32_6857
  let c1_i32_6907 : BitVec 32 := 1#32
  let v7065 : BitVec 32 := Scalar.subi c1_i32_6907 v6985
  let v7066 : BitVec 32 := Scalar.select v7064 v6985 v7065
  let v7067 : BitVec 32 := Scalar.addi v7053 v7066
  let v7069 : BitVec 32 := Scalar.addi v7068 v7067
  let c1_i32_6951 : BitVec 32 := 1#32
  let v7090 : BitVec 32 := Scalar.muli v7069 c1_i32_6951
  let v7091 : BitVec 32 := Scalar.addi c0_i32_6952 v7090
  v7091.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x16384 : Shape := ⟨2, ![256, 16384]⟩
abbrev S16384x256 : Shape := ⟨2, ![16384, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x16384, .bf16⟩
  | .hbm, ⟨2, _⟩ => ⟨S256x16384, .bf16⟩
  | .hbm, ⟨3, _⟩ => ⟨S256x16384, .bf16⟩
  | .hbm, ⟨4, _⟩ => ⟨S16384x256, .bf16⟩
  | .hbm, ⟨5, _⟩ => ⟨S16384x256, .bf16⟩
  | .hbm, ⟨6, _⟩ => ⟨S16384x256, .bf16⟩
  | .hbm, ⟨7, _⟩ => ⟨S256x256, .f32⟩
  | .hbm, ⟨8, _⟩ => ⟨S256x16384, .f32⟩
  | .hbm, ⟨9, _⟩ => ⟨S256x16384, .f32⟩
  | .hbm, ⟨10, _⟩ => ⟨S_, .f32⟩
  | .hbm, ⟨11, _⟩ => ⟨S256x16384, .f32⟩
  | .hbm, ⟨12, _⟩ => ⟨S256x16384, .f32⟩
  | .hbm, ⟨13, _⟩ => ⟨S16384x256, .f32⟩
  | .hbm, ⟨14, _⟩ => ⟨S256x256, .f32⟩
  | .hbm, ⟨15, _⟩ => ⟨S256x16384, .f32⟩
  | .hbm, ⟨16, _⟩ => ⟨S256x16384, .f32⟩
  | .hbm, ⟨17, _⟩ => ⟨S_, .f32⟩
  | .hbm, ⟨18, _⟩ => ⟨S256x16384, .f32⟩
  | .hbm, ⟨19, _⟩ => ⟨S256x16384, .f32⟩
  | .hbm, ⟨20, _⟩ => ⟨S16384x256, .f32⟩
  | .hbm, ⟨21, _⟩ => ⟨S256x256, .f32⟩
  | .hbm, ⟨22, _⟩ => ⟨S256x16384, .f32⟩
  | .hbm, ⟨23, _⟩ => ⟨S256x16384, .f32⟩
  | .hbm, ⟨24, _⟩ => ⟨S_, .f32⟩
  | .hbm, ⟨25, _⟩ => ⟨S256x16384, .f32⟩
  | .hbm, ⟨26, _⟩ => ⟨S256x16384, .f32⟩
  | .hbm, ⟨27, _⟩ => ⟨S16384x256, .f32⟩
  | .hbm, ⟨28, _⟩ => ⟨S256x256, .f32⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Program.lean ====
/- The kernel's body written as a short structured program: chunks, slots and peers as indices, the printed body's
   operations in the printed order, and the theorem that the printed body is this program. -/
module

public import proofs.«01_k».proof.Proof.Gen.KernelIdeal.Points
public import proofs.«01_k».proof.Proof.Gen.KernelIdeal.Launch
public import Idealize.ShloMosaic.Lib.Pipeline.Regions

@[expose] public section

noncomputable section

namespace Cert.KernelIdeal.Own

open Idealize.ShloMosaic Idealize.SL.Sem Cert.KernelIdeal.Gen

variable {F : FTy → Type} [FloatOps F]

/-- The effects of the kernel's TensorCore. -/
abbrev Eff (F : FTy → Type) [FloatOps F] : Type → Type := TpuEff nD τ sig (Elt F) Λ₀ .tc

/-! ## Peers -/

/-- Device `k`'s peer in direction `d`: 0 flips the x coordinate, 1, 2, 3 step y by that much, 4, 5, 6 step z by
    1, 2, 3. Device `8 z + 2 y + b` has x coordinate `b` for even `y` and `1 - b` for odd `y`. -/
def peerNat (d : Fin 7) (k : ℕ) : ℕ :=
  let z := k / 8
  let y := k % 8 / 2
  let b := k % 2
  let x := if y % 2 = 0 then b else 1 - b
  let at' : ℕ → ℕ → ℕ → ℕ := fun x y z => 8 * z + 2 * y + (if y % 2 = 0 then x else 1 - x)
  if d.val = 0 then at' (1 - x) y z
  else if d.val < 4 then at' x ((y + d.val) % 4) z
  else at' x y ((z + (d.val - 3)) % 4)

theorem peerNat_lt : ∀ (d : Fin 7) (k : Dev nD), peerNat d k.val < nD := by decide +kernel

/-- The peer as a device. -/
def peer (d : Fin 7) (k : Dev nD) : Dev nD := ⟨peerNat d k.val, peerNat_lt d k⟩

/-- The direction of the `j`-th copy of chunk `c` in slot `s`: the slot's round is `(s + c) % 3`. -/
def dirOf (c : Fin 4) (s : Fin 9) (j : Fin 3) : Fin 7 :=
  if (s.val + c.val) % 3 = 0 then 0
  else if (s.val + c.val) % 3 = 1 then ⟨1 + j.val, by omega⟩
  else ⟨4 + j.val, by omega⟩

/-- The copies of chunk `c` in slot `s`. -/
def copies (c : Fin 4) (s : Fin 9) : List (Fin 3) := if (s.val + c.val) % 3 = 0 then [0] else [0, 1, 2]

/-- The device each printed copy addresses, as printed. -/
def devTab : Fin 9 → Fin 4 → Fin 3 → Dev nD → ℕ :=
  ![![![k0_dev8, k0_dev8, k0_dev8], ![k0_dev9, k0_dev10, k0_dev11], ![k0_dev12, k0_dev13, k0_dev14], ![k0_dev15, k0_dev15, k0_dev15]],
    ![![k0_dev16, k0_dev17, k0_dev18], ![k0_dev19, k0_dev20, k0_dev21], ![k0_dev22, k0_dev22, k0_dev22], ![k0_dev23, k0_dev24, k0_dev25]],
    ![![k0_dev26, k0_dev27, k0_dev28], ![k0_dev29, k0_dev29, k0_dev29], ![k0_dev30, k0_dev31, k0_dev32], ![k0_dev33, k0_dev34, k0_dev35]],
    ![![k0_dev36, k0_dev36, k0_dev36], ![k0_dev37, k0_dev38, k0_dev39], ![k0_dev40, k0_dev41, k0_dev42], ![k0_dev43, k0_dev43, k0_dev43]],
    ![![k0_dev44, k0_dev45, k0_dev46], ![k0_dev47, k0_dev48, k0_dev49], ![k0_dev50, k0_dev50, k0_dev50], ![k0_dev51, k0_dev52, k0_dev53]],
    ![![k0_dev54, k0_dev55, k0_dev56], ![k0_dev57, k0_dev57, k0_dev57], ![k0_dev58, k0_dev59, k0_dev60], ![k0_dev61, k0_dev62, k0_dev63]],
    ![![k0_dev64, k0_dev64, k0_dev64], ![k0_dev65, k0_dev66, k0_dev67], ![k0_dev68, k0_dev69, k0_dev70], ![k0_dev71, k0_dev71, k0_dev71]],
    ![![k0_dev72, k0_dev73, k0_dev74], ![k0_dev75, k0_dev76, k0_dev77], ![k0_dev78, k0_dev78, k0_dev78], ![k0_dev79, k0_dev80, k0_dev81]],
    ![![k0_dev82, k0_dev83, k0_dev84], ![k0_dev85, k0_dev85, k0_dev85], ![k0_dev86, k0_dev87, k0_dev88], ![k0_dev89, k0_dev90, k0_dev91]]]

theorem devTab_eq : ∀ (s : Fin 9) (c : Fin 4) (j : Fin 3) (k : Dev nD), devTab s c j k = peerNat (dirOf c s j) k.val := by
  decide +kernel

theorem devTab_lt (s : Fin 9) (c : Fin 4) (j : Fin 3) (k : Dev nD) : devTab s c j k < nD := by
  rw [devTab_eq]; exact peerNat_lt _ _

/-- The device each barrier signal addresses, as printed. -/
def sigTab : Fin 7 → Dev nD → ℕ := ![k0_dev1, k0_dev2, k0_dev3, k0_dev4, k0_dev5, k0_dev6, k0_dev7]

theorem sigTab_eq : ∀ (d : Fin 7) (k : Dev nD), sigTab d k = peerNat d k.val := by decide +kernel

theorem sigTab_lt (d : Fin 7) (k : Dev nD) : sigTab d k < nD := by
  rw [sigTab_eq]; exact peerNat_lt _ _

/-! ## The kernel's buffers and semaphores -/

/-- The accumulator, the receive buffer. -/
abbrev accW : Memref sig .tc .vmem S4x64x256 .bf16 := Memref.whole cc0_scratch0
abbrev commW : Memref sig .tc .vmem S4x9x3x64x256 .bf16 := Memref.whole cc0_scratch1
abbrev harg8 : accW.IsWhole := Memref.isWhole_whole _
abbrev harg9 : commW.IsWhole := Memref.isWhole_whole _

theorem inbAcc : ∀ (c : Fin 4) (a : Fin 3), (![c.val, 0, 0] : Fin 3 → ℕ) a + S1x64x256.size a ≤ S4x64x256.size a := by decide
theorem inbComm : ∀ (c : Fin 4) (s : Fin 9) (j : Fin 3) (a : Fin 5),
    (![c.val, s.val, j.val, 0, 0] : Fin 5 → ℕ) a + S1x1x1x64x256.size a ≤ S4x9x3x64x256.size a := by decide +kernel
theorem inbSem : ∀ (c : Fin 4) (s : Fin 9) (j : Fin 3) (a : Fin 3),
    (![c.val, s.val, j.val] : Fin 3 → ℕ) a + S1x1x1.size a ≤ S4x9x3.size a := by decide +kernel
theorem inbRow : ∀ (c : Fin 4) (a : Fin 2), (![64 * c.val, 0] : Fin 2 → ℕ) a + S64x256.size a ≤ S256x256.size a := by decide

/-- Chunk `c` of the accumulator, slot `(c, s, j)` of the receive buffer and of the semaphores, rows of chunk `c`. -/
abbrev accR (c : Fin 4) : Rect S4x64x256 := Rect.unit (s := S4x64x256) ![c.val, 0, 0] S1x64x256.size (inbAcc c)
abbrev commR (c : Fin 4) (s : Fin 9) (j : Fin 3) : Rect S4x9x3x64x256 :=
  Rect.unit (s := S4x9x3x64x256) ![c.val, s.val, j.val, 0, 0] S1x1x1x64x256.size (inbComm c s j)
abbrev semR (c : Fin 4) (s : Fin 9) (j : Fin 3) : Rect S4x9x3 :=
  Rect.unit (s := S4x9x3) ![c.val, s.val, j.val] S1x1x1.size (inbSem c s j)
abbrev rowR (c : Fin 4) : Rect S256x256 := Rect.unit (s := S256x256) ![64 * c.val, 0] S64x256.size (inbRow c)

theorem wordsAcc : ∀ c : Fin 4, (accR c).WholeWords (EltTy.packing .bf16) := by decide +kernel
theorem packedAcc : ∀ c : Fin 4, (accR c).PackedRows (EltTy.packing .bf16) := by decide +kernel
theorem wordsComm : ∀ (c : Fin 4) (s : Fin 9) (j : Fin 3), (commR c s j).WholeWords (EltTy.packing .bf16) := by decide +kernel

abbrev accM (c : Fin 4) : Memref sig .tc .vmem S64x256 .bf16 :=
  (accW.slice (accR c) (fun _ => rfl)).squeeze S64x256 squeezes_S1x64x256_S64x256
abbrev commM (c : Fin 4) (s : Fin 9) (j : Fin 3) : Memref sig .tc .vmem S64x256 .bf16 :=
  (commW.slice (commR c s j) (fun _ => rfl)).squeeze S64x256 squeezes_S1x1x1x64x256_S64x256
abbrev sendM (c : Fin 4) (s : Fin 9) (j : Fin 3) : DmaSems sig S_ :=
  (SemArray.slice cc0_scratch2 (semR c s j)).squeeze S_ squeezes_S1x1x1_S_
abbrev recvM (c : Fin 4) (s : Fin 9) (j : Fin 3) : DmaSems sig S_ :=
  (SemArray.slice cc0_scratch3 (semR c s j)).squeeze S_ squeezes_S1x1x1_S_

theorem wordsAccM (c : Fin 4) : (accM c).view.WordExact := (harg8.wordExact_slice rfl _ (wordsAcc c)).reshape _ _
theorem wordsCommM (c : Fin 4) (s : Fin 9) (j : Fin 3) : (commM c s j).view.WordExact :=
  (harg9.wordExact_slice rfl _ (wordsComm c s j)).reshape _ _

/-- The barrier semaphore. -/
abbrev barM : Sems sig S_ := SemArray.scalar (sig.barrier 0 rfl)

/-! ## The pure steps -/

/-- One device's contribution to a layer for one chunk of rows: the rows by its columns of the first weight, the
    negative entries dropped, by its rows of the second weight; rounded where the kernel rounds. -/
def contrib (W : FVec F S256x512 .bf16) (U : FVec F S512x256 .bf16) (v : FVec F S64x256 .bf16) : FVec F S64x256 .bf16 :=
  truncf .bf16 (matmul dot_S64x512_S512x256_S64x256_1_0_0_1_n_n none
    (truncf .bf16 (maximumf (matmul dot_S64x256_S256x512_S64x512_1_0_0_1_n_n none v W (constant S64x512 .f32 0x00000000#32))
      (broadcast S64x512 (Scalar.ofBits .f32 0x00000000#32))) bitsLt_bf16_f32) U (constant S64x256 .f32 0x00000000#32)) bitsLt_bf16_f32

/-- A chunk as the accumulator's buffer holds it, and back. -/
abbrev toAcc (v : FVec F S64x256 .bf16) : FVec F S1x64x256 .bf16 := shapeCast S1x64x256 v shapeCasts_S64x256_S1x64x256
abbrev ofAcc (v : Vec F S1x64x256 .bf16) : FVec F S64x256 .bf16 := shapeCast S64x256 v shapeCasts_S1x64x256_S64x256
abbrev ofComm (v : Vec F S1x1x1x64x256 .bf16) : FVec F S64x256 .bf16 := shapeCast S64x256 v shapeCasts_S1x1x1x64x256_S64x256

/-! ## The steps of the program -/

/-- Load a chunk of the accumulator. -/
def loadAcc (c : Fin 4) : Prog (Eff F) (Vec F S1x64x256 .bf16) :=
  Prog.lift (.load accW (accR c).toLoadRect (View.loadsAt_vmem h_S1x64x256))

/-- Load a received chunk. -/
def loadComm (c : Fin 4) (s : Fin 9) (j : Fin 3) : Prog (Eff F) (Vec F S1x1x1x64x256 .bf16) :=
  Prog.lift (.load commW (commR c s j).toLoadRect (View.loadsAt_vmem h_S1x1x1x64x256))

/-- Replace a chunk of the accumulator (the printed store reads it first). -/
def putAcc (c : Fin 4) (v : FVec F S64x256 .bf16) : Prog (Eff F) PUnit := do
  let _ ← loadAcc c
  Prog.lift (.store accW (accR c) (toAcc v) Finset.univ
    (View.stores_vmem h_S1x64x256 (harg8.storeExact_slice rfl _ (packedAcc c)) (fun _ => rfl)) (.inl rfl))

/-- Start one copy of a chunk to a device. -/
def startOne (c : Fin 4) (s : Fin 9) (j : Fin 3) (q : Dev nD) : Prog (Eff F) PUnit :=
  Prog.lift (.enqueueDma (accM c) (.remote (Dev.tc q) (commM c s j) (.dma (sendM c s j).sem)) (.dma (recvM c s j).sem)
    (wordsAccM c) (wordsCommM c s j) ⟨⟨rfl, Or.inl rfl⟩, trivial⟩)

/-- Start the copies of chunk `c` in slot `s`. -/
def startAll (dv : Fin 3 → Dev nD) (c : Fin 4) (s : Fin 9) : List (Fin 3) → Prog (Eff F) PUnit
  | [] => pure ⟨⟩
  | j :: js => do startOne c s j (dv j); startAll dv c s js

/-- Wait for the copies of chunk `c` in slot `s`: each one's departure, then its arrival. -/
def waitAll (c : Fin 4) (s : Fin 9) : List (Fin 3) → Prog (Eff F) PUnit
  | [] => pure ⟨⟩
  | j :: js => do
    Prog.lift (.waitDma2 (sendM c s j).sem (commM c s j) (accM c) (wordsCommM c s j) (wordsAccM c))
    Prog.lift (.waitDma2 (recvM c s j).sem (accM c) (commM c s j) (wordsAccM c) (wordsCommM c s j))
    waitAll c s js

/-- Read the received chunks and add them to a value. -/
def addComm (c : Fin 4) (s : Fin 9) : List (Fin 3) → FVec F S64x256 .bf16 → Prog (Eff F) (FVec F S64x256 .bf16)
  | [], v => pure v
  | j :: js, v => do
    let w ← loadComm c s j
    addComm c s js (addf v (ofComm w))

/-- The signals of the barrier. -/
def signalAll (dv : Fin 7 → Dev nD) : List (Fin 7) → Prog (Eff F) PUnit
  | [] => pure ⟨⟩
  | d :: ds => do semSignalWord (dv d) barM.sem 1#32; signalAll dv ds

/-- The copy of the finished chunk to the output's rows (the printed store reads them first). -/
def putOut (o : Memref sig .tc .vmem S256x256 .f32) (c : Fin 4) : Prog (Eff F) PUnit := do
  let v ← loadAcc c
  let _ : Vec F S64x256 .f32 ← Prog.lift (.load o (rowR c).toLoadRect (View.loadsAt_vmem h_S64x256))
  Prog.lift (.store o (rowR c) (extf .f32 (ofAcc v) bitsLt_bf16_f32) Finset.univ (View.stores_vmem_bits_univ h_S64x256 rfl) (.inl rfl))

/-- What follows the sum of slot `s` for chunk `c`: the next slot's copies, of the sum within a layer, of the next
    layer's contribution at its end; the output at the end. -/
def next (dv : Fin 9 → Fin 4 → Fin 3 → Dev nD) (Ws : Fin 3 → FVec F S256x512 .bf16) (Us : Fin 3 → FVec F S512x256 .bf16)
    (o : Memref sig .tc .vmem S256x256 .f32) (c : Fin 4) (s : Fin 9) : Prog (Eff F) PUnit :=
  if h : s.val + 1 < 9 then
    if h' : s.val % 3 < 2 then startAll (dv ⟨s.val + 1, h⟩ c) c ⟨s.val + 1, h⟩ (copies c ⟨s.val + 1, h⟩)
    else do
      let v ← loadAcc c
      putAcc c (contrib (Ws ⟨(s.val + 1) / 3, by omega⟩) (Us ⟨(s.val + 1) / 3, by omega⟩) (ofAcc v))
      startAll (dv ⟨s.val + 1, h⟩ c) c ⟨s.val + 1, h⟩ (copies c ⟨s.val + 1, h⟩)
  else putOut o c

/-- One step: wait for the copies, add what they brought, go on. -/
def stepAt (dv : Fin 9 → Fin 4 → Fin 3 → Dev nD) (Ws : Fin 3 → FVec F S256x512 .bf16) (Us : Fin 3 → FVec F S512x256 .bf16)
    (o : Memref sig .tc .vmem S256x256 .f32) (c : Fin 4) (s : Fin 9) : Prog (Eff F) PUnit := do
  waitAll c s (copies c s)
  let v ← loadAcc c
  let w ← addComm c s (copies c s) (ofAcc v)
  putAcc c w
  next dv Ws Us o c s

/-- The steps in order. -/
def steps (dv : Fin 9 → Fin 4 → Fin 3 → Dev nD) (Ws : Fin 3 → FVec F S256x512 .bf16) (Us : Fin 3 → FVec F S512x256 .bf16)
    (o : Memref sig .tc .vmem S256x256 .f32) : List (Fin 9 × Fin 4) → Prog (Eff F) PUnit
  | [] => pure ⟨⟩
  | p :: ps => do stepAt dv Ws Us o p.2 p.1; steps dv Ws Us o ps

/-- The first layer's contributions and their copies. -/
def begins (dv : Fin 9 → Fin 4 → Fin 3 → Dev nD) (W : FVec F S256x512 .bf16) (U : FVec F S512x256 .bf16)
    (x : Memref sig .tc .vmem S256x256 .bf16) : List (Fin 4) → Prog (Eff F) PUnit
  | [] => pure ⟨⟩
  | c :: cs => do
    let v : Vec F S64x256 .bf16 ← Prog.lift (.load x (rowR c).toLoadRect (View.loadsAt_vmem h_S64x256))
    putAcc c (contrib W U (shapeCast S64x256 v shapeCasts_S64x256_S64x256))
    startAll (dv 0 c) c 0 (copies c 0)
    begins dv W U x cs

/-- The order of the steps. -/
def order : List (Fin 9 × Fin 4) := (List.finRange 9).flatMap fun s => (List.finRange 4).map fun c => (s, c)

/-- A first weight's block, and a second weight's, loaded. -/
def loadW (w : Memref sig .tc .vmem S256x512 .bf16) : Prog (Eff F) (FVec F S256x512 .bf16) := do
  let v : Vec F S256x512 .bf16 ← Prog.lift (.load w (Rect.unit (s := S256x512) ![0, 0] S256x512.size inb_S256x512_S256x512_0_0).toLoadRect (View.loadsAt_vmem h_S256x512))
  pure (shapeCast S256x512 v shapeCasts_S256x512_S256x512)

def loadU (u : Memref sig .tc .vmem S512x256 .bf16) : Prog (Eff F) (FVec F S512x256 .bf16) := do
  let v : Vec F S512x256 .bf16 ← Prog.lift (.load u (Rect.unit (s := S512x256) ![0, 0] S512x256.size inb_S512x256_S512x256_0_0).toLoadRect (View.loadsAt_vmem h_S512x256))
  pure (shapeCast S512x256 v shapeCasts_S512x256_S512x256)

/-- The body. -/
def prog (sg : Fin 7 → Dev nD → Dev nD) (dv : Fin 9 → Fin 4 → Fin 3 → Dev nD → Dev nD)
    (x : Memref sig .tc .vmem S256x256 .bf16) (w : Fin 3 → Memref sig .tc .vmem S256x512 .bf16)
    (u : Fin 3 → Memref sig .tc .vmem S512x256 .bf16) (o : Memref sig .tc .vmem S256x256 .f32) : Prog (Eff F) PUnit := do
  let k : Dev nD ← Prog.lift .deviceId
  signalAll (fun d => sg d k) [0, 1, 2, 3, 4, 5, 6]
  semWaitWord barM.sem 7#32
  let W0 ← loadW (w 0)
  let U0 ← loadU (u 0)
  let W1 ← loadW (w 1)
  let U1 ← loadU (u 1)
  let W2 ← loadW (w 2)
  let U2 ← loadU (u 2)
  begins (fun s c j => dv s c j k) W0 U0 x [0, 1, 2, 3]
  steps (fun s c j => dv s c j k) ![W0, W1, W2] ![U0, U1, U2] o order

/-! ## The printed body is this program -/

section Body
variable (a0 : Memref sig .tc .vmem S256x256 .bf16) (h0 : a0.IsWhole) (a1 : Memref sig .tc .vmem S256x512 .bf16) (h1 : a1.IsWhole)
  (a2 : Memref sig .tc .vmem S512x256 .bf16) (h2 : a2.IsWhole) (a3 : Memref sig .tc .vmem S256x512 .bf16) (h3 : a3.IsWhole)
  (a4 : Memref sig .tc .vmem S512x256 .bf16) (h4 : a4.IsWhole) (a5 : Memref sig .tc .vmem S256x512 .bf16) (h5 : a5.IsWhole)
  (a6 : Memref sig .tc .vmem S512x256 .bf16) (h6 : a6.IsWhole) (a7 : Memref sig .tc .vmem S256x256 .f32) (h7 : a7.IsWhole)

/-- The printed body is the program over the printed device numbers. -/
theorem body_eq_tab :
    cc0_body (F := F) a0 h0 a1 h1 a2 h2 a3 h3 a4 h4 a5 h5 a6 h6 a7 h7 accW harg8 commW harg9 cc0_scratch2 cc0_scratch3
      = prog (fun d k => ⟨sigTab d k, sigTab_lt d k⟩) (fun s c j k => ⟨devTab s c j k, devTab_lt s c j k⟩)
        a0 ![a1, a3, a5] ![a2, a4, a6] a7 := by
  chain_rfl

/-- The printed body is the program over the peers. -/
theorem body_eq :
    cc0_body (F := F) a0 h0 a1 h1 a2 h2 a3 h3 a4 h4 a5 h5 a6 h6 a7 h7 accW harg8 commW harg9 cc0_scratch2 cc0_scratch3
      = prog peer (fun s c j k => peer (dirOf c s j) k) a0 ![a1, a3, a5] ![a2, a4, a6] a7 := by
  rw [body_eq_tab]
  congr 1
  · funext d k; exact Fin.ext (sigTab_eq d k)
  · funext s c j k; exact Fin.ext (devTab_eq s c j k)

end Body

end Cert.KernelIdeal.Own

end
-- ==== Proof.Protocol.lean ====
/- The protocol of the kernel's copies: one cell per semaphore, one round per cell. A device's barrier cell is paid by
   its seven peers, each handing over the slots of its receive buffer the device will write; a copy's departure gives
   back the sender's share of the chunk, its arrival the slot with the sender's chunk in it. -/
module

public import proofs.«01_k».proof.Proof.Program
public import Idealize.ShloMosaic.Lib.Pipeline.Launch
public import Idealize.ShloMosaic.Lib.Pipeline.Kit
public import Idealize.ShloMosaic.Lib.VecWindow
public import Idealize.ShloMosaic.Lib.Ring.Trips
public import Idealize.ShloMosaic.Lib.Ring.FamCut
public import Idealize.ShloMosaic.Lib.Tactic

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's cells and the kernel's own, whose duties are numbered by direction. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Directions and slots -/

/-- The direction that leads back. -/
def inv (d : Fin 7) : Fin 7 := ![0, 3, 2, 1, 6, 5, 4] d

theorem inv_inv : ∀ d : Fin 7, inv (inv d) = d := by decide
theorem peer_inv : ∀ (d : Fin 7) (k : Dev nD), peer (inv d) (peer d k) = k := by decide +kernel
theorem inv_peer (d : Fin 7) (k : Dev nD) : peer d (peer (inv d) k) = k := by
  have h := peer_inv (inv d) k; rwa [inv_inv] at h

/-- Stepping in direction `d` permutes the devices. -/
def peerEquiv (d : Fin 7) : Dev nD ≃ Dev nD := ⟨peer d, peer (inv d), peer_inv d, inv_peer d⟩

theorem peer_eq_iff {d : Fin 7} {k q : Dev nD} : peer d k = q ↔ k = peer (inv d) q :=
  ⟨fun h => by rw [← h, peer_inv], fun h => by rw [h, inv_peer]⟩

/-- A copy's place: chunk, slot, which of the slot's copies. -/
abbrev Slot : Type := Fin 4 × Fin 9 × Fin 3

/-- The places the kernel copies to, and the direction of each copy. -/
def used (p : Slot) : Prop := p.2.2 ∈ copies p.1 p.2.1
instance : DecidablePred used := fun p => by unfold used; infer_instance
abbrev dir (p : Slot) : Fin 7 := dirOf p.1 p.2.1 p.2.2

abbrev slotM (p : Slot) : Memref sig .tc .vmem S64x256 .bf16 := commM p.1 p.2.1 p.2.2
abbrev sendS (p : Slot) : DmaSem sig := (sendM p.1 p.2.1 p.2.2).sem
abbrev recvS (p : Slot) : DmaSem sig := (recvM p.1 p.2.1 p.2.2).sem

/-! ## Cells -/

/-- The kernel's own semaphores: a departure's (`true`) and an arrival's (`false`) per place. -/
abbrev Own : Type := Bool × Slot
/-- All it uses: `none` is the barrier's. -/
abbrev CI : Type := Option Own

def osem (i : Own) : SemLoc sig := .dma (if i.1 then sendS i.2 else recvS i.2)
def csem : CI → SemLoc sig
  | none => .reg barM.sem
  | some i => osem i

abbrev kcell (i : Dev nD × CI) : GSem nD τ sig := ((i.1 : Thread nD τ), csem i.2)
abbrev barCell (k : Dev nD) : GSem nD τ sig := ((k : Thread nD τ), .reg barM.sem)
abbrev sendCell (k : Dev nD) (p : Slot) : GSem nD τ sig := ((k : Thread nD τ), .dma (sendS p))
abbrev recvCell (k : Dev nD) (p : Slot) : GSem nD τ sig := ((k : Thread nD τ), .dma (recvS p))

theorem sendS_val : ∀ p : Slot, (sendS p).val = 8 + (27 * p.1.val + 3 * p.2.1.val + p.2.2.val) := by decide +kernel
theorem recvS_val : ∀ p : Slot, (recvS p).val = 116 + (27 * p.1.val + 3 * p.2.1.val + p.2.2.val) := by decide +kernel

/-- The number of an own semaphore in the pool. -/
def ownVal (i : Own) : ℕ := (if i.1 then 8 else 116) + (27 * i.2.1.val + 3 * i.2.2.1.val + i.2.2.2.val)

theorem osem_val (i : Own) : ∃ q : DmaSem sig, osem i = .dma q ∧ q.val = ownVal i := by
  obtain ⟨b, p⟩ := i
  cases b
  · exact ⟨recvS p, rfl, by rw [recvS_val]; rfl⟩
  · exact ⟨sendS p, rfl, by rw [sendS_val]; rfl⟩

theorem ownVal_injective : Function.Injective ownVal := by
  rintro ⟨b, c, s, j⟩ ⟨b', c', s', j'⟩ h
  have hc := c.isLt; have hs := s.isLt; have hj := j.isLt
  have hc' := c'.isLt; have hs' := s'.isLt; have hj' := j'.isLt
  simp only [ownVal] at h
  have key : b = b' ∧ c.val = c'.val ∧ s.val = s'.val ∧ j.val = j'.val := by
    cases b <;> cases b' <;> simp at h ⊢ <;> omega
  obtain ⟨rfl, h1, h2, h3⟩ := key
  obtain rfl := Fin.ext h1; obtain rfl := Fin.ext h2; obtain rfl := Fin.ext h3
  rfl

theorem osem_injective : Function.Injective osem := fun i i' h => by
  obtain ⟨q, hq, hv⟩ := osem_val i
  obtain ⟨q', hq', hv'⟩ := osem_val i'
  rw [hq, hq'] at h
  injection h with h
  exact ownVal_injective (by rw [← hv, ← hv', h])

theorem osem_ne_bar (i : Own) : osem i ≠ .reg barM.sem := fun h => by
  obtain ⟨q, hq, -⟩ := osem_val i; rw [hq] at h; cases h

theorem csem_injective : Function.Injective csem
  | none, none, _ => rfl
  | none, some i, h => absurd h.symm (osem_ne_bar i)
  | some i, none, h => absurd h (osem_ne_bar i)
  | some i, some i', h => congrArg some (osem_injective h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which cell a semaphore is. -/
def kindOf (sm : SemLoc sig) : Option CI := Function.partialInv csem sm

theorem kindOf_csem (i : CI) : kindOf (csem i) = some i := Function.partialInv_left csem_injective i
theorem kindOf_bar : kindOf (.reg barM.sem) = some none := kindOf_csem none
theorem kindOf_send (p : Slot) : kindOf (.dma (sendS p)) = some (some (true, p)) := kindOf_csem (some (true, p))
theorem kindOf_recv (p : Slot) : kindOf (.dma (recvS p)) = some (some (false, p)) := kindOf_csem (some (false, p))

/-- The staging buffers' semaphores are none of them. -/
theorem kindOf_stage (q : DmaSem sig) (hq : q.val < 8) : kindOf (.dma q) = none := by
  unfold kindOf Function.partialInv
  refine dif_neg ?_
  rintro ⟨i, hi⟩
  cases i with
  | none => cases hi
  | some i =>
    obtain ⟨q', hq', hv⟩ := osem_val i
    rw [show csem (some i) = osem i from rfl, hq'] at hi
    injection hi with hi
    rw [hi] at hv
    unfold ownVal at hv
    split at hv <;> omega

/-! ## Contents and shares -/

/-- One copy's credit. -/
abbrev N : ℕ := (accM 0).view.dmaCredit
theorem N_pos : 0 < N := View.dmaCredit_pos _ (by decide)
theorem credit_acc (c : Fin 4) : (accM c).view.dmaCredit = N := rfl
theorem credit_slot (p : Slot) : (slotM p).view.dmaCredit = N := rfl

/-- Device `k` holds a share of a chunk-sized buffer with value `v` in it. -/
def holds (k : Dev nD) (M : Memref sig .tc .vmem S64x256 .bf16) (q : PosShare TreeShare) (v : FVec F S64x256 .bf16) : sProp 𝕄 :=
  M.view.loc (k : Thread nD τ) ↦[M.view.set]{q} M.view.rep v

/-- Device `k` holds one with anything in it. -/
def some' (k : Dev nD) (M : Memref sig .tc .vmem S64x256 .bf16) : sProp 𝕄 :=
  iprop(∃ f : Buf (Elt F) (M.view.loc (k : Thread nD τ)), M.view.loc (k : Thread nD τ) ↦[M.view.set]{fullShare} f)

omit [FloatOps F] in
instance holds_storable (k : Dev nD) (M : Memref sig .tc .vmem S64x256 .bf16) (q : PosShare TreeShare) (v : FVec F S64x256 .bf16) :
    BI.Storable (upEmb : UEmb _ 𝕄) (holds k M q v) := by unfold holds; infer_instance
omit [FloatOps F] in
instance some'_storable (k : Dev nD) (M : Memref sig .tc .vmem S64x256 .bf16) :
    BI.Storable (upEmb : UEmb _ 𝕄) (some' (F := F) k M) := by unfold some'; infer_instance

/-- The share of the chunk a copy takes: all of it if it is the slot's only one, a third otherwise. -/
def shareOf (p : Slot) : PosShare TreeShare :=
  if (p.2.1.val + p.1.val) % 3 = 0 then fullShare else Ring.shares3 fullShare p.2.2

/-! ## The schedule -/

variable (A : Fin 9 → Fin 4 → Dev nD → FVec F S64x256 .bf16)

/-- What device `k`'s peer in direction `e` hands over at the barrier: the slots of its receive buffer `k` writes. -/
def barPay (k : Dev nD) (e : Fin 7) : sProp 𝕄 :=
  bigSep (Finset.univ.filter fun p : Slot => used p ∧ dir p = e) fun p => some' (peer e k) (slotM p)
/-- What an arrival brings: the slot with the sender's chunk in it; -/
def recvPay (k : Dev nD) (p : Slot) : sProp 𝕄 := holds k (slotM p) fullShare (A p.2.1 p.1 (peer (inv (dir p)) k))
/-- what a departure gives back: the share of the sender's chunk. -/
def sendPay (k : Dev nD) (p : Slot) : sProp 𝕄 := holds k (accM p.1) (shareOf p) (A p.2.1 p.1 k)

/-- The duties of a cell's one round, by its kind. -/
def dutiesOf : Option CI → Finset (Fin 7)
  | some none => Finset.univ
  | some (some i) => if used i.2 then {0} else ∅
  | none => ∅

def amountAt : Option CI → ℕ
  | some none => 1
  | some (some _) => N
  | none => N

def payAt (k : Dev nD) (d : Fin 7) : Option CI → sProp 𝕄
  | some none => barPay k d
  | some (some (true, p)) => sendPay A k p
  | some (some (false, p)) => recvPay A k p
  | none => iprop(emp)

/-- The schedule: one round per cell. -/
def rd : Rounds.Schedule (GSem nD τ sig) (Fin 7) 𝕄 where
  duties g r := if r = 0 then dutiesOf (kindOf g.2) else ∅
  unitless _ := False
  amount g _ _ := amountAt (kindOf g.2)
  payload g _ d := payAt A g.1.1 d (kindOf g.2)
  amount_pos g _ _ _ := by
    unfold amountAt
    split
    · exact Nat.one_pos
    · exact N_pos
    · exact N_pos

instance rd_payload_storable (g : GSem nD τ sig) (r : ℕ) (d : Fin 7) :
    BI.Storable (upEmb : UEmb _ 𝕄) ((rd A).payload g r d) := by
  show BI.Storable upEmb (payAt A g.1.1 d (kindOf g.2))
  unfold payAt barPay recvPay sendPay
  split <;> infer_instance

section Sched
variable (k : Dev nD) (p : Slot)

theorem duties_bar : (rd A).duties (barCell k) 0 = Finset.univ := by dsimp only [rd]; rw [if_pos rfl, kindOf_bar]; rfl
theorem duties_send (h : used p) : (rd A).duties (sendCell k p) 0 = {0} := by
  dsimp only [rd]; rw [if_pos rfl, kindOf_send]; exact if_pos h
theorem duties_recv (h : used p) : (rd A).duties (recvCell k p) 0 = {0} := by
  dsimp only [rd]; rw [if_pos rfl, kindOf_recv]; exact if_pos h
theorem duties_later (g : GSem nD τ sig) : ∀ r, 1 ≤ r → (rd A).duties g r = ∅ :=
  fun r hr => by dsimp only [rd]; rw [if_neg (by omega)]
/-- A place the kernel does not copy to has no duty on either cell. -/
theorem duties_unused (b : Bool) (h : ¬ used p) : ∀ r, 0 ≤ r → (rd A).duties (kcell (k, some (b, p))) r = ∅ := fun r _ => by
  dsimp only [rd]
  rw [kindOf_csem]
  split
  · exact if_neg h
  · rfl

theorem amount_bar (d : Fin 7) : (rd A).amount (barCell k) 0 d = 1 := by dsimp only [rd]; rw [kindOf_bar]; rfl
theorem amount_send (d : Fin 7) : (rd A).amount (sendCell k p) 0 d = N := by dsimp only [rd]; rw [kindOf_send]; rfl
theorem amount_recv (d : Fin 7) : (rd A).amount (recvCell k p) 0 d = N := by dsimp only [rd]; rw [kindOf_recv]; rfl

theorem expect_bar : (rd A).expect (barCell k) 0 = 7 := by
  unfold Schedule.expect Schedule.amountOf
  rw [duties_bar, Finset.sum_congr rfl fun d _ => amount_bar A k d, Finset.sum_const, Finset.card_univ, Fintype.card_fin, smul_eq_mul]
theorem expect_send (h : used p) : (rd A).expect (sendCell k p) 0 = N := by
  unfold Schedule.expect Schedule.amountOf; rw [duties_send A k p h, Finset.sum_singleton, amount_send]
theorem expect_recv (h : used p) : (rd A).expect (recvCell k p) 0 = N := by
  unfold Schedule.expect Schedule.amountOf; rw [duties_recv A k p h, Finset.sum_singleton, amount_recv]

theorem payload_bar (d : Fin 7) : (rd A).payload (barCell k) 0 d = barPay k d := by dsimp only [rd]; rw [kindOf_bar]; rfl
theorem payload_send (d : Fin 7) : (rd A).payload (sendCell k p) 0 d = sendPay A k p := by dsimp only [rd]; rw [kindOf_send]; rfl
theorem payload_recv (d : Fin 7) : (rd A).payload (recvCell k p) 0 d = recvPay A k p := by dsimp only [rd]; rw [kindOf_recv]; rfl

theorem rest_bar : bigSep ((rd A).duties (barCell k) 0 \ ∅) (fun d => (rd A).payload (barCell k) 0 d)
    = bigSep Finset.univ fun d : Fin 7 => barPay (F := F) k d := by
  rw [Finset.sdiff_empty, duties_bar]; exact bigSep_congr fun d _ => payload_bar A k d
theorem rest_send (h : used p) : bigSep ((rd A).duties (sendCell k p) 0 \ ∅) (fun d => (rd A).payload (sendCell k p) 0 d) = sendPay A k p := by
  rw [Finset.sdiff_empty, duties_send A k p h, bigSep_singleton, payload_send]
theorem rest_recv (h : used p) : bigSep ((rd A).duties (recvCell k p) 0 \ ∅) (fun d => (rd A).payload (recvCell k p) 0 d) = recvPay A k p := by
  rw [Finset.sdiff_empty, duties_recv A k p h, bigSep_singleton, payload_recv]

end Sched

/-! ## What a device owes -/

/-- The arrivals a device owes for a list of copies still to start, the first one last in the sum. -/
def owedL (k : Dev nD) : List Slot → CellTallies nD τ sig Unit
  | [] => 0
  | p :: ps => owedL k ps + tallyAt (recvCell (peer (dir p) k) p) () N

/-- The barrier units it owes for a list of signals still to send, over what else it owes. -/
def owedB (k : Dev nD) (B : CellTallies nD τ sig Unit) : List (Fin 7) → CellTallies nD τ sig Unit
  | [] => B
  | d :: ds => owedB k B ds + tallyAt (barCell (peer d k)) () 1

/-- The places of one slot's copies; those the steps of a list start; all of them. -/
def placesOf (c : Fin 4) (s : Fin 9) : List (Fin 3) → List Slot
  | [] => []
  | j :: js => (c, s, j) :: placesOf c s js
def sendsOf : List (Fin 9 × Fin 4) → List Slot
  | [] => []
  | p :: ps => (if h : p.1.val + 1 < 9 then placesOf p.2 ⟨p.1.val + 1, h⟩ (copies p.2 ⟨p.1.val + 1, h⟩) else []) ++ sendsOf ps
def sendsB (rest : List Slot) : List (Fin 4) → List Slot
  | [] => rest
  | c :: cs => placesOf c 0 (copies c 0) ++ sendsB rest cs
def sends : List Slot := sendsB (sendsOf order) [0, 1, 2, 3]

def allDirs : List (Fin 7) := [0, 1, 2, 3, 4, 5, 6]

/-- What a device owes at launch. -/
def O₀ (k : Dev nD) : CellTallies nD τ sig Unit := owedB k (owedL k sends) allDirs

theorem sends_count : ∀ p : Slot, sends.count p = if used p then 1 else 0 := by decide +kernel

theorem recv_inj {k k' : Dev nD} {p p' : Slot} (h : recvCell k p = recvCell k' p') : k = k' ∧ p = p' := by
  have h' := kcell_injective (a₁ := (k, some (false, p))) (a₂ := (k', some (false, p'))) h
  injection h' with h1 h2
  injection h2 with h2
  injection h2 with _ h3
  exact ⟨h1, h3⟩
theorem bar_inj {k k' : Dev nD} (h : barCell k = barCell k') : k = k' := congrArg (fun g : GSem nD τ sig => g.1.1) h
theorem bar_ne_recv (k k' : Dev nD) (p : Slot) : barCell k ≠ recvCell k' p := fun h => by have := congrArg Prod.snd h; cases this

theorem owedL_pos {k : Dev nD} {g : GSem nD τ sig} {u : Unit} : ∀ {ps : List Slot}, 0 < owedL k ps g u →
    ∃ p ∈ ps, g = recvCell (peer (dir p) k) p
  | [], h => absurd h (Nat.lt_irrefl 0)
  | p :: ps, h => by
    unfold owedL at h
    rw [Pi.add_apply, Finsupp.add_apply, tallyAt_apply] at h
    by_cases hg : g = recvCell (peer (dir p) k) p
    · exact ⟨p, List.mem_cons_self, hg⟩
    · rw [if_neg (fun h' => hg h'.1)] at h
      obtain ⟨p', hp', h'⟩ := owedL_pos (ps := ps) h
      exact ⟨p', List.mem_cons_of_mem _ hp', h'⟩

theorem owedB_pos {k : Dev nD} {B : CellTallies nD τ sig Unit} {g : GSem nD τ sig} {u : Unit} :
    ∀ {ds : List (Fin 7)}, 0 < owedB k B ds g u → 0 < B g u ∨ ∃ d, g = barCell (peer d k)
  | [], h => .inl h
  | d :: ds, h => by
    unfold owedB at h
    rw [Pi.add_apply, Finsupp.add_apply, tallyAt_apply] at h
    by_cases hg : g = barCell (peer d k)
    · exact .inr ⟨d, hg⟩
    · rw [if_neg (fun h' => hg h'.1)] at h
      exact owedB_pos (ds := ds) h

/-- All devices together owe a place's arrival its credit once for each time the place is in the list, -/
theorem sum_owedL_recv (q : Dev nD) (p : Slot) : ∀ ps : List Slot, ∑ k : Dev nD, owedL k ps (recvCell q p) () = N * ps.count p
  | [] => by simp [owedL]
  | p' :: ps => by
    have ih := sum_owedL_recv q p ps
    have hstep : ∀ k : Dev nD, owedL k (p' :: ps) (recvCell q p) ()
        = owedL k ps (recvCell q p) () + (if k = peer (inv (dir p')) q then (if p' = p then N else 0) else 0) := fun k => by
      show (owedL k ps + tallyAt (recvCell (peer (dir p') k) p') () N) (recvCell q p) () = _
      rw [Pi.add_apply, Finsupp.add_apply, tallyAt_apply]
      refine congrArg (HAdd.hAdd _) ?_
      by_cases hk : k = peer (inv (dir p')) q
      · by_cases hp : p' = p
        · rw [if_pos hk, if_pos hp, if_pos ⟨by rw [hk, hp, inv_peer], rfl⟩]
        · rw [if_pos hk, if_neg hp, if_neg]; exact fun h => hp (recv_inj h.1).2.symm
      · rw [if_neg hk, if_neg]; exact fun h => hk (peer_eq_iff.mp (recv_inj h.1).1.symm)
    rw [Finset.sum_congr rfl fun k _ => hstep k, Finset.sum_add_distrib, ih, Finset.sum_ite_eq' Finset.univ _ fun _ => _,
      if_pos (Finset.mem_univ _), List.count_cons]
    by_cases hp : p' = p
    · rw [if_pos hp, if_pos (beq_iff_eq.mpr hp), Nat.mul_add, Nat.mul_one]
    · rw [if_neg hp, if_neg (fun h => hp (beq_iff_eq.mp h)), Nat.add_zero, Nat.add_zero]

/-- and nothing at a barrier's cell. -/
theorem owedL_bar (k q : Dev nD) (ps : List Slot) : owedL k ps (barCell q) () = 0 := by
  by_contra h
  obtain ⟨p, -, hp⟩ := owedL_pos (Nat.pos_of_ne_zero h)
  exact bar_ne_recv _ _ _ hp

theorem sum_owedB_bar (B : Dev nD → CellTallies nD τ sig Unit) (q : Dev nD) : ∀ ds : List (Fin 7),
    ∑ k : Dev nD, owedB k (B k) ds (barCell q) () = ds.length + ∑ k : Dev nD, B k (barCell q) ()
  | [] => by simp [owedB]
  | d :: ds => by
    have ih := sum_owedB_bar B q ds
    have hstep : ∀ k : Dev nD, owedB k (B k) (d :: ds) (barCell q) ()
        = owedB k (B k) ds (barCell q) () + (if k = peer (inv d) q then 1 else 0) := fun k => by
      show (owedB k (B k) ds + tallyAt (barCell (peer d k)) () 1) (barCell q) () = _
      rw [Pi.add_apply, Finsupp.add_apply, tallyAt_apply]
      refine congrArg (HAdd.hAdd _) ?_
      by_cases hk : k = peer (inv d) q
      · rw [if_pos hk, if_pos ⟨by rw [hk, inv_peer], rfl⟩]
      · rw [if_neg hk, if_neg]; exact fun h => hk (peer_eq_iff.mp (bar_inj h.1).symm)
    rw [Finset.sum_congr rfl fun k _ => hstep k, Finset.sum_add_distrib, ih, Finset.sum_ite_eq' Finset.univ _ fun _ => _,
      if_pos (Finset.mem_univ _), List.length_cons]
    omega

theorem owedB_recv (k q : Dev nD) (B : CellTallies nD τ sig Unit) (p : Slot) : ∀ ds : List (Fin 7),
    owedB k B ds (recvCell q p) () = B (recvCell q p) ()
  | [] => rfl
  | d :: ds => by
    unfold owedB
    rw [Pi.add_apply, Finsupp.add_apply, tallyAt_ne_cell (fun h => bar_ne_recv _ _ _ h.symm), Finsupp.zero_apply, Nat.add_zero]
    exact owedB_recv k q B p ds

/-! ## Levels -/

def L (g : GSem nD τ sig) : Finset Unit := if g.1.2 = .tc then {()} else ∅

/-- A barrier cell is at level 1, an arrival of slot `s` at `2 + s`, everything else at 0. -/
def lvOf : Option CI → ℕ
  | some none => 1
  | some (some (false, p)) => 2 + p.2.1.val
  | some (some (true, _)) => 0
  | none => 0
def lv (g : GSem nD τ sig) (_ : Unit) : ℕ := lvOf (kindOf g.2)

theorem L_of_ne (g : GSem nD τ sig) (h : g.1.2 ≠ .tc) : L g = ∅ := if_neg h
theorem L_tc (k : Dev nD) (sm : SemLoc sig) : L ((k : Thread nD τ), sm) = {()} := if_pos rfl
theorem lv_bar (k : Dev nD) (u : Unit) : lv (barCell k) u = 1 := by unfold lv; rw [kindOf_bar]; rfl
theorem lv_send (k : Dev nD) (p : Slot) (u : Unit) : lv (sendCell k p) u = 0 := by unfold lv; rw [kindOf_send]; rfl
theorem lv_recv (k : Dev nD) (p : Slot) (u : Unit) : lv (recvCell k p) u = 2 + p.2.1.val := by unfold lv; rw [kindOf_recv]; rfl
theorem lv_stage (k : Dev nD) (q : DmaSem sig) (hq : q.val < 8) (u : Unit) : lv ((k : Thread nD τ), .dma q) u = 0 := by
  unfold lv; rw [kindOf_stage q hq]; rfl

omit [FloatOps F] in
/-- A device waits on a cell of level at most `b` when the copies it still owes are all of slots past `b`. -/
theorem mayWait_copies (k : Dev nD) (sm : SemLoc sig) (b : ℕ) (ps : List Slot) (hb : lv ((k : Thread nD τ), sm) () ≤ b)
    (hps : ∀ p ∈ ps, b < 2 + p.2.1.val) : (levAts L lv : sProp 𝕄) ⊢ MayWait (k : Thread nD τ) sm () (owedL k ps) :=
  MayOwe.of_cut (L := L) (lev := lv) b (fun p hp => by rw [Finset.mem_singleton.mp hp, L_tc]; exact Finset.mem_singleton_self _)
    (fun g u hg => by obtain ⟨p, -, rfl⟩ := owedL_pos hg; rw [L_tc]; exact Finset.mem_singleton_self _)
    (fun p hp => by rw [Finset.mem_singleton.mp hp]; exact hb)
    (fun g u hg => by obtain ⟨p, hp, rfl⟩ := owedL_pos hg; rw [lv_recv]; exact hps p hp)

omit [FloatOps F] in
/-- A staging buffer's semaphore may be waited on at launch and at the end. -/
theorem mayWait_stage (k : Dev nD) (q : DmaSem sig) (hq : q.val < 8) (O : CellTallies nD τ sig Unit) (hO : O = O₀ k ∨ O = 0) :
    (levAts L lv : sProp 𝕄) ⊢ MayWait (k : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp, lv_stage k q hq]) (fun g u hg => ?_)
    all_goals rcases owedB_pos hg with h | ⟨d, rfl⟩
    · obtain ⟨p, -, rfl⟩ := owedL_pos h; rw [L_tc]; exact Finset.mem_singleton_self _
    · rw [L_tc]; exact Finset.mem_singleton_self _
    · obtain ⟨p, -, rfl⟩ := owedL_pos h; rw [lv_recv]; omega
    · rw [lv_bar]; omega
  · rw [MayWait_zero]; iintro -; iempintro

end Cert.KernelIdeal.Own

end
-- ==== Proof.Views.lean ====
/- Loads and stores of the body in terms of the values chunk-sized buffers hold. -/
module

public import proofs.«01_k».proof.Proof.Protocol

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of device `k`'s TensorCore meets a postcondition. -/
abbrev Run {α : Type} (k : Dev nD) (p : Prog (Eff F) α) (Q : α → sProp 𝕄) : sProp 𝕄 :=
  wp frame (wpE (defs₀ (F := F)) 𝒱₀ (k : Thread nD τ) none) Set.univ p Q

/-- A run of two programs in sequence. -/
theorem run_bind {α β : Type} (k : Dev nD) (p : Prog (Eff F) α) (f : α → Prog (Eff F) β) (Q : β → sProp 𝕄) :
    Run k (p >>= f) Q = Run k p fun a => Run k (f a) Q := wp_bind ..

/-! ## Elements and values -/

theorem set_acc (c : Fin 4) : (accM c).view.set = (accW.access (accR c)).set := Memref.set_view_squeeze _ _
theorem set_slot (p : Slot) : (slotM p).view.set = (commW.access (commR p.1 p.2.1 p.2.2)).set :=
  Memref.set_view_squeeze _ squeezes_S1x1x1x64x256_S64x256

theorem read_acc (c : Fin 4) (f : accW.view.ty.Contents (Elt F)) :
    ofAcc (accW.view.readAt (Elt F) (accR c).toLoadRect f) = (accM c).view.read (Elt F) f := rfl
theorem read_slot (p : Slot) (f : commW.view.ty.Contents (Elt F)) :
    ofComm (commW.view.readAt (Elt F) (commR p.1 p.2.1 p.2.2).toLoadRect f) = (slotM p).view.read (Elt F) f := rfl

theorem ofAcc_toAcc (v : FVec F S64x256 .bf16) : ofAcc (F := F) (toAcc v) = v := by
  funext i
  show v _ = v i
  congr 1
  exact (Shape.reshapeEquiv shapeCasts_S64x256_S1x64x256).apply_symm_apply i

theorem write_acc (c : Fin 4) (f : accW.view.ty.Contents (Elt F)) (v : FVec F S64x256 .bf16) :
    (accM c).view.read (Elt F) ((accW.access (accR c)).write (Elt F) f (toAcc v) Finset.univ) = v := by
  rw [← read_acc, View.readAt_rect]
  show ofAcc ((accW.access (accR c)).read (Elt F) ((accW.access (accR c)).write (Elt F) f (toAcc v) Finset.univ)) = v
  rw [View.read_write_univ]
  exact ofAcc_toAcc v

/-- What is held with a value in it is held. -/
theorem some_of_holds (k : Dev nD) (M : Memref sig .tc .vmem S64x256 .bf16) (v : FVec F S64x256 .bf16) :
    (holds k M fullShare v : sProp 𝕄) ⊢ some' k M := by
  unfold holds some'; iintro H; iexists _; iexact H

/-! ## The accumulator and the receive buffer -/

theorem wp_loadAcc (k : Dev nD) (c : Fin 4) (q : PosShare TreeShare) (v : FVec F S64x256 .bf16)
    (Q : Vec F S1x64x256 .bf16 → sProp 𝕄) :
    iprop(holds k (accM c) q v ∗ (∀ w : Vec F S1x64x256 .bf16, ⌜ofAcc w = v⌝ -∗ holds k (accM c) q v -∗ Q w))
      ⊢ Run k (loadAcc c) Q := by
  unfold holds loadAcc Prog.lift
  iintro ⟨H, Hk⟩
  iapply (wp_load 𝒱₀ (k : Thread nD τ) none Set.univ (m := accW) (r := (accR c).toLoadRect) (S := (accM c).view.set)
    (f := (accM c).view.rep v) (by rw [set_acc, View.set_slice]; exact Finset.Subset.refl _)) $$ H
  iintro H
  rw [wp_ret]
  imodintro
  iapply Hk $$ [] H
  ipureintro
  rw [read_acc, View.read_rep]

theorem wp_loadComm (k : Dev nD) (p : Slot) (q : PosShare TreeShare) (v : FVec F S64x256 .bf16)
    (Q : Vec F S1x1x1x64x256 .bf16 → sProp 𝕄) :
    iprop(holds k (slotM p) q v ∗ (∀ w : Vec F S1x1x1x64x256 .bf16, ⌜ofComm w = v⌝ -∗ holds k (slotM p) q v -∗ Q w))
      ⊢ Run k (loadComm p.1 p.2.1 p.2.2) Q := by
  unfold holds loadComm Prog.lift
  iintro ⟨H, Hk⟩
  iapply (wp_load 𝒱₀ (k : Thread nD τ) none Set.univ (m := commW) (r := (commR p.1 p.2.1 p.2.2).toLoadRect) (S := (slotM p).view.set)
    (f := (slotM p).view.rep v) (by rw [set_slot, View.set_slice]; exact Finset.Subset.refl _)) $$ H
  iintro H
  rw [wp_ret]
  imodintro
  iapply Hk $$ [] H
  ipureintro
  rw [read_slot, View.read_rep]

theorem wp_putAcc (k : Dev nD) (c : Fin 4) (v : FVec F S64x256 .bf16) (Q : PUnit → sProp 𝕄) :
    iprop(some' k (accM c) ∗ (holds k (accM c) fullShare v -∗ Q ⟨⟩)) ⊢ Run k (putAcc c v) Q := by
  unfold some' putAcc loadAcc
  simp only [Prog.lift, Prog.bind_op, Prog.bind_ret, Prog.pure_eq_ret]
  iintro ⟨⟨%f, H⟩, Hk⟩
  iapply (wp_load 𝒱₀ (k : Thread nD τ) none Set.univ (m := accW) (r := (accR c).toLoadRect) (S := (accM c).view.set)
    (f := f) (by rw [set_acc, View.set_slice]; exact Finset.Subset.refl _)) $$ H
  iintro H
  iapply (wp_store 𝒱₀ (k : Thread nD τ) none Set.univ (m := accW) (r := accR c) (Mk := Finset.univ) (S := (accM c).view.set)
    (f := f) (by rw [set_acc]; exact Finset.Subset.refl _)) $$ H
  iintro H
  rw [wp_ret]
  imodintro
  iapply Hk
  unfold holds
  iapply (pointsTo_rep_of_read (k : Thread nD τ) (accM c) _ fullShare v (write_acc c f v)) $$ H

/-! ## The staged inputs and the output -/

abbrev xM : Memref sig .tc .vmem S256x256 .bf16 := Memref.whole cc0_stg0_0
abbrev wM : Fin 3 → Memref sig .tc .vmem S256x512 .bf16 := ![Memref.whole cc0_stg1_0, Memref.whole cc0_stg3_0, Memref.whole cc0_stg5_0]
abbrev uM : Fin 3 → Memref sig .tc .vmem S512x256 .bf16 := ![Memref.whole cc0_stg2_0, Memref.whole cc0_stg4_0, Memref.whole cc0_stg6_0]
abbrev oM : Memref sig .tc .vmem S256x256 .f32 := Memref.whole cc0_stg7_0

/-- The rows of a chunk of `x`, and of the output. -/
def xRows (X : cc0_stg0_0.ty.Contents (Elt F)) (c : Fin 4) : FVec F S64x256 .bf16 :=
  shapeCast S64x256 (xM.view.readAt (Elt F) (rowR c).toLoadRect X) shapeCasts_S64x256_S64x256
def oRows (f : cc0_stg7_0.ty.Contents (Elt F)) (c : Fin 4) : FVec F S64x256 .f32 := (oM.access (rowR c)).read (Elt F) f

/-- A buffer of a device held whole. -/
abbrev wholeAt (k : Dev nD) (b : Ref sig .tc) (X : b.ty.Contents (Elt F)) : sProp 𝕄 := ((k : Thread nD τ).loc b) ↦{fullShare} X

theorem rows_disjoint {c c' : Fin 4} (h : c ≠ c') : Disjoint (oM.access (rowR c)).set (oM.access (rowR c')).set :=
  View.disjoint_slice_of_sep _ _ _ (0 : Fin 2) rfl rfl (by
    show 64 * c.val + 64 ≤ 64 * c'.val ∨ 64 * c'.val + 64 ≤ 64 * c.val
    have : c.val ≠ c'.val := fun h' => h (Fin.ext h')
    omega)

theorem wp_loadX (k : Dev nD) (c : Fin 4) (X : cc0_stg0_0.ty.Contents (Elt F)) {hl : xM.view.LoadsAt (rowR c).toLoadRect}
    (Q : Vec F S64x256 .bf16 → sProp 𝕄) :
    iprop(wholeAt k cc0_stg0_0 X ∗ (∀ w : Vec F S64x256 .bf16, ⌜shapeCast S64x256 w shapeCasts_S64x256_S64x256 = xRows X c⌝ -∗ wholeAt k cc0_stg0_0 X -∗ Q w))
      ⊢ Run k (Prog.lift (.load xM (rowR c).toLoadRect hl)) Q := by
  unfold Prog.lift
  iintro ⟨H, Hk⟩
  iapply (wp_load 𝒱₀ (k : Thread nD τ) none Set.univ (m := xM) (r := (rowR c).toLoadRect) (Finset.subset_univ _)) $$ H
  iintro H
  rw [wp_ret]
  imodintro
  iapply Hk $$ [] H
  ipureintro
  rfl

/-- What a first weight's buffer is loaded as, and a second weight's. -/
def wRead (m : Memref sig .tc .vmem S256x512 .bf16) (X : m.view.ty.Contents (Elt F)) : FVec F S256x512 .bf16 :=
  shapeCast S256x512 (m.view.readAt (Elt F) (Rect.unit (s := S256x512) ![0, 0] S256x512.size inb_S256x512_S256x512_0_0).toLoadRect X)
    shapeCasts_S256x512_S256x512
def uRead (m : Memref sig .tc .vmem S512x256 .bf16) (X : m.view.ty.Contents (Elt F)) : FVec F S512x256 .bf16 :=
  shapeCast S512x256 (m.view.readAt (Elt F) (Rect.unit (s := S512x256) ![0, 0] S512x256.size inb_S512x256_S512x256_0_0).toLoadRect X)
    shapeCasts_S512x256_S512x256

theorem wp_loadW (k : Dev nD) (m : Memref sig .tc .vmem S256x512 .bf16) (X : Buf (Elt F) (m.view.loc (k : Thread nD τ)))
    (Q : FVec F S256x512 .bf16 → sProp 𝕄) :
    iprop((m.view.loc (k : Thread nD τ) ↦{fullShare} X) ∗ ((m.view.loc (k : Thread nD τ) ↦{fullShare} X) -∗ Q (wRead m X)))
      ⊢ Run k (loadW m) Q := by
  unfold loadW wRead
  simp only [Prog.lift, Prog.bind_op, Prog.bind_ret, Prog.pure_eq_ret]
  iintro ⟨H, Hk⟩
  iapply (wp_load 𝒱₀ (k : Thread nD τ) none Set.univ (m := m) (Finset.subset_univ _)) $$ H
  iintro H
  rw [wp_ret]
  imodintro
  iapply Hk $$ H

theorem wp_loadU (k : Dev nD) (m : Memref sig .tc .vmem S512x256 .bf16) (X : Buf (Elt F) (m.view.loc (k : Thread nD τ)))
    (Q : FVec F S512x256 .bf16 → sProp 𝕄) :
    iprop((m.view.loc (k : Thread nD τ) ↦{fullShare} X) ∗ ((m.view.loc (k : Thread nD τ) ↦{fullShare} X) -∗ Q (uRead m X)))
      ⊢ Run k (loadU m) Q := by
  unfold loadU uRead
  simp only [Prog.lift, Prog.bind_op, Prog.bind_ret, Prog.pure_eq_ret]
  iintro ⟨H, Hk⟩
  iapply (wp_load 𝒱₀ (k : Thread nD τ) none Set.univ (m := m) (Finset.subset_univ _)) $$ H
  iintro H
  rw [wp_ret]
  imodintro
  iapply Hk $$ H

theorem wp_putOut (k : Dev nD) (c : Fin 4) (v : FVec F S64x256 .bf16) (f : cc0_stg7_0.ty.Contents (Elt F)) (Q : PUnit → sProp 𝕄) :
    iprop(holds k (accM c) fullShare v ∗ wholeAt k cc0_stg7_0 f
        ∗ (∀ g : cc0_stg7_0.ty.Contents (Elt F), ⌜oRows g c = extf .f32 v bitsLt_bf16_f32 ∧ ∀ c' : Fin 4, c' ≠ c → oRows g c' = oRows f c'⌝
            -∗ holds k (accM c) fullShare v -∗ wholeAt k cc0_stg7_0 g -∗ Q ⟨⟩))
      ⊢ Run k (putOut oM c) Q := by
  unfold putOut
  rw [run_bind]
  iintro ⟨H, Ho, Hk⟩
  iapply (wp_loadAcc k c fullShare v) $$ [-]
  isplitl [H]; · iexact H
  iintro %w %hw H
  simp only [Prog.lift, Prog.bind_op, Prog.bind_ret, Prog.pure_eq_ret]
  iapply (wp_load 𝒱₀ (k : Thread nD τ) none Set.univ (m := oM) (r := (rowR c).toLoadRect) (Finset.subset_univ _)) $$ Ho
  iintro Ho
  iapply (wp_store 𝒱₀ (k : Thread nD τ) none Set.univ (m := oM) (r := rowR c) (Mk := Finset.univ) (Finset.subset_univ _)) $$ Ho
  iintro Ho
  rw [wp_ret]
  imodintro
  iapply Hk $$ [] H Ho
  ipureintro
  rw [hw]
  refine ⟨?_, fun c' hc' => ?_⟩
  · unfold oRows; exact View.read_write_univ _ _
  · unfold oRows
    exact View.read_slice_write_slice_of_disjoint (v := oM.view) (rowR c') (rowR c) f _ Finset.univ (rows_disjoint hc')

end Cert.KernelIdeal.Own

end
-- ==== Proof.Copies.lean ====
/- The copies of one slot: started, waited for, added up. -/
module

public import proofs.«01_k».proof.Proof.Views

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over lists -/

/-- The conjunction of `Φ` over a list. -/
def sepL {I : Type} (Φ : I → sProp 𝕄) : List I → sProp 𝕄
  | [] => iprop(emp)
  | i :: l => iprop(Φ i ∗ sepL Φ l)

omit [FloatOps F] in
theorem sepL_mono {I : Type} {Φ Ψ : I → sProp 𝕄} : ∀ {l : List I}, (∀ i ∈ l, Φ i ⊢ Ψ i) → sepL Φ l ⊢ sepL Ψ l
  | [], _ => BI.Entails.refl _
  | i :: l, h => (sep_mono_left (h i List.mem_cons_self)).trans (sep_mono_right (sepL_mono fun j hj => h j (List.mem_cons_of_mem _ hj)))

omit [FloatOps F] in
theorem sepL_sep {I : Type} (Φ Ψ : I → sProp 𝕄) : ∀ l : List I, sepL (fun i => iprop(Φ i ∗ Ψ i)) l ⊢ iprop(sepL Φ l ∗ sepL Ψ l)
  | [] => by unfold sepL; iintro -; isplitl <;> iempintro
  | i :: l => by
    unfold sepL
    iintro ⟨⟨H1, H2⟩, H⟩
    ihave H' := (sepL_sep Φ Ψ l) $$ H
    icases H' with ⟨H3, H4⟩
    isplitl [H1 H3]
    · isplitl [H1] <;> iassumption
    · isplitl [H2] <;> iassumption

omit [FloatOps F] in
/-- Over a whole finite type, listed. -/
theorem bigSep_sepL {I : Type} [DecidableEq I] [Fintype I] (Φ : I → sProp 𝕄) : ∀ (l : List I) (S : Finset I), l.Nodup → S = l.toFinset →
    bigSep S Φ = sepL Φ l
  | [], S, _, h => by subst h; exact bigSep_empty
  | i :: l, S, hl, h => by
    subst h
    rw [List.toFinset_cons, bigSep_insert (by rw [List.mem_toFinset]; exact (List.nodup_cons.mp hl).1)]
    exact congrArg (fun x => iprop(Φ i ∗ x)) (bigSep_sepL Φ l _ (List.nodup_cons.mp hl).2 rfl)

omit [FloatOps F] in
theorem elim_all {I : Type} [DecidableEq I] [Fintype I] (Φ : I → sProp 𝕄) (i : I) : bigSep Finset.univ Φ ⊢ Φ i := bigSep_elim (Finset.mem_univ i)

/-! ## The records every device keeps -/

variable (A : Fin 9 → Fin 4 → Dev nD → FVec F S64x256 .bf16) (K : Dev nD × CI → ℕ)

/-- Every cell's invariant, under the names `K`, that every cell has reached its round, and the levels. -/
def records : sProp 𝕄 :=
  iprop((bigSep Finset.univ fun i : Dev nD × CI => cellInv ER (rd A) (K i) (kcell i))
    ∗ (bigSep Finset.univ fun i : Dev nD × CI => reached ER (kcell i) 0) ∗ levAts L lv)

instance records_persistent : BI.Persistent (records A K) := by unfold records; infer_instance

theorem inv_at (i : Dev nD × CI) : records A K ⊢ cellInv ER (rd A) (K i) (kcell i) := by
  unfold records
  iintro ⟨#H, -, -⟩
  iapply (elim_all (fun i : Dev nD × CI => cellInv ER (rd A) (K i) (kcell i)) i) $$ H

theorem reached_at (i : Dev nD × CI) : records A K ⊢ reached ER (kcell i) 0 := by
  unfold records
  iintro ⟨-, #H, -⟩
  iapply (elim_all (fun i : Dev nD × CI => reached ER (kcell i) 0) i) $$ H

/-! ## A copy's states -/

/-- Device `k` owes the arrivals of a list of copies. -/
def Owes (k : Dev nD) (ps : List Slot) : sProp 𝕄 := iprop(∃ W : Waits sig Unit, owes (k : Thread nD τ) (owedL k ps) W)

/-- Before it starts: the slot it goes to on its peer, the tokens of the duties it pays, the places of its own two cells,
    and what it will wait for its own arrival with. -/
def Fut (k : Dev nD) (p : Slot) : sProp 𝕄 :=
  iprop(some' (peer (dir p) k) (slotM p) ∗ dutyTok ER (sendCell k p) 0 0 ∗ dutyTok ER (recvCell (peer (dir p) k) p) 0 0
    ∗ atPos ER (sendCell k p) 0 ∅ 0 ∗ atPos ER (recvCell k p) 0 ∅ 0 ∗ cred (tallyAt (recvCell k p) () N))
/-- In flight. -/
def Fly (k : Dev nD) (p : Slot) : sProp 𝕄 :=
  iprop(cred (tallyAt (sendCell k p) () N) ∗ atPos ER (sendCell k p) 0 ∅ 0 ∗ atPos ER (recvCell k p) 0 ∅ 0 ∗ cred (tallyAt (recvCell k p) () N))
/-- Both waits over: the two counters at zero, the slot with what arrived. -/
def Got (k : Dev nD) (p : Slot) : sProp 𝕄 :=
  iprop(semVal (sendCell k p) 0 ∗ semVal (recvCell k p) 0 ∗ holds k (slotM p) fullShare (A p.2.1 p.1 (peer (inv (dir p)) k)))
/-- The same, what arrived forgotten. -/
def Done (k : Dev nD) (p : Slot) : sProp 𝕄 :=
  iprop(semVal (sendCell k p) 0 ∗ semVal (recvCell k p) 0 ∗ some' k (slotM p))

theorem got_split (k : Dev nD) (p : Slot) : Got A k p
    ⊢ iprop(semVal (sendCell k p) 0 ∗ semVal (recvCell k p) 0 ∗ holds k (slotM p) fullShare (A p.2.1 p.1 (peer (inv (dir p)) k))) :=
  BI.Entails.refl _

theorem done_of_got (k : Dev nD) (p : Slot) : Got A k p ⊢ Done k p := by
  unfold Got Done
  exact sep_mono_right (sep_mono_right (some_of_holds k (slotM p) _))

/-- The share of the chunk one copy takes. -/
def Lent (k : Dev nD) (p : Slot) : sProp 𝕄 := holds k (accM p.1) (shareOf p) (A p.2.1 p.1 k)

/-- The chunk is the shares of its slot's copies. -/
theorem lend (k : Dev nD) (c : Fin 4) (s : Fin 9) :
    holds k (accM c) fullShare (A s c k) ⊢ sepL (fun j => Lent A k (c, s, j)) (copies c s) := by
  unfold copies Lent shareOf
  by_cases h : (s.val + c.val) % 3 = 0
  · simp only [if_pos h, sepL]
    iintro H
    isplitl [H]; · iexact H
    iempintro
  · simp only [if_neg h, sepL]
    unfold holds
    iintro H
    ihave H' := (Ring.pointsTo_thirds fullShare _).1 $$ H
    icases H' with ⟨H0, H1, H2⟩
    isplitl [H0]; · iexact H0
    isplitl [H1]; · iexact H1
    isplitl [H2]; · iexact H2
    iempintro

theorem unlend (k : Dev nD) (c : Fin 4) (s : Fin 9) :
    sepL (fun j => Lent A k (c, s, j)) (copies c s) ⊢ holds k (accM c) fullShare (A s c k) := by
  unfold copies Lent shareOf
  by_cases h : (s.val + c.val) % 3 = 0
  · simp only [if_pos h, sepL]
    iintro ⟨H, -⟩
    iexact H
  · simp only [if_neg h, sepL]
    unfold holds
    iintro ⟨H0, H1, H2, -⟩
    iapply (Ring.pointsTo_thirds fullShare _).2
    isplitl [H0]; · iexact H0
    isplitl [H1]; · iexact H1
    iexact H2

/-! ## Starting copies -/

theorem run_startOne (k : Dev nD) (p : Slot) (hp : used p) (ps : List Slot) (Q : PUnit → sProp 𝕄) :
    iprop(records A K ∗ Fut k p ∗ Lent A k p ∗ Owes k (p :: ps) ∗ ((Fly k p ∗ Owes k ps) -∗ Q ⟨⟩))
      ⊢ Run k (startOne p.1 p.2.1 p.2.2 (peer (dir p) k)) Q := by
  unfold startOne Prog.lift Fut Lent Owes some'
  iintro ⟨#HR, ⟨⟨%f, Hd⟩, Ht1, Ht2, Hp1, Hp2, Hc⟩, Hs, ⟨%W, HO⟩, Hk⟩
  unfold holds
  iapply (Rounds.wp_send_pointsTo 𝒱₀ ER (rd A) (k : Thread nD τ) none (c' := (peer (dir p) k : Thread nD τ)) (src := accM p.1) (dst := slotM p)
    (κ₁ := K (k, some (true, p))) (κ₂ := K (peer (dir p) k, some (false, p)))
    (r₁ := 0) (r₂ := 0) (d₁ := 0) (d₂ := 0) (fd := f)
    (by rw [duties_send A k p hp]; exact Finset.mem_singleton_self _) (by rw [duties_recv A _ p hp]; exact Finset.mem_singleton_self _)
    () () N rfl (amount_send A k p 0) (amount_recv A (peer (dir p) k) p 0) (owedL k ps) rfl (W := W)
    (by rw [payload_send]; exact BI.Entails.refl _)
    (by
      rw [payload_recv]; unfold recvPay holds
      rw [peer_inv]
      exact pointsTo_rep_of_read (peer (dir p) k : Thread nD τ) (slotM p) _ fullShare _ (by rw [View.read_write_univ, View.read_rep])))
    $$ [Hs Hd HO Ht1 Ht2]
  · isplitr; · iapply (inv_at A K (k, some (true, p))) $$ HR
    isplitr; · iapply (inv_at A K (peer (dir p) k, some (false, p))) $$ HR
    isplitl [Hs]; · iexact Hs
    isplitl [Hd]; · iexact Hd
    isplitl [HO]; · iexact HO
    isplitl [Ht1]; · iexact Ht1
    isplitr; · iapply (reached_at A K (k, some (true, p))) $$ HR
    isplitl [Ht2]; · iexact Ht2
    iapply (reached_at A K (peer (dir p) k, some (false, p))) $$ HR
  iintro ⟨Hcs, HO⟩
  rw [wp_ret]
  imodintro
  iapply Hk
  unfold Fly
  isplitr [HO]
  · isplitl [Hcs]; · iexact Hcs
    isplitl [Hp1]; · iexact Hp1
    isplitl [Hp2]; · iexact Hp2
    iexact Hc
  iexists W; iexact HO

theorem run_startAll (k : Dev nD) (c : Fin 4) (s : Fin 9) (ps : List Slot) : ∀ (js : List (Fin 3)) (_ : ∀ j ∈ js, used (c, s, j))
    (Q : PUnit → sProp 𝕄),
    iprop(records A K ∗ sepL (fun j => Fut k (c, s, j)) js ∗ sepL (fun j => Lent A k (c, s, j)) js ∗ Owes k (placesOf c s js ++ ps)
        ∗ ((sepL (fun j => Fly k (c, s, j)) js ∗ Owes k ps) -∗ Q ⟨⟩))
      ⊢ Run k (startAll (fun j => peer (dirOf c s j) k) c s js) Q
  | [], _, Q => by
    unfold startAll sepL placesOf
    rw [Prog.pure_eq_ret, Run, wp_ret, List.nil_append]
    iintro ⟨-, -, -, HO, Hk⟩
    imodintro
    iapply Hk
    isplitr [HO]; · iempintro
    iexact HO
  | j :: js, h, Q => by
    unfold startAll sepL placesOf
    rw [run_bind, List.cons_append]
    iintro ⟨#HR, ⟨Hf, Hfs⟩, ⟨Hl, Hls⟩, HO, Hk⟩
    iapply (run_startOne A K k (c, s, j) (h j List.mem_cons_self) (placesOf c s js ++ ps)) $$ [-]
    isplitr; · iexact HR
    isplitl [Hf]; · iexact Hf
    isplitl [Hl]; · iexact Hl
    isplitl [HO]; · iexact HO
    iintro ⟨Hy, HO⟩
    iapply (run_startAll k c s ps js (fun i hi => h i (List.mem_cons_of_mem _ hi))) $$ [-]
    isplitr; · iexact HR
    isplitl [Hfs]; · iexact Hfs
    isplitl [Hls]; · iexact Hls
    isplitl [HO]; · iexact HO
    iintro ⟨Hys, HO⟩
    iapply Hk
    isplitr [HO]
    · isplitl [Hy] <;> iassumption
    iexact HO

/-! ## Waiting for them -/

/-- Both of a copy's waits are below the arrivals of later slots. -/
theorem wait_send (k : Dev nD) (p : Slot) (ps : List Slot) (hps : ∀ p' ∈ ps, p.2.1.val < p'.2.1.val) :
    records A K ⊢ MayWait (k : Thread nD τ) (.dma (sendS p)) () (owedL k ps) := by
  have h := mayWait_copies (F := F) k (.dma (sendS p)) (2 + p.2.1.val) ps ?_ ?_
  · unfold records
    iintro ⟨-, -, #H⟩
    iapply h $$ H
  · rw [lv_send]; exact Nat.zero_le _
  · intro p' h; have := hps p' h; omega

theorem wait_recv (k : Dev nD) (p : Slot) (ps : List Slot) (hps : ∀ p' ∈ ps, p.2.1.val < p'.2.1.val) :
    records A K ⊢ MayWait (k : Thread nD τ) (.dma (recvS p)) () (owedL k ps) := by
  have h := mayWait_copies (F := F) k (.dma (recvS p)) (2 + p.2.1.val) ps ?_ ?_
  · unfold records
    iintro ⟨-, -, #H⟩
    iapply h $$ H
  · rw [lv_recv]
  · intro p' h; have := hps p' h; omega

theorem run_waitOne (k : Dev nD) (p : Slot) (hp : used p) (ps : List Slot) (hps : ∀ p' ∈ ps, p.2.1.val < p'.2.1.val)
    (α : Type) (e : Prog (Eff F) α) (Q : α → sProp 𝕄) :
    iprop(records A K ∗ Fly k p ∗ Owes k ps ∗ ((Lent A k p ∗ Got A k p ∗ Owes k ps) -∗ Run k e Q))
      ⊢ Run k (do
          Prog.lift (.waitDma2 (sendM p.1 p.2.1 p.2.2).sem (slotM p) (accM p.1) (wordsCommM p.1 p.2.1 p.2.2) (wordsAccM p.1))
          Prog.lift (.waitDma2 (recvM p.1 p.2.1 p.2.2).sem (accM p.1) (slotM p) (wordsAccM p.1) (wordsCommM p.1 p.2.1 p.2.2))
          e) Q := by
  simp only [Prog.lift, Prog.bind_op, Prog.bind_ret, Prog.pure_eq_ret]
  unfold Fly Owes
  iintro ⟨#HR, ⟨Hcs, Hp1, Hp2, Hcr⟩, ⟨%W, HO⟩, Hk⟩
  iapply (Rounds.wp_wait_rest_token 𝒱₀ ER (rd A) (k : Thread nD τ) none (κ := K (k, some (true, p)))
      (wpE_waitDma2_eq 𝒱₀ (k : Thread nD τ) none Set.univ) (Set.mem_univ _) () (O := owedL k ps) (W := W) (R := 0) (m := 0) (T := ∅)
      ((Nat.zero_add _).trans ((credit_acc p.1).trans (expect_send A k p hp).symm))) $$ [Hcs HO Hp1]
  · isplitr; · iapply (inv_at A K (k, some (true, p))) $$ HR
    isplitl [Hcs]; · rw [credit_acc]; iexact Hcs
    isplitl [HO]; · iexact HO
    isplitr
    · iapply (wait_send A K k p ps hps) $$ HR
    iexact Hp1
  iintro ⟨HO, Hp1, -, Hpay⟩
  ihave Hl := (Entails.of_eq (rest_send A k p hp)) $$ Hpay
  iapply (Rounds.wp_wait_rest_token 𝒱₀ ER (rd A) (k : Thread nD τ) none (κ := K (k, some (false, p)))
      (wpE_waitDma2_eq 𝒱₀ (k : Thread nD τ) none Set.univ) (Set.mem_univ _) () (O := owedL k ps) (R := 0) (m := 0) (T := ∅)
      ((Nat.zero_add _).trans ((credit_slot p).trans (expect_recv A k p hp).symm))) $$ [Hcr HO Hp2]
  · isplitr; · iapply (inv_at A K (k, some (false, p))) $$ HR
    isplitl [Hcr]; · rw [credit_slot]; iexact Hcr
    isplitl [HO]; · iexact HO
    isplitr
    · iapply (wait_recv A K k p ps hps) $$ HR
    iexact Hp2
  iintro ⟨HO, Hp2, -, Hpay⟩
  ihave Hr := (Entails.of_eq (rest_recv A k p hp)) $$ Hpay
  imod (Rounds.cell_close ER (rd A) (Set.mem_univ (K (k, some (true, p)))) (fun h => h) (R := 0 + 1) (duties_later A (sendCell k p))) $$ [Hp1] with Hz1
  · isplitr; · iapply (inv_at A K (k, some (true, p))) $$ HR
    iexact Hp1
  imod (Rounds.cell_close ER (rd A) (Set.mem_univ (K (k, some (false, p)))) (fun h => h) (R := 0 + 1) (duties_later A (recvCell k p))) $$ [Hp2] with Hz2
  · isplitr; · iapply (inv_at A K (k, some (false, p))) $$ HR
    iexact Hp2
  iapply Hk
  unfold Lent Got sendPay recvPay
  isplitl [Hl]; · iexact Hl
  isplitl [Hz1 Hz2 Hr]
  · isplitl [Hz1]; · iexact Hz1
    isplitl [Hz2]; · iexact Hz2
    iexact Hr
  iexists _; iexact HO

theorem run_waitAll (k : Dev nD) (c : Fin 4) (s : Fin 9) (ps : List Slot) (hps : ∀ p' ∈ ps, s.val < p'.2.1.val) :
    ∀ (js : List (Fin 3)) (_ : ∀ j ∈ js, used (c, s, j)) (Q : PUnit → sProp 𝕄),
    iprop(records A K ∗ sepL (fun j => Fly k (c, s, j)) js ∗ Owes k ps
        ∗ ((sepL (fun j => Lent A k (c, s, j)) js ∗ sepL (fun j => Got A k (c, s, j)) js ∗ Owes k ps) -∗ Q ⟨⟩))
      ⊢ Run k (waitAll c s js) Q
  | [], _, Q => by
    unfold waitAll sepL
    rw [Prog.pure_eq_ret, Run, wp_ret]
    iintro ⟨-, -, HO, Hk⟩
    imodintro
    iapply Hk
    isplitr [HO]; · iempintro
    isplitr [HO]; · iempintro
    iexact HO
  | j :: js, h, Q => by
    unfold waitAll sepL
    iintro ⟨#HR, ⟨Hf, Hfs⟩, HO, Hk⟩
    iapply (run_waitOne A K k (c, s, j) (h j List.mem_cons_self) ps hps) $$ [-]
    isplitr; · iexact HR
    isplitl [Hf]; · iexact Hf
    isplitl [HO]; · iexact HO
    iintro ⟨Hl, Hg, HO⟩
    iapply (run_waitAll k c s ps hps js (fun i hi => h i (List.mem_cons_of_mem _ hi))) $$ [-]
    isplitr; · iexact HR
    isplitl [Hfs]; · iexact Hfs
    isplitl [HO]; · iexact HO
    iintro ⟨Hls, Hgs, HO⟩
    iapply Hk
    isplitl [Hl Hls]
    · isplitl [Hl] <;> iassumption
    isplitl [Hg Hgs]
    · isplitl [Hg] <;> iassumption
    iexact HO

/-! ## Adding what arrived -/

/-- A value plus what arrived in a slot, copy after copy. -/
def plus (k : Dev nD) (c : Fin 4) (s : Fin 9) : List (Fin 3) → FVec F S64x256 .bf16 → FVec F S64x256 .bf16
  | [], v => v
  | j :: js, v => plus k c s js (addf v (A s c (peer (inv (dirOf c s j)) k)))

theorem run_addComm (k : Dev nD) (c : Fin 4) (s : Fin 9) : ∀ (js : List (Fin 3)) (v : FVec F S64x256 .bf16) (Q : FVec F S64x256 .bf16 → sProp 𝕄),
    iprop(sepL (fun j => Got A k (c, s, j)) js ∗ (sepL (fun j => Done k (c, s, j)) js -∗ Q (plus A k c s js v)))
      ⊢ Run k (addComm c s js v) Q
  | [], v, Q => by
    unfold addComm sepL plus
    rw [Prog.pure_eq_ret, Run, wp_ret]
    iintro ⟨H, Hk⟩
    imodintro
    iapply Hk $$ H
  | j :: js, v, Q => by
    unfold addComm sepL plus
    rw [run_bind]
    iintro ⟨⟨Hg, Hs⟩, Hk⟩
    ihave Hg' := (got_split A k (c, s, j)) $$ Hg
    icases Hg' with ⟨Hz1, Hz2, H⟩
    iapply (wp_loadComm k (c, s, j) fullShare (A s c (peer (inv (dirOf c s j)) k))) $$ [-]
    isplitl [H]; · iexact H
    iintro %w %hw H
    rw [hw]
    iapply (run_addComm k c s js) $$ [-]
    isplitl [Hs]; · iexact Hs
    iintro Hs
    iapply Hk
    isplitr [Hs]
    · iapply (done_of_got A k (c, s, j))
      unfold Got
      isplitl [Hz1]; · iexact Hz1
      isplitl [Hz2]; · iexact Hz2
      iexact H
    iexact Hs

end Cert.KernelIdeal.Own

end
-- ==== Proof.Body.lean ====
/- The body run from a device's starting state to its end, chunk after chunk. -/
module

public import proofs.«01_k».proof.Proof.Copies

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Fin 9 → Fin 4 → Dev nD → FVec F S64x256 .bf16) (K : Dev nD × CI → ℕ)

/-! ## The values -/

/-- What chunk `c` holds on device `k` once slot `s` is added up. -/
def total (s : Fin 9) (c : Fin 4) (k : Dev nD) : FVec F S64x256 .bf16 := plus A k c s (copies c s) (A s c k)

/-- The values device `k` sends are the kernel's, of its rows of `x` and its weights: its contribution to the first
    layer, the sums within a layer, the contribution of the sum to the next layer. -/
structure Vals (k : Dev nD) (xs : Fin 4 → FVec F S64x256 .bf16) (Ws : Fin 3 → FVec F S256x512 .bf16)
    (Us : Fin 3 → FVec F S512x256 .bf16) : Prop where
  zero : ∀ c, A 0 c k = contrib (Ws 0) (Us 0) (xs c)
  within : ∀ (s : Fin 9) (c : Fin 4) (h : s.val + 1 < 9), s.val % 3 < 2 → A ⟨s.val + 1, h⟩ c k = total A s c k
  across : ∀ (s : Fin 9) (c : Fin 4) (h : s.val + 1 < 9), ¬ s.val % 3 < 2 →
    A ⟨s.val + 1, h⟩ c k = contrib (Ws ⟨(s.val + 1) / 3, by omega⟩) (Us ⟨(s.val + 1) / 3, by omega⟩) (total A s c k)

/-! ## A chunk's state -/

/-- The copies of one slot: still to start, in flight, over. -/
def SlotSt (k : Dev nD) (c : Fin 4) (s : Fin 9) : Ordering → sProp 𝕄
  | .lt => sepL (fun j => Fut k (c, s, j)) (copies c s)
  | .eq => sepL (fun j => Fly k (c, s, j)) (copies c s)
  | .gt => sepL (fun j => Done k (c, s, j)) (copies c s)

/-- The chunk itself: anything at the start, lent out while copies fly, the last sum at the end. -/
def AccSt (k : Dev nD) (c : Fin 4) (n : ℕ) : sProp 𝕄 :=
  if n = 0 then some' k (accM c) else if n = 10 then holds k (accM c) fullShare (total A 8 c k) else iprop(emp)

/-- Chunk `c` with slot `n - 1` in flight (`n = 0`: before the first; `n = 10`: after the last). -/
def Chunk (k : Dev nD) (c : Fin 4) (n : ℕ) : sProp 𝕄 :=
  iprop((bigSep Finset.univ fun s : Fin 9 => SlotSt k c s (compare n (s.val + 1))) ∗ AccSt A k c n)

theorem ord_lt {n m : ℕ} (h : n < m) : compare n m = .lt := Nat.compare_eq_lt.mpr h
theorem ord_gt {n m : ℕ} (h : m < n) : compare n m = .gt := Nat.compare_eq_gt.mpr h
theorem ord_eq {n m : ℕ} (h : n = m) : compare n m = .eq := Nat.compare_eq_eq.mpr h

theorem slot_lt (k : Dev nD) (c : Fin 4) (s : Fin 9) : SlotSt (F := F) k c s .lt = sepL (fun j => Fut k (c, s, j)) (copies c s) := rfl
theorem slot_eq (k : Dev nD) (c : Fin 4) (s : Fin 9) : SlotSt (F := F) k c s .eq = sepL (fun j => Fly k (c, s, j)) (copies c s) := rfl
theorem slot_gt (k : Dev nD) (c : Fin 4) (s : Fin 9) : SlotSt (F := F) k c s .gt = sepL (fun j => Done k (c, s, j)) (copies c s) := rfl

omit [FloatOps F] in
theorem bigSep_two {I : Type} [DecidableEq I] [Fintype I] (Φ : I → sProp 𝕄) {i j : I} (h : j ≠ i) :
    bigSep Finset.univ Φ = iprop(Φ i ∗ Φ j ∗ bigSep ((Finset.univ.erase i).erase j) Φ) := by
  rw [bigSep_univ_at Φ i]
  exact congrArg (fun x => iprop(Φ i ∗ x)) (bigSep_erase (Finset.mem_erase.mpr ⟨h, Finset.mem_univ j⟩))

/-- From before the first slot to the first slot in flight. -/
theorem chunk_first (k : Dev nD) (c : Fin 4) :
    Chunk A k c 0 ⊢ iprop(some' k (accM c) ∗ sepL (fun j => Fut k (c, 0, j)) (copies c 0)
      ∗ (sepL (fun j => Fly k (c, 0, j)) (copies c 0) -∗ Chunk A k c 1)) := by
  unfold Chunk AccSt
  rw [if_pos rfl, if_neg (by decide), if_neg (by decide), bigSep_univ_at _ (0 : Fin 9),
    bigSep_univ_at (fun s : Fin 9 => SlotSt k c s (compare 1 (s.val + 1))) (0 : Fin 9),
    bigSep_congr (s := Finset.univ.erase 0) (Ψ := fun s : Fin 9 => SlotSt (F := F) k c s (compare 1 (s.val + 1))) fun s hs => by
      have : s.val ≠ 0 := fun h => (Finset.mem_erase.mp hs).1 (Fin.ext h)
      rw [ord_lt (show 0 < s.val + 1 by omega), ord_lt (show 1 < s.val + 1 by omega)],
    show compare 0 ((0 : Fin 9).val + 1) = .lt from rfl, show compare 1 ((0 : Fin 9).val + 1) = .eq from rfl, slot_lt, slot_eq]
  iintro ⟨⟨H0, Hr⟩, Ha⟩
  isplitl [Ha]; · iexact Ha
  isplitl [H0]; · iexact H0
  iintro Hf
  isplitl [Hf Hr]
  · isplitl [Hf]; · iexact Hf
    iexact Hr
  iempintro

/-- From one slot in flight to the next. -/
theorem chunk_next (k : Dev nD) (c : Fin 4) (s s₁ : Fin 9) (h1 : s₁.val = s.val + 1) :
    Chunk A k c (s.val + 1) ⊢ iprop(sepL (fun j => Fly k (c, s, j)) (copies c s) ∗ sepL (fun j => Fut k (c, s₁, j)) (copies c s₁)
      ∗ ((sepL (fun j => Done k (c, s, j)) (copies c s) ∗ sepL (fun j => Fly k (c, s₁, j)) (copies c s₁)) -∗ Chunk A k c (s.val + 2))) := by
  have hs₁ := s₁.isLt
  have hne : s₁ ≠ s := fun h => by rw [h] at h1; omega
  unfold Chunk AccSt
  rw [if_neg (by omega), if_neg (by omega), if_neg (by omega), if_neg (by omega), bigSep_two _ hne,
    bigSep_two (fun s' : Fin 9 => SlotSt k c s' (compare (s.val + 2) (s'.val + 1))) hne,
    bigSep_congr (s := (Finset.univ.erase s).erase s₁) (Ψ := fun s' : Fin 9 => SlotSt (F := F) k c s' (compare (s.val + 2) (s'.val + 1))) fun s' hs => by
      obtain ⟨hs1, hs2⟩ := Finset.mem_erase.mp hs
      have hs2 : s'.val ≠ s.val := fun h => (Finset.mem_erase.mp hs2).1 (Fin.ext h)
      have hs1 : s'.val ≠ s₁.val := fun h => hs1 (Fin.ext h)
      rcases Nat.lt_or_ge s'.val s.val with h4 | h4
      · rw [ord_gt (show s'.val + 1 < s.val + 1 by omega), ord_gt (show s'.val + 1 < s.val + 2 by omega)]
      · rw [ord_lt (show s.val + 1 < s'.val + 1 by omega), ord_lt (show s.val + 2 < s'.val + 1 by omega)],
    ord_eq (rfl : s.val + 1 = s.val + 1), ord_gt (show s.val + 1 < s.val + 2 by omega), ord_lt (show s.val + 1 < s₁.val + 1 by omega),
    ord_eq (show s.val + 2 = s₁.val + 1 by omega), slot_eq, slot_gt, slot_lt, slot_eq]
  iintro ⟨⟨H0, H1, Hr⟩, -⟩
  isplitl [H0]; · iexact H0
  isplitl [H1]; · iexact H1
  iintro ⟨Hd, Hf⟩
  isplitl [Hd Hf Hr]
  · isplitl [Hd]; · iexact Hd
    isplitl [Hf]; · iexact Hf
    iexact Hr
  iempintro

/-- From the last slot in flight to the end. -/
theorem chunk_last (k : Dev nD) (c : Fin 4) :
    Chunk A k c 9 ⊢ iprop(sepL (fun j => Fly k (c, 8, j)) (copies c 8)
      ∗ ((sepL (fun j => Done k (c, 8, j)) (copies c 8) ∗ holds k (accM c) fullShare (total A 8 c k)) -∗ Chunk A k c 10)) := by
  unfold Chunk AccSt
  rw [if_neg (by decide), if_neg (by decide), if_neg (by decide), if_pos rfl, bigSep_univ_at _ (8 : Fin 9),
    bigSep_univ_at (fun s : Fin 9 => SlotSt k c s (compare 10 (s.val + 1))) (8 : Fin 9),
    bigSep_congr (s := Finset.univ.erase 8) (Ψ := fun s : Fin 9 => SlotSt (F := F) k c s (compare 10 (s.val + 1))) fun s hs => by
      have : s.val ≠ 8 := fun h => (Finset.mem_erase.mp hs).1 (Fin.ext h)
      have := s.isLt
      rw [ord_gt (show s.val + 1 < 9 by omega), ord_gt (show s.val + 1 < 10 by omega)],
    show compare 9 ((8 : Fin 9).val + 1) = .eq from rfl, show compare 10 ((8 : Fin 9).val + 1) = .gt from rfl, slot_eq, slot_gt]
  iintro ⟨⟨H0, Hr⟩, -⟩
  isplitl [H0]; · iexact H0
  iintro ⟨Hd, Ha⟩
  isplitl [Hd Hr]
  · isplitl [Hd]; · iexact Hd
    iexact Hr
  iexact Ha

/-! ## One step -/

section Step
variable (k : Dev nD) {xs : Fin 4 → FVec F S64x256 .bf16} {Ws : Fin 3 → FVec F S256x512 .bf16} {Us : Fin 3 → FVec F S512x256 .bf16}
  (hv : Vals A k xs Ws Us)

/-- The peers the copies go to. -/
abbrev dvs : Fin 9 → Fin 4 → Fin 3 → Dev nD := fun s c j => peer (dirOf c s j) k

/-- A chunk with value `A s c k` in it goes out with slot `s`. -/
theorem run_start (c : Fin 4) (s : Fin 9) (ps : List Slot) (Q : PUnit → sProp 𝕄) :
    iprop(records A K ∗ holds k (accM c) fullShare (A s c k) ∗ sepL (fun j => Fut k (c, s, j)) (copies c s)
        ∗ Owes k (placesOf c s (copies c s) ++ ps) ∗ ((sepL (fun j => Fly k (c, s, j)) (copies c s) ∗ Owes k ps) -∗ Q ⟨⟩))
      ⊢ Run k (startAll (dvs k s c) c s (copies c s)) Q := by
  iintro ⟨#HR, Ha, Hf, HO, Hk⟩
  ihave Hl := (lend A k c s) $$ Ha
  iapply (run_startAll A K k c s ps (copies c s) (fun j h => h)) $$ [-]
  isplitr; · iexact HR
  isplitl [Hf]; · iexact Hf
  isplitl [Hl]; · iexact Hl
  isplitl [HO]; · iexact HO
  iexact Hk

include hv in
/-- After a slot that is not the last: the next slot's copies. -/
theorem run_next (c : Fin 4) (s : Fin 9) (h : s.val + 1 < 9) (ps : List Slot) (Q : PUnit → sProp 𝕄) :
    iprop(records A K ∗ holds k (accM c) fullShare (total A s c k) ∗ sepL (fun j => Fut k (c, ⟨s.val + 1, h⟩, j)) (copies c ⟨s.val + 1, h⟩)
        ∗ Owes k (placesOf c ⟨s.val + 1, h⟩ (copies c ⟨s.val + 1, h⟩) ++ ps)
        ∗ ((sepL (fun j => Fly k (c, ⟨s.val + 1, h⟩, j)) (copies c ⟨s.val + 1, h⟩) ∗ Owes k ps) -∗ Q ⟨⟩))
      ⊢ Run k (next (dvs k) Ws Us oM c s) Q := by
  unfold next
  rw [dif_pos h]
  by_cases h' : s.val % 3 < 2
  · rw [dif_pos h', ← hv.within s c h h']
    exact run_start A K k c ⟨s.val + 1, h⟩ ps Q
  · rw [dif_neg h', run_bind]
    iintro ⟨#HR, Ha, Hf, HO, Hk⟩
    iapply (wp_loadAcc k c fullShare (total A s c k)) $$ [-]
    isplitl [Ha]; · iexact Ha
    iintro %w %hw Ha
    rw [hw, run_bind, ← hv.across s c h h']
    iapply (wp_putAcc k c) $$ [-]
    isplitl [Ha]; · iapply (some_of_holds k (accM c) _) $$ Ha
    iintro Ha
    iapply (run_start A K k c ⟨s.val + 1, h⟩ ps Q) $$ [-]
    isplitr; · iexact HR
    isplitl [Ha]; · iexact Ha
    isplitl [Hf]; · iexact Hf
    isplitl [HO]; · iexact HO
    iexact Hk

/-- The wait and the sum of a slot, up to what follows it. -/
theorem run_sum (c : Fin 4) (s : Fin 9) (ps : List Slot) (hps : ∀ p' ∈ ps, s.val < p'.2.1.val) (e : Prog (Eff F) PUnit) (Q : PUnit → sProp 𝕄) :
    iprop(records A K ∗ sepL (fun j => Fly k (c, s, j)) (copies c s) ∗ Owes k ps
        ∗ ((sepL (fun j => Done k (c, s, j)) (copies c s) ∗ holds k (accM c) fullShare (total A s c k) ∗ Owes k ps) -∗ Run k e Q))
      ⊢ Run k (do
          waitAll c s (copies c s)
          let v ← loadAcc c
          let w ← addComm c s (copies c s) (ofAcc v)
          putAcc c w
          e) Q := by
  rw [run_bind]
  iintro ⟨#HR, Hf, HO, Hk⟩
  iapply (run_waitAll A K k c s ps hps (copies c s) (fun j h => h)) $$ [-]
  isplitr; · iexact HR
  isplitl [Hf]; · iexact Hf
  isplitl [HO]; · iexact HO
  iintro ⟨Hl, Hg, HO⟩
  ihave Ha := (unlend A k c s) $$ Hl
  rw [run_bind]
  iapply (wp_loadAcc k c fullShare (A s c k)) $$ [-]
  isplitl [Ha]; · iexact Ha
  iintro %w %hw Ha
  rw [hw, run_bind]
  iapply (run_addComm A k c s (copies c s) (A s c k)) $$ [-]
  isplitl [Hg]; · iexact Hg
  iintro Hd
  rw [run_bind]
  iapply (wp_putAcc k c) $$ [-]
  isplitl [Ha]; · iapply (some_of_holds k (accM c) _) $$ Ha
  iintro Ha
  iapply Hk
  isplitl [Hd]; · iexact Hd
  isplitl [Ha]; · iexact Ha
  iexact HO

/-- The output's rows of a finished chunk. -/
def outRow (c : Fin 4) : FVec F S64x256 .f32 := extf .f32 (total A 8 c k) bitsLt_bf16_f32

/-- The copies one step starts. -/
abbrev sendsAt (c : Fin 4) (s : Fin 9) : List Slot := if h : s.val + 1 < 9 then placesOf c ⟨s.val + 1, h⟩ (copies c ⟨s.val + 1, h⟩) else []

include hv in
/-- One step of the program takes its chunk one slot further; the last one writes the chunk's rows of the output. -/
theorem run_step (c : Fin 4) (s : Fin 9) (ps : List Slot) (hps : ∀ p' ∈ sendsAt c s ++ ps, s.val < p'.2.1.val)
    (f : cc0_stg7_0.ty.Contents (Elt F)) (Q : PUnit → sProp 𝕄) :
    iprop(records A K ∗ Chunk A k c (s.val + 1) ∗ wholeAt k cc0_stg7_0 f ∗ Owes k (sendsAt c s ++ ps)
        ∗ (∀ g : cc0_stg7_0.ty.Contents (Elt F), ⌜(s.val = 8 → oRows g c = outRow A k c) ∧ ∀ c' : Fin 4, c' ≠ c → oRows g c' = oRows f c'⌝
            -∗ Chunk A k c (s.val + 2) -∗ wholeAt k cc0_stg7_0 g -∗ Owes k ps -∗ Q ⟨⟩))
      ⊢ Run k (stepAt (dvs k) Ws Us oM c s) Q := by
  unfold stepAt
  by_cases h : s.val + 1 < 9
  · unfold sendsAt at hps ⊢
    simp only [dif_pos h] at hps ⊢
    iintro ⟨#HR, Hc, Ho, HO, Hk⟩
    ihave H := (chunk_next A k c s ⟨s.val + 1, h⟩ rfl) $$ Hc
    icases H with ⟨Hy, Hf, Hc⟩
    iapply (run_sum A K k c s _ hps) $$ [-]
    isplitr; · iexact HR
    isplitl [Hy]; · iexact Hy
    isplitl [HO]; · iexact HO
    iintro ⟨Hd, Ha, HO⟩
    iapply (run_next A K k hv c s h ps) $$ [-]
    isplitr; · iexact HR
    isplitl [Ha]; · iexact Ha
    isplitl [Hf]; · iexact Hf
    isplitl [HO]; · iexact HO
    iintro ⟨Hy, HO⟩
    iapply Hk $$ [] [Hc Hd Hy] Ho HO
    · ipureintro; exact ⟨fun h8 => by omega, fun c' _ => rfl⟩
    iapply Hc
    isplitl [Hd] <;> iassumption
  · have h8 : s = 8 := Fin.ext (by have := s.isLt; show s.val = 8; omega)
    subst h8
    unfold sendsAt at hps ⊢
    simp only [dif_neg h, List.nil_append] at hps ⊢
    rw [show (8 : Fin 9).val + 1 = 9 from rfl, show (8 : Fin 9).val + 2 = 10 from rfl]
    iintro ⟨#HR, Hc, Ho, HO, Hk⟩
    ihave H := (chunk_last A k c) $$ Hc
    icases H with ⟨Hy, Hc⟩
    iapply (run_sum A K k c 8 ps hps) $$ [-]
    isplitr; · iexact HR
    isplitl [Hy]; · iexact Hy
    isplitl [HO]; · iexact HO
    iintro ⟨Hd, Ha, HO⟩
    unfold next
    rw [dif_neg h]
    iapply (wp_putOut k c (total A 8 c k) f) $$ [-]
    isplitl [Ha]; · iexact Ha
    isplitl [Ho]; · iexact Ho
    iintro %g %hg Ha Ho
    iapply Hk $$ [] [Hc Hd Ha] Ho HO
    · ipureintro; exact ⟨fun _ => hg.1, hg.2⟩
    iapply Hc
    isplitl [Hd] <;> iassumption

/-! ## All steps -/

/-- All chunks, each at its slot. -/
def State (cur : Fin 4 → ℕ) : sProp 𝕄 := bigSep Finset.univ fun c => Chunk A k c (cur c)

/-- The finished chunks' rows are in the output. -/
def OutOk (cur : Fin 4 → ℕ) (f : cc0_stg7_0.ty.Contents (Elt F)) : Prop := ∀ c, cur c = 10 → oRows f c = outRow A k c

/-- A list of steps takes every chunk to its end in order, owing at each wait only copies of later slots. -/
def good : (Fin 4 → ℕ) → List (Fin 9 × Fin 4) → Bool
  | cur, [] => decide (∀ c, cur c = 10)
  | cur, p :: ps => decide (cur p.2 = p.1.val + 1) && (sendsOf (p :: ps)).all (fun q => decide (p.1.val < q.2.1.val))
      && good (Function.update cur p.2 (p.1.val + 2)) ps

include hv in
theorem run_steps : ∀ (ps : List (Fin 9 × Fin 4)) (cur : Fin 4 → ℕ) (f : cc0_stg7_0.ty.Contents (Elt F)) (_ : good cur ps = true)
    (_ : OutOk A k cur f) (Q : PUnit → sProp 𝕄),
    iprop(records A K ∗ State A k cur ∗ wholeAt k cc0_stg7_0 f ∗ Owes k (sendsOf ps)
        ∗ (∀ g : cc0_stg7_0.ty.Contents (Elt F), ⌜∀ c, oRows g c = outRow A k c⌝
            -∗ State A k (fun _ => 10) -∗ wholeAt k cc0_stg7_0 g -∗ Owes k [] -∗ Q ⟨⟩))
      ⊢ Run k (steps (dvs k) Ws Us oM ps) Q
  | [], cur, f, hg, hf, Q => by
    have hcur : cur = fun _ => 10 := funext (of_decide_eq_true hg)
    subst hcur
    unfold steps sendsOf
    rw [Prog.pure_eq_ret, Run, wp_ret]
    iintro ⟨-, Hs, Ho, HO, Hk⟩
    imodintro
    iapply Hk $$ [] Hs Ho HO
    ipureintro; exact fun c => hf c rfl
  | p :: ps, cur, f, hg, hf, Q => by
    simp only [good, Bool.and_eq_true, decide_eq_true_eq, List.all_eq_true] at hg
    obtain ⟨⟨hcur, hlev⟩, hg⟩ := hg
    unfold steps
    rw [run_bind]
    unfold State
    iintro ⟨#HR, Hs, Ho, HO, Hk⟩
    ihave H := (bigSep_univ_turn (fun c n => Chunk A k c n) cur p.2) $$ Hs
    icases H with ⟨Hc, Hs⟩
    rw [hcur]
    iapply (run_step A K k hv p.2 p.1 (sendsOf ps) hlev f) $$ [-]
    isplitr; · iexact HR
    isplitl [Hc]; · iexact Hc
    isplitl [Ho]; · iexact Ho
    isplitl [HO]; · iexact HO
    iintro %g %hg' Hc Ho HO
    have hOut : OutOk A k (Function.update cur p.2 (p.1.val + 2)) g := fun c hc => by
      by_cases h : c = p.2
      · subst h
        rw [Function.update_self] at hc
        exact hg'.1 (by omega)
      · rw [Function.update_of_ne h] at hc
        rw [hg'.2 c h]
        exact hf c hc
    iapply (run_steps ps _ g hg hOut) $$ [-]
    isplitr; · iexact HR
    isplitl [Hc Hs]
    · unfold State
      iapply Hs
      iexact Hc
    isplitl [Ho]; · iexact Ho
    isplitl [HO]; · iexact HO
    iexact Hk

/-- A list of chunks takes every chunk from before its first slot to its first slot in flight. -/
def goodB : (Fin 4 → ℕ) → List (Fin 4) → Bool
  | cur, [] => decide (∀ c, cur c = 1)
  | cur, c :: cs => decide (cur c = 0) && goodB (Function.update cur c 1) cs

theorem run_begins (W : FVec F S256x512 .bf16) (U : FVec F S512x256 .bf16) (X : cc0_stg0_0.ty.Contents (Elt F))
    (hA : ∀ c, A 0 c k = contrib W U (xRows X c)) (rest : List Slot) :
    ∀ (cs : List (Fin 4)) (cur : Fin 4 → ℕ) (_ : goodB cur cs = true) (Q : PUnit → sProp 𝕄),
    iprop(records A K ∗ State A k cur ∗ wholeAt k cc0_stg0_0 X ∗ Owes k (sendsB rest cs)
        ∗ (State A k (fun _ => 1) -∗ wholeAt k cc0_stg0_0 X -∗ Owes k rest -∗ Q ⟨⟩))
      ⊢ Run k (begins (dvs k) W U xM cs) Q
  | [], cur, hg, Q => by
    have hcur : cur = fun _ => 1 := funext (of_decide_eq_true hg)
    subst hcur
    unfold begins sendsB
    rw [Prog.pure_eq_ret, Run, wp_ret]
    iintro ⟨-, Hs, Hx, HO, Hk⟩
    imodintro
    iapply Hk $$ Hs Hx HO
  | c :: cs, cur, hg, Q => by
    simp only [goodB, Bool.and_eq_true, decide_eq_true_eq] at hg
    obtain ⟨hcur, hg⟩ := hg
    unfold begins sendsB
    rw [run_bind]
    unfold State
    iintro ⟨#HR, Hs, Hx, HO, Hk⟩
    ihave H := (bigSep_univ_turn (fun c n => Chunk A k c n) cur c) $$ Hs
    icases H with ⟨Hc, Hs⟩
    rw [hcur]
    ihave H := (chunk_first A k c) $$ Hc
    icases H with ⟨Ha, Hf, Hc⟩
    iapply (wp_loadX k c X) $$ [-]
    isplitl [Hx]; · iexact Hx
    iintro %w %hw Hx
    rw [hw, run_bind, ← hA c]
    iapply (wp_putAcc k c) $$ [-]
    isplitl [Ha]; · iexact Ha
    iintro Ha
    rw [run_bind]
    iapply (run_start A K k c 0 (sendsB rest cs)) $$ [-]
    isplitr; · iexact HR
    isplitl [Ha]; · iexact Ha
    isplitl [Hf]; · iexact Hf
    isplitl [HO]; · iexact HO
    iintro ⟨Hy, HO⟩
    iapply (run_begins W U X hA rest cs _ hg) $$ [-]
    isplitr; · iexact HR
    isplitl [Hc Hs Hy]
    · unfold State
      iapply Hs
      iapply Hc
      iexact Hy
    isplitl [Hx]; · iexact Hx
    isplitl [HO]; · iexact HO
    iexact Hk

end Step

theorem good_order : good (fun _ => 1) order = true := by decide +kernel
theorem goodB_chunks : goodB (fun _ => 0) [0, 1, 2, 3] = true := by decide +kernel

end Cert.KernelIdeal.Own

end
-- ==== Proof.Whole.lean ====
/- The body run from what a device is dealt at launch to what it gives back. -/
module

public import proofs.«01_k».proof.Proof.Body

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Fin 9 → Fin 4 → Dev nD → FVec F S64x256 .bf16) (K : Dev nD × CI → ℕ)

/-! ## Places by direction, by chunk and slot -/

/-- The places copied to, and the others. -/
abbrev usedS : Finset Slot := Finset.univ.filter used
abbrev idleS : Finset Slot := Finset.univ.filter fun p => ¬ used p

omit [FloatOps F] in
/-- The places copied to, direction after direction. -/
theorem by_dir (f : Fin 7 → Fin 7) (hf : Function.Bijective f) (Φ : Slot → sProp 𝕄) :
    bigSep usedS Φ = bigSep Finset.univ fun d : Fin 7 => bigSep (Finset.univ.filter fun p : Slot => used p ∧ dir p = f d) Φ := by
  have h : ∀ p : Slot, (if used p then Φ p else BI.emp)
      = bigSep Finset.univ fun d : Fin 7 => if used p ∧ dir p = f d then Φ p else BI.emp := fun p => by
    by_cases hp : used p
    · obtain ⟨d, hd⟩ := hf.2 (dir p)
      rw [if_pos hp, ← bigSep_filter, show (Finset.univ.filter fun d' : Fin 7 => used p ∧ dir p = f d') = {d} from
        Finset.ext fun d' => by
          simp only [Finset.mem_filter, Finset.mem_univ, true_and, Finset.mem_singleton]
          exact ⟨fun h => hf.1 (h.2.symm.trans hd.symm), fun h => ⟨hp, by rw [h, hd]⟩⟩, bigSep_singleton]
    · rw [if_neg hp, bigSep_congr (Ψ := fun _ => BI.emp) fun d _ => if_neg fun h => hp h.1, bigSep_emp_const]
  rw [bigSep_filter, bigSep_congr fun p _ => h p, ← bigSep_univ_prod (fun x : Slot × Fin 7 => if used x.1 ∧ dir x.1 = f x.2 then Φ x.1 else BI.emp),
    bigSep_univ_equiv (Equiv.prodComm (Fin 7) Slot), bigSep_univ_prod]
  exact bigSep_congr fun d _ => (bigSep_filter Finset.univ (fun p : Slot => used p ∧ dir p = f d) Φ).symm

omit [FloatOps F] in
/-- All places are those copied to and the idle ones. -/
theorem by_use (Φ : Slot → sProp 𝕄) : bigSep Finset.univ Φ = iprop(bigSep usedS Φ ∗ bigSep idleS Φ) := bigSep_filter_split Finset.univ used

theorem copies_nodup : ∀ (c : Fin 4) (s : Fin 9), (copies c s).Nodup := by decide

omit [FloatOps F] in
/-- The places copied to, chunk after chunk and slot after slot. -/
theorem by_slot (Φ : Slot → sProp 𝕄) :
    bigSep usedS Φ = bigSep Finset.univ fun c : Fin 4 => bigSep Finset.univ fun s : Fin 9 => sepL (fun j => Φ (c, s, j)) (copies c s) := by
  rw [bigSep_filter, bigSep_univ_prod]
  refine bigSep_congr fun c _ => ?_
  rw [bigSep_univ_prod]
  refine bigSep_congr fun s _ => ?_
  rw [← bigSep_sepL (fun j => Φ (c, s, j)) (copies c s) _ (copies_nodup c s) rfl,
    show (copies c s).toFinset = Finset.univ.filter (fun j : Fin 3 => used (c, s, j)) from
      Finset.ext fun j => by simp only [List.mem_toFinset, Finset.mem_filter, Finset.mem_univ, true_and]; rfl,
    bigSep_filter]

/-! ## The receive buffer and the accumulator, cut -/

theorem inv_bijective : Function.Bijective inv := ⟨fun a b h => by rw [← inv_inv a, h, inv_inv], fun b => ⟨inv b, inv_inv b⟩⟩

theorem slots_disjoint (p p' : Slot) (h : p ≠ p') : Disjoint (slotM p).view.set (slotM p').view.set := by
  obtain ⟨c, s, j⟩ := p
  obtain ⟨c', s', j'⟩ := p'
  rw [set_slot, set_slot]
  by_cases hc : c = c'
  · subst hc
    by_cases hs : s = s'
    · subst hs
      have hj : j.val ≠ j'.val := fun e => h (by rw [Fin.ext e])
      exact View.disjoint_slice_of_sep _ _ _ (2 : Fin 5) rfl rfl (by
        show j.val + 1 ≤ j'.val ∨ j'.val + 1 ≤ j.val
        omega)
    · have hs : s.val ≠ s'.val := fun e => hs (Fin.ext e)
      exact View.disjoint_slice_of_sep _ _ _ (1 : Fin 5) rfl rfl (by
        show s.val + 1 ≤ s'.val ∨ s'.val + 1 ≤ s.val
        omega)
  · have hc : c.val ≠ c'.val := fun e => hc (Fin.ext e)
    exact View.disjoint_slice_of_sep _ _ _ (0 : Fin 5) rfl rfl (by
      show c.val + 1 ≤ c'.val ∨ c'.val + 1 ≤ c.val
      omega)

theorem chunks_disjoint (c c' : Fin 4) (h : c ≠ c') : Disjoint (accM c).view.set (accM c').view.set := by
  have hc : c.val ≠ c'.val := fun e => h (Fin.ext e)
  rw [set_acc, set_acc]
  exact View.disjoint_slice_of_sep _ _ _ (0 : Fin 3) rfl rfl (by
    show c.val + 1 ≤ c'.val ∨ c'.val + 1 ≤ c.val
    omega)

/-- A scratch buffer held whole with anything in it. -/
abbrev anyAt (k : Dev nD) (b : Ref sig .tc) : sProp 𝕄 := iprop(∃ f : Buf (Elt F) ((k : Thread nD τ).loc b), ((k : Thread nD τ).loc b) ↦{fullShare} f)
/-- What the slots, and the chunks, leave of their buffer. -/
def commRest (k : Dev nD) : sProp 𝕄 :=
  iprop(∃ f : Buf (Elt F) ((k : Thread nD τ).loc cc0_scratch1), ((k : Thread nD τ).loc cc0_scratch1) ↦[Ring.restOf (ℓ := (k : Thread nD τ).loc cc0_scratch1) fun p : Slot => (slotM p).view.set]{fullShare} f)
def accRest (k : Dev nD) : sProp 𝕄 :=
  iprop(∃ f : Buf (Elt F) ((k : Thread nD τ).loc cc0_scratch0), ((k : Thread nD τ).loc cc0_scratch0) ↦[Ring.restOf (ℓ := (k : Thread nD τ).loc cc0_scratch0) fun c : Fin 4 => (accM c).view.set]{fullShare} f)

theorem comm_split (k : Dev nD) : anyAt (F := F) k cc0_scratch1 ⊢ iprop((bigSep Finset.univ fun p : Slot => some' k (slotM p)) ∗ commRest k) :=
  Ring.fam_split_ex (ℓ := (k : Thread nD τ).loc cc0_scratch1) (fun p : Slot => (slotM p).view.set) slots_disjoint
theorem comm_join (k : Dev nD) : iprop((bigSep Finset.univ fun p : Slot => some' k (slotM p)) ∗ commRest k) ⊢ anyAt (F := F) k cc0_scratch1 :=
  Ring.fam_join (ℓ := (k : Thread nD τ).loc cc0_scratch1) (fun p : Slot => (slotM p).view.set) slots_disjoint (fun _ => Classical.arbitrary _)
theorem acc_split (k : Dev nD) : anyAt (F := F) k cc0_scratch0 ⊢ iprop((bigSep Finset.univ fun c : Fin 4 => some' k (accM c)) ∗ accRest k) :=
  Ring.fam_split_ex (ℓ := (k : Thread nD τ).loc cc0_scratch0) (fun c : Fin 4 => (accM c).view.set) chunks_disjoint
theorem acc_join (k : Dev nD) : iprop((bigSep Finset.univ fun c : Fin 4 => some' k (accM c)) ∗ accRest k) ⊢ anyAt (F := F) k cc0_scratch0 :=
  Ring.fam_join (ℓ := (k : Thread nD τ).loc cc0_scratch0) (fun c : Fin 4 => (accM c).view.set) chunks_disjoint (fun _ => Classical.arbitrary _)

/-! ## What a device is dealt -/

/-- A copy's ghost state before the barrier: all but the slot on the peer. -/
def Tick (k : Dev nD) (p : Slot) : sProp 𝕄 :=
  iprop(dutyTok ER (sendCell k p) 0 0 ∗ dutyTok ER (recvCell (peer (dir p) k) p) 0 0
    ∗ atPos ER (sendCell k p) 0 ∅ 0 ∗ atPos ER (recvCell k p) 0 ∅ 0 ∗ cred (tallyAt (recvCell k p) () N))
/-- An idle place's: the places of its two cells. -/
def Idle (k : Dev nD) (p : Slot) : sProp 𝕄 := iprop(atPos ER (sendCell k p) 0 ∅ 0 ∗ atPos ER (recvCell k p) 0 ∅ 0)

/-- A device's ghost state: the barrier's tokens and place, the copies', the idle places'. -/
def dealt (k : Dev nD) : sProp 𝕄 :=
  iprop(sepL (fun d => dutyTok ER (barCell (peer d k)) 0 (inv d)) allDirs ∗ atPos ER (barCell k) 0 ∅ 0 ∗ cred (tallyAt (barCell k) () 7)
    ∗ bigSep usedS (Tick k) ∗ bigSep idleS (Idle k))

/-- The two counters of a place at zero. -/
def zero2 (k : Dev nD) (p : Slot) : sProp 𝕄 := iprop(semVal (sendCell k p) 0 ∗ semVal (recvCell k p) 0)

theorem done_split (k : Dev nD) (p : Slot) : Done (F := F) k p ⊢ iprop(zero2 k p ∗ some' k (slotM p)) := by
  unfold Done zero2
  iintro ⟨H1, H2, H3⟩
  isplitl [H1 H2]
  · isplitl [H1] <;> iassumption
  iexact H3

theorem done_split_all (k : Dev nD) : (bigSep usedS fun p => Done (F := F) k p)
    ⊢ iprop((bigSep usedS fun p => zero2 k p) ∗ bigSep usedS fun p => some' k (slotM p)) := by
  rw [← bigSep_sep']
  exact bigSep_mono fun p _ => done_split k p

theorem fut_intro (k : Dev nD) (p : Slot) : iprop(some' (peer (dir p) k) (slotM p) ∗ Tick k p) ⊢ Fut (F := F) k p := by
  unfold Tick Fut; exact BI.Entails.refl _

/-- An idle place's cells close at once. -/
theorem idle_close (k : Dev nD) (p : Slot) (h : ¬ used p) : iprop(records A K ∗ Idle k p) ⊢ |={Set.univ}=> zero2 (F := F) k p := by
  unfold Idle zero2
  iintro ⟨#HR, H1, H2⟩
  imod (Rounds.cell_close ER (rd A) (Set.mem_univ (K (k, some (true, p)))) (fun h => h) (R := 0) (duties_unused A k p true h)) $$ [H1] with Hz1
  · isplitr; · iapply (inv_at A K (k, some (true, p))) $$ HR
    iexact H1
  imod (Rounds.cell_close ER (rd A) (Set.mem_univ (K (k, some (false, p)))) (fun h => h) (R := 0) (duties_unused A k p false h)) $$ [H2] with Hz2
  · isplitr; · iapply (inv_at A K (k, some (false, p))) $$ HR
    iexact H2
  imodintro
  isplitl [Hz1]; · iexact Hz1
  iexact Hz2

theorem idle_close_all (k : Dev nD) : iprop(records A K ∗ bigSep idleS (Idle k)) ⊢ |={Set.univ}=> bigSep idleS (zero2 (F := F) k) :=
  (bigSep_with_persistent fun p hp => idle_close A K k p (Finset.mem_filter.mp hp).2).trans (bigSep_fupd _ _)

/-! ## The barrier -/

theorem run_signalAll (k : Dev nD) (B : CellTallies nD τ sig Unit) : ∀ (ds : List (Fin 7)) (Q : PUnit → sProp 𝕄),
    iprop(records A K ∗ (∃ W : Waits sig Unit, owes (k : Thread nD τ) (owedB k B ds) W)
        ∗ sepL (fun d => dutyTok ER (barCell (peer d k)) 0 (inv d)) ds ∗ sepL (fun d => barPay (peer d k) (inv d)) ds
        ∗ ((∃ W : Waits sig Unit, owes (k : Thread nD τ) B W) -∗ Q ⟨⟩))
      ⊢ Run k (signalAll (fun d => peer d k) ds) Q
  | [], Q => by
    unfold signalAll owedB sepL
    rw [Prog.pure_eq_ret, Run, wp_ret]
    iintro ⟨-, HO, -, -, Hk⟩
    imodintro
    iapply Hk $$ HO
  | d :: ds, Q => by
    unfold signalAll owedB sepL
    simp only [semSignalWord, Prog.lift, Prog.bind_op, Prog.bind_ret, Prog.pure_eq_ret]
    iintro ⟨#HR, ⟨%W, HO⟩, ⟨Ht, Hts⟩, ⟨Hp, Hps⟩, Hk⟩
    iapply (Rounds.wp_signal 𝒱₀ ER (rd A) (k : Thread nD τ) none (dst := (peer d k : Thread nD τ)) (κ := K (peer d k, none))
        (d := inv d) (by rw [duties_bar]; exact Finset.mem_univ _) ((amount_bar A (peer d k) (inv d)).trans (by decide)) () (owedB k B ds) rfl)
      $$ [HO Ht Hp]
    · isplitr; · iapply (inv_at A K (peer d k, none)) $$ HR
      isplitl [HO]; · iexact HO
      isplitl [Ht]; · iexact Ht
      isplitl [Hp]; · rw [payload_bar]; iexact Hp
      iapply (reached_at A K (peer d k, none)) $$ HR
    iintro HO
    iapply (run_signalAll k B ds) $$ [-]
    isplitr; · iexact HR
    isplitl [HO]; · iexists W; iexact HO
    isplitl [Hts]; · iexact Hts
    isplitl [Hps]; · iexact Hps
    iexact Hk

/-- What a device hands over at the barrier is its own slots. -/
theorem give (k : Dev nD) : bigSep usedS (fun p => some' k (slotM p)) ⊢ sepL (fun d => barPay (F := F) (peer d k) (inv d)) allDirs := by
  rw [← bigSep_sepL _ allDirs Finset.univ (by decide) (by decide), by_dir inv inv_bijective]
  refine bigSep_mono fun d _ => ?_
  unfold barPay
  rw [peer_inv]
  exact BI.Entails.refl _
/-- What it gets is its peers'. -/
theorem gain (k : Dev nD) : bigSep Finset.univ (fun d : Fin 7 => barPay k d) ⊢ bigSep usedS (fun p => some' (F := F) (peer (dir p) k) (slotM p)) := by
  rw [by_dir id Function.bijective_id]
  refine bigSep_mono fun d _ => ?_
  unfold barPay
  refine Entails.of_eq (bigSep_congr fun p hp => ?_)
  rw [(Finset.mem_filter.mp hp).2.2]

theorem wait_bar (k : Dev nD) : records A K ⊢ MayWait (k : Thread nD τ) (.reg barM.sem) () (owedL k sends) := by
  have h := mayWait_copies (F := F) k (.reg barM.sem) 1 sends ?_ ?_
  · unfold records
    iintro ⟨-, -, #H⟩
    iapply h $$ H
  · exact (lv_bar k ()).le
  · intro p' h; omega

/-! ## The body -/

section Run
variable (k : Dev nD) (X : cc0_stg0_0.ty.Contents (Elt F)) (W1 : cc0_stg1_0.ty.Contents (Elt F)) (U1 : cc0_stg2_0.ty.Contents (Elt F))
  (W2 : cc0_stg3_0.ty.Contents (Elt F)) (U2 : cc0_stg4_0.ty.Contents (Elt F)) (W3 : cc0_stg5_0.ty.Contents (Elt F)) (U3 : cc0_stg6_0.ty.Contents (Elt F))

/-- The staged inputs. -/
def inputs : sProp 𝕄 :=
  iprop(wholeAt k cc0_stg0_0 X ∗ wholeAt k cc0_stg1_0 W1 ∗ wholeAt k cc0_stg2_0 U1 ∗ wholeAt k cc0_stg3_0 W2 ∗ wholeAt k cc0_stg4_0 U2
    ∗ wholeAt k cc0_stg5_0 W3 ∗ wholeAt k cc0_stg6_0 U3)

/-- The weights as loaded. -/
def Wld : Fin 3 → FVec F S256x512 .bf16 := ![wRead (wM 0) W1, wRead (wM 1) W2, wRead (wM 2) W3]
def Uld : Fin 3 → FVec F S512x256 .bf16 := ![uRead (uM 0) U1, uRead (uM 1) U2, uRead (uM 2) U3]

/-- A device reads its own number. -/
theorem run_device {α : Type} (p : Dev nD → Prog (Eff F) α) (Q : α → sProp 𝕄) : Run k (p k) Q ⊢ Run k (Prog.lift .deviceId >>= p) Q := by
  simp only [Prog.lift, Prog.bind_op, Prog.bind_ret]
  unfold Run
  rw [wp_deviceId]

/-- A run of two programs in sequence, the first one first. -/
theorem run_seq {α β : Type} (p : Prog (Eff F) α) (f : α → Prog (Eff F) β) (Q : β → sProp 𝕄) :
    (Run k p fun a => Run k (f a) Q) ⊢ Run k (p >>= f) Q := Entails.of_eq (run_bind k p f Q).symm

/-- A chunk's state before its first slot. -/
theorem state_zero : iprop((bigSep usedS fun p => Fut (F := F) k p) ∗ bigSep Finset.univ fun c : Fin 4 => some' k (accM c)) ⊢ State A k (fun _ => 0) := by
  rw [by_slot]
  unfold State Chunk
  rw [bigSep_sep']
  exact BI.Entails.refl _

/-- and after its last. -/
theorem state_ten : State A k (fun _ => 10) ⊢ iprop((bigSep usedS fun p => Done (F := F) k p) ∗ bigSep Finset.univ fun c : Fin 4 => some' k (accM c)) := by
  rw [by_slot]
  unfold State Chunk
  rw [bigSep_sep']
  refine (sep_mono_left (bigSep_mono fun c _ => bigSep_mono fun s _ => ?_)).trans (sep_mono_right (bigSep_mono fun c _ => ?_))
  · have := s.isLt
    rw [ord_gt (show s.val + 1 < 10 by omega), slot_gt]
    exact BI.Entails.refl _
  · unfold AccSt
    rw [if_neg (show ¬ (10 : ℕ) = 0 by decide), if_pos rfl]
    exact some_of_holds k (accM c) _

/-- From what it is dealt, a device's body runs to its end: every counter is zero again, the buffers are whole, the staged
    inputs unchanged, the output's rows are the last sums. -/
theorem run_prog (hv : Vals A k (xRows X) (Wld W1 W2 W3) (Uld U1 U2 U3)) (Q : PUnit → sProp 𝕄) :
    iprop(records A K ∗ dealt k ∗ anyAt k cc0_scratch0 ∗ anyAt k cc0_scratch1 ∗ (∃ W : Waits sig Unit, owes (k : Thread nD τ) (O₀ k) W)
        ∗ inputs k X W1 U1 W2 U2 W3 U3 ∗ (∃ f : cc0_stg7_0.ty.Contents (Elt F), wholeAt k cc0_stg7_0 f)
        ∗ (∀ g : cc0_stg7_0.ty.Contents (Elt F), ⌜∀ c, oRows g c = outRow A k c⌝ -∗ wholeAt k cc0_stg7_0 g
            -∗ semVal (barCell k) 0 -∗ (bigSep Finset.univ fun p : Slot => zero2 k p) -∗ anyAt k cc0_scratch0 -∗ anyAt k cc0_scratch1
            -∗ (∃ W : Waits sig Unit, owes (k : Thread nD τ) 0 W) -∗ inputs k X W1 U1 W2 U2 W3 U3 -∗ Q ⟨⟩))
      ⊢ Run k (prog peer (fun s c j k => peer (dirOf c s j) k) xM wM uM oM) Q := by
  unfold prog dealt inputs O₀
  iintro ⟨#HR, ⟨Htb, Hpb, Hcb, Htk, Hid⟩, Hacc, Hcomm, HO, ⟨Hx, Hw1, Hu1, Hw2, Hu2, Hw3, Hu3⟩, ⟨%f, Ho⟩, Hk⟩
  iapply (run_device k _ Q)
  beta_reduce
  imod (idle_close_all A K k) $$ [Hid] with Hid
  · isplitr; · iexact HR
    iexact Hid
  ihave H := (comm_split k) $$ Hcomm
  icases H with ⟨Hsl, Hcr⟩
  ihave H := (Entails.of_eq (by_use fun p => some' (F := F) k (slotM p))) $$ Hsl
  icases H with ⟨Hus, Hun⟩
  ihave Hg := (give k) $$ Hus
  iapply (run_seq k _ _ Q)
  iapply (run_signalAll A K k (owedL k sends) allDirs) $$ [-]
  isplitr; · iexact HR
  isplitl [HO]; · iexact HO
  isplitl [Htb]; · iexact Htb
  isplitl [Hg]; · iexact Hg
  iintro ⟨%W, HO⟩
  simp only [semWaitWord, Prog.lift, Prog.bind_op, Prog.bind_ret]
  iapply (Rounds.wp_wait_rest_token 𝒱₀ ER (rd A) (k : Thread nD τ) none (κ := K (k, none))
      (wpE_semWait_eq 𝒱₀ (k : Thread nD τ) none Set.univ) (Set.mem_univ _) () (O := owedL k sends) (W := W) (R := 0) (m := 0) (T := ∅)
      (by rw [expect_bar]; decide)) $$ [Hcb HO Hpb]
  · isplitr; · iapply (inv_at A K (k, none)) $$ HR
    isplitl [Hcb]; · iexact Hcb
    isplitl [HO]; · iexact HO
    isplitr; · iapply (wait_bar A K k) $$ HR
    iexact Hpb
  iintro ⟨HO, Hpb, -, Hpay⟩
  ihave Hp := (Entails.of_eq (rest_bar A k)) $$ Hpay
  ihave Hp := (gain k) $$ Hp
  imod (Rounds.cell_close ER (rd A) (Set.mem_univ (K (k, none))) (fun h => h) (R := 0 + 1) (duties_later A (barCell k))) $$ [Hpb] with Hzb
  · isplitr; · iapply (inv_at A K (k, none)) $$ HR
    iexact Hpb
  iapply (run_seq k _ _ Q)
  iapply (wp_loadW k (wM 0) W1) $$ [-]
  isplitl [Hw1]; · iexact Hw1
  iintro Hw1
  iapply (run_seq k _ _ Q)
  iapply (wp_loadU k (uM 0) U1) $$ [-]
  isplitl [Hu1]; · iexact Hu1
  iintro Hu1
  iapply (run_seq k _ _ Q)
  iapply (wp_loadW k (wM 1) W2) $$ [-]
  isplitl [Hw2]; · iexact Hw2
  iintro Hw2
  iapply (run_seq k _ _ Q)
  iapply (wp_loadU k (uM 1) U2) $$ [-]
  isplitl [Hu2]; · iexact Hu2
  iintro Hu2
  iapply (run_seq k _ _ Q)
  iapply (wp_loadW k (wM 2) W3) $$ [-]
  isplitl [Hw3]; · iexact Hw3
  iintro Hw3
  iapply (run_seq k _ _ Q)
  iapply (wp_loadU k (uM 2) U3) $$ [-]
  isplitl [Hu3]; · iexact Hu3
  iintro Hu3
  ihave H := (acc_split k) $$ Hacc
  icases H with ⟨Hac, Har⟩
  ihave Hs := (state_zero A k) $$ [Hp Htk Hac]
  · isplitr [Hac]
    · iapply ((Entails.of_eq (bigSep_sep' usedS (fun p => some' (F := F) (peer (dir p) k) (slotM p)) (Tick k)).symm).trans
        (bigSep_mono fun p _ => fut_intro k p))
      isplitl [Hp] <;> iassumption
    iexact Hac
  iapply (run_seq k _ _ Q)
  iapply (run_begins A K k (wRead (wM 0) W1) (uRead (uM 0) U1) X hv.zero (sendsOf order) [0, 1, 2, 3] (fun _ => 0) goodB_chunks) $$ [-]
  isplitr; · iexact HR
  isplitl [Hs]; · iexact Hs
  isplitl [Hx]; · iexact Hx
  isplitl [HO]; · unfold Owes; iexists _; iexact HO
  iintro Hs Hx HO
  iapply (run_steps A K k hv order (fun _ => 1) f good_order (fun c h => absurd h (show ¬ (1 : ℕ) = 10 by decide))) $$ [-]
  isplitr; · iexact HR
  isplitl [Hs]; · iexact Hs
  isplitl [Ho]; · iexact Ho
  isplitl [HO]; · iexact HO
  iintro %g %hg Hs Ho HO
  ihave H := (state_ten A k) $$ Hs
  icases H with ⟨Hd, Hac⟩
  ihave H := (done_split_all k) $$ Hd
  icases H with ⟨Hz, Hsl⟩
  iapply Hk $$ [] Ho Hzb [Hz Hid] [Hac Har] [Hsl Hun Hcr] [HO] [Hx Hw1 Hu1 Hw2 Hu2 Hw3 Hu3]
  · ipureintro; exact hg
  · iapply (Entails.of_eq (by_use (zero2 (F := F) k)).symm)
    isplitl [Hz] <;> iassumption
  · iapply (acc_join k)
    isplitl [Hac] <;> iassumption
  · iapply (comm_join k)
    isplitr [Hcr]
    · iapply (Entails.of_eq (by_use fun p => some' (F := F) k (slotM p)).symm)
      isplitl [Hsl] <;> iassumption
    iexact Hcr
  · unfold Owes owedL; iexact HO
  isplitl [Hx]; · iexact Hx
  isplitl [Hw1]; · iexact Hw1
  isplitl [Hu1]; · iexact Hu1
  isplitl [Hw2]; · iexact Hw2
  isplitl [Hu2]; · iexact Hu2
  isplitl [Hw3]; · iexact Hw3
  iexact Hu3

end Run

end Cert.KernelIdeal.Own

end
-- ==== Proof.Values.lean ====
/- The values the devices send and the output they end with, as functions of what their buffers hold at the start. -/
module

public import proofs.«01_k».proof.Proof.Body

@[expose] public section

noncomputable section

namespace Cert.KernelIdeal.Own

open Cert.KernelIdeal.Gen
open Idealize.ShloMosaic
open Idealize.ShloMosaic.TcCoe
open Idealize.SL Idealize.SL.Sem

variable {F : FTy → Type} [FloatOps F]

/-! ## What is sent -/

/-- A sum over a slot's copies looks at that slot's values only. -/
theorem plus_congr {A A' : Fin 9 → Fin 4 → Dev nD → FVec F S64x256 .bf16} (k : Dev nD) (c : Fin 4) (s : Fin 9) (h : A s = A' s) :
    ∀ (js : List (Fin 3)) (v : FVec F S64x256 .bf16), plus A k c s js v = plus A' k c s js v
  | [], _ => rfl
  | j :: js, v => by unfold plus; rw [h]; exact plus_congr k c s h js _

theorem total_congr {A A' : Fin 9 → Fin 4 → Dev nD → FVec F S64x256 .bf16} (s : Fin 9) (c : Fin 4) (k : Dev nD) (h : A s = A' s) :
    total A s c k = total A' s c k := by
  unfold total; rw [h]; exact plus_congr k c s h _ _

section Sent

variable (xs : Dev nD → Fin 4 → FVec F S64x256 .bf16) (Ws : Dev nD → Fin 3 → FVec F S256x512 .bf16)
  (Us : Dev nD → Fin 3 → FVec F S512x256 .bf16)

/-- What the devices send in slot `n`, by chunk: the first layer's contributions, then sums, and after each layer's
    last sum the contribution of it to the next layer. -/
def sentN : ℕ → Fin 4 → Dev nD → FVec F S64x256 .bf16
  | 0, c, k => contrib (Ws k 0) (Us k 0) (xs k c)
  | n + 1, c, k =>
    if n % 3 < 2 then total (fun _ => sentN n) ⟨n % 9, Nat.mod_lt _ (by decide)⟩ c k
    else contrib (Ws k ⟨(n + 1) / 3 % 3, Nat.mod_lt _ (by decide)⟩) (Us k ⟨(n + 1) / 3 % 3, Nat.mod_lt _ (by decide)⟩)
      (total (fun _ => sentN n) ⟨n % 9, Nat.mod_lt _ (by decide)⟩ c k)

def sent (s : Fin 9) : Fin 4 → Dev nD → FVec F S64x256 .bf16 := sentN xs Ws Us s.val

theorem sent_total (s : Fin 9) (c : Fin 4) (k : Dev nD) :
    total (fun _ => sentN xs Ws Us s.val) ⟨s.val % 9, Nat.mod_lt _ (by decide)⟩ c k = total (sent xs Ws Us) s c k := by
  rw [show (⟨s.val % 9, Nat.mod_lt _ (by decide)⟩ : Fin 9) = s from Fin.ext (Nat.mod_eq_of_lt s.isLt)]
  exact total_congr s c k rfl

/-- They are the values the body's run asks for. -/
theorem sent_vals (k : Dev nD) : Vals (sent xs Ws Us) k (xs k) (Ws k) (Us k) where
  zero _ := rfl
  within s c h hs := by
    show sentN xs Ws Us (s.val + 1) c k = _
    unfold sentN; rw [if_pos hs]; exact sent_total xs Ws Us s c k
  across s c h hs := by
    show sentN xs Ws Us (s.val + 1) c k = _
    unfold sentN
    rw [if_neg hs, sent_total xs Ws Us s c k,
      show (⟨(s.val + 1) / 3 % 3, Nat.mod_lt _ (by decide)⟩ : Fin 3) = ⟨(s.val + 1) / 3, by omega⟩ from Fin.ext (Nat.mod_eq_of_lt (by omega))]

end Sent

/-! ## The output -/

/-- A row of the output is its chunk's. -/
theorem oRows_apply (f : cc0_stg7_0.ty.Contents (Elt F)) (c : Fin 4) (j : S64x256.Idx) : oRows f c j = f ((rowR c).idx j) := rfl

/-- Where a row of the output lies in its chunk. -/
def chunkOf (i : S256x256.Idx) : Fin 4 := ⟨(i 0).val / 64, by have h : (i 0).val < 256 := (i 0).isLt; omega⟩
def inChunk (i : S256x256.Idx) : S64x256.Idx
  | 0 => ⟨(i 0).val % 64, Nat.mod_lt _ (by decide)⟩
  | 1 => ⟨(i 1).val, (i 1).isLt⟩

theorem idx_inChunk (i : S256x256.Idx) : (rowR (chunkOf i)).idx (inChunk i) = i := by
  funext a
  refine Fin.ext ?_
  fin_cases a
  · show 64 * ((i 0).val / 64) + 1 * ((i 0).val % 64) = (i 0).val
    omega
  · show 0 + 1 * (i 1).val = (i 1).val
    omega

/-- The output with given chunks. -/
def outOf (r : Fin 4 → FVec F S64x256 .f32) : cc0_stg7_0.ty.Contents (Elt F) := fun i => r (chunkOf i) (inChunk i)

/-- It is the only contents with those chunks. -/
theorem eq_outOf (g : cc0_stg7_0.ty.Contents (Elt F)) (r : Fin 4 → FVec F S64x256 .f32) (h : ∀ c, oRows g c = r c) : g = outOf r := by
  funext i
  show g i = r (chunkOf i) (inChunk i)
  rw [← h, oRows_apply, idx_inChunk]

end Cert.KernelIdeal.Own

end
-- ==== Proof.Data.lean ====
/- The pipeline's data at the kernel's one point: what each window holds before and after, what a device owes, and the
   body's run as the pipeline asks for it. -/
module

public import proofs.«01_k».proof.Proof.Whole
public import proofs.«01_k».proof.Proof.Values
public import proofs.«01_k».proof.Proof.Gen.KernelIdeal.Points
public import proofs.«01_k».proof.Proof.Gen.KernelIdeal.Launch

@[expose] public section

noncomputable section

namespace Cert.KernelIdeal.Own

open Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The values of a run from memory `m` -/

/-- The staged inputs of device `k`: `x`, and each layer's first and second weight. -/
def stg0 (k : Dev nD) : cc0_stg0_0.ty.Contents (Elt F) := (win0_0.blk (0 : Fin 1)).view.read (Elt F) (m ((k : Thread nD τ).loc main_arg0))
def stg1 (k : Dev nD) : cc0_stg1_0.ty.Contents (Elt F) := (win0_1.blk (0 : Fin 1)).view.read (Elt F) (m ((k : Thread nD τ).loc main_arg1))
def stg2 (k : Dev nD) : cc0_stg2_0.ty.Contents (Elt F) := (win0_2.blk (0 : Fin 1)).view.read (Elt F) (m ((k : Thread nD τ).loc main_arg4))
def stg3 (k : Dev nD) : cc0_stg3_0.ty.Contents (Elt F) := (win0_3.blk (0 : Fin 1)).view.read (Elt F) (m ((k : Thread nD τ).loc main_arg2))
def stg4 (k : Dev nD) : cc0_stg4_0.ty.Contents (Elt F) := (win0_4.blk (0 : Fin 1)).view.read (Elt F) (m ((k : Thread nD τ).loc main_arg5))
def stg5 (k : Dev nD) : cc0_stg5_0.ty.Contents (Elt F) := (win0_5.blk (0 : Fin 1)).view.read (Elt F) (m ((k : Thread nD τ).loc main_arg3))
def stg6 (k : Dev nD) : cc0_stg6_0.ty.Contents (Elt F) := (win0_6.blk (0 : Fin 1)).view.read (Elt F) (m ((k : Thread nD τ).loc main_arg6))

/-- The chunks of `x` and the weights of device `k`. -/
def xsOf (k : Dev nD) : Fin 4 → FVec F S64x256 .bf16 := xRows (stg0 m k)
def wsOf (k : Dev nD) : Fin 3 → FVec F S256x512 .bf16 := Wld (stg1 m k) (stg3 m k) (stg5 m k)
def usOf (k : Dev nD) : Fin 3 → FVec F S512x256 .bf16 := Uld (stg2 m k) (stg4 m k) (stg6 m k)

/-- What is sent in the run, and a device's output. -/
def sentOf : Fin 9 → Fin 4 → Dev nD → FVec F S64x256 .bf16 := sent (xsOf m) (wsOf m) (usOf m)
def outAt (k : Dev nD) : cc0_stg7_0.ty.Contents (Elt F) := outOf (outRow (sentOf m) k)

/-! ## The pipeline's data -/

/-- What a device starts from, besides its buffers. -/
def start (k : Dev nD) : sProp 𝕄 := iprop(∃ K, records (sentOf m) K ∗ dealt k)

def Φ₀ (k : Dev nD) : sProp 𝕄 := iprop(start m k ∗ anyAt k cc0_scratch0 ∗ anyAt k cc0_scratch1)
def Φ₁ (k : Dev nD) : sProp 𝕄 :=
  iprop(semVal (barCell k) 0 ∗ (bigSep Finset.univ fun p : Slot => zero2 k p) ∗ anyAt k cc0_scratch0 ∗ anyAt k cc0_scratch1)

def dats (_ : Fin 1) (k : Dev nD) : Dat τ (Elt F) Unit ℕ UU ℕ cfg0 k where
  A w := (s₀ m ρ).mem ((cfg0.win w).arr.view.loc (k : Thread nD τ))
  after w _ := match w with
    | ⟨0, _⟩ => stg0 m k
    | ⟨1, _⟩ => stg1 m k
    | ⟨2, _⟩ => stg2 m k
    | ⟨3, _⟩ => stg3 m k
    | ⟨4, _⟩ => stg4 m k
    | ⟨5, _⟩ => stg5 m k
    | ⟨6, _⟩ => stg6 m k
    | ⟨7, _⟩ => outAt m k
  Φ t := match t with
    | ⟨0, _⟩ => Φ₀ m k
    | ⟨_ + 1, _⟩ => Φ₁ k
  q _ := fullShare
  owed t := match t with
    | ⟨0, _⟩ => O₀ k
    | ⟨_ + 1, _⟩ => 0

theorem cfg0_N : cfg0.N = 1 := N_0

omit [FloatOps F] in
theorem owns_whole_eq (k : Dev nD) (b : Ref sig .tc) (X : b.ty.Contents (Elt F)) :
    (owns (Ix := Unit) (Name := ℕ) (U := UU) (Lvl := ℕ) (k : Thread nD τ) (Memref.whole b) fullShare X : sProp 𝕄)
      = iprop(∃ f : Buf (Elt F) (((k : Dev nD) : Thread nD τ).loc b), ⌜f = X⌝ ∗ (((k : Thread nD τ).loc b) ↦{fullShare} f)) := by
  unfold owns; simp only [Memref.view_whole, View.read_whole, View.set_whole]

/-! ## The body -/

/-- A staging buffer of device `k` at contents `X`. -/
abbrev stg (k : Dev nD) (b : Ref sig .tc) (X : b.ty.Contents (Elt F)) : sProp 𝕄 :=
  iprop(∃ f : Buf (Elt F) (((k : Dev nD) : Thread nD τ).loc b), ⌜f = X⌝ ∗ (((k : Thread nD τ).loc b) ↦{fullShare} f))

def bodyPre (k : Dev nD) : sProp 𝕄 :=
  iprop(Φ₀ m k ∗ (dats m ρ 0 k).owesAt () t0_0.castSucc
    ∗ (∃ d, stg k cc0_stg0_0 ((dats m ρ 0 k).before (0 : Fin 8) t0_0 d))
    ∗ (∃ d, stg k cc0_stg1_0 ((dats m ρ 0 k).before (1 : Fin 8) t0_0 d))
    ∗ (∃ d, stg k cc0_stg2_0 ((dats m ρ 0 k).before (2 : Fin 8) t0_0 d))
    ∗ (∃ d, stg k cc0_stg3_0 ((dats m ρ 0 k).before (3 : Fin 8) t0_0 d))
    ∗ (∃ d, stg k cc0_stg4_0 ((dats m ρ 0 k).before (4 : Fin 8) t0_0 d))
    ∗ (∃ d, stg k cc0_stg5_0 ((dats m ρ 0 k).before (5 : Fin 8) t0_0 d))
    ∗ (∃ d, stg k cc0_stg6_0 ((dats m ρ 0 k).before (6 : Fin 8) t0_0 d))
    ∗ (∃ d, stg k cc0_stg7_0 ((dats m ρ 0 k).before (7 : Fin 8) t0_0 d)))

def bodyPost (k : Dev nD) : sProp 𝕄 :=
  iprop(Φ₁ k ∗ (dats m ρ 0 k).owesAt () t0_0.succ
    ∗ stg k cc0_stg0_0 (stg0 m k) ∗ stg k cc0_stg1_0 (stg1 m k) ∗ stg k cc0_stg2_0 (stg2 m k) ∗ stg k cc0_stg3_0 (stg3 m k)
    ∗ stg k cc0_stg4_0 (stg4 m k) ∗ stg k cc0_stg5_0 (stg5 m k) ∗ stg k cc0_stg6_0 (stg6 m k) ∗ stg k cc0_stg7_0 (outAt m k))

omit [FloatOps F] in
theorem stg_intro (k : Dev nD) (b : Ref sig .tc) (X : b.ty.Contents (Elt F)) : wholeAt k b X ⊢ stg k b X := by
  iintro H; iexists X; isplitr; · (ipureintro; rfl)
  iexact H

/-- An input window is staged before the body. -/
theorem stg_before (k : Dev nD) (w : Fin cfg0.W) (hf : (cfg0.win w).fetch t0_0 = true)
    (d : (cfg0.win w).block.Idx → Elt F (cfg0.win w).elt) :
    (dats m ρ 0 k).before w t0_0 d = (dats m ρ 0 k).fetched w t0_0 d := by unfold Dat.before; exact if_pos hf

set_option maxHeartbeats 1600000 in
/-- The body runs from the pipeline's state before the point to the one after. -/
theorem sound_body (k : Dev nD) :
    bodyPre m ρ k ⊢ Run k (prog peer (fun s c j k => peer (dirOf c s j) k) xM wM uM oM) (fun _ => bodyPost m ρ k) := by
  unfold bodyPre Φ₀ start
  iintro ⟨⟨⟨%K, #HR, Hd⟩, Ha, Hb⟩, Ho, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩, ⟨%d6, %g6, %h6, H6⟩, ⟨%d7, %g7, %h7, H7⟩⟩
  have e0 : g0 = stg0 m k := by rw [h0, stg_before m ρ k 0 (fetch0_0 t0_0)]; rfl
  have e1 : g1 = stg1 m k := by rw [h1, stg_before m ρ k 1 (fetch0_1 t0_0)]; rfl
  have e2 : g2 = stg2 m k := by rw [h2, stg_before m ρ k 2 (fetch0_2 t0_0)]; rfl
  have e3 : g3 = stg3 m k := by rw [h3, stg_before m ρ k 3 (fetch0_3 t0_0)]; rfl
  have e4 : g4 = stg4 m k := by rw [h4, stg_before m ρ k 4 (fetch0_4 t0_0)]; rfl
  have e5 : g5 = stg5 m k := by rw [h5, stg_before m ρ k 5 (fetch0_5 t0_0)]; rfl
  have e6 : g6 = stg6 m k := by rw [h6, stg_before m ρ k 6 (fetch0_6 t0_0)]; rfl
  subst e0 e1 e2 e3 e4 e5 e6
  unfold Dat.owesAt Pipeline.owesWithin
  icases Ho with ⟨%W, %hW, HO⟩
  rw [show (dats m ρ 0 k).owed t0_0.castSucc = O₀ k from rfl]
  iapply (run_prog (sentOf m) K k (stg0 m k) (stg1 m k) (stg2 m k) (stg3 m k) (stg4 m k) (stg5 m k) (stg6 m k)
    (sent_vals (xsOf m) (wsOf m) (usOf m) k) (fun _ => bodyPost m ρ k)) $$ [-]
  isplitr; · iexact HR
  isplitl [Hd]; · iexact Hd
  isplitl [Ha]; · iexact Ha
  isplitl [Hb]; · iexact Hb
  isplitl [HO]; · iexists W; iexact HO
  isplitl [H0 H1 H2 H3 H4 H5 H6]
  · unfold inputs
    isplitl [H0]; · iexact H0
    isplitl [H1]; · iexact H1
    isplitl [H2]; · iexact H2
    isplitl [H3]; · iexact H3
    isplitl [H4]; · iexact H4
    isplitl [H5]; · iexact H5
    iexact H6
  isplitl [H7]; · iexists g7; iexact H7
  iintro %g %hg Hout Hbar Hz Ha Hb ⟨%W', HO⟩ Hin
  have hg' : g = outAt m k := eq_outOf g _ hg
  subst hg'
  unfold inputs
  icases Hin with ⟨H0, H1, H2, H3, H4, H5, H6⟩
  unfold bodyPost Φ₁ Dat.owesAt Pipeline.owesWithin
  rw [show (dats m ρ 0 k).owed t0_0.succ = 0 from rfl]
  isplitl [Hbar Hz Ha Hb]
  · isplitl [Hbar]; · iexact Hbar
    isplitl [Hz]; · iexact Hz
    isplitl [Ha]; · iexact Ha
    iexact Hb
  isplitl [HO]
  · iexists W'
    isplitr; · ipureintro; exact fun _ _ => Or.inl trivial
    iexact HO
  isplitl [H0]; · iapply (stg_intro k cc0_stg0_0 (stg0 m k)) $$ H0
  isplitl [H1]; · iapply (stg_intro k cc0_stg1_0 (stg1 m k)) $$ H1
  isplitl [H2]; · iapply (stg_intro k cc0_stg2_0 (stg2 m k)) $$ H2
  isplitl [H3]; · iapply (stg_intro k cc0_stg3_0 (stg3 m k)) $$ H3
  isplitl [H4]; · iapply (stg_intro k cc0_stg4_0 (stg4 m k)) $$ H4
  isplitl [H5]; · iapply (stg_intro k cc0_stg5_0 (stg5 m k)) $$ H5
  isplitl [H6]; · iapply (stg_intro k cc0_stg6_0 (stg6 m k)) $$ H6
  iapply (stg_intro k cc0_stg7_0 (outAt m k)) $$ Hout

/-- The body as the pipeline calls it. -/
abbrev called : Prog (Eff F) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _) cc0_scratch2 cc0_scratch3

theorem called_eq : called (F := F) = prog peer (fun s c j k => peer (dirOf c s j) k) xM wM uM oM := body_eq ..

set_option maxRecDepth 40000 in
/-- The library's body obligation on device `k`. -/
theorem body_obligation (k : Dev nD) : BodyObligation (dats (F := F) m ρ 0 k) (defs₀ (F := F)) 𝒱₀ () Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole_eq]
  show bodyPre m ρ k ⊢ Run k called (fun _ => bodyPost m ρ k)
  rw [called_eq]
  exact sound_body m ρ k

end Cert.KernelIdeal.Own

end
-- ==== Proof.Launch.lean ====
/- The launch: the ghost state minted, allocated and dealt to the devices, and the run of the program. -/
module

public import proofs.«01_k».proof.Proof.Data
public import Idealize.ShloMosaic.Lib.Pipeline.CollectiveSegs

@[expose] public section

noncomputable section

namespace Cert.KernelIdeal.Own

open Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

/-- The kernel's own semaphores are scoped, distinct, none a staging buffer's. -/
theorem ownSemFacts : Pipeline.OwnSemFacts cfg0.spec osem where
  isScoped i := by
    have h : ∀ q : DmaSem sig, (SemLoc.dma q : SemLoc sig).isScoped .tc = true := by decide +kernel
    exact h _
  inj := osem_injective
  disj i w s h := by
    obtain ⟨q, hq, hv⟩ := osem_val i
    rw [hq] at h
    injection h with h
    have h8 : ∀ (w : Fin cfg0.W) (s : Fin (cfg0.spec w).nbuf), ((cfg0.spec w).sem s).val < 8 := by decide
    have := h8 w s
    rw [← h, hv] at this
    unfold ownVal at this
    split at this <;> omega

def ownCells : Finset (GSem nD τ sig) := Finset.univ.map ⟨kcell, kcell_injective⟩

/-- A device's duty tokens as minted: its barrier's seven, one per own semaphore. -/
abbrev TI : Type := Fin 7 ⊕ Own
def tokOf (x : Dev nD × TI) : GSem nD τ sig × ℕ × Fin 7 := match x.2 with
  | .inl d => (barCell x.1, 0, d)
  | .inr i => (kcell (x.1, some i), 0, 0)

theorem tokOf_injective : Function.Injective tokOf := by
  rintro ⟨k, t⟩ ⟨k', t'⟩ h
  cases t with
  | inl d =>
    cases t' with
    | inl d' =>
      have h1 : barCell k = barCell k' := congrArg Prod.fst h
      have h2 : d = d' := congrArg (fun x : GSem nD τ sig × ℕ × Fin 7 => x.2.2) h
      rw [bar_inj h1, h2]
    | inr i' =>
      have h1 : kcell (k, none) = kcell (k', some i') := congrArg Prod.fst h
      have h2 := kcell_injective h1
      injection h2 with h3 h4; cases h4
  | inr i =>
    cases t' with
    | inl d' =>
      have h1 : kcell (k, some i) = kcell (k', none) := congrArg Prod.fst h
      have h2 := kcell_injective h1
      injection h2 with h3 h4; cases h4
    | inr i' =>
      have h1 : kcell (k, some i) = kcell (k', some i') := congrArg Prod.fst h
      have h2 := kcell_injective h1
      injection h2 with h3 h4
      injection h4 with h4
      rw [h3, h4]

def ownToks : Finset (GSem nD τ sig × ℕ × Fin 7) := Finset.univ.map ⟨tokOf, tokOf_injective⟩

def u₀ : UU :=
  (initOf (Pipeline.cells cfgs cellOf_inj) (Pipeline.launchToks cfgs cellOf_inj), initOf ownCells ownToks)

/-! ## Conjunctions over the indices -/

omit [FloatOps F] in
theorem bigSep_CI (Φ : CI → sProp 𝕄) : bigSep Finset.univ Φ = iprop(Φ none ∗ bigSep Finset.univ fun i : Own => Φ (some i)) := by
  rw [bigSep_univ_at Φ none, show (Finset.univ : Finset CI).erase none = Finset.univ.map Function.Embedding.some from by
    ext i; cases i <;> simp, bigSep_map]
  rfl

omit [FloatOps F] in
theorem bigSep_Own (Φ : Own → sProp 𝕄) :
    bigSep Finset.univ Φ = bigSep Finset.univ fun p : Slot => iprop(Φ (true, p) ∗ Φ (false, p)) := by
  rw [bigSep_univ_prod, bigSep_univ_eq_bigSepL [true, false] (by decide) (by decide), bigSep_sep']
  rfl

omit [FloatOps F] in
theorem bigSep_TI (Φ : TI → sProp 𝕄) :
    bigSep Finset.univ Φ = iprop((bigSep Finset.univ fun d => Φ (.inl d)) ∗ bigSep Finset.univ fun i => Φ (.inr i)) := bigSep_univ_sum Φ

/-! ## What the launch deals -/

variable (m : (ℓ : Loc nD τ sig) → Buf (Elt F) ℓ) (ρ : Dev nD → PrngReg)

/-- The duty tokens of device `k`'s own cells. -/
def toks (k : Dev nD) : sProp 𝕄 :=
  iprop((bigSep Finset.univ fun d : Fin 7 => dutyTok ER (barCell k) 0 d)
    ∗ bigSep Finset.univ fun p : Slot => iprop(dutyTok ER (sendCell k p) 0 0 ∗ dutyTok ER (recvCell k p) 0 0))

/-- The duty tokens device `k` pays with. -/
def payToks (k : Dev nD) : sProp 𝕄 :=
  iprop((bigSep Finset.univ fun d : Fin 7 => dutyTok ER (barCell (peer d k)) 0 (inv d))
    ∗ bigSep Finset.univ fun p : Slot => iprop(dutyTok ER (sendCell k p) 0 0 ∗ dutyTok ER (recvCell (peer (dir p) k) p) 0 0))

/-- Its positions. -/
def places (k : Dev nD) : sProp 𝕄 := bigSep Finset.univ fun i : CI => atPos ER (kcell (k, i)) 0 ∅ 0

/-- What the launch element deals device `k`. -/
def G (k : Dev nD) : sProp 𝕄 :=
  iprop((bigSep Finset.univ fun i : CI => roundState ER (rd (sentOf m)) (kcell (k, i)) 0)
    ∗ (places k ∗ bigSep Finset.univ fun i : CI => reached ER (kcell (k, i)) 0) ∗ toks k)

/-- The invariants and reached marks of all cells. -/
def marks (K : Dev nD × CI → ℕ) : sProp 𝕄 :=
  iprop((bigSep Finset.univ fun i : Dev nD × CI => cellInv ER (rd (sentOf m)) (K i) (kcell i))
    ∗ bigSep Finset.univ fun i : Dev nD × CI => reached ER (kcell i) 0)

instance marks_persistent (K : Dev nD × CI → ℕ) : BI.Persistent (marks m K) := by unfold marks; infer_instance

/-- What the global step makes of it. -/
def G' (k : Dev nD) : sProp 𝕄 := iprop(∃ K, marks m K ∗ places k ∗ payToks k)

theorem fund_own : BI.own (ER (initOf ownCells ownToks)) ⊢ (|==> bigSep Finset.univ (G m) : sProp 𝕄) := by
  have hX (Φ : GSem nD τ sig → sProp 𝕄) : bigSep ownCells Φ = bigSep Finset.univ fun k : Dev nD => bigSep Finset.univ fun i : CI => Φ (kcell (k, i)) := by
    unfold ownCells; rw [bigSep_map, bigSep_univ_prod]; rfl
  have hT : bigSep ownToks (fun x => (dutyTok ER x.1 x.2.1 x.2.2 : sProp 𝕄)) = bigSep Finset.univ fun k : Dev nD => toks k := by
    unfold ownToks; rw [bigSep_map, bigSep_univ_prod]
    exact bigSep_congr fun k _ => by unfold toks; rw [bigSep_TI, bigSep_Own]; rfl
  iintro HX
  imod (Rounds.fund ER (rd (sentOf m)) ownCells ownToks) $$ HX with ⟨Hst, Hr, Hat, Htok⟩
  imodintro
  ihave Hst' := (Entails.of_eq (hX fun g => roundState ER (rd (sentOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · unfold places; iexact Hat'
    iexact Hr'
  iexact Htok'

omit [FloatOps F] in
/-- The barrier's semaphore is the launch's one unscoped semaphore. -/
theorem unscopedSems0_eq (k : Dev nD) : (unscopedSems0 k : sProp 𝕄) = semVal (barCell k) 0 := by
  have h : (Finset.univ.filter fun sm : SemLoc sig => ¬ sm.isScoped .tc) = {SemLoc.reg barM.sem} := by decide +kernel
  unfold unscopedSems0; rw [h, bigSep_singleton]

omit [FloatOps F] in
theorem sems0_eq (k : Dev nD) :
    iprop(Pipeline.ownSems0 (Ix := Unit) (Name := ℕ) (U := UU) (Lvl := ℕ) (Val := Elt F) (τ := τ) osem k ∗ unscopedSems0 k)
      ⊢ (bigSep Finset.univ fun i : CI => semVal (kcell (k, i)) 0 : sProp 𝕄) := by
  rw [unscopedSems0_eq, bigSep_CI]
  unfold Pipeline.ownSems0
  iintro ⟨HS, HB⟩
  isplitl [HB]; · iexact HB
  iexact HS

theorem core_alloc (k : Dev nD) :
    iprop(Pipeline.ownSems0 (Ix := Unit) (Name := ℕ) (U := UU) (Lvl := ℕ) (Val := Elt F) (τ := τ) osem k ∗ unscopedSems0 k ∗ G m k)
      ⊢ |={Set.univ}=> iprop((bigSep Finset.univ fun i : CI => iprop(∃ κ : ℕ, cellInv ER (rd (sentOf m)) κ (kcell (k, i))))
          ∗ (places k ∗ bigSep Finset.univ fun i : CI => reached ER (kcell (k, i)) 0) ∗ toks k) := by
  unfold G
  iintro ⟨Hos, Hus, Hst, Hat, Htok⟩
  ihave Hv := (sems0_eq (F := F) k) $$ [Hos Hus]
  · isplitl [Hos] <;> iassumption
  imod (show iprop((bigSep Finset.univ fun i : CI => semVal (kcell (k, i)) 0) ∗ bigSep Finset.univ fun i : CI => roundState ER (rd (sentOf m)) (kcell (k, i)) 0)
      ⊢ (|={Set.univ}=> bigSep Finset.univ fun i : CI => iprop(∃ κ : ℕ, cellInv ER (rd (sentOf m)) κ (kcell (k, i))) : sProp 𝕄) from by
        rw [← bigSep_sep']
        exact (bigSep_mono fun i _ => (Rounds.body_intro ER (rd (sentOf m)) (kcell (k, i))).trans inv_alloc).trans (bigSep_fupd _ _)) $$ [Hv Hst] with Hinv
  · isplitl [Hv] <;> iassumption
  imodintro
  isplitl [Hinv]; · iexact Hinv
  isplitl [Hat]; · iexact Hat
  iexact Htok

/-- A barrier's token of direction `d` goes to the peer in direction `d`. -/
def aroundBar : Dev nD × Fin 7 ≃ Dev nD × Fin 7 where
  toFun x := (peer x.2 x.1, inv x.2)
  invFun x := (peer x.2 x.1, inv x.2)
  left_inv x := Prod.ext (peer_inv x.2 x.1) (inv_inv x.2)
  right_inv x := Prod.ext (peer_inv x.2 x.1) (inv_inv x.2)

/-- An arrival's token goes to the device whose copy it is. -/
def aroundRecv : Dev nD × Slot ≃ Dev nD × Slot where
  toFun x := (peer (dir x.2) x.1, x.2)
  invFun x := (peer (inv (dir x.2)) x.1, x.2)
  left_inv x := Prod.ext (peer_inv _ x.1) rfl
  right_inv x := Prod.ext (inv_peer _ x.1) rfl

omit [FloatOps F] in
/-- The tokens dealt around the mesh. -/
theorem toks_around : (bigSep Finset.univ fun k : Dev nD => (toks k : sProp 𝕄)) ⊢ bigSep Finset.univ fun k : Dev nD => payToks k := by
  have hb : (bigSep Finset.univ fun k : Dev nD => bigSep Finset.univ fun d : Fin 7 => (dutyTok ER (barCell k) 0 d : sProp 𝕄))
      = bigSep Finset.univ fun k : Dev nD => bigSep Finset.univ fun d : Fin 7 => dutyTok ER (barCell (peer d k)) 0 (inv d) := by
    rw [← bigSep_univ_prod (fun x : Dev nD × Fin 7 => (dutyTok ER (barCell x.1) 0 x.2 : sProp 𝕄)),
      bigSep_univ_equiv aroundBar, bigSep_univ_prod]
    rfl
  have hr : (bigSep Finset.univ fun k : Dev nD => bigSep Finset.univ fun p : Slot => (dutyTok ER (recvCell k p) 0 0 : sProp 𝕄))
      = bigSep Finset.univ fun k : Dev nD => bigSep Finset.univ fun p : Slot => dutyTok ER (recvCell (peer (dir p) k) p) 0 0 := by
    rw [← bigSep_univ_prod (fun x : Dev nD × Slot => (dutyTok ER (recvCell x.1 x.2) 0 0 : sProp 𝕄)),
      bigSep_univ_equiv aroundRecv, bigSep_univ_prod]
    rfl
  unfold toks payToks
  simp only [bigSep_sep']
  rw [hb, hr]

theorem ghost_intro (K : Dev nD × CI → ℕ) (k : Dev nD) : iprop(marks m K ∗ places k ∗ payToks k) ⊢ G' m k := by
  unfold G'
  iintro H
  iexists K
  iexact H

theorem regroup :
    (bigSep Finset.univ fun k : Dev nD => iprop((bigSep Finset.univ fun i : CI => iprop(∃ κ : ℕ, cellInv ER (rd (sentOf m)) κ (kcell (k, i))))
          ∗ (places k ∗ bigSep Finset.univ fun i : CI => reached ER (kcell (k, i)) 0) ∗ toks k) : sProp 𝕄)
      ⊢ bigSep Finset.univ (G' m) := by
  rw [bigSep_sep', bigSep_sep', bigSep_sep',
    ← bigSep_univ_prod (fun i : Dev nD × CI => iprop(∃ κ : ℕ, cellInv ER (rd (sentOf m)) κ (kcell i))),
    ← bigSep_univ_prod (fun i : Dev nD × CI => (reached ER (kcell i) 0 : sProp 𝕄))]
  iintro ⟨HI, ⟨Hat, #HR⟩, Htok⟩
  ihave HK := (BI.bigSep_exists_pi Finset.univ (fun (i : Dev nD × CI) (κ : ℕ) => (cellInv ER (rd (sentOf m)) κ (kcell i) : sProp 𝕄))) $$ HI
  icases HK with ⟨%K, #HI⟩
  ihave Htk := (toks_around (F := F)) $$ Htok
  iapply (bigSep_with_persistent (R := marks m K) fun k _ => ghost_intro m K k)
  isplitr
  · unfold marks; isplitl; · iexact HI
    iexact HR
  · iapply (Entails.of_eq (bigSep_sep' Finset.univ (fun k : Dev nD => places k) payToks).symm)
    isplitl [Hat]; · iexact Hat
    iexact Htk

/-- The global step: the semaphores of every device at once. -/
theorem glob : (bigSep Finset.univ fun k => iprop(Pipeline.ownSems0 (Ix := Unit) (Name := ℕ) (U := UU) (Lvl := ℕ) (Val := Elt F) (τ := τ) osem k ∗ unscopedSems0 k ∗ G m k) : sProp 𝕄)
    ⊢ |={Set.univ}=> bigSep Finset.univ (G' m) :=
  ((bigSep_mono fun k _ => core_alloc m k).trans (bigSep_fupd _ _)).trans (BI.fupd_mono (regroup m))

/-! ## The launch credit -/

omit [FloatOps F] in
theorem launch_bar (k : Dev nD) :
    tallyOn (barCell k) (launchCredit (Pipeline.owing O₀) 0 (barCell k)) = (tallyAt (barCell k) () 7 : CellTallies nD τ sig Unit) := by
  unfold tallyAt; refine congrArg _ (Finsupp.ext fun u => ?_); cases u
  rw [Pipeline.launchCredit_owing, Finsupp.single_eq_same]
  unfold O₀
  rw [sum_owedB_bar (fun k => owedL k sends) k allDirs, Finset.sum_eq_zero fun q _ => owedL_bar q k sends]
  rfl

omit [FloatOps F] in
theorem launch_recv (k : Dev nD) (p : Slot) (hp : used p) :
    tallyOn (recvCell k p) (launchCredit (Pipeline.owing O₀) 0 (recvCell k p)) = (tallyAt (recvCell k p) () N : CellTallies nD τ sig Unit) := by
  unfold tallyAt; refine congrArg _ (Finsupp.ext fun u => ?_); cases u
  rw [Pipeline.launchCredit_owing, Finsupp.single_eq_same]
  unfold O₀
  rw [Finset.sum_congr rfl fun q _ => owedB_recv q k (owedL q sends) p allDirs, sum_owedL_recv, sends_count, if_pos hp, Nat.mul_one]

/-- The arrivals' semaphores of the places copied to. -/
def recvEmb : Slot ↪ SemLoc sig := ⟨fun p => .dma (recvS p), fun p p' h => by
  have h' := osem_injective (a₁ := (false, p)) (a₂ := (false, p')) h
  injection h'⟩

omit [FloatOps F] in
theorem creds (k : Dev nD) :
    (Pipeline.launchCred O₀ k : sProp 𝕄) ⊢ iprop(cred (tallyAt (barCell k) () 7) ∗ bigSep usedS fun p => cred (tallyAt (recvCell k p) () N)) := by
  unfold Pipeline.launchCred
  rw [bigSep_univ_at _ (SemLoc.reg barM.sem), launch_bar]
  refine sep_mono_right ?_
  refine (bigSep_subset (t := usedS.map recvEmb) fun sm h => ?_).trans ?_
  · obtain ⟨p, -, rfl⟩ := Finset.mem_map.mp h
    exact Finset.mem_erase.mpr ⟨fun h => (by cases h), Finset.mem_univ _⟩
  · rw [bigSep_map]
    exact Entails.of_eq (bigSep_congr fun p hp => congrArg _ (launch_recv k p (Finset.mem_filter.mp hp).2))

/-! ## The theorem's side conditions -/

omit [FloatOps F] in
theorem tick_intro (k : Dev nD) (p : Slot) :
    iprop(((atPos ER (sendCell k p) 0 ∅ 0 ∗ atPos ER (recvCell k p) 0 ∅ 0) ∗ dutyTok ER (sendCell k p) 0 0 ∗ dutyTok ER (recvCell (peer (dir p) k) p) 0 0)
        ∗ cred (tallyAt (recvCell k p) () N)) ⊢ (Tick k p : sProp 𝕄) := by
  unfold Tick
  iintro ⟨⟨⟨H1, H2⟩, H3, H4⟩, H5⟩
  isplitl [H3]; · iexact H3
  isplitl [H4]; · iexact H4
  isplitl [H1]; · iexact H1
  isplitl [H2]; · iexact H2
  iexact H5

omit [FloatOps F] in
theorem idle_intro (k : Dev nD) (p : Slot) :
    iprop((atPos ER (sendCell k p) 0 ∅ 0 ∗ atPos ER (recvCell k p) 0 ∅ 0) ∗ dutyTok ER (sendCell k p) 0 0 ∗ dutyTok ER (recvCell (peer (dir p) k) p) 0 0)
      ⊢ (Idle k p : sProp 𝕄) := by
  unfold Idle
  iintro ⟨H, -⟩
  iexact H

omit [FloatOps F] in
theorem ticks_intro (k : Dev nD) :
    iprop((bigSep usedS fun p => iprop((atPos ER (sendCell k p) 0 ∅ 0 ∗ atPos ER (recvCell k p) 0 ∅ 0) ∗ dutyTok ER (sendCell k p) 0 0 ∗ dutyTok ER (recvCell (peer (dir p) k) p) 0 0))
        ∗ bigSep usedS fun p => cred (tallyAt (recvCell k p) () N)) ⊢ (bigSep usedS (Tick k) : sProp 𝕄) := by
  rw [← bigSep_sep']
  exact bigSep_mono fun p _ => tick_intro k p

omit [FloatOps F] in
theorem idles_intro (k : Dev nD) :
    (bigSep idleS fun p => iprop((atPos ER (sendCell k p) 0 ∅ 0 ∗ atPos ER (recvCell k p) 0 ∅ 0) ∗ dutyTok ER (sendCell k p) 0 0 ∗ dutyTok ER (recvCell (peer (dir p) k) p) 0 0))
      ⊢ (bigSep idleS (Idle k) : sProp 𝕄) := bigSep_mono fun p _ => idle_intro k p

omit [FloatOps F] in
theorem dealt_intro (k : Dev nD) :
    iprop(places k ∗ payToks k ∗ cred (tallyAt (barCell k) () 7) ∗ bigSep usedS fun p => cred (tallyAt (recvCell k p) () N))
      ⊢ (dealt k : sProp 𝕄) := by
  unfold places payToks dealt
  rw [bigSep_CI, bigSep_Own]
  iintro ⟨⟨Hb, Hp⟩, ⟨Htb, Htp⟩, Hcb, Hcr⟩
  ihave H := (Entails.of_eq (bigSep_sep' Finset.univ (fun p : Slot => iprop(atPos ER (sendCell k p) 0 ∅ 0 ∗ atPos ER (recvCell k p) 0 ∅ 0))
    (fun p : Slot => iprop(dutyTok ER (sendCell k p) 0 0 ∗ dutyTok ER (recvCell (peer (dir p) k) p) 0 0))).symm) $$ [Hp Htp]
  · isplitl [Hp]; · iexact Hp
    iexact Htp
  ihave H' := (Entails.of_eq (by_use _)) $$ H
  icases H' with ⟨Hu, Hi⟩
  isplitl [Htb]
  · iapply (Entails.of_eq (bigSep_sepL (fun d : Fin 7 => (dutyTok ER (barCell (peer d k)) 0 (inv d) : sProp 𝕄)) allDirs Finset.univ (by decide) (by decide))) $$ Htb
  isplitl [Hb]; · iexact Hb
  isplitl [Hcb]; · iexact Hcb
  isplitl [Hu Hcr]
  · iapply (ticks_intro k)
    isplitl [Hu]; · iexact Hu
    iexact Hcr
  iapply (idles_intro k) $$ Hi

theorem start_intro (k : Dev nD) :
    iprop(Pipeline.unscopedRestP Pipeline.Prefetch.none cfg0.spec k (fun b => m ((k : Thread nD τ).loc b)) ∗ levAts L lv
        ∗ Pipeline.launchCred O₀ k ∗ prngReg k (ρ k) ∗ G' m k)
      ⊢ |={Set.univ}=> iprop(start m k ∗ emp) := by
  unfold G' marks
  iintro ⟨-, #Hlev, Hcr, -, ⟨%K, ⟨#HI, #HR⟩, Hpl, Htk⟩⟩
  ihave Hc := (creds (F := F) k) $$ Hcr
  icases Hc with ⟨H1, HN⟩
  imodintro
  unfold start
  isplitl
  · iexists K
    isplitr
    · unfold records
      isplitr; · iexact HI
      isplitr; · iexact HR
      iexact Hlev
    iapply (dealt_intro k)
    isplitl [Hpl]; · iexact Hpl
    isplitl [Htk]; · iexact Htk
    isplitl [H1]; · iexact H1
    iexact HN
  · iempintro

theorem phi0_intro (k : Dev nD) :
    iprop(start m k ∗ Pipeline.prefHeld Pipeline.Prefetch.none k (fun _ => fullShare.right) (fun k => k.elim0) ∗ Pipeline.scopedRest cfg0.spec k)
      ⊢ (dats m ρ 0 k).Φ 0 := by
  rw [show (dats m ρ 0 k).Φ 0 = Φ₀ m k from rfl, scopedRest0_eq]
  unfold Φ₀
  iintro ⟨Hs, -, Ha, Hb⟩
  isplitl [Hs]; · iexact Hs
  isplitl [Ha]; · iexact Ha
  iexact Hb

theorem phi1_exit (k : Dev nD) :
    (dats m ρ 0 k).Φ (Fin.last cfg0.N) ⊢ iprop(unscopedSems0 k ∗ Pipeline.ownSems0 osem k ∗ Pipeline.scopedRest cfg0.spec k) := by
  rw [show (dats m ρ 0 k).Φ (Fin.last cfg0.N) = Φ₁ k from rfl, scopedRest0_eq, unscopedSems0_eq]
  unfold Φ₁ Pipeline.ownSems0
  rw [bigSep_Own]
  iintro ⟨HzB, Hz, Ha, Hb⟩
  isplitl [HzB]; · iexact HzB
  isplitl [Hz]; · unfold zero2; iexact Hz
  isplitl [Ha]; · iexact Ha
  iexact Hb

theorem share_eq (k : Dev nD) (w : Fin cfg0.W) : (dats m ρ 0 k).share w = fullShare := by unfold Dat.share; split <;> rfl

theorem waits (k : Dev nD) : (levAts L lv : sProp 𝕄) ⊢ Pipeline.cellsWaits cfgs (dats m ρ) () 0 k :=
  Pipeline.cellsWaits_intro cfgs (dats m ρ) () 0 k fun w s t =>
    mayWait_stage k _ (by fin_cases w <;> fin_cases s <;> decide) _ (by
      rcases t with ⟨_ | _, ht⟩
      · exact Or.inl rfl
      · exact Or.inr rfl)

/-! ## The run -/

def finalA (k : Dev nD) (w : Fin cfg0.W) : Buf (Elt F) ((cfg0.win w).arr.view.loc (k : Thread nD τ)) := (dats m ρ 0 k).arrAt w cfg0.N

def QC : PUnit × MemSt nD τ sig (Elt F) → Prop := fun r =>
  ∀ k : Dev nD, ∀ w : Fin cfg0.W, r.2.mem ((cfg0.win w).arr.view.loc (k : Thread nD τ)) = finalA m ρ k w

set_option maxRecDepth 100000 in
/-- For any float values, from any memory with zero counters: every weakly fair execution of the program terminates, and
    every final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_own m) $$ HX with HG
      imodintro
      isplitl [HP] <;> iassumption)
    (hglob := glob m)
    (hA := fun _ _ => rfl) (hpf := fun _ k => k.elim0)
    (X := start m) (Y := fun k => unscopedSems0 k) (Z := fun _ => iprop(emp))
    (hX := start_intro m ρ) (hin := phi0_intro m ρ) (hout := phi1_exit m ρ)
    (QY := fun k s => ∀ sm : SemLoc sig, sm.isScoped .tc = false → s.sem ((k.tc : Thread nD τ), sm) = 0)
    (hY := fun k s' => by
      iintro ⟨Hu, -, HSI⟩
      iapply (Pipeline.unscopedSems0_read (X := unscopedSems0 k) (c := k) fupd_intro s')
      isplitl [Hu] <;> iassumption)
    (hQ := fun _ h hs => ⟨fun k w => (h k).1 w, sem_eq_zero hs fun k => (h k).2.2⟩)

/-- An input's array is unchanged by the run. -/
theorem finalA_in (k : Dev nD) (w : Fin cfg0.W) (h : (cfg0.win w).isOut = false) :
    finalA m ρ k w = m ((cfg0.win w).arr.view.loc (k : Thread nD τ)) :=
  (dats (F := F) m ρ 0 k).arrAt_in w h _

end Cert.KernelIdeal.Own

end
-- ==== Proof.Frames.lean ====
/- What a run leaves in the arguments and the semaphore counters, for each program. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.KernelIdeal.Own

open Cert.KernelIdeal.Gen
open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- Every argument of a device is the one it started with. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- The windows' arrays tell the arguments. -/
theorem args_kept {r : PUnit × MemSt nD τ sig (Elt F)} (h : QC m ρ r) (c : Dev nD) : ArgsKept m r c :=
  ⟨(h c (0 : Fin 8)).trans (finalA_in m ρ c 0 rfl), (h c (1 : Fin 8)).trans (finalA_in m ρ c 1 rfl),
    (h c (3 : Fin 8)).trans (finalA_in m ρ c 3 rfl), (h c (5 : Fin 8)).trans (finalA_in m ρ c 5 rfl),
    (h c (2 : Fin 8)).trans (finalA_in m ρ c 2 rfl), (h c (4 : Fin 8)).trans (finalA_in m ρ c 4 rfl),
    (h c (6 : Fin 8)).trans (finalA_in m ρ c 6 rfl)⟩

/-- From any memory, for any float values, the program keeps its arguments and ends with every counter at zero. -/
theorem run_kept : θ_run defs (onTc (τ := τ) (main (F := F))) ⟨m, fun _ => 0, ρ⟩
    (fun r => (∀ c, ArgsKept m r c) ∧ r.2.sem = fun _ => 0) :=
  (θ_run defs _ _).mono (fun _ h => ⟨args_kept m ρ h.1, h.2⟩) (run_main m ρ)

end Cert.KernelIdeal.Own

namespace Cert.Own

open Idealize.ShloMosaic Idealize.SL Idealize.SL.Sem

/-- The kernel and its idealization have one text: their bodies agree, so all they call agrees. -/
theorem bodies_eq {F : FTy → Type} [FloatOps F] :
    @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (τ := Cert.Kernel.τ)) ?_
  funext l
  match l with
  | 0 => rfl

/-- So their definitions agree. -/
theorem defs_eq {F : FTy → Type} [FloatOps F] :
    @Cert.Kernel.defs F _ Cert.Kernel.Gen.facts = @Cert.KernelIdeal.defs F _ Cert.KernelIdeal.Gen.facts :=
  congrArg (Pipeline.defs Cert.Kernel.pcfgs) bodies_eq

/-- The kernel as printed, at bit patterns. -/
theorem frame_kernel : Cert.quiescent_Kernel := fun m ρ _ => by
  have h := Cert.KernelIdeal.Own.run_kept (F := Bits) m ρ
  rw [← defs_eq] at h
  exact h

/-- The idealization, at extended reals. -/
theorem frame_kernelIdeal : Cert.quiescent_KernelIdeal := fun m ρ _ => Cert.KernelIdeal.Own.run_kept (F := Ideal) m ρ

/-- The reference: it has no semaphore and writes no argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Own

end
-- ==== Proof.Rounds.lean ====
/- Exact sums: a layer's three rounds leave, on every device, the sum over all devices. -/
module

public import proofs.«01_k».proof.Proof.Values
public import Idealize.ShloMosaic.PureOps.Ideal

@[expose] public section

noncomputable section

namespace Cert.KernelIdeal.Own

open Cert.KernelIdeal.Gen
open Idealize.ShloMosaic
open Idealize.SL Idealize.SL.Sem

/-- The devices whose values a device adds up in slot `s` of chunk `c`: itself and those whose copies arrive. -/
def near (c : Fin 4) (s : Fin 9) (k : Dev nD) : List (Dev nD) := k :: (copies c s).map fun j => peer (inv (dirOf c s j)) k

section Sums

variable (A : Fin 9 → Fin 4 → Dev nD → FVec Ideal S64x256 .bf16)

theorem plus_apply (k : Dev nD) (c : Fin 4) (s : Fin 9) (i : S64x256.Idx) : ∀ (js : List (Fin 3)) (v : FVec Ideal S64x256 .bf16),
    plus A k c s js v i = v i + (js.map fun j => (A s c (peer (inv (dirOf c s j)) k) i : EReal)).sum
  | [], v => (add_zero (v i : EReal)).symm
  | j :: js, v => by
    have h := plus_apply k c s i js (addf v (A s c (peer (inv (dirOf c s j)) k)))
    rw [List.map_cons, List.sum_cons, ← add_assoc]
    exact h

/-- A device's total in a slot, read at an index. -/
theorem total_apply (k : Dev nD) (c : Fin 4) (s : Fin 9) (i : S64x256.Idx) :
    total A s c k i = ((near c s k).map fun q => (A s c q i : EReal)).sum := by
  unfold near total
  rw [List.map_cons, List.sum_cons, List.map_map]
  exact plus_apply A k c s i (copies c s) (A s c k)

end Sums

/-- Sums over the parts of a list of lists. -/
theorem sum_flatMap {α β : Type} (f : β → EReal) (g : α → List β) : ∀ l : List α,
    ((l.flatMap g).map f).sum = (l.map fun a => ((g a).map f).sum).sum
  | [] => rfl
  | a :: l => by rw [List.flatMap_cons, List.map_append, List.sum_append, List.map_cons, List.sum_cons, sum_flatMap f g l]

/-- Three rounds reach every device once: the pairs, the fours and the fours again, whichever comes first. -/
theorem near_all : ∀ (l : Fin 3) (c : Fin 4) (k : Dev nD),
    (((near c ⟨3 * l.val + 2, by omega⟩ k).flatMap (near c ⟨3 * l.val + 1, by omega⟩)).flatMap (near c ⟨3 * l.val, by omega⟩)).Perm
      (List.finRange 32) := by
  decide +kernel

section Layer

variable (xs : Dev nD → Fin 4 → FVec Ideal S64x256 .bf16) (Ws : Dev nD → Fin 3 → FVec Ideal S256x512 .bf16)
  (Us : Dev nD → Fin 3 → FVec Ideal S512x256 .bf16)

/-- What is sent in a layer's second and third slots are totals of the slot before. -/
theorem sent_succ (s t : Fin 9) (ht : t.val = s.val + 1) (hs : s.val % 3 < 2) (c : Fin 4) (k : Dev nD) :
    sent xs Ws Us t c k = total (sent xs Ws Us) s c k := by
  have h : s.val + 1 < 9 := ht ▸ t.isLt
  rw [show t = ⟨s.val + 1, h⟩ from Fin.ext ht]
  exact (sent_vals xs Ws Us k).within s c h hs

/-- After a layer's three rounds every device has the sum over all devices of what they sent first. -/
theorem total_layer (l : Fin 3) (c : Fin 4) (k : Dev nD) (i : S64x256.Idx) :
    total (sent xs Ws Us) ⟨3 * l.val + 2, by omega⟩ c k i = ∑ q : Dev nD, (sent xs Ws Us ⟨3 * l.val, by omega⟩ c q i : EReal) := by
  rw [total_apply]
  have e2 : ∀ q, (sent xs Ws Us ⟨3 * l.val + 2, by omega⟩ c q i : EReal)
      = ((near c ⟨3 * l.val + 1, by omega⟩ q).map fun p => (sent xs Ws Us ⟨3 * l.val + 1, by omega⟩ c p i : EReal)).sum := fun q => by
    rw [sent_succ xs Ws Us ⟨3 * l.val + 1, by omega⟩ ⟨3 * l.val + 2, by omega⟩ rfl (by show (3 * l.val + 1) % 3 < 2; omega) c q, total_apply]
  have e1 : ∀ q, (sent xs Ws Us ⟨3 * l.val + 1, by omega⟩ c q i : EReal)
      = ((near c ⟨3 * l.val, by omega⟩ q).map fun p => (sent xs Ws Us ⟨3 * l.val, by omega⟩ c p i : EReal)).sum := fun q => by
    rw [sent_succ xs Ws Us ⟨3 * l.val, by omega⟩ ⟨3 * l.val + 1, by omega⟩ rfl (by show 3 * l.val % 3 < 2; omega) c q, total_apply]
  rw [List.map_congr_left fun q _ => e2 q, ← sum_flatMap, List.map_congr_left fun q _ => e1 q, ← sum_flatMap,
    ((near_all l c k).map _).sum_eq]
  exact (List.sum_ofFn (n := 32) (f := fun q => (sent xs Ws Us ⟨3 * l.val, by omega⟩ c q i : EReal))) ▸ (by rw [List.ofFn_eq_map])

end Layer

end Cert.KernelIdeal.Own

end
-- ==== Proof.Layers.lean ====
/- Exact layers: the contributions of the 32 devices to a layer add up to the layer over the whole weights. -/
module

public import proofs.«01_k».proof.Proof.Rounds
public import Idealize.ShloMosaic.Lib.ValueIdx
public import Idealize.ShloMosaic.Lib.MatmulPlain
public import Idealize.ShloMosaic.Lib.Layout

@[expose] public section

noncomputable section

namespace Cert.KernelIdeal.Own

open Cert.KernelIdeal.Gen
open Idealize.ShloMosaic Idealize.ShloMosaic.ValueIdx
open Idealize.SL Idealize.SL.Sem
open scoped BigOperators

/-- The shapes of the whole weights. -/
abbrev Wide : Shape := ⟨2, ![256, 16384]⟩
abbrev Tall : Shape := ⟨2, ![16384, 256]⟩

/-- One layer of the reference: a product, the positive part, a product. -/
def layer (W : Wide.Idx → EReal) (U : Tall.Idx → EReal) (v : S256x256.Idx → EReal) : S256x256.Idx → EReal := fun i =>
  ∑ h : Fin 16384, max (∑ d : Fin 256, v (ix2 (i 0) d) * W (ix2 d h)) 0 * U (ix2 h (i 1))

/-- A chunk's rows of an array. -/
def rows (c : Fin 4) (v : S256x256.Idx → EReal) : FVec Ideal S64x256 .bf16 := fun j => v ((rowR c).idx j)

/-- A device's columns of a first weight and rows of a second one. -/
def colsOf (k : Dev nD) (W : Wide.Idx → EReal) : FVec Ideal S256x512 .bf16 := Layout.block S256x512 Wide 1 32 k W
def rowsOf (k : Dev nD) (U : Tall.Idx → EReal) : FVec Ideal S512x256 .bf16 := Layout.block S512x256 Tall 0 32 k U

/-- A contribution, read at an index. -/
theorem contrib_apply (W : FVec Ideal S256x512 .bf16) (U : FVec Ideal S512x256 .bf16) (v : FVec Ideal S64x256 .bf16) (r : Fin 64) (n : Fin 256) :
    (contrib W U v (ix2 r n) : EReal)
      = ∑ h : Fin 512, (max (∑ d : Fin 256, (v (ix2 r d) : EReal) * (W (ix2 d h) : EReal)) 0 : EReal) * (U (ix2 h n) : EReal) := by
  have hz : ∀ (S : Shape) (i : S.Idx), (constant (F := Ideal) S .f32 0x00000000#32 i : EReal) = 0 := fun S i => Ideal.ofBits_zero_f32
  show FloatOps.matmul (DotDims.plain 64 512 256) none _ U _ (ix2 r n) = _
  rw [Ideal.matmul_plain_apply, hz, zero_add]
  refine Finset.sum_congr rfl fun h _ => congrArg (· * (U (ix2 h n) : EReal)) ?_
  show max (FloatOps.matmul (DotDims.plain 64 256 512) none v W (constant S64x512 .f32 0x00000000#32) (ix2 r h)) (Ideal.ofBits .f32 0x00000000#32) = _
  rw [Ideal.matmul_plain_apply, hz, zero_add, Ideal.ofBits_zero_f32]

/-- Place `h` of device `k`'s share of the hidden dimension. -/
def hidden (k : Fin 32) (h : Fin 512) : Fin 16384 := ⟨k.val * 512 + h.val, by omega⟩

/-- A sum over 16384 is a sum over the devices of sums over their 512. -/
theorem sum_blocks (f : Fin 16384 → EReal) :
    ∑ k : Fin 32, ∑ h : Fin 512, f (hidden k h) = ∑ h : Fin 16384, f h := by
  rw [← Fintype.sum_prod_type' (f := fun (k : Fin 32) (h : Fin 512) => f (hidden k h))]
  refine Fintype.sum_equiv (finProdFinEquiv (m := 32) (n := 512)) _ f fun p => congrArg f (Fin.ext ?_)
  show p.1.val * 512 + p.2.val = p.2.val + 512 * p.1.val
  omega

/-- The contributions add up to the layer. -/
theorem contrib_sum (W : Wide.Idx → EReal) (U : Tall.Idx → EReal) (v : S256x256.Idx → EReal) (c : Fin 4) (j : S64x256.Idx) :
    ∑ k : Dev nD, (contrib (colsOf k W) (rowsOf k U) (rows c v) j : EReal) = layer W U v ((rowR c).idx j) := by
  obtain ⟨r, n, rfl⟩ : ∃ (r : Fin 64) (n : Fin 256), j = ix2 r n := ⟨j 0, j 1, eq_ix2 j⟩
  unfold layer
  rw [← sum_blocks]
  refine Finset.sum_congr rfl fun k _ => ?_
  rw [contrib_apply]
  refine Finset.sum_congr rfl fun h _ => ?_
  have hu : (rowsOf k U (ix2 h n) : EReal) = U (ix2 (hidden k h) ((rowR c).idx (ix2 r n) 1)) := by
    refine congrArg U (funext fun a => Fin.ext ?_)
    fin_cases a
    · rfl
    · show n.val = 0 + 1 * n.val
      omega
  rw [hu]
  refine congrArg (fun z : EReal => max z 0 * U (ix2 (hidden k h) ((rowR c).idx (ix2 r n) 1))) ?_
  refine Finset.sum_congr rfl fun d _ => ?_
  have hw : (colsOf k W (ix2 d h) : EReal) = W (ix2 d (hidden k h)) := by
    refine congrArg W (funext fun a => Fin.ext ?_)
    fin_cases a <;> rfl
  have hv : (rows c v (ix2 r d) : EReal) = v (ix2 ((rowR c).idx (ix2 r n) 0) d) := by
    refine congrArg v (funext fun a => Fin.ext ?_)
    fin_cases a
    · rfl
    · show 0 + 1 * d.val = d.val
      omega
  rw [hw, hv]

section Run

variable (X : S256x256.Idx → EReal) (W : Fin 3 → Wide.Idx → EReal) (U : Fin 3 → Tall.Idx → EReal)

/-- The reference after its first `n` layers. -/
def after : ℕ → S256x256.Idx → EReal
  | 0 => X
  | n + 1 => layer (W ⟨n % 3, Nat.mod_lt _ (by decide)⟩) (U ⟨n % 3, Nat.mod_lt _ (by decide)⟩) (after n)

/-- The reference's next layer. -/
theorem after_succ (n : ℕ) (h : n < 3) : after X W U (n + 1) = layer (W ⟨n, h⟩) (U ⟨n, h⟩) (after X W U n) :=
  match n, h with
  | 0, _ => rfl
  | 1, _ => rfl
  | 2, _ => rfl

variable (xs : Dev nD → Fin 4 → FVec Ideal S64x256 .bf16) (Ws : Dev nD → Fin 3 → FVec Ideal S256x512 .bf16)
  (Us : Dev nD → Fin 3 → FVec Ideal S512x256 .bf16)
  (hx : ∀ k c, xs k c = rows c X) (hW : ∀ k l, Ws k l = colsOf k (W l)) (hU : ∀ k l, Us k l = rowsOf k (U l))

include hx hW hU

/-- What a layer's first slot sends adds up, over the devices, to the chunk's rows of the layer. -/
theorem sent_layer : ∀ (n : ℕ) (h : n < 3) (c : Fin 4) (k : Dev nD),
    sent xs Ws Us ⟨3 * n, by omega⟩ c k = contrib (colsOf k (W ⟨n, h⟩)) (rowsOf k (U ⟨n, h⟩)) (rows c (after X W U n))
  | 0, h, c, k => by
    refine ((sent_vals xs Ws Us k).zero c).trans ?_
    rw [hW, hU, hx]; rfl
  | n + 1, h, c, k => by
    have hl : total (sent xs Ws Us) ⟨3 * n + 2, by omega⟩ c k = rows c (after X W U (n + 1)) := by
      funext j
      refine (total_layer xs Ws Us ⟨n, by omega⟩ c k j).trans ?_
      rw [Finset.sum_congr rfl fun q _ => congrArg (fun f : FVec Ideal S64x256 .bf16 => (f j : EReal)) (sent_layer n (by omega) c q), contrib_sum]
      exact (congrFun (after_succ X W U n (by omega)) _).symm
    refine ((sent_vals xs Ws Us k).across ⟨3 * n + 2, by omega⟩ c (by show 3 * n + 2 + 1 < 9; omega) (by show ¬ (3 * n + 2) % 3 < 2; omega)).trans ?_
    rw [hW, hU, hl]
    have e : (⟨(3 * n + 2 + 1) / 3, by omega⟩ : Fin 3) = ⟨n + 1, h⟩ := Fin.ext (by show (3 * n + 2 + 1) / 3 = n + 1; omega)
    rw [e]

/-- After a layer's three rounds every device has the chunk's rows of the layer. -/
theorem total_after (n : ℕ) (h : n < 3) (c : Fin 4) (k : Dev nD) :
    total (sent xs Ws Us) ⟨3 * n + 2, by omega⟩ c k = rows c (after X W U (n + 1)) := by
  funext j
  refine (total_layer xs Ws Us ⟨n, h⟩ c k j).trans ?_
  rw [Finset.sum_congr rfl fun q _ => congrArg (fun f : FVec Ideal S64x256 .bf16 => (f j : EReal)) (sent_layer X W U xs Ws Us hx hW hU n h c q), contrib_sum]
  exact (congrFun (after_succ X W U n h) _).symm

/-- So the output is the reference after three layers. -/
theorem out_eq (k : Dev nD) : outOf (outRow (sent xs Ws Us) k) = after X W U 3 := by
  funext i
  refine (congrFun (total_after X W U xs Ws Us hx hW hU 2 (by decide) (chunkOf i) k) (inChunk i)).trans ?_
  exact congrArg (after X W U 3) (idx_inChunk i)

end Run

end Cert.KernelIdeal.Own

end
-- ==== Proof.Final.lean ====
/- The value of the kernel: every device ends with the reference's result. -/
module

public import proofs.«01_k».proof.Proof.Layers
public import proofs.«01_k».proof.Proof.Frames
public import Idealize.ShloMosaic.Lib.Pipeline.ValueKit
public import Idealize.ShloMosaic.Lib.StackMember

@[expose] public section

noncomputable section

namespace Cert.KernelIdeal.Own

open Cert.KernelIdeal.Gen
open Idealize.ShloMosaic Idealize.ShloMosaic.ValueIdx
open Idealize.ShloMosaic.Pipeline
open Idealize.ShloMosaic.TcCoe
open Idealize.SL Idealize.SL.Sem
open scoped BigOperators

section Reads

variable {F : FTy → Type} [FloatOps F]

variable (m : (ℓ : Loc nD τ sig) → Buf (Elt F) ℓ) (ρ : Dev nD → PrngReg) (k : Dev nD)

/-! ## A staged argument is the argument -/

/-- Window 0 stages argument 0 whole. -/
theorem stg0_eq : stg0 m k = m ((k : Thread nD τ).loc main_arg0) := by
  funext i; refine congrArg (m ((k : Thread nD τ).loc main_arg0)) ?_
  blk_ext
  · show 0 * 256 + (i 0).val = (i 0).val
    omega
  · show 0 * 256 + (i 1).val = (i 1).val
    omega

/-- Window 1 stages argument 1 whole. -/
theorem stg1_eq : stg1 m k = m ((k : Thread nD τ).loc main_arg1) := by
  funext i; refine congrArg (m ((k : Thread nD τ).loc main_arg1)) ?_
  blk_ext
  · show 0 * 256 + (i 0).val = (i 0).val
    omega
  · show 0 * 512 + (i 1).val = (i 1).val
    omega

/-- Window 2 stages argument 4 whole. -/
theorem stg2_eq : stg2 m k = m ((k : Thread nD τ).loc main_arg4) := by
  funext i; refine congrArg (m ((k : Thread nD τ).loc main_arg4)) ?_
  blk_ext
  · show 0 * 512 + (i 0).val = (i 0).val
    omega
  · show 0 * 256 + (i 1).val = (i 1).val
    omega

/-- Window 3 stages argument 2 whole. -/
theorem stg3_eq : stg3 m k = m ((k : Thread nD τ).loc main_arg2) := by
  funext i; refine congrArg (m ((k : Thread nD τ).loc main_arg2)) ?_
  blk_ext
  · show 0 * 256 + (i 0).val = (i 0).val
    omega
  · show 0 * 512 + (i 1).val = (i 1).val
    omega

/-- Window 4 stages argument 5 whole. -/
theorem stg4_eq : stg4 m k = m ((k : Thread nD τ).loc main_arg5) := by
  funext i; refine congrArg (m ((k : Thread nD τ).loc main_arg5)) ?_
  blk_ext
  · show 0 * 512 + (i 0).val = (i 0).val
    omega
  · show 0 * 256 + (i 1).val = (i 1).val
    omega

/-- Window 5 stages argument 3 whole. -/
theorem stg5_eq : stg5 m k = m ((k : Thread nD τ).loc main_arg3) := by
  funext i; refine congrArg (m ((k : Thread nD τ).loc main_arg3)) ?_
  blk_ext
  · show 0 * 256 + (i 0).val = (i 0).val
    omega
  · show 0 * 512 + (i 1).val = (i 1).val
    omega

/-- Window 6 stages argument 6 whole. -/
theorem stg6_eq : stg6 m k = m ((k : Thread nD τ).loc main_arg6) := by
  funext i; refine congrArg (m ((k : Thread nD τ).loc main_arg6)) ?_
  blk_ext
  · show 0 * 512 + (i 0).val = (i 0).val
    omega
  · show 0 * 256 + (i 1).val = (i 1).val
    omega

/-- A load of a whole first weight reads it. -/
theorem wRead_eq (m : Memref sig .tc .vmem S256x512 .bf16) (X : m.view.ty.Contents (Elt F)) : wRead m X = m.view.read (Elt F) X := by
  funext i
  refine (congrFun (shapeCast_self _ _) i).trans (congrArg (m.view.read (Elt F) X) (funext fun a => Fin.ext ?_))
  fin_cases a
  · show 0 + 1 * (i 0).val = (i 0).val
    omega
  · show 0 + 1 * (i 1).val = (i 1).val
    omega

/-- A load of a whole second weight reads it. -/
theorem uRead_eq (m : Memref sig .tc .vmem S512x256 .bf16) (X : m.view.ty.Contents (Elt F)) : uRead m X = m.view.read (Elt F) X := by
  funext i
  refine (congrFun (shapeCast_self _ _) i).trans (congrArg (m.view.read (Elt F) X) (funext fun a => Fin.ext ?_))
  fin_cases a
  · show 0 + 1 * (i 0).val = (i 0).val
    omega
  · show 0 + 1 * (i 1).val = (i 1).val
    omega

/-- The output window writes the whole array once. -/
theorem finalA_out : finalA m ρ k 7 = outAt m k := by
  have hw : Window.WholeAt (cfg0.win 7) t0_0 := by decide +kernel
  funext i
  refine ((dats m ρ 0 k).arrAt_emb_eq_after_last 7 t0_0 hw i).trans ?_
  rfl

end Reads

/-! ## The kernel's result, from the whole arrays -/

variable (m : (ℓ : Loc nD τ sig) → Buf (Elt Ideal) ℓ)
  (X : S256x256.Idx → EReal) (W : Fin 3 → Wide.Idx → EReal) (U : Fin 3 → Tall.Idx → EReal)

/-- Every device holds the activations, and its block of each weight. -/
structure Holds : Prop where
  x : ∀ k : Dev nD, m ((k : Thread nD τ).loc main_arg0) = X
  w0 : ∀ k : Dev nD, m ((k : Thread nD τ).loc main_arg1) = colsOf k (W 0)
  w1 : ∀ k : Dev nD, m ((k : Thread nD τ).loc main_arg2) = colsOf k (W 1)
  w2 : ∀ k : Dev nD, m ((k : Thread nD τ).loc main_arg3) = colsOf k (W 2)
  u0 : ∀ k : Dev nD, m ((k : Thread nD τ).loc main_arg4) = rowsOf k (U 0)
  u1 : ∀ k : Dev nD, m ((k : Thread nD τ).loc main_arg5) = rowsOf k (U 1)
  u2 : ∀ k : Dev nD, m ((k : Thread nD τ).loc main_arg6) = rowsOf k (U 2)

variable {m X W U}

/-- A device's output is the three layers. -/
theorem outAt_eq (h : Holds m X W U) (k : Dev nD) : outAt m k = after X W U 3 := by
  refine out_eq X W U (xsOf m) (wsOf m) (usOf m) (fun k c => ?_) (fun k l => ?_) (fun k l => ?_) k
  · refine (congrArg (fun s => xRows (F := Ideal) s c) ((stg0_eq m k).trans (h.x k))).trans ?_
    exact shapeCast_self _ _
  · match l with
    | 0 => exact (wRead_eq (wM 0) (stg1 m k)).trans ((stg1_eq m k).trans (h.w0 k))
    | 1 => exact (wRead_eq (wM 1) (stg3 m k)).trans ((stg3_eq m k).trans (h.w1 k))
    | 2 => exact (wRead_eq (wM 2) (stg5 m k)).trans ((stg5_eq m k).trans (h.w2 k))
  · match l with
    | 0 => exact (uRead_eq (uM 0) (stg2 m k)).trans ((stg2_eq m k).trans (h.u0 k))
    | 1 => exact (uRead_eq (uM 1) (stg4 m k)).trans ((stg4_eq m k).trans (h.u1 k))
    | 2 => exact (uRead_eq (uM 2) (stg6 m k)).trans ((stg6_eq m k).trans (h.u2 k))

end Cert.KernelIdeal.Own

namespace Cert.Own

open Cert.KernelIdeal.Own
open Idealize.ShloMosaic Idealize.ShloMosaic.ValueIdx
open Idealize.SL Idealize.SL.Sem
open scoped BigOperators

/-- One layer as the reference spells it. -/
theorem reference_layer (v : FVec Ideal Cert.ReferenceIdeal.S256x256 .f32) (W : FVec Ideal Cert.ReferenceIdeal.S256x16384 .bf16)
    (U : FVec Ideal Cert.ReferenceIdeal.S16384x256 .bf16) :
    Host.dotGeneral Cert.ReferenceIdeal.dot_S256x16384_S16384x256_S256x256_1_0_0_1_n_n none
      (maximumf (Host.dotGeneral Cert.ReferenceIdeal.dot_S256x256_S256x16384_S256x16384_1_0_0_1_n_n none v (extf .f32 W Cert.ReferenceIdeal.Gen.facts.bitsLt_bf16_f32))
        (broadcastInDim Cert.ReferenceIdeal.S256x16384 ![] Cert.ReferenceIdeal.Gen.facts.bcast_S_S256x16384 (constant Cert.ReferenceIdeal.S_ .f32 0x00000000#32)))
      (extf .f32 U Cert.ReferenceIdeal.Gen.facts.bitsLt_bf16_f32)
    = layer W U v := by
  funext i
  obtain ⟨a, b, rfl⟩ : ∃ (a b : Fin 256), i = ValueIdx.ix2 a b := ⟨i 0, i 1, ValueIdx.eq_ix2 i⟩
  refine (StackMember.dotGeneral_plain_apply (m := 256) (k := 16384) (n := 256) none _ _ a b).trans ?_
  refine Finset.sum_congr rfl fun h _ => congrArg (· * (U (ValueIdx.ix2 h b) : EReal)) ?_
  refine congrArg₂ (max : EReal → EReal → EReal) ?_ Ideal.ofBits_zero_f32
  exact StackMember.dotGeneral_plain_apply (m := 256) (k := 256) (n := 16384) none _ _ a h

section Results

variable (m : (ℓ : Loc Cert.ReferenceIdeal.nD Cert.ReferenceIdeal.τ Cert.ReferenceIdeal.sig) → Buf (Elt Ideal) ℓ)

/-- The reference's argument arrays. -/
def refX : Cert.KernelIdeal.S256x256.Idx → EReal := m (((0 : Dev Cert.ReferenceIdeal.nD).tc : Thread _ Cert.ReferenceIdeal.τ).loc Cert.ReferenceIdeal.main_arg0)
def refW : Fin 3 → Wide.Idx → EReal
  | 0 => m (((0 : Dev Cert.ReferenceIdeal.nD).tc : Thread _ Cert.ReferenceIdeal.τ).loc Cert.ReferenceIdeal.main_arg1)
  | 1 => m (((0 : Dev Cert.ReferenceIdeal.nD).tc : Thread _ Cert.ReferenceIdeal.τ).loc Cert.ReferenceIdeal.main_arg2)
  | 2 => m (((0 : Dev Cert.ReferenceIdeal.nD).tc : Thread _ Cert.ReferenceIdeal.τ).loc Cert.ReferenceIdeal.main_arg3)
def refU : Fin 3 → Tall.Idx → EReal
  | 0 => m (((0 : Dev Cert.ReferenceIdeal.nD).tc : Thread _ Cert.ReferenceIdeal.τ).loc Cert.ReferenceIdeal.main_arg4)
  | 1 => m (((0 : Dev Cert.ReferenceIdeal.nD).tc : Thread _ Cert.ReferenceIdeal.τ).loc Cert.ReferenceIdeal.main_arg5)
  | 2 => m (((0 : Dev Cert.ReferenceIdeal.nD).tc : Thread _ Cert.ReferenceIdeal.τ).loc Cert.ReferenceIdeal.main_arg6)

/-- The result both programs end with. -/
def result : Buf (Elt Ideal) (((0 : Dev Cert.ReferenceIdeal.nD).tc : Thread Cert.ReferenceIdeal.nD Cert.ReferenceIdeal.τ).loc Cert.ReferenceIdeal.main_v18) :=
  after (refX m) (refW m) (refU m) 3

end Results

set_option maxRecDepth 100000 in
/-- Every device of the kernel ends with the whole of the reference's result. -/
theorem algebraic : Cert.algebraic_KernelIdeal_ReferenceIdeal := fun m g m' g' _ h => by
  have hh : Holds m (refX m') (refW m') (refU m') :=
    ⟨fun k => (h k).1, fun k => (h k).2.1, fun k => (h k).2.2.1, fun k => (h k).2.2.2.1, fun k => (h k).2.2.2.2.1,
      fun k => (h k).2.2.2.2.2.1, fun k => (h k).2.2.2.2.2.2⟩
  refine ⟨result m', ?_, ?_⟩
  · refine (θ_run _ _ _).mono (fun r hr c => ⟨?_, args_kept m g hr.1 c⟩) (run_main (F := Ideal) m g)
    exact (hr.1 c (7 : Fin 8)).trans ((finalA_out m g c).trans (outAt_eq hh c))
  · refine (θ_run _ _ _).mono (fun r hr => ⟨(hr 0).1.trans ?_, (hr 0).2⟩) (Cert.ReferenceIdeal.Value.run (F := Ideal) m' g')
    refine (reference_layer _ _ _).trans (congrArg (layer (refW m' 2) (refU m' 2)) ?_)
    exact (reference_layer _ _ _).trans (congrArg (layer (refW m' 1) (refU m' 1)) (reference_layer _ _ _))

end Cert.Own

end
-- ==== Proof.lean ====
/- The certificate's claims together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Final

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Own.frame_kernel, Cert.Own.frame_kernelIdeal, Cert.Own.frame_reference, trivial, Cert.Own.algebraic⟩

end Cert.Proof

end
